-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v153) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m ((c.tc : Thread Cert.Kernel2Ideal.nD Cert.Kernel2Ideal.τ).loc Cert.Kernel2Ideal.main_arg0) = Layout.blockN ⟨2, ![4096, 1024]⟩ ⟨2, ![8192, 1024]⟩ (Layout.meshBlock [1, 1, 2] ![[2], []] c) (m' (((0 : Dev Cert.Reference2Ideal.nD).tc : Thread Cert.Reference2Ideal.nD Cert.Reference2Ideal.τ).loc Cert.Reference2Ideal.main_arg0))
      ∧ m ((c.tc : Thread Cert.Kernel2Ideal.nD Cert.Kernel2Ideal.τ).loc Cert.Kernel2Ideal.main_arg1) = Layout.blockN ⟨3, ![2, 4096, 2816]⟩ ⟨3, ![2, 8192, 2816]⟩ (Layout.meshBlock [1, 1, 2] ![[], [2], []] c) (m' (((0 : Dev Cert.Reference2Ideal.nD).tc : Thread Cert.Reference2Ideal.nD Cert.Reference2Ideal.τ).loc Cert.Reference2Ideal.main_arg1))
      ∧ m ((c.tc : Thread Cert.Kernel2Ideal.nD Cert.Kernel2Ideal.τ).loc Cert.Kernel2Ideal.main_arg2) = Layout.blockN ⟨2, ![704, 1024]⟩ ⟨2, ![1408, 1024]⟩ (Layout.meshBlock [1, 1, 2] ![[2], []] c) (m' (((0 : Dev Cert.Reference2Ideal.nD).tc : Thread Cert.Reference2Ideal.nD Cert.Reference2Ideal.τ).loc Cert.Reference2Ideal.main_arg2))) →
    ∃ (v0 : Buf (Elt Ideal) (((0 : Dev Cert.Reference2Ideal.nD).tc : Thread Cert.Reference2Ideal.nD Cert.Reference2Ideal.τ).loc Cert.Reference2Ideal.main_v35)) (v1 : Buf (Elt Ideal) (((0 : Dev Cert.Reference2Ideal.nD).tc : Thread Cert.Reference2Ideal.nD Cert.Reference2Ideal.τ).loc Cert.Reference2Ideal.main_v36)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = Layout.blockN ⟨3, ![4, 1024, 1408]⟩ ⟨3, ![8, 1024, 1408]⟩ (Layout.meshBlock [1, 1, 2] ![[2], [], []] c) v0
          ∧ r.2.mem ((c.tc : Thread Cert.Kernel2Ideal.nD Cert.Kernel2Ideal.τ).loc Cert.Kernel2Ideal.main_v1_1) = Layout.blockN ⟨2, ![704, 1024]⟩ ⟨2, ![1408, 1024]⟩ (Layout.meshBlock [1, 1, 2] ![[2], []] c) v1
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r =>
          r.2.mem (((0 : Dev Cert.Reference2Ideal.nD).tc : Thread Cert.Reference2Ideal.nD Cert.Reference2Ideal.τ).loc Cert.Reference2Ideal.main_v35) = v0
          ∧ r.2.mem (((0 : Dev Cert.Reference2Ideal.nD).tc : Thread Cert.Reference2Ideal.nD Cert.Reference2Ideal.τ).loc Cert.Reference2Ideal.main_v36) = v1
          ∧ r.2.mem (((0 : Dev Cert.Reference2Ideal.nD).tc : Thread Cert.Reference2Ideal.nD Cert.Reference2Ideal.τ).loc Cert.Reference2Ideal.main_arg0) = m' (((0 : Dev Cert.Reference2Ideal.nD).tc : Thread Cert.Reference2Ideal.nD Cert.Reference2Ideal.τ).loc Cert.Reference2Ideal.main_arg0)
          ∧ r.2.mem (((0 : Dev Cert.Reference2Ideal.nD).tc : Thread Cert.Reference2Ideal.nD Cert.Reference2Ideal.τ).loc Cert.Reference2Ideal.main_arg1) = m' (((0 : Dev Cert.Reference2Ideal.nD).tc : Thread Cert.Reference2Ideal.nD Cert.Reference2Ideal.τ).loc Cert.Reference2Ideal.main_arg1)
          ∧ r.2.mem (((0 : Dev Cert.Reference2Ideal.nD).tc : Thread Cert.Reference2Ideal.nD Cert.Reference2Ideal.τ).loc Cert.Reference2Ideal.main_arg2) = m' (((0 : Dev Cert.Reference2Ideal.nD).tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_v57) = v2 c
          ∧ r.2.mem ((c.tc : Thread Cert.Reference4Ideal.nD Cert.Reference4Ideal.τ).loc Cert.Reference4Ideal.main_v58) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m ((c.tc : Thread Cert.Kernel5Ideal.nD Cert.Kernel5Ideal.τ).loc Cert.Kernel5Ideal.main_arg0) = Layout.blockN ⟨3, ![2, 4096, 2816]⟩ ⟨3, ![2, 8192, 2816]⟩ (Layout.meshBlock [1, 1, 2] ![[], [2], []] c) (m' (((0 : Dev Cert.Reference5Ideal.nD).tc : Thread Cert.Reference5Ideal.nD Cert.Reference5Ideal.τ).loc Cert.Reference5Ideal.main_arg0))
      ∧ m ((c.tc : Thread Cert.Kernel5Ideal.nD Cert.Kernel5Ideal.τ).loc Cert.Kernel5Ideal.main_arg1) = m' (((0 : Dev Cert.Reference5Ideal.nD).tc : Thread Cert.Reference5Ideal.nD Cert.Reference5Ideal.τ).loc Cert.Reference5Ideal.main_arg1)
      ∧ m ((c.tc : Thread Cert.Kernel5Ideal.nD Cert.Kernel5Ideal.τ).loc Cert.Kernel5Ideal.main_arg2) = Layout.blockN ⟨2, ![4096, 1024]⟩ ⟨2, ![8192, 1024]⟩ (Layout.meshBlock [1, 1, 2] ![[2], []] c) (m' (((0 : Dev Cert.Reference5Ideal.nD).tc : Thread Cert.Reference5Ideal.nD Cert.Reference5Ideal.τ).loc Cert.Reference5Ideal.main_arg2))
      ∧ m ((c.tc : Thread Cert.Kernel5Ideal.nD Cert.Kernel5Ideal.τ).loc Cert.Kernel5Ideal.main_arg3) = Layout.blockN ⟨2, ![4096, 1024]⟩ ⟨2, ![8192, 1024]⟩ (Layout.meshBlock [1, 1, 2] ![[2], []] c) (m' (((0 : Dev Cert.Reference5Ideal.nD).tc : Thread Cert.Reference5Ideal.nD Cert.Reference5Ideal.τ).loc Cert.Reference5Ideal.main_arg3))
      ∧ m ((c.tc : Thread Cert.Kernel5Ideal.nD Cert.Kernel5Ideal.τ).loc Cert.Kernel5Ideal.main_arg4) = m' (((0 : Dev Cert.Reference5Ideal.nD).tc : Thread Cert.Reference5Ideal.nD Cert.Reference5Ideal.τ).loc Cert.Reference5Ideal.main_arg4)
      ∧ m ((c.tc : Thread Cert.Kernel5Ideal.nD Cert.Kernel5Ideal.τ).loc Cert.Kernel5Ideal.main_arg5) = Layout.blockN ⟨3, ![4, 1024, 1408]⟩ ⟨3, ![8, 1024, 1408]⟩ (Layout.meshBlock [1, 1, 2] ![[2], [], []] c) (m' (((0 : Dev Cert.Reference5Ideal.nD).tc : Thread Cert.Reference5Ideal.nD Cert.Reference5Ideal.τ).loc Cert.Reference5Ideal.main_arg5))) →
    ∃ (v0 : Buf (Elt Ideal) (((0 : Dev Cert.Reference5Ideal.nD).tc : Thread Cert.Reference5Ideal.nD Cert.Reference5Ideal.τ).loc Cert.Reference5Ideal.main_v49)) (v1 : Buf (Elt Ideal) (((0 : Dev Cert.Reference5Ideal.nD).tc : Thread Cert.Reference5Ideal.nD Cert.Reference5Ideal.τ).loc Cert.Reference5Ideal.main_v53)) (v2 : Buf (Elt Ideal) (((0 : Dev Cert.Reference5Ideal.nD).tc : Thread Cert.Reference5Ideal.nD Cert.Reference5Ideal.τ).loc Cert.Reference5Ideal.main_v54)) (v3 : Buf (Elt Ideal) (((0 : Dev Cert.Reference5Ideal.nD).tc : Thread Cert.Reference5Ideal.nD Cert.Reference5Ideal.τ).loc Cert.Reference5Ideal.main_v52)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = Layout.blockN ⟨2, ![4096, 1024]⟩ ⟨2, ![8192, 1024]⟩ (Layout.meshBlock [1, 1, 2] ![[2], []] c) v0
          ∧ r.2.mem ((c.tc : Thread Cert.Kernel5Ideal.nD Cert.Kernel5Ideal.τ).loc Cert.Kernel5Ideal.main_v3) = Layout.blockN ⟨2, ![4096, 1024]⟩ ⟨2, ![8192, 1024]⟩ (Layout.meshBlock [1, 1, 2] ![[2], []] c) v1
          ∧ r.2.mem ((c.tc : Thread Cert.Kernel5Ideal.nD Cert.Kernel5Ideal.τ).loc Cert.Kernel5Ideal.main_v1_2) = Layout.blockN ⟨2, ![1, 1024]⟩ ⟨2, ![2, 1024]⟩ (Layout.meshBlock [1, 1, 2] ![[2], []] c) v2
          ∧ r.2.mem ((c.tc : Thread Cert.Kernel5Ideal.nD Cert.Kernel5Ideal.τ).loc Cert.Kernel5Ideal.main_v1_3) = Layout.blockN ⟨3, ![4, 512, 1408]⟩ ⟨3, ![8, 512, 1408]⟩ (Layout.meshBlock [1, 1, 2] ![[2], [], []] c) v3
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r =>
          r.2.mem (((0 : Dev Cert.Reference5Ideal.nD).tc : Thread Cert.Reference5Ideal.nD Cert.Reference5Ideal.τ).loc Cert.Reference5Ideal.main_v49) = v0
          ∧ r.2.mem (((0 : Dev Cert.Reference5Ideal.nD).tc : Thread Cert.Reference5Ideal.nD Cert.Reference5Ideal.τ).loc Cert.Reference5Ideal.main_v53) = v1
          ∧ r.2.mem (((0 : Dev Cert.Reference5Ideal.nD).tc : Thread Cert.Reference5Ideal.nD Cert.Reference5Ideal.τ).loc Cert.Reference5Ideal.main_v54) = v2
          ∧ r.2.mem (((0 : Dev Cert.Reference5Ideal.nD).tc : Thread Cert.Reference5Ideal.nD Cert.Reference5Ideal.τ).loc Cert.Reference5Ideal.main_v52) = v3
          ∧ r.2.mem (((0 : Dev Cert.Reference5Ideal.nD).tc : Thread Cert.Reference5Ideal.nD Cert.Reference5Ideal.τ).loc Cert.Reference5Ideal.main_arg0) = m' (((0 : Dev Cert.Reference5Ideal.nD).tc : Thread Cert.Reference5Ideal.nD Cert.Reference5Ideal.τ).loc Cert.Reference5Ideal.main_arg0)
          ∧ r.2.mem (((0 : Dev Cert.Reference5Ideal.nD).tc : Thread Cert.Reference5Ideal.nD Cert.Reference5Ideal.τ).loc Cert.Reference5Ideal.main_arg1) = m' (((0 : Dev Cert.Reference5Ideal.nD).tc : Thread Cert.Reference5Ideal.nD Cert.Reference5Ideal.τ).loc Cert.Reference5Ideal.main_arg1)
          ∧ r.2.mem (((0 : Dev Cert.Reference5Ideal.nD).tc : Thread Cert.Reference5Ideal.nD Cert.Reference5Ideal.τ).loc Cert.Reference5Ideal.main_arg2) = m' (((0 : Dev Cert.Reference5Ideal.nD).tc : Thread Cert.Reference5Ideal.nD Cert.Reference5Ideal.τ).loc Cert.Reference5Ideal.main_arg2)
          ∧ r.2.mem (((0 : Dev Cert.Reference5Ideal.nD).tc : Thread Cert.Reference5Ideal.nD Cert.Reference5Ideal.τ).loc Cert.Reference5Ideal.main_arg3) = m' (((0 : Dev Cert.Reference5Ideal.nD).tc : Thread Cert.Reference5Ideal.nD Cert.Reference5Ideal.τ).loc Cert.Reference5Ideal.main_arg3)
          ∧ r.2.mem (((0 : Dev Cert.Reference5Ideal.nD).tc : Thread Cert.Reference5Ideal.nD Cert.Reference5Ideal.τ).loc Cert.Reference5Ideal.main_arg4) = m' (((0 : Dev Cert.Reference5Ideal.nD).tc : Thread Cert.Reference5Ideal.nD Cert.Reference5Ideal.τ).loc Cert.Reference5Ideal.main_arg4)
          ∧ r.2.mem (((0 : Dev Cert.Reference5Ideal.nD).tc : Thread Cert.Reference5Ideal.nD Cert.Reference5Ideal.τ).loc Cert.Reference5Ideal.main_arg5) = m' (((0 : Dev Cert.Reference5Ideal.nD).tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m ((c.tc : Thread Cert.Kernel6Ideal.nD Cert.Kernel6Ideal.τ).loc Cert.Kernel6Ideal.main_arg0) = Layout.blockN ⟨2, ![4096, 1024]⟩ ⟨2, ![16384, 1024]⟩ (Layout.meshBlock [2, 2, 1] ![[0, 1], []] c) (m' (((0 : Dev Cert.Reference6Ideal.nD).tc : Thread Cert.Reference6Ideal.nD Cert.Reference6Ideal.τ).loc Cert.Reference6Ideal.main_arg0))
      ∧ m ((c.tc : Thread Cert.Kernel6Ideal.nD Cert.Kernel6Ideal.τ).loc Cert.Kernel6Ideal.main_arg1) = Layout.blockN ⟨3, ![6, 4096, 1024]⟩ ⟨3, ![6, 16384, 1024]⟩ (Layout.meshBlock [2, 2, 1] ![[], [0, 1], []] c) (m' (((0 : Dev Cert.Reference6Ideal.nD).tc : Thread Cert.Reference6Ideal.nD Cert.Reference6Ideal.τ).loc Cert.Reference6Ideal.main_arg1))
      ∧ m ((c.tc : Thread Cert.Kernel6Ideal.nD Cert.Kernel6Ideal.τ).loc Cert.Kernel6Ideal.main_arg2) = Layout.blockN ⟨4, ![4, 3, 128, 1024]⟩ ⟨4, ![16, 3, 128, 1024]⟩ (Layout.meshBlock [2, 2, 1] ![[0, 1], [], [], []] c) (m' (((0 : Dev Cert.Reference6Ideal.nD).tc : Thread Cert.Reference6Ideal.nD Cert.Reference6Ideal.τ).loc Cert.Reference6Ideal.main_arg2))) →
    ∃ (v0 : Buf (Elt Ideal) (((0 : Dev Cert.Reference6Ideal.nD).tc : Thread Cert.Reference6Ideal.nD Cert.Reference6Ideal.τ).loc Cert.Reference6Ideal.main_v17)) (v1 : Buf (Elt Ideal) (((0 : Dev Cert.Reference6Ideal.nD).tc : Thread Cert.Reference6Ideal.nD Cert.Reference6Ideal.τ).loc Cert.Reference6Ideal.main_v30)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = Layout.blockN ⟨3, ![4, 1024, 1536]⟩ ⟨3, ![16, 1024, 1536]⟩ (Layout.meshBlock [2, 2, 1] ![[0, 1], [], []] c) v0
          ∧ r.2.mem ((c.tc : Thread Cert.Kernel6Ideal.nD Cert.Kernel6Ideal.τ).loc Cert.Kernel6Ideal.main_v1_1) = Layout.blockN ⟨4, ![3, 3, 128, 1024]⟩ ⟨4, ![12, 3, 128, 1024]⟩ (Layout.meshBlock [2, 2, 1] ![[0, 1], [], [], []] c) v1
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r =>
          r.2.mem (((0 : Dev Cert.Reference6Ideal.nD).tc : Thread Cert.Reference6Ideal.nD Cert.Reference6Ideal.τ).loc Cert.Reference6Ideal.main_v17) = v0
          ∧ r.2.mem (((0 : Dev Cert.Reference6Ideal.nD).tc : Thread Cert.Reference6Ideal.nD Cert.Reference6Ideal.τ).loc Cert.Reference6Ideal.main_v30) = v1
          ∧ r.2.mem (((0 : Dev Cert.Reference6Ideal.nD).tc : Thread Cert.Reference6Ideal.nD Cert.Reference6Ideal.τ).loc Cert.Reference6Ideal.main_arg0) = m' (((0 : Dev Cert.Reference6Ideal.nD).tc : Thread Cert.Reference6Ideal.nD Cert.Reference6Ideal.τ).loc Cert.Reference6Ideal.main_arg0)
          ∧ r.2.mem (((0 : Dev Cert.Reference6Ideal.nD).tc : Thread Cert.Reference6Ideal.nD Cert.Reference6Ideal.τ).loc Cert.Reference6Ideal.main_arg1) = m' (((0 : Dev Cert.Reference6Ideal.nD).tc : Thread Cert.Reference6Ideal.nD Cert.Reference6Ideal.τ).loc Cert.Reference6Ideal.main_arg1)
          ∧ r.2.mem (((0 : Dev Cert.Reference6Ideal.nD).tc : Thread Cert.Reference6Ideal.nD Cert.Reference6Ideal.τ).loc Cert.Reference6Ideal.main_arg2) = m' (((0 : Dev Cert.Reference6Ideal.nD).tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m ((c.tc : Thread Cert.Kernel7Ideal.nD Cert.Kernel7Ideal.τ).loc Cert.Kernel7Ideal.main_arg0) = Layout.blockN ⟨2, ![4096, 1024]⟩ ⟨2, ![8192, 1024]⟩ (Layout.meshBlock [1, 1, 2] ![[2], []] c) (m' (((0 : Dev Cert.Reference7Ideal.nD).tc : Thread Cert.Reference7Ideal.nD Cert.Reference7Ideal.τ).loc Cert.Reference7Ideal.main_arg0))
      ∧ m ((c.tc : Thread Cert.Kernel7Ideal.nD Cert.Kernel7Ideal.τ).loc Cert.Kernel7Ideal.main_arg1) = m' (((0 : Dev Cert.Reference7Ideal.nD).tc : Thread Cert.Reference7Ideal.nD Cert.Reference7Ideal.τ).loc Cert.Reference7Ideal.main_arg1)
      ∧ m ((c.tc : Thread Cert.Kernel7Ideal.nD Cert.Kernel7Ideal.τ).loc Cert.Kernel7Ideal.main_arg2) = Layout.blockN ⟨2, ![2816, 1024]⟩ ⟨2, ![5632, 1024]⟩ (Layout.meshBlock [1, 1, 2] ![[2], []] c) (m' (((0 : Dev Cert.Reference7Ideal.nD).tc : Thread Cert.Reference7Ideal.nD Cert.Reference7Ideal.τ).loc Cert.Reference7Ideal.main_arg2))) →
    ∃ (v0 : Buf (Elt Ideal) (((0 : Dev Cert.Reference7Ideal.nD).tc : Thread Cert.Reference7Ideal.nD Cert.Reference7Ideal.τ).loc Cert.Reference7Ideal.main_v6)) (v1 : Buf (Elt Ideal) (((0 : Dev Cert.Reference7Ideal.nD).tc : Thread Cert.Reference7Ideal.nD Cert.Reference7Ideal.τ).loc Cert.Reference7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = Layout.blockN ⟨2, ![4096, 2816]⟩ ⟨2, ![8192, 2816]⟩ (Layout.meshBlock [1, 1, 2] ![[2], []] c) v0
          ∧ r.2.mem ((c.tc : Thread Cert.Kernel7Ideal.nD Cert.Kernel7Ideal.τ).loc Cert.Kernel7Ideal.main_v1_1) = Layout.blockN ⟨3, ![4, 352, 1024]⟩ ⟨3, ![8, 352, 1024]⟩ (Layout.meshBlock [1, 1, 2] ![[2], [], []] c) v1
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r =>
          r.2.mem (((0 : Dev Cert.Reference7Ideal.nD).tc : Thread Cert.Reference7Ideal.nD Cert.Reference7Ideal.τ).loc Cert.Reference7Ideal.main_v6) = v0
          ∧ r.2.mem (((0 : Dev Cert.Reference7Ideal.nD).tc : Thread Cert.Reference7Ideal.nD Cert.Reference7Ideal.τ).loc Cert.Reference7Ideal.main_v9) = v1
          ∧ r.2.mem (((0 : Dev Cert.Reference7Ideal.nD).tc : Thread Cert.Reference7Ideal.nD Cert.Reference7Ideal.τ).loc Cert.Reference7Ideal.main_arg0) = m' (((0 : Dev Cert.Reference7Ideal.nD).tc : Thread Cert.Reference7Ideal.nD Cert.Reference7Ideal.τ).loc Cert.Reference7Ideal.main_arg0)
          ∧ r.2.mem (((0 : Dev Cert.Reference7Ideal.nD).tc : Thread Cert.Reference7Ideal.nD Cert.Reference7Ideal.τ).loc Cert.Reference7Ideal.main_arg1) = m' (((0 : Dev Cert.Reference7Ideal.nD).tc : Thread Cert.Reference7Ideal.nD Cert.Reference7Ideal.τ).loc Cert.Reference7Ideal.main_arg1)
          ∧ r.2.mem (((0 : Dev Cert.Reference7Ideal.nD).tc : Thread Cert.Reference7Ideal.nD Cert.Reference7Ideal.τ).loc Cert.Reference7Ideal.main_arg2) = m' (((0 : Dev Cert.Reference7Ideal.nD).tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m ((c.tc : Thread Cert.Kernel8Ideal.nD Cert.Kernel8Ideal.τ).loc Cert.Kernel8Ideal.main_arg0) = Layout.blockN ⟨3, ![3, 4096, 1024]⟩ ⟨3, ![3, 16384, 1024]⟩ (Layout.meshBlock [2, 2, 1] ![[], [0, 1], []] c) (m' (((0 : Dev Cert.Reference8Ideal.nD).tc : Thread Cert.Reference8Ideal.nD Cert.Reference8Ideal.τ).loc Cert.Reference8Ideal.main_arg0))
      ∧ m ((c.tc : Thread Cert.Kernel8Ideal.nD Cert.Kernel8Ideal.τ).loc Cert.Kernel8Ideal.main_arg1) = Layout.blockN ⟨3, ![3, 4096, 1024]⟩ ⟨3, ![3, 16384, 1024]⟩ (Layout.meshBlock [2, 2, 1] ![[], [0, 1], []] c) (m' (((0 : Dev Cert.Reference8Ideal.nD).tc : Thread Cert.Reference8Ideal.nD Cert.Reference8Ideal.τ).loc Cert.Reference8Ideal.main_arg1))
      ∧ m ((c.tc : Thread Cert.Kernel8Ideal.nD Cert.Kernel8Ideal.τ).loc Cert.Kernel8Ideal.main_arg2) = Layout.blockN ⟨3, ![4, 512, 1408]⟩ ⟨3, ![16, 512, 1408]⟩ (Layout.meshBlock [2, 2, 1] ![[0, 1], [], []] c) (m' (((0 : Dev Cert.Reference8Ideal.nD).tc : Thread Cert.Reference8Ideal.nD Cert.Reference8Ideal.τ).loc Cert.Reference8Ideal.main_arg2))
      ∧ m ((c.tc : Thread Cert.Kernel8Ideal.nD Cert.Kernel8Ideal.τ).loc Cert.Kernel8Ideal.main_arg3) = Layout.blockN ⟨3, ![3, 512, 1408]⟩ ⟨3, ![12, 512, 1408]⟩ (Layout.meshBlock [2, 2, 1] ![[0, 1], [], []] c) (m' (((0 : Dev Cert.Reference8Ideal.nD).tc : Thread Cert.Reference8Ideal.nD Cert.Reference8Ideal.τ).loc Cert.Reference8Ideal.main_arg3))) →
    ∃ (v0 : Buf (Elt Ideal) (((0 : Dev Cert.Reference8Ideal.nD).tc : Thread Cert.Reference8Ideal.nD Cert.Reference8Ideal.τ).loc Cert.Reference8Ideal.main_v25)) (v1 : Buf (Elt Ideal) (((0 : Dev Cert.Reference8Ideal.nD).tc : Thread Cert.Reference8Ideal.nD Cert.Reference8Ideal.τ).loc Cert.Reference8Ideal.main_v28)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = Layout.blockN ⟨3, ![3, 1024, 1024]⟩ ⟨3, ![12, 1024, 1024]⟩ (Layout.meshBlock [2, 2, 1] ![[0, 1], [], []] c) v0
          ∧ r.2.mem ((c.tc : Thread Cert.Kernel8Ideal.nD Cert.Kernel8Ideal.τ).loc Cert.Kernel8Ideal.main_v1_1) = Layout.blockN ⟨3, ![3, 512, 1408]⟩ ⟨3, ![12, 512, 1408]⟩ (Layout.meshBlock [2, 2, 1] ![[0, 1], [], []] c) v1
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r =>
          r.2.mem (((0 : Dev Cert.Reference8Ideal.nD).tc : Thread Cert.Reference8Ideal.nD Cert.Reference8Ideal.τ).loc Cert.Reference8Ideal.main_v25) = v0
          ∧ r.2.mem (((0 : Dev Cert.Reference8Ideal.nD).tc : Thread Cert.Reference8Ideal.nD Cert.Reference8Ideal.τ).loc Cert.Reference8Ideal.main_v28) = v1
          ∧ r.2.mem (((0 : Dev Cert.Reference8Ideal.nD).tc : Thread Cert.Reference8Ideal.nD Cert.Reference8Ideal.τ).loc Cert.Reference8Ideal.main_arg0) = m' (((0 : Dev Cert.Reference8Ideal.nD).tc : Thread Cert.Reference8Ideal.nD Cert.Reference8Ideal.τ).loc Cert.Reference8Ideal.main_arg0)
          ∧ r.2.mem (((0 : Dev Cert.Reference8Ideal.nD).tc : Thread Cert.Reference8Ideal.nD Cert.Reference8Ideal.τ).loc Cert.Reference8Ideal.main_arg1) = m' (((0 : Dev Cert.Reference8Ideal.nD).tc : Thread Cert.Reference8Ideal.nD Cert.Reference8Ideal.τ).loc Cert.Reference8Ideal.main_arg1)
          ∧ r.2.mem (((0 : Dev Cert.Reference8Ideal.nD).tc : Thread Cert.Reference8Ideal.nD Cert.Reference8Ideal.τ).loc Cert.Reference8Ideal.main_arg2) = m' (((0 : Dev Cert.Reference8Ideal.nD).tc : Thread Cert.Reference8Ideal.nD Cert.Reference8Ideal.τ).loc Cert.Reference8Ideal.main_arg2)
          ∧ r.2.mem (((0 : Dev Cert.Reference8Ideal.nD).tc : Thread Cert.Reference8Ideal.nD Cert.Reference8Ideal.τ).loc Cert.Reference8Ideal.main_arg3) = m' (((0 : Dev Cert.Reference8Ideal.nD).tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S6x4096x1024 : Shape := ⟨3, ![6, 4096, 1024]⟩
abbrev S2x4096x1024 : Shape := ⟨3, ![2, 4096, 1024]⟩
abbrev S4096x6144 : Shape := ⟨2, ![4096, 6144]⟩
abbrev S4x256x256 : Shape := ⟨3, ![4, 256, 256]⟩
abbrev S1x1024 : Shape := ⟨2, ![1, 1024]⟩
abbrev S1x4096x1024 : Shape := ⟨3, ![1, 4096, 1024]⟩
abbrev S4096x1024 : Shape := ⟨2, ![4096, 1024]⟩
abbrev S_ : Shape := ⟨0, ![]⟩

class Facts : Prop where
  slices_S2x4096x1024_S1x4096x1024_0_0_0 : S2x4096x1024.Slices ![0, 0, 0] S1x4096x1024
  shapeCasts_S1x4096x1024_S4096x1024 : S1x4096x1024.ShapeCasts S4096x1024
  bitsLt_bf16_f32 : FTy.bits .bf16 < FTy.bits .f32
  bcast_S_S4096x1024 : S_.BroadcastsInDim S4096x1024 (![] : Fin 0 → Fin S4096x1024.rank)
  slices_S4096x6144_S4096x1024_0_0 : S4096x6144.Slices ![0, 0] S4096x1024
  bcast_S_S4x256x256 : S_.BroadcastsInDim S4x256x256 (![] : Fin 0 → Fin S4x256x256.rank)
  bcast_S_S1x1024 : S_.BroadcastsInDim S1x1024 (![] : Fin 0 → Fin S1x1024.rank)

variable [Facts]

def fn {F : FTy → Type} [FloatOps F] (main_arg0 : FVec F S6x4096x1024 .bf16) (main_arg1 : FVec F S2x4096x1024 .bf16) (main_arg2 : FVec F S4096x6144 .bf16) (main_arg3 : FVec F S4x256x256 .f32) (main_arg4 : FVec F S1x1024 .f32) : IVec S4096x1024 1 × IVec S4096x1024 1 × IVec S4x256x256 1 × IVec S1x1024 1 :=
  let main_v0 : FVec F S1x4096x1024 .bf16 := (extractStridedSlice S1x4096x1024 ![0, 0, 0] · slices_S2x4096x1024_S1x4096x1024_0_0_0) main_arg1
  let main_v1 : FVec F S4096x1024 .bf16 := shapeCast S4096x1024 main_v0 shapeCasts_S1x4096x1024_S4096x1024
  let main_v2 : FVec F S4096x1024 .f32 := (extf .f32 · bitsLt_bf16_f32) main_v1
  let main_v3 : FVec F S4096x1024 .f32 := Host.absf main_v2
  let main_cst : FVec F S_ .f32 := constant S_ .f32 0x7F800000#32
  let main_v4 : FVec F S4096x1024 .f32 := broadcastInDim S4096x1024 ![] bcast_S_S4096x1024 main_cst
  let main_v5 : IVec S4096x1024 1 := cmpf .olt main_v3 main_v4
  let main_v6 : FVec F S4096x1024 .bf16 := (extractStridedSlice S4096x1024 ![0, 0] · slices_S4096x6144_S4096x1024_0_0) main_arg2
  let main_v7 : FVec F S4096x1024 .f32 := (extf .f32 · bitsLt_bf16_f32) main_v6
  let main_v8 : FVec F S4096x1024 .f32 := Host.absf main_v7
  let main_cst_0 : FVec F S_ .f32 := constant S_ .f32 0x7F800000#32
  let main_v9 : FVec F S4096x1024 .f32 := broadcastInDim S4096x1024 ![] bcast_S_S4096x1024 main_cst_0
  let main_v10 : IVec S4096x1024 1 := cmpf .olt main_v8 main_v9
  let main_v11 : FVec F S4x256x256 .f32 := Host.absf main_arg3
  let main_cst_1 : FVec F S_ .f32 := constant S_ .f32 0x7F800000#32
  let main_v12 : FVec F S4x256x256 .f32 := broadcastInDim S4x256x256 ![] bcast_S_S4x256x256 main_cst_1
  let main_v13 : IVec S4x256x256 1 := cmpf .olt main_v11 main_v12
  let main_v14 : FVec F S1x1024 .f32 := Host.absf main_arg4
  let main_cst_2 : FVec F S_ .f32 := constant S_ .f32 0x7F800000#32
  let main_v15 : FVec F S1x1024 .f32 := broadcastInDim S1x1024 ![] bcast_S_S1x1024 main_cst_2
  let main_v16 : IVec S1x1024 1 := cmpf .olt main_v14 main_v15
  (main_v5, main_v10, main_v13, main_v16)
-- ==== Kernel.lean ====
abbrev S6x4096x1024 : Shape := ⟨3, ![6, 4096, 1024]⟩
abbrev S2x4096x1024 : Shape := ⟨3, ![2, 4096, 1024]⟩
abbrev S4096x6144 : Shape := ⟨2, ![4096, 6144]⟩
abbrev S4x256x256 : Shape := ⟨3, ![4, 256, 256]⟩
abbrev S1x1024 : Shape := ⟨2, ![1, 1024]⟩
abbrev S1x2048x256 : Shape := ⟨3, ![1, 2048, 256]⟩
abbrev S2048x256 : Shape := ⟨2, ![2048, 256]⟩
abbrev S1x256x256 : Shape := ⟨3, ![1, 256, 256]⟩
abbrev S1x256 : Shape := ⟨2, ![1, 256]⟩
abbrev S256x256 : Shape := ⟨2, ![256, 256]⟩
abbrev S256 : Shape := ⟨1, ![256]⟩

abbrev nBuf : Space → Nat
  | .hbm => 9
  | .vmem => 14
  | .smem => 0
  | _ => 0

abbrev bufTy : (tb : Table) → Fin (tcTables nBuf tb) → BufTy
  | .hbm, ⟨0, _⟩ => ⟨S6x4096x1024, .bf16⟩
  | .hbm, ⟨1, _⟩ => ⟨S2x4096x1024, .bf16⟩
  | .hbm, ⟨2, _⟩ => ⟨S4096x6144, .bf16⟩
  | .hbm, ⟨3, _⟩ => ⟨S4x256x256, .f32⟩
  | .hbm, ⟨4, _⟩ => ⟨S1x1024, .f32⟩
  | .hbm, ⟨5, _⟩ => ⟨S4x256x256, .bf16⟩
  | .hbm, ⟨6, _⟩ => ⟨S6x4096x1024, .bf16⟩
  | .hbm, ⟨7, _⟩ => ⟨S4x256x256, .f32⟩
  | .hbm, ⟨8, _⟩ => ⟨S1x1024, .f32⟩
  | .local _ .vmem, ⟨0, _⟩ => ⟨S1x2048x256, .bf16⟩
  | .local _ .vmem, ⟨1, _⟩ => ⟨S1x2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S1x2048x256, .bf16⟩
  | .local _ .vmem, ⟨9, _⟩ => ⟨S1x2048x256, .bf16⟩
  | .local _ .vmem, ⟨10, _⟩ => ⟨S1x256x256, .f32⟩
  | .local _ .vmem, ⟨11, _⟩ => ⟨S1x256x256, .f32⟩
  | .local _ .vmem, ⟨12, _⟩ => ⟨S1x256, .f32⟩
  | .local _ .vmem, ⟨13, _⟩ => ⟨S1x256, .f32⟩
  | _, _ => ⟨S6x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg0 : BitVec 32 := BitVec.ofNat 32 (i 0).val
  let c0_i32_1 : BitVec 32 := 0#32
  let v4 : BitVec 1 := Scalar.cmpi .eq arg0 c0_i32_1
  let v5 : BitVec 32 := Scalar.extui v4
  let c0_i32_2 : BitVec 32 := 0#32
  let v6 : BitVec 1 := Scalar.cmpi .ne v5 c0_i32_2
  v6

def k0_cond3 (i : grid0.Coords) : BitVec 1 :=
  let arg0 : BitVec 32 := BitVec.ofNat 32 (i 0).val
  let c1_i32 : BitVec 32 := 1#32
  let v7 : BitVec 1 := Scalar.cmpi .eq arg0 c1_i32
  let v8 : BitVec 32 := Scalar.extui v7
  let c0_i32_3 : BitVec 32 := 0#32
  let v9 : BitVec 1 := Scalar.cmpi .ne v8 c0_i32_3
  v9

def k0_cond4 (i : grid0.Coords) : BitVec 1 :=
  let arg0 : BitVec 32 := BitVec.ofNat 32 (i 0).val
  let c2_i32 : BitVec 32 := 2#32
  let v10 : BitVec 1 := Scalar.cmpi .eq arg0 c2_i32
  let v11 : BitVec 32 := Scalar.extui v10
  let c0_i32_4 : BitVec 32 := 0#32
  let v12 : BitVec 1 := Scalar.cmpi .ne v11 c0_i32_4
  v12

def k0_cond5 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_5 : BitVec 32 := 0#32
  let v15 : BitVec 1 := Scalar.cmpi .ne v14 c0_i32_5
  v15

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S6x4096x1024 : Shape := ⟨3, ![6, 4096, 1024]⟩
abbrev S2x4096x1024 : Shape := ⟨3, ![2, 4096, 1024]⟩
abbrev S4096x6144 : Shape := ⟨2, ![4096, 6144]⟩
abbrev S4x256x256 : Shape := ⟨3, ![4, 256, 256]⟩
abbrev S1x1024 : Shape := ⟨2, ![1, 1024]⟩
abbrev S4096x1024 : Shape := ⟨2, ![4096, 1024]⟩
abbrev S2x2048x1024 : Shape := ⟨3, ![2, 2048, 1024]⟩
abbrev S1x4096x1024 : Shape := ⟨3, ![1, 4096, 1024]⟩
abbrev S1024 : Shape := ⟨1, ![1024]⟩
abbrev S2048 : Shape := ⟨1, ![2048]⟩
abbrev S_ : Shape := ⟨0, ![]⟩
abbrev S2x2048x256 : Shape := ⟨3, ![2, 2048, 256]⟩
abbrev S2x2x256 : Shape := ⟨3, ![2, 2, 256]⟩
abbrev S2x2046x256 : Shape := ⟨3, ![2, 2046, 256]⟩
abbrev S1x2048x1 : Shape := ⟨3, ![1, 2048, 1]⟩
abbrev S2x4x256 : Shape := ⟨3, ![2, 4, 256]⟩
abbrev S2x2044x256 : Shape := ⟨3, ![2, 2044, 256]⟩
abbrev S2x8x256 : Shape := ⟨3, ![2, 8, 256]⟩
abbrev S2x2040x256 : Shape := ⟨3, ![2, 2040, 256]⟩
abbrev S2x16x256 : Shape := ⟨3, ![2, 16, 256]⟩
abbrev S2x2032x256 : Shape := ⟨3, ![2, 2032, 256]⟩
abbrev S2x2048x1x256 : Shape := ⟨4, ![2, 2048, 1, 256]⟩
abbrev S2x2048x4x256 : Shape := ⟨4, ![2, 2048, 4, 256]⟩
abbrev S4x256x2x2048 : Shape := ⟨4, ![4, 256, 2, 2048]⟩
abbrev S1x1x1024 : Shape := ⟨3, ![1, 1, 1024]⟩
abbrev S4x2x2048x256 : Shape := ⟨4, ![4, 2, 2048, 256]⟩
abbrev S6 : Shape := ⟨1, ![6]⟩
abbrev S6x1x1 : Shape := ⟨3, ![6, 1, 1]⟩

abbrev nBuf : Space → Nat
  | .hbm => 201
  | .vmem => 0
  | .smem => 0
  | _ => 0

abbrev hbmTy0_0 (i : Nat) : BufTy := match i % 128 with
  | 0 => ⟨S6x4096x1024, .bf16⟩
  | 1 => ⟨S2x4096x1024, .bf16⟩
  | 2 => ⟨S4096x6144, .bf16⟩
  | 3 => ⟨S4x256x256, .f32⟩
  | 4 => ⟨S1x1024, .f32⟩
  | 5 => ⟨S4096x1024, .bf16⟩
  | 6 => ⟨S4096x1024, .f32⟩
  | 7 => ⟨S2x2048x1024, .f32⟩
  | 8 => ⟨S1x4096x1024, .bf16⟩
  | 9 => ⟨S4096x1024, .bf16⟩
  | 10 => ⟨S4096x1024, .f32⟩
  | 11 => ⟨S2x2048x1024, .f32⟩
  | 12 => ⟨S1024, .f32⟩
  | 13 => ⟨S2048, .f32⟩
  | 14 => ⟨S_, .f32⟩
  | 15 => ⟨S2048, .f32⟩
  | 16 => ⟨S2048, .f32⟩
  | 17 => ⟨S2x2048x256, .f32⟩
  | 18 => ⟨S_, .f32⟩
  | 19 => ⟨S_, .f32⟩
  | 20 => ⟨S2x2048x256, .f32⟩
  | 21 => ⟨S2x2x256, .f32⟩
  | 22 => ⟨S_, .f32⟩
  | 23 => ⟨S2x2x256, .f32⟩
  | 24 => ⟨S2x2046x256, .f32⟩
  | 25 => ⟨S2x2048x256, .f32⟩
  | 26 => ⟨S_, .f32⟩
  | 27 => ⟨S2x2x256, .f32⟩
  | 28 => ⟨S_, .f32⟩
  | 29 => ⟨S2048, .f32⟩
  | 30 => ⟨S2048, .f32⟩
  | 31 => ⟨S1x2048x1, .f32⟩
  | 32 => ⟨S2x2048x256, .f32⟩
  | 33 => ⟨S2x2048x256, .f32⟩
  | 34 => ⟨S2x2048x256, .f32⟩
  | 35 => ⟨S2x2048x256, .f32⟩
  | 36 => ⟨S2x2048x256, .f32⟩
  | 37 => ⟨S_, .f32⟩
  | 38 => ⟨S_, .f32⟩
  | 39 => ⟨S2x2048x256, .f32⟩
  | 40 => ⟨S2x4x256, .f32⟩
  | 41 => ⟨S_, .f32⟩
  | 42 => ⟨S2x4x256, .f32⟩
  | 43 => ⟨S2x2044x256, .f32⟩
  | 44 => ⟨S2x2048x256, .f32⟩
  | 45 => ⟨S_, .f32⟩
  | 46 => ⟨S2x4x256, .f32⟩
  | 47 => ⟨S_, .f32⟩
  | 48 => ⟨S2048, .f32⟩
  | 49 => ⟨S2048, .f32⟩
  | 50 => ⟨S1x2048x1, .f32⟩
  | 51 => ⟨S2x2048x256, .f32⟩
  | 52 => ⟨S2x2048x256, .f32⟩
  | 53 => ⟨S2x2048x256, .f32⟩
  | 54 => ⟨S2x2048x256, .f32⟩
  | 55 => ⟨S2x2048x256, .f32⟩
  | 56 => ⟨S_, .f32⟩
  | 57 => ⟨S_, .f32⟩
  | 58 => ⟨S2x2048x256, .f32⟩
  | 59 => ⟨S2x8x256, .f32⟩
  | 60 => ⟨S_, .f32⟩
  | 61 => ⟨S2x8x256, .f32⟩
  | 62 => ⟨S2x2040x256, .f32⟩
  | 63 => ⟨S2x2048x256, .f32⟩
  | 64 => ⟨S_, .f32⟩
  | 65 => ⟨S2x8x256, .f32⟩
  | 66 => ⟨S_, .f32⟩
  | 67 => ⟨S2048, .f32⟩
  | 68 => ⟨S2048, .f32⟩
  | 69 => ⟨S1x2048x1, .f32⟩
  | 70 => ⟨S2x2048x256, .f32⟩
  | 71 => ⟨S2x2048x256, .f32⟩
  | 72 => ⟨S2x2048x256, .f32⟩
  | 73 => ⟨S2x2048x256, .f32⟩
  | 74 => ⟨S2x2048x256, .f32⟩
  | 75 => ⟨S_, .f32⟩
  | 76 => ⟨S_, .f32⟩
  | 77 => ⟨S2x2048x256, .f32⟩
  | 78 => ⟨S2x16x256, .f32⟩
  | 79 => ⟨S_, .f32⟩
  | 80 => ⟨S2x16x256, .f32⟩
  | 81 => ⟨S2x2032x256, .f32⟩
  | 82 => ⟨S2x2048x256, .f32⟩
  | 83 => ⟨S_, .f32⟩
  | 84 => ⟨S2x16x256, .f32⟩
  | 85 => ⟨S_, .f32⟩
  | 86 => ⟨S2048, .f32⟩
  | 87 => ⟨S2048, .f32⟩
  | 88 => ⟨S1x2048x1, .f32⟩
  | 89 => ⟨S2x2048x256, .f32⟩
  | 90 => ⟨S2x2048x256, .f32⟩
  | 91 => ⟨S2x2048x256, .f32⟩
  | 92 => ⟨S2x2048x256, .f32⟩
  | 93 => ⟨S2x2048x1x256, .f32⟩
  | 94 => ⟨S2x2048x1x256, .f32⟩
  | 95 => ⟨S2x2048x1x256, .f32⟩
  | 96 => ⟨S2x2048x1x256, .f32⟩
  | 97 => ⟨S2x2048x4x256, .f32⟩
  | 98 => ⟨S4x256x2x2048, .f32⟩
  | 99 => ⟨S2x2048x4x256, .f32⟩
  | 100 => ⟨S2x2048x1024, .f32⟩
  | 101 => ⟨S1x1x1024, .f32⟩
  | 102 => ⟨S2x2048x1024, .f32⟩
  | 103 => ⟨S2x2048x1024, .f32⟩
  | 104 => ⟨S2x2048x1024, .f32⟩
  | 105 => ⟨S_, .f32⟩
  | 106 => ⟨S1024, .f32⟩
  | 107 => ⟨S1x1x1024, .f32⟩
  | 108 => ⟨S2x2048x1024, .f32⟩
  | 109 => ⟨S2x2048x1024, .f32⟩
  | 110 => ⟨S_, .f32⟩
  | 111 => ⟨S1024, .f32⟩
  | 112 => ⟨S2x2048x4x256, .f32⟩
  | 113 => ⟨S4x256x2x2048, .f32⟩
  | 114 => ⟨S4x2x2048x256, .f32⟩
  | 115 => ⟨S2x2048x4x256, .f32⟩
  | 116 => ⟨S4x256x256, .f32⟩
  | 117 => ⟨S4x256x256, .f32⟩
  | 118 => ⟨S2x2048x1x256, .f32⟩
  | 119 => ⟨S2x2048x256, .f32⟩
  | 120 => ⟨S2x2048x1x256, .f32⟩
  | 121 => ⟨S2x2048x256, .f32⟩
  | 122 => ⟨S2x2048x1x256, .f32⟩
  | 123 => ⟨S2x2048x256, .f32⟩
  | 124 => ⟨S2x2048x1x256, .f32⟩
  | 125 => ⟨S2x2048x256, .f32⟩
  | 126 => ⟨S2x2048x256, .f32⟩
  | 127 => ⟨S2x2048x256, .f32⟩
  | _ => ⟨S6x4096x1024, .bf16⟩

abbrev hbmTy0_1 (i : Nat) : BufTy := match i % 128 with
  | 0 => ⟨S2x2048x256, .f32⟩
  | 1 => ⟨S2x2048x256, .f32⟩
  | 2 => ⟨S2x16x256, .f32⟩
  | 3 => ⟨S2x2032x256, .f32⟩
  | 4 => ⟨S_, .f32⟩
  | 5 => ⟨S2x2048x256, .f32⟩
  | 6 => ⟨S2x2048x256, .f32⟩
  | 7 => ⟨S_, .f32⟩
  | 8 => ⟨S_, .f32⟩
  | 9 => ⟨S2x2048x256, .f32⟩
  | 10 => ⟨S2x2048x256, .f32⟩
  | 11 => ⟨S_, .f32⟩
  | 12 => ⟨S2x2048x1024, .f32⟩
  | 13 => ⟨S2x2048x256, .f32⟩
  | 14 => ⟨S2x2048x256, .f32⟩
  | 15 => ⟨S2x2048x256, .f32⟩
  | 16 => ⟨S2x2048x256, .f32⟩
  | 17 => ⟨S2x8x256, .f32⟩
  | 18 => ⟨S2x2040x256, .f32⟩
  | 19 => ⟨S_, .f32⟩
  | 20 => ⟨S2x2048x256, .f32⟩
  | 21 => ⟨S2x2048x256, .f32⟩
  | 22 => ⟨S_, .f32⟩
  | 23 => ⟨S_, .f32⟩
  | 24 => ⟨S2x2048x256, .f32⟩
  | 25 => ⟨S2x2048x256, .f32⟩
  | 26 => ⟨S_, .f32⟩
  | 27 => ⟨S2x2048x1024, .f32⟩
  | 28 => ⟨S2x2048x1024, .f32⟩
  | 29 => ⟨S2x2048x256, .f32⟩
  | 30 => ⟨S2x2048x256, .f32⟩
  | 31 => ⟨S2x2048x256, .f32⟩
  | 32 => ⟨S2x2048x256, .f32⟩
  | 33 => ⟨S2x4x256, .f32⟩
  | 34 => ⟨S2x2044x256, .f32⟩
  | 35 => ⟨S_, .f32⟩
  | 36 => ⟨S2x2048x256, .f32⟩
  | 37 => ⟨S2x2048x256, .f32⟩
  | 38 => ⟨S_, .f32⟩
  | 39 => ⟨S_, .f32⟩
  | 40 => ⟨S2x2048x256, .f32⟩
  | 41 => ⟨S2x2048x256, .f32⟩
  | 42 => ⟨S_, .f32⟩
  | 43 => ⟨S2x2048x1024, .f32⟩
  | 44 => ⟨S2x2048x1024, .f32⟩
  | 45 => ⟨S2x2048x256, .f32⟩
  | 46 => ⟨S2x2048x256, .f32⟩
  | 47 => ⟨S2x2048x256, .f32⟩
  | 48 => ⟨S2x2048x256, .f32⟩
  | 49 => ⟨S2x2x256, .f32⟩
  | 50 => ⟨S2x2046x256, .f32⟩
  | 51 => ⟨S_, .f32⟩
  | 52 => ⟨S2x2048x256, .f32⟩
  | 53 => ⟨S2x2048x256, .f32⟩
  | 54 => ⟨S_, .f32⟩
  | 55 => ⟨S_, .f32⟩
  | 56 => ⟨S2x2048x256, .f32⟩
  | 57 => ⟨S2x2048x256, .f32⟩
  | 58 => ⟨S_, .f32⟩
  | 59 => ⟨S2x2048x1024, .f32⟩
  | 60 => ⟨S2x2048x1024, .f32⟩
  | 61 => ⟨S4096x1024, .f32⟩
  | 62 => ⟨S4096x1024, .bf16⟩
  | 63 => ⟨S6, .i32⟩
  | 64 => ⟨S6x1x1, .i32⟩
  | 65 => ⟨S_, .i32⟩
  | 66 => ⟨S6x1x1, .i32⟩
  | 67 => ⟨S6x1x1, .i1⟩
  | 68 => ⟨S1x4096x1024, .bf16⟩
  | 69 => ⟨S6x4096x1024, .i1⟩
  | 70 => ⟨S6x4096x1024, .bf16⟩
  | 71 => ⟨S6x4096x1024, .bf16⟩
  | 72 => ⟨S1x1024, .f32⟩
  | _ => ⟨S6x4096x1024, .bf16⟩

abbrev hbmTy (i : Nat) : BufTy := match i / 128 with
  | 0 => hbmTy0_0 i
  | 1 => hbmTy0_1 i
  | _ => ⟨S6x4096x1024, .bf16⟩

abbrev bufTy : (tb : Table) → Fin (tcTables nBuf tb) → BufTy
  | .hbm, ⟨i, _⟩ => hbmTy i
  | _, _ => ⟨S6x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_call0_cst : Ref sig .tc := ⟨.hbm, 18, rfl⟩
abbrev main_call0_call0_v0 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call1_call0_cst : Ref sig .tc := ⟨.hbm, 37, rfl⟩
abbrev main_call1_call0_v0 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call2_call0_cst : Ref sig .tc := ⟨.hbm, 56, rfl⟩
abbrev main_call2_call0_v0 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_call3_call0_cst : Ref sig .tc := ⟨.hbm, 75, rfl⟩
abbrev main_call3_call0_v0 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_12 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_13 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_14 : Ref sig .tc := ⟨.hbm, 132, rfl⟩
abbrev main_v104 : Ref sig .tc := ⟨.hbm, 133, rfl⟩
abbrev main_v105 : Ref sig .tc := ⟨.hbm, 134, rfl⟩
abbrev main_call4_call0_cst : Ref sig .tc := ⟨.hbm, 135, rfl⟩
abbrev main_call4_call0_v0 : Ref sig .tc := ⟨.hbm, 136, rfl⟩
abbrev main_v106 : Ref sig .tc := ⟨.hbm, 137, rfl⟩
abbrev main_v107 : Ref sig .tc := ⟨.hbm, 138, rfl⟩
abbrev main_cst_15 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_16 : Ref sig .tc := ⟨.hbm, 147, rfl⟩
abbrev main_v115 : Ref sig .tc := ⟨.hbm, 148, rfl⟩
abbrev main_v116 : Ref sig .tc := ⟨.hbm, 149, rfl⟩
abbrev main_call5_call0_cst : Ref sig .tc := ⟨.hbm, 150, rfl⟩
abbrev main_call5_call0_v0 : Ref sig .tc := ⟨.hbm, 151, rfl⟩
abbrev main_v117 : Ref sig .tc := ⟨.hbm, 152, rfl⟩
abbrev main_v118 : Ref sig .tc := ⟨.hbm, 153, rfl⟩
abbrev main_cst_17 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_18 : Ref sig .tc := ⟨.hbm, 163, rfl⟩
abbrev main_v127 : Ref sig .tc := ⟨.hbm, 164, rfl⟩
abbrev main_v128 : Ref sig .tc := ⟨.hbm, 165, rfl⟩
abbrev main_call6_call0_cst : Ref sig .tc := ⟨.hbm, 166, rfl⟩
abbrev main_call6_call0_v0 : Ref sig .tc := ⟨.hbm, 167, rfl⟩
abbrev main_v129 : Ref sig .tc := ⟨.hbm, 168, rfl⟩
abbrev main_v130 : Ref sig .tc := ⟨.hbm, 169, rfl⟩
abbrev main_cst_19 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_20 : Ref sig .tc := ⟨.hbm, 179, rfl⟩
abbrev main_v139 : Ref sig .tc := ⟨.hbm, 180, rfl⟩
abbrev main_v140 : Ref sig .tc := ⟨.hbm, 181, rfl⟩
abbrev main_call7_call0_cst : Ref sig .tc := ⟨.hbm, 182, rfl⟩
abbrev main_call7_call0_v0 : Ref sig .tc := ⟨.hbm, 183, rfl⟩
abbrev main_v141 : Ref sig .tc := ⟨.hbm, 184, rfl⟩
abbrev main_v142 : Ref sig .tc := ⟨.hbm, 185, rfl⟩
abbrev main_cst_21 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_c : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_call8_v0 : Ref sig .tc := ⟨.hbm, 197, rfl⟩
abbrev main_call8_v1 : Ref sig .tc := ⟨.hbm, 198, rfl⟩
abbrev main_v152 : Ref sig .tc := ⟨.hbm, 199, rfl⟩
abbrev main_v153 : Ref sig .tc := ⟨.hbm, 200, rfl⟩

abbrev nD : Nat := 1
abbrev τ : Topo := Topo.v7x

variable {F : FTy → Type} [FloatOps F]
-- ==== Kernel2.lean ====
abbrev S4096x1024 : Shape := ⟨2, ![4096, 1024]⟩
abbrev S2x4096x2816 : Shape := ⟨3, ![2, 4096, 2816]⟩
abbrev S704x1024 : Shape := ⟨2, ![704, 1024]⟩
abbrev S4x1024x1408 : Shape := ⟨3, ![4, 1024, 1408]⟩
abbrev S1x4096x1408 : Shape := ⟨3, ![1, 4096, 1408]⟩
abbrev S1x1024x1408 : Shape := ⟨3, ![1, 1024, 1408]⟩
abbrev S1 : Shape := ⟨1, ![1]⟩
abbrev S_ : Shape := ⟨0, ![]⟩
abbrev S352x1024 : Shape := ⟨2, ![352, 1024]⟩
abbrev S4096x1408 : Shape := ⟨2, ![4096, 1408]⟩
abbrev S1024x1408 : Shape := ⟨2, ![1024, 1408]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S704x1024, .f32⟩
  | .hbm, ⟨3, _⟩ => ⟨S4x1024x1408, .bf16⟩
  | .hbm, ⟨4, _⟩ => ⟨S704x1024, .f32⟩
  | .local _ .vmem, ⟨0, _⟩ => ⟨S4096x1024, .bf16⟩
  | .local _ .vmem, ⟨1, _⟩ => ⟨S1x4096x1408, .bf16⟩
  | .local _ .vmem, ⟨2, _⟩ => ⟨S1x4096x1408, .bf16⟩
  | .local _ .vmem, ⟨3, _⟩ => ⟨S1x1024x1408, .bf16⟩
  | .local _ .vmem, ⟨4, _⟩ => ⟨S1x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev barrier0 : Sem sig := 0

abbrev nD : Nat := 2
abbrev τ : Topo := Topo.v7x

variable {F : FTy → Type} [FloatOps F]

abbrev grid0 : Pipeline.Grid := ⟨3, ![1, 4, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_1 : BitVec 32 := 0#32
  let v2 : BitVec 1 := Scalar.cmpi .eq arg1 c0_i32_1
  let v3 : BitVec 1 := Scalar.andi v0 v2
  let arg2 : BitVec 32 := BitVec.ofNat 32 (i 2).val
  let c0_i32_2 : BitVec 32 := 0#32
  let v6 : BitVec 1 := Scalar.cmpi .eq arg2 c0_i32_2
  let v7 : BitVec 1 := Scalar.andi v3 v6
  let v10 : BitVec 32 := Scalar.extui v7
  let c0_i32_4 : BitVec 32 := 0#32
  let v11 : BitVec 1 := Scalar.cmpi .ne v10 c0_i32_4
  v11

def k0_dev1 (d23 : Dev nD) : Nat :=
  let c0_i32_20 : BitVec 32 := 0#32
  let v23 : BitVec 32 := Dev.word d23
  let c2_i32 : BitVec 32 := 2#32
  let v24 : BitVec 32 := Scalar.divsi v23 c2_i32
  let c1_i32 : BitVec 32 := 1#32
  let v25 : BitVec 32 := Scalar.remsi v24 c1_i32
  let c2_i32_19 : BitVec 32 := 2#32
  let v34 : BitVec 32 := Scalar.muli v25 c2_i32_19
  let v35 : BitVec 32 := Scalar.addi c0_i32_20 v34
  let v26 : BitVec 32 := Dev.word d23
  let c2_i32_14 : BitVec 32 := 2#32
  let v27 : BitVec 32 := Scalar.divsi v26 c2_i32_14
  let c1_i32_13 : BitVec 32 := 1#32
  let v28 : BitVec 32 := Scalar.remsi v27 c1_i32_13
  let c2_i32_21 : BitVec 32 := 2#32
  let v36 : BitVec 32 := Scalar.muli v28 c2_i32_21
  let v37 : BitVec 32 := Scalar.addi v35 v36
  let c1_i32_17 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v33 : BitVec 32 := Scalar.subi c1_i32_17 v31
  let c1_i32_22 : BitVec 32 := 1#32
  let v38 : BitVec 32 := Scalar.muli v33 c1_i32_22
  let v39 : BitVec 32 := Scalar.addi v37 v38
  v39.toNat
def k0_mult1 (d23 : Dev nD) : BitVec 32 :=
  let v46 : BitVec 32 := Dev.word d23
  let c1_i32_29 : BitVec 32 := 1#32
  let v47 : BitVec 32 := Scalar.divsi v46 c1_i32_29
  let c2_i32_28 : BitVec 32 := 2#32
  let v48 : BitVec 32 := Scalar.remsi v47 c2_i32_28
  let c352_i32 : BitVec 32 := 352#32
  let v49 : BitVec 32 := Scalar.muli v48 c352_i32
  v49
def k0_mult2 (d23 : Dev nD) : BitVec 32 :=
  let v46 : BitVec 32 := Dev.word d23
  let c1_i32_29 : BitVec 32 := 1#32
  let v47 : BitVec 32 := Scalar.divsi v46 c1_i32_29
  let c2_i32_28 : BitVec 32 := 2#32
  let v48 : BitVec 32 := Scalar.remsi v47 c2_i32_28
  let c352_i32_30 : BitVec 32 := 352#32
  let v51 : BitVec 32 := Scalar.muli v48 c352_i32_30
  v51
def k0_off1 (d23 : Dev nD) : Fin 2 → Nat :=
  let v46 : BitVec 32 := Dev.word d23
  let c1_i32_29 : BitVec 32 := 1#32
  let v47 : BitVec 32 := Scalar.divsi v46 c1_i32_29
  let c2_i32_28 : BitVec 32 := 2#32
  let v48 : BitVec 32 := Scalar.remsi v47 c2_i32_28
  let c352_i32_30 : BitVec 32 := 352#32
  let v51 : BitVec 32 := Scalar.muli v48 c352_i32_30
  let v52 : BitVec 32 := v51
  let c0_i32_38 : BitVec 32 := 0#32
  ![v52.toNat, 0]
def k0_dev2 (d23 : Dev nD) : Nat :=
  let c0_i32_35 : BitVec 32 := 0#32
  let v40 : BitVec 32 := Dev.word d23
  let c2_i32_25 : BitVec 32 := 2#32
  let v41 : BitVec 32 := Scalar.divsi v40 c2_i32_25
  let c1_i32_24 : BitVec 32 := 1#32
  let v42 : BitVec 32 := Scalar.remsi v41 c1_i32_24
  let c2_i32_34 : BitVec 32 := 2#32
  let v54 : BitVec 32 := Scalar.muli v42 c2_i32_34
  let v55 : BitVec 32 := Scalar.addi c0_i32_35 v54
  let v43 : BitVec 32 := Dev.word d23
  let c2_i32_27 : BitVec 32 := 2#32
  let v44 : BitVec 32 := Scalar.divsi v43 c2_i32_27
  let c1_i32_26 : BitVec 32 := 1#32
  let v45 : BitVec 32 := Scalar.remsi v44 c1_i32_26
  let c2_i32_36 : BitVec 32 := 2#32
  let v56 : BitVec 32 := Scalar.muli v45 c2_i32_36
  let v57 : BitVec 32 := Scalar.addi v55 v56
  let c1_i32_31 : BitVec 32 := 1#32
  let v46 : BitVec 32 := Dev.word d23
  let c1_i32_29 : BitVec 32 := 1#32
  let v47 : BitVec 32 := Scalar.divsi v46 c1_i32_29
  let c2_i32_28 : BitVec 32 := 2#32
  let v48 : BitVec 32 := Scalar.remsi v47 c2_i32_28
  let v53 : BitVec 32 := Scalar.subi c1_i32_31 v48
  let c1_i32_37 : BitVec 32 := 1#32
  let v58 : BitVec 32 := Scalar.muli v53 c1_i32_37
  let v59 : BitVec 32 := Scalar.addi v57 v58
  v59.toNat
def k0_cond2 (i : grid0.Coords) : BitVec 1 :=
  let arg0 : BitVec 32 := BitVec.ofNat 32 (i 0).val
  let c0_i32_0 : BitVec 32 := 0#32
  let v1 : BitVec 1 := Scalar.cmpi .eq arg0 c0_i32_0
  let arg1 : BitVec 32 := BitVec.ofNat 32 (i 1).val
  let c3_i32 : BitVec 32 := 3#32
  let v4 : BitVec 1 := Scalar.cmpi .eq arg1 c3_i32
  let v5 : BitVec 1 := Scalar.andi v1 v4
  let arg2 : BitVec 32 := BitVec.ofNat 32 (i 2).val
  let c0_i32_3 : BitVec 32 := 0#32
  let v8 : BitVec 1 := Scalar.cmpi .eq arg2 c0_i32_3
  let v9 : BitVec 1 := Scalar.andi v5 v8
  let v21 : BitVec 32 := Scalar.extui v9
  let c0_i32_12 : BitVec 32 := 0#32
  let v22 : BitVec 1 := Scalar.cmpi .ne v21 c0_i32_12
  v22

def k0_mult3 (d23 : Dev nD) : BitVec 32 :=
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let c352_i32 : BitVec 32 := 352#32
  let v32 : BitVec 32 := Scalar.muli v31 c352_i32
  v32
def k0_mult4 (d23 : Dev nD) : BitVec 32 :=
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let c352_i32_17 : BitVec 32 := 352#32
  let v34 : BitVec 32 := Scalar.muli v31 c352_i32_17
  v34
def k0_off2 (d23 : Dev nD) : Fin 2 → Nat :=
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let c352_i32 : BitVec 32 := 352#32
  let v32 : BitVec 32 := Scalar.muli v31 c352_i32
  let v33 : BitVec 32 := v32
  let c0_i32_22 : BitVec 32 := 0#32
  ![v33.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg1 c2_i32_10
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg1 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, arg2.toNat, v53.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S2x8192x2816 : Shape := ⟨3, ![2, 8192, 2816]⟩
abbrev S1408x1024 : Shape := ⟨2, ![1408, 1024]⟩
abbrev S2x4096x1024 : Shape := ⟨3, ![2, 4096, 1024]⟩
abbrev S2x2x4096x2816 : Shape := ⟨4, ![2, 2, 4096, 2816]⟩
abbrev S1x1x4096x2816 : Shape := ⟨4, ![1, 1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S1x4096x1024 : Shape := ⟨3, ![1, 4096, 1024]⟩
abbrev S4096x1024 : Shape := ⟨2, ![4096, 1024]⟩
abbrev S5632x1024 : Shape := ⟨2, ![5632, 1024]⟩
abbrev S1x1024x5632 : Shape := ⟨3, ![1, 1024, 5632]⟩
abbrev S2x1024x5632 : Shape := ⟨3, ![2, 1024, 5632]⟩
abbrev S2x1024x4x1408 : Shape := ⟨4, ![2, 1024, 4, 1408]⟩
abbrev S2x4x1024x1408 : Shape := ⟨4, ![2, 4, 1024, 1408]⟩
abbrev S8x1024x1408 : Shape := ⟨3, ![8, 1024, 1408]⟩
abbrev S352x1024 : Shape := ⟨2, ![352, 1024]⟩
abbrev S704x1024 : Shape := ⟨2, ![704, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1408x1024, .f32⟩
  | .hbm, ⟨3, _⟩ => ⟨S8192x1024, .f32⟩
  | .hbm, ⟨4, _⟩ => ⟨S2x4096x1024, .f32⟩
  | .hbm, ⟨5, _⟩ => ⟨S2x8192x2816, .f32⟩
  | .hbm, ⟨6, _⟩ => ⟨S2x2x4096x2816, .f32⟩
  | .hbm, ⟨7, _⟩ => ⟨S1x1x4096x2816, .f32⟩
  | .hbm, ⟨8, _⟩ => ⟨S4096x2816, .f32⟩
  | .hbm, ⟨9, _⟩ => ⟨S1x1x4096x2816, .f32⟩
  | .hbm, ⟨10, _⟩ => ⟨S4096x2816, .f32⟩
  | .hbm, ⟨11, _⟩ => ⟨S4096x5632, .f32⟩
  | .hbm, ⟨12, _⟩ => ⟨S_, .f32⟩
  | .hbm, ⟨13, _⟩ => ⟨S1024x5632, .f32⟩
  | .hbm, ⟨14, _⟩ => ⟨S1x4096x1024, .f32⟩
  | .hbm, ⟨15, _⟩ => ⟨S4096x1024, .f32⟩
  | .hbm, ⟨16, _⟩ => ⟨S4096x5632, .f32⟩
  | .hbm, ⟨17, _⟩ => ⟨S5632x1024, .f32⟩
  | .hbm, ⟨18, _⟩ => ⟨S1024x5632, .f32⟩
  | .hbm, ⟨19, _⟩ => ⟨S1x1x4096x2816, .f32⟩
  | .hbm, ⟨20, _⟩ => ⟨S4096x2816, .f32⟩
  | .hbm, ⟨21, _⟩ => ⟨S1x1x4096x2816, .f32⟩
  | .hbm, ⟨22, _⟩ => ⟨S4096x2816, .f32⟩
  | .hbm, ⟨23, _⟩ => ⟨S4096x5632, .f32⟩
  | .hbm, ⟨24, _⟩ => ⟨S_, .f32⟩
  | .hbm, ⟨25, _⟩ => ⟨S1024x5632, .f32⟩
  | .hbm, ⟨26, _⟩ => ⟨S1x4096x1024, .f32⟩
  | .hbm, ⟨27, _⟩ => ⟨S4096x1024, .f32⟩
  | .hbm, ⟨28, _⟩ => ⟨S4096x5632, .f32⟩
  | .hbm, ⟨29, _⟩ => ⟨S5632x1024, .f32⟩
  | .hbm, ⟨30, _⟩ => ⟨S1024x5632, .f32⟩
  | .hbm, ⟨31, _⟩ => ⟨S1x1024x5632, .f32⟩
  | .hbm, ⟨32, _⟩ => ⟨S1x1024x5632, .f32⟩
  | .hbm, ⟨33, _⟩ => ⟨S2x1024x5632, .f32⟩
  | .hbm, ⟨34, _⟩ => ⟨S2x1024x4x1408, .f32⟩
  | .hbm, ⟨35, _⟩ => ⟨S2x4x1024x1408, .f32⟩
  | .hbm, ⟨36, _⟩ => ⟨S8x1024x1408, .f32⟩
  | .hbm, ⟨37, _⟩ => ⟨S352x1024, .f32⟩
  | .hbm, ⟨38, _⟩ => ⟨S352x1024, .f32⟩
  | .hbm, ⟨39, _⟩ => ⟨S704x1024, .f32⟩
  | .hbm, ⟨40, _⟩ => ⟨S8x1024x1408, .bf16⟩
  | .hbm, ⟨41, _⟩ => ⟨S1408x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S2x2048x1024 : Shape := ⟨3, ![2, 2048, 1024]⟩
abbrev S_ : Shape := ⟨0, ![]⟩
abbrev S2816x1024 : Shape := ⟨2, ![2816, 1024]⟩
abbrev S2x2048x2816 : Shape := ⟨3, ![2, 2048, 2816]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x1024, .f32⟩
  | .hbm, ⟨3, _⟩ => ⟨S2x2048x1024, .f32⟩
  | .hbm, ⟨4, _⟩ => ⟨S_, .f32⟩
  | .hbm, ⟨5, _⟩ => ⟨S2816x1024, .f32⟩
  | .hbm, ⟨6, _⟩ => ⟨S4096x2816, .f32⟩
  | .hbm, ⟨7, _⟩ => ⟨S2x2048x2816, .f32⟩
  | .hbm, ⟨8, _⟩ => ⟨S2x2048x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x1 : Shape := ⟨2, ![1, 1]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩

abbrev nBuf : Space → Nat
  | .hbm => 9
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1, .f32⟩
  | .hbm, ⟨8, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1, .f32⟩
  | .local _ .vmem, ⟨13, _⟩ => ⟨S1x1024, .f32⟩
  | .local _ .vmem, ⟨14, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v55 : BitVec 1 := Scalar.cmpi .eq arg0 c15_i32
  let v56 : BitVec 32 := Scalar.extui v55
  let c0_i32_30 : BitVec 32 := 0#32
  let v57 : BitVec 1 := Scalar.cmpi .ne v56 c0_i32_30
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .bf16⟩
  | .hbm, ⟨79, _⟩ => ⟨S1x1, .f32⟩
  | .hbm, ⟨80, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel5.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S3x4096x1024 : Shape := ⟨3, ![3, 4096, 1024]⟩
abbrev S4x512x1408 : Shape := ⟨3, ![4, 512, 1408]⟩
abbrev S2x256x2816 : Shape := ⟨3, ![2, 256, 2816]⟩
abbrev S256x1024 : Shape := ⟨2, ![256, 1024]⟩
abbrev S1x256x1024 : Shape := ⟨3, ![1, 256, 1024]⟩
abbrev S4 : Shape := ⟨1, ![4]⟩
abbrev S_ : Shape := ⟨0, ![]⟩
abbrev S1 : Shape := ⟨1, ![1]⟩
abbrev S1x512x1408 : Shape := ⟨3, ![1, 512, 1408]⟩
abbrev S512x1408 : Shape := ⟨2, ![512, 1408]⟩
abbrev S1x256x1408 : Shape := ⟨3, ![1, 256, 1408]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩
abbrev S1x4096x1024 : Shape := ⟨3, ![1, 4096, 1024]⟩

abbrev nBuf : Space → Nat
  | .hbm => 12
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4x1024x1408, .bf16⟩
  | .hbm, ⟨6, _⟩ => ⟨S4096x1024, .f32⟩
  | .hbm, ⟨7, _⟩ => ⟨S3x4096x1024, .bf16⟩
  | .hbm, ⟨8, _⟩ => ⟨S1x1024, .f32⟩
  | .hbm, ⟨9, _⟩ => ⟨S4x512x1408, .bf16⟩
  | .hbm, ⟨10, _⟩ => ⟨S1x4096x1024, .bf16⟩
  | .hbm, ⟨11, _⟩ => ⟨S4096x1024, .bf16⟩
  | .local _ .vmem, ⟨0, _⟩ => ⟨S2x256x2816, .bf16⟩
  | .local _ .vmem, ⟨1, _⟩ => ⟨S2x256x2816, .bf16⟩
  | .local _ .vmem, ⟨2, _⟩ => ⟨S4x1024x1408, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev barrier0 : Sem sig := 0

abbrev nD : Nat := 2
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v2 : BitVec 32 := Scalar.extui v0
  let c0_i32_0 : BitVec 32 := 0#32
  let v3 : BitVec 1 := Scalar.cmpi .ne v2 c0_i32_0
  v3

def k0_dev1 (d73 : Dev nD) : Nat :=
  let c0_i32_54 : BitVec 32 := 0#32
  let v73 : BitVec 32 := Dev.word d73
  let c2_i32 : BitVec 32 := 2#32
  let v74 : BitVec 32 := Scalar.divsi v73 c2_i32
  let c1_i32 : BitVec 32 := 1#32
  let v75 : BitVec 32 := Scalar.remsi v74 c1_i32
  let c2_i32_53 : BitVec 32 := 2#32
  let v84 : BitVec 32 := Scalar.muli v75 c2_i32_53
  let v85 : BitVec 32 := Scalar.addi c0_i32_54 v84
  let v76 : BitVec 32 := Dev.word d73
  let c2_i32_48 : BitVec 32 := 2#32
  let v77 : BitVec 32 := Scalar.divsi v76 c2_i32_48
  let c1_i32_47 : BitVec 32 := 1#32
  let v78 : BitVec 32 := Scalar.remsi v77 c1_i32_47
  let c2_i32_55 : BitVec 32 := 2#32
  let v86 : BitVec 32 := Scalar.muli v78 c2_i32_55
  let v87 : BitVec 32 := Scalar.addi v85 v86
  let c1_i32_51 : BitVec 32 := 1#32
  let v79 : BitVec 32 := Dev.word d73
  let c1_i32_50 : BitVec 32 := 1#32
  let v80 : BitVec 32 := Scalar.divsi v79 c1_i32_50
  let c2_i32_49 : BitVec 32 := 2#32
  let v81 : BitVec 32 := Scalar.remsi v80 c2_i32_49
  let v83 : BitVec 32 := Scalar.subi c1_i32_51 v81
  let c1_i32_56 : BitVec 32 := 1#32
  let v88 : BitVec 32 := Scalar.muli v83 c1_i32_56
  let v89 : BitVec 32 := Scalar.addi v87 v88
  v89.toNat
def k0_mult1 (d73 : Dev nD) : BitVec 32 :=
  let c1_i32_64 : BitVec 32 := 1#32
  let v96 : BitVec 32 := Dev.word d73
  let c1_i32_63 : BitVec 32 := 1#32
  let v97 : BitVec 32 := Scalar.divsi v96 c1_i32_63
  let c2_i32_62 : BitVec 32 := 2#32
  let v98 : BitVec 32 := Scalar.remsi v97 c2_i32_62
  let v99 : BitVec 32 := Scalar.subi c1_i32_64 v98
  let c512_i32 : BitVec 32 := 512#32
  let v100 : BitVec 32 := Scalar.muli v99 c512_i32
  v100
def k0_mult2 (d73 : Dev nD) : BitVec 32 :=
  let c1_i32_66 : BitVec 32 := 1#32
  let v96 : BitVec 32 := Dev.word d73
  let c1_i32_63 : BitVec 32 := 1#32
  let v97 : BitVec 32 := Scalar.divsi v96 c1_i32_63
  let c2_i32_62 : BitVec 32 := 2#32
  let v98 : BitVec 32 := Scalar.remsi v97 c2_i32_62
  let v103 : BitVec 32 := Scalar.subi c1_i32_66 v98
  let c512_i32_67 : BitVec 32 := 512#32
  let v104 : BitVec 32 := Scalar.muli v103 c512_i32_67
  v104
def k0_mult3 (d73 : Dev nD) : BitVec 32 :=
  let c1_i32_69 : BitVec 32 := 1#32
  let v96 : BitVec 32 := Dev.word d73
  let c1_i32_63 : BitVec 32 := 1#32
  let v97 : BitVec 32 := Scalar.divsi v96 c1_i32_63
  let c2_i32_62 : BitVec 32 := 2#32
  let v98 : BitVec 32 := Scalar.remsi v97 c2_i32_62
  let v107 : BitVec 32 := Scalar.subi c1_i32_69 v98
  let c512_i32_70 : BitVec 32 := 512#32
  let v108 : BitVec 32 := Scalar.muli v107 c512_i32_70
  v108
def k0_mult4 (d73 : Dev nD) : BitVec 32 :=
  let c1_i32_72 : BitVec 32 := 1#32
  let v96 : BitVec 32 := Dev.word d73
  let c1_i32_63 : BitVec 32 := 1#32
  let v97 : BitVec 32 := Scalar.divsi v96 c1_i32_63
  let c2_i32_62 : BitVec 32 := 2#32
  let v98 : BitVec 32 := Scalar.remsi v97 c2_i32_62
  let v111 : BitVec 32 := Scalar.subi c1_i32_72 v98
  let c512_i32_73 : BitVec 32 := 512#32
  let v112 : BitVec 32 := Scalar.muli v111 c512_i32_73
  v112
def k0_off1 (d73 : Dev nD) : Fin 3 → Nat :=
  let c0_i32_75 : BitVec 32 := 0#32
  let c1_i32_64 : BitVec 32 := 1#32
  let v96 : BitVec 32 := Dev.word d73
  let c1_i32_63 : BitVec 32 := 1#32
  let v97 : BitVec 32 := Scalar.divsi v96 c1_i32_63
  let c2_i32_62 : BitVec 32 := 2#32
  let v98 : BitVec 32 := Scalar.remsi v97 c2_i32_62
  let v99 : BitVec 32 := Scalar.subi c1_i32_64 v98
  let c512_i32 : BitVec 32 := 512#32
  let v100 : BitVec 32 := Scalar.muli v99 c512_i32
  let v101 : BitVec 32 := v100
  let c0_i32_85 : BitVec 32 := 0#32
  ![0, v101.toNat, 0]
def k0_dev2 (d73 : Dev nD) : Nat :=
  let c0_i32_80 : BitVec 32 := 0#32
  let v90 : BitVec 32 := Dev.word d73
  let c2_i32_59 : BitVec 32 := 2#32
  let v91 : BitVec 32 := Scalar.divsi v90 c2_i32_59
  let c1_i32_58 : BitVec 32 := 1#32
  let v92 : BitVec 32 := Scalar.remsi v91 c1_i32_58
  let c2_i32_79 : BitVec 32 := 2#32
  let v115 : BitVec 32 := Scalar.muli v92 c2_i32_79
  let v116 : BitVec 32 := Scalar.addi c0_i32_80 v115
  let v93 : BitVec 32 := Dev.word d73
  let c2_i32_61 : BitVec 32 := 2#32
  let v94 : BitVec 32 := Scalar.divsi v93 c2_i32_61
  let c1_i32_60 : BitVec 32 := 1#32
  let v95 : BitVec 32 := Scalar.remsi v94 c1_i32_60
  let c2_i32_81 : BitVec 32 := 2#32
  let v117 : BitVec 32 := Scalar.muli v95 c2_i32_81
  let v118 : BitVec 32 := Scalar.addi v116 v117
  let c1_i32_65 : BitVec 32 := 1#32
  let v96 : BitVec 32 := Dev.word d73
  let c1_i32_63 : BitVec 32 := 1#32
  let v97 : BitVec 32 := Scalar.divsi v96 c1_i32_63
  let c2_i32_62 : BitVec 32 := 2#32
  let v98 : BitVec 32 := Scalar.remsi v97 c2_i32_62
  let v102 : BitVec 32 := Scalar.subi c1_i32_65 v98
  let c1_i32_82 : BitVec 32 := 1#32
  let v119 : BitVec 32 := Scalar.muli v102 c1_i32_82
  let v120 : BitVec 32 := Scalar.addi v118 v119
  v120.toNat
def k0_off2 (d73 : Dev nD) : Fin 3 → Nat :=
  let c1_i32_86 : BitVec 32 := 1#32
  let c1_i32_66 : BitVec 32 := 1#32
  let v96 : BitVec 32 := Dev.word d73
  let c1_i32_63 : BitVec 32 := 1#32
  let v97 : BitVec 32 := Scalar.divsi v96 c1_i32_63
  let c2_i32_62 : BitVec 32 := 2#32
  let v98 : BitVec 32 := Scalar.remsi v97 c2_i32_62
  let v103 : BitVec 32 := Scalar.subi c1_i32_66 v98
  let c512_i32_67 : BitVec 32 := 512#32
  let v104 : BitVec 32 := Scalar.muli v103 c512_i32_67
  let v105 : BitVec 32 := v104
  let c0_i32_96 : BitVec 32 := 0#32
  ![1, v105.toNat, 0]
def k0_dev3 (d73 : Dev nD) : Nat :=
  let c0_i32_91 : BitVec 32 := 0#32
  let v90 : BitVec 32 := Dev.word d73
  let c2_i32_59 : BitVec 32 := 2#32
  let v91 : BitVec 32 := Scalar.divsi v90 c2_i32_59
  let c1_i32_58 : BitVec 32 := 1#32
  let v92 : BitVec 32 := Scalar.remsi v91 c1_i32_58
  let c2_i32_90 : BitVec 32 := 2#32
  let v129 : BitVec 32 := Scalar.muli v92 c2_i32_90
  let v130 : BitVec 32 := Scalar.addi c0_i32_91 v129
  let v93 : BitVec 32 := Dev.word d73
  let c2_i32_61 : BitVec 32 := 2#32
  let v94 : BitVec 32 := Scalar.divsi v93 c2_i32_61
  let c1_i32_60 : BitVec 32 := 1#32
  let v95 : BitVec 32 := Scalar.remsi v94 c1_i32_60
  let c2_i32_92 : BitVec 32 := 2#32
  let v131 : BitVec 32 := Scalar.muli v95 c2_i32_92
  let v132 : BitVec 32 := Scalar.addi v130 v131
  let c1_i32_68 : BitVec 32 := 1#32
  let v96 : BitVec 32 := Dev.word d73
  let c1_i32_63 : BitVec 32 := 1#32
  let v97 : BitVec 32 := Scalar.divsi v96 c1_i32_63
  let c2_i32_62 : BitVec 32 := 2#32
  let v98 : BitVec 32 := Scalar.remsi v97 c2_i32_62
  let v106 : BitVec 32 := Scalar.subi c1_i32_68 v98
  let c1_i32_93 : BitVec 32 := 1#32
  let v133 : BitVec 32 := Scalar.muli v106 c1_i32_93
  let v134 : BitVec 32 := Scalar.addi v132 v133
  v134.toNat
def k0_off3 (d73 : Dev nD) : Fin 3 → Nat :=
  let c2_i32_97 : BitVec 32 := 2#32
  let c1_i32_69 : BitVec 32 := 1#32
  let v96 : BitVec 32 := Dev.word d73
  let c1_i32_63 : BitVec 32 := 1#32
  let v97 : BitVec 32 := Scalar.divsi v96 c1_i32_63
  let c2_i32_62 : BitVec 32 := 2#32
  let v98 : BitVec 32 := Scalar.remsi v97 c2_i32_62
  let v107 : BitVec 32 := Scalar.subi c1_i32_69 v98
  let c512_i32_70 : BitVec 32 := 512#32
  let v108 : BitVec 32 := Scalar.muli v107 c512_i32_70
  let v109 : BitVec 32 := v108
  let c0_i32_107 : BitVec 32 := 0#32
  ![2, v109.toNat, 0]
def k0_dev4 (d73 : Dev nD) : Nat :=
  let c0_i32_102 : BitVec 32 := 0#32
  let v90 : BitVec 32 := Dev.word d73
  let c2_i32_59 : BitVec 32 := 2#32
  let v91 : BitVec 32 := Scalar.divsi v90 c2_i32_59
  let c1_i32_58 : BitVec 32 := 1#32
  let v92 : BitVec 32 := Scalar.remsi v91 c1_i32_58
  let c2_i32_101 : BitVec 32 := 2#32
  let v143 : BitVec 32 := Scalar.muli v92 c2_i32_101
  let v144 : BitVec 32 := Scalar.addi c0_i32_102 v143
  let v93 : BitVec 32 := Dev.word d73
  let c2_i32_61 : BitVec 32 := 2#32
  let v94 : BitVec 32 := Scalar.divsi v93 c2_i32_61
  let c1_i32_60 : BitVec 32 := 1#32
  let v95 : BitVec 32 := Scalar.remsi v94 c1_i32_60
  let c2_i32_103 : BitVec 32 := 2#32
  let v145 : BitVec 32 := Scalar.muli v95 c2_i32_103
  let v146 : BitVec 32 := Scalar.addi v144 v145
  let c1_i32_71 : BitVec 32 := 1#32
  let v96 : BitVec 32 := Dev.word d73
  let c1_i32_63 : BitVec 32 := 1#32
  let v97 : BitVec 32 := Scalar.divsi v96 c1_i32_63
  let c2_i32_62 : BitVec 32 := 2#32
  let v98 : BitVec 32 := Scalar.remsi v97 c2_i32_62
  let v110 : BitVec 32 := Scalar.subi c1_i32_71 v98
  let c1_i32_104 : BitVec 32 := 1#32
  let v147 : BitVec 32 := Scalar.muli v110 c1_i32_104
  let v148 : BitVec 32 := Scalar.addi v146 v147
  v148.toNat
def k0_off4 (d73 : Dev nD) : Fin 3 → Nat :=
  let c3_i32 : BitVec 32 := 3#32
  let c1_i32_72 : BitVec 32 := 1#32
  let v96 : BitVec 32 := Dev.word d73
  let c1_i32_63 : BitVec 32 := 1#32
  let v97 : BitVec 32 := Scalar.divsi v96 c1_i32_63
  let c2_i32_62 : BitVec 32 := 2#32
  let v98 : BitVec 32 := Scalar.remsi v97 c2_i32_62
  let v111 : BitVec 32 := Scalar.subi c1_i32_72 v98
  let c512_i32_73 : BitVec 32 := 512#32
  let v112 : BitVec 32 := Scalar.muli v111 c512_i32_73
  let v113 : BitVec 32 := v112
  let c0_i32_117 : BitVec 32 := 0#32
  ![3, v113.toNat, 0]
def k0_dev5 (d73 : Dev nD) : Nat :=
  let c0_i32_112 : BitVec 32 := 0#32
  let v90 : BitVec 32 := Dev.word d73
  let c2_i32_59 : BitVec 32 := 2#32
  let v91 : BitVec 32 := Scalar.divsi v90 c2_i32_59
  let c1_i32_58 : BitVec 32 := 1#32
  let v92 : BitVec 32 := Scalar.remsi v91 c1_i32_58
  let c2_i32_111 : BitVec 32 := 2#32
  let v157 : BitVec 32 := Scalar.muli v92 c2_i32_111
  let v158 : BitVec 32 := Scalar.addi c0_i32_112 v157
  let v93 : BitVec 32 := Dev.word d73
  let c2_i32_61 : BitVec 32 := 2#32
  let v94 : BitVec 32 := Scalar.divsi v93 c2_i32_61
  let c1_i32_60 : BitVec 32 := 1#32
  let v95 : BitVec 32 := Scalar.remsi v94 c1_i32_60
  let c2_i32_113 : BitVec 32 := 2#32
  let v159 : BitVec 32 := Scalar.muli v95 c2_i32_113
  let v160 : BitVec 32 := Scalar.addi v158 v159
  let c1_i32_74 : BitVec 32 := 1#32
  let v96 : BitVec 32 := Dev.word d73
  let c1_i32_63 : BitVec 32 := 1#32
  let v97 : BitVec 32 := Scalar.divsi v96 c1_i32_63
  let c2_i32_62 : BitVec 32 := 2#32
  let v98 : BitVec 32 := Scalar.remsi v97 c2_i32_62
  let v114 : BitVec 32 := Scalar.subi c1_i32_74 v98
  let c1_i32_114 : BitVec 32 := 1#32
  let v161 : BitVec 32 := Scalar.muli v114 c1_i32_114
  let v162 : BitVec 32 := Scalar.addi v160 v161
  v162.toNat
def k0_cond3 (i : grid0.Coords) : BitVec 1 :=
  let arg0 : BitVec 32 := BitVec.ofNat 32 (i 0).val
  let c15_i32 : BitVec 32 := 15#32
  let v1 : BitVec 1 := Scalar.cmpi .eq arg0 c15_i32
  let v71 : BitVec 32 := Scalar.extui v1
  let c0_i32_46 : BitVec 32 := 0#32
  let v72 : BitVec 1 := Scalar.cmpi .ne v71 c0_i32_46
  v72

def k0_mult5 (d73 : Dev nD) : BitVec 32 :=
  let c1_i32_51 : BitVec 32 := 1#32
  let v79 : BitVec 32 := Dev.word d73
  let c1_i32_50 : BitVec 32 := 1#32
  let v80 : BitVec 32 := Scalar.divsi v79 c1_i32_50
  let c2_i32_49 : BitVec 32 := 2#32
  let v81 : BitVec 32 := Scalar.remsi v80 c2_i32_49
  let v82 : BitVec 32 := Scalar.subi c1_i32_51 v81
  let c512_i32 : BitVec 32 := 512#32
  let v83 : BitVec 32 := Scalar.muli v82 c512_i32
  v83
def k0_mult6 (d73 : Dev nD) : BitVec 32 :=
  let c1_i32_53 : BitVec 32 := 1#32
  let v79 : BitVec 32 := Dev.word d73
  let c1_i32_50 : BitVec 32 := 1#32
  let v80 : BitVec 32 := Scalar.divsi v79 c1_i32_50
  let c2_i32_49 : BitVec 32 := 2#32
  let v81 : BitVec 32 := Scalar.remsi v80 c2_i32_49
  let v86 : BitVec 32 := Scalar.subi c1_i32_53 v81
  let c512_i32_54 : BitVec 32 := 512#32
  let v87 : BitVec 32 := Scalar.muli v86 c512_i32_54
  v87
def k0_mult7 (d73 : Dev nD) : BitVec 32 :=
  let c1_i32_56 : BitVec 32 := 1#32
  let v79 : BitVec 32 := Dev.word d73
  let c1_i32_50 : BitVec 32 := 1#32
  let v80 : BitVec 32 := Scalar.divsi v79 c1_i32_50
  let c2_i32_49 : BitVec 32 := 2#32
  let v81 : BitVec 32 := Scalar.remsi v80 c2_i32_49
  let v90 : BitVec 32 := Scalar.subi c1_i32_56 v81
  let c512_i32_57 : BitVec 32 := 512#32
  let v91 : BitVec 32 := Scalar.muli v90 c512_i32_57
  v91
def k0_mult8 (d73 : Dev nD) : BitVec 32 :=
  let c1_i32_59 : BitVec 32 := 1#32
  let v79 : BitVec 32 := Dev.word d73
  let c1_i32_50 : BitVec 32 := 1#32
  let v80 : BitVec 32 := Scalar.divsi v79 c1_i32_50
  let c2_i32_49 : BitVec 32 := 2#32
  let v81 : BitVec 32 := Scalar.remsi v80 c2_i32_49
  let v94 : BitVec 32 := Scalar.subi c1_i32_59 v81
  let c512_i32_60 : BitVec 32 := 512#32
  let v95 : BitVec 32 := Scalar.muli v94 c512_i32_60
  v95
def k0_off5 (d73 : Dev nD) : Fin 3 → Nat :=
  let c0_i32_63 : BitVec 32 := 0#32
  let c1_i32_51 : BitVec 32 := 1#32
  let v79 : BitVec 32 := Dev.word d73
  let c1_i32_50 : BitVec 32 := 1#32
  let v80 : BitVec 32 := Scalar.divsi v79 c1_i32_50
  let c2_i32_49 : BitVec 32 := 2#32
  let v81 : BitVec 32 := Scalar.remsi v80 c2_i32_49
  let v82 : BitVec 32 := Scalar.subi c1_i32_51 v81
  let c512_i32 : BitVec 32 := 512#32
  let v83 : BitVec 32 := Scalar.muli v82 c512_i32
  let v84 : BitVec 32 := v83
  let c0_i32_67 : BitVec 32 := 0#32
  ![0, v84.toNat, 0]
def k0_off6 (d73 : Dev nD) : Fin 3 → Nat :=
  let c1_i32_82 : BitVec 32 := 1#32
  let c1_i32_53 : BitVec 32 := 1#32
  let v79 : BitVec 32 := Dev.word d73
  let c1_i32_50 : BitVec 32 := 1#32
  let v80 : BitVec 32 := Scalar.divsi v79 c1_i32_50
  let c2_i32_49 : BitVec 32 := 2#32
  let v81 : BitVec 32 := Scalar.remsi v80 c2_i32_49
  let v86 : BitVec 32 := Scalar.subi c1_i32_53 v81
  let c512_i32_54 : BitVec 32 := 512#32
  let v87 : BitVec 32 := Scalar.muli v86 c512_i32_54
  let v88 : BitVec 32 := v87
  let c0_i32_86 : BitVec 32 := 0#32
  ![1, v88.toNat, 0]
def k0_off7 (d73 : Dev nD) : Fin 3 → Nat :=
  let c2_i32_101 : BitVec 32 := 2#32
  let c1_i32_56 : BitVec 32 := 1#32
  let v79 : BitVec 32 := Dev.word d73
  let c1_i32_50 : BitVec 32 := 1#32
  let v80 : BitVec 32 := Scalar.divsi v79 c1_i32_50
  let c2_i32_49 : BitVec 32 := 2#32
  let v81 : BitVec 32 := Scalar.remsi v80 c2_i32_49
  let v90 : BitVec 32 := Scalar.subi c1_i32_56 v81
  let c512_i32_57 : BitVec 32 := 512#32
  let v91 : BitVec 32 := Scalar.muli v90 c512_i32_57
  let v92 : BitVec 32 := v91
  let c0_i32_105 : BitVec 32 := 0#32
  ![2, v92.toNat, 0]
def k0_off8 (d73 : Dev nD) : Fin 3 → Nat :=
  let c3_i32_119 : BitVec 32 := 3#32
  let c1_i32_59 : BitVec 32 := 1#32
  let v79 : BitVec 32 := Dev.word d73
  let c1_i32_50 : BitVec 32 := 1#32
  let v80 : BitVec 32 := Scalar.divsi v79 c1_i32_50
  let c2_i32_49 : BitVec 32 := 2#32
  let v81 : BitVec 32 := Scalar.remsi v80 c2_i32_49
  let v94 : BitVec 32 := Scalar.subi c1_i32_59 v81
  let c512_i32_60 : BitVec 32 := 512#32
  let v95 : BitVec 32 := Scalar.muli v94 c512_i32_60
  let v96 : BitVec 32 := v95
  let c0_i32_123 : BitVec 32 := 0#32
  ![3, v96.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S2x8192x2816 : Shape := ⟨3, ![2, 8192, 2816]⟩
abbrev S4x1024x1408 : Shape := ⟨3, ![4, 1024, 1408]⟩
abbrev S8192x1024 : Shape := ⟨2, ![8192, 1024]⟩
abbrev S1x1024 : Shape := ⟨2, ![1, 1024]⟩
abbrev S8x1024x1408 : Shape := ⟨3, ![8, 1024, 1408]⟩
abbrev S1024x4x1408 : Shape := ⟨3, ![1024, 4, 1408]⟩
abbrev S1024x5632 : Shape := ⟨2, ![1024, 5632]⟩
abbrev S2x2x4096x2816 : Shape := ⟨4, ![2, 2, 4096, 2816]⟩
abbrev S2x1x1024 : Shape := ⟨3, ![2, 1, 1024]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S2x4096x5632 : Shape := ⟨3, ![2, 4096, 5632]⟩
abbrev S1x2x4096x2816 : Shape := ⟨4, ![1, 2, 4096, 2816]⟩
abbrev S2x4096x2816 : Shape := ⟨3, ![2, 4096, 2816]⟩
abbrev S2x1024 : Shape := ⟨2, ![2, 1024]⟩
abbrev S4x512x1408 : Shape := ⟨3, ![4, 512, 1408]⟩
abbrev S8x512x1408 : Shape := ⟨3, ![8, 512, 1408]⟩

abbrev nBuf : Space → Nat
  | .hbm => 69
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S4x1024x1408, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8x1024x1408, .bf16⟩
  | .hbm, ⟨6, _⟩ => ⟨S4x1024x1408, .f32⟩
  | .hbm, ⟨7, _⟩ => ⟨S1024x4x1408, .f32⟩
  | .hbm, ⟨8, _⟩ => ⟨S1024x5632, .f32⟩
  | .hbm, ⟨9, _⟩ => ⟨S2x8192x2816, .f32⟩
  | .hbm, ⟨10, _⟩ => ⟨S2x2x4096x2816, .f32⟩
  | .hbm, ⟨11, _⟩ => ⟨S2x1x1024, .f32⟩
  | .hbm, ⟨12, _⟩ => ⟨S2x4096x1024, .f32⟩
  | .hbm, ⟨13, _⟩ => ⟨S2x4096x1024, .f32⟩
  | .hbm, ⟨14, _⟩ => ⟨S_, .f32⟩
  | .hbm, ⟨15, _⟩ => ⟨S2x4096, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S2x4096x5632, .f32⟩
  | .hbm, ⟨33, _⟩ => ⟨S1x2x4096x2816, .f32⟩
  | .hbm, ⟨34, _⟩ => ⟨S2x4096x2816, .f32⟩
  | .hbm, ⟨35, _⟩ => ⟨S1x2x4096x2816, .f32⟩
  | .hbm, ⟨36, _⟩ => ⟨S2x4096x2816, .f32⟩
  | .hbm, ⟨37, _⟩ => ⟨S2x4096x5632, .f32⟩
  | .hbm, ⟨38, _⟩ => ⟨S2x4096x1024, .f32⟩
  | .hbm, ⟨39, _⟩ => ⟨S2x4096x1024, .f32⟩
  | .hbm, ⟨40, _⟩ => ⟨S_, .f32⟩
  | .hbm, ⟨41, _⟩ => ⟨S2x1024, .f32⟩
  | .hbm, ⟨42, _⟩ => ⟨S2x1x1024, .f32⟩
  | .hbm, ⟨43, _⟩ => ⟨S2x4096x1024, .f32⟩
  | .hbm, ⟨44, _⟩ => ⟨S2x4096x1024, .f32⟩
  | .hbm, ⟨45, _⟩ => ⟨S2x4096x1024, .f32⟩
  | .hbm, ⟨46, _⟩ => ⟨S_, .f32⟩
  | .hbm, ⟨47, _⟩ => ⟨S2x4096, .f32⟩
  | .hbm, ⟨48, _⟩ => ⟨S2x4096x1, .f32⟩
  | .hbm, ⟨49, _⟩ => ⟨S2x4096x1024, .f32⟩
  | .hbm, ⟨50, _⟩ => ⟨S2x4096x1024, .f32⟩
  | .hbm, ⟨51, _⟩ => ⟨S2x4096x1, .f32⟩
  | .hbm, ⟨52, _⟩ => ⟨S_, .f32⟩
  | .hbm, ⟨53, _⟩ => ⟨S2x4096x1, .f32⟩
  | .hbm, ⟨54, _⟩ => ⟨S2x4096x1, .f32⟩
  | .hbm, ⟨55, _⟩ => ⟨S_, .f32⟩
  | .hbm, ⟨56, _⟩ => ⟨S2x4096, .f32⟩
  | .hbm, ⟨57, _⟩ => ⟨S2x4096x1024, .f32⟩
  | .hbm, ⟨58, _⟩ => ⟨S2x4096x1024, .f32⟩
  | .hbm, ⟨59, _⟩ => ⟨S2x4096x1024, .f32⟩
  | .hbm, ⟨60, _⟩ => ⟨S2x4096x1024, .f32⟩
  | .hbm, ⟨61, _⟩ => ⟨S2x4096x1024, .f32⟩
  | .hbm, ⟨62, _⟩ => ⟨S8192x1024, .f32⟩
  | .hbm, ⟨63, _⟩ => ⟨S8192x1024, .f32⟩
  | .hbm, ⟨64, _⟩ => ⟨S4x512x1408, .bf16⟩
  | .hbm, ⟨65, _⟩ => ⟨S4x512x1408, .bf16⟩
  | .hbm, ⟨66, _⟩ => ⟨S8x512x1408, .bf16⟩
  | .hbm, ⟨67, _⟩ => ⟨S8192x1024, .bf16⟩
  | .hbm, ⟨68, _⟩ => ⟨S2x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Kernel6.lean ====
abbrev S4096x1024 : Shape := ⟨2, ![4096, 1024]⟩
abbrev S6x4096x1024 : Shape := ⟨3, ![6, 4096, 1024]⟩
abbrev S4x3x128x1024 : Shape := ⟨4, ![4, 3, 128, 1024]⟩
abbrev S4x1024x1536 : Shape := ⟨3, ![4, 1024, 1536]⟩
abbrev S3x3x128x1024 : Shape := ⟨4, ![3, 3, 128, 1024]⟩
abbrev S1x4096x512 : Shape := ⟨3, ![1, 4096, 512]⟩
abbrev S1x1024x512 : Shape := ⟨3, ![1, 1024, 512]⟩
abbrev S3 : Shape := ⟨1, ![3]⟩
abbrev S_ : Shape := ⟨0, ![]⟩
abbrev S1 : Shape := ⟨1, ![1]⟩
abbrev S1x3x128x1024 : Shape := ⟨4, ![1, 3, 128, 1024]⟩
abbrev S3x128x1024 : Shape := ⟨3, ![3, 128, 1024]⟩
abbrev S4096x512 : Shape := ⟨2, ![4096, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S6x4096x1024, .bf16⟩
  | .hbm, ⟨2, _⟩ => ⟨S4x3x128x1024, .bf16⟩
  | .hbm, ⟨3, _⟩ => ⟨S4x1024x1536, .bf16⟩
  | .hbm, ⟨4, _⟩ => ⟨S3x3x128x1024, .bf16⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev barrier1 : Sem sig := 0

abbrev nD : Nat := 4
abbrev τ : Topo := Topo.v7x

variable {F : FTy → Type} [FloatOps F]

abbrev grid0 : Pipeline.Grid := ⟨2, ![12, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v0 v2
  let v6 : BitVec 32 := Scalar.extui v3
  let c0_i32_2 : BitVec 32 := 0#32
  let v7 : BitVec 1 := Scalar.cmpi .ne v6 c0_i32_2
  v7

def k0_dev1 (d19 : Dev nD) : Nat :=
  let c0_i32_18 : BitVec 32 := 0#32
  let v19 : BitVec 32 := Dev.word d19
  let c2_i32_11 : BitVec 32 := 2#32
  let v20 : BitVec 32 := Scalar.divsi v19 c2_i32_11
  let c2_i32 : BitVec 32 := 2#32
  let v21 : BitVec 32 := Scalar.remsi v20 c2_i32
  let c2_i32_17 : BitVec 32 := 2#32
  let v30 : BitVec 32 := Scalar.muli v21 c2_i32_17
  let v31 : BitVec 32 := Scalar.addi c0_i32_18 v30
  let c1_i32_15 : BitVec 32 := 1#32
  let v22 : BitVec 32 := Dev.word d19
  let c1_i32 : BitVec 32 := 1#32
  let v23 : BitVec 32 := Scalar.divsi v22 c1_i32
  let c2_i32_12 : BitVec 32 := 2#32
  let v24 : BitVec 32 := Scalar.remsi v23 c2_i32_12
  let v29 : BitVec 32 := Scalar.subi c1_i32_15 v24
  let c1_i32_19 : BitVec 32 := 1#32
  let v32 : BitVec 32 := Scalar.muli v29 c1_i32_19
  let v33 : BitVec 32 := Scalar.addi v31 v32
  let v25 : BitVec 32 := Dev.word d19
  let c1_i32_14 : BitVec 32 := 1#32
  let v26 : BitVec 32 := Scalar.divsi v25 c1_i32_14
  let c1_i32_13 : BitVec 32 := 1#32
  let v27 : BitVec 32 := Scalar.remsi v26 c1_i32_13
  let c1_i32_20 : BitVec 32 := 1#32
  let v34 : BitVec 32 := Scalar.muli v27 c1_i32_20
  let v35 : BitVec 32 := Scalar.addi v33 v34
  v35.toNat
def k0_dev2 (d19 : Dev nD) : Nat :=
  let c0_i32_24 : BitVec 32 := 0#32
  let c1_i32_21 : BitVec 32 := 1#32
  let v19 : BitVec 32 := Dev.word d19
  let c2_i32_11 : BitVec 32 := 2#32
  let v20 : BitVec 32 := Scalar.divsi v19 c2_i32_11
  let c2_i32 : BitVec 32 := 2#32
  let v21 : BitVec 32 := Scalar.remsi v20 c2_i32
  let v36 : BitVec 32 := Scalar.subi c1_i32_21 v21
  let c2_i32_23 : BitVec 32 := 2#32
  let v37 : BitVec 32 := Scalar.muli v36 c2_i32_23
  let v38 : BitVec 32 := Scalar.addi c0_i32_24 v37
  let v22 : BitVec 32 := Dev.word d19
  let c1_i32 : BitVec 32 := 1#32
  let v23 : BitVec 32 := Scalar.divsi v22 c1_i32
  let c2_i32_12 : BitVec 32 := 2#32
  let v24 : BitVec 32 := Scalar.remsi v23 c2_i32_12
  let c1_i32_25 : BitVec 32 := 1#32
  let v39 : BitVec 32 := Scalar.muli v24 c1_i32_25
  let v40 : BitVec 32 := Scalar.addi v38 v39
  let v25 : BitVec 32 := Dev.word d19
  let c1_i32_14 : BitVec 32 := 1#32
  let v26 : BitVec 32 := Scalar.divsi v25 c1_i32_14
  let c1_i32_13 : BitVec 32 := 1#32
  let v27 : BitVec 32 := Scalar.remsi v26 c1_i32_13
  let c1_i32_26 : BitVec 32 := 1#32
  let v41 : BitVec 32 := Scalar.muli v27 c1_i32_26
  let v42 : BitVec 32 := Scalar.addi v40 v41
  v42.toNat
def k0_dev3 (d19 : Dev nD) : Nat :=
  let c0_i32_31 : BitVec 32 := 0#32
  let c1_i32_27 : BitVec 32 := 1#32
  let v19 : BitVec 32 := Dev.word d19
  let c2_i32_11 : BitVec 32 := 2#32
  let v20 : BitVec 32 := Scalar.divsi v19 c2_i32_11
  let c2_i32 : BitVec 32 := 2#32
  let v21 : BitVec 32 := Scalar.remsi v20 c2_i32
  let v43 : BitVec 32 := Scalar.subi c1_i32_27 v21
  let c2_i32_30 : BitVec 32 := 2#32
  let v45 : BitVec 32 := Scalar.muli v43 c2_i32_30
  let v46 : BitVec 32 := Scalar.addi c0_i32_31 v45
  let c1_i32_28 : BitVec 32 := 1#32
  let v22 : BitVec 32 := Dev.word d19
  let c1_i32 : BitVec 32 := 1#32
  let v23 : BitVec 32 := Scalar.divsi v22 c1_i32
  let c2_i32_12 : BitVec 32 := 2#32
  let v24 : BitVec 32 := Scalar.remsi v23 c2_i32_12
  let v44 : BitVec 32 := Scalar.subi c1_i32_28 v24
  let c1_i32_32 : BitVec 32 := 1#32
  let v47 : BitVec 32 := Scalar.muli v44 c1_i32_32
  let v48 : BitVec 32 := Scalar.addi v46 v47
  let v25 : BitVec 32 := Dev.word d19
  let c1_i32_14 : BitVec 32 := 1#32
  let v26 : BitVec 32 := Scalar.divsi v25 c1_i32_14
  let c1_i32_13 : BitVec 32 := 1#32
  let v27 : BitVec 32 := Scalar.remsi v26 c1_i32_13
  let c1_i32_33 : BitVec 32 := 1#32
  let v49 : BitVec 32 := Scalar.muli v27 c1_i32_33
  let v50 : BitVec 32 := Scalar.addi v48 v49
  v50.toNat
def k0_off1 (d19 : Dev nD) : Fin 4 → Nat :=
  let c2_i32_44 : BitVec 32 := 2#32
  let c1_i32_40 : BitVec 32 := 1#32
  let v51 : BitVec 32 := Dev.word d19
  let c2_i32_35 : BitVec 32 := 2#32
  let v52 : BitVec 32 := Scalar.divsi v51 c2_i32_35
  let c2_i32_34 : BitVec 32 := 2#32
  let v53 : BitVec 32 := Scalar.remsi v52 c2_i32_34
  let v60 : BitVec 32 := Scalar.subi c1_i32_40 v53
  let v64 : BitVec 32 := Scalar.muli c2_i32_44 v60
  let v54 : BitVec 32 := Dev.word d19
  let c1_i32_37 : BitVec 32 := 1#32
  let v55 : BitVec 32 := Scalar.divsi v54 c1_i32_37
  let c2_i32_36 : BitVec 32 := 2#32
  let v56 : BitVec 32 := Scalar.remsi v55 c2_i32_36
  let v65 : BitVec 32 := Scalar.addi v64 v56
  let c0_i32_57 : BitVec 32 := 0#32
  let c0_i32_58 : BitVec 32 := 0#32
  let c0_i32_59 : BitVec 32 := 0#32
  ![v65.toNat, 0, 0, 0]
def k0_dev4 (d19 : Dev nD) : Nat :=
  let c0_i32_51 : BitVec 32 := 0#32
  let c1_i32_40 : BitVec 32 := 1#32
  let v51 : BitVec 32 := Dev.word d19
  let c2_i32_35 : BitVec 32 := 2#32
  let v52 : BitVec 32 := Scalar.divsi v51 c2_i32_35
  let c2_i32_34 : BitVec 32 := 2#32
  let v53 : BitVec 32 := Scalar.remsi v52 c2_i32_34
  let v60 : BitVec 32 := Scalar.subi c1_i32_40 v53
  let c2_i32_50 : BitVec 32 := 2#32
  let v70 : BitVec 32 := Scalar.muli v60 c2_i32_50
  let v71 : BitVec 32 := Scalar.addi c0_i32_51 v70
  let v54 : BitVec 32 := Dev.word d19
  let c1_i32_37 : BitVec 32 := 1#32
  let v55 : BitVec 32 := Scalar.divsi v54 c1_i32_37
  let c2_i32_36 : BitVec 32 := 2#32
  let v56 : BitVec 32 := Scalar.remsi v55 c2_i32_36
  let c1_i32_52 : BitVec 32 := 1#32
  let v72 : BitVec 32 := Scalar.muli v56 c1_i32_52
  let v73 : BitVec 32 := Scalar.addi v71 v72
  let v57 : BitVec 32 := Dev.word d19
  let c1_i32_39 : BitVec 32 := 1#32
  let v58 : BitVec 32 := Scalar.divsi v57 c1_i32_39
  let c1_i32_38 : BitVec 32 := 1#32
  let v59 : BitVec 32 := Scalar.remsi v58 c1_i32_38
  let c1_i32_53 : BitVec 32 := 1#32
  let v74 : BitVec 32 := Scalar.muli v59 c1_i32_53
  let v75 : BitVec 32 := Scalar.addi v73 v74
  v75.toNat
def k0_off2 (d19 : Dev nD) : Fin 4 → Nat :=
  let c2_i32_45 : BitVec 32 := 2#32
  let v51 : BitVec 32 := Dev.word d19
  let c2_i32_35 : BitVec 32 := 2#32
  let v52 : BitVec 32 := Scalar.divsi v51 c2_i32_35
  let c2_i32_34 : BitVec 32 := 2#32
  let v53 : BitVec 32 := Scalar.remsi v52 c2_i32_34
  let v66 : BitVec 32 := Scalar.muli c2_i32_45 v53
  let c1_i32_41 : BitVec 32 := 1#32
  let v54 : BitVec 32 := Dev.word d19
  let c1_i32_37 : BitVec 32 := 1#32
  let v55 : BitVec 32 := Scalar.divsi v54 c1_i32_37
  let c2_i32_36 : BitVec 32 := 2#32
  let v56 : BitVec 32 := Scalar.remsi v55 c2_i32_36
  let v61 : BitVec 32 := Scalar.subi c1_i32_41 v56
  let v67 : BitVec 32 := Scalar.addi v66 v61
  let c0_i32_70 : BitVec 32 := 0#32
  let c0_i32_71 : BitVec 32 := 0#32
  let c0_i32_72 : BitVec 32 := 0#32
  ![v67.toNat, 0, 0, 0]
def k0_dev5 (d19 : Dev nD) : Nat :=
  let c0_i32_64 : BitVec 32 := 0#32
  let v51 : BitVec 32 := Dev.word d19
  let c2_i32_35 : BitVec 32 := 2#32
  let v52 : BitVec 32 := Scalar.divsi v51 c2_i32_35
  let c2_i32_34 : BitVec 32 := 2#32
  let v53 : BitVec 32 := Scalar.remsi v52 c2_i32_34
  let c2_i32_63 : BitVec 32 := 2#32
  let v84 : BitVec 32 := Scalar.muli v53 c2_i32_63
  let v85 : BitVec 32 := Scalar.addi c0_i32_64 v84
  let c1_i32_41 : BitVec 32 := 1#32
  let v54 : BitVec 32 := Dev.word d19
  let c1_i32_37 : BitVec 32 := 1#32
  let v55 : BitVec 32 := Scalar.divsi v54 c1_i32_37
  let c2_i32_36 : BitVec 32 := 2#32
  let v56 : BitVec 32 := Scalar.remsi v55 c2_i32_36
  let v61 : BitVec 32 := Scalar.subi c1_i32_41 v56
  let c1_i32_65 : BitVec 32 := 1#32
  let v86 : BitVec 32 := Scalar.muli v61 c1_i32_65
  let v87 : BitVec 32 := Scalar.addi v85 v86
  let v57 : BitVec 32 := Dev.word d19
  let c1_i32_39 : BitVec 32 := 1#32
  let v58 : BitVec 32 := Scalar.divsi v57 c1_i32_39
  let c1_i32_38 : BitVec 32 := 1#32
  let v59 : BitVec 32 := Scalar.remsi v58 c1_i32_38
  let c1_i32_66 : BitVec 32 := 1#32
  let v88 : BitVec 32 := Scalar.muli v59 c1_i32_66
  let v89 : BitVec 32 := Scalar.addi v87 v88
  v89.toNat
def k0_off3 (d19 : Dev nD) : Fin 4 → Nat :=
  let c2_i32_46 : BitVec 32 := 2#32
  let c1_i32_42 : BitVec 32 := 1#32
  let v51 : BitVec 32 := Dev.word d19
  let c2_i32_35 : BitVec 32 := 2#32
  let v52 : BitVec 32 := Scalar.divsi v51 c2_i32_35
  let c2_i32_34 : BitVec 32 := 2#32
  let v53 : BitVec 32 := Scalar.remsi v52 c2_i32_34
  let v62 : BitVec 32 := Scalar.subi c1_i32_42 v53
  let v68 : BitVec 32 := Scalar.muli c2_i32_46 v62
  let c1_i32_43 : BitVec 32 := 1#32
  let v54 : BitVec 32 := Dev.word d19
  let c1_i32_37 : BitVec 32 := 1#32
  let v55 : BitVec 32 := Scalar.divsi v54 c1_i32_37
  let c2_i32_36 : BitVec 32 := 2#32
  let v56 : BitVec 32 := Scalar.remsi v55 c2_i32_36
  let v63 : BitVec 32 := Scalar.subi c1_i32_43 v56
  let v69 : BitVec 32 := Scalar.addi v68 v63
  let c0_i32_83 : BitVec 32 := 0#32
  let c0_i32_84 : BitVec 32 := 0#32
  let c0_i32_85 : BitVec 32 := 0#32
  ![v69.toNat, 0, 0, 0]
def k0_dev6 (d19 : Dev nD) : Nat :=
  let c0_i32_77 : BitVec 32 := 0#32
  let c1_i32_42 : BitVec 32 := 1#32
  let v51 : BitVec 32 := Dev.word d19
  let c2_i32_35 : BitVec 32 := 2#32
  let v52 : BitVec 32 := Scalar.divsi v51 c2_i32_35
  let c2_i32_34 : BitVec 32 := 2#32
  let v53 : BitVec 32 := Scalar.remsi v52 c2_i32_34
  let v62 : BitVec 32 := Scalar.subi c1_i32_42 v53
  let c2_i32_76 : BitVec 32 := 2#32
  let v98 : BitVec 32 := Scalar.muli v62 c2_i32_76
  let v99 : BitVec 32 := Scalar.addi c0_i32_77 v98
  let c1_i32_43 : BitVec 32 := 1#32
  let v54 : BitVec 32 := Dev.word d19
  let c1_i32_37 : BitVec 32 := 1#32
  let v55 : BitVec 32 := Scalar.divsi v54 c1_i32_37
  let c2_i32_36 : BitVec 32 := 2#32
  let v56 : BitVec 32 := Scalar.remsi v55 c2_i32_36
  let v63 : BitVec 32 := Scalar.subi c1_i32_43 v56
  let c1_i32_78 : BitVec 32 := 1#32
  let v100 : BitVec 32 := Scalar.muli v63 c1_i32_78
  let v101 : BitVec 32 := Scalar.addi v99 v100
  let v57 : BitVec 32 := Dev.word d19
  let c1_i32_39 : BitVec 32 := 1#32
  let v58 : BitVec 32 := Scalar.divsi v57 c1_i32_39
  let c1_i32_38 : BitVec 32 := 1#32
  let v59 : BitVec 32 := Scalar.remsi v58 c1_i32_38
  let c1_i32_79 : BitVec 32 := 1#32
  let v102 : BitVec 32 := Scalar.muli v59 c1_i32_79
  let v103 : BitVec 32 := Scalar.addi v101 v102
  v103.toNat
def k0_cond2 (i : grid0.Coords) : BitVec 1 :=
  let arg0 : BitVec 32 := BitVec.ofNat 32 (i 0).val
  let c11_i32 : BitVec 32 := 11#32
  let v1 : BitVec 1 := Scalar.cmpi .eq arg0 c11_i32
  let arg1 : BitVec 32 := BitVec.ofNat 32 (i 1).val
  let c0_i32_1 : BitVec 32 := 0#32
  let v4 : BitVec 1 := Scalar.cmpi .eq arg1 c0_i32_1
  let v5 : BitVec 1 := Scalar.andi v1 v4
  let v17 : BitVec 32 := Scalar.extui v5
  let c0_i32_10 : BitVec 32 := 0#32
  let v18 : BitVec 1 := Scalar.cmpi .ne v17 c0_i32_10
  v18

def k0_off4 (d19 : Dev nD) : Fin 4 → Nat :=
  let c2_i32_19 : BitVec 32 := 2#32
  let c1_i32_15 : BitVec 32 := 1#32
  let v19 : BitVec 32 := Dev.word d19
  let c2_i32_11 : BitVec 32 := 2#32
  let v20 : BitVec 32 := Scalar.divsi v19 c2_i32_11
  let c2_i32 : BitVec 32 := 2#32
  let v21 : BitVec 32 := Scalar.remsi v20 c2_i32
  let v28 : BitVec 32 := Scalar.subi c1_i32_15 v21
  let v32 : BitVec 32 := Scalar.muli c2_i32_19 v28
  let v22 : BitVec 32 := Dev.word d19
  let c1_i32 : BitVec 32 := 1#32
  let v23 : BitVec 32 := Scalar.divsi v22 c1_i32
  let c2_i32_12 : BitVec 32 := 2#32
  let v24 : BitVec 32 := Scalar.remsi v23 c2_i32_12
  let v33 : BitVec 32 := Scalar.addi v32 v24
  let c0_i32_26 : BitVec 32 := 0#32
  let c0_i32_27 : BitVec 32 := 0#32
  let c0_i32_28 : BitVec 32 := 0#32
  ![v33.toNat, 0, 0, 0]
def k0_off5 (d19 : Dev nD) : Fin 4 → Nat :=
  let c2_i32_20 : BitVec 32 := 2#32
  let v19 : BitVec 32 := Dev.word d19
  let c2_i32_11 : BitVec 32 := 2#32
  let v20 : BitVec 32 := Scalar.divsi v19 c2_i32_11
  let c2_i32 : BitVec 32 := 2#32
  let v21 : BitVec 32 := Scalar.remsi v20 c2_i32
  let v34 : BitVec 32 := Scalar.muli c2_i32_20 v21
  let c1_i32_16 : BitVec 32 := 1#32
  let v22 : BitVec 32 := Dev.word d19
  let c1_i32 : BitVec 32 := 1#32
  let v23 : BitVec 32 := Scalar.divsi v22 c1_i32
  let c2_i32_12 : BitVec 32 := 2#32
  let v24 : BitVec 32 := Scalar.remsi v23 c2_i32_12
  let v29 : BitVec 32 := Scalar.subi c1_i32_16 v24
  let v35 : BitVec 32 := Scalar.addi v34 v29
  let c0_i32_49 : BitVec 32 := 0#32
  let c0_i32_50 : BitVec 32 := 0#32
  let c0_i32_51 : BitVec 32 := 0#32
  ![v35.toNat, 0, 0, 0]
def k0_off6 (d19 : Dev nD) : Fin 4 → Nat :=
  let c2_i32_21 : BitVec 32 := 2#32
  let c1_i32_17 : BitVec 32 := 1#32
  let v19 : BitVec 32 := Dev.word d19
  let c2_i32_11 : BitVec 32 := 2#32
  let v20 : BitVec 32 := Scalar.divsi v19 c2_i32_11
  let c2_i32 : BitVec 32 := 2#32
  let v21 : BitVec 32 := Scalar.remsi v20 c2_i32
  let v30 : BitVec 32 := Scalar.subi c1_i32_17 v21
  let v36 : BitVec 32 := Scalar.muli c2_i32_21 v30
  let c1_i32_18 : BitVec 32 := 1#32
  let v22 : BitVec 32 := Dev.word d19
  let c1_i32 : BitVec 32 := 1#32
  let v23 : BitVec 32 := Scalar.divsi v22 c1_i32
  let c2_i32_12 : BitVec 32 := 2#32
  let v24 : BitVec 32 := Scalar.remsi v23 c2_i32_12
  let v31 : BitVec 32 := Scalar.subi c1_i32_18 v24
  let v37 : BitVec 32 := Scalar.addi v36 v31
  let c0_i32_72 : BitVec 32 := 0#32
  let c0_i32_73 : BitVec 32 := 0#32
  let c0_i32_74 : BitVec 32 := 0#32
  ![v37.toNat, 0, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 1 := Scalar.cmpi .slt v16 c4_i32
  let c3_i32 : BitVec 32 := 3#32
  let v18 : BitVec 32 := Scalar.addi v16 c3_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v18 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.select v17 v28 v16
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi arg0 v31
  let c0_i32_13 : BitVec 32 := 0#32
  let v33 : BitVec 1 := Scalar.cmpi .ne v32 c0_i32_13
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let v37 : BitVec 1 := Scalar.andi v36 v33
  let v38 : BitVec 32 := Scalar.addi v32 v31
  let v39 : BitVec 32 := Scalar.select v37 v38 v32
  let c0_i32_16 : BitVec 32 := 0#32
  ![v29.toNat, arg1.toNat, v39.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S16384x1024 : Shape := ⟨2, ![16384, 1024]⟩
abbrev S6x16384x1024 : Shape := ⟨3, ![6, 16384, 1024]⟩
abbrev S16x3x128x1024 : Shape := ⟨4, ![16, 3, 128, 1024]⟩
abbrev S4x4096x1024 : Shape := ⟨3, ![4, 4096, 1024]⟩
abbrev S6x4x4096x1024 : Shape := ⟨4, ![6, 4, 4096, 1024]⟩
abbrev S1x4x4096x1024 : Shape := ⟨4, ![1, 4, 4096, 1024]⟩
abbrev S3x4x4096x1024 : Shape := ⟨4, ![3, 4, 4096, 1024]⟩
abbrev S2x4x4096x1024 : Shape := ⟨4, ![2, 4, 4096, 1024]⟩
abbrev S4x4096x6x1024 : Shape := ⟨4, ![4, 4096, 6, 1024]⟩
abbrev S4x4096x6144 : Shape := ⟨3, ![4, 4096, 6144]⟩
abbrev S_ : Shape := ⟨0, ![]⟩
abbrev S4x1024x6144 : Shape := ⟨3, ![4, 1024, 6144]⟩
abbrev S4x6144x1024 : Shape := ⟨3, ![4, 6144, 1024]⟩
abbrev S4x1024x4x1536 : Shape := ⟨4, ![4, 1024, 4, 1536]⟩
abbrev S4x4x1024x1536 : Shape := ⟨4, ![4, 4, 1024, 1536]⟩
abbrev S16x1024x1536 : Shape := ⟨3, ![16, 1024, 1536]⟩
abbrev S1x3x128x1024 : Shape := ⟨4, ![1, 3, 128, 1024]⟩
abbrev S12x3x128x1024 : Shape := ⟨4, ![12, 3, 128, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S6x16384x1024, .bf16⟩
  | .hbm, ⟨2, _⟩ => ⟨S16x3x128x1024, .bf16⟩
  | .hbm, ⟨3, _⟩ => ⟨S16384x1024, .f32⟩
  | .hbm, ⟨4, _⟩ => ⟨S4x4096x1024, .f32⟩
  | .hbm, ⟨5, _⟩ => ⟨S6x16384x1024, .f32⟩
  | .hbm, ⟨6, _⟩ => ⟨S6x4x4096x1024, .f32⟩
  | .hbm, ⟨7, _⟩ => ⟨S1x4x4096x1024, .f32⟩
  | .hbm, ⟨8, _⟩ => ⟨S3x4x4096x1024, .f32⟩
  | .hbm, ⟨9, _⟩ => ⟨S2x4x4096x1024, .f32⟩
  | .hbm, ⟨10, _⟩ => ⟨S6x4x4096x1024, .f32⟩
  | .hbm, ⟨11, _⟩ => ⟨S4x4096x6x1024, .f32⟩
  | .hbm, ⟨12, _⟩ => ⟨S4x4096x6144, .f32⟩
  | .hbm, ⟨13, _⟩ => ⟨S_, .f32⟩
  | .hbm, ⟨14, _⟩ => ⟨S4x1024x6144, .f32⟩
  | .hbm, ⟨15, _⟩ => ⟨S4x4096x6144, .f32⟩
  | .hbm, ⟨16, _⟩ => ⟨S4x6144x1024, .f32⟩
  | .hbm, ⟨17, _⟩ => ⟨S4x1024x6144, .f32⟩
  | .hbm, ⟨18, _⟩ => ⟨S4x1024x4x1536, .f32⟩
  | .hbm, ⟨19, _⟩ => ⟨S4x4x1024x1536, .f32⟩
  | .hbm, ⟨20, _⟩ => ⟨S16x1024x1536, .f32⟩
  | .hbm, ⟨21, _⟩ => ⟨S16x1024x1536, .bf16⟩
  | .hbm, ⟨22, _⟩ => ⟨S1x3x128x1024, .bf16⟩
  | .hbm, ⟨23, _⟩ => ⟨S1x3x128x1024, .bf16⟩
  | .hbm, ⟨24, _⟩ => ⟨S1x3x128x1024, .bf16⟩
  | .hbm, ⟨25, _⟩ => ⟨S1x3x128x1024, .bf16⟩
  | .hbm, ⟨26, _⟩ => ⟨S1x3x128x1024, .bf16⟩
  | .hbm, ⟨27, _⟩ => ⟨S1x3x128x1024, .bf16⟩
  | .hbm, ⟨28, _⟩ => ⟨S1x3x128x1024, .bf16⟩
  | .hbm, ⟨29, _⟩ => ⟨S1x3x128x1024, .bf16⟩
  | .hbm, ⟨30, _⟩ => ⟨S1x3x128x1024, .bf16⟩
  | .hbm, ⟨31, _⟩ => ⟨S1x3x128x1024, .bf16⟩
  | .hbm, ⟨32, _⟩ => ⟨S1x3x128x1024, .bf16⟩
  | .hbm, ⟨33, _⟩ => ⟨S1x3x128x1024, .bf16⟩
  | .hbm, ⟨34, _⟩ => ⟨S12x3x128x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== Kernel7.lean ====
abbrev S4096x1024 : Shape := ⟨2, ![4096, 1024]⟩
abbrev S2816x1024 : Shape := ⟨2, ![2816, 1024]⟩
abbrev S4096x2816 : Shape := ⟨2, ![4096, 2816]⟩
abbrev S4x352x1024 : Shape := ⟨3, ![4, 352, 1024]⟩
abbrev S512x1024 : Shape := ⟨2, ![512, 1024]⟩
abbrev S512x2816 : Shape := ⟨2, ![512, 2816]⟩
abbrev S4 : Shape := ⟨1, ![4]⟩
abbrev S_ : Shape := ⟨0, ![]⟩
abbrev S1 : Shape := ⟨1, ![1]⟩
abbrev S1x352x1024 : Shape := ⟨3, ![1, 352, 1024]⟩
abbrev S352x1024 : Shape := ⟨2, ![352, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x2816, .bf16⟩
  | .hbm, ⟨4, _⟩ => ⟨S4x352x1024, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev barrier0 : Sem sig := 0

abbrev nD : Nat := 2
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v2 : BitVec 32 := Scalar.extui v0
  let c0_i32_0 : BitVec 32 := 0#32
  let v3 : BitVec 1 := Scalar.cmpi .ne v2 c0_i32_0
  v3

def k0_dev1 (d13 : Dev nD) : Nat :=
  let c0_i32_14 : BitVec 32 := 0#32
  let v13 : BitVec 32 := Dev.word d13
  let c2_i32 : BitVec 32 := 2#32
  let v14 : BitVec 32 := Scalar.divsi v13 c2_i32
  let c1_i32 : BitVec 32 := 1#32
  let v15 : BitVec 32 := Scalar.remsi v14 c1_i32
  let c2_i32_13 : BitVec 32 := 2#32
  let v24 : BitVec 32 := Scalar.muli v15 c2_i32_13
  let v25 : BitVec 32 := Scalar.addi c0_i32_14 v24
  let v16 : BitVec 32 := Dev.word d13
  let c2_i32_8 : BitVec 32 := 2#32
  let v17 : BitVec 32 := Scalar.divsi v16 c2_i32_8
  let c1_i32_7 : BitVec 32 := 1#32
  let v18 : BitVec 32 := Scalar.remsi v17 c1_i32_7
  let c2_i32_15 : BitVec 32 := 2#32
  let v26 : BitVec 32 := Scalar.muli v18 c2_i32_15
  let v27 : BitVec 32 := Scalar.addi v25 v26
  let c1_i32_11 : BitVec 32 := 1#32
  let v19 : BitVec 32 := Dev.word d13
  let c1_i32_10 : BitVec 32 := 1#32
  let v20 : BitVec 32 := Scalar.divsi v19 c1_i32_10
  let c2_i32_9 : BitVec 32 := 2#32
  let v21 : BitVec 32 := Scalar.remsi v20 c2_i32_9
  let v23 : BitVec 32 := Scalar.subi c1_i32_11 v21
  let c1_i32_16 : BitVec 32 := 1#32
  let v28 : BitVec 32 := Scalar.muli v23 c1_i32_16
  let v29 : BitVec 32 := Scalar.addi v27 v28
  v29.toNat
def k0_mult1 (d13 : Dev nD) : BitVec 32 :=
  let c0_i32_25 : BitVec 32 := 0#32
  let c1_i32_24 : BitVec 32 := 1#32
  let v36 : BitVec 32 := Dev.word d13
  let c1_i32_23 : BitVec 32 := 1#32
  let v37 : BitVec 32 := Scalar.divsi v36 c1_i32_23
  let c2_i32_22 : BitVec 32 := 2#32
  let v38 : BitVec 32 := Scalar.remsi v37 c2_i32_22
  let v39 : BitVec 32 := Scalar.subi c1_i32_24 v38
  let v40 : BitVec 32 := Scalar.addi c0_i32_25 v39
  let c352_i32 : BitVec 32 := 352#32
  let v41 : BitVec 32 := Scalar.muli v40 c352_i32
  v41
def k0_mult2 (d13 : Dev nD) : BitVec 32 :=
  let c2_i32_28 : BitVec 32 := 2#32
  let c1_i32_27 : BitVec 32 := 1#32
  let v36 : BitVec 32 := Dev.word d13
  let c1_i32_23 : BitVec 32 := 1#32
  let v37 : BitVec 32 := Scalar.divsi v36 c1_i32_23
  let c2_i32_22 : BitVec 32 := 2#32
  let v38 : BitVec 32 := Scalar.remsi v37 c2_i32_22
  let v44 : BitVec 32 := Scalar.subi c1_i32_27 v38
  let v45 : BitVec 32 := Scalar.addi c2_i32_28 v44
  let c352_i32_29 : BitVec 32 := 352#32
  let v46 : BitVec 32 := Scalar.muli v45 c352_i32_29
  v46
def k0_mult3 (d13 : Dev nD) : BitVec 32 :=
  let c4_i32 : BitVec 32 := 4#32
  let c1_i32_31 : BitVec 32 := 1#32
  let v36 : BitVec 32 := Dev.word d13
  let c1_i32_23 : BitVec 32 := 1#32
  let v37 : BitVec 32 := Scalar.divsi v36 c1_i32_23
  let c2_i32_22 : BitVec 32 := 2#32
  let v38 : BitVec 32 := Scalar.remsi v37 c2_i32_22
  let v49 : BitVec 32 := Scalar.subi c1_i32_31 v38
  let v50 : BitVec 32 := Scalar.addi c4_i32 v49
  let c352_i32_32 : BitVec 32 := 352#32
  let v51 : BitVec 32 := Scalar.muli v50 c352_i32_32
  v51
def k0_mult4 (d13 : Dev nD) : BitVec 32 :=
  let c6_i32 : BitVec 32 := 6#32
  let c1_i32_34 : BitVec 32 := 1#32
  let v36 : BitVec 32 := Dev.word d13
  let c1_i32_23 : BitVec 32 := 1#32
  let v37 : BitVec 32 := Scalar.divsi v36 c1_i32_23
  let c2_i32_22 : BitVec 32 := 2#32
  let v38 : BitVec 32 := Scalar.remsi v37 c2_i32_22
  let v54 : BitVec 32 := Scalar.subi c1_i32_34 v38
  let v55 : BitVec 32 := Scalar.addi c6_i32 v54
  let c352_i32_35 : BitVec 32 := 352#32
  let v56 : BitVec 32 := Scalar.muli v55 c352_i32_35
  v56
def k0_off1 (d13 : Dev nD) (c0_i32_25 : BitVec 32) : Fin 2 → Nat :=
  let c1_i32_24 : BitVec 32 := 1#32
  let v36 : BitVec 32 := Dev.word d13
  let c1_i32_23 : BitVec 32 := 1#32
  let v37 : BitVec 32 := Scalar.divsi v36 c1_i32_23
  let c2_i32_22 : BitVec 32 := 2#32
  let v38 : BitVec 32 := Scalar.remsi v37 c2_i32_22
  let v39 : BitVec 32 := Scalar.subi c1_i32_24 v38
  let v40 : BitVec 32 := Scalar.addi c0_i32_25 v39
  let c352_i32 : BitVec 32 := 352#32
  let v41 : BitVec 32 := Scalar.muli v40 c352_i32
  let v42 : BitVec 32 := v41
  let c0_i32_46 : BitVec 32 := 0#32
  ![v42.toNat, 0]
def k0_dev2 (d13 : Dev nD) : Nat :=
  let c0_i32_41 : BitVec 32 := 0#32
  let v30 : BitVec 32 := Dev.word d13
  let c2_i32_19 : BitVec 32 := 2#32
  let v31 : BitVec 32 := Scalar.divsi v30 c2_i32_19
  let c1_i32_18 : BitVec 32 := 1#32
  let v32 : BitVec 32 := Scalar.remsi v31 c1_i32_18
  let c2_i32_40 : BitVec 32 := 2#32
  let v59 : BitVec 32 := Scalar.muli v32 c2_i32_40
  let v60 : BitVec 32 := Scalar.addi c0_i32_41 v59
  let v33 : BitVec 32 := Dev.word d13
  let c2_i32_21 : BitVec 32 := 2#32
  let v34 : BitVec 32 := Scalar.divsi v33 c2_i32_21
  let c1_i32_20 : BitVec 32 := 1#32
  let v35 : BitVec 32 := Scalar.remsi v34 c1_i32_20
  let c2_i32_42 : BitVec 32 := 2#32
  let v61 : BitVec 32 := Scalar.muli v35 c2_i32_42
  let v62 : BitVec 32 := Scalar.addi v60 v61
  let c1_i32_26 : BitVec 32 := 1#32
  let v36 : BitVec 32 := Dev.word d13
  let c1_i32_23 : BitVec 32 := 1#32
  let v37 : BitVec 32 := Scalar.divsi v36 c1_i32_23
  let c2_i32_22 : BitVec 32 := 2#32
  let v38 : BitVec 32 := Scalar.remsi v37 c2_i32_22
  let v43 : BitVec 32 := Scalar.subi c1_i32_26 v38
  let c1_i32_43 : BitVec 32 := 1#32
  let v63 : BitVec 32 := Scalar.muli v43 c1_i32_43
  let v64 : BitVec 32 := Scalar.addi v62 v63
  v64.toNat
def k0_dev3 (d13 : Dev nD) : Nat :=
  let c0_i32_51 : BitVec 32 := 0#32
  let v30 : BitVec 32 := Dev.word d13
  let c2_i32_19 : BitVec 32 := 2#32
  let v31 : BitVec 32 := Scalar.divsi v30 c2_i32_19
  let c1_i32_18 : BitVec 32 := 1#32
  let v32 : BitVec 32 := Scalar.remsi v31 c1_i32_18
  let c2_i32_50 : BitVec 32 := 2#32
  let v72 : BitVec 32 := Scalar.muli v32 c2_i32_50
  let v73 : BitVec 32 := Scalar.addi c0_i32_51 v72
  let v33 : BitVec 32 := Dev.word d13
  let c2_i32_21 : BitVec 32 := 2#32
  let v34 : BitVec 32 := Scalar.divsi v33 c2_i32_21
  let c1_i32_20 : BitVec 32 := 1#32
  let v35 : BitVec 32 := Scalar.remsi v34 c1_i32_20
  let c2_i32_52 : BitVec 32 := 2#32
  let v74 : BitVec 32 := Scalar.muli v35 c2_i32_52
  let v75 : BitVec 32 := Scalar.addi v73 v74
  let c1_i32_30 : BitVec 32 := 1#32
  let v36 : BitVec 32 := Dev.word d13
  let c1_i32_23 : BitVec 32 := 1#32
  let v37 : BitVec 32 := Scalar.divsi v36 c1_i32_23
  let c2_i32_22 : BitVec 32 := 2#32
  let v38 : BitVec 32 := Scalar.remsi v37 c2_i32_22
  let v48 : BitVec 32 := Scalar.subi c1_i32_30 v38
  let c1_i32_53 : BitVec 32 := 1#32
  let v76 : BitVec 32 := Scalar.muli v48 c1_i32_53
  let v77 : BitVec 32 := Scalar.addi v75 v76
  v77.toNat
def k0_dev4 (d13 : Dev nD) : Nat :=
  let c0_i32_61 : BitVec 32 := 0#32
  let v30 : BitVec 32 := Dev.word d13
  let c2_i32_19 : BitVec 32 := 2#32
  let v31 : BitVec 32 := Scalar.divsi v30 c2_i32_19
  let c1_i32_18 : BitVec 32 := 1#32
  let v32 : BitVec 32 := Scalar.remsi v31 c1_i32_18
  let c2_i32_60 : BitVec 32 := 2#32
  let v85 : BitVec 32 := Scalar.muli v32 c2_i32_60
  let v86 : BitVec 32 := Scalar.addi c0_i32_61 v85
  let v33 : BitVec 32 := Dev.word d13
  let c2_i32_21 : BitVec 32 := 2#32
  let v34 : BitVec 32 := Scalar.divsi v33 c2_i32_21
  let c1_i32_20 : BitVec 32 := 1#32
  let v35 : BitVec 32 := Scalar.remsi v34 c1_i32_20
  let c2_i32_62 : BitVec 32 := 2#32
  let v87 : BitVec 32 := Scalar.muli v35 c2_i32_62
  let v88 : BitVec 32 := Scalar.addi v86 v87
  let c1_i32_33 : BitVec 32 := 1#32
  let v36 : BitVec 32 := Dev.word d13
  let c1_i32_23 : BitVec 32 := 1#32
  let v37 : BitVec 32 := Scalar.divsi v36 c1_i32_23
  let c2_i32_22 : BitVec 32 := 2#32
  let v38 : BitVec 32 := Scalar.remsi v37 c2_i32_22
  let v53 : BitVec 32 := Scalar.subi c1_i32_33 v38
  let c1_i32_63 : BitVec 32 := 1#32
  let v89 : BitVec 32 := Scalar.muli v53 c1_i32_63
  let v90 : BitVec 32 := Scalar.addi v88 v89
  v90.toNat
def k0_dev5 (d13 : Dev nD) : Nat :=
  let c0_i32_70 : BitVec 32 := 0#32
  let v30 : BitVec 32 := Dev.word d13
  let c2_i32_19 : BitVec 32 := 2#32
  let v31 : BitVec 32 := Scalar.divsi v30 c2_i32_19
  let c1_i32_18 : BitVec 32 := 1#32
  let v32 : BitVec 32 := Scalar.remsi v31 c1_i32_18
  let c2_i32_69 : BitVec 32 := 2#32
  let v98 : BitVec 32 := Scalar.muli v32 c2_i32_69
  let v99 : BitVec 32 := Scalar.addi c0_i32_70 v98
  let v33 : BitVec 32 := Dev.word d13
  let c2_i32_21 : BitVec 32 := 2#32
  let v34 : BitVec 32 := Scalar.divsi v33 c2_i32_21
  let c1_i32_20 : BitVec 32 := 1#32
  let v35 : BitVec 32 := Scalar.remsi v34 c1_i32_20
  let c2_i32_71 : BitVec 32 := 2#32
  let v100 : BitVec 32 := Scalar.muli v35 c2_i32_71
  let v101 : BitVec 32 := Scalar.addi v99 v100
  let c1_i32_36 : BitVec 32 := 1#32
  let v36 : BitVec 32 := Dev.word d13
  let c1_i32_23 : BitVec 32 := 1#32
  let v37 : BitVec 32 := Scalar.divsi v36 c1_i32_23
  let c2_i32_22 : BitVec 32 := 2#32
  let v38 : BitVec 32 := Scalar.remsi v37 c2_i32_22
  let v58 : BitVec 32 := Scalar.subi c1_i32_36 v38
  let c1_i32_72 : BitVec 32 := 1#32
  let v102 : BitVec 32 := Scalar.muli v58 c1_i32_72
  let v103 : BitVec 32 := Scalar.addi v101 v102
  v103.toNat
def k0_cond2 (i : grid0.Coords) : BitVec 1 :=
  let arg0 : BitVec 32 := BitVec.ofNat 32 (i 0).val
  let c7_i32 : BitVec 32 := 7#32
  let v1 : BitVec 1 := Scalar.cmpi .eq arg0 c7_i32
  let v11 : BitVec 32 := Scalar.extui v1
  let c0_i32_6 : BitVec 32 := 0#32
  let v12 : BitVec 1 := Scalar.cmpi .ne v11 c0_i32_6
  v12

def k0_mult5 (d13 : Dev nD) : BitVec 32 :=
  let c0_i32_12 : BitVec 32 := 0#32
  let c1_i32_11 : BitVec 32 := 1#32
  let v19 : BitVec 32 := Dev.word d13
  let c1_i32_10 : BitVec 32 := 1#32
  let v20 : BitVec 32 := Scalar.divsi v19 c1_i32_10
  let c2_i32_9 : BitVec 32 := 2#32
  let v21 : BitVec 32 := Scalar.remsi v20 c2_i32_9
  let v22 : BitVec 32 := Scalar.subi c1_i32_11 v21
  let v23 : BitVec 32 := Scalar.addi c0_i32_12 v22
  let c352_i32 : BitVec 32 := 352#32
  let v24 : BitVec 32 := Scalar.muli v23 c352_i32
  v24
def k0_mult6 (d13 : Dev nD) : BitVec 32 :=
  let c2_i32_15 : BitVec 32 := 2#32
  let c1_i32_14 : BitVec 32 := 1#32
  let v19 : BitVec 32 := Dev.word d13
  let c1_i32_10 : BitVec 32 := 1#32
  let v20 : BitVec 32 := Scalar.divsi v19 c1_i32_10
  let c2_i32_9 : BitVec 32 := 2#32
  let v21 : BitVec 32 := Scalar.remsi v20 c2_i32_9
  let v27 : BitVec 32 := Scalar.subi c1_i32_14 v21
  let v28 : BitVec 32 := Scalar.addi c2_i32_15 v27
  let c352_i32_16 : BitVec 32 := 352#32
  let v29 : BitVec 32 := Scalar.muli v28 c352_i32_16
  v29
def k0_mult7 (d13 : Dev nD) : BitVec 32 :=
  let c4_i32 : BitVec 32 := 4#32
  let c1_i32_18 : BitVec 32 := 1#32
  let v19 : BitVec 32 := Dev.word d13
  let c1_i32_10 : BitVec 32 := 1#32
  let v20 : BitVec 32 := Scalar.divsi v19 c1_i32_10
  let c2_i32_9 : BitVec 32 := 2#32
  let v21 : BitVec 32 := Scalar.remsi v20 c2_i32_9
  let v32 : BitVec 32 := Scalar.subi c1_i32_18 v21
  let v33 : BitVec 32 := Scalar.addi c4_i32 v32
  let c352_i32_19 : BitVec 32 := 352#32
  let v34 : BitVec 32 := Scalar.muli v33 c352_i32_19
  v34
def k0_mult8 (d13 : Dev nD) : BitVec 32 :=
  let c6_i32 : BitVec 32 := 6#32
  let c1_i32_21 : BitVec 32 := 1#32
  let v19 : BitVec 32 := Dev.word d13
  let c1_i32_10 : BitVec 32 := 1#32
  let v20 : BitVec 32 := Scalar.divsi v19 c1_i32_10
  let c2_i32_9 : BitVec 32 := 2#32
  let v21 : BitVec 32 := Scalar.remsi v20 c2_i32_9
  let v37 : BitVec 32 := Scalar.subi c1_i32_21 v21
  let v38 : BitVec 32 := Scalar.addi c6_i32 v37
  let c352_i32_22 : BitVec 32 := 352#32
  let v39 : BitVec 32 := Scalar.muli v38 c352_i32_22
  v39
def k0_off2 (d13 : Dev nD) (c0_i32_12 : BitVec 32) : Fin 2 → Nat :=
  let c1_i32_11 : BitVec 32 := 1#32
  let v19 : BitVec 32 := Dev.word d13
  let c1_i32_10 : BitVec 32 := 1#32
  let v20 : BitVec 32 := Scalar.divsi v19 c1_i32_10
  let c2_i32_9 : BitVec 32 := 2#32
  let v21 : BitVec 32 := Scalar.remsi v20 c2_i32_9
  let v22 : BitVec 32 := Scalar.subi c1_i32_11 v21
  let v23 : BitVec 32 := Scalar.addi c0_i32_12 v22
  let c352_i32 : BitVec 32 := 352#32
  let v24 : BitVec 32 := Scalar.muli v23 c352_i32
  let v25 : BitVec 32 := v24
  let c0_i32_28 : BitVec 32 := 0#32
  ![v25.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x1024 : Shape := ⟨2, ![8192, 1024]⟩
abbrev S2816x1024 : Shape := ⟨2, ![2816, 1024]⟩
abbrev S5632x1024 : Shape := ⟨2, ![5632, 1024]⟩
abbrev S_ : Shape := ⟨0, ![]⟩
abbrev S8192x2816 : Shape := ⟨2, ![8192, 2816]⟩
abbrev S16x352x1024 : Shape := ⟨3, ![16, 352, 1024]⟩
abbrev S4x352x1024 : Shape := ⟨3, ![4, 352, 1024]⟩
abbrev S8x352x1024 : Shape := ⟨3, ![8, 352, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S5632x1024, .bf16⟩
  | .hbm, ⟨3, _⟩ => ⟨S2816x1024, .f32⟩
  | .hbm, ⟨4, _⟩ => ⟨S_, .f32⟩
  | .hbm, ⟨5, _⟩ => ⟨S8192x2816, .f32⟩
  | .hbm, ⟨6, _⟩ => ⟨S8192x1024, .f32⟩
  | .hbm, ⟨7, _⟩ => ⟨S8192x1024, .f32⟩
  | .hbm, ⟨8, _⟩ => ⟨S8192x2816, .f32⟩
  | .hbm, ⟨9, _⟩ => ⟨S16x352x1024, .bf16⟩
  | .hbm, ⟨10, _⟩ => ⟨S8192x2816, .bf16⟩
  | .hbm, ⟨11, _⟩ => ⟨S4x352x1024, .bf16⟩
  | .hbm, ⟨12, _⟩ => ⟨S4x352x1024, .bf16⟩
  | .hbm, ⟨13, _⟩ => ⟨S8x352x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel8.lean ====
abbrev S3x4096x1024 : Shape := ⟨3, ![3, 4096, 1024]⟩
abbrev S4x512x1408 : Shape := ⟨3, ![4, 512, 1408]⟩
abbrev S3x512x1408 : Shape := ⟨3, ![3, 512, 1408]⟩
abbrev S3x1024x1024 : Shape := ⟨3, ![3, 1024, 1024]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S3 : Shape := ⟨1, ![3]⟩
abbrev S_ : Shape := ⟨0, ![]⟩
abbrev S1 : Shape := ⟨1, ![1]⟩
abbrev S1x512x1408 : Shape := ⟨3, ![1, 512, 1408]⟩
abbrev S512x1408 : Shape := ⟨2, ![512, 1408]⟩
abbrev S256x1408 : Shape := ⟨2, ![256, 1408]⟩
abbrev S1x256x1408 : Shape := ⟨3, ![1, 256, 1408]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S3x4096x1024, .bf16⟩
  | .hbm, ⟨1, _⟩ => ⟨S3x4096x1024, .bf16⟩
  | .hbm, ⟨2, _⟩ => ⟨S4x512x1408, .bf16⟩
  | .hbm, ⟨3, _⟩ => ⟨S3x512x1408, .bf16⟩
  | .hbm, ⟨4, _⟩ => ⟨S3x1024x1024, .bf16⟩
  | .hbm, ⟨5, _⟩ => ⟨S3x512x1408, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S3x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev barrier1 : Sem sig := 0

abbrev nD : Nat := 4
abbrev τ : Topo := Topo.v7x

variable {F : FTy → Type} [FloatOps F]

abbrev grid0 : Pipeline.Grid := ⟨2, ![3, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v0 v2
  let v6 : BitVec 32 := Scalar.extui v3
  let c0_i32_1 : BitVec 32 := 0#32
  let v7 : BitVec 1 := Scalar.cmpi .ne v6 c0_i32_1
  v7

def k0_dev1 (d24 : Dev nD) : Nat :=
  let c0_i32_23 : BitVec 32 := 0#32
  let v24 : BitVec 32 := Dev.word d24
  let c2_i32_15 : BitVec 32 := 2#32
  let v25 : BitVec 32 := Scalar.divsi v24 c2_i32_15
  let c2_i32_14 : BitVec 32 := 2#32
  let v26 : BitVec 32 := Scalar.remsi v25 c2_i32_14
  let c2_i32_22 : BitVec 32 := 2#32
  let v35 : BitVec 32 := Scalar.muli v26 c2_i32_22
  let v36 : BitVec 32 := Scalar.addi c0_i32_23 v35
  let c1_i32_20 : BitVec 32 := 1#32
  let v27 : BitVec 32 := Dev.word d24
  let c1_i32_17 : BitVec 32 := 1#32
  let v28 : BitVec 32 := Scalar.divsi v27 c1_i32_17
  let c2_i32_16 : BitVec 32 := 2#32
  let v29 : BitVec 32 := Scalar.remsi v28 c2_i32_16
  let v34 : BitVec 32 := Scalar.subi c1_i32_20 v29
  let c1_i32_24 : BitVec 32 := 1#32
  let v37 : BitVec 32 := Scalar.muli v34 c1_i32_24
  let v38 : BitVec 32 := Scalar.addi v36 v37
  let v30 : BitVec 32 := Dev.word d24
  let c1_i32_19 : BitVec 32 := 1#32
  let v31 : BitVec 32 := Scalar.divsi v30 c1_i32_19
  let c1_i32_18 : BitVec 32 := 1#32
  let v32 : BitVec 32 := Scalar.remsi v31 c1_i32_18
  let c1_i32_25 : BitVec 32 := 1#32
  let v39 : BitVec 32 := Scalar.muli v32 c1_i32_25
  let v40 : BitVec 32 := Scalar.addi v38 v39
  v40.toNat
def k0_dev2 (d24 : Dev nD) : Nat :=
  let c0_i32_29 : BitVec 32 := 0#32
  let c1_i32_26 : BitVec 32 := 1#32
  let v24 : BitVec 32 := Dev.word d24
  let c2_i32_15 : BitVec 32 := 2#32
  let v25 : BitVec 32 := Scalar.divsi v24 c2_i32_15
  let c2_i32_14 : BitVec 32 := 2#32
  let v26 : BitVec 32 := Scalar.remsi v25 c2_i32_14
  let v41 : BitVec 32 := Scalar.subi c1_i32_26 v26
  let c2_i32_28 : BitVec 32 := 2#32
  let v42 : BitVec 32 := Scalar.muli v41 c2_i32_28
  let v43 : BitVec 32 := Scalar.addi c0_i32_29 v42
  let v27 : BitVec 32 := Dev.word d24
  let c1_i32_17 : BitVec 32 := 1#32
  let v28 : BitVec 32 := Scalar.divsi v27 c1_i32_17
  let c2_i32_16 : BitVec 32 := 2#32
  let v29 : BitVec 32 := Scalar.remsi v28 c2_i32_16
  let c1_i32_30 : BitVec 32 := 1#32
  let v44 : BitVec 32 := Scalar.muli v29 c1_i32_30
  let v45 : BitVec 32 := Scalar.addi v43 v44
  let v30 : BitVec 32 := Dev.word d24
  let c1_i32_19 : BitVec 32 := 1#32
  let v31 : BitVec 32 := Scalar.divsi v30 c1_i32_19
  let c1_i32_18 : BitVec 32 := 1#32
  let v32 : BitVec 32 := Scalar.remsi v31 c1_i32_18
  let c1_i32_31 : BitVec 32 := 1#32
  let v46 : BitVec 32 := Scalar.muli v32 c1_i32_31
  let v47 : BitVec 32 := Scalar.addi v45 v46
  v47.toNat
def k0_dev3 (d24 : Dev nD) : Nat :=
  let c0_i32_36 : BitVec 32 := 0#32
  let c1_i32_32 : BitVec 32 := 1#32
  let v24 : BitVec 32 := Dev.word d24
  let c2_i32_15 : BitVec 32 := 2#32
  let v25 : BitVec 32 := Scalar.divsi v24 c2_i32_15
  let c2_i32_14 : BitVec 32 := 2#32
  let v26 : BitVec 32 := Scalar.remsi v25 c2_i32_14
  let v48 : BitVec 32 := Scalar.subi c1_i32_32 v26
  let c2_i32_35 : BitVec 32 := 2#32
  let v50 : BitVec 32 := Scalar.muli v48 c2_i32_35
  let v51 : BitVec 32 := Scalar.addi c0_i32_36 v50
  let c1_i32_33 : BitVec 32 := 1#32
  let v27 : BitVec 32 := Dev.word d24
  let c1_i32_17 : BitVec 32 := 1#32
  let v28 : BitVec 32 := Scalar.divsi v27 c1_i32_17
  let c2_i32_16 : BitVec 32 := 2#32
  let v29 : BitVec 32 := Scalar.remsi v28 c2_i32_16
  let v49 : BitVec 32 := Scalar.subi c1_i32_33 v29
  let c1_i32_37 : BitVec 32 := 1#32
  let v52 : BitVec 32 := Scalar.muli v49 c1_i32_37
  let v53 : BitVec 32 := Scalar.addi v51 v52
  let v30 : BitVec 32 := Dev.word d24
  let c1_i32_19 : BitVec 32 := 1#32
  let v31 : BitVec 32 := Scalar.divsi v30 c1_i32_19
  let c1_i32_18 : BitVec 32 := 1#32
  let v32 : BitVec 32 := Scalar.remsi v31 c1_i32_18
  let c1_i32_38 : BitVec 32 := 1#32
  let v54 : BitVec 32 := Scalar.muli v32 c1_i32_38
  let v55 : BitVec 32 := Scalar.addi v53 v54
  v55.toNat
def k0_off1 (d24 : Dev nD) : Fin 3 → Nat :=
  let c2_i32_49 : BitVec 32 := 2#32
  let c1_i32_45 : BitVec 32 := 1#32
  let v56 : BitVec 32 := Dev.word d24
  let c2_i32_40 : BitVec 32 := 2#32
  let v57 : BitVec 32 := Scalar.divsi v56 c2_i32_40
  let c2_i32_39 : BitVec 32 := 2#32
  let v58 : BitVec 32 := Scalar.remsi v57 c2_i32_39
  let v65 : BitVec 32 := Scalar.subi c1_i32_45 v58
  let v69 : BitVec 32 := Scalar.muli c2_i32_49 v65
  let v59 : BitVec 32 := Dev.word d24
  let c1_i32_42 : BitVec 32 := 1#32
  let v60 : BitVec 32 := Scalar.divsi v59 c1_i32_42
  let c2_i32_41 : BitVec 32 := 2#32
  let v61 : BitVec 32 := Scalar.remsi v60 c2_i32_41
  let v70 : BitVec 32 := Scalar.addi v69 v61
  let c0_i32_62 : BitVec 32 := 0#32
  let c0_i32_63 : BitVec 32 := 0#32
  ![v70.toNat, 0, 0]
def k0_off2 (d24 : Dev nD) : Fin 3 → Nat :=
  let c2_i32_49 : BitVec 32 := 2#32
  let c1_i32_45 : BitVec 32 := 1#32
  let v56 : BitVec 32 := Dev.word d24
  let c2_i32_40 : BitVec 32 := 2#32
  let v57 : BitVec 32 := Scalar.divsi v56 c2_i32_40
  let c2_i32_39 : BitVec 32 := 2#32
  let v58 : BitVec 32 := Scalar.remsi v57 c2_i32_39
  let v65 : BitVec 32 := Scalar.subi c1_i32_45 v58
  let v69 : BitVec 32 := Scalar.muli c2_i32_49 v65
  let v59 : BitVec 32 := Dev.word d24
  let c1_i32_42 : BitVec 32 := 1#32
  let v60 : BitVec 32 := Scalar.divsi v59 c1_i32_42
  let c2_i32_41 : BitVec 32 := 2#32
  let v61 : BitVec 32 := Scalar.remsi v60 c2_i32_41
  let v70 : BitVec 32 := Scalar.addi v69 v61
  let c0_i32_63 : BitVec 32 := 0#32
  ![v70.toNat, 256, 0]
def k0_dev4 (d24 : Dev nD) : Nat :=
  let c0_i32_56 : BitVec 32 := 0#32
  let c1_i32_45 : BitVec 32 := 1#32
  let v56 : BitVec 32 := Dev.word d24
  let c2_i32_40 : BitVec 32 := 2#32
  let v57 : BitVec 32 := Scalar.divsi v56 c2_i32_40
  let c2_i32_39 : BitVec 32 := 2#32
  let v58 : BitVec 32 := Scalar.remsi v57 c2_i32_39
  let v65 : BitVec 32 := Scalar.subi c1_i32_45 v58
  let c2_i32_55 : BitVec 32 := 2#32
  let v75 : BitVec 32 := Scalar.muli v65 c2_i32_55
  let v76 : BitVec 32 := Scalar.addi c0_i32_56 v75
  let v59 : BitVec 32 := Dev.word d24
  let c1_i32_42 : BitVec 32 := 1#32
  let v60 : BitVec 32 := Scalar.divsi v59 c1_i32_42
  let c2_i32_41 : BitVec 32 := 2#32
  let v61 : BitVec 32 := Scalar.remsi v60 c2_i32_41
  let c1_i32_57 : BitVec 32 := 1#32
  let v77 : BitVec 32 := Scalar.muli v61 c1_i32_57
  let v78 : BitVec 32 := Scalar.addi v76 v77
  let v62 : BitVec 32 := Dev.word d24
  let c1_i32_44 : BitVec 32 := 1#32
  let v63 : BitVec 32 := Scalar.divsi v62 c1_i32_44
  let c1_i32_43 : BitVec 32 := 1#32
  let v64 : BitVec 32 := Scalar.remsi v63 c1_i32_43
  let c1_i32_58 : BitVec 32 := 1#32
  let v79 : BitVec 32 := Scalar.muli v64 c1_i32_58
  let v80 : BitVec 32 := Scalar.addi v78 v79
  v80.toNat
def k0_off3 (d24 : Dev nD) : Fin 3 → Nat :=
  let c2_i32_50 : BitVec 32 := 2#32
  let v56 : BitVec 32 := Dev.word d24
  let c2_i32_40 : BitVec 32 := 2#32
  let v57 : BitVec 32 := Scalar.divsi v56 c2_i32_40
  let c2_i32_39 : BitVec 32 := 2#32
  let v58 : BitVec 32 := Scalar.remsi v57 c2_i32_39
  let v71 : BitVec 32 := Scalar.muli c2_i32_50 v58
  let c1_i32_46 : BitVec 32 := 1#32
  let v59 : BitVec 32 := Dev.word d24
  let c1_i32_42 : BitVec 32 := 1#32
  let v60 : BitVec 32 := Scalar.divsi v59 c1_i32_42
  let c2_i32_41 : BitVec 32 := 2#32
  let v61 : BitVec 32 := Scalar.remsi v60 c2_i32_41
  let v66 : BitVec 32 := Scalar.subi c1_i32_46 v61
  let v72 : BitVec 32 := Scalar.addi v71 v66
  let c0_i32_77 : BitVec 32 := 0#32
  let c0_i32_78 : BitVec 32 := 0#32
  ![v72.toNat, 0, 0]
def k0_off4 (d24 : Dev nD) : Fin 3 → Nat :=
  let c2_i32_50 : BitVec 32 := 2#32
  let v56 : BitVec 32 := Dev.word d24
  let c2_i32_40 : BitVec 32 := 2#32
  let v57 : BitVec 32 := Scalar.divsi v56 c2_i32_40
  let c2_i32_39 : BitVec 32 := 2#32
  let v58 : BitVec 32 := Scalar.remsi v57 c2_i32_39
  let v71 : BitVec 32 := Scalar.muli c2_i32_50 v58
  let c1_i32_46 : BitVec 32 := 1#32
  let v59 : BitVec 32 := Dev.word d24
  let c1_i32_42 : BitVec 32 := 1#32
  let v60 : BitVec 32 := Scalar.divsi v59 c1_i32_42
  let c2_i32_41 : BitVec 32 := 2#32
  let v61 : BitVec 32 := Scalar.remsi v60 c2_i32_41
  let v66 : BitVec 32 := Scalar.subi c1_i32_46 v61
  let v72 : BitVec 32 := Scalar.addi v71 v66
  let c0_i32_78 : BitVec 32 := 0#32
  ![v72.toNat, 256, 0]
def k0_dev5 (d24 : Dev nD) : Nat :=
  let c0_i32_70 : BitVec 32 := 0#32
  let v56 : BitVec 32 := Dev.word d24
  let c2_i32_40 : BitVec 32 := 2#32
  let v57 : BitVec 32 := Scalar.divsi v56 c2_i32_40
  let c2_i32_39 : BitVec 32 := 2#32
  let v58 : BitVec 32 := Scalar.remsi v57 c2_i32_39
  let c2_i32_69 : BitVec 32 := 2#32
  let v91 : BitVec 32 := Scalar.muli v58 c2_i32_69
  let v92 : BitVec 32 := Scalar.addi c0_i32_70 v91
  let c1_i32_46 : BitVec 32 := 1#32
  let v59 : BitVec 32 := Dev.word d24
  let c1_i32_42 : BitVec 32 := 1#32
  let v60 : BitVec 32 := Scalar.divsi v59 c1_i32_42
  let c2_i32_41 : BitVec 32 := 2#32
  let v61 : BitVec 32 := Scalar.remsi v60 c2_i32_41
  let v66 : BitVec 32 := Scalar.subi c1_i32_46 v61
  let c1_i32_71 : BitVec 32 := 1#32
  let v93 : BitVec 32 := Scalar.muli v66 c1_i32_71
  let v94 : BitVec 32 := Scalar.addi v92 v93
  let v62 : BitVec 32 := Dev.word d24
  let c1_i32_44 : BitVec 32 := 1#32
  let v63 : BitVec 32 := Scalar.divsi v62 c1_i32_44
  let c1_i32_43 : BitVec 32 := 1#32
  let v64 : BitVec 32 := Scalar.remsi v63 c1_i32_43
  let c1_i32_72 : BitVec 32 := 1#32
  let v95 : BitVec 32 := Scalar.muli v64 c1_i32_72
  let v96 : BitVec 32 := Scalar.addi v94 v95
  v96.toNat
def k0_off5 (d24 : Dev nD) : Fin 3 → Nat :=
  let c2_i32_51 : BitVec 32 := 2#32
  let c1_i32_47 : BitVec 32 := 1#32
  let v56 : BitVec 32 := Dev.word d24
  let c2_i32_40 : BitVec 32 := 2#32
  let v57 : BitVec 32 := Scalar.divsi v56 c2_i32_40
  let c2_i32_39 : BitVec 32 := 2#32
  let v58 : BitVec 32 := Scalar.remsi v57 c2_i32_39
  let v67 : BitVec 32 := Scalar.subi c1_i32_47 v58
  let v73 : BitVec 32 := Scalar.muli c2_i32_51 v67
  let c1_i32_48 : BitVec 32 := 1#32
  let v59 : BitVec 32 := Dev.word d24
  let c1_i32_42 : BitVec 32 := 1#32
  let v60 : BitVec 32 := Scalar.divsi v59 c1_i32_42
  let c2_i32_41 : BitVec 32 := 2#32
  let v61 : BitVec 32 := Scalar.remsi v60 c2_i32_41
  let v68 : BitVec 32 := Scalar.subi c1_i32_48 v61
  let v74 : BitVec 32 := Scalar.addi v73 v68
  let c0_i32_92 : BitVec 32 := 0#32
  let c0_i32_93 : BitVec 32 := 0#32
  ![v74.toNat, 0, 0]
def k0_off6 (d24 : Dev nD) : Fin 3 → Nat :=
  let c2_i32_51 : BitVec 32 := 2#32
  let c1_i32_47 : BitVec 32 := 1#32
  let v56 : BitVec 32 := Dev.word d24
  let c2_i32_40 : BitVec 32 := 2#32
  let v57 : BitVec 32 := Scalar.divsi v56 c2_i32_40
  let c2_i32_39 : BitVec 32 := 2#32
  let v58 : BitVec 32 := Scalar.remsi v57 c2_i32_39
  let v67 : BitVec 32 := Scalar.subi c1_i32_47 v58
  let v73 : BitVec 32 := Scalar.muli c2_i32_51 v67
  let c1_i32_48 : BitVec 32 := 1#32
  let v59 : BitVec 32 := Dev.word d24
  let c1_i32_42 : BitVec 32 := 1#32
  let v60 : BitVec 32 := Scalar.divsi v59 c1_i32_42
  let c2_i32_41 : BitVec 32 := 2#32
  let v61 : BitVec 32 := Scalar.remsi v60 c2_i32_41
  let v68 : BitVec 32 := Scalar.subi c1_i32_48 v61
  let v74 : BitVec 32 := Scalar.addi v73 v68
  let c0_i32_93 : BitVec 32 := 0#32
  ![v74.toNat, 256, 0]
def k0_dev6 (d24 : Dev nD) : Nat :=
  let c0_i32_85 : BitVec 32 := 0#32
  let c1_i32_47 : BitVec 32 := 1#32
  let v56 : BitVec 32 := Dev.word d24
  let c2_i32_40 : BitVec 32 := 2#32
  let v57 : BitVec 32 := Scalar.divsi v56 c2_i32_40
  let c2_i32_39 : BitVec 32 := 2#32
  let v58 : BitVec 32 := Scalar.remsi v57 c2_i32_39
  let v67 : BitVec 32 := Scalar.subi c1_i32_47 v58
  let c2_i32_84 : BitVec 32 := 2#32
  let v107 : BitVec 32 := Scalar.muli v67 c2_i32_84
  let v108 : BitVec 32 := Scalar.addi c0_i32_85 v107
  let c1_i32_48 : BitVec 32 := 1#32
  let v59 : BitVec 32 := Dev.word d24
  let c1_i32_42 : BitVec 32 := 1#32
  let v60 : BitVec 32 := Scalar.divsi v59 c1_i32_42
  let c2_i32_41 : BitVec 32 := 2#32
  let v61 : BitVec 32 := Scalar.remsi v60 c2_i32_41
  let v68 : BitVec 32 := Scalar.subi c1_i32_48 v61
  let c1_i32_86 : BitVec 32 := 1#32
  let v109 : BitVec 32 := Scalar.muli v68 c1_i32_86
  let v110 : BitVec 32 := Scalar.addi v108 v109
  let v62 : BitVec 32 := Dev.word d24
  let c1_i32_44 : BitVec 32 := 1#32
  let v63 : BitVec 32 := Scalar.divsi v62 c1_i32_44
  let c1_i32_43 : BitVec 32 := 1#32
  let v64 : BitVec 32 := Scalar.remsi v63 c1_i32_43
  let c1_i32_87 : BitVec 32 := 1#32
  let v111 : BitVec 32 := Scalar.muli v64 c1_i32_87
  let v112 : BitVec 32 := Scalar.addi v110 v111
  v112.toNat
def k0_cond5 (i : grid0.Coords) : BitVec 1 :=
  let arg0 : BitVec 32 := BitVec.ofNat 32 (i 0).val
  let c2_i32 : BitVec 32 := 2#32
  let v1 : BitVec 1 := Scalar.cmpi .eq arg0 c2_i32
  let arg1 : BitVec 32 := BitVec.ofNat 32 (i 1).val
  let c1_i32 : BitVec 32 := 1#32
  let v4 : BitVec 1 := Scalar.cmpi .eq arg1 c1_i32
  let v5 : BitVec 1 := Scalar.andi v1 v4
  let v22 : BitVec 32 := Scalar.extui v5
  let c0_i32_13 : BitVec 32 := 0#32
  let v23 : BitVec 1 := Scalar.cmpi .ne v22 c0_i32_13
  v23

def k0_off7 (d24 : Dev nD) : Fin 3 → Nat :=
  let c2_i32_24 : BitVec 32 := 2#32
  let c1_i32_20 : BitVec 32 := 1#32
  let v24 : BitVec 32 := Dev.word d24
  let c2_i32_15 : BitVec 32 := 2#32
  let v25 : BitVec 32 := Scalar.divsi v24 c2_i32_15
  let c2_i32_14 : BitVec 32 := 2#32
  let v26 : BitVec 32 := Scalar.remsi v25 c2_i32_14
  let v33 : BitVec 32 := Scalar.subi c1_i32_20 v26
  let v37 : BitVec 32 := Scalar.muli c2_i32_24 v33
  let v27 : BitVec 32 := Dev.word d24
  let c1_i32_17 : BitVec 32 := 1#32
  let v28 : BitVec 32 := Scalar.divsi v27 c1_i32_17
  let c2_i32_16 : BitVec 32 := 2#32
  let v29 : BitVec 32 := Scalar.remsi v28 c2_i32_16
  let v38 : BitVec 32 := Scalar.addi v37 v29
  let c0_i32_31 : BitVec 32 := 0#32
  let c0_i32_32 : BitVec 32 := 0#32
  ![v38.toNat, 0, 0]
def k0_off8 (d24 : Dev nD) : Fin 3 → Nat :=
  let c2_i32_24 : BitVec 32 := 2#32
  let c1_i32_20 : BitVec 32 := 1#32
  let v24 : BitVec 32 := Dev.word d24
  let c2_i32_15 : BitVec 32 := 2#32
  let v25 : BitVec 32 := Scalar.divsi v24 c2_i32_15
  let c2_i32_14 : BitVec 32 := 2#32
  let v26 : BitVec 32 := Scalar.remsi v25 c2_i32_14
  let v33 : BitVec 32 := Scalar.subi c1_i32_20 v26
  let v37 : BitVec 32 := Scalar.muli c2_i32_24 v33
  let v27 : BitVec 32 := Dev.word d24
  let c1_i32_17 : BitVec 32 := 1#32
  let v28 : BitVec 32 := Scalar.divsi v27 c1_i32_17
  let c2_i32_16 : BitVec 32 := 2#32
  let v29 : BitVec 32 := Scalar.remsi v28 c2_i32_16
  let v38 : BitVec 32 := Scalar.addi v37 v29
  let c0_i32_32 : BitVec 32 := 0#32
  ![v38.toNat, 256, 0]
def k0_off9 (d24 : Dev nD) : Fin 3 → Nat :=
  let c2_i32_25 : BitVec 32 := 2#32
  let v24 : BitVec 32 := Dev.word d24
  let c2_i32_15 : BitVec 32 := 2#32
  let v25 : BitVec 32 := Scalar.divsi v24 c2_i32_15
  let c2_i32_14 : BitVec 32 := 2#32
  let v26 : BitVec 32 := Scalar.remsi v25 c2_i32_14
  let v39 : BitVec 32 := Scalar.muli c2_i32_25 v26
  let c1_i32_21 : BitVec 32 := 1#32
  let v27 : BitVec 32 := Dev.word d24
  let c1_i32_17 : BitVec 32 := 1#32
  let v28 : BitVec 32 := Scalar.divsi v27 c1_i32_17
  let c2_i32_16 : BitVec 32 := 2#32
  let v29 : BitVec 32 := Scalar.remsi v28 c2_i32_16
  let v34 : BitVec 32 := Scalar.subi c1_i32_21 v29
  let v40 : BitVec 32 := Scalar.addi v39 v34
  let c0_i32_57 : BitVec 32 := 0#32
  let c0_i32_58 : BitVec 32 := 0#32
  ![v40.toNat, 0, 0]
def k0_off10 (d24 : Dev nD) : Fin 3 → Nat :=
  let c2_i32_25 : BitVec 32 := 2#32
  let v24 : BitVec 32 := Dev.word d24
  let c2_i32_15 : BitVec 32 := 2#32
  let v25 : BitVec 32 := Scalar.divsi v24 c2_i32_15
  let c2_i32_14 : BitVec 32 := 2#32
  let v26 : BitVec 32 := Scalar.remsi v25 c2_i32_14
  let v39 : BitVec 32 := Scalar.muli c2_i32_25 v26
  let c1_i32_21 : BitVec 32 := 1#32
  let v27 : BitVec 32 := Dev.word d24
  let c1_i32_17 : BitVec 32 := 1#32
  let v28 : BitVec 32 := Scalar.divsi v27 c1_i32_17
  let c2_i32_16 : BitVec 32 := 2#32
  let v29 : BitVec 32 := Scalar.remsi v28 c2_i32_16
  let v34 : BitVec 32 := Scalar.subi c1_i32_21 v29
  let v40 : BitVec 32 := Scalar.addi v39 v34
  let c0_i32_58 : BitVec 32 := 0#32
  ![v40.toNat, 256, 0]
def k0_off11 (d24 : Dev nD) : Fin 3 → Nat :=
  let c2_i32_26 : BitVec 32 := 2#32
  let c1_i32_22 : BitVec 32 := 1#32
  let v24 : BitVec 32 := Dev.word d24
  let c2_i32_15 : BitVec 32 := 2#32
  let v25 : BitVec 32 := Scalar.divsi v24 c2_i32_15
  let c2_i32_14 : BitVec 32 := 2#32
  let v26 : BitVec 32 := Scalar.remsi v25 c2_i32_14
  let v35 : BitVec 32 := Scalar.subi c1_i32_22 v26
  let v41 : BitVec 32 := Scalar.muli c2_i32_26 v35
  let c1_i32_23 : BitVec 32 := 1#32
  let v27 : BitVec 32 := Dev.word d24
  let c1_i32_17 : BitVec 32 := 1#32
  let v28 : BitVec 32 := Scalar.divsi v27 c1_i32_17
  let c2_i32_16 : BitVec 32 := 2#32
  let v29 : BitVec 32 := Scalar.remsi v28 c2_i32_16
  let v36 : BitVec 32 := Scalar.subi c1_i32_23 v29
  let v42 : BitVec 32 := Scalar.addi v41 v36
  let c0_i32_84 : BitVec 32 := 0#32
  let c0_i32_85 : BitVec 32 := 0#32
  ![v42.toNat, 0, 0]
def k0_off12 (d24 : Dev nD) : Fin 3 → Nat :=
  let c2_i32_26 : BitVec 32 := 2#32
  let c1_i32_22 : BitVec 32 := 1#32
  let v24 : BitVec 32 := Dev.word d24
  let c2_i32_15 : BitVec 32 := 2#32
  let v25 : BitVec 32 := Scalar.divsi v24 c2_i32_15
  let c2_i32_14 : BitVec 32 := 2#32
  let v26 : BitVec 32 := Scalar.remsi v25 c2_i32_14
  let v35 : BitVec 32 := Scalar.subi c1_i32_22 v26
  let v41 : BitVec 32 := Scalar.muli c2_i32_26 v35
  let c1_i32_23 : BitVec 32 := 1#32
  let v27 : BitVec 32 := Dev.word d24
  let c1_i32_17 : BitVec 32 := 1#32
  let v28 : BitVec 32 := Scalar.divsi v27 c1_i32_17
  let c2_i32_16 : BitVec 32 := 2#32
  let v29 : BitVec 32 := Scalar.remsi v28 c2_i32_16
  let v36 : BitVec 32 := Scalar.subi c1_i32_23 v29
  let v42 : BitVec 32 := Scalar.addi v41 v36
  let c0_i32_85 : BitVec 32 := 0#32
  ![v42.toNat, 256, 0]
def k0_cond4 (i : grid0.Coords) : BitVec 1 :=
  let arg1 : BitVec 32 := BitVec.ofNat 32 (i 1).val
  let c1_i32_11 : BitVec 32 := 1#32
  let v19 : BitVec 1 := Scalar.cmpi .eq arg1 c1_i32_11
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S3x16384x1024 : Shape := ⟨3, ![3, 16384, 1024]⟩
abbrev S16x512x1408 : Shape := ⟨3, ![16, 512, 1408]⟩
abbrev S12x512x1408 : Shape := ⟨3, ![12, 512, 1408]⟩
abbrev S3x4x4096x1024 : Shape := ⟨4, ![3, 4, 4096, 1024]⟩
abbrev S4x3x4096x1024 : Shape := ⟨4, ![4, 3, 4096, 1024]⟩
abbrev S12x4096x1024 : Shape := ⟨3, ![12, 4096, 1024]⟩
abbrev S_ : Shape := ⟨0, ![]⟩
abbrev S12x1024x1024 : Shape := ⟨3, ![12, 1024, 1024]⟩
abbrev S1x512x1408 : Shape := ⟨3, ![1, 512, 1408]⟩
abbrev S12x256x1408 : Shape := ⟨3, ![12, 256, 1408]⟩

abbrev nBuf : Space → Nat
  | .hbm => 34
  | .vmem => 0
  | .smem => 0
  | _ => 0

abbrev bufTy : (tb : Table) → Fin (tcTables nBuf tb) → BufTy
  | .hbm, ⟨0, _⟩ => ⟨S3x16384x1024, .bf16⟩
  | .hbm, ⟨1, _⟩ => ⟨S3x16384x1024, .bf16⟩
  | .hbm, ⟨2, _⟩ => ⟨S16x512x1408, .bf16⟩
  | .hbm, ⟨3, _⟩ => ⟨S12x512x1408, .bf16⟩
  | .hbm, ⟨4, _⟩ => ⟨S3x16384x1024, .f32⟩
  | .hbm, ⟨5, _⟩ => ⟨S3x4x4096x1024, .f32⟩
  | .hbm, ⟨6, _⟩ => ⟨S4x3x4096x1024, .f32⟩
  | .hbm, ⟨7, _⟩ => ⟨S12x4096x1024, .f32⟩
  | .hbm, ⟨8, _⟩ => ⟨S3x16384x1024, .f32⟩
  | .hbm, ⟨9, _⟩ => ⟨S3x4x4096x1024, .f32⟩
  | .hbm, ⟨10, _⟩ => ⟨S4x3x4096x1024, .f32⟩
  | .hbm, ⟨11, _⟩ => ⟨S12x4096x1024, .f32⟩
  | .hbm, ⟨12, _⟩ => ⟨S_, .f32⟩
  | .hbm, ⟨13, _⟩ => ⟨S12x1024x1024, .f32⟩
  | .hbm, ⟨14, _⟩ => ⟨S12x4096x1024, .f32⟩
  | .hbm, ⟨15, _⟩ => ⟨S12x1024x1024, .f32⟩
  | .hbm, ⟨16, _⟩ => ⟨S12x1024x1024, .f32⟩
  | .hbm, ⟨17, _⟩ => ⟨S1x512x1408, .bf16⟩
  | .hbm, ⟨18, _⟩ => ⟨S1x512x1408, .bf16⟩
  | .hbm, ⟨19, _⟩ => ⟨S1x512x1408, .bf16⟩
  | .hbm, ⟨20, _⟩ => ⟨S1x512x1408, .bf16⟩
  | .hbm, ⟨21, _⟩ => ⟨S1x512x1408, .bf16⟩
  | .hbm, ⟨22, _⟩ => ⟨S1x512x1408, .bf16⟩
  | .hbm, ⟨23, _⟩ => ⟨S1x512x1408, .bf16⟩
  | .hbm, ⟨24, _⟩ => ⟨S1x512x1408, .bf16⟩
  | .hbm, ⟨25, _⟩ => ⟨S1x512x1408, .bf16⟩
  | .hbm, ⟨26, _⟩ => ⟨S1x512x1408, .bf16⟩
  | .hbm, ⟨27, _⟩ => ⟨S1x512x1408, .bf16⟩
  | .hbm, ⟨28, _⟩ => ⟨S1x512x1408, .bf16⟩
  | .hbm, ⟨29, _⟩ => ⟨S12x512x1408, .bf16⟩
  | .hbm, ⟨30, _⟩ => ⟨S12x1024x1024, .bf16⟩
  | .hbm, ⟨31, _⟩ => ⟨S12x256x1408, .bf16⟩
  | .hbm, ⟨32, _⟩ => ⟨S12x256x1408, .bf16⟩
  | .hbm, ⟨33, _⟩ => ⟨S12x512x1408, .bf16⟩
  | _, _ => ⟨S3x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Proof.Window.lean ====
/- Sums over a sliding window of rows, on columns of extended reals. A window sum of width `2 k` is made from one of width
   `k` by adding its copy shifted `k` rows; and, for finite columns, it is a difference of two running sums. -/
module

public import Mathlib.Data.EReal.Operations
public import Mathlib.Algebra.BigOperators.Intervals

@[expose] public section

noncomputable section

namespace Cert.Pool

open Finset

/-- The sum of the `w` entries of a column that end at row `r`, those before row 0 left out. -/
def winDown (w : ℕ) (f : ℕ → EReal) (r : ℕ) : EReal := ∑ j ∈ range w, if j ≤ r then f (r - j) else 0

/-- The sum of the `w` entries of a column that begin at row `r`. -/
def winUp (w : ℕ) (f : ℕ → EReal) (r : ℕ) : EReal := ∑ j ∈ range w, f (r + j)

theorem winDown_one (f : ℕ → EReal) (r : ℕ) : winDown 1 f r = f r := by simp [winDown]

theorem winUp_one (f : ℕ → EReal) (r : ℕ) : winUp 1 f r = f r := by simp [winUp]

/-- A window of width `2 k` ending at `r` is the one of width `k` and, `k` rows higher, another. -/
theorem winDown_double (k : ℕ) (f : ℕ → EReal) (r : ℕ) :
    winDown (k + k) f r = winDown k f r + if k ≤ r then winDown k f (r - k) else 0 := by
  unfold winDown
  rw [sum_range_add]
  congr 1
  split
  · next h =>
    refine sum_congr rfl fun j _ => ?_
    by_cases hj : j ≤ r - k
    · rw [if_pos (by omega), if_pos hj, Nat.sub_sub]
    · rw [if_neg (by omega), if_neg hj]
  · next h => exact sum_eq_zero fun j _ => if_neg (by omega)

/-- A window of width `2 k` beginning at `r` is the one of width `k` and, `k` rows lower, another. -/
theorem winUp_double (k : ℕ) (f : ℕ → EReal) (r : ℕ) : winUp (k + k) f r = winUp k f r + winUp k f (r + k) := by
  unfold winUp
  rw [sum_range_add]
  congr 1
  exact sum_congr rfl fun j _ => by rw [Nat.add_assoc]

/-- The sum of a column's entries up to row `r`. -/
def cumDown (f : ℕ → EReal) (r : ℕ) : EReal := ∑ j ∈ range (r + 1), f j

/-- The sum of a column's entries from row `r` to the last, the column having `n` rows. -/
def cumUp (n : ℕ) (f : ℕ → EReal) (r : ℕ) : EReal := ∑ j ∈ range (n - r), f (r + j)

/-- A finite column is one of real numbers. -/
def Finite (f : ℕ → EReal) : Prop := ∀ n, f n ≠ ⊤ ∧ f n ≠ ⊥

theorem Finite.real {f : ℕ → EReal} (h : Finite f) : ∃ g : ℕ → ℝ, f = fun n => ((g n : ℝ) : EReal) :=
  ⟨fun n => (f n).toReal, funext fun n => (EReal.coe_toReal (h n).1 (h n).2).symm⟩

theorem coe_sum {ι : Type*} (s : Finset ι) (g : ι → ℝ) : ∑ j ∈ s, ((g j : ℝ) : EReal) = ((∑ j ∈ s, g j : ℝ) : EReal) := by
  classical
  induction s using Finset.induction_on with
  | empty => simp
  | insert a s ha ih => rw [sum_insert ha, sum_insert ha, ih, EReal.coe_add]

/-- A window sum of reals is a difference of running sums. -/
theorem real_window (w : ℕ) (g : ℕ → ℝ) (r : ℕ) :
    (∑ j ∈ range (r + 1), g j) - (if r < w then 0 else ∑ j ∈ range (r - w + 1), g j)
      = ∑ j ∈ range w, if j ≤ r then g (r - j) else 0 := by
  rw [← sum_range_reflect g (r + 1)]
  by_cases h : r < w
  · rw [if_pos h, sub_zero]
    obtain ⟨d, rfl⟩ : ∃ d, w = (r + 1) + d := ⟨w - (r + 1), by omega⟩
    rw [sum_range_add (fun j => if j ≤ r then g (r - j) else 0) (r + 1) d,
      sum_eq_zero (s := range d) (f := fun j => if r + 1 + j ≤ r then g (r - (r + 1 + j)) else 0) fun j _ => if_neg (by omega),
      add_zero]
    exact sum_congr rfl fun j hj => by
      rw [if_pos (by have := mem_range.mp hj; omega)]; congr 1
  · rw [if_neg h]
    obtain ⟨d, hd⟩ : ∃ d, r + 1 = w + d := ⟨r + 1 - w, by omega⟩
    rw [hd, sum_range_add, show r - w + 1 = d by omega, ← sum_range_reflect g d, add_sub_assoc]
    rw [show (∑ x ∈ range d, g (w + d - 1 - (w + x))) = ∑ j ∈ range d, g (d - 1 - j) from
      sum_congr rfl fun j hj => by have := mem_range.mp hj; congr 1; omega, sub_self, add_zero]
    exact sum_congr rfl fun j hj => by
      rw [if_pos (by have := mem_range.mp hj; omega)]; congr 1; omega

/-- For a finite column the running sum less the running sum `w` rows higher is the window sum. -/
theorem cumDown_sub {f : ℕ → EReal} (h : Finite f) (w r : ℕ) :
    cumDown f r - (if r < w then 0 else cumDown f (r - w)) = winDown w f r := by
  obtain ⟨g, rfl⟩ := h.real
  have e := real_window w g r
  unfold cumDown winDown
  rw [coe_sum, coe_sum]
  have l : (if r < w then (0 : EReal) else ((∑ j ∈ range (r - w + 1), g j : ℝ) : EReal))
      = ((if r < w then 0 else ∑ j ∈ range (r - w + 1), g j : ℝ) : EReal) := by split <;> simp
  rw [l, ← EReal.coe_sub, e, ← coe_sum]
  exact sum_congr rfl fun j _ => by split <;> simp

/-- A sum from row `r` on of reals less the same from row `r + w` on is the window sum. -/
theorem real_tail (n w : ℕ) (g : ℕ → ℝ) (hz : ∀ j, n ≤ j → g j = 0) (r : ℕ) (hr : r < n) :
    (∑ j ∈ range (n - r), (g (r + j) - if r + j + w < n then g (r + j + w) else 0)) = ∑ j ∈ range w, g (r + j) := by
  rw [sum_sub_distrib]
  have e : ∀ j ∈ range (n - r), (if r + j + w < n then g (r + j + w) else 0) = g (r + (w + j)) := fun j _ => by
    split
    · congr 1; omega
    · exact (hz _ (by omega)).symm
  rw [sum_congr rfl e]
  have a := sum_range_add (fun j => g (r + j)) w (n - r)
  have b := sum_range_add (fun j => g (r + j)) (n - r) w
  rw [Nat.add_comm (n - r) w] at b
  have c : ∑ x ∈ range w, g (r + (n - r + x)) = 0 := sum_eq_zero fun x _ => hz _ (by omega)
  rw [c, add_zero] at b
  rw [← b, a]; ring

/-- For a finite column of `n` rows, zero after them: summing from row `r` on the column less its copy shifted `w` rows
    leaves the window that begins at `r`. -/
theorem cumUp_sub {f : ℕ → EReal} (h : Finite f) (n w : ℕ) (hz : ∀ j, n ≤ j → f j = 0) (r : ℕ) (hr : r < n) :
    cumUp n (fun j => f j + if j + w < n then -f (j + w) else 0) r = winUp w f r := by
  obtain ⟨g, rfl⟩ := h.real
  have e := real_tail n w g (fun j hj => by have := hz j hj; dsimp only at this; exact_mod_cast this) r hr
  unfold cumUp winUp
  rw [coe_sum, ← e, ← coe_sum]
  refine sum_congr rfl fun j _ => ?_
  dsimp only
  split
  · rw [← EReal.coe_neg, ← EReal.coe_add, sub_eq_add_neg]
  · rw [sub_zero, add_zero]

end Cert.Pool

end
-- ==== Proof.Ops.lean ====
/- The operations of the kernel at one element, at exact values: the shifted additions that widen a window sum, the number of
   rows a window holds, the three kinds of product, and the casts that drop or add a leading axis of one. -/
module

public import proofs.«01_k».proof.Proof.Window
public import proofs.«01_k».proof.Proof.Gen.KernelIdeal.Skeleton
public import Idealize.ShloMosaic.Lib.MatmulPlain
public import Idealize.ShloMosaic.Lib.KernelVsHost
public import Idealize.ShloMosaic.Lib.ValueIdx
public import Idealize.ShloMosaic.Lib.ValueLayout
public import Idealize.ShloMosaic.Lib.WordCmp
public import Idealize.ShloMosaic.Lib.Pointwise.Reduce
public import Idealize.ShloMosaic.Lib.Pipeline.Value

@[expose] public section

noncomputable section

namespace Cert.Pool

open Idealize.ShloMosaic hiding ix0 ix1 ix2 ix3 ix4 ix5
open Idealize.ShloMosaic.ValueIdx Idealize.ShloMosaic.WordCmp Cert.KernelIdeal Cert.KernelIdeal.Gen

/-- The number of rows in the window of width `w` that ends at row `r`, as a value. -/
def cnt (w r : ℕ) : EReal := ((min (r + 1) w : ℕ) : ℝ)

/-- Column `c` of an array of 2048 rows, zero after the last row. -/
def col (v : S2048x256.Idx → EReal) (c : Fin 256) : ℕ → EReal := fun n => if h : n < 2048 then v (ix2 ⟨n, h⟩ c) else 0

theorem col_val (v : S2048x256.Idx → EReal) (c : Fin 256) (r : Fin 2048) : col v c r.val = v (ix2 r c) := dif_pos r.isLt

theorem col_of_le (v : S2048x256.Idx → EReal) (c : Fin 256) (n : ℕ) (h : 2048 ≤ n) : col v c n = 0 := dif_neg (by omega)

/-- The row numbers. -/
abbrev rows : IVec S2048x256 32 := iota .tc S2048x256 32 [0] iota_S2048x256_d0_w32

theorem rows_apply (r : Fin 2048) (c : Fin 256) : rows (ix2 r c) = BitVec.ofNat 32 r.val := by
  unfold rows; rw [iota_single_apply]

theorem zero_word : (Scalar.ofBits (F := Ideal) .f32 0x00000000#32 : EReal) = 0 := Ideal.ofBits_zero_f32

/-- The copy of an array moved `k` rows down, zeros coming in at the top. -/
def shiftDown (k : BitVec 32) (v : FVec Ideal S2048x256 .f32) : FVec Ideal S2048x256 .f32 :=
  select (cmpi .sge rows (broadcast S2048x256 k)) (dynamicRotate 0 k none v rotates_S2048x256_d0)
    (broadcast S2048x256 (Scalar.ofBits .f32 0x00000000#32))

/-- The copy of an array moved up by `2048 - k` rows, zeros coming in at the bottom. -/
def shiftUp (k : BitVec 32) (v : FVec Ideal S2048x256 .f32) : FVec Ideal S2048x256 .f32 :=
  select (cmpi .slt rows (broadcast S2048x256 k)) (dynamicRotate 0 k none v rotates_S2048x256_d0)
    (broadcast S2048x256 (Scalar.ofBits .f32 0x00000000#32))

theorem shiftDown_apply (k : ℕ) (hk : k < 2048) (v : FVec Ideal S2048x256 .f32) (r : Fin 2048) (c : Fin 256) :
    shiftDown (BitVec.ofNat 32 k) v (ix2 r c) = if k ≤ r.val then col v c (r.val - k) else 0 := by
  unfold shiftDown
  rw [select_apply, broadcast_apply, zero_word]
  show Scalar.select (IntOp.cmpi .sge (rows (ix2 r c)) (BitVec.ofNat 32 k)) _ _ = _
  rw [rows_apply, cmpi_sge_ofNat (by have := r.isLt; omega) (by omega), select_decide]
  split
  · next h =>
    have hr := r.isLt
    unfold col
    rw [dif_pos (by omega)]
    refine dynamicRotate_apply 0 _ v _ (ix2 r c) (ix2 ⟨r.val - k, by omega⟩ c) fun b => ?_
    match b with
    | ⟨0, _⟩ =>
      show r.val - k = ((r.val + 2048 - (BitVec.ofNat 32 k).toNat % 2048) % 2048 : ℕ)
      rw [BitVec.toNat_ofNat, Nat.mod_eq_of_lt (a := k) (by omega)]
      omega
    | ⟨1, _⟩ => rfl
  · rfl

theorem shiftUp_apply (k : ℕ) (hk0 : 0 < k) (hk : k < 2048) (v : FVec Ideal S2048x256 .f32) (r : Fin 2048) (c : Fin 256) :
    shiftUp (BitVec.ofNat 32 (2048 - k)) v (ix2 r c) = col v c (r.val + k) := by
  unfold shiftUp
  have hr := r.isLt
  rw [select_apply, broadcast_apply, zero_word]
  show Scalar.select (IntOp.cmpi .slt (rows (ix2 r c)) (BitVec.ofNat 32 (2048 - k))) _ _ = _
  rw [rows_apply, cmpi_slt_ofNat (by omega) (by omega), select_decide]
  split
  · next h =>
    unfold col
    rw [dif_pos (by omega)]
    refine dynamicRotate_apply 0 _ v _ (ix2 r c) (ix2 ⟨r.val + k, by omega⟩ c) fun b => ?_
    match b with
    | ⟨0, _⟩ =>
      show r.val + k = ((r.val + 2048 - (BitVec.ofNat 32 (2048 - k)).toNat % 2048) % 2048 : ℕ)
      rw [BitVec.toNat_ofNat, Nat.mod_eq_of_lt (a := 2048 - k) (by omega), Nat.mod_eq_of_lt (a := 2048 - k) (by omega)]
      omega
    | ⟨1, _⟩ => rfl
  · next h => exact (col_of_le v c _ (by omega)).symm

/-- An array whose columns are window sums of width `k` becomes one of width `2 k` by adding its copy `k` rows down. -/
theorem down_step (k : ℕ) (hk : k < 2048) (v : FVec Ideal S2048x256 .f32) (f : Fin 256 → ℕ → EReal)
    (h : ∀ (r : Fin 2048) c, v (ix2 r c) = winDown k (f c) r.val) (r : Fin 2048) (c : Fin 256) :
    addf v (shiftDown (BitVec.ofNat 32 k) v) (ix2 r c) = winDown (k + k) (f c) r.val := by
  rw [addf_apply, shiftDown_apply k hk, winDown_double, h]
  congr 1
  split
  · unfold col; rw [dif_pos (by have := r.isLt; omega), h]
  · rfl

/-- The same for windows that begin at a row, zeros following the last row. -/
theorem up_step (k : ℕ) (hk0 : 0 < k) (hk : k < 2048) (v : FVec Ideal S2048x256 .f32) (f : Fin 256 → ℕ → EReal)
    (hz : ∀ c n, 2048 ≤ n → f c n = 0)
    (h : ∀ (r : Fin 2048) c, v (ix2 r c) = winUp k (f c) r.val) (r : Fin 2048) (c : Fin 256) :
    addf v (shiftUp (BitVec.ofNat 32 (2048 - k)) v) (ix2 r c) = winUp (k + k) (f c) r.val := by
  rw [addf_apply, shiftUp_apply k hk0 hk, winUp_double, h]
  congr 1
  unfold col
  split
  · rw [h]
  · unfold winUp; exact (Finset.sum_eq_zero fun j _ => hz c _ (by omega)).symm

/-- The row counts of a window, as the kernel makes them from the row numbers. -/
def counts (w : BitVec 32) : FVec Ideal S2048x256 .f32 :=
  sitofp .f32 (minsi (addi rows (broadcast S2048x256 1#32)) (broadcast S2048x256 w))

theorem counts_apply (w : ℕ) (hw : w < 2048) (r : Fin 2048) (c : Fin 256) :
    counts (BitVec.ofNat 32 w) (ix2 r c) = cnt w r.val := by
  unfold counts
  rw [sitofp_apply]
  show FloatOps.sitofp .f32 (IntOp.minsi (IntOp.addi (rows (ix2 r c)) 1#32) (BitVec.ofNat 32 w)) = _
  rw [rows_apply]
  have hr := r.isLt
  have e : IntOp.addi (BitVec.ofNat 32 r.val) 1#32 = BitVec.ofNat 32 (r.val + 1) := (BitVec.ofNat_add _ _).symm
  have m : IntOp.minsi (BitVec.ofNat 32 (r.val + 1)) (BitVec.ofNat 32 w) = BitVec.ofNat 32 (min (r.val + 1) w) := by
    unfold IntOp.minsi
    rw [BitVec.slt_eq_decide, toInt_ofNat_of_lt (by omega), toInt_ofNat_of_lt (by omega)]
    by_cases h : r.val + 1 < w
    · rw [if_pos (by simpa using by omega), Nat.min_eq_left (by omega)]
    · rw [if_neg (by simpa using by omega), Nat.min_eq_right (by omega)]
  rw [e, m]
  show ((((BitVec.ofNat 32 (min (r.val + 1) w)).toInt : ℤ) : ℝ) : EReal) = _
  rw [toInt_ofNat_of_lt (by omega)]
  rfl

/-! ## The three products -/

theorem mm_apply (a : FVec Ideal S2048x256 .bf16) (b : FVec Ideal S256x256 .bf16) (r : Fin 2048) (e : Fin 256) :
    matmul dot_S2048x256_S256x256_S2048x256_1_0_0_1_n_n none a b (constant S2048x256 .f32 0x00000000#32) (ix2 r e)
      = ∑ c : Fin 256, a (ix2 r c) * b (ix2 c e) :=
  (Ideal.matmul_plain_apply none a b (constant S2048x256 .f32 0x00000000#32) r e).trans (by
    rw [constant_apply, Ideal.ofBits_zero_f32, zero_add])

theorem mmt_apply (a : FVec Ideal S2048x256 .bf16) (b : FVec Ideal S256x256 .bf16) (r : Fin 2048) (e : Fin 256) :
    matmul dot_S2048x256_S256x256_S2048x256_1_1_0_0_n_n none a b (constant S2048x256 .f32 0x00000000#32) (ix2 r e)
      = ∑ c : Fin 256, a (ix2 r c) * b (ix2 e c) :=
  (Ideal.matmul_transposedRhs_apply none a b (constant S2048x256 .f32 0x00000000#32) r e).trans (by
    rw [constant_apply, Ideal.ofBits_zero_f32, zero_add])

theorem tmm_apply (a : FVec Ideal S2048x256 .bf16) (b : FVec Ideal S2048x256 .bf16) (c e : Fin 256) :
    matmul dot_S2048x256_S2048x256_S256x256_0_0_1_1_n_n none a b (constant S256x256 .f32 0x00000000#32) (ix2 c e)
      = ∑ r : Fin 2048, a (ix2 r c) * b (ix2 r e) := by
  show FloatOps.matmul dot_S2048x256_S2048x256_S256x256_0_0_1_1_n_n none a b (constant S256x256 .f32 0x00000000#32) (ix2 c e) = _
  rw [Ideal.matmul_apply, constant_apply, Ideal.ofBits_zero_f32, zero_add,
    ← Equiv.sum_comp (contrEquiv1 dot_S2048x256_S2048x256_S256x256_0_0_1_1_n_n 2048 rfl rfl).symm]
  refine Finset.sum_congr rfl fun k _ => ?_
  have hk := contrEquiv1_symm_val dot_S2048x256_S2048x256_S256x256_0_0_1_1_n_n 2048 rfl rfl k
  congr 1
  · refine congrArg a (funext fun ax => Fin.ext ?_)
    match ax with
    | ⟨0, _⟩ => exact hk
    | ⟨1, _⟩ => rfl
  · refine congrArg b (funext fun ax => Fin.ext ?_)
    match ax with
    | ⟨0, _⟩ => exact hk
    | ⟨1, _⟩ => rfl

/-- The sum of an array's columns. -/
theorem colsum_apply (v : FVec Ideal S2048x256 .f32) (u : Fin 1) (e : Fin 256) :
    shapeCast S1x256 (multiReduction .add [0] S256 v 0x00000000#32 reduces_S2048x256_S256 (.inl rfl) rfl) shapeCasts_S256_S1x256 (ix2 u e)
      = ∑ r : Fin 2048, v (ix2 r e) := by
  rw [shapeCast_a_1a_apply]
  refine (Ideal.multiReduction_add_single (a := 0) v _ reduces_S2048x256_S256 (.inl rfl) rfl (ix1 e)).trans ?_
  refine Finset.sum_congr rfl fun k _ => congrArg v (funext fun ax => Fin.ext ?_)
  match ax with
  | ⟨0, _⟩ => rfl
  | ⟨1, _⟩ => rfl

end Cert.Pool

end
-- ==== Proof.Payloads.lean ====
/- What one block of the kernel computes: the pooled rows, the two sums the block adds to its accumulators and the block of the
   gradient with respect to the pooled rows, each as the kernel's own operations and then element by element. -/
module

public import proofs.«01_k».proof.Proof.Ops

@[expose] public section

noncomputable section

namespace Cert.Pool

open Idealize.ShloMosaic hiding ix0 ix1 ix2 ix3 ix4 ix5
open Idealize.ShloMosaic.ValueIdx Cert.KernelIdeal Cert.KernelIdeal.Gen

/-- The pooled rows less the rows themselves: a window's mean less its last entry. -/
def pooled (w : ℕ) (x1 : S2048x256.Idx → EReal) (r : Fin 2048) (c : Fin 256) : EReal :=
  Ideal.div (winDown w (col x1 c) r.val) (cnt w r.val) - x1 (ix2 r c)

/-- The rows' gradient before the product, scaled. -/
def dlin (x0 : S1x2048x256.Idx → EReal) (x3 : S1x256.Idx → EReal) (r : Fin 2048) (e : Fin 256) : EReal :=
  x0 (ix3 0 r e) * x3 (ix2 0 e)

/-- The gradient with respect to the pooled rows. -/
def gpool (x0 : S1x2048x256.Idx → EReal) (x2 : S1x256x256.Idx → EReal) (x3 : S1x256.Idx → EReal) (r : Fin 2048) (c : Fin 256) :
    EReal := ∑ e : Fin 256, dlin x0 x3 r e * x2 (ix3 0 c e)

/-- What the block adds to the gradient of the weights. -/
def incW (w : ℕ) (x0 : S1x2048x256.Idx → EReal) (x1 : S2048x256.Idx → EReal) (x3 : S1x256.Idx → EReal) (c e : Fin 256) : EReal :=
  ∑ r : Fin 2048, pooled w x1 r c * dlin x0 x3 r e

/-- What the block adds to the gradient of the scales. -/
def incS (w : ℕ) (x0 : S1x2048x256.Idx → EReal) (x1 : S2048x256.Idx → EReal) (x2 : S1x256x256.Idx → EReal) (e : Fin 256) : EReal :=
  ∑ r : Fin 2048, x0 (ix3 0 r e) * ∑ c : Fin 256, pooled w x1 r c * x2 (ix3 0 c e)

/-- A column of the gradient with respect to the pooled rows, each over its window's count. -/
def gmean (w : ℕ) (g : Fin 2048 → Fin 256 → EReal) (c : Fin 256) : ℕ → EReal :=
  fun n => if h : n < 2048 then Ideal.div (g ⟨n, h⟩ c) (cnt w n) else 0

/-- The gradient with respect to the rows. -/
def dz (w : ℕ) (x0 : S1x2048x256.Idx → EReal) (x2 : S1x256x256.Idx → EReal) (x3 : S1x256.Idx → EReal) (r : Fin 2048) (c : Fin 256) :
    EReal := winUp w (gmean w (gpool x0 x2 x3) c) r.val - gpool x0 x2 x3 r c

/-! ## The pooled rows -/

/-- The kernel's pooling from its widened array. -/
def poolOf (w : BitVec 32) (s x1 : FVec Ideal S2048x256 .f32) : FVec Ideal S2048x256 .f32 := subf (divf s (counts w)) x1

theorem poolOf_apply (w : ℕ) (hw : w < 2048) (s x1 : FVec Ideal S2048x256 .f32)
    (h : ∀ (r : Fin 2048) c, s (ix2 r c) = winDown w (col x1 c) r.val) (r : Fin 2048) (c : Fin 256) :
    poolOf (BitVec.ofNat 32 w) s x1 (ix2 r c) = pooled w x1 r c := by
  unfold poolOf; rw [subf_apply, divf_apply, counts_apply w hw, h]; rfl

/-- One widening downwards. -/
def wd (k : BitVec 32) (v : FVec Ideal S2048x256 .f32) : FVec Ideal S2048x256 .f32 := addf v (shiftDown k v)

theorem down1 (x : FVec Ideal S2048x256 .f32) (r : Fin 2048) (c : Fin 256) : x (ix2 r c) = winDown 1 (col x c) r.val := by
  rw [winDown_one, col_val]
theorem down2 (x : FVec Ideal S2048x256 .f32) (r : Fin 2048) (c : Fin 256) : wd 1#32 x (ix2 r c) = winDown 2 (col x c) r.val :=
  down_step 1 (by omega) x (col x) (down1 x) r c
theorem down4 (x : FVec Ideal S2048x256 .f32) (r : Fin 2048) (c : Fin 256) :
    wd 2#32 (wd 1#32 x) (ix2 r c) = winDown 4 (col x c) r.val := down_step 2 (by omega) _ (col x) (down2 x) r c
theorem down8 (x : FVec Ideal S2048x256 .f32) (r : Fin 2048) (c : Fin 256) :
    wd 4#32 (wd 2#32 (wd 1#32 x)) (ix2 r c) = winDown 8 (col x c) r.val := down_step 4 (by omega) _ (col x) (down4 x) r c
theorem down16 (x : FVec Ideal S2048x256 .f32) (r : Fin 2048) (c : Fin 256) :
    wd 8#32 (wd 4#32 (wd 2#32 (wd 1#32 x))) (ix2 r c) = winDown 16 (col x c) r.val :=
  down_step 8 (by omega) _ (col x) (down8 x) r c

theorem pool2 (x : Vec Ideal S2048x256 .bf16) (r : Fin 2048) (c : Fin 256) : k0_pay7 (F := Ideal) rows x (ix2 r c) = pooled 2 x r c :=
  poolOf_apply 2 (by omega) (wd 1#32 x) x (down2 x) r c
theorem pool4 (x : Vec Ideal S2048x256 .bf16) (r : Fin 2048) (c : Fin 256) : k0_pay12 (F := Ideal) rows x (ix2 r c) = pooled 4 x r c :=
  poolOf_apply 4 (by omega) (wd 2#32 (wd 1#32 x)) x (down4 x) r c
theorem pool8 (x : Vec Ideal S2048x256 .bf16) (r : Fin 2048) (c : Fin 256) : k0_pay18 (F := Ideal) rows x (ix2 r c) = pooled 8 x r c :=
  poolOf_apply 8 (by omega) (wd 4#32 (wd 2#32 (wd 1#32 x))) x (down8 x) r c
theorem pool16 (x : Vec Ideal S2048x256 .bf16) (r : Fin 2048) (c : Fin 256) : k0_pay28 (F := Ideal) rows x (ix2 r c) = pooled 16 x r c :=
  poolOf_apply 16 (by omega) (wd 8#32 (wd 4#32 (wd 2#32 (wd 1#32 x)))) x (down16 x) r c

/-! ## The sum for the scales -/

/-- The kernel's sum for the scales from its pooled rows `p`. -/
def sumS (p : FVec Ideal S2048x256 .bf16) (x0 : FVec Ideal S1x2048x256 .bf16) (x2 : FVec Ideal S1x256x256 .bf16) : FVec Ideal S1x256 .f32 :=
  shapeCast S1x256 (multiReduction .add [0] S256 (mulf (extf .f32 (shapeCast S2048x256 x0 shapeCasts_S1x2048x256_S2048x256) bitsLt_bf16_f32)
    (matmul dot_S2048x256_S256x256_S2048x256_1_0_0_1_n_n none p (shapeCast S256x256 x2 shapeCasts_S1x256x256_S256x256)
      (constant S2048x256 .f32 0x00000000#32))) 0x00000000#32 reduces_S2048x256_S256 (.inl rfl) rfl) shapeCasts_S256_S1x256

theorem sumS_apply (w : ℕ) (p : FVec Ideal S2048x256 .bf16) (x0 : FVec Ideal S1x2048x256 .bf16) (x1 : S2048x256.Idx → EReal)
    (x2 : FVec Ideal S1x256x256 .bf16) (h : ∀ r c, p (ix2 r c) = pooled w x1 r c) (u : Fin 1) (e : Fin 256) :
    sumS p x0 x2 (ix2 u e) = incS w x0 x1 x2 e := by
  unfold sumS incS
  rw [colsum_apply]
  refine Finset.sum_congr rfl fun r _ => ?_
  rw [mulf_apply, extf_apply, mm_apply, shapeCast_1ab_ab_apply]
  congr 1
  exact Finset.sum_congr rfl fun c _ => by rw [h, shapeCast_1ab_ab_apply]

/-! ## The sum for the weights -/

/-- The rows' gradient, scaled, as the kernel makes it. -/
def dlArr (x0 : FVec Ideal S1x2048x256 .bf16) (x3 : FVec Ideal S1x256 .f32) : FVec Ideal S2048x256 .bf16 :=
  truncf .bf16 (mulf (extf .f32 (shapeCast S2048x256 x0 shapeCasts_S1x2048x256_S2048x256) bitsLt_bf16_f32)
    (broadcastTo S2048x256 x3 broadcasts_S1x256_S2048x256)) bitsLt_bf16_f32

theorem dlArr_apply (x0 : FVec Ideal S1x2048x256 .bf16) (x3 : FVec Ideal S1x256 .f32) (r : Fin 2048) (e : Fin 256) :
    dlArr x0 x3 (ix2 r e) = dlin x0 x3 r e := by
  unfold dlArr dlin
  rw [truncf_apply, mulf_apply, extf_apply, shapeCast_1ab_ab_apply, broadcastTo_1b_ab_apply]

/-- The kernel's sum for the weights from its pooled rows `p`. -/
def sumW (p : FVec Ideal S2048x256 .bf16) (x0 : FVec Ideal S1x2048x256 .bf16) (x3 : FVec Ideal S1x256 .f32) : FVec Ideal S256x256 .f32 :=
  matmul dot_S2048x256_S2048x256_S256x256_0_0_1_1_n_n none p (dlArr x0 x3) (constant S256x256 .f32 0x00000000#32)

theorem sumW_apply (w : ℕ) (p : FVec Ideal S2048x256 .bf16) (x0 : FVec Ideal S1x2048x256 .bf16) (x1 : S2048x256.Idx → EReal)
    (x3 : FVec Ideal S1x256 .f32) (h : ∀ r c, p (ix2 r c) = pooled w x1 r c) (c e : Fin 256) :
    sumW p x0 x3 (ix2 c e) = incW w x0 x1 x3 c e := by
  unfold sumW incW
  rw [tmm_apply]
  exact Finset.sum_congr rfl fun r _ => by rw [h, dlArr_apply]

/-- An accumulator of the weights' shape with the sum added. -/
def accW (a : FVec Ideal S1x256x256 .f32) (s : FVec Ideal S256x256 .f32) : FVec Ideal S1x256x256 .f32 :=
  shapeCast S1x256x256 (addf (shapeCast S256x256 a shapeCasts_S1x256x256_S256x256) s) shapeCasts_S256x256_S1x256x256

theorem accW_apply (a : FVec Ideal S1x256x256 .f32) (s : FVec Ideal S256x256 .f32) (u : Fin 1) (c e : Fin 256) :
    accW a s (ix3 u c e) = a (ix3 0 c e) + s (ix2 c e) := by
  unfold accW
  rw [shapeCast_ab_1ab_apply, addf_apply, shapeCast_1ab_ab_apply]

/-! ## The gradient with respect to the rows -/

/-- The gradient with respect to the pooled rows, as the kernel makes it. -/
def gpArr (x0 : FVec Ideal S1x2048x256 .bf16) (x2 : FVec Ideal S1x256x256 .bf16) (x3 : FVec Ideal S1x256 .f32) : FVec Ideal S2048x256 .f32 :=
  matmul dot_S2048x256_S256x256_S2048x256_1_1_0_0_n_n none (dlArr x0 x3) (shapeCast S256x256 x2 shapeCasts_S1x256x256_S256x256)
    (constant S2048x256 .f32 0x00000000#32)

theorem gpArr_apply (x0 : FVec Ideal S1x2048x256 .bf16) (x2 : FVec Ideal S1x256x256 .bf16) (x3 : FVec Ideal S1x256 .f32)
    (r : Fin 2048) (c : Fin 256) : gpArr x0 x2 x3 (ix2 r c) = gpool x0 x2 x3 r c := by
  unfold gpArr gpool
  rw [mmt_apply]
  exact Finset.sum_congr rfl fun e _ => by rw [dlArr_apply, shapeCast_1ab_ab_apply]

/-- One widening upwards. -/
def wu (k : BitVec 32) (v : FVec Ideal S2048x256 .f32) : FVec Ideal S2048x256 .f32 := addf v (shiftUp k v)

/-- An array over its windows' counts. -/
def over (w : BitVec 32) (g : FVec Ideal S2048x256 .f32) : FVec Ideal S2048x256 .f32 := divf g (counts w)

theorem gmean_zero (w : ℕ) (g : Fin 2048 → Fin 256 → EReal) (c : Fin 256) (n : ℕ) (h : 2048 ≤ n) : gmean w g c n = 0 :=
  dif_neg (by omega)

theorem up1 (w : ℕ) (hw : w < 2048) (g : FVec Ideal S2048x256 .f32) (r : Fin 2048) (c : Fin 256) :
    over (BitVec.ofNat 32 w) g (ix2 r c) = winUp 1 (gmean w (fun r c => g (ix2 r c)) c) r.val := by
  unfold over gmean
  rw [winUp_one, divf_apply, counts_apply w hw, dif_pos r.isLt]

theorem up2 (w : ℕ) (hw : w < 2048) (g : FVec Ideal S2048x256 .f32) (r : Fin 2048) (c : Fin 256) :
    wu 2047#32 (over (BitVec.ofNat 32 w) g) (ix2 r c) = winUp 2 (gmean w (fun r c => g (ix2 r c)) c) r.val :=
  up_step 1 (by omega) (by omega) _ (gmean w _) (gmean_zero w _) (up1 w hw g) r c
theorem up4 (w : ℕ) (hw : w < 2048) (g : FVec Ideal S2048x256 .f32) (r : Fin 2048) (c : Fin 256) :
    wu 2046#32 (wu 2047#32 (over (BitVec.ofNat 32 w) g)) (ix2 r c) = winUp 4 (gmean w (fun r c => g (ix2 r c)) c) r.val :=
  up_step 2 (by omega) (by omega) _ (gmean w _) (gmean_zero w _) (up2 w hw g) r c
theorem up8 (w : ℕ) (hw : w < 2048) (g : FVec Ideal S2048x256 .f32) (r : Fin 2048) (c : Fin 256) :
    wu 2044#32 (wu 2046#32 (wu 2047#32 (over (BitVec.ofNat 32 w) g))) (ix2 r c)
      = winUp 8 (gmean w (fun r c => g (ix2 r c)) c) r.val :=
  up_step 4 (by omega) (by omega) _ (gmean w _) (gmean_zero w _) (up4 w hw g) r c
theorem up16 (w : ℕ) (hw : w < 2048) (g : FVec Ideal S2048x256 .f32) (r : Fin 2048) (c : Fin 256) :
    wu 2040#32 (wu 2044#32 (wu 2046#32 (wu 2047#32 (over (BitVec.ofNat 32 w) g)))) (ix2 r c)
      = winUp 16 (gmean w (fun r c => g (ix2 r c)) c) r.val :=
  up_step 8 (by omega) (by omega) _ (gmean w _) (gmean_zero w _) (up8 w hw g) r c

/-- The block of the gradient from its widened array. -/
def dzOf (s g : FVec Ideal S2048x256 .f32) : FVec Ideal S1x2048x256 .bf16 :=
  shapeCast S1x2048x256 (truncf .bf16 (subf s g) bitsLt_bf16_f32) shapeCasts_S2048x256_S1x2048x256

theorem dzOf_apply (w : ℕ) (s : FVec Ideal S2048x256 .f32) (x0 : FVec Ideal S1x2048x256 .bf16) (x2 : FVec Ideal S1x256x256 .bf16)
    (x3 : FVec Ideal S1x256 .f32)
    (h : ∀ (r : Fin 2048) c, s (ix2 r c) = winUp w (gmean w (fun r c => gpArr x0 x2 x3 (ix2 r c)) c) r.val)
    (u : Fin 1) (r : Fin 2048) (c : Fin 256) : dzOf s (gpArr x0 x2 x3) (ix3 u r c) = dz w x0 x2 x3 r c := by
  unfold dzOf dz
  rw [shapeCast_ab_1ab_apply, truncf_apply, subf_apply, h, gpArr_apply]
  rw [show (fun r c => gpArr x0 x2 x3 (ix2 r c)) = gpool x0 x2 x3 from funext fun r => funext fun c => gpArr_apply x0 x2 x3 r c]

end Cert.Pool

end
-- ==== Proof.CasesAB.lean ====
/- What one point of the grid leaves in its three output blocks, in the kernel's own operations: the first sequence at width 2 and the second sequence at width 2. -/
module

public import proofs.«01_k».proof.Proof.Payloads
public import proofs.«01_k».proof.Proof.Gen.KernelIdeal.Frame

@[expose] public section

noncomputable section

namespace Cert.Pool

open Idealize.ShloMosaic hiding ix0 ix1 ix2 ix3 ix4 ix5
open Idealize.ShloMosaic.ValueIdx Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole block reads the block. -/
theorem whole_reads :
    (∀ inb (X : Vec Ideal S1x2048x256 .bf16), View.ld X (Rect.unit ![0, 0, 0] ![1, 2048, 256] inb) = X)
      ∧ (∀ inb (X : Vec Ideal S2048x256 .bf16), View.ld X (Rect.unit ![0, 0] ![2048, 256] inb) = X)
      ∧ (∀ inb (X : Vec Ideal S1x256x256 .bf16), View.ld X (Rect.unit ![0, 0, 0] ![1, 256, 256] inb) = X)
      ∧ (∀ inb (X : Vec Ideal S1x256x256 .f32), View.ld X (Rect.unit ![0, 0, 0] ![1, 256, 256] inb) = X)
      ∧ (∀ inb (X : Vec Ideal S1x256 .f32), View.ld X (Rect.unit ![0, 0] ![1, 256] inb) = X) :=
  ⟨View.ld_unit_zero (S := S1x2048x256) hz3, View.ld_unit_zero (S := S2048x256) hz2, View.ld_unit_zero (S := S1x256x256) hz3, View.ld_unit_zero (S := S1x256x256) hz3, View.ld_unit_zero (S := S1x256) hz2⟩

variable (c : Dev nD) (i : grid0.Coords)
    (a3 : Memref sig .tc .vmem S1x2048x256 .bf16) (h3 : a3.IsWhole) (a4 : Memref sig .tc .vmem S2048x256 .bf16) (h4 : a4.IsWhole)
    (a5 : Memref sig .tc .vmem S1x256x256 .bf16) (h5 : a5.IsWhole) (a6 : Memref sig .tc .vmem S1x256 .f32) (h6 : a6.IsWhole)
    (a7 : Memref sig .tc .vmem S1x2048x256 .bf16) (h7 : a7.IsWhole) (a8 : Memref sig .tc .vmem S1x256x256 .f32) (h8 : a8.IsWhole)
    (a9 : Memref sig .tc .vmem S1x256 .f32) (h9 : a9.IsWhole)
    (x0 : Vec Ideal S1x2048x256 .bf16) (x1 : Vec Ideal S2048x256 .bf16) (x2 : Vec Ideal S1x256x256 .bf16) (x3 : Vec Ideal S1x256 .f32)
    (xo5 : Vec Ideal S1x256x256 .f32) (xo6 : Vec Ideal S1x256 .f32)

theorem out_A_4 (hc0 : cond0_0 i) (hc1 : cond0_1 i) (hc2 : ¬cond0_2 i) (hc3 : ¬cond0_3 i) (hc4 : ¬cond0_4 i) :
    out0_A_4 (F := Ideal) c i a3 h3 a4 h4 a5 h5 a6 h6 a7 h7 a8 h8 a9 h9 hc0 hc1 hc2 hc3 hc4 x0 x1 x2 x3
      = dzOf (wu 2047#32 (over 2#32 (gpArr x0 x2 x3))) (gpArr x0 x2 x3) := by
  unfold out0_A_4
  rw [View.read_writes_eq_canon _ _ _ (cover0_A_4 c i a3 h3 a4 h4 a5 h5 a6 h6 a7 h7 a8 h8 a9 h9 hc0 hc1 hc2 hc3 hc4 x0 x1 x2 x3)]
  unfold kernelRun0_A; dsimp only; sl_unfold_words
  rw [View.canon_unit_zero hz3]
  simp only [View.readAt_eq_ld, h3.read_unread, h4.read_unread, h5.read_unread, h6.read_unread, h8.read_unread, h9.read_unread,
    whole_reads]
  rfl

theorem out_A_5 (hc0 : cond0_0 i) (hc1 : cond0_1 i) (hc2 : ¬cond0_2 i) (hc3 : ¬cond0_3 i) (hc4 : ¬cond0_4 i) :
    out0_A_5 (F := Ideal) c i a3 h3 a4 h4 a5 h5 a6 h6 a7 h7 a8 h8 a9 h9 hc0 hc1 hc2 hc3 hc4 x0 x1 x2 x3
      = accW (k0_pay1 (F := Ideal)) (sumW (k0_pay7 (F := Ideal) rows x1) x0 x3) := by
  unfold out0_A_5
  rw [View.read_writes_eq_canon _ _ _ (cover0_A_5 c i a3 h3 a4 h4 a5 h5 a6 h6 a7 h7 a8 h8 a9 h9 hc0 hc1 hc2 hc3 hc4 x0 x1 x2 x3)]
  unfold kernelRun0_A; dsimp only; sl_unfold_words
  rw [View.canon_cons_unit_zero (S := S1x256x256) hz3, View.readCov_unit_zero (S := S1x256x256) _ hz3]
  simp only [View.readAt_eq_ld, h3.read_unread, h4.read_unread, h5.read_unread, h6.read_unread, h8.read_unread, h9.read_unread,
    whole_reads]
  rfl

theorem out_A_6 (hc0 : cond0_0 i) (hc1 : cond0_1 i) (hc2 : ¬cond0_2 i) (hc3 : ¬cond0_3 i) (hc4 : ¬cond0_4 i) :
    out0_A_6 (F := Ideal) c i a3 h3 a4 h4 a5 h5 a6 h6 a7 h7 a8 h8 a9 h9 hc0 hc1 hc2 hc3 hc4 x0 x1 x2 x3
      = addf (k0_pay2 (F := Ideal)) (sumS (k0_pay7 (F := Ideal) rows x1) x0 x2) := by
  unfold out0_A_6
  rw [View.read_writes_eq_canon _ _ _ (cover0_A_6 c i a3 h3 a4 h4 a5 h5 a6 h6 a7 h7 a8 h8 a9 h9 hc0 hc1 hc2 hc3 hc4 x0 x1 x2 x3)]
  unfold kernelRun0_A; dsimp only; sl_unfold_words
  rw [View.canon_cons_unit_zero (S := S1x256) hz2, View.readCov_unit_zero (S := S1x256) _ hz2]
  simp only [View.readAt_eq_ld, h3.read_unread, h4.read_unread, h5.read_unread, h6.read_unread, h8.read_unread, h9.read_unread,
    whole_reads]
  first
    | rfl
    | (unfold k0_pay9; rw [shapeCast_self]; rfl)

theorem out_B_4 (hc0 : ¬cond0_0 i) (hc1 : cond0_1 i) (hc2 : ¬cond0_2 i) (hc3 : ¬cond0_3 i) (hc4 : ¬cond0_4 i) :
    out0_B_4 (F := Ideal) c i a3 h3 a4 h4 a5 h5 a6 h6 a7 h7 a8 h8 a9 h9 hc0 hc1 hc2 hc3 hc4 x0 x1 x2 x3 xo5 xo6
      = dzOf (wu 2047#32 (over 2#32 (gpArr x0 x2 x3))) (gpArr x0 x2 x3) := by
  unfold out0_B_4
  rw [View.read_writes_eq_canon _ _ _ (cover0_B_4 c i a3 h3 a4 h4 a5 h5 a6 h6 a7 h7 a8 h8 a9 h9 hc0 hc1 hc2 hc3 hc4 x0 x1 x2 x3 xo5 xo6)]
  unfold kernelRun0_B; dsimp only; sl_unfold_words
  rw [View.canon_unit_zero hz3]
  simp only [View.readAt_eq_ld, h3.read_unread, h4.read_unread, h5.read_unread, h6.read_unread, h8.read_unread, h9.read_unread,
    whole_reads]
  rfl

theorem out_B_5 (hc0 : ¬cond0_0 i) (hc1 : cond0_1 i) (hc2 : ¬cond0_2 i) (hc3 : ¬cond0_3 i) (hc4 : ¬cond0_4 i) :
    out0_B_5 (F := Ideal) c i a3 h3 a4 h4 a5 h5 a6 h6 a7 h7 a8 h8 a9 h9 hc0 hc1 hc2 hc3 hc4 x0 x1 x2 x3 xo5 xo6
      = accW xo5 (sumW (k0_pay7 (F := Ideal) rows x1) x0 x3) := by
  unfold out0_B_5
  rw [View.read_writes_eq_canon _ _ _ (cover0_B_5 c i a3 h3 a4 h4 a5 h5 a6 h6 a7 h7 a8 h8 a9 h9 hc0 hc1 hc2 hc3 hc4 x0 x1 x2 x3 xo5 xo6)]
  unfold kernelRun0_B; dsimp only; sl_unfold_words
  rw [View.canon_unit_zero hz3]
  simp only [View.readAt_eq_ld, h3.read_unread, h4.read_unread, h5.read_unread, h6.read_unread, h8.read_unread, h9.read_unread,
    whole_reads]
  rfl

theorem out_B_6 (hc0 : ¬cond0_0 i) (hc1 : cond0_1 i) (hc2 : ¬cond0_2 i) (hc3 : ¬cond0_3 i) (hc4 : ¬cond0_4 i) :
    out0_B_6 (F := Ideal) c i a3 h3 a4 h4 a5 h5 a6 h6 a7 h7 a8 h8 a9 h9 hc0 hc1 hc2 hc3 hc4 x0 x1 x2 x3 xo5 xo6
      = addf xo6 (sumS (k0_pay7 (F := Ideal) rows x1) x0 x2) := by
  unfold out0_B_6
  rw [View.read_writes_eq_canon _ _ _ (cover0_B_6 c i a3 h3 a4 h4 a5 h5 a6 h6 a7 h7 a8 h8 a9 h9 hc0 hc1 hc2 hc3 hc4 x0 x1 x2 x3 xo5 xo6)]
  unfold kernelRun0_B; dsimp only; sl_unfold_words
  rw [View.canon_unit_zero hz2]
  simp only [View.readAt_eq_ld, h3.read_unread, h4.read_unread, h5.read_unread, h6.read_unread, h8.read_unread, h9.read_unread,
    whole_reads]
  first
    | rfl
    | (unfold k0_pay9; rw [shapeCast_self]; rfl)

end Cert.Pool

end
-- ==== Proof.CasesCD.lean ====
/- What one point of the grid leaves in its three output blocks, in the kernel's own operations: the first sequence at width 4 and the second sequence at width 4. -/
module

public import proofs.«01_k».proof.Proof.CasesAB
public import proofs.«01_k».proof.Proof.Gen.KernelIdeal.Frame

@[expose] public section

noncomputable section

namespace Cert.Pool

open Idealize.ShloMosaic hiding ix0 ix1 ix2 ix3 ix4 ix5
open Idealize.ShloMosaic.ValueIdx Cert.KernelIdeal Cert.KernelIdeal.Gen

variable (c : Dev nD) (i : grid0.Coords)
    (a3 : Memref sig .tc .vmem S1x2048x256 .bf16) (h3 : a3.IsWhole) (a4 : Memref sig .tc .vmem S2048x256 .bf16) (h4 : a4.IsWhole)
    (a5 : Memref sig .tc .vmem S1x256x256 .bf16) (h5 : a5.IsWhole) (a6 : Memref sig .tc .vmem S1x256 .f32) (h6 : a6.IsWhole)
    (a7 : Memref sig .tc .vmem S1x2048x256 .bf16) (h7 : a7.IsWhole) (a8 : Memref sig .tc .vmem S1x256x256 .f32) (h8 : a8.IsWhole)
    (a9 : Memref sig .tc .vmem S1x256 .f32) (h9 : a9.IsWhole)
    (x0 : Vec Ideal S1x2048x256 .bf16) (x1 : Vec Ideal S2048x256 .bf16) (x2 : Vec Ideal S1x256x256 .bf16) (x3 : Vec Ideal S1x256 .f32)
    (xo5 : Vec Ideal S1x256x256 .f32) (xo6 : Vec Ideal S1x256 .f32)

theorem out_C_4 (hc0 : cond0_0 i) (hc1 : ¬cond0_1 i) (hc2 : cond0_2 i) (hc3 : ¬cond0_3 i) (hc4 : ¬cond0_4 i) :
    out0_C_4 (F := Ideal) c i a3 h3 a4 h4 a5 h5 a6 h6 a7 h7 a8 h8 a9 h9 hc0 hc1 hc2 hc3 hc4 x0 x1 x2 x3
      = dzOf (wu 2046#32 (wu 2047#32 (over 4#32 (gpArr x0 x2 x3)))) (gpArr x0 x2 x3) := by
  unfold out0_C_4
  rw [View.read_writes_eq_canon _ _ _ (cover0_C_4 c i a3 h3 a4 h4 a5 h5 a6 h6 a7 h7 a8 h8 a9 h9 hc0 hc1 hc2 hc3 hc4 x0 x1 x2 x3)]
  unfold kernelRun0_C; dsimp only; sl_unfold_words
  rw [View.canon_unit_zero hz3]
  simp only [View.readAt_eq_ld, h3.read_unread, h4.read_unread, h5.read_unread, h6.read_unread, h8.read_unread, h9.read_unread,
    whole_reads]
  rfl

theorem out_C_5 (hc0 : cond0_0 i) (hc1 : ¬cond0_1 i) (hc2 : cond0_2 i) (hc3 : ¬cond0_3 i) (hc4 : ¬cond0_4 i) :
    out0_C_5 (F := Ideal) c i a3 h3 a4 h4 a5 h5 a6 h6 a7 h7 a8 h8 a9 h9 hc0 hc1 hc2 hc3 hc4 x0 x1 x2 x3
      = accW (k0_pay1 (F := Ideal)) (sumW (k0_pay12 (F := Ideal) rows x1) x0 x3) := by
  unfold out0_C_5
  rw [View.read_writes_eq_canon _ _ _ (cover0_C_5 c i a3 h3 a4 h4 a5 h5 a6 h6 a7 h7 a8 h8 a9 h9 hc0 hc1 hc2 hc3 hc4 x0 x1 x2 x3)]
  unfold kernelRun0_C; dsimp only; sl_unfold_words
  rw [View.canon_cons_unit_zero (S := S1x256x256) hz3, View.readCov_unit_zero (S := S1x256x256) _ hz3]
  simp only [View.readAt_eq_ld, h3.read_unread, h4.read_unread, h5.read_unread, h6.read_unread, h8.read_unread, h9.read_unread,
    whole_reads]
  rfl

theorem out_C_6 (hc0 : cond0_0 i) (hc1 : ¬cond0_1 i) (hc2 : cond0_2 i) (hc3 : ¬cond0_3 i) (hc4 : ¬cond0_4 i) :
    out0_C_6 (F := Ideal) c i a3 h3 a4 h4 a5 h5 a6 h6 a7 h7 a8 h8 a9 h9 hc0 hc1 hc2 hc3 hc4 x0 x1 x2 x3
      = addf (k0_pay2 (F := Ideal)) (sumS (k0_pay12 (F := Ideal) rows x1) x0 x2) := by
  unfold out0_C_6
  rw [View.read_writes_eq_canon _ _ _ (cover0_C_6 c i a3 h3 a4 h4 a5 h5 a6 h6 a7 h7 a8 h8 a9 h9 hc0 hc1 hc2 hc3 hc4 x0 x1 x2 x3)]
  unfold kernelRun0_C; dsimp only; sl_unfold_words
  rw [View.canon_cons_unit_zero (S := S1x256) hz2, View.readCov_unit_zero (S := S1x256) _ hz2]
  simp only [View.readAt_eq_ld, h3.read_unread, h4.read_unread, h5.read_unread, h6.read_unread, h8.read_unread, h9.read_unread,
    whole_reads]
  first
    | rfl
    | (unfold k0_pay14; rw [shapeCast_self]; rfl)

theorem out_D_4 (hc0 : ¬cond0_0 i) (hc1 : ¬cond0_1 i) (hc2 : cond0_2 i) (hc3 : ¬cond0_3 i) (hc4 : ¬cond0_4 i) :
    out0_D_4 (F := Ideal) c i a3 h3 a4 h4 a5 h5 a6 h6 a7 h7 a8 h8 a9 h9 hc0 hc1 hc2 hc3 hc4 x0 x1 x2 x3 xo5 xo6
      = dzOf (wu 2046#32 (wu 2047#32 (over 4#32 (gpArr x0 x2 x3)))) (gpArr x0 x2 x3) := by
  unfold out0_D_4
  rw [View.read_writes_eq_canon _ _ _ (cover0_D_4 c i a3 h3 a4 h4 a5 h5 a6 h6 a7 h7 a8 h8 a9 h9 hc0 hc1 hc2 hc3 hc4 x0 x1 x2 x3 xo5 xo6)]
  unfold kernelRun0_D; dsimp only; sl_unfold_words
  rw [View.canon_unit_zero hz3]
  simp only [View.readAt_eq_ld, h3.read_unread, h4.read_unread, h5.read_unread, h6.read_unread, h8.read_unread, h9.read_unread,
    whole_reads]
  rfl

theorem out_D_5 (hc0 : ¬cond0_0 i) (hc1 : ¬cond0_1 i) (hc2 : cond0_2 i) (hc3 : ¬cond0_3 i) (hc4 : ¬cond0_4 i) :
    out0_D_5 (F := Ideal) c i a3 h3 a4 h4 a5 h5 a6 h6 a7 h7 a8 h8 a9 h9 hc0 hc1 hc2 hc3 hc4 x0 x1 x2 x3 xo5 xo6
      = accW xo5 (sumW (k0_pay12 (F := Ideal) rows x1) x0 x3) := by
  unfold out0_D_5
  rw [View.read_writes_eq_canon _ _ _ (cover0_D_5 c i a3 h3 a4 h4 a5 h5 a6 h6 a7 h7 a8 h8 a9 h9 hc0 hc1 hc2 hc3 hc4 x0 x1 x2 x3 xo5 xo6)]
  unfold kernelRun0_D; dsimp only; sl_unfold_words
  rw [View.canon_unit_zero hz3]
  simp only [View.readAt_eq_ld, h3.read_unread, h4.read_unread, h5.read_unread, h6.read_unread, h8.read_unread, h9.read_unread,
    whole_reads]
  rfl

theorem out_D_6 (hc0 : ¬cond0_0 i) (hc1 : ¬cond0_1 i) (hc2 : cond0_2 i) (hc3 : ¬cond0_3 i) (hc4 : ¬cond0_4 i) :
    out0_D_6 (F := Ideal) c i a3 h3 a4 h4 a5 h5 a6 h6 a7 h7 a8 h8 a9 h9 hc0 hc1 hc2 hc3 hc4 x0 x1 x2 x3 xo5 xo6
      = addf xo6 (sumS (k0_pay12 (F := Ideal) rows x1) x0 x2) := by
  unfold out0_D_6
  rw [View.read_writes_eq_canon _ _ _ (cover0_D_6 c i a3 h3 a4 h4 a5 h5 a6 h6 a7 h7 a8 h8 a9 h9 hc0 hc1 hc2 hc3 hc4 x0 x1 x2 x3 xo5 xo6)]
  unfold kernelRun0_D; dsimp only; sl_unfold_words
  rw [View.canon_unit_zero hz2]
  simp only [View.readAt_eq_ld, h3.read_unread, h4.read_unread, h5.read_unread, h6.read_unread, h8.read_unread, h9.read_unread,
    whole_reads]
  first
    | rfl
    | (unfold k0_pay14; rw [shapeCast_self]; rfl)

end Cert.Pool

end
-- ==== Proof.CasesEF.lean ====
/- What one point of the grid leaves in its three output blocks, in the kernel's own operations: the first sequence at width 8 and the second sequence at width 8. -/
module

public import proofs.«01_k».proof.Proof.CasesAB
public import proofs.«01_k».proof.Proof.Gen.KernelIdeal.Frame

@[expose] public section

noncomputable section

namespace Cert.Pool

open Idealize.ShloMosaic hiding ix0 ix1 ix2 ix3 ix4 ix5
open Idealize.ShloMosaic.ValueIdx Cert.KernelIdeal Cert.KernelIdeal.Gen

variable (c : Dev nD) (i : grid0.Coords)
    (a3 : Memref sig .tc .vmem S1x2048x256 .bf16) (h3 : a3.IsWhole) (a4 : Memref sig .tc .vmem S2048x256 .bf16) (h4 : a4.IsWhole)
    (a5 : Memref sig .tc .vmem S1x256x256 .bf16) (h5 : a5.IsWhole) (a6 : Memref sig .tc .vmem S1x256 .f32) (h6 : a6.IsWhole)
    (a7 : Memref sig .tc .vmem S1x2048x256 .bf16) (h7 : a7.IsWhole) (a8 : Memref sig .tc .vmem S1x256x256 .f32) (h8 : a8.IsWhole)
    (a9 : Memref sig .tc .vmem S1x256 .f32) (h9 : a9.IsWhole)
    (x0 : Vec Ideal S1x2048x256 .bf16) (x1 : Vec Ideal S2048x256 .bf16) (x2 : Vec Ideal S1x256x256 .bf16) (x3 : Vec Ideal S1x256 .f32)
    (xo5 : Vec Ideal S1x256x256 .f32) (xo6 : Vec Ideal S1x256 .f32)

theorem out_E_4 (hc0 : cond0_0 i) (hc1 : ¬cond0_1 i) (hc2 : ¬cond0_2 i) (hc3 : cond0_3 i) (hc4 : ¬cond0_4 i) :
    out0_E_4 (F := Ideal) c i a3 h3 a4 h4 a5 h5 a6 h6 a7 h7 a8 h8 a9 h9 hc0 hc1 hc2 hc3 hc4 x0 x1 x2 x3
      = dzOf (wu 2044#32 (wu 2046#32 (wu 2047#32 (over 8#32 (gpArr x0 x2 x3))))) (gpArr x0 x2 x3) := by
  unfold out0_E_4
  rw [View.read_writes_eq_canon _ _ _ (cover0_E_4 c i a3 h3 a4 h4 a5 h5 a6 h6 a7 h7 a8 h8 a9 h9 hc0 hc1 hc2 hc3 hc4 x0 x1 x2 x3)]
  unfold kernelRun0_E; dsimp only; sl_unfold_words
  rw [View.canon_unit_zero hz3]
  simp only [View.readAt_eq_ld, h3.read_unread, h4.read_unread, h5.read_unread, h6.read_unread, h8.read_unread, h9.read_unread,
    whole_reads]
  rfl

theorem out_E_5 (hc0 : cond0_0 i) (hc1 : ¬cond0_1 i) (hc2 : ¬cond0_2 i) (hc3 : cond0_3 i) (hc4 : ¬cond0_4 i) :
    out0_E_5 (F := Ideal) c i a3 h3 a4 h4 a5 h5 a6 h6 a7 h7 a8 h8 a9 h9 hc0 hc1 hc2 hc3 hc4 x0 x1 x2 x3
      = accW (k0_pay1 (F := Ideal)) (sumW (k0_pay18 (F := Ideal) rows x1) x0 x3) := by
  unfold out0_E_5
  rw [View.read_writes_eq_canon _ _ _ (cover0_E_5 c i a3 h3 a4 h4 a5 h5 a6 h6 a7 h7 a8 h8 a9 h9 hc0 hc1 hc2 hc3 hc4 x0 x1 x2 x3)]
  unfold kernelRun0_E; dsimp only; sl_unfold_words
  rw [View.canon_cons_unit_zero (S := S1x256x256) hz3, View.readCov_unit_zero (S := S1x256x256) _ hz3]
  simp only [View.readAt_eq_ld, h3.read_unread, h4.read_unread, h5.read_unread, h6.read_unread, h8.read_unread, h9.read_unread,
    whole_reads]
  rfl

theorem out_E_6 (hc0 : cond0_0 i) (hc1 : ¬cond0_1 i) (hc2 : ¬cond0_2 i) (hc3 : cond0_3 i) (hc4 : ¬cond0_4 i) :
    out0_E_6 (F := Ideal) c i a3 h3 a4 h4 a5 h5 a6 h6 a7 h7 a8 h8 a9 h9 hc0 hc1 hc2 hc3 hc4 x0 x1 x2 x3
      = addf (k0_pay2 (F := Ideal)) (sumS (k0_pay18 (F := Ideal) rows x1) x0 x2) := by
  unfold out0_E_6
  rw [View.read_writes_eq_canon _ _ _ (cover0_E_6 c i a3 h3 a4 h4 a5 h5 a6 h6 a7 h7 a8 h8 a9 h9 hc0 hc1 hc2 hc3 hc4 x0 x1 x2 x3)]
  unfold kernelRun0_E; dsimp only; sl_unfold_words
  rw [View.canon_cons_unit_zero (S := S1x256) hz2, View.readCov_unit_zero (S := S1x256) _ hz2]
  simp only [View.readAt_eq_ld, h3.read_unread, h4.read_unread, h5.read_unread, h6.read_unread, h8.read_unread, h9.read_unread,
    whole_reads]
  first
    | rfl
    | (unfold k0_pay22 k0_pay20; rw [shapeCast_self]; rfl)

theorem out_F_4 (hc0 : ¬cond0_0 i) (hc1 : ¬cond0_1 i) (hc2 : ¬cond0_2 i) (hc3 : cond0_3 i) (hc4 : ¬cond0_4 i) :
    out0_F_4 (F := Ideal) c i a3 h3 a4 h4 a5 h5 a6 h6 a7 h7 a8 h8 a9 h9 hc0 hc1 hc2 hc3 hc4 x0 x1 x2 x3 xo5 xo6
      = dzOf (wu 2044#32 (wu 2046#32 (wu 2047#32 (over 8#32 (gpArr x0 x2 x3))))) (gpArr x0 x2 x3) := by
  unfold out0_F_4
  rw [View.read_writes_eq_canon _ _ _ (cover0_F_4 c i a3 h3 a4 h4 a5 h5 a6 h6 a7 h7 a8 h8 a9 h9 hc0 hc1 hc2 hc3 hc4 x0 x1 x2 x3 xo5 xo6)]
  unfold kernelRun0_F; dsimp only; sl_unfold_words
  rw [View.canon_unit_zero hz3]
  simp only [View.readAt_eq_ld, h3.read_unread, h4.read_unread, h5.read_unread, h6.read_unread, h8.read_unread, h9.read_unread,
    whole_reads]
  rfl

theorem out_F_5 (hc0 : ¬cond0_0 i) (hc1 : ¬cond0_1 i) (hc2 : ¬cond0_2 i) (hc3 : cond0_3 i) (hc4 : ¬cond0_4 i) :
    out0_F_5 (F := Ideal) c i a3 h3 a4 h4 a5 h5 a6 h6 a7 h7 a8 h8 a9 h9 hc0 hc1 hc2 hc3 hc4 x0 x1 x2 x3 xo5 xo6
      = accW xo5 (sumW (k0_pay18 (F := Ideal) rows x1) x0 x3) := by
  unfold out0_F_5
  rw [View.read_writes_eq_canon _ _ _ (cover0_F_5 c i a3 h3 a4 h4 a5 h5 a6 h6 a7 h7 a8 h8 a9 h9 hc0 hc1 hc2 hc3 hc4 x0 x1 x2 x3 xo5 xo6)]
  unfold kernelRun0_F; dsimp only; sl_unfold_words
  rw [View.canon_unit_zero hz3]
  simp only [View.readAt_eq_ld, h3.read_unread, h4.read_unread, h5.read_unread, h6.read_unread, h8.read_unread, h9.read_unread,
    whole_reads]
  rfl

theorem out_F_6 (hc0 : ¬cond0_0 i) (hc1 : ¬cond0_1 i) (hc2 : ¬cond0_2 i) (hc3 : cond0_3 i) (hc4 : ¬cond0_4 i) :
    out0_F_6 (F := Ideal) c i a3 h3 a4 h4 a5 h5 a6 h6 a7 h7 a8 h8 a9 h9 hc0 hc1 hc2 hc3 hc4 x0 x1 x2 x3 xo5 xo6
      = addf xo6 (sumS (k0_pay18 (F := Ideal) rows x1) x0 x2) := by
  unfold out0_F_6
  rw [View.read_writes_eq_canon _ _ _ (cover0_F_6 c i a3 h3 a4 h4 a5 h5 a6 h6 a7 h7 a8 h8 a9 h9 hc0 hc1 hc2 hc3 hc4 x0 x1 x2 x3 xo5 xo6)]
  unfold kernelRun0_F; dsimp only; sl_unfold_words
  rw [View.canon_unit_zero hz2]
  simp only [View.readAt_eq_ld, h3.read_unread, h4.read_unread, h5.read_unread, h6.read_unread, h8.read_unread, h9.read_unread,
    whole_reads]
  first
    | rfl
    | (unfold k0_pay22 k0_pay20; rw [shapeCast_self]; rfl)

end Cert.Pool

end
-- ==== Proof.CasesGH.lean ====
/- What one point of the grid leaves in its three output blocks, in the kernel's own operations: the first sequence at width 16 and the second sequence at width 16. -/
module

public import proofs.«01_k».proof.Proof.CasesAB
public import proofs.«01_k».proof.Proof.Gen.KernelIdeal.Frame

@[expose] public section

noncomputable section

namespace Cert.Pool

open Idealize.ShloMosaic hiding ix0 ix1 ix2 ix3 ix4 ix5
open Idealize.ShloMosaic.ValueIdx Cert.KernelIdeal Cert.KernelIdeal.Gen

variable (c : Dev nD) (i : grid0.Coords)
    (a3 : Memref sig .tc .vmem S1x2048x256 .bf16) (h3 : a3.IsWhole) (a4 : Memref sig .tc .vmem S2048x256 .bf16) (h4 : a4.IsWhole)
    (a5 : Memref sig .tc .vmem S1x256x256 .bf16) (h5 : a5.IsWhole) (a6 : Memref sig .tc .vmem S1x256 .f32) (h6 : a6.IsWhole)
    (a7 : Memref sig .tc .vmem S1x2048x256 .bf16) (h7 : a7.IsWhole) (a8 : Memref sig .tc .vmem S1x256x256 .f32) (h8 : a8.IsWhole)
    (a9 : Memref sig .tc .vmem S1x256 .f32) (h9 : a9.IsWhole)
    (x0 : Vec Ideal S1x2048x256 .bf16) (x1 : Vec Ideal S2048x256 .bf16) (x2 : Vec Ideal S1x256x256 .bf16) (x3 : Vec Ideal S1x256 .f32)
    (xo5 : Vec Ideal S1x256x256 .f32) (xo6 : Vec Ideal S1x256 .f32)

theorem out_G_4 (hc0 : cond0_0 i) (hc1 : ¬cond0_1 i) (hc2 : ¬cond0_2 i) (hc3 : ¬cond0_3 i) (hc4 : cond0_4 i) :
    out0_G_4 (F := Ideal) c i a3 h3 a4 h4 a5 h5 a6 h6 a7 h7 a8 h8 a9 h9 hc0 hc1 hc2 hc3 hc4 x0 x1 x2 x3
      = dzOf (wu 2040#32 (wu 2044#32 (wu 2046#32 (wu 2047#32 (over 16#32 (gpArr x0 x2 x3)))))) (gpArr x0 x2 x3) := by
  unfold out0_G_4
  rw [View.read_writes_eq_canon _ _ _ (cover0_G_4 c i a3 h3 a4 h4 a5 h5 a6 h6 a7 h7 a8 h8 a9 h9 hc0 hc1 hc2 hc3 hc4 x0 x1 x2 x3)]
  unfold kernelRun0_G; dsimp only; sl_unfold_words
  rw [View.canon_unit_zero hz3]
  simp only [View.readAt_eq_ld, h3.read_unread, h4.read_unread, h5.read_unread, h6.read_unread, h8.read_unread, h9.read_unread,
    whole_reads]
  rfl

theorem out_G_5 (hc0 : cond0_0 i) (hc1 : ¬cond0_1 i) (hc2 : ¬cond0_2 i) (hc3 : ¬cond0_3 i) (hc4 : cond0_4 i) :
    out0_G_5 (F := Ideal) c i a3 h3 a4 h4 a5 h5 a6 h6 a7 h7 a8 h8 a9 h9 hc0 hc1 hc2 hc3 hc4 x0 x1 x2 x3
      = accW (k0_pay1 (F := Ideal)) (sumW (k0_pay28 (F := Ideal) rows x1) x0 x3) := by
  unfold out0_G_5
  rw [View.read_writes_eq_canon _ _ _ (cover0_G_5 c i a3 h3 a4 h4 a5 h5 a6 h6 a7 h7 a8 h8 a9 h9 hc0 hc1 hc2 hc3 hc4 x0 x1 x2 x3)]
  unfold kernelRun0_G; dsimp only; sl_unfold_words
  rw [View.canon_cons_unit_zero (S := S1x256x256) hz3, View.readCov_unit_zero (S := S1x256x256) _ hz3]
  simp only [View.readAt_eq_ld, h3.read_unread, h4.read_unread, h5.read_unread, h6.read_unread, h8.read_unread, h9.read_unread,
    whole_reads]
  rfl

theorem out_G_6 (hc0 : cond0_0 i) (hc1 : ¬cond0_1 i) (hc2 : ¬cond0_2 i) (hc3 : ¬cond0_3 i) (hc4 : cond0_4 i) :
    out0_G_6 (F := Ideal) c i a3 h3 a4 h4 a5 h5 a6 h6 a7 h7 a8 h8 a9 h9 hc0 hc1 hc2 hc3 hc4 x0 x1 x2 x3
      = addf (k0_pay2 (F := Ideal)) (sumS (k0_pay28 (F := Ideal) rows x1) x0 x2) := by
  unfold out0_G_6
  rw [View.read_writes_eq_canon _ _ _ (cover0_G_6 c i a3 h3 a4 h4 a5 h5 a6 h6 a7 h7 a8 h8 a9 h9 hc0 hc1 hc2 hc3 hc4 x0 x1 x2 x3)]
  unfold kernelRun0_G; dsimp only; sl_unfold_words
  rw [View.canon_cons_unit_zero (S := S1x256) hz2, View.readCov_unit_zero (S := S1x256) _ hz2]
  simp only [View.readAt_eq_ld, h3.read_unread, h4.read_unread, h5.read_unread, h6.read_unread, h8.read_unread, h9.read_unread,
    whole_reads]
  first
    | rfl
    | (unfold k0_pay31; rw [shapeCast_self]; rfl)

theorem out_H_4 (hc0 : ¬cond0_0 i) (hc1 : ¬cond0_1 i) (hc2 : ¬cond0_2 i) (hc3 : ¬cond0_3 i) (hc4 : cond0_4 i) :
    out0_H_4 (F := Ideal) c i a3 h3 a4 h4 a5 h5 a6 h6 a7 h7 a8 h8 a9 h9 hc0 hc1 hc2 hc3 hc4 x0 x1 x2 x3 xo5 xo6
      = dzOf (wu 2040#32 (wu 2044#32 (wu 2046#32 (wu 2047#32 (over 16#32 (gpArr x0 x2 x3)))))) (gpArr x0 x2 x3) := by
  unfold out0_H_4
  rw [View.read_writes_eq_canon _ _ _ (cover0_H_4 c i a3 h3 a4 h4 a5 h5 a6 h6 a7 h7 a8 h8 a9 h9 hc0 hc1 hc2 hc3 hc4 x0 x1 x2 x3 xo5 xo6)]
  unfold kernelRun0_H; dsimp only; sl_unfold_words
  rw [View.canon_unit_zero hz3]
  simp only [View.readAt_eq_ld, h3.read_unread, h4.read_unread, h5.read_unread, h6.read_unread, h8.read_unread, h9.read_unread,
    whole_reads]
  rfl

theorem out_H_5 (hc0 : ¬cond0_0 i) (hc1 : ¬cond0_1 i) (hc2 : ¬cond0_2 i) (hc3 : ¬cond0_3 i) (hc4 : cond0_4 i) :
    out0_H_5 (F := Ideal) c i a3 h3 a4 h4 a5 h5 a6 h6 a7 h7 a8 h8 a9 h9 hc0 hc1 hc2 hc3 hc4 x0 x1 x2 x3 xo5 xo6
      = accW xo5 (sumW (k0_pay28 (F := Ideal) rows x1) x0 x3) := by
  unfold out0_H_5
  rw [View.read_writes_eq_canon _ _ _ (cover0_H_5 c i a3 h3 a4 h4 a5 h5 a6 h6 a7 h7 a8 h8 a9 h9 hc0 hc1 hc2 hc3 hc4 x0 x1 x2 x3 xo5 xo6)]
  unfold kernelRun0_H; dsimp only; sl_unfold_words
  rw [View.canon_unit_zero hz3]
  simp only [View.readAt_eq_ld, h3.read_unread, h4.read_unread, h5.read_unread, h6.read_unread, h8.read_unread, h9.read_unread,
    whole_reads]
  rfl

theorem out_H_6 (hc0 : ¬cond0_0 i) (hc1 : ¬cond0_1 i) (hc2 : ¬cond0_2 i) (hc3 : ¬cond0_3 i) (hc4 : cond0_4 i) :
    out0_H_6 (F := Ideal) c i a3 h3 a4 h4 a5 h5 a6 h6 a7 h7 a8 h8 a9 h9 hc0 hc1 hc2 hc3 hc4 x0 x1 x2 x3 xo5 xo6
      = addf xo6 (sumS (k0_pay28 (F := Ideal) rows x1) x0 x2) := by
  unfold out0_H_6
  rw [View.read_writes_eq_canon _ _ _ (cover0_H_6 c i a3 h3 a4 h4 a5 h5 a6 h6 a7 h7 a8 h8 a9 h9 hc0 hc1 hc2 hc3 hc4 x0 x1 x2 x3 xo5 xo6)]
  unfold kernelRun0_H; dsimp only; sl_unfold_words
  rw [View.canon_unit_zero hz2]
  simp only [View.readAt_eq_ld, h3.read_unread, h4.read_unread, h5.read_unread, h6.read_unread, h8.read_unread, h9.read_unread,
    whole_reads]
  first
    | rfl
    | (unfold k0_pay31; rw [shapeCast_self]; rfl)

end Cert.Pool

end
-- ==== Proof.Reads.lean ====
/- What a grid point reads: point `t` works at width `2 ^ (t / 2 + 1)`, on columns `256 (t / 2)` on, and on sequence `t % 2`. -/
module

public import proofs.«01_k».proof.Proof.Ops
public import proofs.«01_k».proof.Proof.Gen.KernelIdeal.Frame.Runs

@[expose] public section

noncomputable section

namespace Cert.Pool

open Idealize.ShloMosaic hiding ix0 ix1 ix2 ix3 ix4 ix5
open Idealize.ShloMosaic.ValueIdx Cert.KernelIdeal Cert.KernelIdeal.Gen

variable (m : (ℓ : Loc nD τ sig) → Buf (Elt Ideal) ℓ) (c : Dev nD)

/-- The arguments' contents. -/
abbrev A0 : S6x4096x1024.Idx → EReal := m ((c.tc : Thread nD τ).loc main_arg0)
abbrev A1 : S2x4096x1024.Idx → EReal := m ((c.tc : Thread nD τ).loc main_arg1)
abbrev A2 : S4096x6144.Idx → EReal := m ((c.tc : Thread nD τ).loc main_arg2)
abbrev A3 : S4x256x256.Idx → EReal := m ((c.tc : Thread nD τ).loc main_arg3)
abbrev A4 : S1x1024.Idx → EReal := m ((c.tc : Thread nD τ).loc main_arg4)

theorem lt8 (t : Fin cfg0.N) : t.val < 8 := t.isLt

/-- The row of the whole array that is row `r` of sequence `b`. -/
def rowAt (b : ℕ) (hb : b < 2) (r : Fin 2048) : Fin 4096 := ⟨2048 * b + r.val, by have := r.isLt; omega⟩
/-- The column of the whole array that is column `e` of group `j`. -/
def colAt (j : ℕ) (hj : j < 4) (e : Fin 256) : Fin 1024 := ⟨256 * j + e.val, by have := e.isLt; omega⟩

theorem ix_facts : ∀ t : Fin cfg0.N,
    (win0_0.index t 0 = 0 ∧ win0_0.index t 1 = t.val % 2 ∧ win0_0.index t 2 = t.val / 2)
    ∧ (win0_1.index t 0 = t.val % 2 ∧ win0_1.index t 1 = t.val / 2)
    ∧ (win0_2.index t 0 = t.val / 2 ∧ win0_2.index t 1 = 0 ∧ win0_2.index t 2 = 0)
    ∧ (win0_3.index t 0 = 0 ∧ win0_3.index t 1 = t.val / 2)
    ∧ (win0_4.index t 0 = 3 ∧ win0_4.index t 1 = t.val % 2 ∧ win0_4.index t 2 = t.val / 2)
    ∧ (win0_5.index t 0 = t.val / 2 ∧ win0_5.index t 1 = 0 ∧ win0_5.index t 2 = 0)
    ∧ (win0_6.index t 0 = 0 ∧ win0_6.index t 1 = t.val / 2) :=
  (by decide +kernel : ∀ t : Fin grid0.N,
    (win0_0.index t 0 = 0 ∧ win0_0.index t 1 = t.val % 2 ∧ win0_0.index t 2 = t.val / 2)
    ∧ (win0_1.index t 0 = t.val % 2 ∧ win0_1.index t 1 = t.val / 2)
    ∧ (win0_2.index t 0 = t.val / 2 ∧ win0_2.index t 1 = 0 ∧ win0_2.index t 2 = 0)
    ∧ (win0_3.index t 0 = 0 ∧ win0_3.index t 1 = t.val / 2)
    ∧ (win0_4.index t 0 = 3 ∧ win0_4.index t 1 = t.val % 2 ∧ win0_4.index t 2 = t.val / 2)
    ∧ (win0_5.index t 0 = t.val / 2 ∧ win0_5.index t 1 = 0 ∧ win0_5.index t 2 = 0)
    ∧ (win0_6.index t 0 = 0 ∧ win0_6.index t 1 = t.val / 2))

theorem read0 (t : Fin cfg0.N) (u : Fin 1) (r : Fin 2048) (e : Fin 256) :
    (iblk m c 0 t : Vec Ideal S1x2048x256 .bf16) (ix3 u r e)
      = A1 m c (ix3 0 (rowAt (t.val % 2) (by omega) r) (colAt (t.val / 2) (by have := lt8 t; omega) e)) := by
  obtain ⟨⟨i0, i1, i2⟩, -⟩ := ix_facts t
  unfold iblk
  rw [View.read_apply]
  show V m c main_arg1 _ = _
  rw [V_main_arg1]
  refine congrArg (m _) (funext fun a => Fin.ext ?_)
  match a with
  | ⟨0, _⟩ => show win0_0.index t 0 * 1 + 1 * u.val = 0; rw [i0]; omega
  | ⟨1, _⟩ => show win0_0.index t 1 * 2048 + 1 * r.val = 2048 * (t.val % 2) + r.val; rw [i1]; omega
  | ⟨2, _⟩ => show win0_0.index t 2 * 256 + 1 * e.val = 256 * (t.val / 2) + e.val; rw [i2]; omega

theorem read1 (t : Fin cfg0.N) (r : Fin 2048) (e : Fin 256) :
    (iblk m c 1 t : Vec Ideal S2048x256 .bf16) (ix2 r e)
      = A2 m c (ix2 (rowAt (t.val % 2) (by omega) r)
          ((colAt (t.val / 2) (by have := lt8 t; omega) e).castLE (by decide))) := by
  obtain ⟨-, ⟨i0, i1⟩, -⟩ := ix_facts t
  unfold iblk
  rw [View.read_apply]
  show V m c main_arg2 _ = _
  rw [V_main_arg2]
  refine congrArg (m _) (funext fun a => Fin.ext ?_)
  match a with
  | ⟨0, _⟩ => show win0_1.index t 0 * 2048 + 1 * r.val = 2048 * (t.val % 2) + r.val; rw [i0]; omega
  | ⟨1, _⟩ => show win0_1.index t 1 * 256 + 1 * e.val = 256 * (t.val / 2) + e.val; rw [i1]; omega

theorem V_cast : V m c main_v0 = (truncf .bf16 (m ((c.tc : Thread nD τ).loc main_arg3) : FVec Ideal S4x256x256 .f32) bitsLt_bf16_f32 : FVec Ideal S4x256x256 .bf16) := rfl

theorem read2 (t : Fin cfg0.N) (u : Fin 1) (d e : Fin 256) :
    (iblk m c 2 t : Vec Ideal S1x256x256 .bf16) (ix3 u d e)
      = A3 m c (ix3 ⟨t.val / 2, by have := lt8 t; omega⟩ d e) := by
  obtain ⟨-, -, ⟨i0, i1, i2⟩, -⟩ := ix_facts t
  unfold iblk
  rw [View.read_apply]
  show V m c main_v0 _ = _
  rw [V_cast]
  refine congrArg (m _) (funext fun a => Fin.ext ?_)
  match a with
  | ⟨0, _⟩ => show win0_2.index t 0 * 1 + 1 * u.val = t.val / 2; rw [i0]; omega
  | ⟨1, _⟩ => show win0_2.index t 1 * 256 + 1 * d.val = d.val; rw [i1]; omega
  | ⟨2, _⟩ => show win0_2.index t 2 * 256 + 1 * e.val = e.val; rw [i2]; omega

theorem read3 (t : Fin cfg0.N) (u : Fin 1) (e : Fin 256) :
    (iblk m c 3 t : Vec Ideal S1x256 .f32) (ix2 u e)
      = A4 m c (ix2 0 (colAt (t.val / 2) (by have := lt8 t; omega) e)) := by
  obtain ⟨-, -, -, ⟨i0, i1⟩, -⟩ := ix_facts t
  unfold iblk
  rw [View.read_apply]
  show V m c main_arg4 _ = _
  rw [V_main_arg4]
  refine congrArg (m _) (funext fun a => Fin.ext ?_)
  match a with
  | ⟨0, _⟩ => show win0_3.index t 0 * 1 + 1 * u.val = 0; rw [i0]; omega
  | ⟨1, _⟩ => show win0_3.index t 1 * 256 + 1 * e.val = 256 * (t.val / 2) + e.val; rw [i1]; omega

end Cert.Pool

end
-- ==== Proof.Outs.lean ====
/- What each grid point leaves in its output blocks, element by element. -/
module

public import proofs.«01_k».proof.Proof.CasesAB
public import proofs.«01_k».proof.Proof.CasesCD
public import proofs.«01_k».proof.Proof.CasesEF
public import proofs.«01_k».proof.Proof.CasesGH
public import proofs.«01_k».proof.Proof.Reads

@[expose] public section

noncomputable section

namespace Cert.Pool

open Idealize.ShloMosaic hiding ix0 ix1 ix2 ix3 ix4 ix5
open Idealize.ShloMosaic.ValueIdx Cert.KernelIdeal Cert.KernelIdeal.Gen

variable (m : (ℓ : Loc nD τ sig) → Buf (Elt Ideal) ℓ) (c : Dev nD)

/-- The width of the window at grid point `t`. -/
def width (t : ℕ) : ℕ := 2 ^ (t / 2 + 1)

/-- The blocks point `t` reads, as arrays of extended reals. -/
abbrev X0 (t : Fin cfg0.N) : S1x2048x256.Idx → EReal := (iblk m c 0 t : Vec Ideal S1x2048x256 .bf16)
abbrev X1 (t : Fin cfg0.N) : S2048x256.Idx → EReal := (iblk m c 1 t : Vec Ideal S2048x256 .bf16)
abbrev X2 (t : Fin cfg0.N) : S1x256x256.Idx → EReal := (iblk m c 2 t : Vec Ideal S1x256x256 .bf16)
abbrev X3 (t : Fin cfg0.N) : S1x256.Idx → EReal := (iblk m c 3 t : Vec Ideal S1x256 .f32)

theorem zeroW (u : Fin 1) (d e : Fin 256) : k0_pay1 (F := Ideal) (ix3 u d e) = 0 := by
  unfold k0_pay1
  show shapeCast S1x256x256 (broadcast S256x256 (Scalar.ofBits (F := Ideal) .f32 0x00000000#32)) shapeCasts_S256x256_S1x256x256 (ix3 u d e) = 0
  rw [shapeCast_ab_1ab_apply, broadcast_apply, zero_word]

theorem zeroS (u : Fin 1) (e : Fin 256) : k0_pay2 (F := Ideal) (ix2 u e) = 0 := zero_word

theorem width_of {t j : ℕ} (h : t / 2 = j) : width t = 2 ^ (j + 1) := by unfold width; rw [h]

theorem outs_A (t : Fin cfg0.N) (h0 : t.val % 2 = 0) (h1 : t.val < 2) (h2 : ¬t.val / 2 % 4 = 1) (h3 : ¬t.val / 2 % 4 = 2) (h4 : ¬6 ≤ t.val) :
    (∀ u r e, (outsAt0 m c t.val t.isLt).1 (ix3 u r e) = dz (width t.val) (X0 m c t) (X2 m c t) (X3 m c t) r e)
    ∧ (∀ u d e, (outsAt0 m c t.val t.isLt).2.1 (ix3 u d e)
        = 0 + incW (width t.val) (X0 m c t) (X1 m c t) (X3 m c t) d e)
    ∧ (∀ u e, (outsAt0 m c t.val t.isLt).2.2 (ix2 u e)
        = 0 + incS (width t.val) (X0 m c t) (X1 m c t) (X2 m c t) e) := by
  rw [outsAt0_A m c t h0 h1 h2 h3 h4, width_of (t := t.val) (j := 0) (by have := lt8 t; omega)]
  refine ⟨fun u r e => ?_, fun u d e => ?_, fun u e => ?_⟩
  · dsimp only
    rw [out_A_4]
    exact dzOf_apply 2 _ _ _ _ (fun r e => up2 2 (by omega) _ r e) u r e
  · dsimp only
    rw [out_A_5, accW_apply, sumW_apply 2 _ _ _ _ (pool2 _)]; rw [zeroW]
    rfl
  · dsimp only
    rw [out_A_6, addf_apply, sumS_apply 2 _ _ _ _ (pool2 _)]; rw [zeroS]
    rfl

theorem outs_B (t : Fin cfg0.N) (h0 : ¬t.val % 2 = 0) (h1 : t.val < 2) (h2 : ¬t.val / 2 % 4 = 1) (h3 : ¬t.val / 2 % 4 = 2) (h4 : ¬6 ≤ t.val) :
    (∀ u r e, (outsAt0 m c t.val t.isLt).1 (ix3 u r e) = dz (width t.val) (X0 m c t) (X2 m c t) (X3 m c t) r e)
    ∧ (∀ u d e, (outsAt0 m c t.val t.isLt).2.1 (ix3 u d e)
        = (outsAt0 m c (t.val - 1) (Nat.lt_of_le_of_lt (Nat.sub_le _ _) t.isLt)).2.1 (ix3 0 d e) + incW (width t.val) (X0 m c t) (X1 m c t) (X3 m c t) d e)
    ∧ (∀ u e, (outsAt0 m c t.val t.isLt).2.2 (ix2 u e)
        = (outsAt0 m c (t.val - 1) (Nat.lt_of_le_of_lt (Nat.sub_le _ _) t.isLt)).2.2 (ix2 u e) + incS (width t.val) (X0 m c t) (X1 m c t) (X2 m c t) e) := by
  rw [outsAt0_B m c t h0 h1 h2 h3 h4, width_of (t := t.val) (j := 0) (by have := lt8 t; omega)]
  refine ⟨fun u r e => ?_, fun u d e => ?_, fun u e => ?_⟩
  · dsimp only
    rw [out_B_4]
    exact dzOf_apply 2 _ _ _ _ (fun r e => up2 2 (by omega) _ r e) u r e
  · dsimp only
    rw [out_B_5, accW_apply, sumW_apply 2 _ _ _ _ (pool2 _)]
    rfl
  · dsimp only
    rw [out_B_6, addf_apply, sumS_apply 2 _ _ _ _ (pool2 _)]
    rfl

theorem outs_C (t : Fin cfg0.N) (h0 : t.val % 2 = 0) (h1 : ¬t.val < 2) (h2 : t.val / 2 % 4 = 1) (h3 : ¬t.val / 2 % 4 = 2) (h4 : ¬6 ≤ t.val) :
    (∀ u r e, (outsAt0 m c t.val t.isLt).1 (ix3 u r e) = dz (width t.val) (X0 m c t) (X2 m c t) (X3 m c t) r e)
    ∧ (∀ u d e, (outsAt0 m c t.val t.isLt).2.1 (ix3 u d e)
        = 0 + incW (width t.val) (X0 m c t) (X1 m c t) (X3 m c t) d e)
    ∧ (∀ u e, (outsAt0 m c t.val t.isLt).2.2 (ix2 u e)
        = 0 + incS (width t.val) (X0 m c t) (X1 m c t) (X2 m c t) e) := by
  rw [outsAt0_C m c t h0 h1 h2 h3 h4, width_of (t := t.val) (j := 1) (by have := lt8 t; omega)]
  refine ⟨fun u r e => ?_, fun u d e => ?_, fun u e => ?_⟩
  · dsimp only
    rw [out_C_4]
    exact dzOf_apply 4 _ _ _ _ (fun r e => up4 4 (by omega) _ r e) u r e
  · dsimp only
    rw [out_C_5, accW_apply, sumW_apply 4 _ _ _ _ (pool4 _)]; rw [zeroW]
    rfl
  · dsimp only
    rw [out_C_6, addf_apply, sumS_apply 4 _ _ _ _ (pool4 _)]; rw [zeroS]
    rfl

theorem outs_D (t : Fin cfg0.N) (h0 : ¬t.val % 2 = 0) (h1 : ¬t.val < 2) (h2 : t.val / 2 % 4 = 1) (h3 : ¬t.val / 2 % 4 = 2) (h4 : ¬6 ≤ t.val) :
    (∀ u r e, (outsAt0 m c t.val t.isLt).1 (ix3 u r e) = dz (width t.val) (X0 m c t) (X2 m c t) (X3 m c t) r e)
    ∧ (∀ u d e, (outsAt0 m c t.val t.isLt).2.1 (ix3 u d e)
        = (outsAt0 m c (t.val - 1) (Nat.lt_of_le_of_lt (Nat.sub_le _ _) t.isLt)).2.1 (ix3 0 d e) + incW (width t.val) (X0 m c t) (X1 m c t) (X3 m c t) d e)
    ∧ (∀ u e, (outsAt0 m c t.val t.isLt).2.2 (ix2 u e)
        = (outsAt0 m c (t.val - 1) (Nat.lt_of_le_of_lt (Nat.sub_le _ _) t.isLt)).2.2 (ix2 u e) + incS (width t.val) (X0 m c t) (X1 m c t) (X2 m c t) e) := by
  rw [outsAt0_D m c t h0 h1 h2 h3 h4, width_of (t := t.val) (j := 1) (by have := lt8 t; omega)]
  refine ⟨fun u r e => ?_, fun u d e => ?_, fun u e => ?_⟩
  · dsimp only
    rw [out_D_4]
    exact dzOf_apply 4 _ _ _ _ (fun r e => up4 4 (by omega) _ r e) u r e
  · dsimp only
    rw [out_D_5, accW_apply, sumW_apply 4 _ _ _ _ (pool4 _)]
    rfl
  · dsimp only
    rw [out_D_6, addf_apply, sumS_apply 4 _ _ _ _ (pool4 _)]
    rfl

theorem outs_E (t : Fin cfg0.N) (h0 : t.val % 2 = 0) (h1 : ¬t.val < 2) (h2 : ¬t.val / 2 % 4 = 1) (h3 : t.val / 2 % 4 = 2) (h4 : ¬6 ≤ t.val) :
    (∀ u r e, (outsAt0 m c t.val t.isLt).1 (ix3 u r e) = dz (width t.val) (X0 m c t) (X2 m c t) (X3 m c t) r e)
    ∧ (∀ u d e, (outsAt0 m c t.val t.isLt).2.1 (ix3 u d e)
        = 0 + incW (width t.val) (X0 m c t) (X1 m c t) (X3 m c t) d e)
    ∧ (∀ u e, (outsAt0 m c t.val t.isLt).2.2 (ix2 u e)
        = 0 + incS (width t.val) (X0 m c t) (X1 m c t) (X2 m c t) e) := by
  rw [outsAt0_E m c t h0 h1 h2 h3 h4, width_of (t := t.val) (j := 2) (by have := lt8 t; omega)]
  refine ⟨fun u r e => ?_, fun u d e => ?_, fun u e => ?_⟩
  · dsimp only
    rw [out_E_4]
    exact dzOf_apply 8 _ _ _ _ (fun r e => up8 8 (by omega) _ r e) u r e
  · dsimp only
    rw [out_E_5, accW_apply, sumW_apply 8 _ _ _ _ (pool8 _)]; rw [zeroW]
    rfl
  · dsimp only
    rw [out_E_6, addf_apply, sumS_apply 8 _ _ _ _ (pool8 _)]; rw [zeroS]
    rfl

theorem outs_F (t : Fin cfg0.N) (h0 : ¬t.val % 2 = 0) (h1 : ¬t.val < 2) (h2 : ¬t.val / 2 % 4 = 1) (h3 : t.val / 2 % 4 = 2) (h4 : ¬6 ≤ t.val) :
    (∀ u r e, (outsAt0 m c t.val t.isLt).1 (ix3 u r e) = dz (width t.val) (X0 m c t) (X2 m c t) (X3 m c t) r e)
    ∧ (∀ u d e, (outsAt0 m c t.val t.isLt).2.1 (ix3 u d e)
        = (outsAt0 m c (t.val - 1) (Nat.lt_of_le_of_lt (Nat.sub_le _ _) t.isLt)).2.1 (ix3 0 d e) + incW (width t.val) (X0 m c t) (X1 m c t) (X3 m c t) d e)
    ∧ (∀ u e, (outsAt0 m c t.val t.isLt).2.2 (ix2 u e)
        = (outsAt0 m c (t.val - 1) (Nat.lt_of_le_of_lt (Nat.sub_le _ _) t.isLt)).2.2 (ix2 u e) + incS (width t.val) (X0 m c t) (X1 m c t) (X2 m c t) e) := by
  rw [outsAt0_F m c t h0 h1 h2 h3 h4, width_of (t := t.val) (j := 2) (by have := lt8 t; omega)]
  refine ⟨fun u r e => ?_, fun u d e => ?_, fun u e => ?_⟩
  · dsimp only
    rw [out_F_4]
    exact dzOf_apply 8 _ _ _ _ (fun r e => up8 8 (by omega) _ r e) u r e
  · dsimp only
    rw [out_F_5, accW_apply, sumW_apply 8 _ _ _ _ (pool8 _)]
    rfl
  · dsimp only
    rw [out_F_6, addf_apply, sumS_apply 8 _ _ _ _ (pool8 _)]
    rfl

theorem outs_G (t : Fin cfg0.N) (h0 : t.val % 2 = 0) (h1 : ¬t.val < 2) (h2 : ¬t.val / 2 % 4 = 1) (h3 : ¬t.val / 2 % 4 = 2) (h4 : 6 ≤ t.val) :
    (∀ u r e, (outsAt0 m c t.val t.isLt).1 (ix3 u r e) = dz (width t.val) (X0 m c t) (X2 m c t) (X3 m c t) r e)
    ∧ (∀ u d e, (outsAt0 m c t.val t.isLt).2.1 (ix3 u d e)
        = 0 + incW (width t.val) (X0 m c t) (X1 m c t) (X3 m c t) d e)
    ∧ (∀ u e, (outsAt0 m c t.val t.isLt).2.2 (ix2 u e)
        = 0 + incS (width t.val) (X0 m c t) (X1 m c t) (X2 m c t) e) := by
  rw [outsAt0_G m c t h0 h1 h2 h3 h4, width_of (t := t.val) (j := 3) (by have := lt8 t; omega)]
  refine ⟨fun u r e => ?_, fun u d e => ?_, fun u e => ?_⟩
  · dsimp only
    rw [out_G_4]
    exact dzOf_apply 16 _ _ _ _ (fun r e => up16 16 (by omega) _ r e) u r e
  · dsimp only
    rw [out_G_5, accW_apply, sumW_apply 16 _ _ _ _ (pool16 _)]; rw [zeroW]
    rfl
  · dsimp only
    rw [out_G_6, addf_apply, sumS_apply 16 _ _ _ _ (pool16 _)]; rw [zeroS]
    rfl

theorem outs_H (t : Fin cfg0.N) (h0 : ¬t.val % 2 = 0) (h1 : ¬t.val < 2) (h2 : ¬t.val / 2 % 4 = 1) (h3 : ¬t.val / 2 % 4 = 2) (h4 : 6 ≤ t.val) :
    (∀ u r e, (outsAt0 m c t.val t.isLt).1 (ix3 u r e) = dz (width t.val) (X0 m c t) (X2 m c t) (X3 m c t) r e)
    ∧ (∀ u d e, (outsAt0 m c t.val t.isLt).2.1 (ix3 u d e)
        = (outsAt0 m c (t.val - 1) (Nat.lt_of_le_of_lt (Nat.sub_le _ _) t.isLt)).2.1 (ix3 0 d e) + incW (width t.val) (X0 m c t) (X1 m c t) (X3 m c t) d e)
    ∧ (∀ u e, (outsAt0 m c t.val t.isLt).2.2 (ix2 u e)
        = (outsAt0 m c (t.val - 1) (Nat.lt_of_le_of_lt (Nat.sub_le _ _) t.isLt)).2.2 (ix2 u e) + incS (width t.val) (X0 m c t) (X1 m c t) (X2 m c t) e) := by
  rw [outsAt0_H m c t h0 h1 h2 h3 h4, width_of (t := t.val) (j := 3) (by have := lt8 t; omega)]
  refine ⟨fun u r e => ?_, fun u d e => ?_, fun u e => ?_⟩
  · dsimp only
    rw [out_H_4]
    exact dzOf_apply 16 _ _ _ _ (fun r e => up16 16 (by omega) _ r e) u r e
  · dsimp only
    rw [out_H_5, accW_apply, sumW_apply 16 _ _ _ _ (pool16 _)]
    rfl
  · dsimp only
    rw [out_H_6, addf_apply, sumS_apply 16 _ _ _ _ (pool16 _)]
    rfl

/-- The block of the gradient with respect to the rows. -/
theorem outs_dz (t : Fin cfg0.N) (u : Fin 1) (r : Fin 2048) (e : Fin 256) :
    (outsAt0 m c t.val t.isLt).1 (ix3 u r e) = dz (width t.val) (X0 m c t) (X2 m c t) (X3 m c t) r e := by
  have h8 := lt8 t
  by_cases h0 : t.val % 2 = 0
  · by_cases h1 : t.val < 2
    · exact (outs_A m c t h0 h1 (by omega) (by omega) (by omega)).1 u r e
    · by_cases h2 : t.val / 2 % 4 = 1
      · exact (outs_C m c t h0 h1 h2 (by omega) (by omega)).1 u r e
      · by_cases h3 : t.val / 2 % 4 = 2
        · exact (outs_E m c t h0 h1 h2 h3 (by omega)).1 u r e
        · exact (outs_G m c t h0 h1 h2 h3 (by omega)).1 u r e
  · by_cases h1 : t.val < 2
    · exact (outs_B m c t h0 h1 (by omega) (by omega) (by omega)).1 u r e
    · by_cases h2 : t.val / 2 % 4 = 1
      · exact (outs_D m c t h0 h1 h2 (by omega) (by omega)).1 u r e
      · by_cases h3 : t.val / 2 % 4 = 2
        · exact (outs_F m c t h0 h1 h2 h3 (by omega)).1 u r e
        · exact (outs_H m c t h0 h1 h2 h3 (by omega)).1 u r e

/-- The two accumulators after the first sequence. -/
theorem outs_even (t : Fin cfg0.N) (h0 : t.val % 2 = 0) :
    (∀ u d e, (outsAt0 m c t.val t.isLt).2.1 (ix3 u d e) = 0 + incW (width t.val) (X0 m c t) (X1 m c t) (X3 m c t) d e)
    ∧ (∀ u e, (outsAt0 m c t.val t.isLt).2.2 (ix2 u e) = 0 + incS (width t.val) (X0 m c t) (X1 m c t) (X2 m c t) e) := by
  have h8 := lt8 t
  by_cases h1 : t.val < 2
  · exact (outs_A m c t h0 h1 (by omega) (by omega) (by omega)).2
  · by_cases h2 : t.val / 2 % 4 = 1
    · exact (outs_C m c t h0 h1 h2 (by omega) (by omega)).2
    · by_cases h3 : t.val / 2 % 4 = 2
      · exact (outs_E m c t h0 h1 h2 h3 (by omega)).2
      · exact (outs_G m c t h0 h1 h2 h3 (by omega)).2

/-- The two accumulators after the second. -/
theorem outs_odd (t : Fin cfg0.N) (h0 : ¬t.val % 2 = 0) :
    (∀ u d e, (outsAt0 m c t.val t.isLt).2.1 (ix3 u d e)
        = (outsAt0 m c (t.val - 1) (Nat.lt_of_le_of_lt (Nat.sub_le _ _) t.isLt)).2.1 (ix3 0 d e)
          + incW (width t.val) (X0 m c t) (X1 m c t) (X3 m c t) d e)
    ∧ (∀ u e, (outsAt0 m c t.val t.isLt).2.2 (ix2 u e)
        = (outsAt0 m c (t.val - 1) (Nat.lt_of_le_of_lt (Nat.sub_le _ _) t.isLt)).2.2 (ix2 u e)
          + incS (width t.val) (X0 m c t) (X1 m c t) (X2 m c t) e) := by
  have h8 := lt8 t
  by_cases h1 : t.val < 2
  · exact (outs_B m c t h0 h1 (by omega) (by omega) (by omega)).2
  · by_cases h2 : t.val / 2 % 4 = 1
    · exact (outs_D m c t h0 h1 h2 (by omega) (by omega)).2
    · by_cases h3 : t.val / 2 % 4 = 2
      · exact (outs_F m c t h0 h1 h2 h3 (by omega)).2
      · exact (outs_H m c t h0 h1 h2 h3 (by omega)).2

end Cert.Pool

end
-- ==== Proof.Arrays.lean ====
/- The kernel's three results, element by element. -/
module

public import proofs.«01_k».proof.Proof.Outs
public import proofs.«01_k».proof.Proof.Gen.KernelIdeal.Value

@[expose] public section

noncomputable section

namespace Cert.Pool

open Idealize.ShloMosaic hiding ix0 ix1 ix2 ix3 ix4 ix5
open Idealize.ShloMosaic.ValueIdx Cert.KernelIdeal Cert.KernelIdeal.Gen

variable (m : (ℓ : Loc nD τ sig) → Buf (Elt Ideal) ℓ) (c : Dev nD)

/-- Grid point of column group `j` and sequence `b`. -/
def pt (j : Fin 4) (b : Fin 2) : Fin cfg0.N := ⟨2 * j.val + b.val, by show 2 * j.val + b.val < 8; omega⟩

theorem pt_div (j : Fin 4) (b : Fin 2) : (pt j b).val / 2 = j.val := by show (2 * j.val + b.val) / 2 = _; omega
theorem pt_mod (j : Fin 4) (b : Fin 2) : (pt j b).val % 2 = b.val := by show (2 * j.val + b.val) % 2 = _; omega

theorem flush4 : ∀ t : Fin cfg0.N, (cfg0.win 4).flush t = true :=
  (by decide +kernel : ∀ t : Fin grid0.N, win0_4.flush t = true)
theorem flush5 : ∀ t : Fin cfg0.N, (cfg0.win 5).flush t = true ↔ t.val % 2 = 1 :=
  (by decide +kernel : ∀ t : Fin grid0.N, win0_5.flush t = true ↔ t.val % 2 = 1)
theorem flush6 : ∀ t : Fin cfg0.N, (cfg0.win 6).flush t = true ↔ t.val % 2 = 1 :=
  (by decide +kernel : ∀ t : Fin grid0.N, win0_6.flush t = true ↔ t.val % 2 = 1)

/-- Two points that write the weights' gradient back write different blocks of it. -/
theorem disjoint5 : ∀ t t' : Fin cfg0.N, (cfg0.win 5).flush t = true → (cfg0.win 5).flush t' = true → t ≠ t' →
    Disjoint ((cfg0.win 5).blk t).view.set ((cfg0.win 5).blk t').view.set := fun t t' h h' hne =>
  (cfg0.win 5).disjoint_blk fun e => hne (Fin.ext (by
    have a := (flush5 t).mp h
    have b := (flush5 t').mp h'
    have i := (ix_facts t).2.2.2.2.2.1.1
    have i' := (ix_facts t').2.2.2.2.2.1.1
    have e' : win0_5.index t 0 = win0_5.index t' 0 := congrFun e 0
    rw [i, i'] at e'
    omega))

/-- Two points that write the scales' gradient back write different blocks of it. -/
theorem disjoint6 : ∀ t t' : Fin cfg0.N, (cfg0.win 6).flush t = true → (cfg0.win 6).flush t' = true → t ≠ t' →
    Disjoint ((cfg0.win 6).blk t).view.set ((cfg0.win 6).blk t').view.set := fun t t' h h' hne =>
  (cfg0.win 6).disjoint_blk fun e => hne (Fin.ext (by
    have a := (flush6 t).mp h
    have b := (flush6 t').mp h'
    have i := (ix_facts t).2.2.2.2.2.2.2
    have i' := (ix_facts t').2.2.2.2.2.2.2
    have e' : win0_6.index t 1 = win0_6.index t' 1 := congrFun e 1
    rw [i, i'] at e'
    omega))

/-- Plane 3 of the first result holds the gradient with respect to the rows. -/
theorem arr4_plane (j : Fin 4) (b : Fin 2) (r : Fin 2048) (e : Fin 256) :
    (dats m 0 c).arrAt 4 cfg0.N (ix3 (3 : Fin 6) (rowAt b.val b.isLt r) (colAt j.val j.isLt e))
      = dz (width (pt j b).val) (X0 m c (pt j b)) (X2 m c (pt j b)) (X3 m c (pt j b)) r e := by
  have h := (dats m 0 c).arrAt_emb_eq_flushed 4 Value.disjoint4 (pt j b) (flush4 _) (ix3 (0 : Fin 1) r e)
  obtain ⟨i0, i1, i2⟩ := (ix_facts (pt j b)).2.2.2.2.1
  have hi : (((cfg0.win 4).blk (pt j b)).view.emb (ix3 (0 : Fin 1) r e) : S6x4096x1024.Idx)
      = ix3 (3 : Fin 6) (rowAt b.val b.isLt r) (colAt j.val j.isLt e) := funext fun a => Fin.ext (by
    match a with
    | ⟨0, _⟩ => show win0_4.index (pt j b) 0 * 1 + 1 * 0 = 3; rw [i0]
    | ⟨1, _⟩ => show win0_4.index (pt j b) 1 * 2048 + 1 * r.val = 2048 * b.val + r.val; rw [i1, pt_mod]; omega
    | ⟨2, _⟩ => show win0_4.index (pt j b) 2 * 256 + 1 * e.val = 256 * j.val + e.val; rw [i2, pt_div]; omega)
  rw [← hi]
  refine h.trans ?_
  rw [cast_eq, Value.flushed4]
  exact outs_dz m c (pt j b) 0 r e

/-- The other planes hold what the first argument holds. -/
theorem arr4_rest (i : S6x4096x1024.Idx) (hi : (i 0).val ≠ 3) :
    (dats m 0 c).arrAt 4 cfg0.N i = A0 m c i := by
  rw [Value.entry4 m c i fun t _ hm => hi ?_]
  · rfl
  · obtain ⟨y, -, rfl⟩ := Finset.mem_map.mp hm
    have i0 := (ix_facts t).2.2.2.2.1.1
    show win0_4.index t 0 * 1 + 1 * (y 0).val = 3
    have hy : (y 0).val < 1 := (y 0).isLt
    rw [i0]; omega

/-- The second result. -/
theorem arr5 (j : Fin 4) (d e : Fin 256) :
    (dats m 0 c).arrAt 5 cfg0.N (ix3 j d e)
      = 0 + incW (width (pt j 0).val) (X0 m c (pt j 0)) (X1 m c (pt j 0)) (X3 m c (pt j 0)) d e
        + incW (width (pt j 1).val) (X0 m c (pt j 1)) (X1 m c (pt j 1)) (X3 m c (pt j 1)) d e := by
  have h := (dats m 0 c).arrAt_emb_eq_flushed 5 disjoint5 (pt j 1) ((flush5 _).mpr (pt_mod j 1)) (ix3 (0 : Fin 1) d e)
  obtain ⟨i0, i1, i2⟩ := (ix_facts (pt j 1)).2.2.2.2.2.1
  have hi : (((cfg0.win 5).blk (pt j 1)).view.emb (ix3 (0 : Fin 1) d e) : S4x256x256.Idx) = ix3 j d e := funext fun a => Fin.ext (by
    match a with
    | ⟨0, _⟩ => show win0_5.index (pt j 1) 0 * 1 + 1 * 0 = j.val; rw [i0, pt_div]; omega
    | ⟨1, _⟩ => show win0_5.index (pt j 1) 1 * 256 + 1 * d.val = d.val; rw [i1]; omega
    | ⟨2, _⟩ => show win0_5.index (pt j 1) 2 * 256 + 1 * e.val = e.val; rw [i2]; omega)
  rw [← hi]
  refine h.trans ?_
  rw [cast_eq, Value.flushed5]
  refine ((outs_odd m c (pt j 1) (by rw [pt_mod]; decide)).1 0 d e).trans ?_
  congr 1
  exact (outs_even m c (pt j 0) (pt_mod j 0)).1 0 d e

/-- The third result. -/
theorem arr6 (j : Fin 4) (e : Fin 256) :
    (dats m 0 c).arrAt 6 cfg0.N (ix2 (0 : Fin 1) (colAt j.val j.isLt e))
      = 0 + incS (width (pt j 0).val) (X0 m c (pt j 0)) (X1 m c (pt j 0)) (X2 m c (pt j 0)) e
        + incS (width (pt j 1).val) (X0 m c (pt j 1)) (X1 m c (pt j 1)) (X2 m c (pt j 1)) e := by
  have h := (dats m 0 c).arrAt_emb_eq_flushed 6 disjoint6 (pt j 1) ((flush6 _).mpr (pt_mod j 1)) (ix2 (0 : Fin 1) e)
  obtain ⟨i0, i1⟩ := (ix_facts (pt j 1)).2.2.2.2.2.2
  have hi : (((cfg0.win 6).blk (pt j 1)).view.emb (ix2 (0 : Fin 1) e) : S1x1024.Idx) = ix2 (0 : Fin 1) (colAt j.val j.isLt e) :=
    funext fun a => Fin.ext (by
    match a with
    | ⟨0, _⟩ => show win0_6.index (pt j 1) 0 * 1 + 1 * 0 = 0; rw [i0]
    | ⟨1, _⟩ => show win0_6.index (pt j 1) 1 * 256 + 1 * e.val = 256 * j.val + e.val; rw [i1, pt_div]; omega)
  rw [← hi]
  refine h.trans ?_
  rw [cast_eq, Value.flushed6]
  refine ((outs_odd m c (pt j 1) (by rw [pt_mod]; decide)).2 0 e).trans ?_
  congr 1
  exact (outs_even m c (pt j 0) (pt_mod j 0)).2 0 e

end Cert.Pool

end
-- ==== Proof.RefOps.lean ====
/- The operations of the reference at one element, at exact values: its running sum down the rows of a sequence (a sum over a window
   of 2048 rows, padded above by 2047), and the same sum up from the last row, which is what differentiating it gives. -/
module

public import proofs.«01_k».proof.Proof.Payloads
public import proofs.«01_k».proof.Proof.Gen.ReferenceIdeal.Read

@[expose] public section

noncomputable section

namespace Cert.Pool

open Idealize.ShloMosaic hiding ix0 ix1 ix2 ix3 ix4 ix5
open Idealize.ShloMosaic.ValueIdx

/-- Sequence `b` of an array of two sequences. -/
def seq (v : (⟨3, ![2, 2048, 256]⟩ : Shape).Idx → EReal) (b : Fin 2) : (⟨2, ![2048, 256]⟩ : Shape).Idx → EReal :=
  fun i => v (ix3 b (i 0) (i 1))

/-- A left fold that adds a term for every position is the first value plus the sum of the terms. -/
theorem foldl_add {n : ℕ} (g : Fin n → EReal) (v : EReal) : (List.finRange n).foldl (fun r k => r + g k) v = v + ∑ k, g k := by
  have h : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [h, ← List.ofFn_eq_map, List.sum_ofFn]

/-- The host's float sum over a window, element by element: the first value, and for every position the element there, or the first
    value again where the position is padding. -/
theorem windowAdd_eq {s t u : Shape} (window strides lo hi : Fin s.rank → ℕ) (x : FVec Ideal s .f32) (init : FVec Ideal u .f32)
    (h : s.ReduceWindows window strides lo hi t) (hu : 0 < u.numel) (j : t.Idx) :
    Host.reduceWindowAdd window strides lo hi x init h hu j
      = init (Shape.Idx.first hu) + ∑ n : Fin (⟨s.rank, window⟩ : Shape).numel,
          if hin : ∀ a, lo a ≤ (j (a.cast h.1.symm)).val * strides a + ((⟨s.rank, window⟩ : Shape).rowMajor.symm n a).val
            ∧ (j (a.cast h.1.symm)).val * strides a + ((⟨s.rank, window⟩ : Shape).rowMajor.symm n a).val - lo a < s.size a
          then x (fun a => ⟨_, (hin a).2⟩) else init (Shape.Idx.first hu) := by
  unfold Host.reduceWindowAdd
  rw [Ideal.hostReduceWindowAdd_def]
  unfold Ideal.hostReduceWindowAdd Host.reduceWindow
  dsimp only
  rw [foldl_add]
  congr!

/-- The positions of a window one sequence deep, 2048 rows high and one column wide are its rows. -/
def windowRows : Fin 2048 ≃ (⟨3, ![1, 2048, 1]⟩ : Shape).Idx where
  toFun k := ix3 0 k 0
  invFun q := q 1
  left_inv k := rfl
  right_inv q := by
    funext a
    match a with
    | ⟨0, _⟩ => exact Subsingleton.elim (α := Fin 1) _ _
    | ⟨1, _⟩ => rfl
    | ⟨2, _⟩ => exact Subsingleton.elim (α := Fin 1) _ _

/-- A sum over the row-major positions of such a window is the sum over its rows. -/
theorem sum_window (g : (⟨3, ![1, 2048, 1]⟩ : Shape).Idx → EReal) :
    ∑ n : Fin (⟨3, ![1, 2048, 1]⟩ : Shape).numel, g ((⟨3, ![1, 2048, 1]⟩ : Shape).rowMajor.symm n) = ∑ k : Fin 2048, g (ix3 0 k 0) :=
  (Equiv.sum_comp (⟨3, ![1, 2048, 1]⟩ : Shape).rowMajor.symm g).trans (Equiv.sum_comp windowRows g).symm

/-- The positions of the window that ends at row `r`, counted from the last one back, are the rows down to the first. -/
theorem sum_down (f : ℕ → EReal) (r : ℕ) (hr : r < 2048) :
    ∑ k : Fin 2048, (if 2047 ≤ r + k.val then f (r + k.val - 2047) else 0) = cumDown f r := by
  rw [Fin.sum_univ_eq_sum_range (fun k => if 2047 ≤ r + k then f (r + k - 2047) else 0) 2048,
    show 2048 = (2047 - r) + (r + 1) by omega, Finset.sum_range_add, Finset.sum_eq_zero, zero_add]
  · unfold cumDown
    refine Finset.sum_congr rfl fun j _ => ?_
    rw [if_pos (by omega)]
    exact congrArg f (by omega)
  · intro k hk
    have := Finset.mem_range.mp hk
    exact if_neg (by omega)

/-- The positions of the window that starts at row `r` are the rows from there to the last. -/
theorem sum_up (f : ℕ → EReal) (hf : ∀ n, 2048 ≤ n → f n = 0) (r : ℕ) (hr : r < 2048) :
    ∑ k : Fin 2048, f (r + k.val) = cumUp 2048 f r := by
  rw [Fin.sum_univ_eq_sum_range (fun k => f (r + k)) 2048]
  unfold cumUp
  rw [show Finset.range 2048 = Finset.range ((2048 - r) + r) by congr 1; omega, Finset.sum_range_add, Finset.sum_eq_zero (s := Finset.range r) fun k _ => hf _ (by omega), add_zero]

/-- One sequence's running sum: element `r` is the sum of the elements up to and including it. -/
theorem cumsum_apply {u : Shape} (v : FVec Ideal ⟨3, ![2, 2048, 256]⟩ .f32) (init : FVec Ideal u .f32) (hi : ∀ i, init i = 0)
    (h : (⟨3, ![2, 2048, 256]⟩ : Shape).ReduceWindows ![1, 2048, 1] ![1, 1, 1] ![0, 2047, 0] ![0, 0, 0] ⟨3, ![2, 2048, 256]⟩)
    (hu : 0 < u.numel) (b : Fin 2) (r : Fin 2048) (c : Fin 256) :
    Host.reduceWindowAdd ![1, 2048, 1] ![1, 1, 1] ![0, 2047, 0] ![0, 0, 0] v init h hu (ix3 b r c) = cumDown (col (seq v b) c) r.val := by
  rw [windowAdd_eq, hi, zero_add]
  refine (sum_window (fun q => if hin : ∀ a : Fin 3, (![0, 2047, 0] : Fin 3 → ℕ) a ≤ ((ix3 b r c : (⟨3, ![2, 2048, 256]⟩ : Shape).Idx) a).val * (![1, 1, 1] : Fin 3 → ℕ) a + (q a).val
      ∧ ((ix3 b r c : (⟨3, ![2, 2048, 256]⟩ : Shape).Idx) a).val * (![1, 1, 1] : Fin 3 → ℕ) a + (q a).val - (![0, 2047, 0] : Fin 3 → ℕ) a < (⟨3, ![2, 2048, 256]⟩ : Shape).size a
    then v (fun a => ⟨_, (hin a).2⟩) else 0)).trans ?_
  refine Eq.trans (Finset.sum_congr rfl fun k _ => ?_) (sum_down (col (seq v b) c) r.val r.isLt)
  have hk := k.isLt
  have hr := r.isLt
  have hb := b.isLt
  have hc := c.isLt
  split
  · next hin =>
    have h1 : 2047 ≤ r.val * 1 + k.val ∧ r.val * 1 + k.val - 2047 < 2048 := hin 1
    rw [if_pos (by omega)]
    unfold col
    rw [dif_pos (by omega)]
    refine congrArg v (funext fun a => Fin.ext ?_)
    match a with
    | ⟨0, _⟩ => show b.val * 1 + 0 - 0 = b.val; omega
    | ⟨1, _⟩ => show r.val * 1 + k.val - 2047 = r.val + k.val - 2047; omega
    | ⟨2, _⟩ => show c.val * 1 + 0 - 0 = c.val; omega
  · next hin =>
    rw [if_neg fun hle => hin fun a => by
      match a with
      | ⟨0, _⟩ => show 0 ≤ b.val * 1 + 0 ∧ b.val * 1 + 0 - 0 < 2; omega
      | ⟨1, _⟩ => show 2047 ≤ r.val * 1 + k.val ∧ r.val * 1 + k.val - 2047 < 2048; omega
      | ⟨2, _⟩ => show 0 ≤ c.val * 1 + 0 ∧ c.val * 1 + 0 - 0 < 256; omega]

/-- The same sum taken up from the last row: element `r` is the sum of the elements from it on. -/
theorem cumsum_up_apply {u : Shape} (v : FVec Ideal ⟨3, ![2, 2048, 256]⟩ .f32) (init : FVec Ideal u .f32) (hi : ∀ i, init i = 0)
    (h : (⟨3, ![2, 2048, 256]⟩ : Shape).ReduceWindows ![1, 2048, 1] ![1, 1, 1] ![0, 0, 0] ![0, 2047, 0] ⟨3, ![2, 2048, 256]⟩)
    (hu : 0 < u.numel) (b : Fin 2) (r : Fin 2048) (c : Fin 256) :
    Host.reduceWindowAdd ![1, 2048, 1] ![1, 1, 1] ![0, 0, 0] ![0, 2047, 0] v init h hu (ix3 b r c) = cumUp 2048 (col (seq v b) c) r.val := by
  rw [windowAdd_eq, hi, zero_add]
  refine (sum_window (fun q => if hin : ∀ a : Fin 3, (![0, 0, 0] : Fin 3 → ℕ) a ≤ ((ix3 b r c : (⟨3, ![2, 2048, 256]⟩ : Shape).Idx) a).val * (![1, 1, 1] : Fin 3 → ℕ) a + (q a).val
      ∧ ((ix3 b r c : (⟨3, ![2, 2048, 256]⟩ : Shape).Idx) a).val * (![1, 1, 1] : Fin 3 → ℕ) a + (q a).val - (![0, 0, 0] : Fin 3 → ℕ) a < (⟨3, ![2, 2048, 256]⟩ : Shape).size a
    then v (fun a => ⟨_, (hin a).2⟩) else 0)).trans ?_
  refine Eq.trans (Finset.sum_congr rfl fun k _ => ?_) (sum_up (col (seq v b) c) (fun n hn => col_of_le _ c n hn) r.val r.isLt)
  have hk := k.isLt
  have hr := r.isLt
  have hb := b.isLt
  have hc := c.isLt
  split
  · next hin =>
    have h1 : 0 ≤ r.val * 1 + k.val ∧ r.val * 1 + k.val - 0 < 2048 := hin 1
    unfold col
    rw [dif_pos (by omega)]
    refine congrArg v (funext fun a => Fin.ext ?_)
    match a with
    | ⟨0, _⟩ => show b.val * 1 + 0 - 0 = b.val; omega
    | ⟨1, _⟩ => show r.val * 1 + k.val - 0 = r.val + k.val; omega
    | ⟨2, _⟩ => show c.val * 1 + 0 - 0 = c.val; omega
  · next hin =>
    refine (col_of_le _ c _ ?_).symm
    by_contra hlt
    exact hin fun a => by
      match a with
      | ⟨0, _⟩ => show 0 ≤ b.val * 1 + 0 ∧ b.val * 1 + 0 - 0 < 2; omega
      | ⟨1, _⟩ => show 0 ≤ r.val * 1 + k.val ∧ r.val * 1 + k.val - 0 < 2048; omega
      | ⟨2, _⟩ => show 0 ≤ c.val * 1 + 0 ∧ c.val * 1 + 0 - 0 < 256; omega

/-! ## The pieces put under and beside one another -/

/-- `w` rows of one array above the rows of another. -/
theorem concat_apply (w N : ℕ) (hw : w + N = 2048) (z : (⟨3, ![2, w, 256]⟩ : Shape).Idx → EReal) (v : (⟨3, ![2, N, 256]⟩ : Shape).Idx → EReal)
    (h : Shape.Concatenates [(⟨3, ![2, w, 256]⟩ : Shape), (⟨3, ![2, N, 256]⟩ : Shape)] (⟨3, ![2, 2048, 256]⟩ : Shape) 1)
    (b : Fin 2) (r : Fin 2048) (c : Fin 256) :
    concatenate ⟨3, ![2, 2048, 256]⟩ 1 [⟨_, z⟩, ⟨_, v⟩] h (ix3 b r c)
      = if hr : r.val < w then z (ix3 b ⟨r.val, hr⟩ c) else v (ix3 b ⟨r.val - w, by have := r.isLt; omega⟩ c) := by
  split
  · next hr =>
    refine concatenate_pair_apply_left 1 z v h _ rfl _ fun a => ?_
    match a with
    | ⟨0, _⟩ => rfl
    | ⟨1, _⟩ => rfl
    | ⟨2, _⟩ => rfl
  · next hr =>
    refine concatenate_pair_apply_right 1 z v h _ rfl rfl _ (fun a ha => ?_) (by show r.val - w + w = r.val; omega)
    match a, ha with
    | ⟨0, _⟩, _ => rfl
    | ⟨1, _⟩, ha => exact absurd rfl ha
    | ⟨2, _⟩, _ => rfl

/-- `w` rows of zeros below an array's rows. -/
theorem pad_rows_apply {u : Shape} (w N : ℕ) (hw : w + N = 2048) (v : (⟨3, ![2, N, 256]⟩ : Shape).Idx → EReal) (z : u.Idx → EReal) (hz : ∀ i, z i = 0)
    (h : (⟨3, ![2, N, 256]⟩ : Shape).Pads ![0, 0, 0] ![0, w, 0] ![0, 0, 0] ⟨3, ![2, 2048, 256]⟩) (hu : 0 < u.numel)
    (b : Fin 2) (r : Fin 2048) (c : Fin 256) :
    pad ⟨3, ![2, 2048, 256]⟩ ![0, 0, 0] ![0, w, 0] ![0, 0, 0] v z h hu (ix3 b r c)
      = if hr : r.val + w < 2048 then v (ix3 b ⟨r.val, by omega⟩ c) else 0 := by
  split
  · next hr =>
    refine pad_apply_of_inside _ _ _ v z h hu _ _ fun a => ?_
    match a with
    | ⟨0, _⟩ => show b.val = 0 + b.val * 1; omega
    | ⟨1, _⟩ => show r.val = 0 + r.val * 1; omega
    | ⟨2, _⟩ => show c.val = 0 + c.val * 1; omega
  · next hr =>
    refine (pad_apply_of_not_inside _ _ _ v z h hu _ 1 fun hin => hr ?_).trans (hz _)
    have h2 : (r.val - 0) / 1 < N := hin.2.2
    omega

/-- A group of 256 columns set among zeros. -/
theorem pad_cols_apply {u : Shape} (lo hi : ℕ) (v : (⟨3, ![2, 2048, 256]⟩ : Shape).Idx → EReal) (z : u.Idx → EReal) (hz : ∀ i, z i = 0)
    (h : (⟨3, ![2, 2048, 256]⟩ : Shape).Pads ![0, 0, lo] ![0, 0, hi] ![0, 0, 0] ⟨3, ![2, 2048, 1024]⟩) (hu : 0 < u.numel)
    (b : Fin 2) (r : Fin 2048) (d : Fin 1024) :
    pad ⟨3, ![2, 2048, 1024]⟩ ![0, 0, lo] ![0, 0, hi] ![0, 0, 0] v z h hu (ix3 b r d)
      = if hd : lo ≤ d.val ∧ d.val < lo + 256 then v (ix3 b r ⟨d.val - lo, by omega⟩) else 0 := by
  split
  · next hd =>
    refine pad_apply_of_inside _ _ _ v z h hu _ _ fun a => ?_
    match a with
    | ⟨0, _⟩ => show b.val = 0 + b.val * 1; omega
    | ⟨1, _⟩ => show r.val = 0 + r.val * 1; omega
    | ⟨2, _⟩ => show d.val = lo + (d.val - lo) * 1; omega
  · next hd =>
    refine (pad_apply_of_not_inside _ _ _ v z h hu _ 2 fun hin => hd ?_).trans (hz _)
    have h1 : lo ≤ d.val := hin.1
    have h2 : (d.val - lo) / 1 < 256 := hin.2.2
    omega

/-! ## The pooled rows and their gradient from running sums -/

theorem cnt_ne (w r : ℕ) (hw : 0 < w) : (((min (r + 1) w : ℕ) : ℝ)) ≠ 0 := by
  have : 0 < min (r + 1) w := by omega
  exact_mod_cast this.ne'

/-- The difference of two running sums over the count is the kernel's pooled row. -/
theorem pooled_of_cum (w : ℕ) (x : (⟨2, ![2048, 256]⟩ : Shape).Idx → EReal) (c : Fin 256) (hx : Finite (col x c)) (r : Fin 2048) :
    Ideal.div (cumDown (col x c) r.val - (if r.val < w then 0 else cumDown (col x c) (r.val - w))) (cnt w r.val) - x (ix2 r c)
      = pooled w x r c := by
  rw [cumDown_sub hx]; rfl

theorem gmean_finite (w : ℕ) (hw : 0 < w) (g : Fin 2048 → Fin 256 → EReal) (c : Fin 256) (hg : ∀ r, g r c ≠ ⊤ ∧ g r c ≠ ⊥) :
    Finite (gmean w g c) := by
  intro n
  unfold gmean
  split
  · next h =>
    lift g ⟨n, h⟩ c to ℝ using hg ⟨n, h⟩ with y
    unfold cnt
    rw [Ideal.div_coe (cnt_ne w n hw), ← EReal.coe_mul]
    exact ⟨EReal.coe_ne_top _, EReal.coe_ne_bot _⟩
  · exact ⟨EReal.zero_ne_top, EReal.zero_ne_bot⟩

/-- The gradient of that difference, a running sum up from the last row, is the kernel's. -/
theorem grad_of_cum (w : ℕ) (hw : 0 < w) (g : Fin 2048 → Fin 256 → EReal) (c : Fin 256) (hg : ∀ r, g r c ≠ ⊤ ∧ g r c ≠ ⊥)
    (r : Fin 2048) :
    -(g r c) + cumUp 2048 (fun j => gmean w g c j + if j + w < 2048 then -(gmean w g c (j + w)) else 0) r.val
      = winUp w (gmean w g c) r.val - g r c := by
  rw [cumUp_sub (gmean_finite w hw g c hg) 2048 w (fun j hj => by unfold gmean; rw [dif_neg (by omega)]) r.val r.isLt,
    sub_eq_add_neg, add_comm]

end Cert.Pool
-- ==== Proof.RefBlocks.lean ====
/- The blocks of the arguments that one sequence and one group of columns take, as the reference's slices read them, and the number of
   rows in a window as the reference makes it. -/
module

public import proofs.«01_k».proof.Proof.RefOps
public import proofs.«01_k».proof.Proof.Reads
public import Idealize.ShloMosaic.Lib.IdealHost

@[expose] public section

noncomputable section

namespace Cert.Pool

open Idealize.ShloMosaic hiding ix0 ix1 ix2 ix3 ix4 ix5
open Idealize.ShloMosaic.ValueIdx Cert.ReferenceIdeal Cert.ReferenceIdeal.Read

/-- The pooled columns of sequence `b` in group `k`. -/
def Zb (x2 : S4096x6144.Idx → EReal) (b : Fin 2) (k : Fin 4) : (⟨2, ![2048, 256]⟩ : Shape).Idx → EReal :=
  fun i => x2 (ix2 (rowAt b.val b.isLt (i 0)) ((colAt k.val k.isLt (i 1)).castLE (by decide)))

/-- The incoming gradient of sequence `b` in group `k`. -/
def Gb (x1 : S2x4096x1024.Idx → EReal) (b : Fin 2) (k : Fin 4) : (⟨3, ![1, 2048, 256]⟩ : Shape).Idx → EReal :=
  fun i => x1 (ix3 0 (rowAt b.val b.isLt (i 1)) (colAt k.val k.isLt (i 2)))

/-- The weights of group `k`. -/
def Wb (x3 : S4x256x256.Idx → EReal) (k : Fin 4) : (⟨3, ![1, 256, 256]⟩ : Shape).Idx → EReal := fun i => x3 (ix3 k (i 1) (i 2))

/-- The scales of group `k`. -/
def Sb (x4 : S1x1024.Idx → EReal) (k : Fin 4) : (⟨2, ![1, 256]⟩ : Shape).Idx → EReal := fun i => x4 (ix2 0 (colAt k.val k.isLt (i 1)))

theorem ext1 {n0 : ℕ} (i : (⟨1, ![n0]⟩ : Shape).Idx) (a : Fin n0) (h0 : (i 0).val = a.val) : i = ix1 a :=
  funext fun d => Fin.ext (match d with | ⟨0, _⟩ => h0)
theorem ext2 {n0 n1 : ℕ} (i : (⟨2, ![n0, n1]⟩ : Shape).Idx) (a : Fin n0) (b : Fin n1) (h0 : (i 0).val = a.val) (h1 : (i 1).val = b.val) :
    i = ix2 a b := funext fun d => Fin.ext (match d with | ⟨0, _⟩ => h0 | ⟨1, _⟩ => h1)
theorem ext3 {n0 n1 n2 : ℕ} (i : (⟨3, ![n0, n1, n2]⟩ : Shape).Idx) (a : Fin n0) (b : Fin n1) (c : Fin n2) (h0 : (i 0).val = a.val)
    (h1 : (i 1).val = b.val) (h2 : (i 2).val = c.val) : i = ix3 a b c :=
  funext fun d => Fin.ext (match d with | ⟨0, _⟩ => h0 | ⟨1, _⟩ => h1 | ⟨2, _⟩ => h2)
theorem ext4 {n0 n1 n2 n3 : ℕ} (i : (⟨4, ![n0, n1, n2, n3]⟩ : Shape).Idx) (a : Fin n0) (b : Fin n1) (c : Fin n2) (e : Fin n3)
    (h0 : (i 0).val = a.val) (h1 : (i 1).val = b.val) (h2 : (i 2).val = c.val) (h3 : (i 3).val = e.val) : i = ix4 a b c e :=
  funext fun d => Fin.ext (match d with | ⟨0, _⟩ => h0 | ⟨1, _⟩ => h1 | ⟨2, _⟩ => h2 | ⟨3, _⟩ => h3)

theorem v2_at (x2 : S4096x6144.Idx → EReal) (b : Fin 2) (r : Fin 2048) (k : Fin 4) (e : Fin 256) :
    val_main_v2 (F := Ideal) x2 (ix3 b r (colAt k.val k.isLt e)) = Zb x2 b k (ix2 r e) := by
  have hr := r.isLt
  have he := e.isLt
  rw [val_main_v2_apply, val_main_v1_apply, val_main_v0_apply]
  refine congrArg x2 (ext2 _ _ _ ?_ ?_)
  · show ((b.val * 2048 + r.val) * 1024 + (256 * k.val + e.val)) / 1024 = 2048 * b.val + r.val; omega
  · show ((b.val * 2048 + r.val) * 1024 + (256 * k.val + e.val)) % 1024 = 256 * k.val + e.val; omega

theorem v6_at (x1 : S2x4096x1024.Idx → EReal) (b : Fin 2) (r : Fin 2048) (k : Fin 4) (e : Fin 256) :
    val_main_v6 (F := Ideal) x1 (ix3 b r (colAt k.val k.isLt e)) = Gb x1 b k (ix3 0 r e) := by
  have hr := r.isLt
  have he := e.isLt
  have hb := b.isLt
  rw [val_main_v6_apply, val_main_v5_apply, val_main_v4_apply, val_main_v3_apply]
  refine congrArg x1 (ext3 _ _ _ _ rfl ?_ ?_)
  · show ((((b.val * 2048 + r.val) * 1024 + (256 * k.val + e.val)) / 1024) * 1024
      + (((b.val * 2048 + r.val) * 1024 + (256 * k.val + e.val)) % 1024)) / 1024 % 4096 = 2048 * b.val + r.val
    omega
  · show ((((b.val * 2048 + r.val) * 1024 + (256 * k.val + e.val)) / 1024) * 1024
      + (((b.val * 2048 + r.val) * 1024 + (256 * k.val + e.val)) % 1024)) % 1024 = 256 * k.val + e.val
    omega

theorem v10_at (r : Fin 2048) : val_main_v10 (F := Ideal) (ix1 r) = ((r.val + 1 : ℕ) : ℝ) := by
  rw [val_main_v10_apply, val_main_v9_apply, val_main_cst_apply]
  show Ideal.ofBits .f32 0x3F800000#32 + ((((BitVec.ofNat 32 r.val).toInt : ℤ) : ℝ) : EReal) = _
  rw [Ideal.ofBits_one_f32, WordCmp.toInt_ofNat_of_lt (by have := r.isLt; omega)]
  rw [show (1 : EReal) = ((1 : ℝ) : EReal) by norm_cast, ← EReal.coe_add]
  congr 1
  push_cast
  ring

theorem ofBits_2 : Ideal.ofBits .f32 0x40000000#32 = ((2 : ℝ) : EReal) := by
  simp [Ideal.ofBits, Ideal.ieee, -EReal.coe_mul]; norm_num
theorem ofBits_4 : Ideal.ofBits .f32 0x40800000#32 = ((4 : ℝ) : EReal) := by
  simp [Ideal.ofBits, Ideal.ieee, -EReal.coe_mul]; norm_num
theorem ofBits_8 : Ideal.ofBits .f32 0x41000000#32 = ((8 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num

/-- The smaller of the row's number and the width is the window's count. -/
theorem min_cnt (w r : ℕ) (x y : EReal) (hx : x = ((r + 1 : ℕ) : ℝ)) (hy : y = ((w : ℕ) : ℝ)) :
    FloatOps.minimumf (F := Ideal) (φ := .f32) x y = cnt w r := by
  show min x y = _
  subst hx hy
  unfold cnt
  rw [Nat.cast_min]
  exact (EReal.coe_strictMono.monotone.map_min).symm

end Cert.Pool
-- ==== Proof.RefPooled.lean ====
/- The pooled rows of each of the reference's four groups of columns, element by element. -/
module

public import proofs.«01_k».proof.Proof.RefBlocks

@[expose] public section

noncomputable section

namespace Cert.Pool

open Idealize.ShloMosaic hiding ix0 ix1 ix2 ix3 ix4 ix5
open Idealize.ShloMosaic.ValueIdx Cert.ReferenceIdeal Cert.ReferenceIdeal.Gen Cert.ReferenceIdeal.Read

/-! ## Group 0, windows of 2 rows -/

theorem u_at0 (x2 : S4096x6144.Idx → EReal) (b : Fin 2) (r : Fin 2048) (c : Fin 256) :
    val_main_v11 (F := Ideal) x2 (ix3 b r c) = Zb x2 b 0 (ix2 r c) := by
  rw [val_main_v11_apply]
  exact (congrArg (val_main_v2 (F := Ideal) x2) (ext3 _ b r (colAt 0 (by decide) c) rfl rfl (Nat.zero_add _).symm)).trans
    (v2_at x2 b r 0 c)

theorem cum_at0 (x2 : S4096x6144.Idx → EReal) (b : Fin 2) (r : Fin 2048) (c : Fin 256) :
    val_main_v12 (F := Ideal) x2 (ix3 b r c) = cumDown (col (Zb x2 b 0) c) r.val := by
  unfold val_main_v12
  rw [cumsum_apply _ _ (fun i => by rw [val_main_call0_call0_v0_apply]; exact Ideal.ofBits_zero_f32),
    show seq (val_main_v11 (F := Ideal) x2) b = Zb x2 b 0 from funext fun i => u_at0 x2 b (i 0) (i 1)]

theorem cat_at0 (x2 : S4096x6144.Idx → EReal) (b : Fin 2) (r : Fin 2048) (c : Fin 256) :
    val_main_v16 (F := Ideal) x2 (ix3 b r c) = if r.val < 2 then 0 else cumDown (col (Zb x2 b 0) c) (r.val - 2) := by
  unfold val_main_v16
  refine (concat_apply 2 2046 rfl _ _ _ b r c).trans ?_
  split
  · next h => rw [val_main_v14_apply]; exact Ideal.ofBits_zero_f32
  · next h =>
    rw [val_main_v15_apply]
    exact (congrArg (val_main_v12 (F := Ideal) x2) (ext3 _ b ⟨r.val - 2, by have := r.isLt; omega⟩ c rfl rfl rfl)).trans
      (cum_at0 x2 b _ c)

theorem count_at0 (r : Fin 2048) : val_main_v20 (F := Ideal) (ix3 0 r 0) = cnt 2 r.val := by
  rw [val_main_v20_apply, val_main_v19_apply]
  refine min_cnt 2 r.val _ _ ?_ ?_
  · exact (congrArg (val_main_v10 (F := Ideal)) (ext1 _ r rfl)).trans (v10_at r)
  · rw [val_main_v18_apply]
    exact ofBits_2.trans (by norm_num)

theorem pooled_at0 (x2 : S4096x6144.Idx → EReal) (hf : ∀ b k c, Finite (col (Zb x2 b k) c)) (b : Fin 2) (r : Fin 2048) (c : Fin 256) :
    val_main_v24 (F := Ideal) x2 (ix3 b r c) = pooled 2 (Zb x2 b 0) r c := by
  rw [val_main_v24_apply, val_main_v23_apply, val_main_v21_apply, cum_at0, cat_at0, u_at0, val_main_v22_apply,
    show idx_main_v22 (ix3 b r c) = ix3 0 r 0 from ext3 _ _ _ _ rfl rfl rfl, count_at0]
  exact pooled_of_cum 2 (Zb x2 b 0) c (hf b 0 c) r

/-! ## Group 1, windows of 4 rows -/

theorem u_at1 (x2 : S4096x6144.Idx → EReal) (b : Fin 2) (r : Fin 2048) (c : Fin 256) :
    val_main_v25 (F := Ideal) x2 (ix3 b r c) = Zb x2 b 1 (ix2 r c) := by
  rw [val_main_v25_apply]
  exact (congrArg (val_main_v2 (F := Ideal) x2) (ext3 _ b r (colAt 1 (by decide) c) rfl rfl rfl)).trans
    (v2_at x2 b r 1 c)

theorem cum_at1 (x2 : S4096x6144.Idx → EReal) (b : Fin 2) (r : Fin 2048) (c : Fin 256) :
    val_main_v26 (F := Ideal) x2 (ix3 b r c) = cumDown (col (Zb x2 b 1) c) r.val := by
  unfold val_main_v26
  rw [cumsum_apply _ _ (fun i => by rw [val_main_call1_call0_v0_apply]; exact Ideal.ofBits_zero_f32),
    show seq (val_main_v25 (F := Ideal) x2) b = Zb x2 b 1 from funext fun i => u_at1 x2 b (i 0) (i 1)]

theorem cat_at1 (x2 : S4096x6144.Idx → EReal) (b : Fin 2) (r : Fin 2048) (c : Fin 256) :
    val_main_v30 (F := Ideal) x2 (ix3 b r c) = if r.val < 4 then 0 else cumDown (col (Zb x2 b 1) c) (r.val - 4) := by
  unfold val_main_v30
  refine (concat_apply 4 2044 rfl _ _ _ b r c).trans ?_
  split
  · next h => rw [val_main_v28_apply]; exact Ideal.ofBits_zero_f32
  · next h =>
    rw [val_main_v29_apply]
    exact (congrArg (val_main_v26 (F := Ideal) x2) (ext3 _ b ⟨r.val - 4, by have := r.isLt; omega⟩ c rfl rfl rfl)).trans
      (cum_at1 x2 b _ c)

theorem count_at1 (r : Fin 2048) : val_main_v34 (F := Ideal) (ix3 0 r 0) = cnt 4 r.val := by
  rw [val_main_v34_apply, val_main_v33_apply]
  refine min_cnt 4 r.val _ _ ?_ ?_
  · exact (congrArg (val_main_v10 (F := Ideal)) (ext1 _ r rfl)).trans (v10_at r)
  · rw [val_main_v32_apply]
    exact ofBits_4.trans (by norm_num)

theorem pooled_at1 (x2 : S4096x6144.Idx → EReal) (hf : ∀ b k c, Finite (col (Zb x2 b k) c)) (b : Fin 2) (r : Fin 2048) (c : Fin 256) :
    val_main_v38 (F := Ideal) x2 (ix3 b r c) = pooled 4 (Zb x2 b 1) r c := by
  rw [val_main_v38_apply, val_main_v37_apply, val_main_v35_apply, cum_at1, cat_at1, u_at1, val_main_v36_apply,
    show idx_main_v36 (ix3 b r c) = ix3 0 r 0 from ext3 _ _ _ _ rfl rfl rfl, count_at1]
  exact pooled_of_cum 4 (Zb x2 b 1) c (hf b 1 c) r

/-! ## Group 2, windows of 8 rows -/

theorem u_at2 (x2 : S4096x6144.Idx → EReal) (b : Fin 2) (r : Fin 2048) (c : Fin 256) :
    val_main_v39 (F := Ideal) x2 (ix3 b r c) = Zb x2 b 2 (ix2 r c) := by
  rw [val_main_v39_apply]
  exact (congrArg (val_main_v2 (F := Ideal) x2) (ext3 _ b r (colAt 2 (by decide) c) rfl rfl rfl)).trans
    (v2_at x2 b r 2 c)

theorem cum_at2 (x2 : S4096x6144.Idx → EReal) (b : Fin 2) (r : Fin 2048) (c : Fin 256) :
    val_main_v40 (F := Ideal) x2 (ix3 b r c) = cumDown (col (Zb x2 b 2) c) r.val := by
  unfold val_main_v40
  rw [cumsum_apply _ _ (fun i => by rw [val_main_call2_call0_v0_apply]; exact Ideal.ofBits_zero_f32),
    show seq (val_main_v39 (F := Ideal) x2) b = Zb x2 b 2 from funext fun i => u_at2 x2 b (i 0) (i 1)]

theorem cat_at2 (x2 : S4096x6144.Idx → EReal) (b : Fin 2) (r : Fin 2048) (c : Fin 256) :
    val_main_v44 (F := Ideal) x2 (ix3 b r c) = if r.val < 8 then 0 else cumDown (col (Zb x2 b 2) c) (r.val - 8) := by
  unfold val_main_v44
  refine (concat_apply 8 2040 rfl _ _ _ b r c).trans ?_
  split
  · next h => rw [val_main_v42_apply]; exact Ideal.ofBits_zero_f32
  · next h =>
    rw [val_main_v43_apply]
    exact (congrArg (val_main_v40 (F := Ideal) x2) (ext3 _ b ⟨r.val - 8, by have := r.isLt; omega⟩ c rfl rfl rfl)).trans
      (cum_at2 x2 b _ c)

theorem count_at2 (r : Fin 2048) : val_main_v48 (F := Ideal) (ix3 0 r 0) = cnt 8 r.val := by
  rw [val_main_v48_apply, val_main_v47_apply]
  refine min_cnt 8 r.val _ _ ?_ ?_
  · exact (congrArg (val_main_v10 (F := Ideal)) (ext1 _ r rfl)).trans (v10_at r)
  · rw [val_main_v46_apply]
    exact ofBits_8.trans (by norm_num)

theorem pooled_at2 (x2 : S4096x6144.Idx → EReal) (hf : ∀ b k c, Finite (col (Zb x2 b k) c)) (b : Fin 2) (r : Fin 2048) (c : Fin 256) :
    val_main_v52 (F := Ideal) x2 (ix3 b r c) = pooled 8 (Zb x2 b 2) r c := by
  rw [val_main_v52_apply, val_main_v51_apply, val_main_v49_apply, cum_at2, cat_at2, u_at2, val_main_v50_apply,
    show idx_main_v50 (ix3 b r c) = ix3 0 r 0 from ext3 _ _ _ _ rfl rfl rfl, count_at2]
  exact pooled_of_cum 8 (Zb x2 b 2) c (hf b 2 c) r

/-! ## Group 3, windows of 16 rows -/

theorem u_at3 (x2 : S4096x6144.Idx → EReal) (b : Fin 2) (r : Fin 2048) (c : Fin 256) :
    val_main_v53 (F := Ideal) x2 (ix3 b r c) = Zb x2 b 3 (ix2 r c) := by
  rw [val_main_v53_apply]
  exact (congrArg (val_main_v2 (F := Ideal) x2) (ext3 _ b r (colAt 3 (by decide) c) rfl rfl rfl)).trans
    (v2_at x2 b r 3 c)

theorem cum_at3 (x2 : S4096x6144.Idx → EReal) (b : Fin 2) (r : Fin 2048) (c : Fin 256) :
    val_main_v54 (F := Ideal) x2 (ix3 b r c) = cumDown (col (Zb x2 b 3) c) r.val := by
  unfold val_main_v54
  rw [cumsum_apply _ _ (fun i => by rw [val_main_call3_call0_v0_apply]; exact Ideal.ofBits_zero_f32),
    show seq (val_main_v53 (F := Ideal) x2) b = Zb x2 b 3 from funext fun i => u_at3 x2 b (i 0) (i 1)]

theorem cat_at3 (x2 : S4096x6144.Idx → EReal) (b : Fin 2) (r : Fin 2048) (c : Fin 256) :
    val_main_v58 (F := Ideal) x2 (ix3 b r c) = if r.val < 16 then 0 else cumDown (col (Zb x2 b 3) c) (r.val - 16) := by
  unfold val_main_v58
  refine (concat_apply 16 2032 rfl _ _ _ b r c).trans ?_
  split
  · next h => rw [val_main_v56_apply]; exact Ideal.ofBits_zero_f32
  · next h =>
    rw [val_main_v57_apply]
    exact (congrArg (val_main_v54 (F := Ideal) x2) (ext3 _ b ⟨r.val - 16, by have := r.isLt; omega⟩ c rfl rfl rfl)).trans
      (cum_at3 x2 b _ c)

theorem count_at3 (r : Fin 2048) : val_main_v62 (F := Ideal) (ix3 0 r 0) = cnt 16 r.val := by
  rw [val_main_v62_apply, val_main_v61_apply]
  refine min_cnt 16 r.val _ _ ?_ ?_
  · exact (congrArg (val_main_v10 (F := Ideal)) (ext1 _ r rfl)).trans (v10_at r)
  · rw [val_main_v60_apply]
    exact ofBits_16.trans (by norm_num)

theorem pooled_at3 (x2 : S4096x6144.Idx → EReal) (hf : ∀ b k c, Finite (col (Zb x2 b k) c)) (b : Fin 2) (r : Fin 2048) (c : Fin 256) :
    val_main_v66 (F := Ideal) x2 (ix3 b r c) = pooled 16 (Zb x2 b 3) r c := by
  rw [val_main_v66_apply, val_main_v65_apply, val_main_v63_apply, cum_at3, cat_at3, u_at3, val_main_v64_apply,
    show idx_main_v64 (ix3 b r c) = ix3 0 r 0 from ext3 _ _ _ _ rfl rfl rfl, count_at3]
  exact pooled_of_cum 16 (Zb x2 b 3) c (hf b 3 c) r

/-! ## The four groups side by side -/

theorem v71_at (x2 : S4096x6144.Idx → EReal) (hf : ∀ b k c, Finite (col (Zb x2 b k) c)) (b : Fin 2) (r : Fin 2048) (k : Fin 4) (c : Fin 256) :
    val_main_v71 (F := Ideal) x2 (ix4 b r k c) = pooled (2 ^ (k.val + 1)) (Zb x2 b k) r c := by
  unfold val_main_v71
  match k with
  | ⟨0, _⟩ =>
    refine (concatenate_apply_piece (t := S2x2048x4x256) 2 _ _ _ 0 ?_ S2x2048x1x256 (val_main_v67 (F := Ideal) x2) ?_ rfl 0 ?_ (ix4 b r 0 c) (fun a ha => ?_) ?_).trans ?_
    · exact (by decide : 0 < 4)
    · rfl
    · rfl
    · match a, ha with
      | ⟨0, _⟩, _ => rfl
      | ⟨1, _⟩, _ => rfl
      | ⟨2, _⟩, ha => exact absurd rfl ha
      | ⟨3, _⟩, _ => rfl
    · rfl
    · rw [val_main_v67_apply]
      exact (congrArg (val_main_v24 (F := Ideal) x2) (ext3 _ b r c rfl rfl rfl)).trans (pooled_at0 x2 hf b r c)
  | ⟨1, _⟩ =>
    refine (concatenate_apply_piece (t := S2x2048x4x256) 2 _ _ _ 1 ?_ S2x2048x1x256 (val_main_v68 (F := Ideal) x2) ?_ rfl 1 ?_ (ix4 b r 0 c) (fun a ha => ?_) ?_).trans ?_
    · exact (by decide : 1 < 4)
    · rfl
    · rfl
    · match a, ha with
      | ⟨0, _⟩, _ => rfl
      | ⟨1, _⟩, _ => rfl
      | ⟨2, _⟩, ha => exact absurd rfl ha
      | ⟨3, _⟩, _ => rfl
    · rfl
    · rw [val_main_v68_apply]
      exact (congrArg (val_main_v38 (F := Ideal) x2) (ext3 _ b r c rfl rfl rfl)).trans (pooled_at1 x2 hf b r c)
  | ⟨2, _⟩ =>
    refine (concatenate_apply_piece (t := S2x2048x4x256) 2 _ _ _ 2 ?_ S2x2048x1x256 (val_main_v69 (F := Ideal) x2) ?_ rfl 2 ?_ (ix4 b r 0 c) (fun a ha => ?_) ?_).trans ?_
    · exact (by decide : 2 < 4)
    · rfl
    · rfl
    · match a, ha with
      | ⟨0, _⟩, _ => rfl
      | ⟨1, _⟩, _ => rfl
      | ⟨2, _⟩, ha => exact absurd rfl ha
      | ⟨3, _⟩, _ => rfl
    · rfl
    · rw [val_main_v69_apply]
      exact (congrArg (val_main_v52 (F := Ideal) x2) (ext3 _ b r c rfl rfl rfl)).trans (pooled_at2 x2 hf b r c)
  | ⟨3, _⟩ =>
    refine (concatenate_apply_piece (t := S2x2048x4x256) 2 _ _ _ 3 ?_ S2x2048x1x256 (val_main_v70 (F := Ideal) x2) ?_ rfl 3 ?_ (ix4 b r 0 c) (fun a ha => ?_) ?_).trans ?_
    · exact (by decide : 3 < 4)
    · rfl
    · rfl
    · match a, ha with
      | ⟨0, _⟩, _ => rfl
      | ⟨1, _⟩, _ => rfl
      | ⟨2, _⟩, ha => exact absurd rfl ha
      | ⟨3, _⟩, _ => rfl
    · rfl
    · rw [val_main_v70_apply]
      exact (congrArg (val_main_v66 (F := Ideal) x2) (ext3 _ b r c rfl rfl rfl)).trans (pooled_at3 x2 hf b r c)

end Cert.Pool
-- ==== Proof.RefGrad.lean ====
/- The reference's gradients of the weights and of the scales, and its gradient with respect to the pooled rows, element by element. -/
module

public import proofs.«01_k».proof.Proof.RefPooled

@[expose] public section

noncomputable section

namespace Cert.Pool

open Idealize.ShloMosaic hiding ix0 ix1 ix2 ix3 ix4 ix5
open Idealize.ShloMosaic.ValueIdx Cert.ReferenceIdeal Cert.ReferenceIdeal.Gen Cert.ReferenceIdeal.Read

/-- The host's float sum over the first two of three axes. -/
theorem sum_two_axes {A B C : ℕ} (h : (⟨3, ![A, B, C]⟩ : Shape).ReducesTo [0, 1] ⟨1, ![C]⟩) (x : (⟨3, ![A, B, C]⟩ : Shape).Idx → EReal)
    (v : EReal) (d : Fin C) : Ideal.hostReduceAdd h x v (ix1 d) = v + ∑ a : Fin A, ∑ b : Fin B, x (ix3 a b d) := by
  unfold Ideal.hostReduceAdd
  rw [← Fintype.sum_prod_type']
  refine congrArg (v + ·) (Finset.sum_filter_eq_sum_of_fiber _ (fun p : Fin A × Fin B => ix3 p.1 p.2 d)
    (fun p q e => Prod.ext (congrFun e 0) (congrFun e 1)) (fun i => ⟨fun e => ?_, ?_⟩) x)
  · refine ⟨(i 0, i 1), ?_⟩
    funext a
    apply Fin.ext
    match a with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl

/-! ## The products of the forward pass and the gradient of the scales -/

theorem v72_at (x2 : S4096x6144.Idx → EReal) (x3 : S4x256x256.Idx → EReal) (hf : ∀ b k c, Finite (col (Zb x2 b k) c))
    (k : Fin 4) (e : Fin 256) (b : Fin 2) (r : Fin 2048) :
    val_main_v72 (F := Ideal) x2 x3 (ix4 k e b r) = ∑ c : Fin 256, pooled (2 ^ (k.val + 1)) (Zb x2 b k) r c * Wb x3 k (ix3 0 c e) := by
  rw [val_main_v72_apply]
  refine Finset.sum_congr rfl fun c _ => ?_
  rw [mul_comm]
  refine congrArg₂ (· * ·) ?_ (congrArg x3 (ext3 _ k c e rfl rfl rfl))
  exact (congrArg (val_main_v71 (F := Ideal) x2) (ext4 _ b r k c rfl rfl rfl rfl)).trans (v71_at x2 hf b r k c)

theorem v74_at (x2 : S4096x6144.Idx → EReal) (x3 : S4x256x256.Idx → EReal) (hf : ∀ b k c, Finite (col (Zb x2 b k) c))
    (b : Fin 2) (r : Fin 2048) (k : Fin 4) (e : Fin 256) :
    val_main_v74 (F := Ideal) x2 x3 (ix3 b r (colAt k.val k.isLt e))
      = ∑ c : Fin 256, pooled (2 ^ (k.val + 1)) (Zb x2 b k) r c * Wb x3 k (ix3 0 c e) := by
  have hr := r.isLt
  have he := e.isLt
  have hb := b.isLt
  have hk := k.isLt
  rw [val_main_v74_apply, val_main_v73_apply, ← v72_at x2 x3 hf k e b r]
  refine congrArg (val_main_v72 (F := Ideal) x2 x3) (ext4 _ _ _ _ _ ?_ ?_ ?_ ?_)
  · show ((b.val * 2048 + r.val) * 1024 + (256 * k.val + e.val)) / 256 % 4 = k.val; omega
  · show ((b.val * 2048 + r.val) * 1024 + (256 * k.val + e.val)) % 256 = e.val; omega
  · show ((b.val * 2048 + r.val) * 1024 + (256 * k.val + e.val)) / 2097152 = b.val; omega
  · show ((b.val * 2048 + r.val) * 1024 + (256 * k.val + e.val)) / 1024 % 2048 = r.val; omega

theorem v79_at (x1 : S2x4096x1024.Idx → EReal) (x2 : S4096x6144.Idx → EReal) (x3 : S4x256x256.Idx → EReal)
    (hf : ∀ b k c, Finite (col (Zb x2 b k) c)) (k : Fin 4) (e : Fin 256) :
    val_main_v79 (F := Ideal) x1 x2 x3 (ix1 (colAt k.val k.isLt e))
      = ∑ b : Fin 2, incS (2 ^ (k.val + 1)) (Gb x1 b k) (Zb x2 b k) (Wb x3 k) e := by
  unfold val_main_v79
  rw [hostReduceAdd_apply, sum_two_axes, val_main_cst_12_apply]
  refine (congrArg (· + _) Ideal.ofBits_zero_f32).trans ((zero_add _).trans ?_)
  refine Finset.sum_congr rfl fun b _ => Finset.sum_congr rfl fun r _ => ?_
  rw [val_main_v78_apply]
  refine (mul_comm _ _).trans ?_
  exact congrArg₂ (· * ·) (v6_at x1 b r k e) (v74_at x2 x3 hf b r k e)

/-- The reference's gradient of the scales. -/
theorem v153_at (x1 : S2x4096x1024.Idx → EReal) (x2 : S4096x6144.Idx → EReal) (x3 : S4x256x256.Idx → EReal)
    (hf : ∀ b k c, Finite (col (Zb x2 b k) c)) (k : Fin 4) (e : Fin 256) :
    val_main_v153 (F := Ideal) x1 x2 x3 (ix2 0 (colAt k.val k.isLt e))
      = ∑ b : Fin 2, incS (2 ^ (k.val + 1)) (Gb x1 b k) (Zb x2 b k) (Wb x3 k) e := by
  rw [val_main_v153_apply, show idx_main_v153 (ix2 0 (colAt k.val k.isLt e)) = ix1 (colAt k.val k.isLt e) from ext1 _ _ rfl]
  unfold val_main_v83
  rw [hostReduceAdd_apply, sum_two_axes, val_main_cst_13_apply]
  refine (congrArg (· + _) Ideal.ofBits_zero_f32).trans ((zero_add _).trans ?_)
  rw [Fin.sum_univ_one, Fin.sum_univ_one, val_main_v80_apply, ← v79_at x1 x2 x3 hf k e]
  refine congrArg (val_main_v79 (F := Ideal) x1 x2 x3) (ext1 _ _ ?_)
  show (0 * 1 + 0) * 1024 + (colAt k.val k.isLt e).val = (colAt k.val k.isLt e).val
  omega

/-! ## The gradient before the product, and the gradient of the weights -/

theorem v82_at (x1 : S2x4096x1024.Idx → EReal) (x4 : S1x1024.Idx → EReal) (b : Fin 2) (r : Fin 2048) (k : Fin 4) (e : Fin 256) :
    val_main_v82 (F := Ideal) x1 x4 (ix3 b r (colAt k.val k.isLt e)) = dlin (Gb x1 b k) (Sb x4 k) r e := by
  rw [val_main_v82_apply]
  refine congrArg₂ (· * ·) (v6_at x1 b r k e) ?_
  rw [val_main_v81_apply, val_main_v75_apply, val_main_v7_apply]
  refine congrArg x4 (ext2 _ _ _ rfl ?_)
  show (colAt k.val k.isLt e).val % 1024 = (colAt k.val k.isLt e).val
  exact Nat.mod_eq_of_lt (colAt k.val k.isLt e).isLt

theorem v85_at (x1 : S2x4096x1024.Idx → EReal) (x4 : S1x1024.Idx → EReal) (k : Fin 4) (e : Fin 256) (b : Fin 2) (r : Fin 2048) :
    val_main_v85 (F := Ideal) x1 x4 (ix4 k e b r) = dlin (Gb x1 b k) (Sb x4 k) r e := by
  have hr := r.isLt
  have he := e.isLt
  have hb := b.isLt
  have hk := k.isLt
  rw [val_main_v85_apply, val_main_v84_apply, ← v82_at x1 x4 b r k e]
  refine congrArg (val_main_v82 (F := Ideal) x1 x4) (ext3 _ _ _ _ ?_ ?_ ?_)
  · show (((b.val * 2048 + r.val) * 4 + k.val) * 256 + e.val) / 2097152 = b.val; omega
  · show (((b.val * 2048 + r.val) * 4 + k.val) * 256 + e.val) / 1024 % 2048 = r.val; omega
  · show (((b.val * 2048 + r.val) * 4 + k.val) * 256 + e.val) % 1024 = 256 * k.val + e.val; omega

theorem v87_at (x1 : S2x4096x1024.Idx → EReal) (x3 : S4x256x256.Idx → EReal) (x4 : S1x1024.Idx → EReal)
    (b : Fin 2) (r : Fin 2048) (k : Fin 4) (c : Fin 256) :
    val_main_v87 (F := Ideal) x1 x3 x4 (ix4 b r k c) = gpool (Gb x1 b k) (Wb x3 k) (Sb x4 k) r c := by
  rw [val_main_v87_apply, val_main_v86_apply]
  refine Finset.sum_congr rfl fun e _ => ?_
  refine congrArg₂ (· * ·) ?_ (congrArg x3 (ext3 _ k c e rfl rfl rfl))
  exact (congrArg (val_main_v85 (F := Ideal) x1 x4) (ext4 _ k e b r rfl rfl rfl rfl)).trans (v85_at x1 x4 k e b r)

/-- The positions the gradient of the weights is summed over: a sequence and a row. -/
def bothAxes : Fin 2 × Fin 2048 ≃ dot_S4x256x2x2048_S2x2048x4x256_S4x256x256_23_01_1_3_0_2.contr.Idx where
  toFun p := fun a => match a with
    | ⟨0, _⟩ => p.1
    | ⟨1, _⟩ => p.2
  invFun q := (q ⟨0, by decide⟩, q ⟨1, by decide⟩)
  left_inv p := rfl
  right_inv q := by
    funext a
    match a with
    | ⟨0, _⟩ => rfl
    | ⟨1, _⟩ => rfl

/-- The reference's gradient of the weights. -/
theorem v89_at (x1 : S2x4096x1024.Idx → EReal) (x2 : S4096x6144.Idx → EReal) (x4 : S1x1024.Idx → EReal)
    (hf : ∀ b k c, Finite (col (Zb x2 b k) c)) (k : Fin 4) (c e : Fin 256) :
    val_main_v89 (F := Ideal) x1 x2 x4 (ix3 k c e)
      = ∑ b : Fin 2, incW (2 ^ (k.val + 1)) (Gb x1 b k) (Zb x2 b k) (Sb x4 k) c e := by
  rw [val_main_v89_apply]
  unfold val_main_v88
  simp only [Host.dotGeneral]
  rw [Ideal.dotGeneral_apply, ← Equiv.sum_comp bothAxes, Fintype.sum_prod_type]
  refine Finset.sum_congr rfl fun b _ => Finset.sum_congr rfl fun r _ => ?_
  refine (mul_comm _ _).trans (congrArg₂ (· * ·) ?_ ?_)
  · exact (congrArg (val_main_v71 (F := Ideal) x2) (ext4 _ b r k c rfl rfl rfl rfl)).trans (v71_at x2 hf b r k c)
  · exact (congrArg (val_main_v85 (F := Ideal) x1 x4) (ext4 _ k e b r rfl rfl rfl rfl)).trans (v85_at x1 x4 k e b r)

end Cert.Pool
-- ==== Proof.RefDz.lean ====
/- The reference's gradient with respect to the rows, group by group of columns, element by element. -/
module

public import proofs.«01_k».proof.Proof.RefGrad

@[expose] public section

noncomputable section

namespace Cert.Pool

open Idealize.ShloMosaic hiding ix0 ix1 ix2 ix3 ix4 ix5
open Idealize.ShloMosaic.ValueIdx Cert.ReferenceIdeal Cert.ReferenceIdeal.Gen Cert.ReferenceIdeal.Read

/-- The gradient with respect to the pooled rows of sequence `b` in group `k`. -/
def gAt (x1 : S2x4096x1024.Idx → EReal) (x3 : S4x256x256.Idx → EReal) (x4 : S1x1024.Idx → EReal) (b : Fin 2) (k : Fin 4) :
    Fin 2048 → Fin 256 → EReal := gpool (Gb x1 b k) (Wb x3 k) (Sb x4 k)

variable (x1 : S2x4096x1024.Idx → EReal) (x3 : S4x256x256.Idx → EReal) (x4 : S1x1024.Idx → EReal)

/-! ## Group 0, windows of 2 rows -/

theorem g_at0 (b : Fin 2) (r : Fin 2048) (c : Fin 256) : val_main_v91 (F := Ideal) x1 x3 x4 (ix3 b r c) = gAt x1 x3 x4 b 0 r c := by
  have hr := r.isLt
  have hc := c.isLt
  have hb := b.isLt
  rw [val_main_v91_apply, val_main_v90_apply]
  refine (congrArg (val_main_v87 (F := Ideal) x1 x3 x4) (ext4 _ b r 0 c ?_ ?_ ?_ ?_)).trans (v87_at x1 x3 x4 b r 0 c)
  · show ((b.val * 2048 + r.val) * 256 + c.val) / 524288 = b.val; omega
  · show ((b.val * 2048 + r.val) * 256 + c.val) / 256 % 2048 = r.val; omega
  · rfl
  · show ((b.val * 2048 + r.val) * 256 + c.val) % 256 = c.val; omega

theorem div_at0 (b : Fin 2) (r : Fin 2048) (c : Fin 256) :
    val_main_v135 (F := Ideal) x1 x3 x4 (ix3 b r c) = gmean 2 (gAt x1 x3 x4 b 0) c r.val := by
  rw [val_main_v135_apply, g_at0, val_main_v134_apply, show idx_main_v134 (ix3 b r c) = ix3 0 r 0 from ext3 _ _ _ _ rfl rfl rfl,
    count_at0]
  unfold gmean
  rw [dif_pos r.isLt]
  rfl

theorem pad_at0 (b : Fin 2) (r : Fin 2048) (c : Fin 256) :
    val_main_v139 (F := Ideal) x1 x3 x4 (ix3 b r c)
      = if r.val + 2 < 2048 then -(gmean 2 (gAt x1 x3 x4 b 0) c (r.val + 2)) else 0 := by
  unfold val_main_v139
  refine (pad_rows_apply 2 2046 rfl _ _ (fun i => (val_main_cst_20_apply i).trans Ideal.ofBits_zero_f32) _ _ b r c).trans ?_
  split
  · next h =>
    rw [val_main_v138_apply, val_main_v136_apply,
      show idx_main_v138 (ix3 b ⟨r.val, by omega⟩ c) = ix3 b ⟨r.val + 2, h⟩ c from ext3 _ _ _ _ rfl (Nat.add_comm _ _) rfl, div_at0]
    rfl
  · rfl

theorem sum_at0 (hg : ∀ b k r c, gAt x1 x3 x4 b k r c ≠ ⊤ ∧ gAt x1 x3 x4 b k r c ≠ ⊥) (b : Fin 2) (r : Fin 2048) (c : Fin 256) :
    val_main_v142 (F := Ideal) x1 x3 x4 (ix3 b r c) = dz 2 (Gb x1 b 0) (Wb x3 0) (Sb x4 0) r c := by
  have hcol : col (seq (val_main_v140 (F := Ideal) x1 x3 x4) b) c
      = fun j => gmean 2 (gAt x1 x3 x4 b 0) c j + if j + 2 < 2048 then -(gmean 2 (gAt x1 x3 x4 b 0) c (j + 2)) else 0 := by
    funext n
    by_cases h : n < 2048
    · refine (dif_pos h).trans ((val_main_v140_apply (F := Ideal) x1 x3 x4 (ix3 b ⟨n, h⟩ c)).trans ?_)
      rw [div_at0, pad_at0]
      rfl
    · refine (dif_neg h).trans ?_
      rw [if_neg (by omega), add_zero]
      unfold gmean
      rw [dif_neg h]
  have hc : val_main_v141 (F := Ideal) x1 x3 x4 (ix3 b r c)
      = cumUp 2048 (fun j => gmean 2 (gAt x1 x3 x4 b 0) c j + if j + 2 < 2048 then -(gmean 2 (gAt x1 x3 x4 b 0) c (j + 2)) else 0) r.val := by
    unfold val_main_v141
    rw [cumsum_up_apply _ _ (fun i => by rw [val_main_call7_call0_v0_apply]; exact Ideal.ofBits_zero_f32), hcol]
  rw [val_main_v142_apply, val_main_v133_apply, g_at0, hc]
  exact grad_of_cum 2 (by omega) (gAt x1 x3 x4 b 0) c (fun r => hg b 0 r c) r

theorem group_at0 (hg : ∀ b k r c, gAt x1 x3 x4 b k r c ≠ ⊤ ∧ gAt x1 x3 x4 b k r c ≠ ⊥) (b : Fin 2) (r : Fin 2048) (j : Fin 4) (e : Fin 256) :
    val_main_v143 (F := Ideal) x1 x3 x4 (ix3 b r (colAt j.val j.isLt e))
      = if j = 0 then dz 2 (Gb x1 b 0) (Wb x3 0) (Sb x4 0) r e else 0 := by
  have he := e.isLt
  have hv : (colAt j.val j.isLt e).val = 256 * j.val + e.val := rfl
  unfold val_main_v143
  refine (pad_cols_apply 0 768 _ _ (fun i => (val_main_cst_21_apply i).trans Ideal.ofBits_zero_f32) _ _ b r _).trans ?_
  by_cases h : j = 0
  · subst h
    have h0 : (((0 : Fin 4)).val) = 0 := rfl
    rw [dif_pos (by omega), if_pos rfl, ← sum_at0 x1 x3 x4 hg b r e]
    exact congrArg (val_main_v142 (F := Ideal) x1 x3 x4) (ext3 _ _ _ _ rfl rfl (by show (colAt _ _ e).val - 0 = e.val; omega))
  · have h0 : j.val ≠ 0 := fun e => h (Fin.ext e)
    rw [dif_neg (by omega), if_neg h]

/-! ## Group 1, windows of 4 rows -/

theorem g_at1 (b : Fin 2) (r : Fin 2048) (c : Fin 256) : val_main_v93 (F := Ideal) x1 x3 x4 (ix3 b r c) = gAt x1 x3 x4 b 1 r c := by
  have hr := r.isLt
  have hc := c.isLt
  have hb := b.isLt
  rw [val_main_v93_apply, val_main_v92_apply]
  refine (congrArg (val_main_v87 (F := Ideal) x1 x3 x4) (ext4 _ b r 1 c ?_ ?_ ?_ ?_)).trans (v87_at x1 x3 x4 b r 1 c)
  · show ((b.val * 2048 + r.val) * 256 + c.val) / 524288 = b.val; omega
  · show ((b.val * 2048 + r.val) * 256 + c.val) / 256 % 2048 = r.val; omega
  · rfl
  · show ((b.val * 2048 + r.val) * 256 + c.val) % 256 = c.val; omega

theorem div_at1 (b : Fin 2) (r : Fin 2048) (c : Fin 256) :
    val_main_v123 (F := Ideal) x1 x3 x4 (ix3 b r c) = gmean 4 (gAt x1 x3 x4 b 1) c r.val := by
  rw [val_main_v123_apply, g_at1, val_main_v122_apply, show idx_main_v122 (ix3 b r c) = ix3 0 r 0 from ext3 _ _ _ _ rfl rfl rfl,
    count_at1]
  unfold gmean
  rw [dif_pos r.isLt]
  rfl

theorem pad_at1 (b : Fin 2) (r : Fin 2048) (c : Fin 256) :
    val_main_v127 (F := Ideal) x1 x3 x4 (ix3 b r c)
      = if r.val + 4 < 2048 then -(gmean 4 (gAt x1 x3 x4 b 1) c (r.val + 4)) else 0 := by
  unfold val_main_v127
  refine (pad_rows_apply 4 2044 rfl _ _ (fun i => (val_main_cst_18_apply i).trans Ideal.ofBits_zero_f32) _ _ b r c).trans ?_
  split
  · next h =>
    rw [val_main_v126_apply, val_main_v124_apply,
      show idx_main_v126 (ix3 b ⟨r.val, by omega⟩ c) = ix3 b ⟨r.val + 4, h⟩ c from ext3 _ _ _ _ rfl (Nat.add_comm _ _) rfl, div_at1]
    rfl
  · rfl

theorem sum_at1 (hg : ∀ b k r c, gAt x1 x3 x4 b k r c ≠ ⊤ ∧ gAt x1 x3 x4 b k r c ≠ ⊥) (b : Fin 2) (r : Fin 2048) (c : Fin 256) :
    val_main_v130 (F := Ideal) x1 x3 x4 (ix3 b r c) = dz 4 (Gb x1 b 1) (Wb x3 1) (Sb x4 1) r c := by
  have hcol : col (seq (val_main_v128 (F := Ideal) x1 x3 x4) b) c
      = fun j => gmean 4 (gAt x1 x3 x4 b 1) c j + if j + 4 < 2048 then -(gmean 4 (gAt x1 x3 x4 b 1) c (j + 4)) else 0 := by
    funext n
    by_cases h : n < 2048
    · refine (dif_pos h).trans ((val_main_v128_apply (F := Ideal) x1 x3 x4 (ix3 b ⟨n, h⟩ c)).trans ?_)
      rw [div_at1, pad_at1]
      rfl
    · refine (dif_neg h).trans ?_
      rw [if_neg (by omega), add_zero]
      unfold gmean
      rw [dif_neg h]
  have hc : val_main_v129 (F := Ideal) x1 x3 x4 (ix3 b r c)
      = cumUp 2048 (fun j => gmean 4 (gAt x1 x3 x4 b 1) c j + if j + 4 < 2048 then -(gmean 4 (gAt x1 x3 x4 b 1) c (j + 4)) else 0) r.val := by
    unfold val_main_v129
    rw [cumsum_up_apply _ _ (fun i => by rw [val_main_call6_call0_v0_apply]; exact Ideal.ofBits_zero_f32), hcol]
  rw [val_main_v130_apply, val_main_v121_apply, g_at1, hc]
  exact grad_of_cum 4 (by omega) (gAt x1 x3 x4 b 1) c (fun r => hg b 1 r c) r

theorem group_at1 (hg : ∀ b k r c, gAt x1 x3 x4 b k r c ≠ ⊤ ∧ gAt x1 x3 x4 b k r c ≠ ⊥) (b : Fin 2) (r : Fin 2048) (j : Fin 4) (e : Fin 256) :
    val_main_v131 (F := Ideal) x1 x3 x4 (ix3 b r (colAt j.val j.isLt e))
      = if j = 1 then dz 4 (Gb x1 b 1) (Wb x3 1) (Sb x4 1) r e else 0 := by
  have he := e.isLt
  have hv : (colAt j.val j.isLt e).val = 256 * j.val + e.val := rfl
  unfold val_main_v131
  refine (pad_cols_apply 256 512 _ _ (fun i => (val_main_cst_19_apply i).trans Ideal.ofBits_zero_f32) _ _ b r _).trans ?_
  by_cases h : j = 1
  · subst h
    have h0 : (((1 : Fin 4)).val) = 1 := rfl
    rw [dif_pos (by omega), if_pos rfl, ← sum_at1 x1 x3 x4 hg b r e]
    exact congrArg (val_main_v130 (F := Ideal) x1 x3 x4) (ext3 _ _ _ _ rfl rfl (by show (colAt _ _ e).val - 256 = e.val; omega))
  · have h0 : j.val ≠ 1 := fun e => h (Fin.ext e)
    rw [dif_neg (by omega), if_neg h]

/-! ## Group 2, windows of 8 rows -/

theorem g_at2 (b : Fin 2) (r : Fin 2048) (c : Fin 256) : val_main_v95 (F := Ideal) x1 x3 x4 (ix3 b r c) = gAt x1 x3 x4 b 2 r c := by
  have hr := r.isLt
  have hc := c.isLt
  have hb := b.isLt
  rw [val_main_v95_apply, val_main_v94_apply]
  refine (congrArg (val_main_v87 (F := Ideal) x1 x3 x4) (ext4 _ b r 2 c ?_ ?_ ?_ ?_)).trans (v87_at x1 x3 x4 b r 2 c)
  · show ((b.val * 2048 + r.val) * 256 + c.val) / 524288 = b.val; omega
  · show ((b.val * 2048 + r.val) * 256 + c.val) / 256 % 2048 = r.val; omega
  · rfl
  · show ((b.val * 2048 + r.val) * 256 + c.val) % 256 = c.val; omega

theorem div_at2 (b : Fin 2) (r : Fin 2048) (c : Fin 256) :
    val_main_v111 (F := Ideal) x1 x3 x4 (ix3 b r c) = gmean 8 (gAt x1 x3 x4 b 2) c r.val := by
  rw [val_main_v111_apply, g_at2, val_main_v110_apply, show idx_main_v110 (ix3 b r c) = ix3 0 r 0 from ext3 _ _ _ _ rfl rfl rfl,
    count_at2]
  unfold gmean
  rw [dif_pos r.isLt]
  rfl

theorem pad_at2 (b : Fin 2) (r : Fin 2048) (c : Fin 256) :
    val_main_v115 (F := Ideal) x1 x3 x4 (ix3 b r c)
      = if r.val + 8 < 2048 then -(gmean 8 (gAt x1 x3 x4 b 2) c (r.val + 8)) else 0 := by
  unfold val_main_v115
  refine (pad_rows_apply 8 2040 rfl _ _ (fun i => (val_main_cst_16_apply i).trans Ideal.ofBits_zero_f32) _ _ b r c).trans ?_
  split
  · next h =>
    rw [val_main_v114_apply, val_main_v112_apply,
      show idx_main_v114 (ix3 b ⟨r.val, by omega⟩ c) = ix3 b ⟨r.val + 8, h⟩ c from ext3 _ _ _ _ rfl (Nat.add_comm _ _) rfl, div_at2]
    rfl
  · rfl

theorem sum_at2 (hg : ∀ b k r c, gAt x1 x3 x4 b k r c ≠ ⊤ ∧ gAt x1 x3 x4 b k r c ≠ ⊥) (b : Fin 2) (r : Fin 2048) (c : Fin 256) :
    val_main_v118 (F := Ideal) x1 x3 x4 (ix3 b r c) = dz 8 (Gb x1 b 2) (Wb x3 2) (Sb x4 2) r c := by
  have hcol : col (seq (val_main_v116 (F := Ideal) x1 x3 x4) b) c
      = fun j => gmean 8 (gAt x1 x3 x4 b 2) c j + if j + 8 < 2048 then -(gmean 8 (gAt x1 x3 x4 b 2) c (j + 8)) else 0 := by
    funext n
    by_cases h : n < 2048
    · refine (dif_pos h).trans ((val_main_v116_apply (F := Ideal) x1 x3 x4 (ix3 b ⟨n, h⟩ c)).trans ?_)
      rw [div_at2, pad_at2]
      rfl
    · refine (dif_neg h).trans ?_
      rw [if_neg (by omega), add_zero]
      unfold gmean
      rw [dif_neg h]
  have hc : val_main_v117 (F := Ideal) x1 x3 x4 (ix3 b r c)
      = cumUp 2048 (fun j => gmean 8 (gAt x1 x3 x4 b 2) c j + if j + 8 < 2048 then -(gmean 8 (gAt x1 x3 x4 b 2) c (j + 8)) else 0) r.val := by
    unfold val_main_v117
    rw [cumsum_up_apply _ _ (fun i => by rw [val_main_call5_call0_v0_apply]; exact Ideal.ofBits_zero_f32), hcol]
  rw [val_main_v118_apply, val_main_v109_apply, g_at2, hc]
  exact grad_of_cum 8 (by omega) (gAt x1 x3 x4 b 2) c (fun r => hg b 2 r c) r

theorem group_at2 (hg : ∀ b k r c, gAt x1 x3 x4 b k r c ≠ ⊤ ∧ gAt x1 x3 x4 b k r c ≠ ⊥) (b : Fin 2) (r : Fin 2048) (j : Fin 4) (e : Fin 256) :
    val_main_v119 (F := Ideal) x1 x3 x4 (ix3 b r (colAt j.val j.isLt e))
      = if j = 2 then dz 8 (Gb x1 b 2) (Wb x3 2) (Sb x4 2) r e else 0 := by
  have he := e.isLt
  have hv : (colAt j.val j.isLt e).val = 256 * j.val + e.val := rfl
  unfold val_main_v119
  refine (pad_cols_apply 512 256 _ _ (fun i => (val_main_cst_17_apply i).trans Ideal.ofBits_zero_f32) _ _ b r _).trans ?_
  by_cases h : j = 2
  · subst h
    have h0 : (((2 : Fin 4)).val) = 2 := rfl
    rw [dif_pos (by omega), if_pos rfl, ← sum_at2 x1 x3 x4 hg b r e]
    exact congrArg (val_main_v118 (F := Ideal) x1 x3 x4) (ext3 _ _ _ _ rfl rfl (by show (colAt _ _ e).val - 512 = e.val; omega))
  · have h0 : j.val ≠ 2 := fun e => h (Fin.ext e)
    rw [dif_neg (by omega), if_neg h]

/-! ## Group 3, windows of 16 rows -/

theorem g_at3 (b : Fin 2) (r : Fin 2048) (c : Fin 256) : val_main_v97 (F := Ideal) x1 x3 x4 (ix3 b r c) = gAt x1 x3 x4 b 3 r c := by
  have hr := r.isLt
  have hc := c.isLt
  have hb := b.isLt
  rw [val_main_v97_apply, val_main_v96_apply]
  refine (congrArg (val_main_v87 (F := Ideal) x1 x3 x4) (ext4 _ b r 3 c ?_ ?_ ?_ ?_)).trans (v87_at x1 x3 x4 b r 3 c)
  · show ((b.val * 2048 + r.val) * 256 + c.val) / 524288 = b.val; omega
  · show ((b.val * 2048 + r.val) * 256 + c.val) / 256 % 2048 = r.val; omega
  · rfl
  · show ((b.val * 2048 + r.val) * 256 + c.val) % 256 = c.val; omega

theorem div_at3 (b : Fin 2) (r : Fin 2048) (c : Fin 256) :
    val_main_v100 (F := Ideal) x1 x3 x4 (ix3 b r c) = gmean 16 (gAt x1 x3 x4 b 3) c r.val := by
  rw [val_main_v100_apply, g_at3, val_main_v99_apply, show idx_main_v99 (ix3 b r c) = ix3 0 r 0 from ext3 _ _ _ _ rfl rfl rfl,
    count_at3]
  unfold gmean
  rw [dif_pos r.isLt]
  rfl

theorem pad_at3 (b : Fin 2) (r : Fin 2048) (c : Fin 256) :
    val_main_v104 (F := Ideal) x1 x3 x4 (ix3 b r c)
      = if r.val + 16 < 2048 then -(gmean 16 (gAt x1 x3 x4 b 3) c (r.val + 16)) else 0 := by
  unfold val_main_v104
  refine (pad_rows_apply 16 2032 rfl _ _ (fun i => (val_main_cst_14_apply i).trans Ideal.ofBits_zero_f32) _ _ b r c).trans ?_
  split
  · next h =>
    rw [val_main_v103_apply, val_main_v101_apply,
      show idx_main_v103 (ix3 b ⟨r.val, by omega⟩ c) = ix3 b ⟨r.val + 16, h⟩ c from ext3 _ _ _ _ rfl (Nat.add_comm _ _) rfl, div_at3]
    rfl
  · rfl

theorem sum_at3 (hg : ∀ b k r c, gAt x1 x3 x4 b k r c ≠ ⊤ ∧ gAt x1 x3 x4 b k r c ≠ ⊥) (b : Fin 2) (r : Fin 2048) (c : Fin 256) :
    val_main_v107 (F := Ideal) x1 x3 x4 (ix3 b r c) = dz 16 (Gb x1 b 3) (Wb x3 3) (Sb x4 3) r c := by
  have hcol : col (seq (val_main_v105 (F := Ideal) x1 x3 x4) b) c
      = fun j => gmean 16 (gAt x1 x3 x4 b 3) c j + if j + 16 < 2048 then -(gmean 16 (gAt x1 x3 x4 b 3) c (j + 16)) else 0 := by
    funext n
    by_cases h : n < 2048
    · refine (dif_pos h).trans ((val_main_v105_apply (F := Ideal) x1 x3 x4 (ix3 b ⟨n, h⟩ c)).trans ?_)
      rw [div_at3, pad_at3]
      rfl
    · refine (dif_neg h).trans ?_
      rw [if_neg (by omega), add_zero]
      unfold gmean
      rw [dif_neg h]
  have hc : val_main_v106 (F := Ideal) x1 x3 x4 (ix3 b r c)
      = cumUp 2048 (fun j => gmean 16 (gAt x1 x3 x4 b 3) c j + if j + 16 < 2048 then -(gmean 16 (gAt x1 x3 x4 b 3) c (j + 16)) else 0) r.val := by
    unfold val_main_v106
    rw [cumsum_up_apply _ _ (fun i => by rw [val_main_call4_call0_v0_apply]; exact Ideal.ofBits_zero_f32), hcol]
  rw [val_main_v107_apply, val_main_v98_apply, g_at3, hc]
  exact grad_of_cum 16 (by omega) (gAt x1 x3 x4 b 3) c (fun r => hg b 3 r c) r

theorem group_at3 (hg : ∀ b k r c, gAt x1 x3 x4 b k r c ≠ ⊤ ∧ gAt x1 x3 x4 b k r c ≠ ⊥) (b : Fin 2) (r : Fin 2048) (j : Fin 4) (e : Fin 256) :
    val_main_v108 (F := Ideal) x1 x3 x4 (ix3 b r (colAt j.val j.isLt e))
      = if j = 3 then dz 16 (Gb x1 b 3) (Wb x3 3) (Sb x4 3) r e else 0 := by
  have he := e.isLt
  have hv : (colAt j.val j.isLt e).val = 256 * j.val + e.val := rfl
  unfold val_main_v108
  refine (pad_cols_apply 768 0 _ _ (fun i => (val_main_cst_15_apply i).trans Ideal.ofBits_zero_f32) _ _ b r _).trans ?_
  by_cases h : j = 3
  · subst h
    have h0 : (((3 : Fin 4)).val) = 3 := rfl
    rw [dif_pos (by omega), if_pos rfl, ← sum_at3 x1 x3 x4 hg b r e]
    exact congrArg (val_main_v107 (F := Ideal) x1 x3 x4) (ext3 _ _ _ _ rfl rfl (by show (colAt _ _ e).val - 768 = e.val; omega))
  · have h0 : j.val ≠ 3 := fun e => h (Fin.ext e)
    rw [dif_neg (by omega), if_neg h]

/-! ## The four groups together -/

theorem v144_at (hg : ∀ b k r c, gAt x1 x3 x4 b k r c ≠ ⊤ ∧ gAt x1 x3 x4 b k r c ≠ ⊥) (b : Fin 2) (r : Fin 2048) (k : Fin 4) (e : Fin 256) :
    val_main_v144 (F := Ideal) x1 x3 x4 (ix3 b r (colAt k.val k.isLt e))
      = dz (2 ^ (k.val + 1)) (Gb x1 b k) (Wb x3 k) (Sb x4 k) r e := by
  rw [val_main_v144_apply, val_main_v132_apply, val_main_v120_apply, group_at0 x1 x3 x4 hg, group_at1 x1 x3 x4 hg, group_at2 x1 x3 x4 hg,
    group_at3 x1 x3 x4 hg]
  show (((if k = 3 then _ else 0) + (if k = 2 then _ else 0)) + (if k = 1 then _ else 0)) + (if k = 0 then _ else (0 : EReal)) = _
  match k with
  | 0 => rw [if_neg (by decide), if_neg (by decide), if_neg (by decide), if_pos rfl, zero_add, zero_add, zero_add]; rfl
  | 1 => rw [if_neg (by decide), if_neg (by decide), if_pos rfl, if_neg (by decide), zero_add, zero_add, add_zero]; rfl
  | 2 => rw [if_neg (by decide), if_pos rfl, if_neg (by decide), if_neg (by decide), zero_add, add_zero, add_zero]; rfl
  | 3 => rw [if_pos rfl, if_neg (by decide), if_neg (by decide), if_neg (by decide), add_zero, add_zero, add_zero]; rfl

/-- The plane of the running gradient that the reference replaces. -/
theorem v152_plane (x0 : S6x4096x1024.Idx → EReal) (hg : ∀ b k r c, gAt x1 x3 x4 b k r c ≠ ⊤ ∧ gAt x1 x3 x4 b k r c ≠ ⊥)
    (b : Fin 2) (r : Fin 2048) (k : Fin 4) (e : Fin 256) :
    val_main_v152 (F := Ideal) x0 x1 x3 x4 (ix3 3 (rowAt b.val b.isLt r) (colAt k.val k.isLt e))
      = dz (2 ^ (k.val + 1)) (Gb x1 b k) (Wb x3 k) (Sb x4 k) r e := by
  have hr := r.isLt
  have he := e.isLt
  have hb := b.isLt
  have hk := k.isLt
  have hv : (colAt k.val k.isLt e).val = 256 * k.val + e.val := rfl
  have hw : (rowAt b.val b.isLt r).val = 2048 * b.val + r.val := rfl
  rw [val_main_v152_apply, val_main_call8_v0_apply, val_main_v150_apply, val_main_v148_apply]
  refine (show Scalar.select 1#1 _ _ = _ from rfl : _ = val_main_call8_v1 (F := Ideal) x1 x3 x4 _).trans ?_
  rw [val_main_call8_v1_apply, val_main_v151_apply, val_main_v146_apply, val_main_v145_apply, ← v144_at x1 x3 x4 hg b r k e]
  refine congrArg (val_main_v144 (F := Ideal) x1 x3 x4) (ext3 _ _ _ _ ?_ ?_ ?_)
  · show ((rowAt b.val b.isLt r).val * 1024 + (colAt k.val k.isLt e).val) / 2097152 = b.val; omega
  · show ((rowAt b.val b.isLt r).val * 1024 + (colAt k.val k.isLt e).val) / 1024 % 2048 = r.val; omega
  · show ((rowAt b.val b.isLt r).val * 1024 + (colAt k.val k.isLt e).val) % 1024 = (colAt k.val k.isLt e).val; omega

/-- The other planes stay as they were. -/
theorem v152_rest (x0 : S6x4096x1024.Idx → EReal) (i : S6x4096x1024.Idx) (hi : (i 0).val ≠ 3) :
    val_main_v152 (F := Ideal) x0 x1 x3 x4 i = x0 i := by
  have h6 : (i 0).val < 6 := (i 0).isLt
  rw [val_main_v152_apply, val_main_call8_v0_apply, val_main_v150_apply, val_main_v148_apply]
  have : IntOp.cmpi .eq (BitVec.ofNat 32 (i 0).val) 3#32 = 0#1 := by
    have : ∀ n : Fin 6, n.val ≠ 3 → IntOp.cmpi .eq (BitVec.ofNat 32 n.val) 3#32 = 0#1 := by decide
    exact this ⟨_, h6⟩ hi
  exact (congrArg (fun s => Scalar.select s _ _) this).trans rfl

end Cert.Pool
-- ==== Proof.PreFinite.lean ====
/- The precondition, read element by element: the entries that enter the pooling are real numbers; and what follows for the blocks. -/
module

public import proofs.«01_k».proof.Proof.RefDz
public import proofs.«01_k».proof.Proof.Gen.Pre_finite

@[expose] public section

noncomputable section

namespace Cert.Pool

open Idealize.ShloMosaic hiding ix0 ix1 ix2 ix3 ix4 ix5
open Idealize.ShloMosaic.ValueIdx Cert.Pre_finite Cert.Pre_finite.Gen

/-- Neither infinity. -/
def Real' (x : EReal) : Prop := x ≠ ⊤ ∧ x ≠ ⊥

theorem Real'.coe {x : EReal} (h : Real' x) : ∃ y : ℝ, x = (y : EReal) := ⟨x.toReal, (EReal.coe_toReal h.1 h.2).symm⟩
theorem real_coe (y : ℝ) : Real' (y : EReal) := ⟨EReal.coe_ne_top y, EReal.coe_ne_bot y⟩

theorem Real'.mul {x y : EReal} (hx : Real' x) (hy : Real' y) : Real' (x * y) := by
  obtain ⟨a, rfl⟩ := hx.coe
  obtain ⟨b, rfl⟩ := hy.coe
  rw [← EReal.coe_mul]
  exact real_coe _

theorem Real'.sum {ι : Type*} (s : Finset ι) (f : ι → EReal) (h : ∀ i, Real' (f i)) : Real' (∑ i ∈ s, f i) := by
  choose g hg using fun i => (h i).coe
  rw [Finset.sum_congr rfl (fun i _ => hg i), coe_sum]
  exact real_coe _

/-- A magnitude below infinity is a real number's. -/
theorem real_of_abs (x : EReal) (h : Ideal.cmp .olt (max x (-x)) (Ideal.ofBits .f32 0x7F800000#32) = 1#1) : Real' x := by
  have ht : Ideal.ofBits .f32 0x7F800000#32 = ⊤ := by simp [Ideal.ofBits, Ideal.ieee]
  rw [ht] at h
  have hlt : max x (-x) < ⊤ := by
    by_contra hn
    rw [show Ideal.cmp .olt (max x (-x)) ⊤ = 0#1 from congrArg BitVec.ofBool (decide_eq_false hn)] at h
    exact absurd h (by decide)
  constructor
  · rintro rfl
    simp at hlt
  · rintro rfl
    simp at hlt

variable {x0 : S6x4096x1024.Idx → EReal} {x1 : S2x4096x1024.Idx → EReal} {x2 : S4096x6144.Idx → EReal} {x3 : S4x256x256.Idx → EReal}
  {x4 : S1x1024.Idx → EReal}

theorem pre_grad (h : (Cert.Pre_finite.fn (F := Ideal) x0 x1 x2 x3 x4).1 = fun _ => 1#1) (r : Fin 4096) (e : Fin 1024) :
    Real' (x1 (ix3 0 r e)) := by
  have hi := congrFun h (ix2 r e)
  have hr := r.isLt
  have he := e.isLt
  refine real_of_abs _ ((congrArg (fun x : EReal => Ideal.cmp .olt (max x (-x)) (Ideal.ofBits .f32 0x7F800000#32)) ?_).trans hi)
  symm
  show shapeCast S4096x1024 (extractStridedSlice S1x4096x1024 ![0, 0, 0] x1 Facts.slices_S2x4096x1024_S1x4096x1024_0_0_0) Facts.shapeCasts_S1x4096x1024_S4096x1024 (ix2 r e) = _
  refine (shapeCast_1ab_ab_apply _ _ r e).trans ?_
  exact congrArg x1 (ext3 _ _ _ _ rfl (Nat.zero_add _) (Nat.zero_add _))

theorem pre_rows (h : (Cert.Pre_finite.fn (F := Ideal) x0 x1 x2 x3 x4).2.1 = fun _ => 1#1) (r : Fin 4096) (e : Fin 1024) :
    Real' (x2 (ix2 r (e.castLE (by decide)))) := by
  have hi := congrFun h (ix2 r e)
  refine real_of_abs _ ((congrArg (fun x : EReal => Ideal.cmp .olt (max x (-x)) (Ideal.ofBits .f32 0x7F800000#32)) ?_).trans hi)
  exact congrArg x2 (ext2 _ _ _ (Nat.zero_add _) (Nat.zero_add _)).symm

theorem pre_weights (h : (Cert.Pre_finite.fn (F := Ideal) x0 x1 x2 x3 x4).2.2.1 = fun _ => 1#1) (i : S4x256x256.Idx) : Real' (x3 i) :=
  real_of_abs _ (congrFun h i)

theorem pre_scales (h : (Cert.Pre_finite.fn (F := Ideal) x0 x1 x2 x3 x4).2.2.2 = fun _ => 1#1) (i : S1x1024.Idx) : Real' (x4 i) :=
  real_of_abs _ (congrFun h i)

/-- The pooled columns are real. -/
theorem rows_finite (h : ∀ (r : Fin 4096) (e : Fin 1024), Real' (x2 (ix2 r (e.castLE (by decide))))) (b : Fin 2) (k : Fin 4) (c : Fin 256) :
    Finite (col (Zb x2 b k) c) := by
  intro n
  unfold col
  split
  · exact h _ _
  · exact real_coe 0

/-- The gradient with respect to the pooled rows is real. -/
theorem grad_finite (h1 : ∀ (r : Fin 4096) (e : Fin 1024), Real' (x1 (ix3 0 r e))) (h3 : ∀ i, Real' (x3 i)) (h4 : ∀ i, Real' (x4 i))
    (b : Fin 2) (k : Fin 4) (r : Fin 2048) (c : Fin 256) : gAt x1 x3 x4 b k r c ≠ ⊤ ∧ gAt x1 x3 x4 b k r c ≠ ⊥ :=
  Real'.sum Finset.univ (fun e => dlin (Gb x1 b k) (Sb x4 k) r e * Wb x3 k (ix3 0 c e)) fun _ => ((h1 _ _).mul (h4 _)).mul (h3 _)

end Cert.Pool
-- ==== Proof.Equation.lean ====
/- The kernel's three result arrays are the reference's. -/
module

public import proofs.«01_k».proof.Proof.Arrays
public import proofs.«01_k».proof.Proof.PreFinite

@[expose] public section

noncomputable section

namespace Cert.Pool

open Idealize.ShloMosaic hiding ix0 ix1 ix2 ix3 ix4 ix5
open Idealize.ShloMosaic.ValueIdx Cert.KernelIdeal Cert.KernelIdeal.Gen

variable (m : (ℓ : Loc nD τ sig) → Buf (Elt Ideal) ℓ) (c : Dev nD)

/-! ## The blocks a grid point stages are the reference's blocks -/

theorem row_congr {a b : ℕ} (h : a = b) (ha : a < 2) (hb : b < 2) (r : Fin 2048) : rowAt a ha r = rowAt b hb r := by subst h; rfl
theorem col_congr {a b : ℕ} (h : a = b) (ha : a < 4) (hb : b < 4) (e : Fin 256) : colAt a ha e = colAt b hb e := by subst h; rfl

theorem x0_eq (j : Fin 4) (b : Fin 2) : X0 m c (pt j b) = Gb (A1 m c) b j := by
  funext i
  obtain ⟨u, r, e, rfl⟩ : ∃ (u : Fin 1) (r : Fin 2048) (e : Fin 256), i = ix3 u r e := ⟨_, _, _, ValueIdx.eq_ix3 i⟩
  refine (read0 m c (pt j b) _ _ _).trans ?_
  rw [row_congr (pt_mod j b) _ b.isLt, col_congr (pt_div j b) _ j.isLt]
  rfl

theorem x1_eq (j : Fin 4) (b : Fin 2) : X1 m c (pt j b) = Zb (A2 m c) b j := by
  funext i
  obtain ⟨r, e, rfl⟩ : ∃ (r : Fin 2048) (e : Fin 256), i = ix2 r e := ⟨_, _, ValueIdx.eq_ix2 i⟩
  refine (read1 m c (pt j b) _ _).trans ?_
  rw [row_congr (pt_mod j b) _ b.isLt, col_congr (pt_div j b) _ j.isLt]
  rfl

theorem x2_eq (j : Fin 4) (b : Fin 2) : X2 m c (pt j b) = Wb (A3 m c) j := by
  funext i
  obtain ⟨u, d, e, rfl⟩ : ∃ (u : Fin 1) (d e : Fin 256), i = ix3 u d e := ⟨_, _, _, ValueIdx.eq_ix3 i⟩
  refine (read2 m c (pt j b) _ _ _).trans ?_
  exact congrArg (fun k => A3 m c (ix3 k d e)) (Fin.ext (pt_div j b))

theorem x3_eq (j : Fin 4) (b : Fin 2) : X3 m c (pt j b) = Sb (A4 m c) j := by
  funext i
  obtain ⟨u, e, rfl⟩ : ∃ (u : Fin 1) (e : Fin 256), i = ix2 u e := ⟨_, _, ValueIdx.eq_ix2 i⟩
  refine (read3 m c (pt j b) _ _).trans ?_
  rw [col_congr (pt_div j b) _ j.isLt]
  rfl

/-- Every row lies in a sequence, every column in a group. -/
theorem row_split (r : Fin 4096) : ∃ (b : Fin 2) (s : Fin 2048), r = rowAt b.val b.isLt s :=
  ⟨⟨r.val / 2048, by omega⟩, ⟨r.val % 2048, by omega⟩, Fin.ext (by show r.val = 2048 * (r.val / 2048) + r.val % 2048; omega)⟩
theorem col_split (d : Fin 1024) : ∃ (k : Fin 4) (e : Fin 256), d = colAt k.val k.isLt e :=
  ⟨⟨d.val / 256, by omega⟩, ⟨d.val % 256, by omega⟩, Fin.ext (by show d.val = 256 * (d.val / 256) + d.val % 256; omega)⟩

/-! ## The three results -/

theorem weights_eq (h2 : ∀ (r : Fin 4096) (e : Fin 1024), Real' (A2 m c (ix2 r (e.castLE (by decide))))) :
    (dats m 0 c).arrAt 5 cfg0.N = Cert.ReferenceIdeal.Read.val_main_v89 (F := Ideal) (A1 m c) (A2 m c) (A4 m c) := by
  funext i
  obtain ⟨j, d, e, rfl⟩ : ∃ (j : Fin 4) (d e : Fin 256), i = ix3 j d e := ⟨_, _, _, ValueIdx.eq_ix3 i⟩
  refine (arr5 m c j d e).trans ?_
  rw [x0_eq, x0_eq, x1_eq, x1_eq, x3_eq, x3_eq, width_of (pt_div j 0), width_of (pt_div j 1), zero_add]
  exact ((v89_at (A1 m c) (A2 m c) (A4 m c) (rows_finite h2) j d e).trans (Fin.sum_univ_two _)).symm

theorem scales_eq (h2 : ∀ (r : Fin 4096) (e : Fin 1024), Real' (A2 m c (ix2 r (e.castLE (by decide))))) :
    (dats m 0 c).arrAt 6 cfg0.N = Cert.ReferenceIdeal.Read.val_main_v153 (F := Ideal) (A1 m c) (A2 m c) (A3 m c) := by
  funext i
  obtain ⟨z, d, rfl⟩ : ∃ (z : Fin 1) (d : Fin 1024), i = ix2 z d := ⟨_, _, ValueIdx.eq_ix2 i⟩
  obtain rfl : z = 0 := Subsingleton.elim _ _
  obtain ⟨j, e, rfl⟩ := col_split d
  refine (arr6 m c j e).trans ?_
  rw [x0_eq, x0_eq, x1_eq, x1_eq, x2_eq, x2_eq, width_of (pt_div j 0), width_of (pt_div j 1), zero_add]
  exact ((v153_at (A1 m c) (A2 m c) (A3 m c) (rows_finite h2) j e).trans (Fin.sum_univ_two _)).symm

theorem rows_eq (h1 : ∀ (r : Fin 4096) (e : Fin 1024), Real' (A1 m c (ix3 0 r e))) (h3 : ∀ i, Real' (A3 m c i)) (h4 : ∀ i, Real' (A4 m c i)) :
    (dats m 0 c).arrAt 4 cfg0.N = Cert.ReferenceIdeal.Read.val_main_v152 (F := Ideal) (A0 m c) (A1 m c) (A3 m c) (A4 m c) := by
  funext i
  by_cases hi : (i 0).val = 3
  · obtain ⟨p, r, d, rfl⟩ : ∃ (p : Fin 6) (r : Fin 4096) (d : Fin 1024), i = ix3 p r d := ⟨_, _, _, ValueIdx.eq_ix3 i⟩
    obtain rfl : p = 3 := Fin.ext hi
    obtain ⟨b, s, rfl⟩ := row_split r
    obtain ⟨j, e, rfl⟩ := col_split d
    refine (arr4_plane m c j b s e).trans ?_
    rw [x0_eq, x2_eq, x3_eq, width_of (pt_div j b)]
    exact (v152_plane (A1 m c) (A3 m c) (A4 m c) (A0 m c) (grad_finite h1 h3 h4) b s j e).symm
  · exact (arr4_rest m c i hi).trans (v152_rest (A1 m c) (A3 m c) (A4 m c) (A0 m c) i hi).symm

end Cert.Pool
-- ==== Proof.DownKernel.lean ====
/- The gradient of the down projection's weights, as the kernel computes it: two blocks of 1408 hidden columns, each summed over two
   blocks of 2048 tokens in a scratch that the second one writes out. -/
module

public import proofs.«01_k».proof.Proof.Gen.Kernel3Ideal.Value
public import Idealize.ShloMosaic.Lib.MatmulPlain
public import Idealize.ShloMosaic.Lib.KernelVsHost
public import Idealize.ShloMosaic.Lib.ValueIdx
public import Idealize.ShloMosaic.Lib.ValueLayout
public import Idealize.ShloMosaic.Lib.WordCmp
public import Idealize.ShloMosaic.Lib.Pointwise.Reduce

@[expose] public section

noncomputable section

namespace Cert.Down

open Idealize.ShloMosaic hiding ix0 ix1 ix2 ix3 ix4 ix5
open Idealize.ShloMosaic.ValueIdx Cert.Kernel3Ideal Cert.Kernel3Ideal.Gen

theorem origin2 : (![0, 0] : Fin 2 → Nat) = fun _ => 0 := funext fun a => by fin_cases a <;> rfl

section Case

variable (c : Dev nD) (i : grid0.Coords)
    (a3 : Memref sig .tc .vmem S2048x1408 .bf16) (h3 : a3.IsWhole) (a4 : Memref sig .tc .vmem S2048x1024 .bf16) (h4 : a4.IsWhole)
    (a5 : Memref sig .tc .vmem S1408x1024 .bf16) (h5 : a5.IsWhole) (a6 : Memref sig .tc .vmem S1408x1024 .f32) (h6 : a6.IsWhole)
    (x0 : Vec Ideal S2048x1408 .bf16) (x1 : Vec Ideal S2048x1024 .bf16) (xs : Vec Ideal S1408x1024 .f32)

/-- The first block of tokens leaves its product in the scratch. -/
theorem first_block (hc0 : cond0_0 i) (hc1 : ¬cond0_1 i) (hc2 : ¬cond0_2 i) :
    sout0_A_0 (F := Ideal) c i a3 h3 a4 h4 a5 h5 a6 h6 hc0 hc1 hc2 x0 x1 = k0_pay2 (F := Ideal) x0 x1 := by
  unfold sout0_A_0
  rw [View.read_writes_eq_canon _ _ _ (scover0_A_0 c i a3 h3 a4 h4 a5 h5 a6 h6 hc0 hc1 hc2 x0 x1)]
  unfold kernelRun0_A; dsimp only; sl_unfold_words
  rw [View.canon_unit_zero origin2]
  simp only [View.readAt_eq_ld, h3.read_unread, h4.read_unread,
    View.ld_unit_zero (S := S2048x1408) origin2, View.ld_unit_zero (S := S2048x1024) origin2]

/-- The second block of tokens writes out the sum of the two products. -/
theorem second_block (hc0 : ¬cond0_0 i) (hc1 : cond0_1 i) (hc2 : cond0_2 i) :
    out0_B_2 (F := Ideal) c i a3 h3 a4 h4 a5 h5 a6 h6 hc0 hc1 hc2 x0 x1 xs = k0_pay4 (F := Ideal) (k0_pay3 (F := Ideal) x0 x1 xs) := by
  unfold out0_B_2
  rw [View.read_writes_eq_canon _ _ _ (cover0_B_2 c i a3 h3 a4 h4 a5 h5 a6 h6 hc0 hc1 hc2 x0 x1 xs)]
  unfold kernelRun0_B; dsimp only; sl_unfold_words
  rw [View.canon_unit_zero origin2, View.readCov_unit_zero (S := S1408x1024) _ origin2]
  simp only [View.readAt_eq_ld, h3.read_unread, h4.read_unread, h6.read_unread,
    View.ld_unit_zero (S := S2048x1408) origin2, View.ld_unit_zero (S := S2048x1024) origin2, View.ld_unit_zero (S := S1408x1024) origin2]

end Case

/-- The product of a point's two blocks, contracted over their tokens. -/
theorem product_at (a : FVec Ideal S2048x1408 .bf16) (b : FVec Ideal S2048x1024 .bf16) (f : Fin 1408) (d : Fin 1024) :
    k0_pay1 (F := Ideal) a b (ix2 f d) = ∑ s : Fin 2048, a (ix2 s f) * b (ix2 s d) := by
  unfold k0_pay1
  show FloatOps.matmul dot_S2048x1408_S2048x1024_S1408x1024_0_0_1_1_n_n none a b (constant S1408x1024 .f32 0x00000000#32) (ix2 f d) = _
  rw [Ideal.matmul_apply, constant_apply, Ideal.ofBits_zero_f32, zero_add,
    ← Equiv.sum_comp (contrEquiv1 dot_S2048x1408_S2048x1024_S1408x1024_0_0_1_1_n_n 2048 rfl rfl).symm]
  refine Finset.sum_congr rfl fun k _ => ?_
  have hk := contrEquiv1_symm_val dot_S2048x1408_S2048x1024_S1408x1024_0_0_1_1_n_n 2048 rfl rfl k
  congr 1
  · refine congrArg a (funext fun ax => Fin.ext ?_)
    match ax with
    | ⟨0, _⟩ => exact hk
    | ⟨1, _⟩ => rfl
  · refine congrArg b (funext fun ax => Fin.ext ?_)
    match ax with
    | ⟨0, _⟩ => exact hk
    | ⟨1, _⟩ => rfl

variable (m : (ℓ : Loc nD τ sig) → Buf (Elt Ideal) ℓ) (c : Dev nD)

/-- The arguments' contents: the hidden activations and the gradient behind the projection. -/
abbrev A0 : (⟨2, ![4096, 2816]⟩ : Shape).Idx → EReal := m ((c.tc : Thread nD τ).loc main_arg0)
abbrev A1 : (⟨2, ![4096, 1024]⟩ : Shape).Idx → EReal := m ((c.tc : Thread nD τ).loc main_arg1)

theorem lt4 (t : Fin cfg0.N) : t.val < 4 := t.isLt

/-- Token `s` of sequence `b`, and hidden column `f` of block `p`. -/
def tokenAt (b : Fin 2) (s : Fin 2048) : Fin 4096 := ⟨2048 * b.val + s.val, by omega⟩
def hiddenAt (p : Fin 2) (f : Fin 1408) : Fin 2816 := ⟨1408 * p.val + f.val, by omega⟩

/-- Grid point of hidden block `p` and token block `b`. -/
def pt (p b : Fin 2) : Fin cfg0.N := ⟨2 * p.val + b.val, by show 2 * p.val + b.val < 4; omega⟩

theorem index_facts : ∀ p b : Fin 2,
    (win0_0.index (pt p b) 0 = b.val ∧ win0_0.index (pt p b) 1 = p.val)
    ∧ (win0_1.index (pt p b) 0 = b.val ∧ win0_1.index (pt p b) 1 = 0)
    ∧ (win0_2.index (pt p b) 0 = p.val ∧ win0_2.index (pt p b) 1 = 0) := by decide +kernel

theorem read0 (p b : Fin 2) (s : Fin 2048) (f : Fin 1408) :
    (iblk m c 0 (pt p b) : Vec Ideal S2048x1408 .bf16) (ix2 s f) = A0 m c (ix2 (tokenAt b s) (hiddenAt p f)) := by
  obtain ⟨⟨i0, i1⟩, -⟩ := index_facts p b
  unfold iblk
  rw [View.read_apply]
  show V m c main_arg0 _ = _
  rw [V_main_arg0]
  refine congrArg (m _) (funext fun a => Fin.ext ?_)
  match a with
  | ⟨0, _⟩ => show win0_0.index (pt p b) 0 * 2048 + 1 * s.val = 2048 * b.val + s.val; rw [i0]; omega
  | ⟨1, _⟩ => show win0_0.index (pt p b) 1 * 1408 + 1 * f.val = 1408 * p.val + f.val; rw [i1]; omega

theorem read1 (p b : Fin 2) (s : Fin 2048) (d : Fin 1024) :
    (iblk m c 1 (pt p b) : Vec Ideal S2048x1024 .bf16) (ix2 s d) = A1 m c (ix2 (tokenAt b s) d) := by
  obtain ⟨-, ⟨i0, i1⟩, -⟩ := index_facts p b
  unfold iblk
  rw [View.read_apply]
  show V m c main_arg1 _ = _
  rw [V_main_arg1]
  refine congrArg (m _) (funext fun a => Fin.ext ?_)
  match a with
  | ⟨0, _⟩ => show win0_1.index (pt p b) 0 * 2048 + 1 * s.val = 2048 * b.val + s.val; rw [i0]; omega
  | ⟨1, _⟩ => show win0_1.index (pt p b) 1 * 1024 + 1 * d.val = d.val; rw [i1]; omega

/-- The product over the tokens of sequence `b`, at one element of the gradient. -/
def part (x : (⟨2, ![4096, 2816]⟩ : Shape).Idx → EReal) (y : (⟨2, ![4096, 1024]⟩ : Shape).Idx → EReal) (b : Fin 2) (f : Fin 2816) (d : Fin 1024) :
    EReal := ∑ s : Fin 2048, x (ix2 (tokenAt b s) f) * y (ix2 (tokenAt b s) d)

theorem product_part (p b : Fin 2) (f : Fin 1408) (d : Fin 1024) :
    k0_pay1 (F := Ideal) (iblk m c 0 (pt p b)) (iblk m c 1 (pt p b)) (ix2 f d) = part (A0 m c) (A1 m c) b (hiddenAt p f) d := by
  rw [product_at]
  exact Finset.sum_congr rfl fun s _ => congrArg₂ (· * ·) (read0 m c p b s f) (read1 m c p b s d)

/-- The scratch after the first block of tokens. -/
theorem scratch_at (p : Fin 2) (f : Fin 1408) (d : Fin 1024) :
    (outsAt0 m c (pt p 0).val (pt p 0).isLt).2 (ix2 f d) = part (A0 m c) (A1 m c) 0 (hiddenAt p f) d := by
  have e : (pt p 0).val = 2 * p.val := rfl
  rw [outsAt0_A m c (pt p 0) (by omega) (by omega) (by omega)]
  dsimp only
  rw [first_block]
  unfold k0_pay2
  rw [shapeCast_self]
  exact product_part m c p 0 f d

/-- The block written out after the second block of tokens. -/
theorem block_at (p : Fin 2) (f : Fin 1408) (d : Fin 1024) :
    (outsAt0 m c (pt p 1).val (pt p 1).isLt).1 (ix2 f d)
      = part (A0 m c) (A1 m c) 0 (hiddenAt p f) d + part (A0 m c) (A1 m c) 1 (hiddenAt p f) d := by
  have e : (pt p 1).val = 2 * p.val + 1 := rfl
  rw [outsAt0_B m c (pt p 1) (by omega) (by omega) (by omega)]
  dsimp only
  rw [second_block]
  unfold k0_pay4 k0_pay3
  dsimp only
  rw [shapeCast_self, truncf_apply, addf_apply, product_part]
  exact congrArg (· + _) (scratch_at m c p f d)

theorem flush2 : ∀ t : Fin cfg0.N, (cfg0.win 2).flush t = true ↔ t.val % 2 = 1 :=
  (by decide +kernel : ∀ t : Fin grid0.N, win0_2.flush t = true ↔ t.val % 2 = 1)

theorem index2 : ∀ t : Fin cfg0.N, win0_2.index t 0 = t.val / 2 :=
  (by decide +kernel : ∀ t : Fin grid0.N, win0_2.index t 0 = t.val / 2)

/-- Two points that write out write different blocks. -/
theorem disjoint2 : ∀ t t' : Fin cfg0.N, (cfg0.win 2).flush t = true → (cfg0.win 2).flush t' = true → t ≠ t' →
    Disjoint ((cfg0.win 2).blk t).view.set ((cfg0.win 2).blk t').view.set := fun t t' h h' hne =>
  (cfg0.win 2).disjoint_blk fun e => hne (Fin.ext (by
    have a := (flush2 t).mp h
    have b := (flush2 t').mp h'
    have e' : win0_2.index t 0 = win0_2.index t' 0 := congrFun e 0
    rw [index2, index2] at e'
    omega))

/-- The kernel's result. -/
theorem array_at (p : Fin 2) (f : Fin 1408) (d : Fin 1024) :
    (dats m 0 c).arrAt 2 cfg0.N (ix2 (hiddenAt p f) d)
      = part (A0 m c) (A1 m c) 0 (hiddenAt p f) d + part (A0 m c) (A1 m c) 1 (hiddenAt p f) d := by
  have h := (dats m 0 c).arrAt_emb_eq_flushed 2 disjoint2 (pt p 1) ((flush2 _).mpr (by show (2 * p.val + 1) % 2 = 1; omega)) (ix2 f d)
  obtain ⟨i0, i1⟩ := (index_facts p 1).2.2
  have hi : (((cfg0.win 2).blk (pt p 1)).view.emb (ix2 f d) : S2816x1024.Idx) = ix2 (hiddenAt p f) d := funext fun a => Fin.ext (by
    match a with
    | ⟨0, _⟩ => show win0_2.index (pt p 1) 0 * 1408 + 1 * f.val = 1408 * p.val + f.val; rw [i0]; omega
    | ⟨1, _⟩ => show win0_2.index (pt p 1) 1 * 1024 + 1 * d.val = d.val; rw [i1]; omega)
  rw [← hi]
  refine h.trans ?_
  rw [cast_eq, Value.flushed2]
  exact block_at m c p f d

end Cert.Down

end
-- ==== Proof.DownEquation.lean ====
/- The gradient of the down projection's weights: the derivative of the projection, summed over sequences and tokens, is what the kernel leaves. -/
module

public import proofs.«01_k».proof.Proof.DownKernel
public import proofs.«01_k».proof.Proof.RefBlocks
public import proofs.«01_k».proof.Proof.Gen.Reference3Ideal.Read

@[expose] public section

noncomputable section

namespace Cert.Down

open Idealize.ShloMosaic hiding ix0 ix1 ix2 ix3 ix4 ix5
open Idealize.ShloMosaic.ValueIdx Cert.Reference3Ideal Cert.Reference3Ideal.Gen Cert.Reference3Ideal.Read
open Cert.Pool (ext1 ext2 ext3)

/-- The positions the gradient is summed over: a sequence and a token of it. -/
def bothAxes : Fin 2 × Fin 2048 ≃ dot_S2x2048x1024_S2x2048x2816_S1024x2816_01_01_2_2_n_n.contr.Idx where
  toFun p := fun a => match a with
    | ⟨0, _⟩ => p.1
    | ⟨1, _⟩ => p.2
  invFun q := (q ⟨0, by decide⟩, q ⟨1, by decide⟩)
  left_inv p := rfl
  right_inv q := by
    funext a
    match a with
    | ⟨0, _⟩ => rfl
    | ⟨1, _⟩ => rfl

variable (x0 : (⟨2, ![4096, 2816]⟩ : Shape).Idx → EReal) (x1 : (⟨2, ![4096, 1024]⟩ : Shape).Idx → EReal)

theorem v1_at (b : Fin 2) (s : Fin 2048) (d : Fin 1024) : val_main_v1 (F := Ideal) x1 (ix3 b s d) = x1 (ix2 (tokenAt b s) d) := by
  rw [val_main_v1_apply, val_main_v0_apply]
  refine congrArg x1 (ext2 _ _ _ ?_ ?_)
  · show ((b.val * 2048 + s.val) * 1024 + d.val) / 1024 = 2048 * b.val + s.val
    omega
  · show ((b.val * 2048 + s.val) * 1024 + d.val) % 1024 = d.val
    omega

theorem v4_at (b : Fin 2) (s : Fin 2048) (f : Fin 2816) : val_main_v4 (F := Ideal) x0 (ix3 b s f) = x0 (ix2 (tokenAt b s) f) := by
  rw [val_main_v4_apply, val_main_v3_apply]
  refine congrArg x0 (ext2 _ _ _ ?_ ?_)
  · show ((b.val * 2048 + s.val) * 2816 + f.val) / 2816 = 2048 * b.val + s.val
    omega
  · show ((b.val * 2048 + s.val) * 2816 + f.val) % 2816 = f.val
    omega

/-- The reference's gradient. -/
theorem v8_at (f : Fin 2816) (d : Fin 1024) :
    val_main_v8 (F := Ideal) x0 x1 (ix2 f d) = part x0 x1 0 f d + part x0 x1 1 f d := by
  rw [val_main_v8_apply, val_main_v7_apply, show idx_main_v7 (ix2 f d) = ix2 d f from ext2 _ _ _ rfl rfl, ← Fin.sum_univ_two (fun b => part x0 x1 b f d)]
  unfold val_main_v6
  simp only [Host.dotGeneral]
  rw [Ideal.dotGeneral_apply]
  rw [← Equiv.sum_comp bothAxes, Fintype.sum_prod_type]
  refine Finset.sum_congr rfl fun b _ => Finset.sum_congr rfl fun s _ => ?_
  refine (mul_comm _ _).trans (congrArg₂ (· * ·) ?_ ?_)
  · exact (congrArg (val_main_v4 (F := Ideal) x0) (ext3 _ b s f rfl rfl rfl)).trans (v4_at x0 b s f)
  · exact (congrArg (val_main_v1 (F := Ideal) x1) (ext3 _ b s d rfl rfl rfl)).trans (v1_at x1 b s d)

/-- The kernel's gradient is the reference's. -/
theorem gradient_eq (m : (ℓ : Loc Cert.Kernel3Ideal.nD Cert.Kernel3Ideal.τ Cert.Kernel3Ideal.sig) → Buf (Elt Ideal) ℓ) (c : Dev Cert.Kernel3Ideal.nD) :
    (Cert.Kernel3Ideal.Gen.dats m 0 c).arrAt 2 Cert.Kernel3Ideal.cfg0.N = val_main_v8 (F := Ideal) (A0 m c) (A1 m c) := by
  funext i
  obtain ⟨f, d, rfl⟩ : ∃ (f : Fin 2816) (d : Fin 1024), i = ix2 f d := ⟨_, _, ValueIdx.eq_ix2 i⟩
  refine Eq.trans ?_ (v8_at _ _ f d).symm
  obtain ⟨p, q, rfl⟩ : ∃ (p : Fin 2) (q : Fin 1408), f = hiddenAt p q :=
    ⟨⟨f.val / 1408, by omega⟩, ⟨f.val % 1408, Nat.mod_lt _ (by decide)⟩, Fin.ext (by show f.val = 1408 * (f.val / 1408) + f.val % 1408; omega)⟩
  exact array_at m c p q d

end Cert.Down

end
-- ==== Proof.DownClaims.lean ====
/- What is claimed of the down projection's weight gradient: the reference's run, and the two sides' results as the same extended
   reals. -/
module

public import proofs.«01_k».proof.Defs
public import proofs.«01_k».proof.Proof.DownEquation
public import proofs.«01_k».proof.Proof.Gen.Reference3Ideal.Run
public import Idealize.ShloMosaic.Adequacy
public import Idealize.ShloMosaic.Init

@[expose] public section

noncomputable section

namespace Cert.Down

open Idealize.ShloMosaic Idealize.SL.Sem

section Reference

open Cert.Reference3Ideal Cert.Reference3Ideal.Read

/-- What the reference leaves in its result array, named stage by stage. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = val_main_v8 (F := Ideal) (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v8_eq _ _), (h c).2⟩) (Value.run (F := Ideal) m ρ)

end Reference

/-- The reference runs, its arguments stay and its counters end at zero. -/
theorem frame_reference : Cert.quiescent_Reference3Ideal := fun m ρ _ =>
  (θ_run Cert.Reference3Ideal.defs _ _).mono (fun r h => ⟨fun c => (h c).2, sem_eq_zero_of_no_sems (by decide) r.2⟩) (reference_run m ρ)

/-- The kernel's gradient and the reference's are the same extended reals. -/
theorem algebraic : Cert.algebraic_Kernel3Ideal_Reference3Ideal := by
  pair_intro
  · run_from Cert.Kernel3Ideal.Value.run_blocks m g
  · run_from reference_run m' g'
    exact (gradient_eq m c).symm

end Cert.Down

end
-- ==== Proof.LossCases.lean ====
/- What one block of 256 tokens leaves in the kernel's result blocks and running sums, in the kernel's own operations: at the first
   block, at a later one, and at the last. -/
module

public import proofs.«01_k».proof.Proof.Gen.Kernel4Ideal.Value
public import Idealize.ShloMosaic.Lib.MatmulPlain
public import Idealize.ShloMosaic.Lib.KernelVsHost
public import Idealize.ShloMosaic.Lib.ValueIdx
public import Idealize.ShloMosaic.Lib.ValueLayout
public import Idealize.ShloMosaic.Lib.WordCmp
public import Idealize.ShloMosaic.Lib.Pointwise.Reduce

@[expose] public section

noncomputable section

namespace Cert.Loss

open Idealize.ShloMosaic hiding ix0 ix1 ix2 ix3 ix4 ix5
open Idealize.ShloMosaic.ValueIdx Cert.Kernel4Ideal Cert.Kernel4Ideal.Gen

theorem origin2 : (![0, 0] : Fin 2 → Nat) = fun _ => 0 := funext fun a => by fin_cases a <;> rfl

/-- A load of a whole block reads the block. -/
theorem whole_reads :
    (∀ inb (X : Vec Ideal S256x2816 .bf16), View.ld X (Rect.unit ![0, 0] ![256, 2816] inb) = X)
      ∧ (∀ inb (X : Vec Ideal S2816x1024 .bf16), View.ld X (Rect.unit ![0, 0] ![2816, 1024] inb) = X)
      ∧ (∀ inb (X : Vec Ideal S256x1024 .f32), View.ld X (Rect.unit ![0, 0] ![256, 1024] inb) = X)
      ∧ (∀ inb (X : Vec Ideal S1x1024 .f32), View.ld X (Rect.unit ![0, 0] ![1, 1024] inb) = X) :=
  ⟨View.ld_unit_zero (S := S256x2816) origin2, View.ld_unit_zero (S := S2816x1024) origin2, View.ld_unit_zero (S := S256x1024) origin2, View.ld_unit_zero (S := S1x1024) origin2⟩

variable (c : Dev nD) (i : grid0.Coords)
    (a1 : Memref sig .tc .vmem S256x2816 .bf16) (h1 : a1.IsWhole) (a2 : Memref sig .tc .vmem S2816x1024 .bf16) (h2 : a2.IsWhole)
    (a3 : Memref sig .tc .vmem S256x1024 .f32) (h3 : a3.IsWhole) (a4 : Memref sig .tc .vmem S256x1024 .f32) (h4 : a4.IsWhole)
    (a5 : Memref sig .tc .vmem S1x1024 .f32) (h5 : a5.IsWhole) (a6 : Memref sig .tc .vmem S256x1024 .f32) (h6 : a6.IsWhole)
    (a7 : Memref sig .tc .vmem S256x1024 .bf16) (h7 : a7.IsWhole) (a8 : Memref sig .tc .vmem S1x1 .f32) (h8 : a8.IsWhole)
    (a9 : Memref sig .tc .vmem S1x1024 .f32) (h9 : a9.IsWhole) (a10 : Memref sig .tc .vmem S1x1024 .f32) (h10 : a10.IsWhole)
    (x0 : Vec Ideal S256x2816 .bf16) (x1 : Vec Ideal S2816x1024 .bf16) (x2 x3 : Vec Ideal S256x1024 .f32) (x4 : Vec Ideal S1x1024 .f32)
    (x8 xs : Vec Ideal S1x1024 .f32)

theorem first_grad (hc0 : cond0_0 i) (hc1 : ¬cond0_1 i) :
    out0_A_5 (F := Ideal) c i a1 h1 a2 h2 a3 h3 a4 h4 a5 h5 a6 h6 a7 h7 a8 h8 a9 h9 a10 h10 hc0 hc1 x0 x1 x2 x3 x4
      = k0_pay2 (F := Ideal) (k0_pay8 (F := Ideal) x2 x0 x1) (k0_pay9 (F := Ideal) x2 x0 x1) x4 (k0_pay12 (F := Ideal) x2 x0 x1 x4 x3) := by
  unfold out0_A_5
  rw [View.read_writes_eq_canon _ _ _ (cover0_A_5 c i a1 h1 a2 h2 a3 h3 a4 h4 a5 h5 a6 h6 a7 h7 a8 h8 a9 h9 a10 h10 hc0 hc1 x0 x1 x2 x3 x4)]
  unfold kernelRun0_A; dsimp only; sl_unfold_words
  rw [View.canon_unit_zero origin2]
  simp only [View.readAt_eq_ld, h1.read_unread, h2.read_unread, h3.read_unread, h4.read_unread, h5.read_unread, h9.read_unread, h10.read_unread,
    whole_reads]

theorem first_cast (hc0 : cond0_0 i) (hc1 : ¬cond0_1 i) :
    out0_A_6 (F := Ideal) c i a1 h1 a2 h2 a3 h3 a4 h4 a5 h5 a6 h6 a7 h7 a8 h8 a9 h9 a10 h10 hc0 hc1 x0 x1 x2 x3 x4
      = k0_pay3 (F := Ideal) (k0_pay8 (F := Ideal) x2 x0 x1) (k0_pay9 (F := Ideal) x2 x0 x1) x4 (k0_pay12 (F := Ideal) x2 x0 x1 x4 x3) := by
  unfold out0_A_6
  rw [View.read_writes_eq_canon _ _ _ (cover0_A_6 c i a1 h1 a2 h2 a3 h3 a4 h4 a5 h5 a6 h6 a7 h7 a8 h8 a9 h9 a10 h10 hc0 hc1 x0 x1 x2 x3 x4)]
  unfold kernelRun0_A; dsimp only; sl_unfold_words
  rw [View.canon_unit_zero origin2]
  simp only [View.readAt_eq_ld, h1.read_unread, h2.read_unread, h3.read_unread, h4.read_unread, h5.read_unread, h9.read_unread, h10.read_unread,
    whole_reads]

theorem first_scale (hc0 : cond0_0 i) (hc1 : ¬cond0_1 i) :
    out0_A_8 (F := Ideal) c i a1 h1 a2 h2 a3 h3 a4 h4 a5 h5 a6 h6 a7 h7 a8 h8 a9 h9 a10 h10 hc0 hc1 x0 x1 x2 x3 x4
      = k0_pay1 (F := Ideal) (k0_pay9 (F := Ideal) x2 x0 x1) (k0_pay12 (F := Ideal) x2 x0 x1 x4 x3) (k0_pay6 (F := Ideal)) := by
  unfold out0_A_8
  rw [View.read_writes_eq_canon _ _ _ (cover0_A_8 c i a1 h1 a2 h2 a3 h3 a4 h4 a5 h5 a6 h6 a7 h7 a8 h8 a9 h9 a10 h10 hc0 hc1 x0 x1 x2 x3 x4)]
  unfold kernelRun0_A; dsimp only; sl_unfold_words
  rw [View.canon_cons_unit_zero (S := S1x1024) origin2]
  simp only [View.readCov_unit_zero (S := S1x1024) _ origin2, View.readAt_eq_ld, h1.read_unread, h2.read_unread, h3.read_unread, h4.read_unread, h5.read_unread, h9.read_unread, h10.read_unread,
    whole_reads]

theorem first_sum (hc0 : cond0_0 i) (hc1 : ¬cond0_1 i) :
    sout0_A_0 (F := Ideal) c i a1 h1 a2 h2 a3 h3 a4 h4 a5 h5 a6 h6 a7 h7 a8 h8 a9 h9 a10 h10 hc0 hc1 x0 x1 x2 x3 x4
      = k0_pay11 (F := Ideal) x2 x0 x1 x4 x3 (k0_pay5 (F := Ideal)) := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3 x4)]
  unfold kernelRun0_A; dsimp only; sl_unfold_words
  rw [View.canon_cons_unit_zero (S := S1x1024) origin2]
  simp only [View.readCov_unit_zero (S := S1x1024) _ origin2, View.readAt_eq_ld, h1.read_unread, h2.read_unread, h3.read_unread, h4.read_unread, h5.read_unread, h9.read_unread, h10.read_unread,
    whole_reads]

theorem later_grad (hc0 : ¬cond0_0 i) (hc1 : ¬cond0_1 i) :
    out0_B_5 (F := Ideal) c i a1 h1 a2 h2 a3 h3 a4 h4 a5 h5 a6 h6 a7 h7 a8 h8 a9 h9 a10 h10 hc0 hc1 x0 x1 x2 x3 x4 x8 xs
      = k0_pay2 (F := Ideal) (k0_pay8 (F := Ideal) x2 x0 x1) (k0_pay9 (F := Ideal) x2 x0 x1) x4 (k0_pay12 (F := Ideal) x2 x0 x1 x4 x3) := by
  unfold out0_B_5
  rw [View.read_writes_eq_canon _ _ _ (cover0_B_5 c i a1 h1 a2 h2 a3 h3 a4 h4 a5 h5 a6 h6 a7 h7 a8 h8 a9 h9 a10 h10 hc0 hc1 x0 x1 x2 x3 x4 x8 xs)]
  unfold kernelRun0_B; dsimp only; sl_unfold_words
  rw [View.canon_unit_zero origin2]
  simp only [View.readAt_eq_ld, h1.read_unread, h2.read_unread, h3.read_unread, h4.read_unread, h5.read_unread, h9.read_unread, h10.read_unread,
    whole_reads]

theorem later_cast (hc0 : ¬cond0_0 i) (hc1 : ¬cond0_1 i) :
    out0_B_6 (F := Ideal) c i a1 h1 a2 h2 a3 h3 a4 h4 a5 h5 a6 h6 a7 h7 a8 h8 a9 h9 a10 h10 hc0 hc1 x0 x1 x2 x3 x4 x8 xs
      = k0_pay3 (F := Ideal) (k0_pay8 (F := Ideal) x2 x0 x1) (k0_pay9 (F := Ideal) x2 x0 x1) x4 (k0_pay12 (F := Ideal) x2 x0 x1 x4 x3) := by
  unfold out0_B_6
  rw [View.read_writes_eq_canon _ _ _ (cover0_B_6 c i a1 h1 a2 h2 a3 h3 a4 h4 a5 h5 a6 h6 a7 h7 a8 h8 a9 h9 a10 h10 hc0 hc1 x0 x1 x2 x3 x4 x8 xs)]
  unfold kernelRun0_B; dsimp only; sl_unfold_words
  rw [View.canon_unit_zero origin2]
  simp only [View.readAt_eq_ld, h1.read_unread, h2.read_unread, h3.read_unread, h4.read_unread, h5.read_unread, h9.read_unread, h10.read_unread,
    whole_reads]

theorem later_scale (hc0 : ¬cond0_0 i) (hc1 : ¬cond0_1 i) :
    out0_B_8 (F := Ideal) c i a1 h1 a2 h2 a3 h3 a4 h4 a5 h5 a6 h6 a7 h7 a8 h8 a9 h9 a10 h10 hc0 hc1 x0 x1 x2 x3 x4 x8 xs
      = k0_pay1 (F := Ideal) (k0_pay9 (F := Ideal) x2 x0 x1) (k0_pay12 (F := Ideal) x2 x0 x1 x4 x3) x8 := by
  unfold out0_B_8
  rw [View.read_writes_eq_canon _ _ _ (cover0_B_8 c i a1 h1 a2 h2 a3 h3 a4 h4 a5 h5 a6 h6 a7 h7 a8 h8 a9 h9 a10 h10 hc0 hc1 x0 x1 x2 x3 x4 x8 xs)]
  unfold kernelRun0_B; dsimp only; sl_unfold_words
  rw [View.canon_unit_zero origin2]
  simp only [View.readAt_eq_ld, h1.read_unread, h2.read_unread, h3.read_unread, h4.read_unread, h5.read_unread, h9.read_unread, h10.read_unread,
    whole_reads]

theorem later_sum (hc0 : ¬cond0_0 i) (hc1 : ¬cond0_1 i) :
    sout0_B_0 (F := Ideal) c i a1 h1 a2 h2 a3 h3 a4 h4 a5 h5 a6 h6 a7 h7 a8 h8 a9 h9 a10 h10 hc0 hc1 x0 x1 x2 x3 x4 x8 xs
      = k0_pay11 (F := Ideal) x2 x0 x1 x4 x3 xs := by
  unfold sout0_B_0
  rw [View.read_writes_eq_canon _ _ _ (scover0_B_0 c i a1 h1 a2 h2 a3 h3 a4 h4 a5 h5 a6 h6 a7 h7 a8 h8 a9 h9 a10 h10 hc0 hc1 x0 x1 x2 x3 x4 x8 xs)]
  unfold kernelRun0_B; dsimp only; sl_unfold_words
  rw [View.canon_unit_zero origin2]
  simp only [View.readAt_eq_ld, h1.read_unread, h2.read_unread, h3.read_unread, h4.read_unread, h5.read_unread, h9.read_unread, h10.read_unread,
    whole_reads]

theorem last_grad (hc0 : ¬cond0_0 i) (hc1 : cond0_1 i) :
    out0_C_5 (F := Ideal) c i a1 h1 a2 h2 a3 h3 a4 h4 a5 h5 a6 h6 a7 h7 a8 h8 a9 h9 a10 h10 hc0 hc1 x0 x1 x2 x3 x4 x8 xs
      = k0_pay2 (F := Ideal) (k0_pay8 (F := Ideal) x2 x0 x1) (k0_pay9 (F := Ideal) x2 x0 x1) x4 (k0_pay12 (F := Ideal) x2 x0 x1 x4 x3) := by
  unfold out0_C_5
  rw [View.read_writes_eq_canon _ _ _ (cover0_C_5 c i a1 h1 a2 h2 a3 h3 a4 h4 a5 h5 a6 h6 a7 h7 a8 h8 a9 h9 a10 h10 hc0 hc1 x0 x1 x2 x3 x4 x8 xs)]
  unfold kernelRun0_C; dsimp only; sl_unfold_words
  rw [View.canon_unit_zero origin2]
  simp only [View.readAt_eq_ld, h1.read_unread, h2.read_unread, h3.read_unread, h4.read_unread, h5.read_unread, h9.read_unread, h10.read_unread,
    whole_reads]

theorem last_cast (hc0 : ¬cond0_0 i) (hc1 : cond0_1 i) :
    out0_C_6 (F := Ideal) c i a1 h1 a2 h2 a3 h3 a4 h4 a5 h5 a6 h6 a7 h7 a8 h8 a9 h9 a10 h10 hc0 hc1 x0 x1 x2 x3 x4 x8 xs
      = k0_pay3 (F := Ideal) (k0_pay8 (F := Ideal) x2 x0 x1) (k0_pay9 (F := Ideal) x2 x0 x1) x4 (k0_pay12 (F := Ideal) x2 x0 x1 x4 x3) := by
  unfold out0_C_6
  rw [View.read_writes_eq_canon _ _ _ (cover0_C_6 c i a1 h1 a2 h2 a3 h3 a4 h4 a5 h5 a6 h6 a7 h7 a8 h8 a9 h9 a10 h10 hc0 hc1 x0 x1 x2 x3 x4 x8 xs)]
  unfold kernelRun0_C; dsimp only; sl_unfold_words
  rw [View.canon_unit_zero origin2]
  simp only [View.readAt_eq_ld, h1.read_unread, h2.read_unread, h3.read_unread, h4.read_unread, h5.read_unread, h9.read_unread, h10.read_unread,
    whole_reads]

theorem last_scale (hc0 : ¬cond0_0 i) (hc1 : cond0_1 i) :
    out0_C_8 (F := Ideal) c i a1 h1 a2 h2 a3 h3 a4 h4 a5 h5 a6 h6 a7 h7 a8 h8 a9 h9 a10 h10 hc0 hc1 x0 x1 x2 x3 x4 x8 xs
      = k0_pay1 (F := Ideal) (k0_pay9 (F := Ideal) x2 x0 x1) (k0_pay12 (F := Ideal) x2 x0 x1 x4 x3) x8 := by
  unfold out0_C_8
  rw [View.read_writes_eq_canon _ _ _ (cover0_C_8 c i a1 h1 a2 h2 a3 h3 a4 h4 a5 h5 a6 h6 a7 h7 a8 h8 a9 h9 a10 h10 hc0 hc1 x0 x1 x2 x3 x4 x8 xs)]
  unfold kernelRun0_C; dsimp only; sl_unfold_words
  rw [View.canon_unit_zero origin2]
  simp only [View.readAt_eq_ld, h1.read_unread, h2.read_unread, h3.read_unread, h4.read_unread, h5.read_unread, h9.read_unread, h10.read_unread,
    whole_reads]

theorem last_sum (hc0 : ¬cond0_0 i) (hc1 : cond0_1 i) :
    sout0_C_0 (F := Ideal) c i a1 h1 a2 h2 a3 h3 a4 h4 a5 h5 a6 h6 a7 h7 a8 h8 a9 h9 a10 h10 hc0 hc1 x0 x1 x2 x3 x4 x8 xs
      = k0_pay11 (F := Ideal) x2 x0 x1 x4 x3 xs := by
  unfold sout0_C_0
  rw [View.read_writes_eq_canon _ _ _ (scover0_C_0 c i a1 h1 a2 h2 a3 h3 a4 h4 a5 h5 a6 h6 a7 h7 a8 h8 a9 h9 a10 h10 hc0 hc1 x0 x1 x2 x3 x4 x8 xs)]
  unfold kernelRun0_C; dsimp only; sl_unfold_words
  rw [View.canon_unit_zero origin2]
  simp only [View.readAt_eq_ld, h1.read_unread, h2.read_unread, h3.read_unread, h4.read_unread, h5.read_unread, h9.read_unread, h10.read_unread,
    whole_reads]

theorem last_loss (hc0 : ¬cond0_0 i) (hc1 : cond0_1 i) :
    out0_C_7 (F := Ideal) c i a1 h1 a2 h2 a3 h3 a4 h4 a5 h5 a6 h6 a7 h7 a8 h8 a9 h9 a10 h10 hc0 hc1 x0 x1 x2 x3 x4 x8 xs
      = k0_pay4 (F := Ideal) (k0_pay11 (F := Ideal) x2 x0 x1 x4 x3 xs) := by
  unfold out0_C_7
  rw [View.read_writes_eq_canon _ _ _ (cover0_C_7 c i a1 h1 a2 h2 a3 h3 a4 h4 a5 h5 a6 h6 a7 h7 a8 h8 a9 h9 a10 h10 hc0 hc1 x0 x1 x2 x3 x4 x8 xs)]
  unfold kernelRun0_C; dsimp only; sl_unfold_words
  rw [View.canon_unit_zero origin2]
  simp only [View.readCov_unit_zero (S := S1x1024) _ origin2, View.readAt_eq_ld, h1.read_unread, h2.read_unread, h3.read_unread, h4.read_unread, h5.read_unread, h9.read_unread, h10.read_unread,
    whole_reads]

end Cert.Loss

end
-- ==== Proof.LossMath.lean ====
/- The arithmetic of the root-mean-square normalisation at extended reals: a positive real factor goes through a sum; a row whose
   scale is positive holds real numbers only; and the two ways of writing the gradient of the normalisation agree. -/
module

public import Idealize.ShloMosaic.Lib.KernelVsHost
public import Idealize.ShloMosaic.Lib.IdealHost
public import Mathlib.Data.EReal.Operations
public import Mathlib.Algebra.BigOperators.Intervals

@[expose] public section

noncomputable section

namespace Cert.Loss

open Idealize.ShloMosaic

theorem ofBits_1024 : Ideal.ofBits .f32 0x44800000#32 = ((1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-1 / 2 : ℝ) : EReal) := by
  simp [Ideal.ofBits, Ideal.ieee, -EReal.coe_mul, -EReal.coe_neg]; norm_num
theorem ofBits_two : Ideal.ofBits .f32 0x40000000#32 = ((2 : ℝ) : EReal) := by
  simp [Ideal.ofBits, Ideal.ieee, -EReal.coe_mul]; norm_num
theorem ofBits_2048th : Ideal.ofBits .f32 0x3A000000#32 = ((1 / 2048 : ℝ) : EReal) := by
  simp [Ideal.ofBits, Ideal.ieee, -EReal.coe_mul]; norm_num
theorem ofBits_1024th : Ideal.ofBits .f32 0x3A800000#32 = ((1 / 1024 : ℝ) : EReal) := by
  simp [Ideal.ofBits, Ideal.ieee, -EReal.coe_mul]; norm_num

/-- The constant under the root. -/
def eps : EReal := Ideal.ofBits .f32 0x358637BD#32

theorem eps_pos : ∃ e : ℝ, 0 < e ∧ eps = (e : EReal) := by
  refine ⟨(8796093 : ℝ) * (2 : ℝ) ^ (-43 : ℤ), by positivity, ?_⟩
  unfold eps
  simp [Ideal.ofBits, Ideal.ieee, -EReal.coe_mul]

theorem div_1024 (x : EReal) : Ideal.div x (Ideal.ofBits .f32 0x44800000#32) = x * ((1 / 1024 : ℝ) : EReal) := by
  rw [ofBits_1024]
  exact Ideal.div_coe (by norm_num) x

/-- A nonnegative real factor goes through a sum. -/
theorem sum_mul_real {ι : Type*} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem mul_self_nonneg' (x : EReal) : 0 ≤ x * x := by
  rcases le_total 0 x with h | h
  · exact EReal.mul_nonneg h h
  · have : 0 ≤ -x := EReal.neg_nonneg.mpr h
    have := EReal.mul_nonneg this this
    rwa [neg_mul, mul_neg, neg_neg] at this

/-- The mean of a row's squares, plus the constant under the root. -/
def meanSq (x : Fin 1024 → EReal) : EReal := (∑ d, x d * x d) * ((1 / 1024 : ℝ) : EReal) + eps

/-- A row's scale. -/
def scale (x : Fin 1024 → EReal) : EReal := Ideal.rsqrt (meanSq x)

theorem meanSq_pos (x : Fin 1024 → EReal) : eps ≤ meanSq x := by
  unfold meanSq
  have h : 0 ≤ (∑ d, x d * x d) * ((1 / 1024 : ℝ) : EReal) :=
    EReal.mul_nonneg (Finset.sum_nonneg fun d _ => mul_self_nonneg' (x d)) (by exact_mod_cast (by norm_num : (0 : ℝ) ≤ 1 / 1024))
  calc eps = 0 + eps := (zero_add _).symm
    _ ≤ _ := add_le_add h le_rfl

/-- Where a row's mean square is finite its entries are real numbers. -/
theorem entries_real (x : Fin 1024 → EReal) (h : meanSq x ≠ ⊤) (d : Fin 1024) : ∃ y : ℝ, x d = (y : EReal) := by
  obtain ⟨e, he, hee⟩ := eps_pos
  have key : x d * x d ≠ ⊤ := by
    intro ht
    have hs : (⊤ : EReal) ≤ ∑ d, x d * x d := ht ▸ Finset.single_le_sum (f := fun d => x d * x d) (fun d _ => mul_self_nonneg' (x d)) (Finset.mem_univ d)
    apply h
    unfold meanSq
    rw [top_le_iff.mp hs, EReal.top_mul_coe_of_pos (by norm_num), hee]
    rfl
  refine ⟨(x d).toReal, (EReal.coe_toReal ?_ ?_).symm⟩
  · intro ht; exact key (by rw [ht]; rfl)
  · intro ht; exact key (by rw [ht]; rfl)

/-- A row's scale, where its mean square is finite: a positive real number whose square is the inverse of the mean square. -/
theorem scale_real (x : Fin 1024 → EReal) (h : meanSq x ≠ ⊤) :
    ∃ r s : ℝ, 0 < r ∧ 0 < s ∧ scale x = (r : EReal) ∧ meanSq x = (s : EReal) ∧ r * r * s = 1 := by
  obtain ⟨e, he, hee⟩ := eps_pos
  have hle := meanSq_pos x
  have hb : meanSq x ≠ ⊥ := by
    intro hb
    rw [hb, hee] at hle
    exact absurd (le_bot_iff.mp hle) (EReal.coe_ne_bot e)
  obtain ⟨s, hs⟩ : ∃ s : ℝ, meanSq x = (s : EReal) := ⟨_, (EReal.coe_toReal h hb).symm⟩
  have hsp : 0 < s := by
    rw [hs, hee] at hle
    exact lt_of_lt_of_le he (by exact_mod_cast hle)
  have hq : 0 < Real.sqrt s := Real.sqrt_pos.mpr hsp
  refine ⟨(Real.sqrt s)⁻¹, s, inv_pos.mpr hq, hsp, ?_, hs, ?_⟩
  · unfold scale
    rw [hs]
    show (if s < 0 then ⊥ else if s = 0 then ⊤ else (((Real.sqrt s)⁻¹ : ℝ) : EReal)) = _
    rw [if_neg (not_lt.mpr hsp.le), if_neg hsp.ne']
  · have := Real.mul_self_sqrt hsp.le
    field_simp
    nlinarith

theorem twice (a : EReal) : a + a = ((2 : ℝ) : EReal) * a := by
  induction a with
  | bot => rw [EReal.coe_mul_bot_of_pos (by norm_num)]; rfl
  | top => rw [EReal.coe_mul_top_of_pos (by norm_num)]; rfl
  | coe a => rw [← EReal.coe_add, ← EReal.coe_mul]; exact congrArg _ (by ring)

/-- The two ways of writing the gradient of the normalisation, at one element of a row. -/
theorem norm_grad (x D : Fin 1024 → EReal) (d : Fin 1024) :
    scale x * (D d - x d * scale x * ((∑ e, D e * (x e * scale x)) * ((1 / 1024 : ℝ) : EReal)))
      = D d * scale x + x d * ((∑ e, x e * D e) * (((-1 / 2 : ℝ) : EReal) * Ideal.div (scale x) (meanSq x)) * ((1 / 1024 : ℝ) : EReal))
        + (∑ e, x e * D e) * (((-1 / 2 : ℝ) : EReal) * Ideal.div (scale x) (meanSq x)) * ((1 / 1024 : ℝ) : EReal) * x d := by
  by_cases h : meanSq x = ⊤
  · have hr : scale x = 0 := by unfold scale; rw [h]; rfl
    have hd : Ideal.div (0 : EReal) ⊤ = 0 := by unfold Ideal.div; rw [if_neg (by decide)]; exact zero_mul _
    rw [hr, h, hd]
    simp
  · obtain ⟨r, s, hr, hs, er, es, hrs⟩ := scale_real x h
    obtain ⟨y, hy⟩ := entries_real x h d
    rw [er, es, Ideal.div_coe hs.ne', hy]
    have hM : (∑ e, D e * (x e * (r : EReal))) = (∑ e, x e * D e) * (r : EReal) := by
      rw [sum_mul_real _ _ _ hr.le]
      exact Finset.sum_congr rfl fun e _ => by rw [← mul_assoc, mul_comm (D e)]
    rw [hM]
    generalize (∑ e, x e * D e) = M
    have hc : (r : EReal) * -((y : EReal) * r * (M * r * ((1 / 1024 : ℝ) : EReal)))
        = ((2 : ℝ) : EReal) * (((y * (-1 / 2 * (r * (1 / s))) * (1 / 1024) : ℝ) : EReal) * M) := by
      have : (r : EReal) * -((y : EReal) * r * (M * r * ((1 / 1024 : ℝ) : EReal))) = ((-(r * (y * r) * r * (1 / 1024)) : ℝ) : EReal) * M := by
        rw [EReal.coe_neg, neg_mul, mul_neg]
        push_cast
        congr 1
        ac_rfl
      rw [this, ← mul_assoc ((2 : ℝ) : EReal), ← EReal.coe_mul]
      congr 2
      field_simp
      linear_combination (-y) * hrs
    have hσ : M * (((-1 / 2 : ℝ) : EReal) * ((r : EReal) * ((1 / s : ℝ) : EReal))) * ((1 / 1024 : ℝ) : EReal)
        = ((-1 / 2 * (r * (1 / s)) * (1 / 1024) : ℝ) : EReal) * M := by
      simp only [EReal.coe_mul]
      ac_rfl
    have hx : (y : EReal) * (((-1 / 2 * (r * (1 / s)) * (1 / 1024) : ℝ) : EReal) * M) = ((y * (-1 / 2 * (r * (1 / s))) * (1 / 1024) : ℝ) : EReal) * M := by
      rw [← mul_assoc, ← EReal.coe_mul, mul_assoc y]
    rw [hσ, mul_comm (((-1 / 2 * (r * (1 / s)) * (1 / 1024) : ℝ) : EReal) * M), hx, add_assoc, twice, ← hc, mul_comm (D d), sub_eq_add_neg]
    exact EReal.left_distrib_of_nonneg_of_ne_top (by exact_mod_cast hr.le) (EReal.coe_ne_top r) _ _

end Cert.Loss

end
-- ==== Proof.LossKernel.lean ====
/- The kernel's results element by element: the normalised rows, their error against the targets, the gradient of the rows, and the
   two sums carried from block to block. -/
module

public import proofs.«01_k».proof.Proof.LossCases
public import proofs.«01_k».proof.Proof.LossMath

@[expose] public section

noncomputable section

namespace Cert.Loss

open Idealize.ShloMosaic hiding ix0 ix1 ix2 ix3 ix4 ix5
open Idealize.ShloMosaic.ValueIdx

section Rows

variable {n : ℕ} (a : (⟨2, ![n, 2816]⟩ : Shape).Idx → EReal) (w : (⟨2, ![2816, 1024]⟩ : Shape).Idx → EReal)
  (x t : (⟨2, ![n, 1024]⟩ : Shape).Idx → EReal) (g : (⟨2, ![1, 1024]⟩ : Shape).Idx → EReal)

/-- A row of the stream behind the projection. -/
def row (r : Fin n) (d : Fin 1024) : EReal := x (ix2 r d) + ∑ k : Fin 2816, a (ix2 r k) * w (ix2 k d)

/-- The normalised row. -/
def hat (r : Fin n) (d : Fin 1024) : EReal := row a w x r d * scale (row a w x r)

/-- The error against the target. -/
def err (r : Fin n) (d : Fin 1024) : EReal := hat a w x r d * g (ix2 0 d) - t (ix2 r d)

/-- The loss's gradient at the normalised and scaled row. -/
def dy (r : Fin n) (d : Fin 1024) : EReal := err a w x t g r d * ((1 / 1024 : ℝ) : EReal)

/-- The loss's gradient at the row. -/
def dx (r : Fin n) (d : Fin 1024) : EReal :=
  scale (row a w x r) * (dy a w x t g r d * g (ix2 0 d)
    - hat a w x r d * ((∑ e, dy a w x t g r e * g (ix2 0 e) * hat a w x r e) * ((1 / 1024 : ℝ) : EReal)))

end Rows

open Cert.Kernel4Ideal Cert.Kernel4Ideal.Gen

section Payloads

variable (a : FVec Ideal S256x2816 .bf16) (w : FVec Ideal S2816x1024 .bf16) (x t : FVec Ideal S256x1024 .f32) (g s : FVec Ideal S1x1024 .f32)

/-- A sum along the rows of a block, kept as a column. -/
theorem rowsum_apply (v : FVec Ideal S256x1024 .f32) (r : Fin 256) (u : Fin 1) :
    shapeCast S256x1 (multiReduction .add [1] S256 v 0x00000000#32 reduces_S256x1024_S256 (.inl rfl) rfl) shapeCasts_S256_S256x1 (ix2 r u)
      = ∑ d : Fin 1024, v (ix2 r d) := by
  refine (shapeCast_apply _ _ (ix2 r u) (ix1 r) (by
    rw [Shape.rowMajor_val_two, Shape.rowMajor_val_one]
    show r.val = r.val * 1 + u.val
    omega)).trans ?_
  refine (Ideal.multiReduction_add_single (a := 1) v _ reduces_S256x1024_S256 (.inl rfl) rfl (ix1 r)).trans ?_
  refine Finset.sum_congr rfl fun k _ => congrArg v (funext fun ax => Fin.ext ?_)
  match ax with
  | ⟨0, _⟩ => rfl
  | ⟨1, _⟩ => rfl

/-- A sum along the columns of a block, kept as a row. -/
theorem colsum_apply (v : FVec Ideal S256x1024 .f32) (u : Fin 1) (d : Fin 1024) :
    shapeCast S1x1024 (multiReduction .add [0] S1024 v 0x00000000#32 reduces_S256x1024_S1024 (.inl rfl) rfl) shapeCasts_S1024_S1x1024 (ix2 u d)
      = ∑ r : Fin 256, v (ix2 r d) := by
  rw [shapeCast_a_1a_apply]
  refine (Ideal.multiReduction_add_single (a := 0) v _ reduces_S256x1024_S1024 (.inl rfl) rfl (ix1 d)).trans ?_
  refine Finset.sum_congr rfl fun k _ => congrArg v (funext fun ax => Fin.ext ?_)
  match ax with
  | ⟨0, _⟩ => rfl
  | ⟨1, _⟩ => rfl

theorem col_broadcast (v : FVec Ideal S256x1 .f32) (r : Fin 256) (d : Fin 1024) :
    broadcastTo S256x1024 v broadcasts_S256x1_S256x1024 (ix2 r d) = v (ix2 r 0) :=
  congrArg v (funext fun ax => Fin.ext (by match ax with | ⟨0, _⟩ => rfl | ⟨1, _⟩ => rfl))

theorem row_broadcast (v : FVec Ideal S1x1024 .f32) (r : Fin 256) (d : Fin 1024) :
    broadcastTo S256x1024 v broadcasts_S1x1024_S256x1024 (ix2 r d) = v (ix2 0 d) :=
  congrArg v (funext fun ax => Fin.ext (by match ax with | ⟨0, _⟩ => rfl | ⟨1, _⟩ => rfl))

theorem pay7_apply (r : Fin 256) (d : Fin 1024) : k0_pay7 (F := Ideal) x a w (ix2 r d) = row a w x r d := by
  unfold k0_pay7 row
  show x (ix2 r d) + FloatOps.matmul dot_S256x2816_S2816x1024_S256x1024_1_0_0_1_n_n none a w (constant S256x1024 .f32 0x00000000#32) (ix2 r d) = _
  congr 1
  refine (Ideal.matmul_plain_apply none a w _ r d).trans ?_
  rw [constant_apply, Ideal.ofBits_zero_f32, zero_add]

theorem pay8_apply (r : Fin 256) (u : Fin 1) : k0_pay8 (F := Ideal) x a w (ix2 r u) = scale (row a w x r) := by
  have h := rowsum_apply (mulf (k0_pay7 (F := Ideal) x a w) (k0_pay7 (F := Ideal) x a w)) r u
  unfold k0_pay8 scale meanSq
  show Ideal.rsqrt (Ideal.div (shapeCast S256x1 _ _ (ix2 r u)) (Ideal.ofBits .f32 0x44800000#32) + eps) = _
  rw [div_1024]
  refine congrArg (fun y => Ideal.rsqrt (y * _ + eps)) (h.trans ?_)
  exact Finset.sum_congr rfl fun d _ => congrArg₂ (· * ·) (pay7_apply a w x r d) (pay7_apply a w x r d)

theorem pay9_apply (r : Fin 256) (d : Fin 1024) : k0_pay9 (F := Ideal) x a w (ix2 r d) = hat a w x r d :=
  congrArg₂ (· * ·) (pay7_apply a w x r d) ((col_broadcast _ r d).trans (pay8_apply a w x r 0))

theorem pay10_apply (r : Fin 256) (d : Fin 1024) : k0_pay10 (F := Ideal) x a w g t (ix2 r d) = err a w x t g r d :=
  congrArg (· - t (ix2 r d)) (congrArg₂ (· * ·) (pay9_apply a w x r d) (row_broadcast g r d))

theorem pay12_apply (r : Fin 256) (d : Fin 1024) : k0_pay12 (F := Ideal) x a w g t (ix2 r d) = dy a w x t g r d :=
  congrArg₂ (· * ·) (pay10_apply a w x t g r d) ofBits_1024th

theorem pay11_apply (u : Fin 1) (d : Fin 1024) :
    k0_pay11 (F := Ideal) x a w g t s (ix2 u d) = s (ix2 u d) + ∑ r : Fin 256, err a w x t g r d * err a w x t g r d := by
  unfold k0_pay11
  dsimp only
  rw [shapeCast_self]
  refine congrArg (s (ix2 u d) + ·) ((colsum_apply _ u d).trans ?_)
  exact Finset.sum_congr rfl fun r _ => congrArg₂ (· * ·) (pay10_apply a w x t g r d) (pay10_apply a w x t g r d)

theorem pay1_apply (u : Fin 1) (d : Fin 1024) :
    k0_pay1 (F := Ideal) (k0_pay9 (F := Ideal) x a w) (k0_pay12 (F := Ideal) x a w g t) s (ix2 u d)
      = s (ix2 u d) + ∑ r : Fin 256, dy a w x t g r d * hat a w x r d := by
  unfold k0_pay1
  dsimp only
  rw [shapeCast_self]
  refine congrArg (s (ix2 u d) + ·) ((colsum_apply _ u d).trans ?_)
  exact Finset.sum_congr rfl fun r _ => congrArg₂ (· * ·) (pay12_apply a w x t g r d) (pay9_apply a w x r d)

theorem pay2_apply (r : Fin 256) (d : Fin 1024) :
    k0_pay2 (F := Ideal) (k0_pay8 (F := Ideal) x a w) (k0_pay9 (F := Ideal) x a w) g (k0_pay12 (F := Ideal) x a w g t) (ix2 r d)
      = dx a w x t g r d := by
  have hm : ∀ e : Fin 1024, k0_pay12 (F := Ideal) x a w g t (ix2 r e) * broadcastTo S256x1024 g broadcasts_S1x1024_S256x1024 (ix2 r e)
      = dy a w x t g r e * g (ix2 0 e) := fun e => congrArg₂ (· * ·) (pay12_apply a w x t g r e) (row_broadcast g r e)
  unfold k0_pay2 dx
  refine congrArg₂ (· * ·) ((col_broadcast _ r d).trans (pay8_apply a w x r 0)) (congrArg₂ (· - ·) (hm d) ?_)
  refine congrArg₂ (· * ·) (pay9_apply a w x r d) ((col_broadcast _ r d).trans ?_)
  show Ideal.div (shapeCast S256x1 _ _ (ix2 r 0)) (Ideal.ofBits .f32 0x44800000#32) = _
  rw [div_1024]
  refine congrArg (· * _) ((rowsum_apply _ r 0).trans ?_)
  exact Finset.sum_congr rfl fun e _ => congrArg₂ (· * ·) (hm e) (pay9_apply a w x r e)

theorem pay4_apply (u v : Fin 1) : k0_pay4 (F := Ideal) s (ix2 u v) = (∑ d : Fin 1024, s (ix2 0 d)) * ((1 / 2048 : ℝ) : EReal) := by
  unfold k0_pay4
  show shapeCast S1x1 _ _ (ix2 u v) * Ideal.ofBits .f32 0x3A000000#32 = _
  rw [ofBits_2048th, shapeCast_a_1a_apply]
  refine congrArg (· * _) ((Ideal.multiReduction_add_single (a := 1) s _ reduces_S1x1024_S1 (.inl rfl) rfl (ix1 v)).trans ?_)
  refine Finset.sum_congr rfl fun k _ => congrArg s (funext fun ax => Fin.ext ?_)
  match ax with
  | ⟨0, _⟩ => show v.val = 0; omega
  | ⟨1, _⟩ => rfl

theorem zero_row (i : S1x1024.Idx) : k0_pay5 (F := Ideal) i = 0 := by
  unfold k0_pay5
  rw [shapeCast_self]
  exact Ideal.ofBits_zero_f32

theorem zero_row' (i : S1x1024.Idx) : k0_pay6 (F := Ideal) i = 0 := Ideal.ofBits_zero_f32

end Payloads

end Cert.Loss

end
-- ==== Proof.LossArrays.lean ====
/- What the kernel's four result arrays hold after the sixteen blocks of tokens. -/
module

public import proofs.«01_k».proof.Proof.LossKernel

@[expose] public section

noncomputable section

namespace Cert.Loss

open Idealize.ShloMosaic hiding ix0 ix1 ix2 ix3 ix4 ix5
open Idealize.ShloMosaic.ValueIdx Cert.Kernel4Ideal Cert.Kernel4Ideal.Gen

variable (m : (ℓ : Loc nD τ sig) → Buf (Elt Ideal) ℓ) (c : Dev nD)

/-- The arguments' contents: hidden activations, projection weights, stream, targets, and the normalisation's scales. -/
abbrev A0 : (⟨2, ![4096, 2816]⟩ : Shape).Idx → EReal := m ((c.tc : Thread nD τ).loc main_arg0)
abbrev A1 : (⟨2, ![2816, 1024]⟩ : Shape).Idx → EReal := m ((c.tc : Thread nD τ).loc main_arg1)
abbrev A2 : (⟨2, ![4096, 1024]⟩ : Shape).Idx → EReal := m ((c.tc : Thread nD τ).loc main_arg2)
abbrev A3 : (⟨2, ![4096, 1024]⟩ : Shape).Idx → EReal := m ((c.tc : Thread nD τ).loc main_arg3)
abbrev A4 : (⟨2, ![1, 1024]⟩ : Shape).Idx → EReal := m ((c.tc : Thread nD τ).loc main_arg4)

/-- Grid point `t`, and token `r` of its block. -/
def pt (t : Fin 16) : Fin cfg0.N := ⟨t.val, by show t.val < 16; omega⟩
def tokenAt (t : Fin 16) (r : Fin 256) : Fin 4096 := ⟨256 * t.val + r.val, by omega⟩

theorem index_facts : ∀ t : Fin 16,
    (win0_0.index (pt t) 0 = t.val ∧ win0_0.index (pt t) 1 = 0) ∧ (win0_1.index (pt t) 0 = 0 ∧ win0_1.index (pt t) 1 = 0)
    ∧ (win0_2.index (pt t) 0 = t.val ∧ win0_2.index (pt t) 1 = 0) ∧ (win0_3.index (pt t) 0 = t.val ∧ win0_3.index (pt t) 1 = 0)
    ∧ (win0_4.index (pt t) 0 = 0 ∧ win0_4.index (pt t) 1 = 0) ∧ (win0_5.index (pt t) 0 = t.val ∧ win0_5.index (pt t) 1 = 0)
    ∧ (win0_6.index (pt t) 0 = t.val ∧ win0_6.index (pt t) 1 = 0) ∧ (win0_7.index (pt t) 0 = 0 ∧ win0_7.index (pt t) 1 = 0)
    ∧ (win0_8.index (pt t) 0 = 0 ∧ win0_8.index (pt t) 1 = 0) := by decide +kernel

theorem read0 (t : Fin 16) (r : Fin 256) (k : Fin 2816) :
    (iblk m c 0 (pt t) : Vec Ideal S256x2816 .bf16) (ix2 r k) = A0 m c (ix2 (tokenAt t r) k) := by
  obtain ⟨⟨i0, i1⟩, -⟩ := index_facts t
  unfold iblk
  rw [View.read_apply]
  show V m c main_arg0 _ = _
  rw [V_main_arg0]
  refine congrArg (m _) (funext fun a => Fin.ext ?_)
  match a with
  | ⟨0, _⟩ => show win0_0.index (pt t) 0 * 256 + 1 * r.val = 256 * t.val + r.val; rw [i0]; omega
  | ⟨1, _⟩ => show win0_0.index (pt t) 1 * 2816 + 1 * k.val = k.val; rw [i1]; omega

theorem read1 (t : Fin 16) (k : Fin 2816) (d : Fin 1024) :
    (iblk m c 1 (pt t) : Vec Ideal S2816x1024 .bf16) (ix2 k d) = A1 m c (ix2 k d) := by
  obtain ⟨-, ⟨i0, i1⟩, -⟩ := index_facts t
  unfold iblk
  rw [View.read_apply]
  show V m c main_arg1 _ = _
  rw [V_main_arg1]
  refine congrArg (m _) (funext fun a => Fin.ext ?_)
  match a with
  | ⟨0, _⟩ => show win0_1.index (pt t) 0 * 2816 + 1 * k.val = k.val; rw [i0]; omega
  | ⟨1, _⟩ => show win0_1.index (pt t) 1 * 1024 + 1 * d.val = d.val; rw [i1]; omega

theorem read2 (t : Fin 16) (r : Fin 256) (d : Fin 1024) :
    (iblk m c 2 (pt t) : Vec Ideal S256x1024 .f32) (ix2 r d) = A2 m c (ix2 (tokenAt t r) d) := by
  obtain ⟨-, -, ⟨i0, i1⟩, -⟩ := index_facts t
  unfold iblk
  rw [View.read_apply]
  show V m c main_arg2 _ = _
  rw [V_main_arg2]
  refine congrArg (m _) (funext fun a => Fin.ext ?_)
  match a with
  | ⟨0, _⟩ => show win0_2.index (pt t) 0 * 256 + 1 * r.val = 256 * t.val + r.val; rw [i0]; omega
  | ⟨1, _⟩ => show win0_2.index (pt t) 1 * 1024 + 1 * d.val = d.val; rw [i1]; omega

theorem read3 (t : Fin 16) (r : Fin 256) (d : Fin 1024) :
    (iblk m c 3 (pt t) : Vec Ideal S256x1024 .f32) (ix2 r d) = A3 m c (ix2 (tokenAt t r) d) := by
  obtain ⟨-, -, -, ⟨i0, i1⟩, -⟩ := index_facts t
  unfold iblk
  rw [View.read_apply]
  show V m c main_arg3 _ = _
  rw [V_main_arg3]
  refine congrArg (m _) (funext fun a => Fin.ext ?_)
  match a with
  | ⟨0, _⟩ => show win0_3.index (pt t) 0 * 256 + 1 * r.val = 256 * t.val + r.val; rw [i0]; omega
  | ⟨1, _⟩ => show win0_3.index (pt t) 1 * 1024 + 1 * d.val = d.val; rw [i1]; omega

theorem read4 (t : Fin 16) (u : Fin 1) (d : Fin 1024) :
    (iblk m c 4 (pt t) : Vec Ideal S1x1024 .f32) (ix2 u d) = A4 m c (ix2 u d) := by
  obtain ⟨-, -, -, -, ⟨i0, i1⟩, -⟩ := index_facts t
  unfold iblk
  rw [View.read_apply]
  show V m c main_arg4 _ = _
  rw [V_main_arg4]
  refine congrArg (m _) (funext fun a => Fin.ext ?_)
  match a with
  | ⟨0, _⟩ => show win0_4.index (pt t) 0 * 1 + 1 * u.val = u.val; rw [i0]; omega
  | ⟨1, _⟩ => show win0_4.index (pt t) 1 * 1024 + 1 * d.val = d.val; rw [i1]; omega

section Blocks

variable (t : Fin 16) (r : Fin 256)

/-- A block's rows are the whole array's. -/
theorem row_block : row (iblk m c 0 (pt t)) (iblk m c 1 (pt t)) (iblk m c 2 (pt t)) r = row (A0 m c) (A1 m c) (A2 m c) (tokenAt t r) := by
  funext d
  unfold row
  exact congrArg₂ (· + ·) (read2 m c t r d)
    (Finset.sum_congr rfl fun k _ => congrArg₂ (· * ·) (read0 m c t r k) (read1 m c t k d))

theorem hat_block : hat (iblk m c 0 (pt t)) (iblk m c 1 (pt t)) (iblk m c 2 (pt t)) r = hat (A0 m c) (A1 m c) (A2 m c) (tokenAt t r) := by
  funext d
  unfold hat
  rw [row_block]

theorem err_block : err (iblk m c 0 (pt t)) (iblk m c 1 (pt t)) (iblk m c 2 (pt t)) (iblk m c 3 (pt t)) (iblk m c 4 (pt t)) r
    = err (A0 m c) (A1 m c) (A2 m c) (A3 m c) (A4 m c) (tokenAt t r) := by
  funext d
  unfold err
  rw [hat_block]
  exact congrArg₂ (· - ·) (congrArg (_ * ·) (read4 m c t 0 d)) (read3 m c t r d)

theorem dy_block : dy (iblk m c 0 (pt t)) (iblk m c 1 (pt t)) (iblk m c 2 (pt t)) (iblk m c 3 (pt t)) (iblk m c 4 (pt t)) r
    = dy (A0 m c) (A1 m c) (A2 m c) (A3 m c) (A4 m c) (tokenAt t r) := by
  funext d
  unfold dy
  rw [err_block]

theorem dx_block : dx (iblk m c 0 (pt t)) (iblk m c 1 (pt t)) (iblk m c 2 (pt t)) (iblk m c 3 (pt t)) (iblk m c 4 (pt t)) r
    = dx (A0 m c) (A1 m c) (A2 m c) (A3 m c) (A4 m c) (tokenAt t r) := by
  funext d
  unfold dx
  rw [row_block, hat_block, dy_block]
  simp only [read4 m c t 0]

end Blocks

/-- What a point leaves in the block of the rows' gradient. -/
theorem grad_at (t : Fin 16) (r : Fin 256) (d : Fin 1024) :
    (outsAt0 m c (pt t).val (pt t).isLt).1 (ix2 r d) = dx (A0 m c) (A1 m c) (A2 m c) (A3 m c) (A4 m c) (tokenAt t r) d := by
  have e : (pt t).val = t.val := rfl
  rw [← dx_block, ← pay2_apply]
  refine congrFun ?_ (ix2 r d)
  by_cases h0 : (pt t).val % 16 = 0
  · rw [outsAt0_A m c (pt t) h0 (by omega)]; dsimp only; rw [first_grad]
  · by_cases h1 : (pt t).val % 16 = 15
    · rw [outsAt0_C m c (pt t) h0 h1]; dsimp only; rw [last_grad]
    · rw [outsAt0_B m c (pt t) h0 h1]; dsimp only; rw [later_grad]

theorem cast_at (t : Fin 16) (r : Fin 256) (d : Fin 1024) :
    (outsAt0 m c (pt t).val (pt t).isLt).2.1 (ix2 r d) = dx (A0 m c) (A1 m c) (A2 m c) (A3 m c) (A4 m c) (tokenAt t r) d := by
  rw [← dx_block, ← pay2_apply]
  refine congrFun (g := k0_pay3 (F := Ideal) _ _ _ _) ?_ (ix2 r d)
  by_cases h0 : (pt t).val % 16 = 0
  · rw [outsAt0_A m c (pt t) h0 (by omega)]; dsimp only; rw [first_cast]
  · by_cases h1 : (pt t).val % 16 = 15
    · rw [outsAt0_C m c (pt t) h0 h1]; dsimp only; rw [last_cast]
    · rw [outsAt0_B m c (pt t) h0 h1]; dsimp only; rw [later_cast]

/-- One block's share of the squared errors of a column, and of the gradient of its scale. -/
def sqs (d : Fin 1024) (t : Fin 16) : EReal :=
  ∑ r : Fin 256, err (A0 m c) (A1 m c) (A2 m c) (A3 m c) (A4 m c) (tokenAt t r) d * err (A0 m c) (A1 m c) (A2 m c) (A3 m c) (A4 m c) (tokenAt t r) d
def scs (d : Fin 1024) (t : Fin 16) : EReal :=
  ∑ r : Fin 256, dy (A0 m c) (A1 m c) (A2 m c) (A3 m c) (A4 m c) (tokenAt t r) d * hat (A0 m c) (A1 m c) (A2 m c) (tokenAt t r) d

theorem pay11_block (t : Fin 16) (s : FVec Ideal S1x1024 .f32) (u : Fin 1) (d : Fin 1024) :
    k0_pay11 (F := Ideal) (iblk m c 2 (pt t)) (iblk m c 0 (pt t)) (iblk m c 1 (pt t)) (iblk m c 4 (pt t)) (iblk m c 3 (pt t)) s (ix2 u d)
      = s (ix2 u d) + sqs m c d t := by
  rw [pay11_apply]
  refine congrArg (_ + ·) (Finset.sum_congr rfl fun r _ => ?_)
  rw [err_block]

theorem pay1_block (t : Fin 16) (s : FVec Ideal S1x1024 .f32) (u : Fin 1) (d : Fin 1024) :
    k0_pay1 (F := Ideal) (k0_pay9 (F := Ideal) (iblk m c 2 (pt t)) (iblk m c 0 (pt t)) (iblk m c 1 (pt t)))
        (k0_pay12 (F := Ideal) (iblk m c 2 (pt t)) (iblk m c 0 (pt t)) (iblk m c 1 (pt t)) (iblk m c 4 (pt t)) (iblk m c 3 (pt t))) s (ix2 u d)
      = s (ix2 u d) + scs m c d t := by
  rw [pay1_apply]
  refine congrArg (_ + ·) (Finset.sum_congr rfl fun r _ => ?_)
  rw [dy_block, hat_block]

/-- A share by the number of its block: nothing past the last one. -/
def upTo (f : Fin 16 → EReal) (k : ℕ) : EReal := if h : k < 16 then f ⟨k, h⟩ else 0

/-- The two sums after block `n`: the shares of the blocks so far. -/
theorem sums_at : ∀ (n : ℕ) (hn : n < cfg0.N) (u : Fin 1) (d : Fin 1024),
    (outsAt0 m c n hn).2.2.2.2 (ix2 u d) = ∑ k ∈ Finset.range (n + 1), upTo (sqs m c d) k
    ∧ (outsAt0 m c n hn).2.2.2.1 (ix2 u d) = ∑ k ∈ Finset.range (n + 1), upTo (scs m c d) k := by
  intro n
  induction n with
  | zero =>
    intro hn u d
    have e : ∀ f : Fin 16 → EReal, ∑ k ∈ Finset.range (0 + 1), upTo f k = 0 + f 0 := fun f => by
      rw [Finset.sum_range_one, zero_add]; rfl
    rw [outsAt0_A m c ⟨0, hn⟩ rfl (by show ¬(0 : ℕ) % 16 = 15; decide)]
    dsimp only
    rw [first_sum, first_scale, e, e]
    exact ⟨(pay11_block m c 0 _ u d).trans (congrArg (· + _) (zero_row _)), (pay1_block m c 0 _ u d).trans (congrArg (· + _) (zero_row' _))⟩
  | succ n ih =>
    intro hn u d
    have hN : n + 1 < 16 := hn
    obtain ⟨i1, i2⟩ := ih (by show n < 16; omega) u d
    have e : ∀ f : Fin 16 → EReal, upTo f (n + 1) = f ⟨n + 1, hN⟩ := fun f => dif_pos hN
    rw [Finset.sum_range_succ, Finset.sum_range_succ _ (n + 1), ← i1, ← i2, e, e]
    by_cases h1 : (n + 1) % 16 = 15
    · rw [outsAt0_C m c ⟨n + 1, hn⟩ (by show ¬(n + 1) % 16 = 0; omega) h1]
      dsimp only
      rw [last_sum, last_scale]
      exact ⟨pay11_block m c ⟨n + 1, hN⟩ _ u d, pay1_block m c ⟨n + 1, hN⟩ _ u d⟩
    · rw [outsAt0_B m c ⟨n + 1, hn⟩ (by show ¬(n + 1) % 16 = 0; omega) h1]
      dsimp only
      rw [later_sum, later_scale]
      exact ⟨pay11_block m c ⟨n + 1, hN⟩ _ u d, pay1_block m c ⟨n + 1, hN⟩ _ u d⟩

/-- A sum over all tokens, block by block. -/
theorem sum_tokens (f : Fin 4096 → EReal) : ∑ k ∈ Finset.range 16, upTo (fun t => ∑ r : Fin 256, f (tokenAt t r)) k = ∑ n, f n := by
  rw [← Fin.sum_univ_eq_sum_range (fun k => upTo (fun t => ∑ r : Fin 256, f (tokenAt t r)) k) 16]
  have e : ∀ t : Fin 16, upTo (fun t => ∑ r : Fin 256, f (tokenAt t r)) t.val = ∑ r : Fin 256, f (tokenAt t r) := fun t => dif_pos t.isLt
  rw [Finset.sum_congr rfl fun t _ => e t, ← Fintype.sum_prod_type' (f := fun t r => f (tokenAt t r))]
  exact Fintype.sum_equiv finProdFinEquiv _ _ fun x => congrArg f (Fin.ext (by
    show 256 * x.1.val + x.2.val = x.2.val + 256 * x.1.val
    omega))

/-- The squared errors of a column, over all tokens, and the gradient of its scale. -/
def sq (d : Fin 1024) : EReal :=
  ∑ n, err (A0 m c) (A1 m c) (A2 m c) (A3 m c) (A4 m c) n d * err (A0 m c) (A1 m c) (A2 m c) (A3 m c) (A4 m c) n d
def sc (d : Fin 1024) : EReal :=
  ∑ n, dy (A0 m c) (A1 m c) (A2 m c) (A3 m c) (A4 m c) n d * hat (A0 m c) (A1 m c) (A2 m c) n d

theorem scale_sum (u : Fin 1) (d : Fin 1024) : (outsAt0 m c (pt 15).val (pt 15).isLt).2.2.2.1 (ix2 u d) = sc m c d :=
  (sums_at m c 15 (pt 15).isLt u d).2.trans
    (sum_tokens fun n => dy (A0 m c) (A1 m c) (A2 m c) (A3 m c) (A4 m c) n d * hat (A0 m c) (A1 m c) (A2 m c) n d)

/-- The last point's loss is the scaled sum of what it leaves in the carried row. -/
theorem loss_point (t : Fin cfg0.N) (h0 : ¬t.val % 16 = 0) (h1 : t.val % 16 = 15) (u v : Fin 1) :
    (outsAt0 m c t.val t.isLt).2.2.1 (ix2 u v)
      = (∑ d : Fin 1024, (outsAt0 m c t.val t.isLt).2.2.2.2 (ix2 0 d)) * ((1 / 2048 : ℝ) : EReal) := by
  rw [outsAt0_C m c t h0 h1]
  dsimp only
  rw [last_loss, last_sum, pay4_apply]

theorem sq_sum (u : Fin 1) (d : Fin 1024) : (outsAt0 m c (pt 15).val (pt 15).isLt).2.2.2.2 (ix2 u d) = sq m c d :=
  (sums_at m c 15 (pt 15).isLt u d).1.trans
    (sum_tokens fun n => err (A0 m c) (A1 m c) (A2 m c) (A3 m c) (A4 m c) n d * err (A0 m c) (A1 m c) (A2 m c) (A3 m c) (A4 m c) n d)

theorem loss_sum (u v : Fin 1) :
    (outsAt0 m c (pt 15).val (pt 15).isLt).2.2.1 (ix2 u v) = (∑ d : Fin 1024, sq m c d) * ((1 / 2048 : ℝ) : EReal) := by
  rw [loss_point m c (pt 15) (by decide) rfl, Finset.sum_congr rfl fun d _ => sq_sum m c 0 d]

theorem flush7 : ∀ t : Fin cfg0.N, (cfg0.win 7).flush t = true ↔ t.val = 15 :=
  (by decide +kernel : ∀ t : Fin grid0.N, win0_7.flush t = true ↔ t.val = 15)
theorem flush8 : ∀ t : Fin cfg0.N, (cfg0.win 8).flush t = true ↔ t.val = 15 :=
  (by decide +kernel : ∀ t : Fin grid0.N, win0_8.flush t = true ↔ t.val = 15)
theorem flush5 : ∀ t : Fin cfg0.N, (cfg0.win 5).flush t = true := (by decide +kernel : ∀ t : Fin grid0.N, win0_5.flush t = true)
theorem flush6 : ∀ t : Fin cfg0.N, (cfg0.win 6).flush t = true := (by decide +kernel : ∀ t : Fin grid0.N, win0_6.flush t = true)

/-- The rows' gradient. -/
theorem array5 (n : Fin 4096) (d : Fin 1024) : (dats m 0 c).arrAt 5 cfg0.N (ix2 n d) = dx (A0 m c) (A1 m c) (A2 m c) (A3 m c) (A4 m c) n d := by
  obtain ⟨t, r, rfl⟩ : ∃ (t : Fin 16) (r : Fin 256), n = tokenAt t r :=
    ⟨⟨n.val / 256, by omega⟩, ⟨n.val % 256, Nat.mod_lt _ (by decide)⟩, Fin.ext (by show n.val = 256 * (n.val / 256) + n.val % 256; omega)⟩
  have h := (dats m 0 c).arrAt_emb_eq_flushed 5 Value.disjoint5 (pt t) (flush5 _) (ix2 r d)
  obtain ⟨i0, i1⟩ := (index_facts t).2.2.2.2.2.1
  have hi : (((cfg0.win 5).blk (pt t)).view.emb (ix2 r d) : S4096x1024.Idx) = ix2 (tokenAt t r) d := funext fun a => Fin.ext (by
    match a with
    | ⟨0, _⟩ => show win0_5.index (pt t) 0 * 256 + 1 * r.val = 256 * t.val + r.val; rw [i0]; omega
    | ⟨1, _⟩ => show win0_5.index (pt t) 1 * 1024 + 1 * d.val = d.val; rw [i1]; omega)
  rw [← hi]
  refine h.trans ?_
  rw [cast_eq, Value.flushed5]
  exact grad_at m c t r d

theorem array6 (n : Fin 4096) (d : Fin 1024) : (dats m 0 c).arrAt 6 cfg0.N (ix2 n d) = dx (A0 m c) (A1 m c) (A2 m c) (A3 m c) (A4 m c) n d := by
  obtain ⟨t, r, rfl⟩ : ∃ (t : Fin 16) (r : Fin 256), n = tokenAt t r :=
    ⟨⟨n.val / 256, by omega⟩, ⟨n.val % 256, Nat.mod_lt _ (by decide)⟩, Fin.ext (by show n.val = 256 * (n.val / 256) + n.val % 256; omega)⟩
  have h := (dats m 0 c).arrAt_emb_eq_flushed 6 Value.disjoint6 (pt t) (flush6 _) (ix2 r d)
  obtain ⟨i0, i1⟩ := (index_facts t).2.2.2.2.2.2.1
  have hi : (((cfg0.win 6).blk (pt t)).view.emb (ix2 r d) : S4096x1024.Idx) = ix2 (tokenAt t r) d := funext fun a => Fin.ext (by
    match a with
    | ⟨0, _⟩ => show win0_6.index (pt t) 0 * 256 + 1 * r.val = 256 * t.val + r.val; rw [i0]; omega
    | ⟨1, _⟩ => show win0_6.index (pt t) 1 * 1024 + 1 * d.val = d.val; rw [i1]; omega)
  rw [← hi]
  refine h.trans ?_
  rw [cast_eq, Value.flushed6]
  exact cast_at m c t r d

/-- The loss. -/
theorem array7 (u v : Fin 1) : (dats m 0 c).arrAt 7 cfg0.N (ix2 u v) = (∑ d : Fin 1024, sq m c d) * ((1 / 2048 : ℝ) : EReal) := by
  have h := (dats m 0 c).arrAt_emb_eq_flushed 7 (fun t t' ht ht' hne => absurd (Fin.ext (((flush7 t).mp ht).trans ((flush7 t').mp ht').symm)) hne)
    (pt 15) ((flush7 _).mpr rfl) (ix2 u v)
  obtain ⟨i0, i1⟩ := (index_facts 15).2.2.2.2.2.2.2.1
  have hi : (((cfg0.win 7).blk (pt 15)).view.emb (ix2 u v) : S1x1.Idx) = ix2 u v := funext fun a => Fin.ext (by
    match a with
    | ⟨0, _⟩ => show win0_7.index (pt 15) 0 * 1 + 1 * u.val = u.val; rw [i0]; omega
    | ⟨1, _⟩ => show win0_7.index (pt 15) 1 * 1 + 1 * v.val = v.val; rw [i1]; omega)
  rw [← hi]
  refine h.trans ?_
  rw [cast_eq, Value.flushed7]
  exact loss_sum m c u v

/-- The gradient of the scales. -/
theorem array8 (u : Fin 1) (d : Fin 1024) : (dats m 0 c).arrAt 8 cfg0.N (ix2 u d) = sc m c d := by
  have h := (dats m 0 c).arrAt_emb_eq_flushed 8 (fun t t' ht ht' hne => absurd (Fin.ext (((flush8 t).mp ht).trans ((flush8 t').mp ht').symm)) hne)
    (pt 15) ((flush8 _).mpr rfl) (ix2 u d)
  obtain ⟨i0, i1⟩ := (index_facts 15).2.2.2.2.2.2.2.2
  have hi : (((cfg0.win 8).blk (pt 15)).view.emb (ix2 u d) : S1x1024.Idx) = ix2 u d := funext fun a => Fin.ext (by
    match a with
    | ⟨0, _⟩ => show win0_8.index (pt 15) 0 * 1 + 1 * u.val = u.val; rw [i0]; omega
    | ⟨1, _⟩ => show win0_8.index (pt 15) 1 * 1024 + 1 * d.val = d.val; rw [i1]; omega)
  rw [← hi]
  refine h.trans ?_
  rw [cast_eq, Value.flushed8]
  exact scale_sum m c u d

end Cert.Loss

end
-- ==== Proof.LossRef.lean ====
/- What the reference computes, element by element: the same normalised rows and errors, the gradient of the rows in the order the
   derivative is taken, the loss and the gradient of the scales. -/
module

public import proofs.«01_k».proof.Proof.LossKernel
public import proofs.«01_k».proof.Proof.RefBlocks
public import proofs.«01_k».proof.Proof.Gen.Reference4Ideal.Read

@[expose] public section

noncomputable section

namespace Cert.Loss

open Idealize.ShloMosaic hiding ix0 ix1 ix2 ix3 ix4 ix5
open Idealize.ShloMosaic.ValueIdx Cert.Reference4Ideal Cert.Reference4Ideal.Gen Cert.Reference4Ideal.Read Cert.Pool

variable (x0 : (⟨2, ![4096, 2816]⟩ : Shape).Idx → EReal) (x1 : (⟨2, ![2816, 1024]⟩ : Shape).Idx → EReal)
  (x2 x3 : (⟨2, ![4096, 1024]⟩ : Shape).Idx → EReal) (x4 : (⟨2, ![1, 1024]⟩ : Shape).Idx → EReal)

theorem v3_at (n : Fin 4096) (d : Fin 1024) : val_main_v3 (F := Ideal) x0 x1 x2 (ix2 n d) = row x0 x1 x2 n d := by
  rw [val_main_v3_apply, val_main_v2_apply]
  unfold row
  refine congrArg (x2 (ix2 n d) + ·) (Finset.sum_congr rfl fun k _ => congrArg₂ (· * ·) ?_ ?_)
  · exact congrArg x0 (ext2 _ n k rfl rfl)
  · exact congrArg x1 (ext2 _ k d rfl rfl)

theorem v11_at (n : Fin 4096) (u : Fin 1) : val_main_v11 (F := Ideal) x0 x1 x2 (ix2 n u) = meanSq (row x0 x1 x2 n) := by
  rw [val_main_v11_apply, val_main_v9_apply, val_main_v10_apply, val_main_v8_apply, val_main_v7_apply, val_main_v6_apply]
  show Ideal.div (Ideal.ofBits .f32 0x00000000#32 + ∑ k : Fin 1024, _) (Ideal.ofBits .f32 0x44800000#32) + eps = _
  rw [div_1024, Ideal.ofBits_zero_f32, zero_add]
  unfold meanSq
  refine congrArg (fun y => y * _ + eps) (Finset.sum_congr rfl fun k _ => ?_)
  rw [show idx_main_v6 (idx_main_v7 (ix2 n u)) k = ix2 n k from ext2 _ _ _ rfl rfl]
  exact congrArg₂ (· * ·) (v3_at x0 x1 x2 n k) (v3_at x0 x1 x2 n k)

theorem v12_at (n : Fin 4096) (u : Fin 1) : val_main_v12 (F := Ideal) x0 x1 x2 (ix2 n u) = scale (row x0 x1 x2 n) :=
  congrArg Ideal.rsqrt (v11_at x0 x1 x2 n u)

theorem v15_at (n : Fin 4096) (u : Fin 1) : val_main_v15 (F := Ideal) x0 x1 x2 (ix2 n u)
    = ((-1 / 2 : ℝ) : EReal) * Ideal.div (scale (row x0 x1 x2 n)) (meanSq (row x0 x1 x2 n)) :=
  congrArg₂ (· * ·) ((val_main_v14_apply _).trans ofBits_neg_half) (congrArg₂ Ideal.div (v12_at x0 x1 x2 n u) (v11_at x0 x1 x2 n u))

theorem v17_at (n : Fin 4096) (d : Fin 1024) : val_main_v17 (F := Ideal) x0 x1 x2 (ix2 n d) = hat x0 x1 x2 n d := by
  rw [val_main_v17_apply, val_main_v16_apply, show idx_main_v16 (ix2 n d) = ix2 n 0 from ext2 _ _ _ rfl rfl, v12_at, v3_at]
  rfl

theorem v18_at (d : Fin 1024) (u : Fin 1) : val_main_v18 (F := Ideal) x4 (ix2 u d) = x4 (ix2 0 d) := by
  rw [val_main_v18_apply, val_main_v4_apply]
  exact congrArg x4 (ext2 _ 0 d rfl (by show d.val % 1024 = d.val; omega))

theorem v21_at (n : Fin 4096) (d : Fin 1024) : val_main_v21 (F := Ideal) x0 x1 x2 x3 x4 (ix2 n d) = err x0 x1 x2 x3 x4 n d :=
  congrArg (· - x3 (ix2 n d)) (congrArg₂ (· * ·) (v17_at x0 x1 x2 n d) ((val_main_v19_apply (F := Ideal) x4 (ix2 n d)).trans
    ((congrArg (val_main_v18 (F := Ideal) x4) (ext2 _ 0 d rfl rfl)).trans (v18_at x4 d 0))))

/-- Twice a half over 1024 is one over 1024. -/
theorem v35_at (n : Fin 4096) (d : Fin 1024) : val_main_v35 (F := Ideal) x0 x1 x2 x3 x4 (ix2 n d) = dy x0 x1 x2 x3 x4 n d := by
  have h34 : val_main_v34 (F := Ideal) (ix2 n d) = ((1 / 2048 : ℝ) : EReal) := by
    rw [val_main_v34_apply, val_main_v33_apply, val_main_v31_apply, val_main_v32_apply]
    show Ideal.div (Ideal.ofBits .f32 0x3F000000#32 * Ideal.ofBits .f32 0x3F800000#32) (Ideal.ofBits .f32 0x44800000#32) = _
    rw [div_1024, Ideal.ofBits_one_f32, mul_one, ofBits_half, ← EReal.coe_mul]
    exact congrArg _ (by norm_num)
  have h24 : val_main_v24 (F := Ideal) x0 x1 x2 x3 x4 (ix2 n d) = ((2 : ℝ) : EReal) * err x0 x1 x2 x3 x4 n d :=
    congrArg₂ (· * ·) ((val_main_v23_apply _).trans ofBits_two) (v21_at x0 x1 x2 x3 x4 n d)
  rw [val_main_v35_apply, h34, h24]
  show ((1 / 2048 : ℝ) : EReal) * (((2 : ℝ) : EReal) * err x0 x1 x2 x3 x4 n d) = _
  rw [← mul_assoc, ← EReal.coe_mul, mul_comm]
  unfold dy
  exact congrArg (fun y : ℝ => err x0 x1 x2 x3 x4 n d * (y : EReal)) (by norm_num)

theorem v40_at (n : Fin 4096) (d : Fin 1024) : val_main_v40 (F := Ideal) x0 x1 x2 x3 x4 (ix2 n d) = dy x0 x1 x2 x3 x4 n d * x4 (ix2 0 d) :=
  congrArg₂ (· * ·) (v35_at x0 x1 x2 x3 x4 n d) ((val_main_v39_apply (F := Ideal) x4 (ix2 n d)).trans
    ((congrArg (val_main_v18 (F := Ideal) x4) (ext2 _ 0 d rfl rfl)).trans (v18_at x4 d 0)))

/-- The part of the gradient that goes through the scale. -/
theorem v51_at (n : Fin 4096) (d : Fin 1024) : val_main_v51 (F := Ideal) x0 x1 x2 x3 x4 (ix2 n d)
    = (∑ e, row x0 x1 x2 n e * (dy x0 x1 x2 x3 x4 n e * x4 (ix2 0 e)))
        * (((-1 / 2 : ℝ) : EReal) * Ideal.div (scale (row x0 x1 x2 n)) (meanSq (row x0 x1 x2 n))) * ((1 / 1024 : ℝ) : EReal) := by
  rw [val_main_v51_apply, val_main_v50_apply, Fin.sum_univ_one]
  rw [show idx_main_v50 (idx_main_v51 (ix2 n d)) 0 = ix2 n 0 from ext2 _ _ _ rfl rfl]
  rw [val_main_v49_apply, val_main_v48_apply, val_main_v47_apply, v15_at, val_main_v44_apply, val_main_v43_apply]
  show Ideal.ofBits .f32 0x00000000#32 + Ideal.div ((Ideal.ofBits .f32 0x00000000#32 + ∑ k : Fin 1024, _) * _) (Ideal.ofBits .f32 0x44800000#32) = _
  rw [div_1024, Ideal.ofBits_zero_f32, zero_add, zero_add]
  refine congrArg (fun y => y * _ * _) (Finset.sum_congr rfl fun k _ => ?_)
  rw [show idx_main_v43 (idx_main_v44 (ix2 n 0)) k = ix2 n k from ext2 _ _ _ (by show n.val * 1 + 0 = n.val; omega) rfl]
  exact congrArg₂ (· * ·) (v3_at x0 x1 x2 n k) (v40_at x0 x1 x2 x3 x4 n k)

/-- The rows' gradient. -/
theorem v55_at (n : Fin 4096) (d : Fin 1024) : val_main_v55 (F := Ideal) x0 x1 x2 x3 x4 (ix2 n d) = dx x0 x1 x2 x3 x4 n d := by
  rw [val_main_v55_apply, val_main_v54_apply, val_main_v53_apply, val_main_v52_apply, val_main_v46_apply, v51_at, v3_at, v40_at, val_main_v45_apply,
    show idx_main_v45 (ix2 n d) = ix2 n 0 from ext2 _ _ _ rfl rfl, v12_at]
  exact (norm_grad (row x0 x1 x2 n) (fun e => dy x0 x1 x2 x3 x4 n e * x4 (ix2 0 e)) d).symm

/-- The loss. -/
theorem v57_at (u v : Fin 1) : val_main_v57 (F := Ideal) x0 x1 x2 x3 x4 (ix2 u v)
    = (∑ d : Fin 1024, ∑ n : Fin 4096, err x0 x1 x2 x3 x4 n d * err x0 x1 x2 x3 x4 n d) * ((1 / 2048 : ℝ) : EReal) := by
  have h27 : ∀ n : Fin 4096, val_main_v27 (F := Ideal) x0 x1 x2 x3 x4 (ix1 n)
      = (∑ d : Fin 1024, err x0 x1 x2 x3 x4 n d * err x0 x1 x2 x3 x4 n d) * ((1 / 1024 : ℝ) : EReal) := fun n => by
    rw [val_main_v27_apply, val_main_v26_apply, val_main_v25_apply]
    show Ideal.div (Ideal.ofBits .f32 0x00000000#32 + ∑ k : Fin 1024, _) (Ideal.ofBits .f32 0x44800000#32) = _
    rw [div_1024, Ideal.ofBits_zero_f32, zero_add]
    refine congrArg (fun y => y * _) (Finset.sum_congr rfl fun k _ => ?_)
    rw [show idx_main_v25 (ix1 n) k = ix2 n k from ext2 _ _ _ rfl rfl]
    exact congrArg₂ (· * ·) (v21_at x0 x1 x2 x3 x4 n k) (v21_at x0 x1 x2 x3 x4 n k)
  unfold val_main_v57
  have hz : ∀ i : S_.Idx, val_main_v29 (F := Ideal) x0 x1 x2 x3 x4 i
      = (∑ d : Fin 1024, ∑ n : Fin 4096, err x0 x1 x2 x3 x4 n d * err x0 x1 x2 x3 x4 n d) * ((1 / 2048 : ℝ) : EReal) := fun i => by
    rw [val_main_v29_apply, val_main_v28_apply]
    show Ideal.ofBits .f32 0x3F000000#32 * (Ideal.ofBits .f32 0x00000000#32 + ∑ j : S4096.Idx, _) = _
    rw [Ideal.ofBits_zero_f32, zero_add, ofBits_half, Finset.sum_comm]
    have hs : ∑ j : S4096.Idx, val_main_v27 (F := Ideal) x0 x1 x2 x3 x4 j
        = (∑ n : Fin 4096, ∑ d : Fin 1024, err x0 x1 x2 x3 x4 n d * err x0 x1 x2 x3 x4 n d) * ((1 / 1024 : ℝ) : EReal) := by
      rw [sum_mul_real _ _ _ (by norm_num)]
      exact (Fintype.sum_equiv ⟨fun n : Fin 4096 => (ix1 n : S4096.Idx), fun j => j 0, fun _ => rfl, fun j => (ext1 j (j 0) rfl).symm⟩ _ _ fun n => (h27 n).symm).symm
    rw [hs, mul_comm, mul_assoc, ← EReal.coe_mul]
    exact congrArg (fun y : ℝ => _ * (y : EReal)) (by norm_num)
  exact hz _

/-- The gradient of the scales. -/
theorem v58_at (u : Fin 1) (d : Fin 1024) : val_main_v58 (F := Ideal) x0 x1 x2 x3 x4 (ix2 u d)
    = ∑ n : Fin 4096, dy x0 x1 x2 x3 x4 n d * hat x0 x1 x2 n d := by
  rw [val_main_v58_apply, val_main_v41_apply, Fin.sum_univ_one, val_main_v38_apply, val_main_v37_apply]
  show Ideal.ofBits .f32 0x00000000#32 + (Ideal.ofBits .f32 0x00000000#32 + ∑ k : Fin 4096, _) = _
  rw [Ideal.ofBits_zero_f32, zero_add, zero_add]
  refine Finset.sum_congr rfl fun n _ => ?_
  rw [show idx_main_v37 (idx_main_v38 (idx_main_v41 (idx_main_v58 (ix2 u d)) 0)) n = ix2 n d from ext2 _ _ _ rfl (by
    show 0 * 1024 + (u.val * 1024 + d.val) = d.val; omega)]
  exact (congrArg₂ (· * ·) (v17_at x0 x1 x2 n d) (v35_at x0 x1 x2 x3 x4 n d)).trans (mul_comm _ _)

end Cert.Loss

end
-- ==== Proof.LossClaims.lean ====
/- What is claimed of the down projection with the loss: the reference's run, and the two sides' four results as the same extended
   reals. -/
module

public import proofs.«01_k».proof.Defs
public import proofs.«01_k».proof.Proof.LossArrays
public import proofs.«01_k».proof.Proof.LossRef
public import proofs.«01_k».proof.Proof.Gen.Reference4Ideal.Run
public import Idealize.ShloMosaic.Adequacy
public import Idealize.ShloMosaic.Init

@[expose] public section

noncomputable section

namespace Cert.Loss

open Idealize.ShloMosaic hiding ix0 ix1 ix2 ix3 ix4 ix5
open Idealize.ShloMosaic.ValueIdx Idealize.SL.Sem

section Reference

open Cert.Reference4Ideal Cert.Reference4Ideal.Read

/-- What the reference leaves in its result arrays, named stage by stage. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = val_main_v55 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v56) = val_main_v56 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v57) = val_main_v57 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v58) = val_main_v58 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v55_eq m c), (h c).2.1.trans (val_main_v56_eq m c),
    (h c).2.2.1.trans (val_main_v57_eq _ _ _ _ _), (h c).2.2.2.1.trans (val_main_v58_eq _ _ _ _ _), (h c).2.2.2.2⟩) (Value.run (F := Ideal) m ρ)

end Reference

/-- The reference runs, its arguments stay and its counters end at zero. -/
theorem frame_reference : Cert.quiescent_Reference4Ideal := fun m ρ _ =>
  (θ_run Cert.Reference4Ideal.defs _ _).mono (fun r h => ⟨fun c => (h c).2.2.2.2, sem_eq_zero_of_no_sems (by decide) r.2⟩) (reference_run m ρ)

section Equation

open Cert.Kernel4Ideal Cert.Kernel4Ideal.Gen Cert.Reference4Ideal.Read

variable (m : (ℓ : Loc nD τ sig) → Buf (Elt Ideal) ℓ) (c : Dev nD)

theorem grad_eq : (dats m 0 c).arrAt 5 cfg0.N = val_main_v55 (F := Ideal) (A0 m c) (A1 m c) (A2 m c) (A3 m c) (A4 m c) := by
  funext i
  obtain ⟨n, d, rfl⟩ : ∃ (n : Fin 4096) (d : Fin 1024), i = ix2 n d := ⟨_, _, ValueIdx.eq_ix2 i⟩
  exact (array5 m c n d).trans (v55_at _ _ _ _ _ n d).symm

theorem cast_eq' : (dats m 0 c).arrAt 6 cfg0.N = val_main_v56 (F := Ideal) (A0 m c) (A1 m c) (A2 m c) (A3 m c) (A4 m c) := by
  funext i
  obtain ⟨n, d, rfl⟩ : ∃ (n : Fin 4096) (d : Fin 1024), i = ix2 n d := ⟨_, _, ValueIdx.eq_ix2 i⟩
  exact (array6 m c n d).trans (v55_at _ _ _ _ _ n d).symm

theorem loss_eq : (dats m 0 c).arrAt 7 cfg0.N = val_main_v57 (F := Ideal) (A0 m c) (A1 m c) (A2 m c) (A3 m c) (A4 m c) := by
  funext i
  obtain ⟨u, v, rfl⟩ : ∃ (u : Fin 1) (v : Fin 1), i = ix2 u v := ⟨_, _, ValueIdx.eq_ix2 i⟩
  exact (array7 m c u v).trans (v57_at _ _ _ _ _ u v).symm

theorem scales_eq : (dats m 0 c).arrAt 8 cfg0.N = val_main_v58 (F := Ideal) (A0 m c) (A1 m c) (A2 m c) (A3 m c) (A4 m c) := by
  funext i
  obtain ⟨u, d, rfl⟩ : ∃ (u : Fin 1) (d : Fin 1024), i = ix2 u d := ⟨_, _, ValueIdx.eq_ix2 i⟩
  exact (array8 m c u d).trans (v58_at _ _ _ _ _ u d).symm

end Equation

/-- The kernel's four results and the reference's are the same extended reals. -/
theorem algebraic : Cert.algebraic_Kernel4Ideal_Reference4Ideal := by
  pair_intro
  · run_from Cert.Kernel4Ideal.Value.run_blocks m g
  · run_from reference_run m' g'
    · exact (grad_eq m c).symm
    · exact (cast_eq' m c).symm
    · exact (loss_eq m c).symm
    · exact (scales_eq m c).symm

end Cert.Loss

end
-- ==== Proof.UpProtocol.lean ====
/- The exchange the gradient of the up projection's weights carries along: each device of the pair holds a table of 704 rows, sends its
   own half of it (352 rows) to the same rows of the other device, and takes the other half from there. This module names the halves and
   the three semaphores, and states as a schedule what each of them is worth. -/
module

public import proofs.«01_k».proof.Proof.Gen.Kernel2Ideal.Launch
public import proofs.«01_k».proof.Proof.Gen.Kernel2Ideal.Points
public import proofs.«01_k».proof.Proof.Gen.Kernel2Ideal.Skeleton
public import Idealize.ShloMosaic.Lib.Rounds
public import Idealize.ShloMosaic.Lib.Tactic
public import Idealize.ShloMosaic.Lib.Pipeline.RegionTalk

@[expose] public section

noncomputable section

namespace Cert.Up

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

/-! ## The pair, its semaphores, the two halves of the table -/

/-- The other device of the pair. -/
def mate (c : Dev nD) : Dev nD := ⟨1 - c.val, lt_of_le_of_lt (Nat.sub_le 1 c.val) (by decide)⟩
theorem mate_mate (c : Dev nD) : mate (mate c) = c := by revert c; decide
def swap : Dev nD ≃ Dev nD := ⟨mate, mate, mate_mate, mate_mate⟩

/-- The device the kernel signals, and the one it copies to, are the other of the pair. -/
theorem signals_mate (c : Dev nD) (h : k0_dev1 c < nD) : (⟨k0_dev1 c, h⟩ : Dev nD) = mate c :=
  Fin.ext ((k0_dev1_eq c).trans (by revert c; decide))
theorem copies_mate (c : Dev nD) (h : k0_dev2 c < nD) : (⟨k0_dev2 c, h⟩ : Dev nD) = mate c :=
  Fin.ext ((k0_dev2_eq c).trans (by revert c; decide))

/-- Counts a device's own half having left; counts the other half having arrived. -/
abbrev sentSem : DmaSem sig := 5
abbrev gotSem : DmaSem sig := 6

abbrev barCell (c : Dev nD) : GSem nD τ sig := ((c : Thread nD τ), .reg barrier0)
abbrev sentCell (c : Dev nD) : GSem nD τ sig := ((c : Thread nD τ), .dma sentSem)
abbrev gotCell (c : Dev nD) : GSem nD τ sig := ((c : Thread nD τ), .dma gotSem)

/-- The two semaphores only this call uses. -/
abbrev ownSem : Fin 2 → SemLoc sig := fun | 0 => .dma sentSem | 1 => .dma gotSem

theorem half_inb (d : Dev nD) : ∀ a, (k0_off1 d) a + S352x1024.size a ≤ S704x1024.size a := by revert d; decide +kernel

/-- Device `d`'s half of a table: rows 352·d to 352·d + 351. -/
abbrev half (d : Dev nD) : Memref sig .tc .hbm S352x1024 .f32 :=
  (Memref.whole main_v1_1).slice (Rect.unit (s := S704x1024) (k0_off1 d) S352x1024.size (half_inb d)) (fun _ => rfl)

/-- What a copy of half a table credits. -/
abbrev credit : ℕ := (half 0).view.dmaCredit
theorem credit_pos : 0 < credit := View.dmaCredit_pos _ (by decide)
theorem credit_half (d : Dev nD) : (half d).view.dmaCredit = credit := rfl

/-- An element of the table lies in device `d`'s half when its row does. -/
theorem mem_half (d : Dev nD) (i : S704x1024.Idx) :
    i ∈ (half d).view.set ↔ 352 * d.val ≤ (i 0).val ∧ (i 0).val < 352 * d.val + 352 := by
  rw [show (half d).view.set = (Rect.unit (s := S704x1024) (k0_off1 d) S352x1024.size (half_inb d)).set from View.set_slice_whole _ _,
    Rect.mem_set_unit]
  constructor
  · intro h
    have h0 := h (0 : Fin 2)
    rw [k0_off1_eq] at h0
    exact h0
  · intro h a
    rw [k0_off1_eq]
    match a with
    | ⟨0, _⟩ => exact h
    | ⟨1, _⟩ => exact ⟨Nat.zero_le _, by simpa using (i (1 : Fin 2)).isLt⟩

theorem halves_disjoint (c : Dev nD) : Disjoint (half c).view.set (half (mate c)).view.set := by
  rw [Finset.disjoint_left]
  intro i hi hj
  rw [mem_half] at hi hj
  have hc := c.isLt
  have : (mate c).val = 1 - c.val := rfl
  omega

theorem halves_cover (c : Dev nD) : (half c).view.set ∪ (half (mate c)).view.set = Finset.univ := by
  refine Finset.eq_univ_iff_forall.mpr fun i => Finset.mem_union.mpr ?_
  rw [mem_half, mem_half]
  have hi : (i 0).val < 704 := (i 0).isLt
  have hc : c.val < 2 := c.isLt
  have : (mate c).val = 1 - c.val := rfl
  omega

/-! ## What the devices hold -/

/-- The library's copy of the round algebra and this protocol's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev EX : Emb (UR sig nD τ) (MT nD τ sig Unit (Elt F) ℕ UU ℕ) := embR

variable (m : (ℓ : Loc nD τ sig) → Buf (Elt F) ℓ)

/-- A device's memory at launch, and after the host's copy of the table. -/
abbrev V₀ (c : Dev nD) : Valuation τ sig (Elt F) := fun b => m ((c : Dev nD), b)
abbrev V₁ (c : Dev nD) : Valuation τ sig (Elt F) := StableHlo.after hostOps0 (V₀ m c)

abbrev table (c : Dev nD) : (main_v1_1 : Ref sig .tc).ty.Contents (Elt F) := V₁ m c main_v1_1

/-- Device `c`'s table with the other device's half taken over. -/
def exchanged (c : Dev nD) : (main_v1_1 : Ref sig .tc).ty.Contents (Elt F) :=
  (half (mate c)).view.write (Elt F) (table m c) ((half (mate c)).view.read (Elt F) (table m (mate c))) Finset.univ

/-- On device `c`, the rows of device `d`'s half, at `f`. -/
abbrev rows (c d : Dev nD) (f : (main_v1_1 : Ref sig .tc).ty.Contents (Elt F)) : sProp 𝕄 :=
  (half d).view.loc (c : Thread nD τ) ↦[(half d).view.set]{fullShare} f

/-! ## The schedule: one round, one duty on each of the three semaphores -/

/-- The signal on `c`'s barrier: the other device's rows of `c`'s half, and that its arrivals are being counted. -/
def barPay (c : Dev nD) : sProp 𝕄 := iprop(rows (mate c) c (table m (mate c)) ∗ reached EX (gotCell (mate c)) 0)
/-- The copy's arrival on `c`: the other half, at what the other device held there. -/
def gotPay (c : Dev nD) : sProp 𝕄 := rows c (mate c) (exchanged m c)
/-- The copy's departure from `c`: its own half back. -/
def sentPay (c : Dev nD) : sProp 𝕄 := rows c c (table m c)

abbrev IsExchange (g : GSem nD τ sig) : Prop :=
  g.1.2 = .tc ∧ (g.2 = .reg barrier0 ∨ g.2 = .dma sentSem ∨ g.2 = .dma gotSem)

def plan : Rounds.Schedule (GSem nD τ sig) Unit 𝕄 where
  duties g r := if r = 0 ∧ IsExchange g then {()} else ∅
  unitless _ := False
  amount g _ _ := if g.2 = .reg barrier0 then 1 else credit
  payload g _ _ :=
    if g.2 = .reg barrier0 then barPay m g.1.1
    else if g.2 = .dma gotSem then gotPay m g.1.1
    else if g.2 = .dma sentSem then sentPay m g.1.1
    else iprop(emp)
  amount_pos g _ _ _ := by
    by_cases h : g.2 = .reg barrier0
    · rw [if_pos h]; exact Nat.one_pos
    · rw [if_neg h]; exact credit_pos

instance plan_payload_storable (g : GSem nD τ sig) (r : ℕ) (d : Unit) :
    BI.Storable (upEmb : UEmb _ 𝕄) ((plan (F := F) m).payload g r d) := by
  show BI.Storable upEmb (if g.2 = .reg barrier0 then barPay m g.1.1 else if g.2 = .dma gotSem then gotPay m g.1.1
    else if g.2 = .dma sentSem then sentPay m g.1.1 else iprop(emp))
  unfold barPay gotPay sentPay
  (repeat' split) <;> infer_instance

section Plan

variable (c : Dev nD)

theorem sent_ne_bar : (SemLoc.dma sentSem : SemLoc sig) ≠ .reg barrier0 := fun h => by cases h
theorem got_ne_bar : (SemLoc.dma gotSem : SemLoc sig) ≠ .reg barrier0 := fun h => by cases h
theorem sent_ne_got : (SemLoc.dma sentSem : SemLoc sig) ≠ .dma gotSem := by decide

theorem duties_bar : (plan (F := F) m).duties (barCell c) 0 = {()} := by dsimp only [plan]; exact if_pos ⟨rfl, rfl, .inl rfl⟩
theorem duties_sent : (plan (F := F) m).duties (sentCell c) 0 = {()} := by dsimp only [plan]; exact if_pos ⟨rfl, rfl, .inr (.inl rfl)⟩
theorem duties_got : (plan (F := F) m).duties (gotCell c) 0 = {()} := by dsimp only [plan]; exact if_pos ⟨rfl, rfl, .inr (.inr rfl)⟩
theorem duties_later (g : GSem nD τ sig) : ∀ r, 1 ≤ r → (plan (F := F) m).duties g r = ∅ :=
  fun r hr => by dsimp only [plan]; exact if_neg fun h => by omega

theorem amount_bar (u : Unit) : (plan (F := F) m).amount (barCell c) 0 u = 1 := by dsimp only [plan]; exact if_pos rfl
theorem amount_sent (u : Unit) : (plan (F := F) m).amount (sentCell c) 0 u = credit := by dsimp only [plan]; exact if_neg sent_ne_bar
theorem amount_got (u : Unit) : (plan (F := F) m).amount (gotCell c) 0 u = credit := by dsimp only [plan]; exact if_neg got_ne_bar

theorem expect_bar : (plan (F := F) m).expect (barCell c) 0 = 1 := by
  unfold Schedule.expect Schedule.amountOf; rw [duties_bar, Finset.sum_singleton, amount_bar]
theorem expect_sent : (plan (F := F) m).expect (sentCell c) 0 = credit := by
  unfold Schedule.expect Schedule.amountOf; rw [duties_sent, Finset.sum_singleton, amount_sent]
theorem expect_got : (plan (F := F) m).expect (gotCell c) 0 = credit := by
  unfold Schedule.expect Schedule.amountOf; rw [duties_got, Finset.sum_singleton, amount_got]

theorem payload_bar (u : Unit) : (plan (F := F) m).payload (barCell c) 0 u = barPay m c := by dsimp only [plan]; exact if_pos rfl
theorem payload_got (u : Unit) : (plan (F := F) m).payload (gotCell c) 0 u = gotPay m c := by
  dsimp only [plan]; rw [if_neg got_ne_bar, if_pos rfl]
theorem payload_sent (u : Unit) : (plan (F := F) m).payload (sentCell c) 0 u = sentPay m c := by
  dsimp only [plan]; rw [if_neg sent_ne_bar, if_neg sent_ne_got, if_pos rfl]

theorem rest_bar : bigSep ((plan (F := F) m).duties (barCell c) 0 \ ∅) (fun u => (plan (F := F) m).payload (barCell c) 0 u) = barPay m c := by
  rw [Finset.sdiff_empty, duties_bar, bigSep_singleton, payload_bar]
theorem rest_sent : bigSep ((plan (F := F) m).duties (sentCell c) 0 \ ∅) (fun u => (plan (F := F) m).payload (sentCell c) 0 u) = sentPay m c := by
  rw [Finset.sdiff_empty, duties_sent, bigSep_singleton, payload_sent]
theorem rest_got : bigSep ((plan (F := F) m).duties (gotCell c) 0 \ ∅) (fun u => (plan (F := F) m).payload (gotCell c) 0 u) = gotPay m c := by
  rw [Finset.sdiff_empty, duties_got, bigSep_singleton, payload_got]

end Plan

/-! ## What a device owes, and in which order it may wait -/

/-- At launch a device owes the other one an arrival and a barrier unit. -/
def debt (c : Dev nD) : CellTallies nD τ sig Unit := tallyAt (gotCell (mate c)) () credit + tallyAt (barCell (mate c)) () 1

def L (g : GSem nD τ sig) : Finset Unit := if g.1.2 = .tc then {()} else ∅
/-- Barriers come before arrivals; everything else comes before both. -/
def lv (g : GSem nD τ sig) (_ : Unit) : ℕ := if g.2 = .reg barrier0 then 1 else if g.2 = .dma gotSem then 2 else 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by
  rw [L_tc]; exact Finset.mem_singleton_self _
theorem lv_bar (c : Dev nD) (u : Unit) : lv (barCell c) u = 1 := if_pos rfl
theorem lv_got (c : Dev nD) (u : Unit) : lv (gotCell c) u = 2 := (if_neg got_ne_bar).trans (if_pos rfl)

theorem tallyAt_cell {g g' : GSem nD τ sig} {u : Unit} {n : ℕ} (h : 0 < (tallyAt g' () n : CellTallies nD τ sig Unit) g u) : g = g' := by
  rw [tallyAt_apply] at h
  by_contra hne
  rw [if_neg fun hh => hne hh.1] at h
  exact absurd h (Nat.lt_irrefl 0)

theorem debt_cell {c : Dev nD} {g : GSem nD τ sig} {u : Unit} (h : 0 < debt c g u) : g = gotCell (mate c) ∨ g = barCell (mate c) := by
  unfold debt at h
  rw [Pi.add_apply, Finsupp.add_apply] at h
  exact (Nat.add_pos_iff_pos_or_pos.mp h).imp tallyAt_cell tallyAt_cell

/-- A device may wait on its barrier while it still owes the other one an arrival. -/
theorem mayWait_bar (c : Dev nD) :
    (levAts L lv : sProp 𝕄) ⊢ MayWait (c : Thread nD τ) (.reg barrier0) () (tallyAt (gotCell (mate c)) () credit) :=
  MayOwe.of_cut (L := L) (lev := lv) 1 (fun p hp => by rw [Finset.mem_singleton.mp hp]; exact mem_L ..)
    (fun g u hg => by rw [tallyAt_cell hg]; exact mem_L ..)
    (fun p hp => by rw [Finset.mem_singleton.mp hp]; exact (lv_bar c _).le)
    (fun g u hg => by rw [tallyAt_cell hg, lv_got]; decide)

/-! ## The ghost state, in its four stages -/

/-- The invariants device `c` opens: its own three, and the other device's barrier and arrivals. -/
def invs (K : GSem nD τ sig → ℕ) (c : Dev nD) : sProp 𝕄 :=
  iprop(cellInv EX (plan m) (K (barCell c)) (barCell c) ∗ cellInv EX (plan m) (K (sentCell c)) (sentCell c)
    ∗ cellInv EX (plan m) (K (gotCell c)) (gotCell c)
    ∗ cellInv EX (plan m) (K (barCell (mate c))) (barCell (mate c)) ∗ cellInv EX (plan m) (K (gotCell (mate c))) (gotCell (mate c)))

instance invs_persistent (K : GSem nD τ sig → ℕ) (c : Dev nD) : BI.Persistent (invs m K c) := by unfold invs; infer_instance

/-- From launch to the call: its place on its barrier, the rights to open the two semaphores of the call, the duties it will pay. -/
def ghost (K : GSem nD τ sig → ℕ) (c : Dev nD) : sProp 𝕄 :=
  iprop(invs m K c
    ∗ atPos EX (barCell c) 0 ∅ 0 ∗ openTok EX (sentCell c) ∗ openTok EX (gotCell c)
    ∗ reached EX (barCell (mate c)) 0
    ∗ dutyTok EX (barCell (mate c)) 0 () ∗ dutyTok EX (gotCell (mate c)) 0 () ∗ dutyTok EX (sentCell c) 0 ())

/-- The same once the call has opened its two semaphores. -/
def opened (K : GSem nD τ sig → ℕ) (c : Dev nD) : sProp 𝕄 :=
  iprop(invs m K c
    ∗ atPos EX (barCell c) 0 ∅ 0 ∗ atPos EX (sentCell c) 0 ∅ 0 ∗ atPos EX (gotCell c) 0 ∅ 0
    ∗ reached EX (barCell (mate c)) 0 ∗ reached EX (sentCell c) 0 ∗ reached EX (gotCell c) 0
    ∗ dutyTok EX (barCell (mate c)) 0 () ∗ dutyTok EX (gotCell (mate c)) 0 () ∗ dutyTok EX (sentCell c) 0 ())

/-- Before the first point: everything the exchange needs, and the table in two halves. -/
def before (c : Dev nD) : sProp 𝕄 :=
  iprop((∃ K, opened m K c) ∗ cred (tallyAt (barCell c) () 1) ∗ cred (tallyAt (gotCell c) () credit) ∗ levAts L lv
    ∗ rows c c (table m c) ∗ rows c (mate c) (table m c))

/-- Between the points: the barrier done with, the copy in flight, both halves of the table away. -/
def during (c : Dev nD) : sProp 𝕄 :=
  iprop((∃ K, invs m K c) ∗ semVal (barCell c) 0 ∗ atPos EX (sentCell c) 0 ∅ 0 ∗ atPos EX (gotCell c) 0 ∅ 0
    ∗ cred (tallyAt (sentCell c) () credit) ∗ cred (tallyAt (gotCell c) () credit))

/-- After the last point: the three counters at zero, the table exchanged. -/
def after (c : Dev nD) : sProp 𝕄 :=
  iprop(semVal (barCell c) 0 ∗ (semVal (sentCell c) 0 ∗ semVal (gotCell c) 0) ∗ rows c c (table m c) ∗ rows c (mate c) (exchanged m c))

theorem close (κ : ℕ) (g : GSem nD τ sig) :
    iprop(cellInv EX (plan m) κ g ∗ atPos EX g (0 + 1) ∅ 0) ⊢ (|={Set.univ}=> semVal g 0 : sProp 𝕄) :=
  Rounds.cell_close EX (plan m) (Set.mem_univ κ) id (duties_later m g)

end Cert.Up

end
-- ==== Proof.UpBody.lean ====
/- One grid point of the gradient of the up projection's weights: the first sends the device's half of the table, every point multiplies
   its two blocks, the last takes the other half. -/
module

public import proofs.«01_k».proof.Proof.UpProtocol
public import Idealize.ShloMosaic.Lib.KernelVsHost

@[expose] public section

set_option maxRecDepth 16384

noncomputable section

namespace Cert.Up

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ UU ℕ

variable (m : (ℓ : Loc nD τ sig) → Buf (Elt F) ℓ)

/-! ## Which points exchange -/

theorem sends_iff : ∀ t : Fin grid0.N, k0_cond1 (grid0.coords t) = 1#1 ↔ t.val = 0 := by decide +kernel
theorem takes_iff : ∀ t : Fin grid0.N, k0_cond2 (grid0.coords t) = 1#1 ↔ t.val = 3 := by decide +kernel

theorem origin2 : (![0, 0] : Fin 2 → Nat) = fun _ => 0 := funext fun a => by fin_cases a <;> rfl
theorem origin3 : (![0, 0, 0] : Fin 3 → Nat) = fun _ => 0 := funext fun a => by fin_cases a <;> rfl

/-- The copy of a device's half to the other one: it gives that device its arrival and, once gone, its own device the half back. -/
theorem send_half (c d : Dev nD) (e : d = mate c) (κ : GSem nD τ sig → ℕ) (W : Waits sig Unit)
    (k : PUnit → Prog (TpuEff nD τ sig (Elt F) Λ₀ .tc) PUnit) (K : PUnit → sProp 𝕄) :
    iprop(cellInv EX (plan m) (κ (sentCell c)) (sentCell c) ∗ cellInv EX (plan m) (κ (gotCell (mate c))) (gotCell (mate c))
        ∗ rows c c (table m c) ∗ rows (mate c) c (table m (mate c)) ∗ owes (c : Thread nD τ) (tallyAt (gotCell (mate c)) () credit) W
        ∗ dutyTok EX (sentCell c) 0 () ∗ reached EX (sentCell c) 0 ∗ dutyTok EX (gotCell (mate c)) 0 () ∗ reached EX (gotCell (mate c)) 0)
      ⊢ iprop((iprop(cred (tallyAt (sentCell c) () credit) ∗ owes (c : Thread nD τ) (0 : CellTallies nD τ sig Unit) W)
          -∗ wp frame (wpE (defs₀ (F := F)) Variants.none c none) Set.univ (k ⟨⟩) K)
        -∗ wp frame (wpE (defs₀ (F := F)) Variants.none c none) Set.univ
          (.op (.enqueueDma (half c) (.remote (Dev.tc d) (half c) (.dma sentSem)) (.dma gotSem) (View.wordExact_bits rfl) (View.wordExact_bits rfl) ⟨⟨rfl, Or.inl rfl⟩, trivial⟩) k) K) := by
  subst e
  iintro ⟨#HIsent, #HIgotM, Hown, Hrows, HO, HtS, #HrS, HtG, #HrGM⟩ Hk
  iapply (Rounds.wp_send_pointsTo Variants.none EX (plan m) (c : Thread nD τ) none (c' := (mate c : Thread nD τ)) (src := half c) (dst := half c)
      (sS := .dma sentSem) (sem := .dma gotSem) (q := fullShare) (fs := table m c) (κ₁ := κ (sentCell c)) (κ₂ := κ (gotCell (mate c)))
      (r₁ := 0) (r₂ := 0) (d₁ := ()) (d₂ := ()) (fd := table m (mate c))
      (by rw [duties_sent]; exact Finset.mem_singleton_self _) (by rw [duties_got]; exact Finset.mem_singleton_self _)
      () () credit rfl (amount_sent m c ()) (amount_got m (mate c) ()) 0 (by rw [zero_add]) (W := W)
      (by rw [payload_sent]; exact BI.Entails.refl _)
      (by rw [payload_got]; unfold gotPay exchanged rows; rw [mate_mate])) $$ [Hown Hrows HO HtS HtG]
  · iframe HIsent HIgotM Hown Hrows HO HtS HrS HtG HrGM
  iexact Hk

/-- The rows of a table from an offset on, as many as half of it. -/
abbrev rowsAt (off : Fin 2 → Nat) (h : ∀ a, off a + S352x1024.size a ≤ S704x1024.size a) : Memref sig .tc .hbm S352x1024 .f32 :=
  (Memref.whole main_v1_1).slice (Rect.unit (s := S704x1024) off S352x1024.size h) (fun _ => rfl)

theorem credit_rowsAt (off : Fin 2 → Nat) (h : ∀ a, off a + S352x1024.size a ≤ S704x1024.size a) : (rowsAt off h).view.dmaCredit = credit := rfl

/-- A wait for a whole half, by the semaphore `s` of device `c`: what was to be paid there comes with it. -/
theorem wait_half (c : Dev nD) (s : DmaSem sig) (off off' : Fin 2 → Nat) (h h')
    (he : (plan (F := F) m).expect ((c : Thread nD τ), .dma s) 0 = credit) (κ : ℕ) (W : Waits sig Unit)
    (k : PUnit → Prog (TpuEff nD τ sig (Elt F) Λ₀ .tc) PUnit) (K : PUnit → sProp 𝕄) :
    iprop(cellInv EX (plan m) κ ((c : Thread nD τ), .dma s) ∗ cred (tallyAt ((c : Thread nD τ), .dma s) () credit)
        ∗ owes (c : Thread nD τ) (0 : CellTallies nD τ sig Unit) W ∗ atPos EX ((c : Thread nD τ), .dma s) 0 ∅ 0)
      ⊢ iprop((iprop(owes (c : Thread nD τ) (0 : CellTallies nD τ sig Unit) (insert (SemLoc.dma s, ()) W) ∗ atPos EX ((c : Thread nD τ), .dma s) (0 + 1) ∅ 0
            ∗ bigSep ((plan (F := F) m).duties ((c : Thread nD τ), .dma s) 0 \ ∅) (fun u => (plan (F := F) m).payload ((c : Thread nD τ), .dma s) 0 u))
          -∗ wp frame (wpE (defs₀ (F := F)) Variants.none c none) Set.univ (k ⟨⟩) K)
        -∗ wp frame (wpE (defs₀ (F := F)) Variants.none c none) Set.univ
          (.op (.waitDma2 s (rowsAt off h) (rowsAt off' h') (View.wordExact_bits rfl) (View.wordExact_bits rfl)) k) K) := by
  rw [← credit_rowsAt off' h'] at he ⊢
  iintro ⟨#HI, Hc, HO, Hat⟩ Hk
  iapply (Rounds.wp_wait_rest_token Variants.none EX (plan m) (c : Thread nD τ) none (κ := κ)
      (wpE_waitDma2_eq Variants.none (c : Thread nD τ) none Set.univ) (Set.mem_univ _) () (O := 0) (W := W) (R := 0) (m := 0) (T := ∅)
      ((Nat.zero_add _).trans he.symm)) $$ [Hc HO Hat]
  · iframe HI Hc HO
    isplitr; · rw [MayWait_zero]; iempintro
    iexact Hat
  iintro ⟨HO, Hat, -, Hpay⟩
  iapply Hk
  iframe

section Point

variable (c : Dev nD) (i : grid0.Coords)
    (a3 : Memref sig .tc .vmem S4096x1024 .bf16) (h3 : a3.IsWhole) (a4 : Memref sig .tc .vmem S1x4096x1408 .bf16) (h4 : a4.IsWhole)
    (a6 : Memref sig .tc .vmem S1x1024x1408 .bf16) (h6 : a6.IsWhole)
    (x0 : Vec F S4096x1024 .bf16) (x1 : Vec F S1x4096x1408 .bf16)

/-- The two blocks of a point, and room for its product. -/
abbrev blocksIn : sProp 𝕄 := iprop(owns (c : Thread nD τ) a3 fullShare x0 ∗ owns (c : Thread nD τ) a4 fullShare x1 ∗ ∃ d, owns (c : Thread nD τ) a6 fullShare d)
/-- The two blocks, and their product. -/
abbrev blocksOut : sProp 𝕄 := iprop(owns (c : Thread nD τ) a3 fullShare x0 ∗ owns (c : Thread nD τ) a4 fullShare x1 ∗ owns (c : Thread nD τ) a6 fullShare (k0_pay1 x0 x1))

/-- The call's body at any point. -/
abbrev body : Prog (TpuEff nD τ sig (Elt F) Λ₀ .tc) PUnit :=
  cc0_wgrad_up i a3 h3 a4 h4 (Memref.whole main_v1_1) (Memref.isWhole_whole _) a6 h6 (Memref.whole main_v1_1) (Memref.isWhole_whole _) cc0_scratch0 cc0_scratch1

/-- The one store of a point covers its block: what it leaves is the product. -/
theorem product_left (f : a6.view.ty.Contents (Elt F)) :
    a6.view.read (Elt F) (a6.view.writes (Elt F) f
        [⟨Rect.unit ![0, 0, 0] S1x1024x1408.size inb_S1x1024x1408_S1x1024x1408_0_0_0,
            k0_pay1
              (View.readAt (Elt F) a3.view (Rect.unit ![0, 0] S4096x1024.size inb_S4096x1024_S4096x1024_0_0).toLoadRect (h3.unread x0))
              (View.readAt (Elt F) a4.view (Rect.unit ![0, 0, 0] S1x4096x1408.size inb_S1x4096x1408_S1x4096x1408_0_0_0).toLoadRect (h4.unread x1))⟩])
      = k0_pay1 x0 x1 := by
  rw [View.read_writes_eq_canon _ _ _ fun y => ⟨_, List.mem_singleton_self _, View.mem_set_unit_zero origin3 inb_S1x1024x1408_S1x1024x1408_0_0_0 y⟩, View.canon_unit_zero origin3]
  simp only [View.readAt_eq_ld, h3.read_unread, h4.read_unread,
    View.ld_unit_zero (S := S4096x1024) origin2, View.ld_unit_zero (S := S1x4096x1408) origin3]

/-- The loads, the product and the store of a point, before whatever follows. -/
def multiply (k : PUnit → Prog (TpuEff nD τ sig (Elt F) Λ₀ .tc) PUnit) : Prog (TpuEff nD τ sig (Elt F) Λ₀ .tc) PUnit :=
  .op (.load a3 (Rect.unit (s := S4096x1024) ![0, 0] S4096x1024.size inb_S4096x1024_S4096x1024_0_0).toLoadRect (View.loadsAt_vmem h_S4096x1024)) fun (v12 : Vec F S4096x1024 .bf16) =>
  .op (.load a4 (Rect.unit (s := S1x4096x1408) ![0, 0, 0] S1x4096x1408.size inb_S1x4096x1408_S1x4096x1408_0_0_0).toLoadRect (View.loadsAt_vmem h_S1x4096x1408)) fun (v14 : Vec F S1x4096x1408 .bf16) =>
  .op (.load a6 (Rect.unit (s := S1x1024x1408) ![0, 0, 0] S1x1024x1408.size inb_S1x1024x1408_S1x1024x1408_0_0_0).toLoadRect (View.loadsAt_vmem h_S1x1024x1408)) fun (_ : Vec F S1x1024x1408 .bf16) =>
  .op (.store a6 (Rect.unit (s := S1x1024x1408) ![0, 0, 0] S1x1024x1408.size inb_S1x1024x1408_S1x1024x1408_0_0_0) (k0_pay1 v12 v14) Finset.univ
    (View.stores_vmem h_S1x1024x1408 (h6.storeExact_slice rfl _ packedbf16_S1x1024x1408_S1x1024x1408_0_0_0) (fun _ => rfl)) (.inl rfl)) k

include h3 h4 in
set_option maxHeartbeats 1000000 in
theorem multiply_run (k : PUnit → Prog (TpuEff nD τ sig (Elt F) Λ₀ .tc) PUnit) (K : PUnit → sProp 𝕄) :
    iprop(blocksIn c a3 a4 a6 x0 x1 ∗ (blocksOut c a3 a4 a6 x0 x1 -∗ wp frame (wpE (defs₀ (F := F)) Variants.none c none) Set.univ (k ⟨⟩) K))
      ⊢ wp frame (wpE (defs₀ (F := F)) Variants.none c none) Set.univ (multiply a3 a4 a6 h6 k) K := by
  unfold multiply blocksIn blocksOut owns
  iintro ⟨⟨⟨%f0, %hf0, H0⟩, ⟨%f1, %hf1, H1⟩, ⟨%d2, %f2, -, H2⟩⟩, Hk⟩
  obtain rfl := h3.eq_unread hf0; obtain rfl := h4.eq_unread hf1
  sl_step
  sl_step
  sl_step
  sl_step
  iapply Hk
  isplitl [H0]
  · iexists _; isplitr; · ipureintro; exact h3.read_unread _
    iexact H0
  isplitl [H1]
  · iexists _; isplitr; · ipureintro; exact h4.read_unread _
    iexact H1
  iexists _; isplitr
  swap; · iexact H2
  ipureintro
  exact product_left a3 h3 a4 h4 a6 x0 x1 f2

/-- A point that exchanges nothing. -/
theorem middle_run (hs : k0_cond1 i ≠ 1#1) (ht : k0_cond2 i ≠ 1#1) (K : PUnit → sProp 𝕄) :
    iprop(blocksIn c a3 a4 a6 x0 x1 ∗ (blocksOut c a3 a4 a6 x0 x1 -∗ K ⟨⟩))
      ⊢ wp frame (wpE (defs₀ (F := F)) Variants.none c none) Set.univ (body (F := F) i a3 h3 a4 h4 a6 h6) K := by
  unfold body
  simp only [cc0_wgrad_up_eq_skeleton]; unfold cc0_wgrad_up_skel
  rw [dif_neg hs, dif_neg ht]
  refine BIBase.Entails.trans ?_ (multiply_run c a3 h3 a4 h4 a6 h6 x0 x1 (fun _ => .ret ⟨⟩) K)
  rw [wp_ret]
  iintro ⟨Hin, Hk⟩
  iframe Hin
  iintro Hout
  imodintro
  iapply Hk; iexact Hout

/-- What a device holds when its first point begins, with what it owes, -/
abbrev sendPre (W : Waits sig Unit) : sProp 𝕄 := iprop(before m c ∗ owes (c : Thread nD τ) (debt c) W)
/-- and once its half is on its way. -/
abbrev sendPost : sProp 𝕄 := iprop(during m c ∗ ∃ W, owes (c : Thread nD τ) (0 : CellTallies nD τ sig Unit) W)

set_option maxHeartbeats 1000000 in
/-- The first point: signal the other device, wait for its signal, send the half, multiply. -/
theorem first_run (hs : k0_cond1 i = 1#1) (ht : k0_cond2 i ≠ 1#1) (W : Waits sig Unit) (K : PUnit → sProp 𝕄) :
    iprop(sendPre m c W ∗ blocksIn c a3 a4 a6 x0 x1 ∗ (iprop(sendPost m c ∗ blocksOut c a3 a4 a6 x0 x1) -∗ K ⟨⟩))
      ⊢ wp frame (wpE (defs₀ (F := F)) Variants.none c none) Set.univ (body (F := F) i a3 h3 a4 h4 a6 h6) K := by
  unfold body
  simp only [cc0_wgrad_up_eq_skeleton]; unfold cc0_wgrad_up_skel
  rw [dif_pos hs]
  simp only [k0_part1_eq_skeleton]; unfold k0_part1_skel
  rw [dif_neg ht]
  simp only [Prog.lift, semSignalWord, semWaitWord, Prog.bind_op, Prog.bind_ret, Prog.pure_eq_ret, wp_deviceId, signals_mate, copies_mate]
  unfold sendPre sendPost before opened invs
  iintro ⟨⟨⟨⟨%κ, ⟨#HIbar, #HIsent, #HIgot, #HIbarM, #HIgotM⟩, HatB, HatS, HatG, #HrM, #HrS, #HrG, HtM, HtG, HtS⟩, HcB, HcG, #Hlev, Hown, Hoth⟩, HO⟩, Hin, Hk⟩
  -- the signal: the other device gets this one's rows of its half, and that arrivals are counted here
  iapply (Rounds.wp_signal Variants.none EX (plan m) (c : Thread nD τ) none (dst := (mate c : Thread nD τ)) (sem := barrier0) (r := 0) (d := ()) (κ := κ (barCell (mate c)))
      (by rw [duties_bar]; exact Finset.mem_singleton_self _) (amount_bar m (mate c) ()) () (tallyAt (gotCell (mate c)) () credit) rfl)
    $$ [HO HtM Hoth]
  · iframe HIbarM HO HtM
    isplitl [Hoth]
    · rw [payload_bar]; unfold barPay; rw [mate_mate]
      iframe Hoth HrG
    · iexact HrM
  iintro HO
  -- the wait on the barrier: the other device's rows of this one's half come with the unit
  iapply (Rounds.wp_wait_rest_token Variants.none EX (plan m) (c : Thread nD τ) none (κ := κ (barCell c))
      (wpE_semWait_eq Variants.none (c : Thread nD τ) none Set.univ) (Set.mem_univ _) () (O := tallyAt (gotCell (mate c)) () credit) (W := W) (R := 0) (m := 0) (T := ∅)
      ((Nat.zero_add 1).trans (expect_bar m c).symm)) $$ [HcB HO HatB]
  · iframe HIbar HcB HO
    isplitr; · iapply (mayWait_bar c); iexact Hlev
    iexact HatB
  iintro ⟨HO, HatB, -, Hpay⟩
  ihave Hp := (Entails.of_eq (rest_bar m c)) $$ Hpay
  unfold barPay
  icases Hp with ⟨Hrows, #HrGM⟩
  -- the copy: it gives the other device its arrival, and back here, once gone, the half it read
  iapply (send_half m c _ (copies_mate c _) κ (insert (SemLoc.reg barrier0, ()) W)) $$ [Hown Hrows HO HtS HtG]
  · iframe HIsent HIgotM Hown Hrows HO HtS HrS HtG HrGM
  iintro ⟨HcS, HO⟩
  imod (close m (κ (barCell c)) (barCell c)) $$ [HatB] with Hb0
  · iframe HIbar HatB
  iapply (multiply_run c a3 h3 a4 h4 a6 h6 x0 x1 (fun _ => .ret ⟨⟩) K)
  iframe Hin
  iintro Hout
  rw [wp_ret]
  imodintro
  iapply Hk
  isplitr [Hout]
  · isplitr [HO]
    · unfold during
      isplitr; · iexists κ; unfold invs; isplitr; · iexact HIbar
                 iframe HIsent HIgot HIbarM HIgotM
      iframe
    iexists _; iexact HO
  iexact Hout

set_option maxHeartbeats 1000000 in
/-- The last point: multiply, wait for the half sent and for the half due, and both semaphores are done with. -/
theorem last_run (hs : k0_cond1 i ≠ 1#1) (ht : k0_cond2 i = 1#1) (W : Waits sig Unit) (K : PUnit → sProp 𝕄) :
    iprop(iprop(during m c ∗ owes (c : Thread nD τ) (0 : CellTallies nD τ sig Unit) W) ∗ blocksIn c a3 a4 a6 x0 x1
        ∗ (iprop(iprop(after m c ∗ ∃ W, owes (c : Thread nD τ) (0 : CellTallies nD τ sig Unit) W) ∗ blocksOut c a3 a4 a6 x0 x1) -∗ K ⟨⟩))
      ⊢ wp frame (wpE (defs₀ (F := F)) Variants.none c none) Set.univ (body (F := F) i a3 h3 a4 h4 a6 h6) K := by
  unfold body
  simp only [cc0_wgrad_up_eq_skeleton]; unfold cc0_wgrad_up_skel
  rw [dif_neg hs, dif_pos ht]
  simp only [Prog.lift, Prog.bind_op, Prog.bind_ret, Prog.pure_eq_ret]
  iintro ⟨⟨Hd, HO⟩, Hin, Hk⟩
  iapply (multiply_run c a3 h3 a4 h4 a6 h6 x0 x1 _ K)
  iframe Hin
  iintro Hout
  rw [wp_deviceId]
  unfold during invs
  icases Hd with ⟨⟨%κ, ⟨#HIbar, #HIsent, #HIgot, #HIbarM, #HIgotM⟩⟩, Hb0, HatS, HatG, HcS, HcG⟩
  iapply (wait_half m c sentSem _ _ _ _ (expect_sent m c) (κ (sentCell c)) W) $$ [HcS HO HatS]
  · iframe # ∗
  iintro ⟨HO, HatS, Hpay⟩
  ihave Hown := (Entails.of_eq ((rest_sent m c).trans (by unfold sentPay; rfl))) $$ Hpay
  iapply (wait_half m c gotSem _ _ _ _ (expect_got m c) (κ (gotCell c)) _) $$ [HcG HO HatG]
  · iframe # ∗
  iintro ⟨HO, HatG, Hpay⟩
  ihave Hoth := (Entails.of_eq ((rest_got m c).trans (by unfold gotPay; rfl))) $$ Hpay
  rw [wp_ret]
  imod (close m (κ (sentCell c)) (sentCell c)) $$ [HatS] with Hs0
  · iframe HIsent HatS
  imod (close m (κ (gotCell c)) (gotCell c)) $$ [HatG] with Hg0
  · iframe HIgot HatG
  imodintro
  iapply Hk
  isplitr [Hout]
  · isplitr [HO]
    · unfold after
      iframe Hb0
      isplitl [Hs0 Hg0]; · iframe
      iframe
    iexists _; iexact HO
  iexact Hout
end Point

end Cert.Up

end
-- ==== Proof.UpRegion.lean ====
/- The call as a whole, for the gradient of the up projection's weights: what each grid point finds and leaves, and what the call makes of
   the memory it is entered with. -/
module

public import proofs.«01_k».proof.Proof.UpBody
public import Idealize.ShloMosaic.Lib.Pipeline.FrameBody
public import Idealize.ShloMosaic.Lib.Pipeline.Frame

@[expose] public section

set_option maxRecDepth 16384

noncomputable section

namespace Cert.Up

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel2Ideal Cert.Kernel2Ideal.Gen

variable {F : FTy → Type} [FloatOps F]

local notation "𝕄" => MT nD τ sig Unit (Elt F) ℕ UU ℕ

variable (m : (ℓ : Loc nD τ sig) → Buf (Elt F) ℓ)

/-! ## What a point finds and leaves -/

/-- Window `w`'s block at point `t`, read out of the array the call is entered with. -/
def iblk (c : Dev nD) (w : Fin cfg0.W) (t : Fin cfg0.N) : ((cfg0.win w).xblock (cfg0.grid.coords t)).Idx → Elt F (cfg0.win w).elt :=
  ((cfg0.win w).blk t).view.read (Elt F) (V₁ m c (Pipeline.arrRef spec0 w))

/-- Where the exchange stands before the first point, between points and after the last. -/
def stage (c : Dev nD) (n : ℕ) : sProp 𝕄 := if n = 0 then before m c else if n = 4 then after m c else during m c

theorem stage_start (c : Dev nD) : stage m c 0 = before m c := if_pos rfl
theorem stage_end (c : Dev nD) : stage m c 4 = after m c := (if_neg (by decide)).trans (if_pos rfl)
theorem stage_mid (c : Dev nD) (n : ℕ) (h0 : n ≠ 0) (h4 : n ≠ 4) : stage m c n = during m c := (if_neg h0).trans (if_neg h4)

def dat (c : Dev nD) : Dat τ (Elt F) Unit ℕ UU ℕ cfg0 c where
  A w := V₁ m c (Pipeline.arrRef spec0 w)
  after w t := match w with
    | ⟨0, _⟩ => iblk m c 0 t
    | ⟨1, _⟩ => iblk m c 1 t
    | ⟨2, _⟩ => k0_pay1 (iblk m c 0 t) (iblk m c 1 t)
  Φ t := iprop(stage m c t.val ∗ ∃ r, prngReg c r)
  q _ := fullShare
  owed t := if t.val = 0 then debt c else 0

theorem A_eq (c : Dev nD) (w : Fin cfg0.W) : (dat m c).A w = V₁ m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = k0_pay1 (iblk m c 0 t) (iblk m c 1 t) := by dsimp only [dat]

theorem before_0 (c : Dev nD) (t : Fin cfg0.N) (d) : (dat m c).before 0 t d = iblk m c 0 t :=
  ((dat m c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dat m c).before 1 t d = iblk m c 1 t :=
  ((dat m c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)

theorem owed_start (c : Dev nD) (t : Fin (cfg0.N + 1)) (h : t.val = 0) : (dat m c).owed t = debt c := by dsimp only [dat]; exact if_pos h
theorem owed_after (c : Dev nD) (t : Fin (cfg0.N + 1)) (h : t.val ≠ 0) : (dat m c).owed t = 0 := by dsimp only [dat]; exact if_neg h

theorem owesAt_intro (c : Dev nD) (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound
  rw [h, show (dat m c).recorded t = Set.univ from rfl]
  iintro HO; iexists W; isplitr; · ipureintro; exact fun _ _ => Or.inl trivial
  iexact HO
theorem owesAt_elim (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-! ## Every point does what it should -/

def pointPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d)))
def pointPost (c : Dev nD) (t : Fin cfg0.N) : sProp 𝕄 :=
  iprop((dat m c).Φ t.succ ∗ (dat m c).owesAt () t.succ
    ∗ (dat m c).leavesExact 0 t ∗ (dat m c).leavesExact 1 t ∗ (dat m c).leavesExact 2 t)

theorem leaves_0 (c : Dev nD) (t : Fin cfg0.N) :
    (dat m c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) :
    (dat m c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) :
    (dat m c).leavesExact 2 t = owns (c : Thread nD τ) (st0_2 t) fullShare (k0_pay1 (iblk m c 0 t) (iblk m c 1 t)) := by
  unfold Dat.leavesExact; rw [show cfg0.idle 2 (grid0.coords t) = false from rfl, after_2]

theorem sound_point (c : Dev nD) (t : Fin cfg0.N) :
    pointPre m c t ⊢ wp frame (wpE (defs₀ (F := F)) Variants.none c none) Set.univ (bodyAt0 t) (fun _ => pointPost m c t) := by
  unfold pointPre pointPost
  rw [leaves_0, leaves_1, leaves_2, show (dat m c).Φ t.castSucc = iprop(stage m c t.val ∗ ∃ r, prngReg c r) from rfl,
    show (dat m c).Φ t.succ = iprop(stage m c (t.val + 1) ∗ ∃ r, prngReg c r) from rfl]
  simp only [before_0, before_1]
  have hN : t.val < 4 := lt_of_lt_of_eq t.isLt N_0
  iintro ⟨⟨Hs, Hp⟩, HO, ⟨%d0, H0⟩, ⟨%d1, H1⟩, ⟨%d2, H2⟩⟩
  by_cases h0 : t.val = 0
  · ihave HO' := (owesAt_elim m c t.castSucc (debt c) (owed_start m c _ h0)) $$ HO
    icases HO' with ⟨%W, HO⟩
    iapply (first_run m c (grid0.coords t) _ _ _ _ _ _ (iblk m c 0 t) (iblk m c 1 t) ((sends_iff t).mpr h0)
      (fun h => by have := (takes_iff t).mp h; omega) W _)
    isplitl [Hs HO]
    · unfold sendPre
      isplitl [Hs]; · iapply (Entails.of_eq ((congrArg (stage m c) h0).trans (stage_start m c))); iexact Hs
      iexact HO
    isplitl [H0 H1 H2]
    · iframe H0 H1
      iexists _; iexact H2
    unfold sendPost
    iintro ⟨⟨Hd, ⟨%W', HO⟩⟩, H0, H1, H2⟩
    isplitl [Hd Hp]
    · isplitl [Hd]; · iapply (Entails.of_eq (stage_mid m c (t.val + 1) (by omega) (by omega)).symm); iexact Hd
      iexact Hp
    isplitl [HO]; · iapply (owesAt_intro m c t.succ 0 (owed_after m c _ (Nat.succ_ne_zero _)) W'); iexact HO
    iframe
  · ihave HO' := (owesAt_elim m c t.castSucc 0 (owed_after m c _ h0)) $$ HO
    icases HO' with ⟨%W, HO⟩
    by_cases h3 : t.val = 3
    · iapply (last_run m c (grid0.coords t) _ _ _ _ _ _ (iblk m c 0 t) (iblk m c 1 t) (fun h => h0 ((sends_iff t).mp h))
        ((takes_iff t).mpr h3) W _)
      isplitl [Hs HO]
      · isplitl [Hs]; · iapply (Entails.of_eq (stage_mid m c t.val h0 (by omega))); iexact Hs
        iexact HO
      isplitl [H0 H1 H2]
      · iframe H0 H1
        iexists _; iexact H2
      iintro ⟨⟨Ha, ⟨%W', HO⟩⟩, H0, H1, H2⟩
      isplitl [Ha Hp]
      · isplitl [Ha]; · iapply (Entails.of_eq ((congrArg (fun n => stage m c (n + 1)) h3).trans (stage_end m c)).symm); iexact Ha
        iexact Hp
      isplitl [HO]; · iapply (owesAt_intro m c t.succ 0 (owed_after m c _ (Nat.succ_ne_zero _)) W'); iexact HO
      iframe
    · iapply (middle_run c (grid0.coords t) _ _ _ _ _ _ (iblk m c 0 t) (iblk m c 1 t) (fun h => h0 ((sends_iff t).mp h))
        (fun h => h3 ((takes_iff t).mp h)) _)
      isplitl [H0 H1 H2]
      · iframe H0 H1
        iexists _; iexact H2
      iintro ⟨H0, H1, H2⟩
      isplitl [Hs Hp]
      · isplitl [Hs]
        · iapply (Entails.of_eq ((stage_mid m c t.val h0 (by omega)).trans (stage_mid m c (t.val + 1) (by omega) (by omega)).symm)); iexact Hs
        iexact Hp
      isplitl [HO]; · iapply (owesAt_intro m c t.succ 0 (owed_after m c _ (Nat.succ_ne_zero _)) W); iexact HO
      iframe

theorem defs₀_row (t : Fin cfg0.N) : defs₀ (F := F) .tc cfg0.body (cfg0.bodyArgs t (cfg0.slots t)) = bodyAt0 t := by
  unfold defs₀; rw [Defs.onTc_tc]

theorem sound_body (c : Dev nD) : BodyObligation (dat m c) (defs₀ (F := F)) Variants.none () Set.univ := fun t => by
  rw [bigSep_W0, bigSep_W0, defs₀_row]
  exact triple_restated (sound_point m c t) rfl .rfl fun _ => .rfl

/-! ## The memory the call leaves -/

abbrev adm : (p : Fin 1) → (pcfgs (F := F) p).Adm := fun p => (cfgs p).toPCfg_adm
def dats : (p : Fin 1) → (c : Dev nD) → Dat τ (Elt F) Unit ℕ UU ℕ (Pipeline.pin (pcfgs (F := F)) adm p) c
  | 0 => dat m

/-- Entered with a device's memory `V₁`, the call leaves the blocks written back and the table exchanged. -/
abbrev V₂ (c : Dev nD) : Valuation τ sig (Elt F) :=
  Function.update (Function.update (V₁ m c) (Proc.devRef .tc main_v1_1) (exchanged m c))
    (Proc.devRef .tc main_v1_0) ((dat m c).arrAt 2 cfg0.N)

theorem V₂_table (c : Dev nD) : V₂ m c main_v1_1 = exchanged m c :=
  (Function.update_of_ne (by decide) ..).trans (Function.update_self ..)
theorem V₂_blocks (c : Dev nD) : V₂ m c main_v1_0 = (dat m c).arrAt 2 cfg0.N := Function.update_self ..
theorem V₂_arg0 (c : Dev nD) : V₂ m c main_arg0 = V₁ m c main_arg0 :=
  (Function.update_of_ne (by decide) ..).trans (Function.update_of_ne (by decide) ..)
theorem V₂_arg1 (c : Dev nD) : V₂ m c main_arg1 = V₁ m c main_arg1 :=
  (Function.update_of_ne (by decide) ..).trans (Function.update_of_ne (by decide) ..)
theorem V₂_arg2 (c : Dev nD) : V₂ m c main_arg2 = V₁ m c main_arg2 :=
  (Function.update_of_ne (by decide) ..).trans (Function.update_of_ne (by decide) ..)

/-- The host copies the table and touches nothing else. -/
theorem V₁_ne (c : Dev nD) (b : Ref sig .tc) (h : b ≠ main_v1_1) : V₁ m c b = m ((c : Dev nD), Proc.devRef .tc b) := by
  show StableHlo.after [StableHlo.unary main_arg2 main_v1_1 id] (V₀ m c) (Proc.devRef .tc b) = _
  rw [StableHlo.after_cons, StableHlo.after_nil, StableHlo.unary_result_ne main_arg2 main_v1_1 id _ _ _ h]
theorem V₁_table (c : Dev nD) : V₁ m c main_v1_1 = m ((c : Dev nD), Proc.devRef .tc main_arg2) := by
  show StableHlo.after [StableHlo.unary main_arg2 main_v1_1 id] (V₀ m c) (Proc.devRef .tc main_v1_1) = _
  rw [StableHlo.after_cons, StableHlo.after_nil, StableHlo.unary_result]
  rfl

/-- A table is its two halves. -/
theorem table_split (c : Dev nD) (f : (main_v1_1 : Ref sig .tc).ty.Contents (Elt F)) :
    (((c : Thread nD τ).loc main_v1_1 ↦{fullShare} f) : sProp 𝕄) ⊣⊢ iprop(rows c c f ∗ rows c (mate c) f) := by
  have h := pointsTo_union (Ix := Unit) (Name := ℕ) (U := UU) (Lvl := ℕ) (ℓ := (c : Thread nD τ).loc main_v1_1) (q := fullShare) (f := f) (halves_disjoint c)
  rw [halves_cover c] at h
  exact h

theorem exchanged_own (c : Dev nD) (i : S704x1024.Idx) (hi : i ∈ (half c).view.set) : exchanged m c i = table m c i :=
  View.write_of_not_mem (v := (half (mate c)).view) (Val := Elt F) (table m c) ((half (mate c)).view.read (Elt F) (table m (mate c))) Finset.univ
    (i := i) fun h => Finset.disjoint_left.mp (halves_disjoint c) hi h

/-- A device's own half of the exchanged table is its own half of the table. -/
theorem own_half (c : Dev nD) : (rows c c (table m c) : sProp 𝕄) = rows c c (exchanged m c) :=
  pointsTo_congr fun i hi => (exchanged_own m c i hi).symm

end Cert.Up

end
-- ==== Proof.Families.lean ====
/- Resources given device by device: two per device are two families, and one set aside on device 0 is one resource. -/
module

public import proofs.«01_k».proof.Proof.Gen.Kernel2Ideal.Launch

@[expose] public section

noncomputable section

namespace Cert

open Idealize.ShloMosaic Idealize.SL Idealize.SL.RA Idealize.SL.BI Idealize.SL.BI.BIBase Idealize.SL.BI.Laws
open scoped Idealize.SL.BI

variable {M I : Type} [URA M] [Fintype I] [DecidableEq I]

/-- A resource of two parts per device is two resources per device. -/
theorem split_families {Φ Ψ : I → sProp M} :
    (bigSep Finset.univ fun c => iprop(Φ c ∗ Ψ c)) ⊢ iprop(bigSep Finset.univ Φ ∗ bigSep Finset.univ Ψ) := Entails.of_eq (bigSep_sep _ _ _)
theorem join_families {Φ Ψ : I → sProp M} :
    iprop(bigSep Finset.univ Φ ∗ bigSep Finset.univ Ψ) ⊢ bigSep Finset.univ fun c => iprop(Φ c ∗ Ψ c) := Entails.of_eq (bigSep_sep _ _ _).symm

/-- A resource on one device and nothing on the others. -/
theorem one_aside (d : I) (P : sProp M) : (bigSep Finset.univ fun c : I => if c = d then P else iprop(emp)) = P := by
  rw [bigSep_univ_at _ d, bigSep_congr (s := Finset.univ.erase d) (Ψ := fun _ => (BI.emp : sProp M))
      fun c hc => by rw [if_neg (Finset.ne_of_mem_erase hc)]; rfl, BI.bigSep_emp_const, if_pos rfl]
  exact BI.equiv_iff.mp sep_emp

end Cert

end
-- ==== Proof.UpRun.lean ====
/- The run of the gradient of the up projection's weights on the two devices of a pair: the launch deals out what the exchange needs, the
   host copies the table, the call runs, and every execution ends with the blocks written back and the tables exchanged. -/
module

public import proofs.«01_k».proof.Proof.UpRegion
public import Idealize.ShloMosaic.Lib.Pipeline.Regions
public import Idealize.ShloMosaic.Lib.Pipeline.RegionTalk
public import proofs.«01_k».proof.Proof.Families

@[expose] public section

set_option maxRecDepth 16384

noncomputable section

namespace Cert.Up

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel2Ideal Cert.Kernel2Ideal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The buffers the call finds beside its arrays -/

/-- The table the host was given, and its copy; the call addresses the copy itself. -/
abbrev besideArrays : Finset (DevRef τ sig) := {Proc.devRef .tc main_arg2, Proc.devRef .tc main_v1_1}
abbrev addressed : Finset (DevRef τ sig) := {Proc.devRef .tc main_v1_1}
abbrev allBufs : Finset (DevRef τ sig) := Pipeline.ucRefs τ sig

theorem held_addressed (c : Dev nD) (W : Valuation τ sig (Elt F)) :
    (StableHlo.held (c.tc : Thread nD τ) addressed W : sProp 𝕄) = ((c : Thread nD τ).loc main_v1_1 ↦{fullShare} W main_v1_1) := by
  unfold StableHlo.held; rw [bigSep_singleton]

/-- All unscoped buffers: the call's three arrays and the two tables. -/
theorem held_all (c : Dev nD) (W : Valuation τ sig (Elt F)) :
    (StableHlo.held (c.tc : Thread nD τ) allBufs W : sProp 𝕄)
      = iprop(StableHlo.held (c.tc : Thread nD τ) (Pipeline.arrRefs (τ := τ) spec0) W ∗ StableHlo.held (c.tc : Thread nD τ) besideArrays W) := by
  rw [StableHlo.held_sub_split (c.tc : Thread nD τ) (T := Pipeline.arrRefs (τ := τ) spec0) (S := allBufs) (by decide) W,
    show allBufs \ Pipeline.arrRefs (τ := τ) spec0 = besideArrays from by decide]

theorem held_each (c : Dev nD) (W : Valuation τ sig (Elt F)) :
    (StableHlo.held (c.tc : Thread nD τ) allBufs W : sProp 𝕄)
      = iprop(((c : Thread nD τ).loc main_arg0 ↦{fullShare} W main_arg0) ∗ ((c : Thread nD τ).loc main_arg1 ↦{fullShare} W main_arg1)
        ∗ ((c : Thread nD τ).loc main_arg2 ↦{fullShare} W main_arg2) ∗ ((c : Thread nD τ).loc main_v1_0 ↦{fullShare} W main_v1_0)
        ∗ ((c : Thread nD τ).loc main_v1_1 ↦{fullShare} W main_v1_1)) := by
  unfold StableHlo.held
  rw [bigSep_eq_bigSepL_of_eq [Proc.devRef .tc main_arg0, Proc.devRef .tc main_arg1, Proc.devRef .tc main_arg2, Proc.devRef .tc main_v1_0,
    Proc.devRef .tc main_v1_1] (by decide) (by decide)]
  rfl

theorem ownSems_eq (c : Dev nD) : (Pipeline.ownSems0 ownSem c : sProp 𝕄) = iprop(semVal (sentCell c) 0 ∗ semVal (gotCell c) 0) :=
  BI.bigSep_fin_two (fun k : Fin 2 => (semVal ((c : Thread nD τ), ownSem k) 0 : sProp 𝕄))

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-! ## The call as a segment of the program -/

/-- What the launch leaves for the call; what the call enters its first point with. -/
def kept (c : Dev nD) : sProp 𝕄 := iprop((∃ K, ghost m K c) ∗ cred (tallyAt (barCell c) () 1) ∗ cred (tallyAt (gotCell c) () credit))
def entered (c : Dev nD) : sProp 𝕄 :=
  iprop((∃ K, opened m K c) ∗ cred (tallyAt (barCell c) () 1) ∗ cred (tallyAt (gotCell c) () credit) ∗ levAts L lv)
def left (c : Dev nD) : sProp 𝕄 := semVal (barCell c) 0

theorem open_cells (c : Dev nD) : iprop(kept m c ∗ Pipeline.ownSems0 ownSem c ∗ levAts L lv) ⊢ (|={Set.univ}=> entered m c : sProp 𝕄) := by
  rw [ownSems_eq]
  unfold kept entered
  iintro ⟨⟨⟨%K, Hg⟩, HcB, HcG⟩, ⟨Hs0, Hg0⟩, #Hlev⟩
  unfold ghost invs
  icases Hg with ⟨⟨#HIbar, #HIsent, #HIgot, #HIbarM, #HIgotM⟩, HatB, HoS, HoG, #HrM, HtM, HtG, HtS⟩
  imod (Rounds.cell_open EX (plan m) (g := sentCell c) (Set.mem_univ (K (sentCell c)))) $$ [HoS Hs0] with ⟨HatS, #HrS⟩
  · iframe # ∗
  imod (Rounds.cell_open EX (plan m) (g := gotCell c) (Set.mem_univ (K (gotCell c)))) $$ [HoG Hg0] with ⟨HatG, #HrG⟩
  · iframe # ∗
  imodintro
  isplitl [HatB HatS HatG HtM HtG HtS]
  · iexists K; unfold opened invs
    isplitr
    · iframe HIbar HIsent HIgot HIbarM HIgotM
    iframe # ∗
  iframe HcB HcG Hlev

theorem enter (c : Dev nD) :
    iprop(Pipeline.scopedRest (Pipeline.pin (pcfgs (F := F)) adm 0).spec c ∗ (∃ r, prngReg c r)
        ∗ StableHlo.held (c.tc : Thread nD τ) addressed (V₁ m c) ∗ entered m c) ⊢ (dats m 0 c).Φ 0 := by
  rw [show (dats m 0 c).Φ 0 = iprop(stage m c 0 ∗ ∃ r, prngReg c r) from rfl, stage_start, held_addressed]
  unfold entered before
  iintro ⟨-, Hp, Ht, HK, HcB, HcG, #Hlev⟩
  ihave Ht' := (table_split c (table m c)).1 $$ Ht
  icases Ht' with ⟨Hown, Hoth⟩
  isplitr [Hp]
  · iframe # ∗
  iexact Hp

theorem leave (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) addressed (V₂ m c) ∗ Pipeline.ownSems0 ownSem c ∗ left c) := by
  rw [show (dats m 0 c).Φ (Fin.last _) = iprop(stage m c grid0.N ∗ ∃ r, prngReg c r) from rfl, N_0, stage_end, held_addressed, ownSems_eq,
    show (Pipeline.scopedRest (Pipeline.pin (pcfgs (F := F)) adm 0).spec c : sProp 𝕄) = (BI.emp : sProp 𝕄) from scopedRest0_eq c, V₂_table]
  unfold after left
  rw [own_half]
  iintro ⟨⟨Hb0, Hss, Hown, Hoth⟩, Hp⟩
  isplitr; · iempintro
  iframe Hp
  isplitl [Hown Hoth]
  · iapply (table_split c (exchanged m c)).2
    iframe
  iframe Hss Hb0

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_level (c : Dev nD) (t : Fin ((Pipeline.pin (pcfgs (F := F)) adm 0).N + 1)) (g : GSem nD τ sig) (i : Unit)
    (h : 0 < (dats (F := F) m 0 c).owed t g i) : i ∈ L g ∧ (0 : ℕ) < lv g i := by
  rw [show (dats (F := F) m 0 c).owed t = if t.val = 0 then debt c else 0 from rfl] at h
  split at h
  · rcases debt_cell h with rfl | rfl
    · exact ⟨mem_L .., by rw [lv_got]; decide⟩
    · exact ⟨mem_L .., by rw [lv_bar]; decide⟩
  · exact absurd h (Nat.lt_irrefl 0)

/-- The staging semaphores are neither the barrier nor the arrivals: they come before both. -/
theorem staging_level (c : Dev nD) : ∀ (w : Fin 3) (s : Fin (spec0 w).nbuf), lv ((c : Thread nD τ), .dma ((spec0 w).sem s)) () ≤ 0 := by
  intro w s
  have h : ∀ (w : Fin 3) (s : Fin (spec0 w).nbuf), (spec0 w).sem s ≠ gotSem := by decide
  unfold lv
  rw [if_neg (fun e => by cases e), if_neg fun e => h w s (SemLoc.dma.inj e)]

theorem arrays_kept (c : Dev nD) (w : Fin 3) :
    (dat m c).arrAt w cfg0.N = V₂ m c (Proc.devRef .tc (Pipeline.arrRef spec0 w)) := by
  match w with
  | ⟨0, _⟩ => exact ((dat m c).arrAt_in 0 rfl _).trans ((A_eq m c 0).trans (V₂_arg0 m c).symm)
  | ⟨1, _⟩ => exact ((dat m c).arrAt_in 1 rfl _).trans ((A_eq m c 1).trans (V₂_arg1 m c).symm)
  | ⟨2, _⟩ => exact (V₂_blocks m c).symm

theorem arrays_found (c : Dev nD) (w : Fin 3) : (dat m c).arrAt w 0 = V₁ m c (Proc.devRef .tc (Pipeline.arrRef spec0 w)) := A_eq m c w

theorem beside_kept (c : Dev nD) : ∀ b ∈ besideArrays \ addressed, V₂ m c b = V₁ m c b := by
  intro b hb
  rw [show (besideArrays \ addressed : Finset (DevRef τ sig)) = {Proc.devRef .tc main_arg2} from by decide, Finset.mem_singleton] at hb
  subst hb
  exact V₂_arg2 m c

local notation "ℍ" => Pipeline.HostSeg (Name := ℕ) (U := UU) (pcfgs (F := F)) defs₀ Variants.none L lv
local notation "ℝ" => Pipeline.RegionSeg (pcfgs (F := F)) adm (dats m) () defs₀ Variants.none L lv

set_option backward.isDefEq.respectTransparency.types false in
def call : ℝ 0 :=
  Pipeline.RegionSeg.ofTalk (pcfgs (F := F)) adm (dats m) () defs₀ Variants.none L lv 0 ownSem (by decide : Pipeline.OwnSemFacts spec0 ownSem)
    addressed besideArrays (by decide) kit rfl (fun c => (sound_body m c).loose)
    (fun _ => 0) debt (fun c => (owed_start m c 0 rfl).trans (zero_add _).symm)
    (fun c => owed_after m c (Fin.last _) (by rw [Fin.val_last, show cfg0.N = 4 from N_0]; decide)) (fun _ => rfl)
    (fun c => (dat m c).share_full fun _ => rfl)
    (V₁ m) (V₂ m) (beside_kept m)
    (kept m) left (entered m) left (open_cells m) (enter m) (leave m)
    (fun c => by iintro H; imodintro; iexact H)
    (fun _ => 0)
    ⟨fun c w s => mem_L c _ _, fun c w s => staging_level c w s, fun c t g i h => owed_level m c t g i h⟩
    (fun _ => iprop(emp))
    (arrays_found m) (arrays_kept m)

/-- Beside the buffers, up to the call: what the launch left for it, the generator register, and the debt. -/
def riding (c : Dev nD) : sProp 𝕄 := iprop(kept m c ∗ (∃ r, prngReg c r) ∗ ∃ W, owes (c : Thread nD τ) (debt c) W)

theorem hostOps_sub : ∀ op ∈ (hostOps0 : List (HloOp τ sig (Elt F))), op.bufs ⊆ allBufs := fun op h => by
  simp only [hostOps0, List.mem_singleton] at h; subst h
  show ({Proc.devRef .tc main_arg2, Proc.devRef .tc main_v1_1} : Finset (DevRef τ sig)) ⊆ allBufs; decide
theorem hostOps_fresh : ∀ op ∈ (hostOps0 : List (HloOp τ sig (Elt F))), op.fresh = ∅ := fun op h => by
  simp only [hostOps0, List.mem_singleton] at h; subst h; rfl

/-- The host's copy of the table. -/
def host : ℍ := Pipeline.HostSeg.ofOps _ _ _ _ _ allBufs hostOps0 hostOps_sub hostOps_fresh (V₀ m) (riding m)

theorem call_pre (c : Dev nD) : iprop(StableHlo.held (c.tc : Thread nD τ) allBufs (V₁ m c) ∗ riding m c) ⊢ (call m).pre c := by
  show _ ⊢ iprop(StableHlo.held (c.tc : Thread nD τ) (Pipeline.arrRefs (τ := τ) spec0) (V₁ m c) ∗ (∃ r, prngReg c r)
    ∗ (StableHlo.held (c.tc : Thread nD τ) besideArrays (V₁ m c) ∗ emp) ∗ kept m c ∗ ∃ Wd, owes (c : Thread nD τ) (0 + debt c) Wd)
  rw [held_all, zero_add]
  unfold riding
  iintro ⟨⟨Ha, Hb⟩, HK, Hp, HO⟩
  iframe Ha Hp Hb HK HO

abbrev first (c : Dev nD) : sProp 𝕄 := iprop(StableHlo.held (c.tc : Thread nD τ) allBufs (V₀ m c) ∗ riding m c)
abbrev last (c : Dev nD) : sProp 𝕄 := iprop(StableHlo.held (c.tc : Thread nD τ) allBufs (V₂ m c) ∗ semVal (barCell c) 0)

theorem call_post (c : Dev nD) : (call m).post c
    ⊢ iprop(last m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) besideArrays (V₂ m c) ∗ emp) ∗ left c ∗ ∃ Wd, owes (c : Thread nD τ) (0 : CellTallies nD τ sig Unit) Wd) ⊢ _
  dsimp only [last]
  rw [held_all]
  unfold left
  iintro ⟨Ha, -, ⟨Hb, -⟩, Hb0, HO⟩
  isplitr [HO]
  · isplitr [Hb0]
    · iframe
    iexact Hb0
  iexact HO

def segs : List (Pipeline.Seg (pcfgs (F := F)) adm (dats m) () defs₀ Variants.none L lv) := [.host (host m), .region (call m)]

/-! ## The launch -/

theorem ownSem_inj : Function.Injective ownSem := by decide
theorem ownSem_ne_bar : ∀ k : Fin 2, ownSem k ≠ .reg barrier0 := by decide

def barEmb : Dev nD ↪ GSem nD τ sig := ⟨fun c => barCell c, fun _ _ h => congrArg (fun g : GSem nD τ sig => g.1.1) h⟩
def ownEmb : Dev nD × Fin 2 ↪ GSem nD τ sig :=
  ⟨fun ck => ((ck.1 : Thread nD τ), ownSem ck.2), fun _ _ h =>
    Prod.ext (congrArg (fun g : GSem nD τ sig => g.1.1) h) (ownSem_inj (congrArg Prod.snd h))⟩

/-- The barriers, whose counters the launch holds; the call's own semaphores, whose counters come with the call. -/
abbrev barCells : Finset (GSem nD τ sig) := Finset.univ.map barEmb
abbrev ownCells : Finset (GSem nD τ sig) := Finset.univ.map ownEmb

/-- One duty on each of the three semaphores. -/
abbrev dutySem : Fin 3 → SemLoc sig := fun | 0 => .reg barrier0 | 1 => .dma sentSem | 2 => .dma gotSem
theorem dutySem_inj : Function.Injective dutySem := by decide
def duties : Finset (GSem nD τ sig × ℕ × Unit) :=
  Finset.univ.map ⟨fun ck : Dev nD × Fin 3 => (((ck.1 : Thread nD τ), dutySem ck.2), 0, ()), fun _ _ h =>
    Prod.ext (congrArg (fun t : GSem nD τ sig × ℕ × Unit => t.1.1.1) h) (dutySem_inj (congrArg (fun t : GSem nD τ sig × ℕ × Unit => t.1.2) h))⟩

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact ownSem_ne_bar ck.2 (congrArg Prod.snd h)

theorem bar_mem (c : Dev nD) : barCell c ∈ (barCells ∪ ownCells : Finset (GSem nD τ sig)) :=
  Finset.mem_union_left _ (Finset.mem_map_of_mem barEmb (Finset.mem_univ c))
theorem sent_mem (c : Dev nD) : sentCell c ∈ (barCells ∪ ownCells : Finset (GSem nD τ sig)) :=
  Finset.mem_union_right _ (Finset.mem_map_of_mem ownEmb (Finset.mem_univ (c, (0 : Fin 2))))
theorem got_mem (c : Dev nD) : gotCell c ∈ (barCells ∪ ownCells : Finset (GSem nD τ sig)) :=
  Finset.mem_union_right _ (Finset.mem_map_of_mem ownEmb (Finset.mem_univ (c, (1 : Fin 2))))

/-- The launch's element: the library's share of it, and this exchange's. -/
def launchElt : UU :=
  (initOf (Pipeline.cells (Pipeline.pin (pcfgs (F := F)) adm) cellOf_inj) (Pipeline.launchToks (Pipeline.pin (pcfgs (F := F)) adm) cellOf_inj),
    launchOf barCells ownCells duties)

/-- This exchange's share is set aside on device 0 until the devices' resources are dealt together. -/
def aside (c : Dev nD) : sProp 𝕄 := if c = 0 then BI.own (EX (launchOf barCells ownCells duties)) else iprop(emp)
theorem aside_eq : (bigSep Finset.univ fun c : Dev nD => (aside c : sProp 𝕄)) = BI.own (EX (launchOf barCells ownCells duties)) := one_aside 0 _

/-- What both devices may consult: the invariants, and that every barrier is in its first round. -/
def records (κ : GSem nD τ sig → ℕ) : sProp 𝕄 :=
  iprop((bigSep (barCells ∪ ownCells) fun g => cellInv EX (plan m) (κ g) g) ∗ bigSep barCells fun g => reached EX g 0)

instance records_persistent (κ : GSem nD τ sig → ℕ) : BI.Persistent (records m κ) := by unfold records; infer_instance

theorem inv_at (κ : GSem nD τ sig → ℕ) {g : GSem nD τ sig} (hg : g ∈ (barCells ∪ ownCells : Finset (GSem nD τ sig))) :
    (bigSep (barCells ∪ ownCells) fun g => (cellInv EX (plan m) (κ g) g : sProp 𝕄)) ⊢ cellInv EX (plan m) (κ g) g :=
  bigSep_elim hg

theorem reached_at (c : Dev nD) : (bigSep barCells fun g => (reached EX g 0 : sProp 𝕄)) ⊢ reached EX (barCell c) 0 :=
  bigSep_elim (Finset.mem_map_of_mem barEmb (Finset.mem_univ c))

/-- What a device alone holds: its place on its barrier, the rights to open its two semaphores, the duties it pays. -/
def payable (c : Dev nD) : sProp 𝕄 :=
  iprop(dutyTok EX (barCell (mate c)) 0 () ∗ dutyTok EX (sentCell c) 0 () ∗ dutyTok EX (gotCell (mate c)) 0 ())
def alone (c : Dev nD) : sProp 𝕄 :=
  iprop(atPos EX (barCell c) 0 ∅ 0 ∗ (openTok EX (sentCell c) ∗ openTok EX (gotCell c)) ∗ payable c)

theorem ghost_intro (κ : GSem nD τ sig → ℕ) (c : Dev nD) : iprop(records m κ ∗ alone c) ⊢ iprop(∃ K, ghost m K c) := by
  unfold records alone payable ghost invs
  iintro ⟨⟨#HI, #HR⟩, HaB, ⟨HoS, HoG⟩, HtM, HtS, HtG⟩
  iexists κ
  isplitr
  · isplitr; · iapply (inv_at m κ (bar_mem c)); iexact HI
    isplitr; · iapply (inv_at m κ (sent_mem c)); iexact HI
    isplitr; · iapply (inv_at m κ (got_mem c)); iexact HI
    isplitr; · iapply (inv_at m κ (bar_mem (mate c))); iexact HI
    iapply (inv_at m κ (got_mem (mate c))); iexact HI
  iframe HaB HoS HoG
  isplitr; · iapply (reached_at (F := F) (mate c)); iexact HR
  iframe

/-- The duties, each handed to the device that pays it. -/
theorem duties_dealt : bigSep duties (fun x => (dutyTok EX x.1 x.2.1 x.2.2 : sProp 𝕄)) ⊢ bigSep Finset.univ fun c : Dev nD => payable c := by
  have e : bigSep duties (fun x => (dutyTok EX x.1 x.2.1 x.2.2 : sProp 𝕄))
      = bigSep Finset.univ fun c : Dev nD => iprop(dutyTok EX (barCell c) 0 () ∗ dutyTok EX (sentCell c) 0 () ∗ dutyTok EX (gotCell c) 0 ()) := by
    unfold duties; rw [bigSep_map, bigSep_univ_prod]
    exact bigSep_congr fun c _ => by
      rw [show (Finset.univ : Finset (Fin 3)) = {0, 1, 2} from by decide, bigSep_insert (by decide), bigSep_insert (by decide), bigSep_singleton]
      rfl
  rw [e]
  unfold payable
  rw [bigSep_sep', bigSep_sep', bigSep_sep', bigSep_sep', bigSep_univ_equiv swap (fun c : Dev nD => (dutyTok EX (barCell c) 0 () : sProp 𝕄)),
    bigSep_univ_equiv swap (fun c : Dev nD => (dutyTok EX (gotCell c) 0 () : sProp 𝕄))]
  exact BI.Entails.refl _

/-! ### What each device is owed -/

/-- A device owes the other one `n` units on the other's semaphore `sm` and nothing on its own. -/
theorem owed_by (sm : SemLoc sig) (n : ℕ) (d c : Dev nD) :
    (tallyAt ((mate d : Thread nD τ), sm) () n : CellTallies nD τ sig Unit) ((c : Thread nD τ), sm) () = if d = mate c then n else 0 := by
  rw [tallyAt_apply]
  by_cases h : d = mate c
  · subst h; rw [mate_mate, if_pos ⟨rfl, rfl⟩, if_pos rfl]
  · rw [if_neg (fun ⟨h1, _⟩ => h (by rw [← mate_mate d]; exact congrArg mate (Fin.ext (congrArg (fun g : GSem nD τ sig => g.1.1.val) h1)).symm)), if_neg h]

theorem owed_bar (d c : Dev nD) : debt d (barCell c) () = if d = mate c then 1 else 0 := by
  unfold debt
  rw [Pi.add_apply, Finsupp.add_apply, tallyAt_ne_cell (fun h => got_ne_bar (congrArg Prod.snd h).symm), Finsupp.zero_apply, Nat.zero_add]
  exact owed_by _ _ d c
theorem owed_got (d c : Dev nD) : debt d (gotCell c) () = if d = mate c then credit else 0 := by
  unfold debt
  rw [Pi.add_apply, Finsupp.add_apply, tallyAt_ne_cell (g := barCell (mate d)) (g' := gotCell c) (fun h => got_ne_bar (congrArg Prod.snd h)), Finsupp.zero_apply, Nat.add_zero]
  exact owed_by _ _ d c

theorem launch_cred (g : GSem nD τ sig) (c : Dev nD) (n : ℕ) (h : ∀ d : Dev nD, debt d g () = if d = mate c then n else 0) :
    tallyOn g (launchCredit (Pipeline.owing debt) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (mate c) fun _ => n,
    if_pos (Finset.mem_univ _)]

theorem creds (c : Dev nD) :
    (Pipeline.launchCred debt c : sProp 𝕄) ⊢ iprop(cred (tallyAt (barCell c) () 1) ∗ cred (tallyAt (gotCell c) () credit)) := by
  unfold Pipeline.launchCred
  rw [bigSep_univ_at _ (SemLoc.reg barrier0), launch_cred (barCell c) c 1 fun d => owed_bar d c]
  refine sep_mono_right ?_
  rw [← launch_cred (gotCell c) c credit fun d => owed_got d c]
  exact bigSep_elim (Finset.mem_erase.mpr ⟨got_ne_bar, Finset.mem_univ _⟩)

/-- What a device holds at launch beside its part in the exchange. -/
def bundle (c : Dev nD) : sProp 𝕄 :=
  iprop(StableHlo.held (c.tc : Thread nD τ) allBufs (V₀ m c) ∗ cred (tallyAt (barCell c) () 1) ∗ cred (tallyAt (gotCell c) () credit)
    ∗ owes (c : Thread nD τ) (debt c) ∅ ∗ ∃ r, prngReg c r)

theorem first_intro (κ : GSem nD τ sig → ℕ) (c : Dev nD) : iprop(records m κ ∗ (alone c ∗ bundle m c)) ⊢ first m c := by
  unfold bundle first riding kept
  iintro ⟨#HR, Hl, Hh, H1, HG, HO, Hp⟩
  iframe Hh
  isplitl [Hl H1 HG]
  · isplitl [Hl]
    · iapply (ghost_intro m κ c)
      iframe HR Hl
    iframe
  iframe Hp
  iexists ∅; iexact HO

theorem init :
    iprop((bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ aside c)) ∗ levAts L lv)
      ⊢ (|={Set.univ}=> bigSep Finset.univ (first m) : sProp 𝕄) := by
  have hcore (c : Dev nD) : iprop(unscopedBufs c (fun b => m ((c : Thread nD τ).loc b)) ∗ unscopedSems0 c
        ∗ owes (c : Thread nD τ) (debt c) ∅ ∗ Pipeline.launchCred debt c ∗ prngReg c (ρ c) ∗ aside c)
      ⊢ (iprop(bundle m c ∗ (semVal (barCell c) 0 ∗ aside c)) : sProp 𝕄) := by
    rw [show unscopedBufs c (fun b => m ((c : Thread nD τ).loc b)) = StableHlo.held (c.tc : Thread nD τ) allBufs (V₀ m c)
      from Pipeline.unscopedBufs_held c (V₀ m c), unscopedSems_eq]
    unfold bundle
    iintro ⟨Hh, Hus, HO, Hcr, Hp, HG⟩
    ihave Hc := (creds (F := F) c) $$ Hcr
    icases Hc with ⟨H1, HN⟩
    isplitl [Hh H1 HN HO Hp]
    · iframe Hh H1 HN HO
      iexists (ρ c); iexact Hp
    iframe
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos EX g 0 ∅ 0 : sProp 𝕄)) ⊢ bigSep Finset.univ (fun c : Dev nD => (atPos EX (barCell c) 0 ∅ 0 : sProp 𝕄)) :=
    Entails.of_eq (bigSep_map (s := Finset.univ) barEmb (Φ := fun g : GSem nD τ sig => (atPos EX g 0 ∅ 0 : sProp 𝕄)))
  have hopen : bigSep ownCells (fun g => (openTok EX g : sProp 𝕄))
      ⊢ bigSep Finset.univ (fun c : Dev nD => iprop(openTok EX (sentCell c) ∗ openTok EX (gotCell c))) :=
    Entails.of_eq (by
      rw [bigSep_map, bigSep_univ_prod]
      exact bigSep_congr fun c _ => BI.bigSep_fin_two (fun k : Fin 2 => (openTok EX ((c : Thread nD τ), ownSem k) : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ aside c))
      ⊢ (bigSep Finset.univ fun c : Dev nD => iprop(bundle m c ∗ (semVal (barCell c) 0 ∗ aside c)) : sProp 𝕄) from bigSep_mono fun c _ => hcore c) $$ H
  ihave H2 := split_families $$ H'; icases H2 with ⟨HB, H3⟩
  ihave H4 := split_families $$ H3; icases H4 with ⟨Hv, HG⟩
  ihave Hu := (Entails.of_eq (aside_eq (F := F))) $$ HG
  imod (Rounds.fund_launch EX (plan m) cells_disjoint (fun g _ h => h) duties) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(alone c ∗ bundle m c)) fun c _ => first_intro m κ c)
  isplitr
  · unfold records
    iframe Hinv Hr
  iapply join_families
  isplitr [HB]
  · unfold alone
    iapply join_families; isplitl [Hat]; · iapply hat $$ Hat
    iapply join_families; isplitl [Hopen]; · iapply hopen $$ Hopen
    iapply (duties_dealt (F := F)) $$ Htok
  · iexact HB

/-! ## The run -/

theorem unscoped_bar : ∀ sm : SemLoc sig, sm.isScoped .tc = false → sm = .reg barrier0 := by decide

set_option backward.isDefEq.respectTransparency.types false in
/-- Every execution of the program on the pair ends; then the inputs are unchanged, the blocks are written back, the tables exchanged, and
    every counter is zero. -/
theorem run_main : θ_run defs (onTc (τ := τ) (main (F := F))) ⟨m, fun _ => 0, ρ⟩
    (fun r => (∀ c : Dev nD, (r.2.mem ((c : Thread nD τ).loc main_v1_0) = (dat m c).arrAt 2 cfg0.N
          ∧ r.2.mem ((c : Thread nD τ).loc main_v1_1) = exchanged m c)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (dats m) () cellOf_inj EP defs₀ Variants.none L lv m ρ main (segs m)
    (fun c Q => by rw [main_segs adm (dats m) () Variants.none L lv (host m) (call m) rfl c]; exact BI.Entails.refl _)
    (by simp only [segs, Pipeline.Seg.pipes_host, Pipeline.Seg.pipes_region, Pipeline.Seg.pipes_nil]; decide)
    (O₀ := debt) (hL := L_of_ne) (G := aside) (u₀ := launchElt (F := F))
    (hu₀ := by
      unfold launchElt
      iintro Hu
      ihave H := (ownU_pair _ _) $$ Hu
      icases H with ⟨HP, HX⟩
      imodintro
      iframe HP
      iapply (Entails.of_eq (aside_eq (F := F)).symm); iexact HX)
    (T₀ := first m) (Tₙ := last m)
    (hch := ⟨fun _ => .rfl, call_pre m, call_post m⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_arg2) = V₂ m c main_arg2 ∧ s.mem ((c : Thread nD τ).loc main_v1_0) = V₂ m c main_v1_0
      ∧ s.mem ((c : Thread nD τ).loc main_v1_1) = V₂ m c main_v1_1) ∧ s.sem (barCell c) = 0)
    (hfin := fun c s' => by
      dsimp only [last]; rw [held_each]
      iintro ⟨⟨⟨H0, H1, H2, H3, H4⟩, Hb⟩, HSI⟩
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4⟩, by simpa using hb⟩
      iexact HSI)
    (hQ := fun s h hs => ⟨fun c => by
        obtain ⟨⟨h0, h1, h2, h3, h4⟩, -⟩ := h c
        rw [V₂_arg0, V₁_ne m c _ (by decide)] at h0
        rw [V₂_arg1, V₁_ne m c _ (by decide)] at h1
        rw [V₂_arg2, V₁_ne m c _ (by decide)] at h2
        rw [V₂_blocks] at h3
        rw [V₂_table] at h4
        exact ⟨⟨h3, h4⟩, h0, h1, h2⟩,
      sem_eq_zero hs fun c sm hsm => by
        obtain rfl := unscoped_bar sm hsm
        exact (h c).2⟩)

end Cert.Up

end
-- ==== Proof.UpFrames.lean ====
/- The frame claims of the gradient of the up projection's weights: the compiled program, and the program over the extended reals. -/
module

public import proofs.«01_k».proof.Defs
public import proofs.«01_k».proof.Proof.UpRun
public import proofs.«01_k».proof.Proof.Gen.Kernel2

@[expose] public section

noncomputable section

namespace Cert.Up

open Idealize.ShloMosaic Idealize.SL.Sem

/-- Over the extended reals: the program ends, its inputs unchanged, every counter zero. -/
theorem frame_ideal : Cert.quiescent_Kernel2Ideal := fun m ρ _ =>
  (θ_run (Cert.Kernel2Ideal.defs (F := Ideal)) _ _).mono (fun _ h => ⟨fun c => (h.1 c).2, h.2⟩) (run_main (F := Ideal) m ρ)

/-- The two programs have the same text. -/
theorem same_body : Cert.Kernel2.defs₀ (F := Bits) = Cert.Kernel2Ideal.defs₀ (F := Bits) := by
  unfold Cert.Kernel2.defs₀ Cert.Kernel2Ideal.defs₀
  refine congrArg Defs.onTc (funext fun l => ?_)
  match l with
  | ⟨0, _⟩ => rfl
  | ⟨_ + 1, h⟩ => exact absurd h (Nat.not_lt.2 (Nat.le_add_left _ _))
theorem same_defs : Cert.Kernel2.defs (F := Bits) = Cert.Kernel2Ideal.defs (F := Bits) :=
  congrArg (Pipeline.defs (Cert.Kernel2Ideal.pcfgs (F := Bits))) same_body

/-- Over machine words: the run is the same. -/
theorem frame_kernel : Cert.quiescent_Kernel2 := fun m ρ _ => by
  rw [same_defs]
  exact (θ_run (Cert.Kernel2Ideal.defs (F := Bits)) _ _).mono (fun _ h => ⟨fun c => (h.1 c).2, h.2⟩) (run_main (F := Bits) m ρ)

end Cert.Up

end
-- ==== Proof.UpKernel.lean ====
/- The gradient of the up projection's weights, as the kernel computes it: on each device four blocks of 1408 hidden columns, each one
   product over the device's 4096 tokens; and the table it exchanges meanwhile. -/
module

public import proofs.«01_k».proof.Proof.UpRegion
public import Idealize.ShloMosaic.Lib.MatmulPlain
public import Idealize.ShloMosaic.Lib.KernelVsHost
public import Idealize.ShloMosaic.Lib.ValueIdx
public import Idealize.ShloMosaic.Lib.ValueLayout
public import Idealize.ShloMosaic.Lib.WordCmp
public import Idealize.ShloMosaic.Lib.Pointwise.Reduce

@[expose] public section

noncomputable section

namespace Cert.Up

open Idealize.ShloMosaic hiding ix0 ix1 ix2 ix3 ix4 ix5
open Idealize.ShloMosaic.ValueIdx Idealize.ShloMosaic.TcCoe Cert.Kernel2Ideal Cert.Kernel2Ideal.Gen

/-- One point's product, contracted over the tokens. -/
theorem product_at (a : FVec Ideal S4096x1024 .bf16) (b : FVec Ideal S1x4096x1408 .bf16) (i : Fin 1024) (j : Fin 1408) :
    k0_pay1 (F := Ideal) a b (ix3 0 i j) = ∑ s : Fin 4096, a (ix2 s i) * b (ix3 0 s j) := by
  unfold k0_pay1
  rw [shapeCast_self, shapeCast_apply _ shapeCasts_S1024x1408_S1x1024x1408 (ix3 0 i j) (ix2 i j) (by
    rw [Shape.rowMajor_val_two, Shape.rowMajor_val_three]; show i.val * 1408 + j.val = (0 * 1024 + i.val) * 1408 + j.val; omega), truncf_apply]
  show FloatOps.matmul dot_S4096x1024_S4096x1408_S1024x1408_0_0_1_1_n_n none a (shapeCast S4096x1408 b shapeCasts_S1x4096x1408_S4096x1408)
    (constant S1024x1408 .f32 0x00000000#32) (ix2 i j) = _
  rw [Ideal.matmul_apply, constant_apply, Ideal.ofBits_zero_f32, zero_add,
    ← Equiv.sum_comp (contrEquiv1 dot_S4096x1024_S4096x1408_S1024x1408_0_0_1_1_n_n 4096 rfl rfl).symm]
  refine Finset.sum_congr rfl fun k _ => ?_
  have hk := contrEquiv1_symm_val dot_S4096x1024_S4096x1408_S1024x1408_0_0_1_1_n_n 4096 rfl rfl k
  congr 1
  · refine congrArg a (funext fun ax => Fin.ext ?_)
    match ax with
    | ⟨0, _⟩ => exact hk
    | ⟨1, _⟩ => rfl
  · refine (congrArg (shapeCast S4096x1408 b shapeCasts_S1x4096x1408_S4096x1408) (?_ : _ = ix2 k j)).trans
      (shapeCast_apply b shapeCasts_S1x4096x1408_S4096x1408 (ix2 k j) (ix3 0 k j) (by
        rw [Shape.rowMajor_val_two, Shape.rowMajor_val_three]; show (0 * 4096 + k.val) * 1408 + j.val = k.val * 1408 + j.val; omega))
    refine funext fun ax => Fin.ext ?_
    match ax with
    | ⟨0, _⟩ => exact hk
    | ⟨1, _⟩ => rfl

variable (m : (ℓ : Loc nD τ sig) → Buf (Elt Ideal) ℓ) (c : Dev nD)

/-- The arguments' contents on a device: its tokens' activations, the gradients behind the projection, its table. -/
abbrev A0 : (⟨2, ![4096, 1024]⟩ : Shape).Idx → EReal := m ((c.tc : Thread nD τ).loc main_arg0)
abbrev A1 : (⟨3, ![2, 4096, 2816]⟩ : Shape).Idx → EReal := m ((c.tc : Thread nD τ).loc main_arg1)
abbrev A2 : (⟨2, ![704, 1024]⟩ : Shape).Idx → EReal := m ((c.tc : Thread nD τ).loc main_arg2)

/-- The plane of the gradients that block `n` of hidden columns lies in, and column `j` of that block there. -/
def planeOf (n : Fin 4) : Fin 2 := ⟨n.val / 2, by omega⟩
def columnOf (n : Fin 4) (j : Fin 1408) : Fin 2816 := ⟨1408 * (n.val % 2) + j.val, by omega⟩

/-- Grid point of block `n`. -/
def pt (n : Fin 4) : Fin cfg0.N := ⟨n.val, n.isLt⟩

theorem index_facts : ∀ n : Fin 4,
    (win0_0.index (pt n) 0 = 0 ∧ win0_0.index (pt n) 1 = 0)
    ∧ (win0_1.index (pt n) 0 = n.val / 2 ∧ win0_1.index (pt n) 1 = 0 ∧ win0_1.index (pt n) 2 = n.val % 2)
    ∧ (win0_2.index (pt n) 0 = n.val ∧ win0_2.index (pt n) 1 = 0 ∧ win0_2.index (pt n) 2 = 0) := by decide +kernel

theorem read0 (n : Fin 4) (s : Fin 4096) (i : Fin 1024) :
    (iblk m c 0 (pt n) : Vec Ideal S4096x1024 .bf16) (ix2 s i) = A0 m c (ix2 s i) := by
  obtain ⟨⟨i0, i1⟩, -⟩ := index_facts n
  unfold iblk
  rw [View.read_apply]
  show V₁ m c main_arg0 _ = _
  rw [V₁_ne m c main_arg0 (by decide)]
  refine congrArg (m _) (funext fun a => Fin.ext ?_)
  match a with
  | ⟨0, _⟩ => show win0_0.index (pt n) 0 * 4096 + 1 * s.val = s.val; rw [i0]; omega
  | ⟨1, _⟩ => show win0_0.index (pt n) 1 * 1024 + 1 * i.val = i.val; rw [i1]; omega

theorem read1 (n : Fin 4) (s : Fin 4096) (j : Fin 1408) :
    (iblk m c 1 (pt n) : Vec Ideal S1x4096x1408 .bf16) (ix3 0 s j) = A1 m c (ix3 (planeOf n) s (columnOf n j)) := by
  obtain ⟨-, ⟨i0, i1, i2⟩, -⟩ := index_facts n
  unfold iblk
  rw [View.read_apply]
  show V₁ m c main_arg1 _ = _
  rw [V₁_ne m c main_arg1 (by decide)]
  refine congrArg (m _) (funext fun a => Fin.ext ?_)
  match a with
  | ⟨0, _⟩ => show win0_1.index (pt n) 0 * 1 + 1 * 0 = n.val / 2; rw [i0]; omega
  | ⟨1, _⟩ => show win0_1.index (pt n) 1 * 4096 + 1 * s.val = s.val; rw [i1]; omega
  | ⟨2, _⟩ => show win0_1.index (pt n) 2 * 1408 + 1 * j.val = 1408 * (n.val % 2) + j.val; rw [i2]; omega

theorem flush2 : ∀ t : Fin cfg0.N, (cfg0.win 2).flush t = true :=
  (by decide +kernel : ∀ t : Fin grid0.N, win0_2.flush t = true)

theorem index2 : ∀ t : Fin cfg0.N, win0_2.index t 0 = t.val :=
  (by decide +kernel : ∀ t : Fin grid0.N, win0_2.index t 0 = t.val)

/-- Two points write different blocks. -/
theorem disjoint2 : ∀ t t' : Fin cfg0.N, (cfg0.win 2).flush t = true → (cfg0.win 2).flush t' = true → t ≠ t' →
    Disjoint ((cfg0.win 2).blk t).view.set ((cfg0.win 2).blk t').view.set := fun t t' _ _ hne =>
  (cfg0.win 2).disjoint_blk fun e => hne (Fin.ext (by
    have e' : win0_2.index t 0 = win0_2.index t' 0 := congrFun e 0
    rw [index2, index2] at e'
    exact e'))

/-- The kernel's gradient on a device. -/
theorem array_at (n : Fin 4) (i : Fin 1024) (j : Fin 1408) :
    ((dat m c).arrAt 2 cfg0.N : (⟨3, ![4, 1024, 1408]⟩ : Shape).Idx → EReal) (ix3 n i j)
      = ∑ s : Fin 4096, A0 m c (ix2 s i) * A1 m c (ix3 (planeOf n) s (columnOf n j)) := by
  have h := (dat m c).arrAt_emb_eq_flushed 2 disjoint2 (pt n) (flush2 _) (ix3 0 i j)
  obtain ⟨i0, i1, i2⟩ := (index_facts n).2.2
  have hi : (((cfg0.win 2).blk (pt n)).view.emb (ix3 0 i j) : S4x1024x1408.Idx) = ix3 n i j := funext fun a => Fin.ext (by
    match a with
    | ⟨0, _⟩ => show win0_2.index (pt n) 0 * 1 + 1 * 0 = n.val; rw [i0]; omega
    | ⟨1, _⟩ => show win0_2.index (pt n) 1 * 1024 + 1 * i.val = i.val; rw [i1]; omega
    | ⟨2, _⟩ => show win0_2.index (pt n) 2 * 1408 + 1 * j.val = j.val; rw [i2]; omega)
  rw [← hi]
  refine h.trans ?_
  rw [cast_eq]
  refine (congrFun (after_2 m c (pt n)) (ix3 0 i j)).trans ((product_at _ _ i j).trans ?_)
  exact Finset.sum_congr rfl fun s _ => congrArg₂ (· * ·) (read0 m c n s i) (read1 m c n s j)

/-- The half of the table a device keeps holds what it held. -/
theorem table_own (i : Fin 704) (j : Fin 1024) (h0 : 352 * c.val ≤ i.val) (h1 : i.val < 352 * c.val + 352) :
    exchanged m c (ix2 i j) = A2 m c (ix2 i j) := by
  rw [exchanged_own m c (ix2 i j) ((mem_half c _).mpr ⟨h0, h1⟩)]
  exact congrFun (V₁_table m c) _

/-- The other half holds what the other device held there. -/
theorem table_other (i : Fin 704) (j : Fin 1024) (h0 : 352 * (mate c).val ≤ i.val) (h1 : i.val < 352 * (mate c).val + 352) :
    exchanged m c (ix2 i j) = A2 m (mate c) (ix2 i j) := by
  have hi : (ix2 i j : S704x1024.Idx) ∈ (half (mate c)).view.set := (mem_half (mate c) _).mpr ⟨h0, h1⟩
  obtain ⟨k, -, hk⟩ := Finset.mem_map.mp hi
  unfold exchanged
  rw [← hk, View.write_emb_of_mem _ _ (Finset.mem_univ _), View.read_apply, hk]
  exact congrFun (V₁_table m (mate c)) _

end Cert.Up

end
-- ==== Proof.UpReference.lean ====
/- The gradient of the up projection's weights, as the reference computes it: for each device of a pair the derivative of the projection
   over that device's tokens, cut into blocks of 1408 hidden columns; and the two halves of the table, put together twice. -/
module

public import proofs.«01_k».proof.Proof.UpKernel
public import proofs.«01_k».proof.Proof.RefBlocks
public import proofs.«01_k».proof.Proof.Gen.Reference2Ideal.Read

@[expose] public section

noncomputable section

namespace Cert.Up

open Idealize.ShloMosaic hiding ix0 ix1 ix2 ix3 ix4 ix5
open Idealize.ShloMosaic.ValueIdx Cert.Reference2Ideal Cert.Reference2Ideal.Gen Cert.Reference2Ideal.Read
open Cert.Pool (ext2 ext3 ext4)

/-- Token `s` of device `d`, block `n` of its hidden columns in the stacked gradient, and column `j` of block `n` in the projection. -/
def tokenOf (d : Fin 2) (s : Fin 4096) : Fin 8192 := ⟨4096 * d.val + s.val, by omega⟩
def blockOf (d : Fin 2) (n : Fin 4) : Fin 8 := ⟨4 * d.val + n.val, by omega⟩
def hiddenOf (n : Fin 4) (j : Fin 1408) : Fin 5632 := ⟨1408 * n.val + j.val, by omega⟩

variable (x0 : (⟨2, ![8192, 1024]⟩ : Shape).Idx → EReal) (x1 : (⟨3, ![2, 8192, 2816]⟩ : Shape).Idx → EReal)
  (x2 : (⟨2, ![1408, 1024]⟩ : Shape).Idx → EReal)

theorem v1_at (d : Fin 2) (s : Fin 4096) (i : Fin 1024) : val_main_v1 (F := Ideal) x0 (ix3 d s i) = x0 (ix2 (tokenOf d s) i) := by
  rw [val_main_v1_apply, val_main_v0_apply]
  refine congrArg x0 (ext2 _ _ _ ?_ ?_)
  · show ((d.val * 4096 + s.val) * 1024 + i.val) / 1024 = 4096 * d.val + s.val
    omega
  · show ((d.val * 4096 + s.val) * 1024 + i.val) % 1024 = i.val
    omega

/-- The activations of the first device, and of the second. -/
theorem v11_at (s : Fin 4096) (i : Fin 1024) : val_main_v11 (F := Ideal) x0 (ix2 s i) = x0 (ix2 (tokenOf 0 s) i) := by
  rw [val_main_v11_apply, val_main_v10_apply, ← v1_at x0]
  refine congrArg (val_main_v1 (F := Ideal) x0) (ext3 _ _ _ _ ?_ ?_ ?_)
  · rfl
  · show (s.val * 1024 + i.val) / 1024 % 4096 = s.val
    omega
  · show (s.val * 1024 + i.val) % 1024 = i.val
    omega

theorem v22_at (s : Fin 4096) (i : Fin 1024) : val_main_v22 (F := Ideal) x0 (ix2 s i) = x0 (ix2 (tokenOf 1 s) i) := by
  rw [val_main_v22_apply, val_main_v21_apply, ← v1_at x0]
  refine congrArg (val_main_v1 (F := Ideal) x0) (ext3 _ _ _ _ ?_ ?_ ?_)
  · rfl
  · show (s.val * 1024 + i.val) / 1024 % 4096 = s.val
    omega
  · show (s.val * 1024 + i.val) % 1024 = i.val
    omega

theorem v3_at (p d : Fin 2) (s : Fin 4096) (f : Fin 2816) :
    val_main_v3 (F := Ideal) x1 (ix4 p d s f) = x1 (ix3 p (tokenOf d s) f) := by
  rw [val_main_v3_apply, val_main_v2_apply]
  refine congrArg x1 (ext3 _ _ _ _ ?_ ?_ ?_)
  · show (((p.val * 2 + d.val) * 4096 + s.val) * 2816 + f.val) / 23068672 = p.val
    omega
  · show (((p.val * 2 + d.val) * 4096 + s.val) * 2816 + f.val) / 2816 % 8192 = 4096 * d.val + s.val
    omega
  · show (((p.val * 2 + d.val) * 4096 + s.val) * 2816 + f.val) % 2816 = f.val
    omega

/-- The two planes of the first device's gradients, and of the second's. -/
theorem v5_at (s : Fin 4096) (f : Fin 2816) : val_main_v5 (F := Ideal) x1 (ix2 s f) = x1 (ix3 0 (tokenOf 0 s) f) := by
  rw [val_main_v5_apply, val_main_v4_apply, ← v3_at x1]
  refine congrArg (val_main_v3 (F := Ideal) x1) (ext4 _ _ _ _ _ rfl rfl ?_ ?_)
  · show (s.val * 2816 + f.val) / 2816 % 4096 = s.val
    omega
  · show (s.val * 2816 + f.val) % 2816 = f.val
    omega

theorem v7_at (s : Fin 4096) (f : Fin 2816) : val_main_v7 (F := Ideal) x1 (ix2 s f) = x1 (ix3 1 (tokenOf 0 s) f) := by
  rw [val_main_v7_apply, val_main_v6_apply, ← v3_at x1]
  refine congrArg (val_main_v3 (F := Ideal) x1) (ext4 _ _ _ _ _ rfl rfl ?_ ?_)
  · show (s.val * 2816 + f.val) / 2816 % 4096 = s.val
    omega
  · show (s.val * 2816 + f.val) % 2816 = f.val
    omega

theorem v16_at (s : Fin 4096) (f : Fin 2816) : val_main_v16 (F := Ideal) x1 (ix2 s f) = x1 (ix3 0 (tokenOf 1 s) f) := by
  rw [val_main_v16_apply, val_main_v15_apply, ← v3_at x1]
  refine congrArg (val_main_v3 (F := Ideal) x1) (ext4 _ _ _ _ _ rfl rfl ?_ ?_)
  · show (s.val * 2816 + f.val) / 2816 % 4096 = s.val
    omega
  · show (s.val * 2816 + f.val) % 2816 = f.val
    omega

theorem v18_at (s : Fin 4096) (f : Fin 2816) : val_main_v18 (F := Ideal) x1 (ix2 s f) = x1 (ix3 1 (tokenOf 1 s) f) := by
  rw [val_main_v18_apply, val_main_v17_apply, ← v3_at x1]
  refine congrArg (val_main_v3 (F := Ideal) x1) (ext4 _ _ _ _ _ rfl rfl ?_ ?_)
  · show (s.val * 2816 + f.val) / 2816 % 4096 = s.val
    omega
  · show (s.val * 2816 + f.val) % 2816 = f.val
    omega

/-- Two planes side by side, read in blocks of hidden columns: block `n` lies in plane `n / 2`. -/
theorem planes_at (y : Fin 2 → (⟨2, ![4096, 2816]⟩ : Shape).Idx → EReal) (s : Fin 4096) (n : Fin 4) (j : Fin 1408) :
    concatenate S4096x5632 1 [⟨S4096x2816, y 0⟩, ⟨S4096x2816, y 1⟩] concatenates_S4096x2816_S4096x2816_S4096x5632_d1 (ix2 s (hiddenOf n j))
      = y (planeOf n) (ix2 s (columnOf n j)) := by
  rcases Nat.lt_or_ge n.val 2 with hn | hn
  · rw [show planeOf n = 0 from Fin.ext (by show n.val / 2 = 0; omega)]
    refine concatenate_pair_apply_left (t := S4096x5632) (s₁ := S4096x2816) (s₂ := S4096x2816) 1 (y 0) (y 1) _ _ rfl _ fun a => ?_
    match a with
    | ⟨0, _⟩ => rfl
    | ⟨1, _⟩ => show 1408 * (n.val % 2) + j.val = 1408 * n.val + j.val; omega
  · rw [show planeOf n = 1 from Fin.ext (by show n.val / 2 = 1; omega)]
    refine concatenate_pair_apply_right (t := S4096x5632) (s₁ := S4096x2816) (s₂ := S4096x2816) 1 (y 0) (y 1) _ _ rfl rfl _ (fun a ha => ?_)
      (by show 1408 * (n.val % 2) + j.val + 2816 = 1408 * n.val + j.val; omega)
    match a, ha with
    | ⟨0, _⟩, _ => rfl
    | ⟨1, _⟩, ha => exact absurd rfl ha

theorem v8_at (s : Fin 4096) (n : Fin 4) (j : Fin 1408) :
    val_main_v8 (F := Ideal) x1 (ix2 s (hiddenOf n j)) = x1 (ix3 (planeOf n) (tokenOf 0 s) (columnOf n j)) := by
  unfold val_main_v8
  refine (planes_at (fun p => match p with | 0 => val_main_v5 (F := Ideal) x1 | 1 => val_main_v7 (F := Ideal) x1) s n j).trans ?_
  generalize planeOf n = p
  match p with
  | 0 => exact v5_at x1 s _
  | 1 => exact v7_at x1 s _

theorem v19_at (s : Fin 4096) (n : Fin 4) (j : Fin 1408) :
    val_main_v19 (F := Ideal) x1 (ix2 s (hiddenOf n j)) = x1 (ix3 (planeOf n) (tokenOf 1 s) (columnOf n j)) := by
  unfold val_main_v19
  refine (planes_at (fun p => match p with | 0 => val_main_v16 (F := Ideal) x1 | 1 => val_main_v18 (F := Ideal) x1) s n j).trans ?_
  generalize planeOf n = p
  match p with
  | 0 => exact v16_at x1 s _
  | 1 => exact v18_at x1 s _

/-- Device `d`'s gradient at row `i` and column `j` of block `n`. -/
def gradAt (d : Fin 2) (n : Fin 4) (i : Fin 1024) (j : Fin 1408) : EReal :=
  ∑ s : Fin 4096, x0 (ix2 (tokenOf d s) i) * x1 (ix3 (planeOf n) (tokenOf d s) (columnOf n j))

theorem v14_at (n : Fin 4) (i : Fin 1024) (j : Fin 1408) :
    val_main_v14 (F := Ideal) x0 x1 (ix2 i (hiddenOf n j)) = gradAt x0 x1 0 n i j := by
  rw [val_main_v14_apply, val_main_v13_apply]
  refine Finset.sum_congr rfl fun s _ => (mul_comm _ _).trans (congrArg₂ (· * ·) ?_ ?_)
  · exact (congrArg (val_main_v11 (F := Ideal) x0) (ext2 _ s i rfl rfl)).trans (v11_at x0 s i)
  · exact (congrArg (val_main_v8 (F := Ideal) x1) (ext2 _ s (hiddenOf n j) rfl rfl)).trans (v8_at x1 s n j)

theorem v25_at (n : Fin 4) (i : Fin 1024) (j : Fin 1408) :
    val_main_v25 (F := Ideal) x0 x1 (ix2 i (hiddenOf n j)) = gradAt x0 x1 1 n i j := by
  rw [val_main_v25_apply, val_main_v24_apply]
  refine Finset.sum_congr rfl fun s _ => (mul_comm _ _).trans (congrArg₂ (· * ·) ?_ ?_)
  · exact (congrArg (val_main_v22 (F := Ideal) x0) (ext2 _ s i rfl rfl)).trans (v22_at x0 s i)
  · exact (congrArg (val_main_v19 (F := Ideal) x1) (ext2 _ s (hiddenOf n j) rfl rfl)).trans (v19_at x1 s n j)

theorem v28_at (d : Fin 2) (n : Fin 4) (i : Fin 1024) (j : Fin 1408) :
    val_main_v28 (F := Ideal) x0 x1 (ix3 d i (hiddenOf n j)) = gradAt x0 x1 d n i j := by
  unfold val_main_v28
  match d with
  | 0 =>
    refine (concatenate_pair_apply_left (t := S2x1024x5632) (s₁ := S1x1024x5632) (s₂ := S1x1024x5632) 0 (val_main_v26 (F := Ideal) x0 x1) (val_main_v27 (F := Ideal) x0 x1) _ _ rfl
      (ix3 0 i (hiddenOf n j)) fun a => ?_).trans ?_
    · match a with
      | ⟨0, _⟩ => rfl
      | ⟨1, _⟩ => rfl
      | ⟨2, _⟩ => rfl
    · rw [val_main_v26_apply, ← v14_at x0 x1]
      exact congrArg (val_main_v14 (F := Ideal) x0 x1) (ext2 _ _ _ rfl rfl)
  | 1 =>
    refine (concatenate_pair_apply_right (t := S2x1024x5632) (s₁ := S1x1024x5632) (s₂ := S1x1024x5632) 0 (val_main_v26 (F := Ideal) x0 x1) (val_main_v27 (F := Ideal) x0 x1) _ _ rfl rfl
      (ix3 0 i (hiddenOf n j)) (fun a ha => ?_) (by show 0 + 1 = 1; rfl)).trans ?_
    · match a, ha with
      | ⟨0, _⟩, ha => exact absurd rfl ha
      | ⟨1, _⟩, _ => rfl
      | ⟨2, _⟩, _ => rfl
    · rw [val_main_v27_apply, ← v25_at x0 x1]
      exact congrArg (val_main_v25 (F := Ideal) x0 x1) (ext2 _ _ _ rfl rfl)

/-- The reference's gradient: block `n` of device `d`. -/
theorem v35_at (d : Fin 2) (n : Fin 4) (i : Fin 1024) (j : Fin 1408) :
    val_main_v35 (F := Ideal) x0 x1 (ix3 (blockOf d n) i j) = gradAt x0 x1 d n i j := by
  rw [val_main_v35_apply]
  show val_main_v31 (F := Ideal) x0 x1 (ix3 (blockOf d n) i j) = _
  rw [val_main_v31_apply, val_main_v30_apply, show idx_main_v30 (idx_main_v31 (ix3 (blockOf d n) i j)) = ix4 d i n j from ext4 _ _ _ _ _
      (by show (((4 * d.val + n.val) * 1024 + i.val) * 1408 + j.val) / 5767168 = d.val; omega)
      (by show (((4 * d.val + n.val) * 1024 + i.val) * 1408 + j.val) / 1408 % 1024 = i.val; omega)
      (by show (((4 * d.val + n.val) * 1024 + i.val) * 1408 + j.val) / 1441792 % 4 = n.val; omega)
      (by show (((4 * d.val + n.val) * 1024 + i.val) * 1408 + j.val) % 1408 = j.val; omega),
    val_main_v29_apply, ← v28_at x0 x1]
  refine congrArg (val_main_v28 (F := Ideal) x0 x1) (ext3 _ _ _ _ ?_ ?_ ?_)
  · show (((d.val * 1024 + i.val) * 4 + n.val) * 1408 + j.val) / 5767168 = d.val
    omega
  · show (((d.val * 1024 + i.val) * 4 + n.val) * 1408 + j.val) / 5632 % 1024 = i.val
    omega
  · show (((d.val * 1024 + i.val) * 4 + n.val) * 1408 + j.val) % 5632 = 1408 * n.val + j.val
    omega

/-! ## The table -/

/-- Row `i` of half `d` of one device's table, and that row of device `d`'s own table in the two tables one above the other. -/
def rowOf (d : Fin 2) (i : Fin 352) : Fin 704 := ⟨352 * d.val + i.val, by omega⟩
def stacked (d : Fin 2) (r : Fin 704) : Fin 1408 := ⟨704 * d.val + r.val, by omega⟩

theorem v34_at (e : Fin 2) (i : Fin 352) (j : Fin 1024) :
    val_main_v34 (F := Ideal) x2 (ix2 (rowOf e i) j) = x2 (ix2 (stacked e (rowOf e i)) j) := by
  unfold val_main_v34
  match e with
  | 0 =>
    refine (concatenate_pair_apply_left (t := S704x1024) (s₁ := S352x1024) (s₂ := S352x1024) 0 (val_main_v32 (F := Ideal) x2) (val_main_v33 (F := Ideal) x2) _ _ rfl (ix2 i j) fun a => ?_).trans ?_
    · match a with
      | ⟨0, _⟩ => show i.val = 352 * 0 + i.val; omega
      | ⟨1, _⟩ => rfl
    · rw [val_main_v32_apply]
      exact congrArg x2 (ext2 _ _ _ (by show i.val = 704 * 0 + (352 * 0 + i.val); omega) rfl)
  | 1 =>
    refine (concatenate_pair_apply_right (t := S704x1024) (s₁ := S352x1024) (s₂ := S352x1024) 0 (val_main_v32 (F := Ideal) x2) (val_main_v33 (F := Ideal) x2) _ _ rfl rfl (ix2 i j)
      (fun a ha => ?_) (by show i.val + 352 = 352 * 1 + i.val; omega)).trans ?_
    · match a, ha with
      | ⟨0, _⟩, ha => exact absurd rfl ha
      | ⟨1, _⟩, _ => rfl
    · rw [val_main_v33_apply]
      exact congrArg x2 (ext2 _ _ _ (by show 1056 + i.val = 704 * 1 + (352 * 1 + i.val); omega) rfl)

/-- The reference's tables: on device `d`, half `e` is device `e`'s. -/
theorem v36_at (d e : Fin 2) (i : Fin 352) (j : Fin 1024) :
    val_main_v36 (F := Ideal) x2 (ix2 (stacked d (rowOf e i)) j) = x2 (ix2 (stacked e (rowOf e i)) j) := by
  rw [← v34_at x2]
  unfold val_main_v36
  match d with
  | 0 =>
    refine concatenate_pair_apply_left (t := S1408x1024) (s₁ := S704x1024) (s₂ := S704x1024) 0 (val_main_v34 (F := Ideal) x2) (val_main_v34 (F := Ideal) x2) _ _ rfl _ fun a => ?_
    match a with
    | ⟨0, _⟩ => show (rowOf e i).val = 704 * 0 + (rowOf e i).val; omega
    | ⟨1, _⟩ => rfl
  | 1 =>
    refine concatenate_pair_apply_right (t := S1408x1024) (s₁ := S704x1024) (s₂ := S704x1024) 0 (val_main_v34 (F := Ideal) x2) (val_main_v34 (F := Ideal) x2) _ _ rfl rfl _
      (fun a ha => ?_) (by show (rowOf e i).val + 704 = 704 * 1 + (rowOf e i).val; omega)
    match a, ha with
    | ⟨0, _⟩, ha => exact absurd rfl ha
    | ⟨1, _⟩, _ => rfl

end Cert.Up

end
-- ==== Proof.UpClaims.lean ====
/- What is claimed of the up projection's weight gradient: the reference's run, and on each device of the pair the kernel's results as the
   device's part of the reference's, the same extended reals. -/
module

public import proofs.«01_k».proof.Defs
public import proofs.«01_k».proof.Proof.UpRun
public import proofs.«01_k».proof.Proof.UpReference
public import proofs.«01_k».proof.Proof.Gen.Reference2Ideal.Run
public import Idealize.ShloMosaic.Adequacy
public import Idealize.ShloMosaic.Init

@[expose] public section

noncomputable section

namespace Cert.Up

open Idealize.ShloMosaic hiding ix0 ix1 ix2 ix3 ix4 ix5
open Idealize.ShloMosaic.ValueIdx Idealize.SL.Sem
open Cert.Pool (ext2 ext3)

section Reference

open Cert.Reference2Ideal Cert.Reference2Ideal.Read

/-- What the reference leaves in its result arrays, named stage by stage. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = val_main_v35 (F := Ideal) (m ((c.tc : Thread nD τ).loc main_arg0))
          (m ((c.tc : Thread nD τ).loc main_arg1))
      ∧ r.2.mem ((c.tc : Thread nD τ).loc main_v36) = val_main_v36 (F := Ideal) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v35_eq _ _), (h c).2.1.trans (val_main_v36_eq _), (h c).2.2⟩)
    (Value.run (F := Ideal) m ρ)

end Reference

/-- The reference runs, its arguments stay and its counters end at zero. -/
theorem frame_reference : Cert.quiescent_Reference2Ideal := fun m ρ _ =>
  (θ_run Cert.Reference2Ideal.defs _ _).mono (fun r h => ⟨fun c => (h c).2.2, sem_eq_zero_of_no_sems (by decide) r.2⟩) (reference_run m ρ)

/-! ## A device's part of an array -/

section Parts

variable (d : Fin 2)

/-- Device `d`'s tokens of the activations, of the gradients; its table; its blocks of the stacked gradient. -/
theorem tokens_part (v : (⟨2, ![8192, 1024]⟩ : Shape).Idx → EReal) (s : Fin 4096) (i : Fin 1024) :
    Layout.blockN ⟨2, ![4096, 1024]⟩ ⟨2, ![8192, 1024]⟩ (Layout.meshBlock [1, 1, 2] ![[2], []] d) v (by decide) (ix2 s i)
      = v (ix2 (tokenOf d s) i) := by
  rw [Layout.blockN_apply]
  have h : ∀ d : Fin 2, Layout.meshLin [1, 1, 2] d.val [2] = d.val := by decide
  refine congrArg v (ext2 _ _ _ ?_ ?_)
  · show Layout.meshLin [1, 1, 2] d.val [2] * 4096 + s.val = 4096 * d.val + s.val
    rw [h]; omega
  · show 0 * 1024 + i.val = i.val
    omega

theorem planes_part (v : (⟨3, ![2, 8192, 2816]⟩ : Shape).Idx → EReal) (p : Fin 2) (s : Fin 4096) (f : Fin 2816) :
    Layout.blockN ⟨3, ![2, 4096, 2816]⟩ ⟨3, ![2, 8192, 2816]⟩ (Layout.meshBlock [1, 1, 2] ![[], [2], []] d) v (by decide) (ix3 p s f)
      = v (ix3 p (tokenOf d s) f) := by
  rw [Layout.blockN_apply]
  have h : ∀ d : Fin 2, Layout.meshLin [1, 1, 2] d.val [2] = d.val := by decide
  refine congrArg v (ext3 _ _ _ _ ?_ ?_ ?_)
  · show 0 * 2 + p.val = p.val
    omega
  · show Layout.meshLin [1, 1, 2] d.val [2] * 4096 + s.val = 4096 * d.val + s.val
    rw [h]; omega
  · show 0 * 2816 + f.val = f.val
    omega

theorem table_part (v : (⟨2, ![1408, 1024]⟩ : Shape).Idx → EReal) (r : Fin 704) (j : Fin 1024) :
    Layout.blockN ⟨2, ![704, 1024]⟩ ⟨2, ![1408, 1024]⟩ (Layout.meshBlock [1, 1, 2] ![[2], []] d) v (by decide) (ix2 r j)
      = v (ix2 (stacked d r) j) := by
  rw [Layout.blockN_apply]
  have h : ∀ d : Fin 2, Layout.meshLin [1, 1, 2] d.val [2] = d.val := by decide
  refine congrArg v (ext2 _ _ _ ?_ ?_)
  · show Layout.meshLin [1, 1, 2] d.val [2] * 704 + r.val = 704 * d.val + r.val
    rw [h]; omega
  · show 0 * 1024 + j.val = j.val
    omega

theorem blocks_part (v : (⟨3, ![8, 1024, 1408]⟩ : Shape).Idx → EReal) (n : Fin 4) (i : Fin 1024) (j : Fin 1408) :
    Layout.blockN ⟨3, ![4, 1024, 1408]⟩ ⟨3, ![8, 1024, 1408]⟩ (Layout.meshBlock [1, 1, 2] ![[2], [], []] d) v (by decide) (ix3 n i j)
      = v (ix3 (blockOf d n) i j) := by
  rw [Layout.blockN_apply]
  have h : ∀ d : Fin 2, Layout.meshLin [1, 1, 2] d.val [2] = d.val := by decide
  refine congrArg v (ext3 _ _ _ _ ?_ ?_ ?_)
  · show Layout.meshLin [1, 1, 2] d.val [2] * 4 + n.val = 4 * d.val + n.val
    rw [h]; omega
  · show 0 * 1024 + i.val = i.val
    omega
  · show 0 * 1408 + j.val = j.val
    omega

end Parts

/-! ## The equation -/

section Equation

open Cert.Kernel2Ideal

variable (m : (ℓ : Loc nD τ sig) → Buf (Elt Ideal) ℓ)
  (x0 : (⟨2, ![8192, 1024]⟩ : Shape).Idx → EReal) (x1 : (⟨3, ![2, 8192, 2816]⟩ : Shape).Idx → EReal)
  (x2 : (⟨2, ![1408, 1024]⟩ : Shape).Idx → EReal)

/-- A device's gradient is its part of the reference's. -/
theorem gradient_eq (c : Dev nD)
    (h0 : A0 m c = Layout.blockN ⟨2, ![4096, 1024]⟩ ⟨2, ![8192, 1024]⟩ (Layout.meshBlock [1, 1, 2] ![[2], []] c) x0 (by decide))
    (h1 : A1 m c = Layout.blockN ⟨3, ![2, 4096, 2816]⟩ ⟨3, ![2, 8192, 2816]⟩ (Layout.meshBlock [1, 1, 2] ![[], [2], []] c) x1 (by decide)) :
    ((dat m c).arrAt 2 cfg0.N : (⟨3, ![4, 1024, 1408]⟩ : Shape).Idx → EReal)
      = Layout.blockN ⟨3, ![4, 1024, 1408]⟩ ⟨3, ![8, 1024, 1408]⟩ (Layout.meshBlock [1, 1, 2] ![[2], [], []] c)
          (Cert.Reference2Ideal.Read.val_main_v35 (F := Ideal) x0 x1) (by decide) := by
  funext k
  obtain ⟨n, i, j, rfl⟩ : ∃ (n : Fin 4) (i : Fin 1024) (j : Fin 1408), k = ix3 n i j := ⟨_, _, _, ValueIdx.eq_ix3 k⟩
  rw [blocks_part]
  have e : (∑ s : Fin 4096, A0 m c (ix2 s i) * A1 m c (ix3 (planeOf n) s (columnOf n j))) = gradAt x0 x1 c n i j := by
    refine Finset.sum_congr rfl fun s _ => congrArg₂ (· * ·) ?_ ?_
    · rw [h0]; exact tokens_part c x0 s i
    · rw [h1]; exact planes_part c x1 _ s _
  exact (array_at m c n i j).trans (e.trans (v35_at x0 x1 c n i j).symm)

theorem pair_cases : ∀ c e : Fin 2, e = c ∨ e = mate c := by decide

/-- A device's table is its part of the reference's. -/
theorem table_eq (c : Dev nD)
    (h2 : ∀ c : Dev nD, A2 m c
      = Layout.blockN ⟨2, ![704, 1024]⟩ ⟨2, ![1408, 1024]⟩ (Layout.meshBlock [1, 1, 2] ![[2], []] c) x2 (by decide)) :
    (exchanged m c : (⟨2, ![704, 1024]⟩ : Shape).Idx → EReal)
      = Layout.blockN ⟨2, ![704, 1024]⟩ ⟨2, ![1408, 1024]⟩ (Layout.meshBlock [1, 1, 2] ![[2], []] c)
          (Cert.Reference2Ideal.Read.val_main_v36 (F := Ideal) x2) (by decide) := by
  funext k
  obtain ⟨r, j, rfl⟩ : ∃ (r : Fin 704) (j : Fin 1024), k = ix2 r j := ⟨_, _, ValueIdx.eq_ix2 k⟩
  obtain ⟨e, i, rfl⟩ : ∃ (e : Fin 2) (i : Fin 352), r = rowOf e i :=
    ⟨⟨r.val / 352, by omega⟩, ⟨r.val % 352, Nat.mod_lt _ (by decide)⟩, Fin.ext (by show r.val = 352 * (r.val / 352) + r.val % 352; omega)⟩
  rw [table_part]
  refine Eq.trans ?_ (v36_at x2 c e i j).symm
  have hr : (rowOf e i).val = 352 * e.val + i.val := rfl
  have he : e = c ∨ e = mate c := pair_cases c e
  rcases he with rfl | rfl
  · rw [table_own m e (rowOf e i) j (by omega) (by omega), h2]
    exact table_part e x2 _ j
  · rw [table_other m c (rowOf (mate c) i) j (by omega) (by omega), h2]
    exact table_part (mate c) x2 _ j

end Equation

/-- The kernel's results on each device and the device's part of the reference's are the same extended reals. -/
theorem algebraic : Cert.algebraic_Kernel2Ideal_Reference2Ideal := fun m g m' g' _ hargs =>
  ⟨_, _,
    (θ_run (Cert.Kernel2Ideal.defs (F := Ideal)) _ _).mono (fun r h c =>
        ⟨(h.1 c).1.1.trans (gradient_eq m _ _ c (hargs c).1 (hargs c).2.1),
          (h.1 c).1.2.trans (table_eq m _ c fun d => (hargs d).2.2), (h.1 c).2⟩)
      (run_main (F := Ideal) m g),
    (θ_run (Cert.Reference2Ideal.defs (F := Ideal)) _ _).mono (fun r h => h 0) (reference_run m' g')⟩

end Cert.Up

end
-- ==== Proof.DxProtocol.lean ====
/- The exchange the gradient of the step's stream carries along: each device of the pair holds a gradient of the up projection's weights,
   four tables of 1024 rows, sends the other device the 512 rows of each that are the other's to finish, and takes its own 512 rows of the
   other's four tables into four slots. This module names the pieces, the slots and the nine semaphores, and states as a schedule what each
   of them is worth. -/
module

public import proofs.«01_k».proof.Proof.Gen.Kernel5Ideal.Launch
public import proofs.«01_k».proof.Proof.Gen.Kernel5Ideal.Points
public import proofs.«01_k».proof.Proof.Gen.Kernel5Ideal.Skeleton
public import Idealize.ShloMosaic.Lib.Rounds
public import Idealize.ShloMosaic.Lib.Tactic
public import Idealize.ShloMosaic.Lib.Pipeline.RegionTalk

@[expose] public section

noncomputable section

namespace Cert.Dx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]

/-! ## The pair, its semaphores, the pieces and the slots -/

/-- The other device of the pair. -/
def mate (c : Dev nD) : Dev nD := ⟨1 - c.val, lt_of_le_of_lt (Nat.sub_le 1 c.val) (by decide)⟩
theorem mate_mate (c : Dev nD) : mate (mate c) = c := by revert c; decide
def swap : Dev nD ≃ Dev nD := ⟨mate, mate, mate_mate, mate_mate⟩

/-- The device the kernel signals, and the one it copies to, are the other of the pair. -/
theorem signals_mate (c : Dev nD) (h : k0_dev1 c < nD) : (⟨k0_dev1 c, h⟩ : Dev nD) = mate c :=
  Fin.ext ((k0_dev1_eq c).trans (by revert c; decide))

/-- Semaphore `k` of the pieces having left; of the pieces having arrived. -/
def sentSem (k : Fin 4) : DmaSem sig := ⟨13 + k.val, by show 13 + k.val < 21; omega⟩
def gotSem (k : Fin 4) : DmaSem sig := ⟨17 + k.val, by show 17 + k.val < 21; omega⟩

abbrev barCell (c : Dev nD) : GSem nD τ sig := ((c : Thread nD τ), .reg barrier0)
abbrev sentCell (c : Dev nD) (k : Fin 4) : GSem nD τ sig := ((c : Thread nD τ), .dma (sentSem k))
abbrev gotCell (c : Dev nD) (k : Fin 4) : GSem nD τ sig := ((c : Thread nD τ), .dma (gotSem k))

/-- The eight semaphores only this call uses. -/
def ownSem (k : Fin 8) : SemLoc sig := .dma ⟨13 + k.val, by show 13 + k.val < 21; omega⟩

/-- What a semaphore is for. -/
inductive Role where
  | bar
  | sent (k : Fin 4)
  | got (k : Fin 4)
  | other
  deriving DecidableEq

def role : SemLoc sig → Role
  | .reg _ => .bar
  | .dma s => if h : 17 ≤ s.val then .got ⟨s.val - 17, by have : s.val < 21 := s.isLt; omega⟩
      else if h' : 13 ≤ s.val then .sent ⟨s.val - 13, by omega⟩ else .other

theorem role_dma (s : DmaSem sig) : role (.dma s) ≠ .bar := by
  unfold role
  dsimp only
  split_ifs <;> exact fun h => by cases h
theorem role_bar : role (.reg barrier0) = .bar := rfl
theorem role_sent (k : Fin 4) : role (.dma (sentSem k)) = .sent k := by revert k; decide
theorem role_got (k : Fin 4) : role (.dma (gotSem k)) = .got k := by revert k; decide

/-- Where a device's piece `k` begins: table `k`, at the other device's rows. -/
abbrev pieceOff (c : Dev nD) (k : Fin 4) : Fin 3 → Nat := ![k.val, 512 - 512 * c.val, 0]
abbrev slotOff (k : Fin 4) : Fin 3 → Nat := ![k.val, 0, 0]
theorem piece_inb (c : Dev nD) (k : Fin 4) : ∀ a, pieceOff c k a + S1x512x1408.size a ≤ S4x1024x1408.size a := by revert c k; decide +kernel
theorem slot_inb (k : Fin 4) : ∀ a, slotOff k a + S1x512x1408.size a ≤ S4x512x1408.size a := by revert k; decide +kernel

/-- 512 rows of one of the four tables, from an offset on; a slot of the landing buffer, likewise. -/
abbrev pieceAt (off : Fin 3 → Nat) (h : ∀ a, off a + S1x512x1408.size a ≤ S4x1024x1408.size a) : Memref sig .tc .hbm S512x1408 .bf16 :=
  ((Memref.whole main_arg5).slice (Rect.unit (s := S4x1024x1408) off S1x512x1408.size h) (fun _ => rfl)).squeeze S512x1408 squeezes_S1x512x1408_S512x1408
abbrev slotAt (off : Fin 3 → Nat) (h : ∀ a, off a + S1x512x1408.size a ≤ S4x512x1408.size a) : Memref sig .tc .hbm S512x1408 .bf16 :=
  ((Memref.whole main_v1_3).slice (Rect.unit (s := S4x512x1408) off S1x512x1408.size h) (fun _ => rfl)).squeeze S512x1408 squeezes_S1x512x1408_S512x1408

abbrev piece (c : Dev nD) (k : Fin 4) : Memref sig .tc .hbm S512x1408 .bf16 := pieceAt (pieceOff c k) (piece_inb c k)
abbrev slot (k : Fin 4) : Memref sig .tc .hbm S512x1408 .bf16 := slotAt (slotOff k) (slot_inb k)

/-- What the copy of a piece credits. -/
abbrev credit : ℕ := (slot 0).view.dmaCredit
theorem credit_pos : 0 < credit := View.dmaCredit_pos _ (by decide)
theorem credit_slot (off : Fin 3 → Nat) (h : ∀ a, off a + S1x512x1408.size a ≤ S4x512x1408.size a) : (slotAt off h).view.dmaCredit = credit := rfl
theorem credit_piece (off : Fin 3 → Nat) (h : ∀ a, off a + S1x512x1408.size a ≤ S4x1024x1408.size a) : (pieceAt off h).view.dmaCredit = credit := rfl

theorem set_piece (c : Dev nD) (k : Fin 4) :
    (piece c k).view.set = (Rect.unit (s := S4x1024x1408) (pieceOff c k) S1x512x1408.size (piece_inb c k)).set :=
  (View.set_reshape _ _).trans (View.set_slice_whole _ _)
theorem set_slot (k : Fin 4) :
    (slot k).view.set = (Rect.unit (s := S4x512x1408) (slotOff k) S1x512x1408.size (slot_inb k)).set :=
  (View.set_reshape _ _).trans (View.set_slice_whole _ _)

theorem mem_piece (c : Dev nD) (k : Fin 4) (i : S4x1024x1408.Idx) :
    i ∈ (piece c k).view.set ↔ (i 0).val = k.val ∧ 512 - 512 * c.val ≤ (i 1).val ∧ (i 1).val < 512 - 512 * c.val + 512 := by
  rw [set_piece, Rect.mem_set_unit]
  constructor
  · intro h
    have h0 := h (0 : Fin 3)
    have h1 := h (1 : Fin 3)
    simp only [S1x512x1408, Matrix.cons_val_zero, Matrix.cons_val_one] at h0 h1
    exact ⟨by omega, h1⟩
  · intro h a
    match a with
    | ⟨0, _⟩ => exact ⟨le_of_eq h.1.symm, by show (i 0).val < k.val + 1; omega⟩
    | ⟨1, _⟩ => exact h.2
    | ⟨2, _⟩ => exact ⟨Nat.zero_le _, by simpa using (i (2 : Fin 3)).isLt⟩

theorem mem_slot (k : Fin 4) (i : S4x512x1408.Idx) : i ∈ (slot k).view.set ↔ (i 0).val = k.val := by
  rw [set_slot, Rect.mem_set_unit]
  constructor
  · intro h
    have h0 := h (0 : Fin 3)
    simp only [S1x512x1408, Matrix.cons_val_zero] at h0
    omega
  · intro h a
    match a with
    | ⟨0, _⟩ => exact ⟨le_of_eq h.symm, by show (i 0).val < k.val + 1; omega⟩
    | ⟨1, _⟩ => exact ⟨Nat.zero_le _, by simpa using (i (1 : Fin 3)).isLt⟩
    | ⟨2, _⟩ => exact ⟨Nat.zero_le _, by simpa using (i (2 : Fin 3)).isLt⟩

theorem pieces_disjoint (c : Dev nD) {k l : Fin 4} (h : k ≠ l) : Disjoint (piece c k).view.set (piece c l).view.set := by
  rw [Finset.disjoint_left]
  intro i hi hj
  rw [mem_piece] at hi hj
  exact h (Fin.ext (hi.1.symm.trans hj.1))

theorem slots_disjoint {k l : Fin 4} (h : k ≠ l) : Disjoint (slot k).view.set (slot l).view.set := by
  rw [Finset.disjoint_left]
  intro i hi hj
  rw [mem_slot] at hi hj
  exact h (Fin.ext (hi.symm.trans hj))

/-! ## What the devices hold -/

/-- The library's copy of the round algebra and this protocol's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev EX : Emb (UR sig nD τ) (MT nD τ sig Unit (Elt F) ℕ UU ℕ) := embR

/-- The same resource for each of the four tables. -/
abbrev four (Φ : Fin 4 → sProp 𝕄) : sProp 𝕄 := iprop(Φ 0 ∗ Φ 1 ∗ Φ 2 ∗ Φ 3)
theorem four_eq (Φ : Fin 4 → sProp 𝕄) : bigSep Finset.univ Φ = four Φ :=
  bigSep_univ_eq_bigSepL [(0 : Fin 4), 1, 2, 3] (by decide) (by decide) Φ

variable (m : (ℓ : Loc nD τ sig) → Buf (Elt F) ℓ)

/-- A device's memory at launch. -/
abbrev V₁ (c : Dev nD) : Valuation τ sig (Elt F) := fun b => m ((c : Dev nD), b)

abbrev tables (c : Dev nD) : (main_arg5 : Ref sig .tc).ty.Contents (Elt F) := V₁ m c main_arg5
abbrev landing (c : Dev nD) : (main_v1_3 : Ref sig .tc).ty.Contents (Elt F) := V₁ m c main_v1_3

/-- Device `c`'s landing buffer with the other device's piece `k` in slot `k`. -/
def landed (c : Dev nD) (k : Fin 4) : (main_v1_3 : Ref sig .tc).ty.Contents (Elt F) :=
  (slot k).view.write (Elt F) (landing m c) ((piece (mate c) k).view.read (Elt F) (tables m (mate c))) Finset.univ

/-- Device `c`'s landing buffer once all four have arrived. -/
def arrived (c : Dev nD) : (main_v1_3 : Ref sig .tc).ty.Contents (Elt F) := fun i => landed m c ⟨(i (0 : Fin 3)).val, (i (0 : Fin 3)).isLt⟩ i

/-- On device `c`, piece `k` of its tables at `f`; slot `k` of its landing buffer at `f`. -/
abbrev pieceRows (c : Dev nD) (k : Fin 4) (f : (main_arg5 : Ref sig .tc).ty.Contents (Elt F)) : sProp 𝕄 :=
  (piece c k).view.loc (c : Thread nD τ) ↦[(piece c k).view.set]{fullShare} f
abbrev slotRows (c : Dev nD) (k : Fin 4) (f : (main_v1_3 : Ref sig .tc).ty.Contents (Elt F)) : sProp 𝕄 :=
  (slot k).view.loc (c : Thread nD τ) ↦[(slot k).view.set]{fullShare} f

/-! ## The schedule: one round, one duty on each of the nine semaphores -/

/-- The signal on `c`'s barrier: the other device's slots, and that its arrivals are being counted. -/
def barPay (c : Dev nD) : sProp 𝕄 :=
  iprop(four (fun k => slotRows (mate c) k (landing m (mate c))) ∗ four (fun k => reached EX (gotCell (mate c) k) 0))
/-- The arrival of copy `k` on `c`: slot `k`, at the other device's piece. -/
def gotPay (c : Dev nD) (k : Fin 4) : sProp 𝕄 := slotRows c k (landed m c k)
/-- The departure of copy `k` from `c`: its own piece back. -/
def sentPay (c : Dev nD) (k : Fin 4) : sProp 𝕄 := pieceRows c k (tables m c)

/-- What is paid on device `c`'s semaphore of a role. -/
def pay (c : Dev nD) : Role → sProp 𝕄
  | .bar => barPay m c
  | .sent k => sentPay m c k
  | .got k => gotPay m c k
  | .other => iprop(emp)

instance pay_storable (c : Dev nD) (x : Role) : BI.Storable (upEmb : UEmb _ 𝕄) (pay (F := F) m c x) := by
  match x with
  | .bar => show BI.Storable upEmb (barPay m c); unfold barPay; infer_instance
  | .sent k => show BI.Storable upEmb (sentPay m c k); unfold sentPay; infer_instance
  | .got k => show BI.Storable upEmb (gotPay m c k); unfold gotPay; infer_instance
  | .other => show BI.Storable upEmb iprop(emp); infer_instance

def plan : Rounds.Schedule (GSem nD τ sig) Unit 𝕄 where
  duties g r := if r = 0 ∧ g.1.2 = .tc ∧ role g.2 ≠ .other then {()} else ∅
  unitless _ := False
  amount g _ _ := if role g.2 = .bar then 1 else credit
  payload g _ _ := pay m g.1.1 (role g.2)
  amount_pos g _ _ _ := by
    by_cases h : role g.2 = .bar
    · rw [if_pos h]; exact Nat.one_pos
    · rw [if_neg h]; exact credit_pos

instance plan_payload_storable (g : GSem nD τ sig) (r : ℕ) (d : Unit) :
    BI.Storable (upEmb : UEmb _ 𝕄) ((plan (F := F) m).payload g r d) := pay_storable m g.1.1 (role g.2)

section Plan

variable (c : Dev nD)

theorem duties_at (s : SemLoc sig) (h : role s ≠ .other) : (plan (F := F) m).duties ((c : Thread nD τ), s) 0 = {()} := by
  dsimp only [plan]; exact if_pos ⟨rfl, rfl, h⟩
theorem duties_later (g : GSem nD τ sig) : ∀ r, 1 ≤ r → (plan (F := F) m).duties g r = ∅ :=
  fun r hr => by dsimp only [plan]; exact if_neg fun h => by omega

theorem amount_bar (u : Unit) : (plan (F := F) m).amount (barCell c) 0 u = 1 := by dsimp only [plan]; exact if_pos rfl
theorem amount_dma (s : DmaSem sig) (u : Unit) : (plan (F := F) m).amount ((c : Thread nD τ), .dma s) 0 u = credit := by
  dsimp only [plan]; exact if_neg (role_dma s)

theorem expect_bar : (plan (F := F) m).expect (barCell c) 0 = 1 := by
  unfold Schedule.expect Schedule.amountOf; rw [duties_at m c _ (by rw [role_bar]; decide), Finset.sum_singleton, amount_bar]
theorem expect_dma (s : DmaSem sig) (h : role (.dma s) ≠ .other) : (plan (F := F) m).expect ((c : Thread nD τ), .dma s) 0 = credit := by
  unfold Schedule.expect Schedule.amountOf; rw [duties_at m c _ h, Finset.sum_singleton, amount_dma]

theorem payload_at (s : SemLoc sig) (u : Unit) : (plan (F := F) m).payload ((c : Thread nD τ), s) 0 u = pay m c (role s) := rfl

theorem rest_at (s : SemLoc sig) (h : role s ≠ .other) :
    bigSep ((plan (F := F) m).duties ((c : Thread nD τ), s) 0 \ ∅) (fun u => (plan (F := F) m).payload ((c : Thread nD τ), s) 0 u) = pay m c (role s) := by
  rw [Finset.sdiff_empty, duties_at m c s h, bigSep_singleton, payload_at]

theorem sent_used (k : Fin 4) : role (.dma (sentSem k)) ≠ .other := by rw [role_sent]; exact fun h => by cases h
theorem got_used (k : Fin 4) : role (.dma (gotSem k)) ≠ .other := by rw [role_got]; exact fun h => by cases h
theorem bar_used : role (.reg barrier0) ≠ .other := by rw [role_bar]; exact fun h => by cases h

end Plan

/-! ## What a device owes, and in which order it may wait -/

/-- The arrival of piece `k` a device owes the other one. -/
abbrev arrival (c : Dev nD) (k : Fin 4) : CellTallies nD τ sig Unit := tallyAt (gotCell (mate c) k) () credit
/-- What it owes with the last `n` pieces still to send. -/
def due (c : Dev nD) : ℕ → CellTallies nD τ sig Unit
  | 0 => 0
  | n + 1 => due c n + arrival c ⟨3 - n, by omega⟩
/-- At launch a device owes the other one four arrivals and a barrier unit. -/
def debt (c : Dev nD) : CellTallies nD τ sig Unit := due c 4 + tallyAt (barCell (mate c)) () 1

def L (g : GSem nD τ sig) : Finset Unit := if g.1.2 = .tc then {()} else ∅
/-- Barriers come before arrivals; everything else comes before both. -/
def lv (g : GSem nD τ sig) (_ : Unit) : ℕ := match role g.2 with
  | .bar => 1
  | .got _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by
  rw [L_tc]; exact Finset.mem_singleton_self _
theorem lv_bar (c : Dev nD) (u : Unit) : lv (barCell c) u = 1 := rfl
theorem lv_got (c : Dev nD) (k : Fin 4) (u : Unit) : lv (gotCell c k) u = 2 := by
  unfold lv; dsimp only; rw [role_got]

theorem tallyAt_cell {g g' : GSem nD τ sig} {u : Unit} {n : ℕ} (h : 0 < (tallyAt g' () n : CellTallies nD τ sig Unit) g u) : g = g' := by
  rw [tallyAt_apply] at h
  by_contra hne
  rw [if_neg fun hh => hne hh.1] at h
  exact absurd h (Nat.lt_irrefl 0)

theorem due_cell {c : Dev nD} {g : GSem nD τ sig} {u : Unit} : ∀ n : ℕ, 0 < due c n g u → ∃ k, g = gotCell (mate c) k
  | 0, h => absurd h (Nat.lt_irrefl 0)
  | n + 1, h => by
    unfold due at h
    rw [Pi.add_apply, Finsupp.add_apply] at h
    exact (Nat.add_pos_iff_pos_or_pos.mp h).elim (due_cell n) fun h => ⟨_, tallyAt_cell h⟩

theorem debt_cell {c : Dev nD} {g : GSem nD τ sig} {u : Unit} (h : 0 < debt c g u) : (∃ k, g = gotCell (mate c) k) ∨ g = barCell (mate c) := by
  unfold debt at h
  rw [Pi.add_apply, Finsupp.add_apply] at h
  exact (Nat.add_pos_iff_pos_or_pos.mp h).imp (due_cell 4) tallyAt_cell

/-- A device may wait on its barrier while it still owes the other one the arrivals. -/
theorem mayWait_bar (c : Dev nD) :
    (levAts L lv : sProp 𝕄) ⊢ MayWait (c : Thread nD τ) (.reg barrier0) () (due c 4) :=
  MayOwe.of_cut (L := L) (lev := lv) 1 (fun p hp => by rw [Finset.mem_singleton.mp hp]; exact mem_L ..)
    (fun g u hg => by obtain ⟨k, rfl⟩ := due_cell 4 hg; exact mem_L ..)
    (fun p hp => by rw [Finset.mem_singleton.mp hp]; exact (lv_bar c _).le)
    (fun g u hg => by obtain ⟨k, rfl⟩ := due_cell 4 hg; rw [lv_got]; decide)

/-! ## The ghost state, in its four stages -/

/-- The invariants device `c` opens: its own nine, and the other device's barrier and arrivals. -/
def invs (K : GSem nD τ sig → ℕ) (c : Dev nD) : sProp 𝕄 :=
  iprop(cellInv EX (plan m) (K (barCell c)) (barCell c) ∗ four (fun k => cellInv EX (plan m) (K (sentCell c k)) (sentCell c k))
    ∗ four (fun k => cellInv EX (plan m) (K (gotCell c k)) (gotCell c k))
    ∗ cellInv EX (plan m) (K (barCell (mate c))) (barCell (mate c))
    ∗ four (fun k => cellInv EX (plan m) (K (gotCell (mate c) k)) (gotCell (mate c) k)))

instance invs_persistent (K : GSem nD τ sig → ℕ) (c : Dev nD) : BI.Persistent (invs m K c) := by unfold invs; infer_instance

/-- The duties a device pays. -/
abbrev payable (c : Dev nD) : sProp 𝕄 :=
  iprop(dutyTok EX (barCell (mate c)) 0 () ∗ four (fun k => dutyTok EX (sentCell c k) 0 ()) ∗ four (fun k => dutyTok EX (gotCell (mate c) k) 0 ()))

/-- From launch to the call: its place on its barrier, the rights to open the semaphores of the call, the duties it will pay. -/
def ghost (K : GSem nD τ sig → ℕ) (c : Dev nD) : sProp 𝕄 :=
  iprop(invs m K c
    ∗ atPos EX (barCell c) 0 ∅ 0 ∗ four (fun k => openTok EX (sentCell c k)) ∗ four (fun k => openTok EX (gotCell c k))
    ∗ reached EX (barCell (mate c)) 0 ∗ payable c)

/-- The same once the call has opened its semaphores. -/
def opened (K : GSem nD τ sig → ℕ) (c : Dev nD) : sProp 𝕄 :=
  iprop(invs m K c
    ∗ atPos EX (barCell c) 0 ∅ 0 ∗ four (fun k => atPos EX (sentCell c k) 0 ∅ 0) ∗ four (fun k => atPos EX (gotCell c k) 0 ∅ 0)
    ∗ reached EX (barCell (mate c)) 0 ∗ four (fun k => reached EX (sentCell c k) 0) ∗ four (fun k => reached EX (gotCell c k) 0) ∗ payable c)

/-- Before the first point: everything the exchange needs, the pieces and the slots. -/
def before (c : Dev nD) : sProp 𝕄 :=
  iprop((∃ K, opened m K c) ∗ cred (tallyAt (barCell c) () 1) ∗ four (fun k => cred (tallyAt (gotCell c k) () credit)) ∗ levAts L lv
    ∗ four (fun k => pieceRows c k (tables m c)) ∗ four (fun k => slotRows c k (landing m c)))

/-- Between the points: the barrier done with, the copies in flight, the pieces and the slots away. -/
def during (c : Dev nD) : sProp 𝕄 :=
  iprop((∃ K, invs m K c) ∗ semVal (barCell c) 0 ∗ four (fun k => atPos EX (sentCell c k) 0 ∅ 0) ∗ four (fun k => atPos EX (gotCell c k) 0 ∅ 0)
    ∗ four (fun k => cred (tallyAt (sentCell c k) () credit)) ∗ four (fun k => cred (tallyAt (gotCell c k) () credit)))

/-- After the last point: the nine counters at zero, the pieces back, the slots filled. -/
def after (c : Dev nD) : sProp 𝕄 :=
  iprop(semVal (barCell c) 0 ∗ (four (fun k => semVal (sentCell c k) 0) ∗ four (fun k => semVal (gotCell c k) 0))
    ∗ four (fun k => pieceRows c k (tables m c)) ∗ four (fun k => slotRows c k (landed m c k)))

theorem close (κ : ℕ) (g : GSem nD τ sig) :
    iprop(cellInv EX (plan m) κ g ∗ atPos EX g (0 + 1) ∅ 0) ⊢ (|={Set.univ}=> semVal g 0 : sProp 𝕄) :=
  Rounds.cell_close EX (plan m) (Set.mem_univ κ) id (duties_later m g)

end Cert.Dx

end
-- ==== Proof.DxExchange.lean ====
/- The two moves of the exchange: a piece sent to the other device, and the wait for a copy to have left or arrived. -/
module

public import proofs.«01_k».proof.Proof.DxProtocol

@[expose] public section

set_option maxRecDepth 16384

noncomputable section

namespace Cert.Dx

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]

local notation "𝕄" => MT nD τ sig Unit (Elt F) ℕ UU ℕ

variable (m : (ℓ : Loc nD τ sig) → Buf (Elt F) ℓ)

theorem is_mate (c : Dev nD) (n : ℕ) (e : n = (4 * (c.val / 2) + 1) - c.val) (h : n < nD) : (⟨n, h⟩ : Dev nD) = mate c :=
  Fin.ext (e.trans (by have : c.val < 2 := c.isLt; show _ = 1 - c.val; omega))

/-- What sending piece `k` takes. -/
def ready (κ : GSem nD τ sig → ℕ) (c : Dev nD) (k : Fin 4) : sProp 𝕄 :=
  iprop(cellInv EX (plan m) (κ (sentCell c k)) (sentCell c k) ∗ cellInv EX (plan m) (κ (gotCell (mate c) k)) (gotCell (mate c) k)
    ∗ pieceRows c k (tables m c) ∗ slotRows (mate c) k (landing m (mate c))
    ∗ dutyTok EX (sentCell c k) 0 () ∗ reached EX (sentCell c k) 0
    ∗ dutyTok EX (gotCell (mate c) k) 0 () ∗ reached EX (gotCell (mate c) k) 0)

theorem landed_mate (c : Dev nD) (k : Fin 4) : landed m (mate c) k
    = (slot k).view.write (Elt F) (landing m (mate c)) ((piece c k).view.read (Elt F) (tables m c)) Finset.univ := by
  unfold landed; rw [mate_mate]

/-- The copy of a piece to the other device: it gives that device its arrival and, once gone, its own device the piece back. -/
theorem send_piece (c d : Dev nD) (e : d = mate c) (n : ℕ) (k : Fin 4) (hk : k = ⟨3 - n, by omega⟩) (s g : DmaSem sig)
    (hs : s = sentSem k) (hg : g = gotSem k) (off off' : Fin 3 → Nat) (h h') (ho : off = pieceOff c k) (ho' : off' = slotOff k)
    (hw hw' hq) (κ : GSem nD τ sig → ℕ) (W : Waits sig Unit)
    (r : PUnit → Prog (TpuEff nD τ sig (Elt F) Λ₀ .tc) PUnit) (K : PUnit → sProp 𝕄) :
    iprop(ready m κ c k ∗ owes (c : Thread nD τ) (due c (n + 1)) W)
      ⊢ iprop((iprop(cred (tallyAt (sentCell c k) () credit) ∗ owes (c : Thread nD τ) (due c n) W)
          -∗ wp frame (wpE (defs₀ (F := F)) Variants.none c none) Set.univ (r ⟨⟩) K)
        -∗ wp frame (wpE (defs₀ (F := F)) Variants.none c none) Set.univ
          (.op (.enqueueDma (pieceAt off h) (.remote (Dev.tc d) (slotAt off' h') (.dma s)) (.dma g) hw hw' hq) r) K) := by
  subst e; subst hs; subst hg; subst ho; subst ho'
  unfold ready
  iintro ⟨⟨#HIsent, #HIgotM, Hown, Hslot, HtS, #HrS, HtG, #HrGM⟩, HO⟩ Hk
  iapply (Rounds.wp_send_pointsTo Variants.none EX (plan m) (c : Thread nD τ) none (c' := (mate c : Thread nD τ)) (src := piece c k) (dst := slot k)
      (sS := .dma (sentSem k)) (sem := .dma (gotSem k)) (q := fullShare) (fs := tables m c) (κ₁ := κ (sentCell c k)) (κ₂ := κ (gotCell (mate c) k))
      (r₁ := 0) (r₂ := 0) (d₁ := ()) (d₂ := ()) (fd := landing m (mate c))
      (by rw [duties_at m c _ (sent_used k)]; exact Finset.mem_singleton_self _)
      (by rw [duties_at m (mate c) _ (got_used k)]; exact Finset.mem_singleton_self _)
      () () credit rfl (amount_dma m c _ ()) (amount_dma m (mate c) _ ()) (due c n) (by subst hk; rfl) (W := W)
      (by rw [payload_at, role_sent]; exact BI.Entails.refl _)
      (by rw [payload_at, role_got]; show _ ⊢ slotRows (mate c) k (landed m (mate c) k); rw [landed_mate])) $$ [Hown Hslot HO HtS HtG]
  · iframe HIsent HIgotM Hown Hslot HO HtS HrS HtG HrGM
  iexact Hk

/-- What waiting on semaphore `s` takes. -/
def awaited (κ : GSem nD τ sig → ℕ) (c : Dev nD) (s : DmaSem sig) : sProp 𝕄 :=
  iprop(cellInv EX (plan m) (κ ((c : Thread nD τ), .dma s)) ((c : Thread nD τ), .dma s) ∗ cred (tallyAt ((c : Thread nD τ), .dma s) () credit)
    ∗ atPos EX ((c : Thread nD τ), .dma s) 0 ∅ 0)

/-- A wait for a whole piece by a semaphore: what was to be paid there comes with it, and the semaphore is done with. -/
theorem wait_piece (c : Dev nD) (s s' : DmaSem sig) (e : s' = s) (hr : role (.dma s) ≠ .other) (src dst : Memref sig .tc .hbm S512x1408 .bf16)
    (hc : dst.view.dmaCredit = credit) (hw hw') (κ : GSem nD τ sig → ℕ) (W : Waits sig Unit)
    (r : PUnit → Prog (TpuEff nD τ sig (Elt F) Λ₀ .tc) PUnit) (K : PUnit → sProp 𝕄) :
    iprop(awaited m κ c s ∗ owes (c : Thread nD τ) (0 : CellTallies nD τ sig Unit) W)
      ⊢ iprop((iprop((∃ W, owes (c : Thread nD τ) (0 : CellTallies nD τ sig Unit) W) ∗ semVal ((c : Thread nD τ), .dma s) 0 ∗ pay m c (role (.dma s)))
          -∗ wp frame (wpE (defs₀ (F := F)) Variants.none c none) Set.univ (r ⟨⟩) K)
        -∗ wp frame (wpE (defs₀ (F := F)) Variants.none c none) Set.univ (.op (.waitDma2 s' src dst hw hw') r) K) := by
  subst e
  unfold awaited
  have he := expect_dma m c s' hr
  rw [← hc] at he ⊢
  iintro ⟨⟨#HI, Hc, Hat⟩, HO⟩ Hk
  iapply (Rounds.wp_wait_rest_token Variants.none EX (plan m) (c : Thread nD τ) none (κ := κ ((c : Thread nD τ), .dma s'))
      (wpE_waitDma2_eq Variants.none (c : Thread nD τ) none Set.univ) (Set.mem_univ _) () (O := 0) (W := W) (R := 0) (m := 0) (T := ∅)
      ((Nat.zero_add _).trans he.symm)) $$ [Hc HO Hat]
  · iframe HI Hc HO
    isplitr; · rw [MayWait_zero]; iempintro
    iexact Hat
  iintro ⟨HO, Hat, -, Hpay⟩
  imod (close m (κ ((c : Thread nD τ), .dma s')) ((c : Thread nD τ), .dma s')) $$ [Hat] with H0
  · iframe HI Hat
  iapply Hk
  isplitl [HO]; · iexists _; iexact HO
  iframe H0
  iapply (Entails.of_eq (rest_at m c _ hr)); iexact Hpay

end Cert.Dx

end
-- ==== Proof.DxBody.lean ====
/- One grid point of the gradient of the step's stream: the first sends the device's pieces, every point takes one block of 256 tokens
   through the projection's and the normalisation's gradient, the last waits for the copies. -/
module

public import proofs.«01_k».proof.Proof.DxExchange
public import Idealize.ShloMosaic.Lib.KernelVsHost

@[expose] public section

set_option maxRecDepth 16384

noncomputable section

namespace Cert.Dx

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]

local notation "𝕄" => MT nD τ sig Unit (Elt F) ℕ UU ℕ

variable (m : (ℓ : Loc nD τ sig) → Buf (Elt F) ℓ)

/-! ## Which points exchange, and which clears the running sum -/

/-- Whether a point clears the running sum. -/
abbrev clears (i : grid0.Coords) : BitVec 1 :=
  Scalar.cmpi .ne (Scalar.extui (Scalar.cmpi .eq (BitVec.ofNat 32 (i 0).val : BitVec 32) 0#32) : BitVec 32) 0#32

theorem sends_iff : ∀ t : Fin grid0.N, k0_cond1 (grid0.coords t) = 1#1 ↔ t.val = 0 := by decide +kernel
theorem clears_iff : ∀ t : Fin grid0.N, clears (grid0.coords t) = 1#1 ↔ t.val = 0 := by decide +kernel
theorem takes_iff : ∀ t : Fin grid0.N, k0_cond3 (grid0.coords t) = 1#1 ↔ t.val = 15 := by decide +kernel

theorem origin2 : (![0, 0] : Fin 2 → Nat) = fun _ => 0 := funext fun a => by fin_cases a <;> rfl
theorem origin3 : (![0, 0, 0] : Fin 3 → Nat) = fun _ => 0 := funext fun a => by fin_cases a <;> rfl

/-- What a store over a whole block leaves is what was stored. -/
theorem store_left {S : Shape} {e : EltTy} {a : Memref sig .tc .vmem S e} {off : Fin S.rank → Nat} (ho : off = fun _ => 0)
    (inb : ∀ a, off a + S.size a ≤ S.size a) (f : a.view.ty.Contents (Elt F)) (v : Vec F S e) :
    a.view.read (Elt F) (View.write (Elt F) (a.access (Rect.unit off S.size inb)) f v Finset.univ) = v := by
  show a.view.read (Elt F) (a.view.writes (Elt F) f [⟨Rect.unit off S.size inb, v⟩]) = v
  rw [View.read_writes_eq_canon _ _ _ fun y => ⟨_, List.mem_singleton_self _, View.mem_set_unit_zero ho inb y⟩, View.canon_unit_zero ho]

/-! ## What a point computes -/

section Values

variable (x0 : Vec F S2x256x2816 .bf16) (x1 : Vec F S4x1024x1408 .bf16) (x2 x3 : Vec F S256x1024 .f32) (x4 xg : Vec F S1x1024 .f32)

/-- The first three of the four products over the columns of the projection. -/
def threeProducts : FVec F S256x1024 .f32 :=
  k0_pay3 (View.ld x0 (Rect.unit (s := S2x256x2816) ![0, 0, 0] S1x256x1408.size inb_S2x256x2816_S1x256x1408_0_0_0))
    (View.ld x1 (Rect.unit (s := S4x1024x1408) ![0, 0, 0] S1x1024x1408.size inb_S4x1024x1408_S1x1024x1408_0_0_0))
    (View.ld x0 (Rect.unit (s := S2x256x2816) ![0, 0, 1408] S1x256x1408.size inb_S2x256x2816_S1x256x1408_0_0_1408))
    (View.ld x1 (Rect.unit (s := S4x1024x1408) ![1, 0, 0] S1x1024x1408.size inb_S4x1024x1408_S1x1024x1408_1_0_0))
    (View.ld x0 (Rect.unit (s := S2x256x2816) ![1, 0, 0] S1x256x1408.size inb_S2x256x2816_S1x256x1408_1_0_0))
    (View.ld x1 (Rect.unit (s := S4x1024x1408) ![2, 0, 0] S1x1024x1408.size inb_S4x1024x1408_S1x1024x1408_2_0_0))
/-- The two factors of the fourth. -/
def fourthLeft : FVec F S256x1408 .bf16 :=
  k0_pay4 (View.ld x0 (Rect.unit (s := S2x256x2816) ![1, 0, 1408] S1x256x1408.size inb_S2x256x2816_S1x256x1408_1_0_1408))
def fourthRight : Vec F S1x1024x1408 .bf16 :=
  View.ld x1 (Rect.unit (s := S4x1024x1408) ![3, 0, 0] S1x1024x1408.size inb_S4x1024x1408_S1x1024x1408_3_0_0)

/-- The block's gradient, and the running sum of the scales' gradient with the block added. -/
def grad : FVec F S256x1024 .f32 := k0_pay10 (threeProducts x0 x1) (fourthLeft x0) (fourthRight x1) x2 x3 x4
def scales : FVec F S1x1024 .f32 := k0_pay9 (threeProducts x0 x1) (fourthLeft x0) (fourthRight x1) x2 xg

end Values

section Point

variable (c : Dev nD) (i : grid0.Coords)
    (a1 : Memref sig .tc .vmem S2x256x2816 .bf16) (h1 : a1.IsWhole) (a2 : Memref sig .tc .vmem S4x1024x1408 .bf16) (h2 : a2.IsWhole)
    (a3 : Memref sig .tc .vmem S256x1024 .f32) (h3 : a3.IsWhole) (a4 : Memref sig .tc .vmem S256x1024 .f32) (h4 : a4.IsWhole)
    (a5 : Memref sig .tc .vmem S1x1024 .f32) (h5 : a5.IsWhole) (a7 : Memref sig .tc .vmem S256x1024 .f32) (h7 : a7.IsWhole)
    (a8 : Memref sig .tc .vmem S1x256x1024 .bf16) (h8 : a8.IsWhole) (a9 : Memref sig .tc .vmem S1x1024 .f32) (h9 : a9.IsWhole)
    (x0 : Vec F S2x256x2816 .bf16) (x1 : Vec F S4x1024x1408 .bf16) (x2 x3 : Vec F S256x1024 .f32) (x4 xg : Vec F S1x1024 .f32)

/-- The blocks a point reads. -/
abbrev blocks : sProp 𝕄 :=
  iprop(owns (c : Thread nD τ) a1 fullShare x0 ∗ owns (c : Thread nD τ) a2 fullShare x1 ∗ owns (c : Thread nD τ) a3 fullShare x2
    ∗ owns (c : Thread nD τ) a4 fullShare x3 ∗ owns (c : Thread nD τ) a5 fullShare x4)
/-- With room for what it writes, and the running sum. -/
abbrev blocksIn : sProp 𝕄 :=
  iprop(blocks c a1 a2 a3 a4 a5 x0 x1 x2 x3 x4 ∗ (∃ d, owns (c : Thread nD τ) a7 fullShare d) ∗ (∃ d, owns (c : Thread nD τ) a8 fullShare d)
    ∗ owns (c : Thread nD τ) a9 fullShare xg)
/-- With what it wrote. -/
abbrev blocksOut : sProp 𝕄 :=
  iprop(blocks c a1 a2 a3 a4 a5 x0 x1 x2 x3 x4 ∗ owns (c : Thread nD τ) a7 fullShare (grad x0 x1 x2 x3 x4)
    ∗ owns (c : Thread nD τ) a8 fullShare (k0_pay1 (grad x0 x1 x2 x3 x4)) ∗ owns (c : Thread nD τ) a9 fullShare (scales x0 x1 x2 xg))

/-- The call's body at any point. -/
abbrev body : Prog (TpuEff nD τ sig (Elt F) Λ₀ .tc) PUnit :=
  cc0_ffn_bwd_dx1 i a1 h1 a2 h2 a3 h3 a4 h4 a5 h5 (Memref.whole main_arg5) (Memref.isWhole_whole _) a7 h7 a8 h8 a9 h9
    (Memref.whole main_v1_3) (Memref.isWhole_whole _) cc0_scratch0 cc0_scratch1

/-- Clearing the running sum, before whatever follows. -/
def clear (k : PUnit → Prog (TpuEff nD τ sig (Elt F) Λ₀ .tc) PUnit) : Prog (TpuEff nD τ sig (Elt F) Λ₀ .tc) PUnit :=
  .op (.load a9 (Rect.unit (s := S1x1024) ![0, 0] S1x1024.size inb_S1x1024_S1x1024_0_0).toLoadRect (View.loadsAt_vmem h_S1x1024)) fun (_ : Vec F S1x1024 .f32) =>
  .op (.store a9 (Rect.unit (s := S1x1024) ![0, 0] S1x1024.size inb_S1x1024_S1x1024_0_0) (k0_pay2 (F := F)) Finset.univ (View.stores_vmem_bits_univ h_S1x1024 rfl) (.inl rfl)) k

theorem clear_run (k : PUnit → Prog (TpuEff nD τ sig (Elt F) Λ₀ .tc) PUnit) (K : PUnit → sProp 𝕄) :
    iprop((∃ d, owns (c : Thread nD τ) a9 fullShare d)
        ∗ (owns (c : Thread nD τ) a9 fullShare (k0_pay2 (F := F)) -∗ wp frame (wpE (defs₀ (F := F)) Variants.none c none) Set.univ (k ⟨⟩) K))
      ⊢ wp frame (wpE (defs₀ (F := F)) Variants.none c none) Set.univ (clear a9 k) K := by
  unfold clear owns
  iintro ⟨⟨%d, %f, -, H⟩, Hk⟩
  sl_step
  sl_step
  iapply Hk
  iexists _; isplitr
  swap; · iexact H
  ipureintro
  exact store_left origin2 _ _ _

/-- The loads, the arithmetic and the stores of a point, before whatever follows. -/
def compute (k : PUnit → Prog (TpuEff nD τ sig (Elt F) Λ₀ .tc) PUnit) : Prog (TpuEff nD τ sig (Elt F) Λ₀ .tc) PUnit :=
  .op (.load a1 (Rect.unit (s := S2x256x2816) ![0, 0, 0] S1x256x1408.size inb_S2x256x2816_S1x256x1408_0_0_0).toLoadRect (View.loadsAt_vmem h_S1x256x1408)) fun (v7 : Vec F S1x256x1408 .bf16) =>
  .op (.load a2 (Rect.unit (s := S4x1024x1408) ![0, 0, 0] S1x1024x1408.size inb_S4x1024x1408_S1x1024x1408_0_0_0).toLoadRect (View.loadsAt_vmem h_S1x1024x1408)) fun (v9 : Vec F S1x1024x1408 .bf16) =>
  .op (.load a1 (Rect.unit (s := S2x256x2816) ![0, 0, 1408] S1x256x1408.size inb_S2x256x2816_S1x256x1408_0_0_1408).toLoadRect (View.loadsAt_vmem h_S1x256x1408)) fun (v12 : Vec F S1x256x1408 .bf16) =>
  .op (.load a2 (Rect.unit (s := S4x1024x1408) ![1, 0, 0] S1x1024x1408.size inb_S4x1024x1408_S1x1024x1408_1_0_0).toLoadRect (View.loadsAt_vmem h_S1x1024x1408)) fun (v14 : Vec F S1x1024x1408 .bf16) =>
  .op (.load a1 (Rect.unit (s := S2x256x2816) ![1, 0, 0] S1x256x1408.size inb_S2x256x2816_S1x256x1408_1_0_0).toLoadRect (View.loadsAt_vmem h_S1x256x1408)) fun (v18 : Vec F S1x256x1408 .bf16) =>
  .op (.load a2 (Rect.unit (s := S4x1024x1408) ![2, 0, 0] S1x1024x1408.size inb_S4x1024x1408_S1x1024x1408_2_0_0).toLoadRect (View.loadsAt_vmem h_S1x1024x1408)) fun (v20 : Vec F S1x1024x1408 .bf16) =>
  .op (.load a1 (Rect.unit (s := S2x256x2816) ![1, 0, 1408] S1x256x1408.size inb_S2x256x2816_S1x256x1408_1_0_1408).toLoadRect (View.loadsAt_vmem h_S1x256x1408)) fun (v24 : Vec F S1x256x1408 .bf16) =>
  .op (.load a2 (Rect.unit (s := S4x1024x1408) ![3, 0, 0] S1x1024x1408.size inb_S4x1024x1408_S1x1024x1408_3_0_0).toLoadRect (View.loadsAt_vmem h_S1x1024x1408)) fun (v26 : Vec F S1x1024x1408 .bf16) =>
  .op (.load a3 (Rect.unit (s := S256x1024) ![0, 0] S256x1024.size inb_S256x1024_S256x1024_0_0).toLoadRect (View.loadsAt_vmem h_S256x1024)) fun (v30 : Vec F S256x1024 .f32) =>
  .op (.load a9 (Rect.unit (s := S1x1024) ![0, 0] S1x1024.size inb_S1x1024_S1x1024_0_0).toLoadRect (View.loadsAt_vmem h_S1x1024)) fun (v42 : Vec F S1x1024 .f32) =>
  .op (.load a9 (Rect.unit (s := S1x1024) ![0, 0] S1x1024.size inb_S1x1024_S1x1024_0_0).toLoadRect (View.loadsAt_vmem h_S1x1024)) fun (_ : Vec F S1x1024 .f32) =>
  .op (.store a9 (Rect.unit (s := S1x1024) ![0, 0] S1x1024.size inb_S1x1024_S1x1024_0_0) (k0_pay9 (k0_pay3 v7 v9 v12 v14 v18 v20) (k0_pay4 v24) v26 v30 v42) Finset.univ (View.stores_vmem_bits_univ h_S1x1024 rfl) (.inl rfl)) fun _ =>
  .op (.load a4 (Rect.unit (s := S256x1024) ![0, 0] S256x1024.size inb_S256x1024_S256x1024_0_0).toLoadRect (View.loadsAt_vmem h_S256x1024)) fun (v49 : Vec F S256x1024 .f32) =>
  .op (.load a5 (Rect.unit (s := S1x1024) ![0, 0] S1x1024.size inb_S1x1024_S1x1024_0_0).toLoadRect (View.loadsAt_vmem h_S1x1024)) fun (v51 : Vec F S1x1024 .f32) =>
  .op (.load a7 (Rect.unit (s := S256x1024) ![0, 0] S256x1024.size inb_S256x1024_S256x1024_0_0).toLoadRect (View.loadsAt_vmem h_S256x1024)) fun (_ : Vec F S256x1024 .f32) =>
  .op (.store a7 (Rect.unit (s := S256x1024) ![0, 0] S256x1024.size inb_S256x1024_S256x1024_0_0) (k0_pay10 (k0_pay3 v7 v9 v12 v14 v18 v20) (k0_pay4 v24) v26 v30 v49 v51) Finset.univ (View.stores_vmem_bits_univ h_S256x1024 rfl) (.inl rfl)) fun _ =>
  .op (.load a8 (Rect.unit (s := S1x256x1024) ![0, 0, 0] S1x256x1024.size inb_S1x256x1024_S1x256x1024_0_0_0).toLoadRect (View.loadsAt_vmem h_S1x256x1024)) fun (_ : Vec F S1x256x1024 .bf16) =>
  .op (.store a8 (Rect.unit (s := S1x256x1024) ![0, 0, 0] S1x256x1024.size inb_S1x256x1024_S1x256x1024_0_0_0) (k0_pay1 (k0_pay10 (k0_pay3 v7 v9 v12 v14 v18 v20) (k0_pay4 v24) v26 v30 v49 v51)) Finset.univ
    (View.stores_vmem h_S1x256x1024 (h8.storeExact_slice rfl _ packedbf16_S1x256x1024_S1x256x1024_0_0_0) (fun _ => rfl)) (.inl rfl)) k

include h1 h2 h3 h4 h5 h9 in
set_option maxHeartbeats 4000000 in
theorem compute_run (k : PUnit → Prog (TpuEff nD τ sig (Elt F) Λ₀ .tc) PUnit) (K : PUnit → sProp 𝕄) :
    iprop(blocksIn c a1 a2 a3 a4 a5 a7 a8 a9 x0 x1 x2 x3 x4 xg
        ∗ (blocksOut c a1 a2 a3 a4 a5 a7 a8 a9 x0 x1 x2 x3 x4 xg -∗ wp frame (wpE (defs₀ (F := F)) Variants.none c none) Set.univ (k ⟨⟩) K))
      ⊢ wp frame (wpE (defs₀ (F := F)) Variants.none c none) Set.univ (compute a1 a2 a3 a4 a5 a7 a8 h8 a9 k) K := by
  unfold compute blocksIn blocksOut blocks owns
  iintro ⟨⟨⟨⟨%f0, %hf0, H0⟩, ⟨%f1, %hf1, H1⟩, ⟨%f2, %hf2, H2⟩, ⟨%f3, %hf3, H3⟩, ⟨%f4, %hf4, H4⟩⟩, ⟨%d7, %f7, -, H7⟩, ⟨%d8, %f8, -, H8⟩, ⟨%f9, %hf9, H9⟩⟩, Hk⟩
  obtain rfl := h1.eq_unread hf0; obtain rfl := h2.eq_unread hf1; obtain rfl := h3.eq_unread hf2
  obtain rfl := h4.eq_unread hf3; obtain rfl := h5.eq_unread hf4; obtain rfl := h9.eq_unread hf9
  iterate 18 sl_step
  iapply Hk
  isplitl [H0 H1 H2 H3 H4]
  · isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; isplitr; · ipureintro; exact h5.read_unread _
    iexact H4
  isplitl [H7]
  · iexists _; isplitr
    swap; · iexact H7
    ipureintro
    refine (store_left origin2 _ _ _).trans ?_
    simp only [View.readAt_eq_ld, h1.read_unread, h2.read_unread, h3.read_unread, h4.read_unread, h5.read_unread,
      View.ld_unit_zero (S := S256x1024) origin2, View.ld_unit_zero (S := S1x1024) origin2]
    rfl
  isplitl [H8]
  · iexists _; isplitr
    swap; · iexact H8
    ipureintro
    refine (store_left origin3 _ _ _).trans ?_
    simp only [View.readAt_eq_ld, h1.read_unread, h2.read_unread, h3.read_unread, h4.read_unread, h5.read_unread,
      View.ld_unit_zero (S := S256x1024) origin2, View.ld_unit_zero (S := S1x1024) origin2]
    rfl
  iexists _; isplitr
  swap; · iexact H9
  ipureintro
  refine (store_left origin2 _ _ _).trans ?_
  simp only [View.readAt_eq_ld, h1.read_unread, h2.read_unread, h3.read_unread, h9.read_unread,
    View.ld_unit_zero (S := S256x1024) origin2, View.ld_unit_zero (S := S1x1024) origin2]
  rfl

end Point

end Cert.Dx

end
-- ==== Proof.DxPoint.lean ====
/- The three kinds of grid points of the gradient of the step's stream: the first, with the exchange's start; those between; the last, with
   its end. -/
module

public import proofs.«01_k».proof.Proof.DxBody

@[expose] public section

set_option maxRecDepth 16384

noncomputable section

namespace Cert.Dx

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]

local notation "𝕄" => MT nD τ sig Unit (Elt F) ℕ UU ℕ

variable (m : (ℓ : Loc nD τ sig) → Buf (Elt F) ℓ) (c : Dev nD) (i : grid0.Coords)
    (a1 : Memref sig .tc .vmem S2x256x2816 .bf16) (h1 : a1.IsWhole) (a2 : Memref sig .tc .vmem S4x1024x1408 .bf16) (h2 : a2.IsWhole)
    (a3 : Memref sig .tc .vmem S256x1024 .f32) (h3 : a3.IsWhole) (a4 : Memref sig .tc .vmem S256x1024 .f32) (h4 : a4.IsWhole)
    (a5 : Memref sig .tc .vmem S1x1024 .f32) (h5 : a5.IsWhole) (a7 : Memref sig .tc .vmem S256x1024 .f32) (h7 : a7.IsWhole)
    (a8 : Memref sig .tc .vmem S1x256x1024 .bf16) (h8 : a8.IsWhole) (a9 : Memref sig .tc .vmem S1x1024 .f32) (h9 : a9.IsWhole)
    (x0 : Vec F S2x256x2816 .bf16) (x1 : Vec F S4x1024x1408 .bf16) (x2 x3 : Vec F S256x1024 .f32) (x4 xg : Vec F S1x1024 .f32)

/-- A point that exchanges nothing. -/
theorem middle_run (hs : k0_cond1 i ≠ 1#1) (hz : clears i ≠ 1#1) (ht : k0_cond3 i ≠ 1#1) (K : PUnit → sProp 𝕄) :
    iprop(blocksIn c a1 a2 a3 a4 a5 a7 a8 a9 x0 x1 x2 x3 x4 xg ∗ (blocksOut c a1 a2 a3 a4 a5 a7 a8 a9 x0 x1 x2 x3 x4 xg -∗ K ⟨⟩))
      ⊢ wp frame (wpE (defs₀ (F := F)) Variants.none c none) Set.univ (body (F := F) i a1 h1 a2 h2 a3 h3 a4 h4 a5 h5 a7 h7 a8 h8 a9 h9) K := by
  unfold body
  simp only [cc0_ffn_bwd_dx1_eq_skeleton]; unfold cc0_ffn_bwd_dx1_skel
  simp only [k0_part7_eq_skeleton, k0_part8_eq_skeleton]; unfold k0_part7_skel k0_part8_skel
  rw [dif_neg hs]
  simp only [dif_neg hz, dif_neg ht]
  simp only [Prog.lift, Prog.bind_op, Prog.bind_ret, Prog.pure_eq_ret]
  refine BIBase.Entails.trans ?_ (compute_run c a1 h1 a2 h2 a3 h3 a4 h4 a5 h5 a7 a8 h8 a9 h9 x0 x1 x2 x3 x4 xg (fun _ => .ret ⟨⟩) K)
  rw [wp_ret]
  iintro ⟨Hin, Hk⟩
  iframe Hin
  iintro Hout
  imodintro
  iapply Hk; iexact Hout

/-- What a device holds when its first point begins, with what it owes, -/
abbrev sendPre (W : Waits sig Unit) : sProp 𝕄 := iprop(before m c ∗ owes (c : Thread nD τ) (debt c) W)
/-- and once its pieces are on their way. -/
abbrev sendPost : sProp 𝕄 := iprop(during m c ∗ ∃ W, owes (c : Thread nD τ) (0 : CellTallies nD τ sig Unit) W)
/-- The blocks at the first point, whose running sum holds anything. -/
abbrev blocksFirst : sProp 𝕄 :=
  iprop(blocks c a1 a2 a3 a4 a5 x0 x1 x2 x3 x4 ∗ (∃ d, owns (c : Thread nD τ) a7 fullShare d) ∗ (∃ d, owns (c : Thread nD τ) a8 fullShare d)
    ∗ ∃ d, owns (c : Thread nD τ) a9 fullShare d)

set_option maxHeartbeats 4000000 in
/-- The first point: signal the other device, wait for its signal, send the pieces, clear the running sum, compute. -/
theorem first_run (hs : k0_cond1 i = 1#1) (hz : clears i = 1#1) (ht : k0_cond3 i ≠ 1#1) (W : Waits sig Unit) (K : PUnit → sProp 𝕄) :
    iprop(sendPre m c W ∗ blocksFirst c a1 a2 a3 a4 a5 a7 a8 a9 x0 x1 x2 x3 x4
        ∗ (iprop(sendPost m c ∗ blocksOut c a1 a2 a3 a4 a5 a7 a8 a9 x0 x1 x2 x3 x4 (k0_pay2 (F := F))) -∗ K ⟨⟩))
      ⊢ wp frame (wpE (defs₀ (F := F)) Variants.none c none) Set.univ (body (F := F) i a1 h1 a2 h2 a3 h3 a4 h4 a5 h5 a7 h7 a8 h8 a9 h9) K := by
  unfold body
  simp only [cc0_ffn_bwd_dx1_eq_skeleton]; unfold cc0_ffn_bwd_dx1_skel
  simp only [k0_part7_eq_skeleton, k0_part8_eq_skeleton]; unfold k0_part7_skel k0_part8_skel
  rw [dif_pos hs]
  simp only [dif_pos hz, dif_neg ht]
  simp only [k0_part1_eq_skeleton, k0_part2_eq_skeleton, k0_part3_eq_skeleton]; unfold k0_part1_skel k0_part2_skel k0_part3_skel
  simp only [Prog.lift, semSignalWord, semWaitWord, Prog.bind_op, Prog.bind_ret, Prog.pure_eq_ret, wp_deviceId, signals_mate]
  unfold sendPre sendPost before opened invs
  iintro ⟨⟨⟨⟨%κ, ⟨#HIbar, ⟨#HS0, #HS1, #HS2, #HS3⟩, #HG, #HIbarM, ⟨#HM0, #HM1, #HM2, #HM3⟩⟩, HatB, HatS, HatG, #HrM, ⟨#HrS0, #HrS1, #HrS2, #HrS3⟩, #HrG,
    ⟨HtM, ⟨HtS0, HtS1, HtS2, HtS3⟩, ⟨HtG0, HtG1, HtG2, HtG3⟩⟩⟩, HcB, HcG, #Hlev, ⟨Hp0, Hp1, Hp2, Hp3⟩, Hslots⟩, HO⟩, ⟨Hin, H7, H8, H9⟩, Hk⟩
  -- the signal: the other device gets this one's slots, and that arrivals are counted here
  iapply (Rounds.wp_signal Variants.none EX (plan m) (c : Thread nD τ) none (dst := (mate c : Thread nD τ)) (sem := barrier0) (r := 0) (d := ()) (κ := κ (barCell (mate c)))
      (by rw [duties_at m (mate c) _ bar_used]; exact Finset.mem_singleton_self _) (amount_bar m (mate c) ()) () (due c 4) rfl)
    $$ [HO HtM Hslots]
  · iframe HIbarM HO HtM
    isplitl [Hslots]
    · rw [payload_at, role_bar]; unfold pay barPay; rw [mate_mate]
      isplitl [Hslots]; · iexact Hslots
      iexact HrG
    · iexact HrM
  iintro HO
  -- the wait on the barrier: the other device's slots come with the unit
  iapply (Rounds.wp_wait_rest_token Variants.none EX (plan m) (c : Thread nD τ) none (κ := κ (barCell c))
      (wpE_semWait_eq Variants.none (c : Thread nD τ) none Set.univ) (Set.mem_univ _) () (O := due c 4) (W := W) (R := 0) (m := 0) (T := ∅)
      ((Nat.zero_add 1).trans (expect_bar m c).symm)) $$ [HcB HO HatB]
  · iframe HIbar HcB HO
    isplitr; · iapply (mayWait_bar c); iexact Hlev
    iexact HatB
  iintro ⟨HO, HatB, -, Hpay⟩
  ihave Hp := (Entails.of_eq ((rest_at m c _ bar_used).trans (show pay m c (role (.reg barrier0)) = barPay m c from rfl))) $$ Hpay
  unfold barPay
  icases Hp with ⟨⟨Hs0, Hs1, Hs2, Hs3⟩, ⟨#HrM0, #HrM1, #HrM2, #HrM3⟩⟩
  -- the four copies
  iapply (send_piece m c _ (is_mate c _ (k0_dev2_eq c) _) 3 0 rfl _ _ rfl rfl _ _ _ _ (k0_off1_eq c) rfl _ _ _ κ (insert (SemLoc.reg barrier0, ()) W)) $$ [HO Hp0 Hs0 HtS0 HtG0]
  · isplitr [HO]
    · unfold ready
      iframe HS0 HM0 Hp0 Hs0 HtS0 HrS0 HtG0 HrM0
    iexact HO
  iintro ⟨HcS0, HO⟩
  iapply (send_piece m c _ (is_mate c _ (k0_dev3_eq c) _) 2 1 rfl _ _ rfl rfl _ _ _ _ (k0_off2_eq c) rfl _ _ _ κ (insert (SemLoc.reg barrier0, ()) W)) $$ [HO Hp1 Hs1 HtS1 HtG1]
  · isplitr [HO]
    · unfold ready
      iframe HS1 HM1 Hp1 Hs1 HtS1 HrS1 HtG1 HrM1
    iexact HO
  iintro ⟨HcS1, HO⟩
  iapply (send_piece m c _ (is_mate c _ (k0_dev4_eq c) _) 1 2 rfl _ _ rfl rfl _ _ _ _ (k0_off3_eq c) rfl _ _ _ κ (insert (SemLoc.reg barrier0, ()) W)) $$ [HO Hp2 Hs2 HtS2 HtG2]
  · isplitr [HO]
    · unfold ready
      iframe HS2 HM2 Hp2 Hs2 HtS2 HrS2 HtG2 HrM2
    iexact HO
  iintro ⟨HcS2, HO⟩
  iapply (send_piece m c _ (is_mate c _ (k0_dev5_eq c) _) 0 3 rfl _ _ rfl rfl _ _ _ _ (k0_off4_eq c) rfl _ _ _ κ (insert (SemLoc.reg barrier0, ()) W)) $$ [HO Hp3 Hs3 HtS3 HtG3]
  · isplitr [HO]
    · unfold ready
      iframe HS3 HM3 Hp3 Hs3 HtS3 HrS3 HtG3 HrM3
    iexact HO
  iintro ⟨HcS3, HO⟩
  imod (close m (κ (barCell c)) (barCell c)) $$ [HatB] with Hb0
  · iframe HIbar HatB
  iapply (clear_run c a9 _ K)
  iframe H9
  iintro H9
  iapply (compute_run c a1 h1 a2 h2 a3 h3 a4 h4 a5 h5 a7 a8 h8 a9 h9 x0 x1 x2 x3 x4 (k0_pay2 (F := F)) (fun _ => .ret ⟨⟩) K)
  isplitl [Hin H7 H8 H9]
  · isplitl [Hin]; · iexact Hin
    isplitl [H7]; · iexact H7
    iframe
  iintro Hout
  rw [wp_ret]
  imodintro
  iapply Hk
  isplitr [Hout]
  · isplitr [HO]
    · unfold during
      isplitr
      · iexists κ; unfold invs
        iframe HIbar
        isplitr
        · iframe HS0 HS1 HS2 HS3
        iframe HG HIbarM HM0 HM1 HM2 HM3
      iframe Hb0 HatS HatG
      isplitr [HcG]
      · isplitl [HcS0]; · iexact HcS0
        isplitl [HcS1]; · iexact HcS1
        isplitl [HcS2] <;> iassumption
      iexact HcG
    iexists _; iexact HO
  iexact Hout

/-- What is paid on the semaphore of a departure, and of an arrival. -/
theorem pay_sent (k : Fin 4) : pay m c (role (.dma (sentSem k))) ⊢ pieceRows c k (tables m c) := by rw [role_sent]; exact Entails.refl _
theorem pay_got (k : Fin 4) : pay m c (role (.dma (gotSem k))) ⊢ slotRows c k (landed m c k) := by rw [role_got]; exact Entails.refl _

set_option maxHeartbeats 4000000 in
/-- The last point: compute, wait for every piece sent and for every piece due, and the eight semaphores are done with. -/
theorem last_run (hs : k0_cond1 i ≠ 1#1) (hz : clears i ≠ 1#1) (ht : k0_cond3 i = 1#1) (W : Waits sig Unit) (K : PUnit → sProp 𝕄) :
    iprop(iprop(during m c ∗ owes (c : Thread nD τ) (0 : CellTallies nD τ sig Unit) W) ∗ blocksIn c a1 a2 a3 a4 a5 a7 a8 a9 x0 x1 x2 x3 x4 xg
        ∗ (iprop(iprop(after m c ∗ ∃ W, owes (c : Thread nD τ) (0 : CellTallies nD τ sig Unit) W)
            ∗ blocksOut c a1 a2 a3 a4 a5 a7 a8 a9 x0 x1 x2 x3 x4 xg) -∗ K ⟨⟩))
      ⊢ wp frame (wpE (defs₀ (F := F)) Variants.none c none) Set.univ (body (F := F) i a1 h1 a2 h2 a3 h3 a4 h4 a5 h5 a7 h7 a8 h8 a9 h9) K := by
  unfold body
  simp only [cc0_ffn_bwd_dx1_eq_skeleton]; unfold cc0_ffn_bwd_dx1_skel
  simp only [k0_part7_eq_skeleton, k0_part8_eq_skeleton]; unfold k0_part7_skel k0_part8_skel
  rw [dif_neg hs]
  simp only [dif_neg hz, dif_pos ht]
  simp only [k0_part4_eq_skeleton, k0_part5_eq_skeleton, k0_part6_eq_skeleton]; unfold k0_part4_skel k0_part5_skel k0_part6_skel
  simp only [Prog.lift, Prog.bind_op, Prog.bind_ret, Prog.pure_eq_ret]
  iintro ⟨⟨Hd, HO⟩, Hin, Hk⟩
  iapply (compute_run c a1 h1 a2 h2 a3 h3 a4 h4 a5 h5 a7 a8 h8 a9 h9 x0 x1 x2 x3 x4 xg _ K)
  iframe Hin
  iintro Hout
  rw [wp_deviceId]
  unfold during invs
  icases Hd with ⟨⟨%κ, ⟨#HIbar, ⟨#HS0, #HS1, #HS2, #HS3⟩, ⟨#HG0, #HG1, #HG2, #HG3⟩, #HIbarM, #HM⟩⟩, Hb0, ⟨HaS0, HaS1, HaS2, HaS3⟩, ⟨HaG0, HaG1, HaG2, HaG3⟩,
    ⟨HcS0, HcS1, HcS2, HcS3⟩, ⟨HcG0, HcG1, HcG2, HcG3⟩⟩
  iapply (wait_piece m c (sentSem 0) _ rfl (sent_used 0) _ _ (credit_piece _ _) _ _ κ W) $$ [HcS0 HO HaS0]
  · isplitr [HO]
    · unfold awaited
      iframe # ∗
    iexact HO
  iintro ⟨⟨%W0, HO⟩, HvS0, HpS0⟩
  iapply (wait_piece m c (gotSem 0) _ rfl (got_used 0) _ _ (credit_slot _ _) _ _ κ W0) $$ [HcG0 HO HaG0]
  · isplitr [HO]
    · unfold awaited
      iframe # ∗
    iexact HO
  iintro ⟨⟨%W1, HO⟩, HvG0, HpG0⟩
  iapply (wait_piece m c (sentSem 1) _ rfl (sent_used 1) _ _ (credit_piece _ _) _ _ κ W1) $$ [HcS1 HO HaS1]
  · isplitr [HO]
    · unfold awaited
      iframe # ∗
    iexact HO
  iintro ⟨⟨%W2, HO⟩, HvS1, HpS1⟩
  iapply (wait_piece m c (gotSem 1) _ rfl (got_used 1) _ _ (credit_slot _ _) _ _ κ W2) $$ [HcG1 HO HaG1]
  · isplitr [HO]
    · unfold awaited
      iframe # ∗
    iexact HO
  iintro ⟨⟨%W3, HO⟩, HvG1, HpG1⟩
  iapply (wait_piece m c (sentSem 2) _ rfl (sent_used 2) _ _ (credit_piece _ _) _ _ κ W3) $$ [HcS2 HO HaS2]
  · isplitr [HO]
    · unfold awaited
      iframe # ∗
    iexact HO
  iintro ⟨⟨%W4, HO⟩, HvS2, HpS2⟩
  iapply (wait_piece m c (gotSem 2) _ rfl (got_used 2) _ _ (credit_slot _ _) _ _ κ W4) $$ [HcG2 HO HaG2]
  · isplitr [HO]
    · unfold awaited
      iframe # ∗
    iexact HO
  iintro ⟨⟨%W5, HO⟩, HvG2, HpG2⟩
  iapply (wait_piece m c (sentSem 3) _ rfl (sent_used 3) _ _ (credit_piece _ _) _ _ κ W5) $$ [HcS3 HO HaS3]
  · isplitr [HO]
    · unfold awaited
      iframe # ∗
    iexact HO
  iintro ⟨⟨%W6, HO⟩, HvS3, HpS3⟩
  iapply (wait_piece m c (gotSem 3) _ rfl (got_used 3) _ _ (credit_slot _ _) _ _ κ W6) $$ [HcG3 HO HaG3]
  · isplitr [HO]
    · unfold awaited
      iframe # ∗
    iexact HO
  iintro ⟨HO, HvG3, HpG3⟩
  rw [wp_ret]
  imodintro
  iapply Hk
  isplitr [Hout]
  · isplitr [HO]
    · unfold after
      iframe Hb0
      isplitl [HvS0 HvS1 HvS2 HvS3 HvG0 HvG1 HvG2 HvG3]
      · isplitl [HvS0 HvS1 HvS2 HvS3]
        · isplitl [HvS0]; · iexact HvS0
          isplitl [HvS1]; · iexact HvS1
          isplitl [HvS2] <;> iassumption
        isplitl [HvG0]; · iexact HvG0
        isplitl [HvG1]; · iexact HvG1
        isplitl [HvG2] <;> iassumption
      isplitl [HpS0 HpS1 HpS2 HpS3]
      · isplitl [HpS0]; · iapply (pay_sent m c 0); iexact HpS0
        isplitl [HpS1]; · iapply (pay_sent m c 1); iexact HpS1
        isplitl [HpS2]; · iapply (pay_sent m c 2); iexact HpS2
        iapply (pay_sent m c 3); iexact HpS3
      isplitl [HpG0]; · iapply (pay_got m c 0); iexact HpG0
      isplitl [HpG1]; · iapply (pay_got m c 1); iexact HpG1
      isplitl [HpG2]; · iapply (pay_got m c 2); iexact HpG2
      iapply (pay_got m c 3); iexact HpG3
    iexact HO
  iexact Hout

end Cert.Dx

end
-- ==== Proof.DxRegion.lean ====
/- The call as a whole, for the gradient of the step's stream: what each grid point finds and leaves, and what the call makes of the memory
   it is entered with. -/
module

public import proofs.«01_k».proof.Proof.DxPoint
public import Idealize.ShloMosaic.Lib.Pipeline.FrameBody
public import Idealize.ShloMosaic.Lib.Pipeline.Frame
public import Idealize.ShloMosaic.Lib.Pipeline.Regions
public import Idealize.ShloMosaic.Lib.Ring

@[expose] public section

set_option maxRecDepth 16384

noncomputable section

namespace Cert.Dx

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel5Ideal Cert.Kernel5Ideal.Gen

variable {F : FTy → Type} [FloatOps F]

local notation "𝕄" => MT nD τ sig Unit (Elt F) ℕ UU ℕ

variable (m : (ℓ : Loc nD τ sig) → Buf (Elt F) ℓ)

/-! ## What a point finds and leaves -/

/-- Window `w`'s block at point `t`, read out of the array the call is entered with. -/
def iblk (c : Dev nD) (w : Fin cfg0.W) (t : Fin cfg0.N) : ((cfg0.win w).xblock (cfg0.grid.coords t)).Idx → Elt F (cfg0.win w).elt :=
  ((cfg0.win w).blk t).view.read (Elt F) (V₁ m c (Pipeline.arrRef spec0 w))

/-- The gradient of point `t`'s 256 tokens. -/
def gradAt (c : Dev nD) (t : Fin cfg0.N) : FVec F S256x1024 .f32 := grad (iblk m c 0 t) (iblk m c 1 t) (iblk m c 2 t) (iblk m c 3 t) (iblk m c 4 t)

/-- The running sum of the scales' gradient after point `n`. -/
def sums (c : Dev nD) : (n : ℕ) → n < cfg0.N → FVec F S1x1024 .f32
  | 0, h => scales (iblk m c 0 ⟨0, h⟩) (iblk m c 1 ⟨0, h⟩) (iblk m c 2 ⟨0, h⟩) k0_pay2
  | n + 1, h => scales (iblk m c 0 ⟨n + 1, h⟩) (iblk m c 1 ⟨n + 1, h⟩) (iblk m c 2 ⟨n + 1, h⟩) (sums c n (Nat.lt_of_succ_lt h))

theorem sums_first (c : Dev nD) (t : Fin cfg0.N) (h : t.val = 0) :
    sums m c t.val t.isLt = scales (iblk m c 0 t) (iblk m c 1 t) (iblk m c 2 t) k0_pay2 := by
  obtain ⟨n, hn⟩ := t; dsimp only at h; subst h; rfl
theorem sums_later (c : Dev nD) (t : Fin cfg0.N) (h : t.val ≠ 0) :
    sums m c t.val t.isLt = scales (iblk m c 0 t) (iblk m c 1 t) (iblk m c 2 t) (sums m c (t.val - 1) (Nat.lt_of_le_of_lt (Nat.sub_le _ _) t.isLt)) := by
  obtain ⟨n, hn⟩ := t
  match n, hn, h with
  | n + 1, hn, _ => rfl

/-- Where the exchange stands before the first point, between points and after the last. -/
def stage (c : Dev nD) (n : ℕ) : sProp 𝕄 := if n = 0 then before m c else if n = 16 then after m c else during m c

theorem stage_start (c : Dev nD) : stage m c 0 = before m c := if_pos rfl
theorem stage_end (c : Dev nD) : stage m c 16 = after m c := (if_neg (by decide)).trans (if_pos rfl)
theorem stage_mid (c : Dev nD) (n : ℕ) (h0 : n ≠ 0) (h4 : n ≠ 16) : stage m c n = during m c := (if_neg h0).trans (if_neg h4)

/-- The rows of its own tables a device does not send: they stay beside the exchange. -/
abbrev pieceSet (c : Dev nD) (k : Fin 4) : Finset (Idx ((c : Thread nD τ).loc main_arg5)) := (piece c k).view.set
abbrev staying (c : Dev nD) : Finset (Idx ((c : Thread nD τ).loc main_arg5)) := Finset.univ \ Finset.univ.biUnion (pieceSet c)
abbrev stayRows (c : Dev nD) : sProp 𝕄 := (c : Thread nD τ).loc main_arg5 ↦[staying c]{fullShare} tables m c

def dat (c : Dev nD) : Dat τ (Elt F) Unit ℕ UU ℕ cfg0 c where
  A w := V₁ m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => gradAt m c t
    | ⟨6, _⟩ => k0_pay1 (gradAt m c t)
    | ⟨7, _⟩ => sums m c t.val t.isLt
  Φ t := iprop(stage m c t.val ∗ stayRows m c ∗ ∃ r, prngReg c r)
  q _ := fullShare
  owed t := if t.val = 0 then debt c else 0

theorem A_eq (c : Dev nD) (w : Fin cfg0.W) : (dat m c).A w = V₁ m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = gradAt m c t := by dsimp only [dat]
theorem after_6 (c : Dev nD) (t : Fin cfg0.N) : (dat m c).after 6 t = k0_pay1 (gradAt m c t) := by dsimp only [dat]
theorem after_7 (c : Dev nD) (t : Fin cfg0.N) : (dat m c).after 7 t = sums m c t.val t.isLt := by dsimp only [dat]

theorem before_0 (c : Dev nD) (t : Fin cfg0.N) (d) : (dat m c).before 0 t d = iblk m c 0 t :=
  ((dat m c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dat m c).before 1 t d = iblk m c 1 t :=
  ((dat m c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin cfg0.N) (d) : (dat m c).before 2 t d = iblk m c 2 t :=
  ((dat m c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin cfg0.N) (d) : (dat m c).before 3 t d = iblk m c 3 t :=
  ((dat m c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (c : Dev nD) (t : Fin cfg0.N) (d) : (dat m c).before 4 t d = iblk m c 4 t :=
  ((dat m c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)

/-- After the first point the running sum is what the point before left: it is written back at the last point only. -/
theorem before_7 (c : Dev nD) (t : Fin cfg0.N) (h : t.val ≠ 0) (d) :
    (dat m c).before 7 t d = sums m c (t.val - 1) (Nat.lt_of_le_of_lt (Nat.sub_le _ _) t.isLt) := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dat]

theorem owed_start (c : Dev nD) (t : Fin (cfg0.N + 1)) (h : t.val = 0) : (dat m c).owed t = debt c := by dsimp only [dat]; exact if_pos h
theorem owed_after (c : Dev nD) (t : Fin (cfg0.N + 1)) (h : t.val ≠ 0) : (dat m c).owed t = 0 := by dsimp only [dat]; exact if_neg h

theorem owesAt_intro (c : Dev nD) (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound
  rw [h, show (dat m c).recorded t = Set.univ from rfl]
  iintro HO; iexists W; isplitr; · ipureintro; exact fun _ _ => Or.inl trivial
  iexact HO
theorem owesAt_elim (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-! ## Every point does what it should -/

def pointPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d)))
def pointPost (c : Dev nD) (t : Fin cfg0.N) : sProp 𝕄 :=
  iprop((dat m c).Φ t.succ ∗ (dat m c).owesAt () t.succ
    ∗ (dat m c).leavesExact 0 t ∗ (dat m c).leavesExact 1 t ∗ (dat m c).leavesExact 2 t ∗ (dat m c).leavesExact 3 t
    ∗ (dat m c).leavesExact 4 t ∗ (dat m c).leavesExact 5 t ∗ (dat m c).leavesExact 6 t ∗ (dat m c).leavesExact 7 t)

theorem leaves_0 (c : Dev nD) (t : Fin cfg0.N) :
    (dat m c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) :
    (dat m c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) :
    (dat m c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) :
    (dat m c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) :
    (dat m c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) :
    (dat m c).leavesExact 5 t = owns (c : Thread nD τ) (st0_5 t) fullShare (gradAt m c t) := by
  unfold Dat.leavesExact; rw [show cfg0.idle 5 (grid0.coords t) = false from rfl, after_5]
theorem leaves_6 (c : Dev nD) (t : Fin cfg0.N) :
    (dat m c).leavesExact 6 t = owns (c : Thread nD τ) (st0_6 t) fullShare (k0_pay1 (gradAt m c t)) := by
  unfold Dat.leavesExact; rw [show cfg0.idle 6 (grid0.coords t) = false from rfl, after_6]
theorem leaves_7 (c : Dev nD) (t : Fin cfg0.N) :
    (dat m c).leavesExact 7 t = owns (c : Thread nD τ) (st0_7 t) fullShare (sums m c t.val t.isLt) := by
  unfold Dat.leavesExact; rw [show cfg0.idle 7 (grid0.coords t) = false from rfl, after_7]

/-- What every point leaves, of the windows. -/
abbrev wroteAt (c : Dev nD) (t : Fin cfg0.N) (g : FVec F S1x1024 .f32) : sProp 𝕄 :=
  iprop(blocks c (st0_0 t) (st0_1 t) (st0_2 t) (st0_3 t) (st0_4 t) (iblk m c 0 t) (iblk m c 1 t) (iblk m c 2 t) (iblk m c 3 t) (iblk m c 4 t)
    ∗ owns (c : Thread nD τ) (st0_5 t) fullShare (gradAt m c t) ∗ owns (c : Thread nD τ) (st0_6 t) fullShare (k0_pay1 (gradAt m c t))
    ∗ owns (c : Thread nD τ) (st0_7 t) fullShare g)

/-- From what the exchange and the windows are left at, what the point leaves. -/
theorem point_left (c : Dev nD) (t : Fin cfg0.N) (W : Waits sig Unit) (g : FVec F S1x1024 .f32) (hg : sums m c t.val t.isLt = g) :
    iprop(stage m c (t.val + 1) ∗ (stayRows m c ∗ ∃ r, prngReg c r) ∗ owes (c : Thread nD τ) (0 : CellTallies nD τ sig Unit) W ∗ wroteAt m c t g)
      ⊢ pointPost m c t := by
  subst hg
  unfold pointPost
  rw [leaves_0, leaves_1, leaves_2, leaves_3, leaves_4, leaves_5, leaves_6, leaves_7,
    show (dat m c).Φ t.succ = iprop(stage m c (t.val + 1) ∗ stayRows m c ∗ ∃ r, prngReg c r) from rfl]
  unfold wroteAt blocks
  iintro ⟨Hs, Hr, HO, ⟨H0, H1, H2, H3, H4⟩, H5, H6, H7⟩
  isplitl [Hs Hr]
  · iframe
  isplitl [HO]; · iapply (owesAt_intro m c t.succ 0 (owed_after m c _ (Nat.succ_ne_zero _)) W); iexact HO
  iframe

theorem sound_point (c : Dev nD) (t : Fin cfg0.N) :
    pointPre m c t ⊢ wp frame (wpE (defs₀ (F := F)) Variants.none c none) Set.univ (bodyAt0 t) (fun _ => pointPost m c t) := by
  unfold pointPre
  rw [show (dat m c).Φ t.castSucc = iprop(stage m c t.val ∗ stayRows m c ∗ ∃ r, prngReg c r) from rfl]
  simp only [before_0, before_1, before_2, before_3, before_4]
  have hN : t.val < 16 := lt_of_lt_of_eq t.isLt N_0
  iintro ⟨⟨Hs, Hp⟩, HO, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val = 0
  · ihave HO' := (owesAt_elim m c t.castSucc (debt c) (owed_start m c _ h0)) $$ HO
    icases HO' with ⟨%W, HO⟩
    iapply (first_run m c (grid0.coords t) _ _ _ _ _ _ _ _ _ _ _ _ _ _ _ _ (iblk m c 0 t) (iblk m c 1 t) (iblk m c 2 t) (iblk m c 3 t) (iblk m c 4 t)
      ((sends_iff t).mpr h0) ((clears_iff t).mpr h0) (fun h => by have := (takes_iff t).mp h; omega) W _)
    isplitl [Hs HO]
    · unfold sendPre
      isplitl [Hs]; · iapply (Entails.of_eq ((congrArg (stage m c) h0).trans (stage_start m c))); iexact Hs
      iexact HO
    isplitl [H0 H1 H2 H3 H4 H5 H6 H7]
    · isplitl [H0 H1 H2 H3 H4]
      · isplitl [H0]; · iexact H0
        isplitl [H1]; · iexact H1
        isplitl [H2]; · iexact H2
        isplitl [H3] <;> iassumption
      isplitl [H5]; · iexists _; iexact H5
      isplitl [H6]; · iexists _; iexact H6
      iexists _; iexact H7
    unfold sendPost
    iintro ⟨⟨Hd, ⟨%W', HO⟩⟩, Hout⟩
    iapply (point_left m c t W' _ (sums_first m c t h0))
    isplitl [Hd]; · iapply (Entails.of_eq (stage_mid m c (t.val + 1) (by omega) (by omega)).symm); iexact Hd
    iframe Hp HO
    iexact Hout
  · rw [before_7 m c t h0 d7]
    ihave HO' := (owesAt_elim m c t.castSucc 0 (owed_after m c _ h0)) $$ HO
    icases HO' with ⟨%W, HO⟩
    by_cases h3 : t.val = 15
    · iapply (last_run m c (grid0.coords t) _ _ _ _ _ _ _ _ _ _ _ _ _ _ _ _ (iblk m c 0 t) (iblk m c 1 t) (iblk m c 2 t) (iblk m c 3 t) (iblk m c 4 t) _
        (fun h => h0 ((sends_iff t).mp h)) (fun h => h0 ((clears_iff t).mp h)) ((takes_iff t).mpr h3) W _)
      isplitl [Hs HO]
      · isplitl [Hs]; · iapply (Entails.of_eq (stage_mid m c t.val h0 (by omega))); iexact Hs
        iexact HO
      isplitl [H0 H1 H2 H3 H4 H5 H6 H7]
      · isplitl [H0 H1 H2 H3 H4]
        · isplitl [H0]; · iexact H0
          isplitl [H1]; · iexact H1
          isplitl [H2]; · iexact H2
          isplitl [H3] <;> iassumption
        isplitl [H5]; · iexists _; iexact H5
        isplitl [H6]; · iexists _; iexact H6
        iexact H7
      iintro ⟨⟨Ha, ⟨%W', HO⟩⟩, Hout⟩
      iapply (point_left m c t W' _ (sums_later m c t h0))
      isplitl [Ha]; · iapply (Entails.of_eq ((congrArg (fun n => stage m c (n + 1)) h3).trans (stage_end m c)).symm); iexact Ha
      iframe Hp HO
      iexact Hout
    · iapply (middle_run c (grid0.coords t) _ _ _ _ _ _ _ _ _ _ _ _ _ _ _ _ (iblk m c 0 t) (iblk m c 1 t) (iblk m c 2 t) (iblk m c 3 t) (iblk m c 4 t) _
        (fun h => h0 ((sends_iff t).mp h)) (fun h => h0 ((clears_iff t).mp h)) (fun h => h3 ((takes_iff t).mp h)) _)
      isplitl [H0 H1 H2 H3 H4 H5 H6 H7]
      · isplitl [H0 H1 H2 H3 H4]
        · isplitl [H0]; · iexact H0
          isplitl [H1]; · iexact H1
          isplitl [H2]; · iexact H2
          isplitl [H3] <;> iassumption
        isplitl [H5]; · iexists _; iexact H5
        isplitl [H6]; · iexists _; iexact H6
        iexact H7
      iintro Hout
      iapply (point_left m c t W _ (sums_later m c t h0))
      isplitl [Hs]
      · iapply (Entails.of_eq ((stage_mid m c t.val h0 (by omega)).trans (stage_mid m c (t.val + 1) (by omega) (by omega)).symm)); iexact Hs
      iframe Hp HO
      iexact Hout

theorem defs₀_row (t : Fin cfg0.N) : defs₀ (F := F) .tc cfg0.body (cfg0.bodyArgs t (cfg0.slots t)) = bodyAt0 t := by
  unfold defs₀; rw [Defs.onTc_tc]

theorem sound_body (c : Dev nD) : BodyObligation (dat m c) (defs₀ (F := F)) Variants.none () Set.univ := fun t => by
  rw [bigSep_W0, bigSep_W0, defs₀_row]
  exact triple_restated (sound_point m c t) rfl .rfl fun _ => .rfl

/-! ## The memory the call leaves, and what the host makes of it -/

abbrev adm : (p : Fin 1) → (pcfgs (F := F) p).Adm := fun p => (cfgs p).toPCfg_adm
def dats : (p : Fin 1) → (c : Dev nD) → Dat τ (Elt F) Unit ℕ UU ℕ (Pipeline.pin (pcfgs (F := F)) adm p) c
  | 0 => dat m

/-- Entered with a device's memory `V₁`, the call leaves the blocks written back and the landing buffer filled. -/
abbrev V₂ (c : Dev nD) : Valuation τ sig (Elt F) :=
  Function.update (Function.update (Function.update (Function.update (V₁ m c) (Proc.devRef .tc main_v1_3) (arrived m c))
    (Proc.devRef .tc main_v1_2) ((dat m c).arrAt 7 cfg0.N)) (Proc.devRef .tc main_v1_1) ((dat m c).arrAt 6 cfg0.N))
    (Proc.devRef .tc main_v1_0) ((dat m c).arrAt 5 cfg0.N)

theorem V₂_grad (c : Dev nD) : V₂ m c main_v1_0 = (dat m c).arrAt 5 cfg0.N := Function.update_self ..
theorem V₂_rounded (c : Dev nD) : V₂ m c main_v1_1 = (dat m c).arrAt 6 cfg0.N :=
  (Function.update_of_ne (by decide) ..).trans (Function.update_self ..)
theorem V₂_scales (c : Dev nD) : V₂ m c main_v1_2 = (dat m c).arrAt 7 cfg0.N :=
  (Function.update_of_ne (by decide) ..).trans ((Function.update_of_ne (by decide) ..).trans (Function.update_self ..))
theorem V₂_landing (c : Dev nD) : V₂ m c main_v1_3 = arrived m c :=
  (Function.update_of_ne (by decide) ..).trans ((Function.update_of_ne (by decide) ..).trans ((Function.update_of_ne (by decide) ..).trans
    (Function.update_self ..)))
theorem V₂_ne (c : Dev nD) (b : Ref sig .tc) (h0 : b ≠ main_v1_0) (h1 : b ≠ main_v1_1) (h2 : b ≠ main_v1_2) (h3 : b ≠ main_v1_3) :
    V₂ m c b = V₁ m c b :=
  have inj {x : Ref sig .tc} (h : b ≠ x) : (Proc.devRef .tc b : DevRef τ sig) ≠ Proc.devRef .tc x := fun e => h (Proc.devRef_injective .tc e)
  (Function.update_of_ne (inj h0) ..).trans ((Function.update_of_ne (inj h1) ..).trans ((Function.update_of_ne (inj h2) ..).trans
    (Function.update_of_ne (inj h3) ..)))

/-- The host takes the one plane of the rounded gradient the call fills. -/
abbrev V₃ (c : Dev nD) : Valuation τ sig (Elt F) := StableHlo.after hostOps1 (V₂ m c)

theorem V₃_ne (c : Dev nD) (b : Ref sig .tc) (h2 : b ≠ main_v2) (h3 : b ≠ main_v3) : V₃ m c b = V₂ m c b := by
  show StableHlo.after [_, _] (V₂ m c) (Proc.devRef .tc b) = _
  rw [StableHlo.after_cons, StableHlo.after_cons, StableHlo.after_nil, StableHlo.reshape_result_ne _ _ _ _ _ _ _ h3,
    StableHlo.unary_result_ne _ _ _ _ _ _ h2]
theorem V₃_plane (c : Dev nD) : V₃ m c main_v3
    = shapeCast S4096x1024 (extractStridedSlice S1x4096x1024 ![2, 0, 0]
        ((dat m c).arrAt 6 cfg0.N) slices_S3x4096x1024_S1x4096x1024_2_0_0) shapeCasts_S1x4096x1024_S4096x1024 := by
  show StableHlo.after [_, _] (V₂ m c) (Proc.devRef .tc main_v3) = _
  rw [StableHlo.after_cons, StableHlo.after_cons, StableHlo.after_nil, StableHlo.reshape_result, StableHlo.unary_result, V₂_rounded]
  rfl

/-! ## The two buffers the exchange addresses, cut up -/

/-- A device's tables are the four pieces it sends and the rows that stay. -/
theorem tables_split (c : Dev nD) :
    (((c : Thread nD τ).loc main_arg5 ↦{fullShare} tables m c) : sProp 𝕄) ⊣⊢ iprop(four (fun k => pieceRows c k (tables m c)) ∗ stayRows m c) := by
  have h := pointsTo_split_subset (Ix := Unit) (Name := ℕ) (U := UU) (Lvl := ℕ) (ℓ := (c : Thread nD τ).loc main_arg5) (q := fullShare)
    (f := tables m c) (Finset.subset_univ (Finset.univ.biUnion (pieceSet c)))
  have e := pointsTo_biUnion (Ix := Unit) (Name := ℕ) (U := UU) (Lvl := ℕ) (ℓ := (c : Thread nD τ).loc main_arg5) (q := fullShare) (f := tables m c)
    Finset.univ (pieceSet c) (fun k _ l _ h => pieces_disjoint c h)
  rw [four_eq] at e
  rw [e] at h
  exact h

abbrev slotSet (c : Dev nD) (k : Fin 4) : Finset (Idx ((c : Thread nD τ).loc main_v1_3)) := (slot k).view.set

theorem slots_cover (c : Dev nD) : Finset.univ.biUnion (slotSet c) = Finset.univ :=
  Finset.eq_univ_iff_forall.mpr fun i => Finset.mem_biUnion.mpr ⟨⟨(i (0 : Fin 3)).val, (i (0 : Fin 3)).isLt⟩, Finset.mem_univ _, (mem_slot _ i).mpr rfl⟩

/-- The landing buffer is its four slots. -/
theorem landing_split (c : Dev nD) (f : (main_v1_3 : Ref sig .tc).ty.Contents (Elt F)) :
    (((c : Thread nD τ).loc main_v1_3 ↦{fullShare} f) : sProp 𝕄) = four (fun k => slotRows c k f) := by
  have h := pointsTo_biUnion (Ix := Unit) (Name := ℕ) (U := UU) (Lvl := ℕ) (ℓ := (c : Thread nD τ).loc main_v1_3) (q := fullShare) (f := f)
    Finset.univ (slotSet c) (fun k _ l _ h => slots_disjoint h)
  rw [slots_cover c, four_eq] at h
  exact h

/-- Slot `k` after its arrival is slot `k` of the filled buffer. -/
theorem slot_filled (c : Dev nD) (k : Fin 4) : (slotRows c k (landed m c k) : sProp 𝕄) = slotRows c k (arrived m c) :=
  pointsTo_congr fun i hi => by
    have e : (⟨(i (0 : Fin 3)).val, (i (0 : Fin 3)).isLt⟩ : Fin 4) = k := Fin.ext ((mem_slot k i).mp hi)
    unfold arrived; rw [e]

end Cert.Dx

end
-- ==== Proof.DxCall.lean ====
/- The call for the gradient of the step's stream as a segment of the program: the buffers it finds beside its arrays, its semaphores opened
   and closed, and the host's slice after it. -/
module

public import proofs.«01_k».proof.Proof.DxRegion
public import Idealize.ShloMosaic.Lib.Pipeline.RegionTalk

@[expose] public section

set_option maxRecDepth 16384

noncomputable section

namespace Cert.Dx

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel5Ideal Cert.Kernel5Ideal.Gen

variable {F : FTy → Type} [FloatOps F]

local notation "𝕄" => MT nD τ sig Unit (Elt F) ℕ UU ℕ

variable (m : (ℓ : Loc nD τ sig) → Buf (Elt F) ℓ)

/-! ## The buffers the call finds beside its arrays -/

/-- The two buffers the call addresses itself, and the two the host writes after it. -/
abbrev besideArrays : Finset (DevRef τ sig) :=
  {Proc.devRef .tc main_arg5, Proc.devRef .tc main_v1_3, Proc.devRef .tc main_v2, Proc.devRef .tc main_v3}
abbrev addressed : Finset (DevRef τ sig) := {Proc.devRef .tc main_arg5, Proc.devRef .tc main_v1_3}
abbrev allBufs : Finset (DevRef τ sig) := Pipeline.ucRefs τ sig

theorem held_addressed (c : Dev nD) (W : Valuation τ sig (Elt F)) :
    (StableHlo.held (c.tc : Thread nD τ) addressed W : sProp 𝕄)
      = iprop(((c : Thread nD τ).loc main_arg5 ↦{fullShare} W main_arg5) ∗ ((c : Thread nD τ).loc main_v1_3 ↦{fullShare} W main_v1_3)) := by
  unfold StableHlo.held
  rw [bigSep_eq_bigSepL_of_eq [Proc.devRef .tc main_arg5, Proc.devRef .tc main_v1_3] (by decide) (by decide)]
  rfl

/-- All unscoped buffers: the call's arrays and the four beside. -/
theorem held_all (c : Dev nD) (W : Valuation τ sig (Elt F)) :
    (StableHlo.held (c.tc : Thread nD τ) allBufs W : sProp 𝕄)
      = iprop(StableHlo.held (c.tc : Thread nD τ) (Pipeline.arrRefs (τ := τ) spec0) W ∗ StableHlo.held (c.tc : Thread nD τ) besideArrays W) := by
  rw [StableHlo.held_sub_split (c.tc : Thread nD τ) (T := Pipeline.arrRefs (τ := τ) spec0) (S := allBufs) (by decide) W,
    show allBufs \ Pipeline.arrRefs (τ := τ) spec0 = besideArrays from by decide]

theorem held_each (c : Dev nD) (W : Valuation τ sig (Elt F)) :
    (StableHlo.held (c.tc : Thread nD τ) allBufs W : sProp 𝕄)
      = iprop(((c : Thread nD τ).loc main_arg0 ↦{fullShare} W main_arg0) ∗ ((c : Thread nD τ).loc main_arg1 ↦{fullShare} W main_arg1)
        ∗ ((c : Thread nD τ).loc main_arg2 ↦{fullShare} W main_arg2) ∗ ((c : Thread nD τ).loc main_arg3 ↦{fullShare} W main_arg3)
        ∗ ((c : Thread nD τ).loc main_arg4 ↦{fullShare} W main_arg4) ∗ ((c : Thread nD τ).loc main_arg5 ↦{fullShare} W main_arg5)
        ∗ ((c : Thread nD τ).loc main_v1_0 ↦{fullShare} W main_v1_0) ∗ ((c : Thread nD τ).loc main_v1_2 ↦{fullShare} W main_v1_2)
        ∗ ((c : Thread nD τ).loc main_v1_3 ↦{fullShare} W main_v1_3) ∗ ((c : Thread nD τ).loc main_v3 ↦{fullShare} W main_v3)
        ∗ ((c : Thread nD τ).loc main_v1_1 ↦{fullShare} W main_v1_1) ∗ ((c : Thread nD τ).loc main_v2 ↦{fullShare} W main_v2)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_arg5, Proc.devRef .tc main_v1_0, Proc.devRef .tc main_v1_2, Proc.devRef .tc main_v1_3,
    Proc.devRef .tc main_v3, Proc.devRef .tc main_v1_1, Proc.devRef .tc main_v2] (by decide) (by decide)]
  rfl

/-- A resource on each of the call's eight semaphores: on the four of the departures and the four of the arrivals. -/
theorem eight_eq (Φ : SemLoc sig → sProp 𝕄) :
    bigSep Finset.univ (fun k : Fin 8 => Φ (ownSem k)) = iprop(four (fun k => Φ (.dma (sentSem k))) ∗ four (fun k => Φ (.dma (gotSem k)))) := by
  rw [bigSep_univ_equiv (finSumFinEquiv : Fin 4 ⊕ Fin 4 ≃ Fin 8), bigSep_univ_sum, four_eq, four_eq]
  rfl

theorem ownSems_eq (c : Dev nD) :
    (Pipeline.ownSems0 ownSem c : sProp 𝕄) = iprop(four (fun k => semVal (sentCell c k) 0) ∗ four (fun k => semVal (gotCell c k) 0)) :=
  eight_eq (fun s => (semVal ((c : Thread nD τ), s) 0 : sProp 𝕄))

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-! ## The call as a segment of the program -/

/-- What the launch leaves for the call; what the call enters its first point with. -/
def kept (c : Dev nD) : sProp 𝕄 :=
  iprop((∃ K, ghost m K c) ∗ cred (tallyAt (barCell c) () 1) ∗ four (fun k => cred (tallyAt (gotCell c k) () credit)))
def entered (c : Dev nD) : sProp 𝕄 :=
  iprop((∃ K, opened m K c) ∗ cred (tallyAt (barCell c) () 1) ∗ four (fun k => cred (tallyAt (gotCell c k) () credit)) ∗ levAts L lv)
def left (c : Dev nD) : sProp 𝕄 := semVal (barCell c) 0

/-- Four semaphores opened together. -/
theorem open_four (K : GSem nD τ sig → ℕ) (g : Fin 4 → GSem nD τ sig) :
    iprop(four (fun k => cellInv EX (plan m) (K (g k)) (g k)) ∗ four (fun k => openTok EX (g k)) ∗ four (fun k => semVal (g k) 0))
      ⊢ (|={Set.univ}=> iprop(four (fun k => atPos EX (g k) 0 ∅ 0) ∗ four (fun k => reached EX (g k) 0)) : sProp 𝕄) := by
  iintro ⟨⟨#H0, #H1, #H2, #H3⟩, ⟨Ho0, Ho1, Ho2, Ho3⟩, ⟨Hs0, Hs1, Hs2, Hs3⟩⟩
  imod (Rounds.cell_open EX (plan m) (g := g 0) (Set.mem_univ (K (g 0)))) $$ [Ho0 Hs0] with ⟨Ha0, #Hr0⟩
  · iframe # ∗
  imod (Rounds.cell_open EX (plan m) (g := g 1) (Set.mem_univ (K (g 1)))) $$ [Ho1 Hs1] with ⟨Ha1, #Hr1⟩
  · iframe # ∗
  imod (Rounds.cell_open EX (plan m) (g := g 2) (Set.mem_univ (K (g 2)))) $$ [Ho2 Hs2] with ⟨Ha2, #Hr2⟩
  · iframe # ∗
  imod (Rounds.cell_open EX (plan m) (g := g 3) (Set.mem_univ (K (g 3)))) $$ [Ho3 Hs3] with ⟨Ha3, #Hr3⟩
  · iframe # ∗
  imodintro
  isplitl [Ha0 Ha1 Ha2 Ha3]
  · isplitl [Ha0]; · iexact Ha0
    isplitl [Ha1]; · iexact Ha1
    isplitl [Ha2] <;> iassumption
  iframe Hr0 Hr1 Hr2 Hr3

theorem open_cells (c : Dev nD) : iprop(kept m c ∗ Pipeline.ownSems0 ownSem c ∗ levAts L lv) ⊢ (|={Set.univ}=> entered m c : sProp 𝕄) := by
  rw [ownSems_eq]
  unfold kept entered
  iintro ⟨⟨⟨%K, Hg⟩, HcB, HcG⟩, ⟨Hs0, Hg0⟩, #Hlev⟩
  unfold ghost invs
  icases Hg with ⟨⟨#HIbar, #HIsent, #HIgot, #HIbarM, #HIgotM⟩, HatB, HoS, HoG, #HrM, Hpay⟩
  imod (open_four m K (sentCell c)) $$ [HoS Hs0] with ⟨HatS, #HrS⟩
  · iframe # ∗
  imod (open_four m K (gotCell c)) $$ [HoG Hg0] with ⟨HatG, #HrG⟩
  · iframe # ∗
  imodintro
  isplitl [HatB HatS HatG Hpay]
  · iexists K; unfold opened invs
    isplitr
    · iframe HIbar HIsent HIgot HIbarM HIgotM
    iframe HatB HatS HatG HrM HrS HrG Hpay
  iframe HcB HcG Hlev

theorem enter (c : Dev nD) :
    iprop(Pipeline.scopedRest (Pipeline.pin (pcfgs (F := F)) adm 0).spec c ∗ (∃ r, prngReg c r)
        ∗ StableHlo.held (c.tc : Thread nD τ) addressed (V₁ m c) ∗ entered m c) ⊢ (dats m 0 c).Φ 0 := by
  rw [show (dats m 0 c).Φ 0 = iprop(stage m c 0 ∗ stayRows m c ∗ ∃ r, prngReg c r) from rfl, stage_start, held_addressed]
  unfold entered before
  iintro ⟨-, Hp, ⟨Ht, Hl⟩, HK, HcB, HcG, #Hlev⟩
  ihave Ht' := (tables_split m c).1 $$ Ht
  icases Ht' with ⟨Hpieces, Hstay⟩
  ihave Hl' := (Entails.of_eq (landing_split c (landing m c))) $$ Hl
  isplitr [Hp Hstay]
  · iframe # ∗
  iframe

theorem leave (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) addressed (V₂ m c) ∗ Pipeline.ownSems0 ownSem c ∗ left c) := by
  rw [show (dats m 0 c).Φ (Fin.last _) = iprop(stage m c grid0.N ∗ stayRows m c ∗ ∃ r, prngReg c r) from rfl, N_0, stage_end, held_addressed, ownSems_eq,
    show (Pipeline.scopedRest (Pipeline.pin (pcfgs (F := F)) adm 0).spec c : sProp 𝕄) = (BI.emp : sProp 𝕄) from scopedRest0_eq c, V₂_landing,
    V₂_ne m c main_arg5 (by decide) (by decide) (by decide) (by decide)]
  unfold after left
  rw [show (fun k : Fin 4 => (slotRows c k (landed m c k) : sProp 𝕄)) = fun k => slotRows c k (arrived m c) from funext (slot_filled m c)]
  iintro ⟨⟨Hb0, Hss, Hpieces, Hslots⟩, Hstay, Hp⟩
  isplitr; · iempintro
  iframe Hp
  isplitl [Hpieces Hslots Hstay]
  · isplitl [Hpieces Hstay]
    · iapply (tables_split m c).2
      iframe
    iapply (Entails.of_eq (landing_split c (arrived m c)).symm)
    iexact Hslots
  iframe Hss Hb0

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_level (c : Dev nD) (t : Fin ((Pipeline.pin (pcfgs (F := F)) adm 0).N + 1)) (g : GSem nD τ sig) (i : Unit)
    (h : 0 < (dats (F := F) m 0 c).owed t g i) : i ∈ L g ∧ (0 : ℕ) < lv g i := by
  rw [show (dats (F := F) m 0 c).owed t = if t.val = 0 then debt c else 0 from rfl] at h
  split at h
  · rcases debt_cell h with ⟨k, rfl⟩ | rfl
    · exact ⟨mem_L .., by rw [lv_got]; decide⟩
    · exact ⟨mem_L .., by rw [lv_bar]; decide⟩
  · exact absurd h (Nat.lt_irrefl 0)

/-- The staging semaphores have no part in the exchange: they come before the barrier and the arrivals. -/
theorem staging_role : ∀ (w : Fin 8) (s : Fin (spec0 w).nbuf), role (.dma ((spec0 w).sem s)) = .other := by decide
theorem staging_level (c : Dev nD) (w : Fin 8) (s : Fin (spec0 w).nbuf) : lv ((c : Thread nD τ), .dma ((spec0 w).sem s)) () ≤ 0 := by
  unfold lv; dsimp only; rw [staging_role]

theorem arrays_kept (c : Dev nD) (w : Fin 8) :
    (dat m c).arrAt w cfg0.N = V₂ m c (Proc.devRef .tc (Pipeline.arrRef spec0 w)) := by
  match w with
  | ⟨0, _⟩ => exact ((dat m c).arrAt_in 0 rfl _).trans ((A_eq m c 0).trans (V₂_ne m c main_arg0 (by decide) (by decide) (by decide) (by decide)).symm)
  | ⟨1, _⟩ => exact ((dat m c).arrAt_in 1 rfl _).trans ((A_eq m c 1).trans (V₂_ne m c main_arg1 (by decide) (by decide) (by decide) (by decide)).symm)
  | ⟨2, _⟩ => exact ((dat m c).arrAt_in 2 rfl _).trans ((A_eq m c 2).trans (V₂_ne m c main_arg2 (by decide) (by decide) (by decide) (by decide)).symm)
  | ⟨3, _⟩ => exact ((dat m c).arrAt_in 3 rfl _).trans ((A_eq m c 3).trans (V₂_ne m c main_arg3 (by decide) (by decide) (by decide) (by decide)).symm)
  | ⟨4, _⟩ => exact ((dat m c).arrAt_in 4 rfl _).trans ((A_eq m c 4).trans (V₂_ne m c main_arg4 (by decide) (by decide) (by decide) (by decide)).symm)
  | ⟨5, _⟩ => exact (V₂_grad m c).symm
  | ⟨6, _⟩ => exact (V₂_rounded m c).symm
  | ⟨7, _⟩ => exact (V₂_scales m c).symm

theorem arrays_found (c : Dev nD) (w : Fin 8) : (dat m c).arrAt w 0 = V₁ m c (Proc.devRef .tc (Pipeline.arrRef spec0 w)) := A_eq m c w

theorem beside_kept (c : Dev nD) : ∀ b ∈ besideArrays \ addressed, V₂ m c b = V₁ m c b := by
  intro b hb
  rw [show (besideArrays \ addressed : Finset (DevRef τ sig)) = {Proc.devRef .tc main_v2, Proc.devRef .tc main_v3} from by decide,
    Finset.mem_insert, Finset.mem_singleton] at hb
  rcases hb with rfl | rfl
  · exact V₂_ne m c main_v2 (by decide) (by decide) (by decide) (by decide)
  · exact V₂_ne m c main_v3 (by decide) (by decide) (by decide) (by decide)

local notation "ℍ" => Pipeline.HostSeg (Name := ℕ) (U := UU) (pcfgs (F := F)) defs₀ Variants.none L lv
local notation "ℝ" => Pipeline.RegionSeg (pcfgs (F := F)) adm (dats m) () defs₀ Variants.none L lv

set_option backward.isDefEq.respectTransparency.types false in
def call : ℝ 0 :=
  Pipeline.RegionSeg.ofTalk (pcfgs (F := F)) adm (dats m) () defs₀ Variants.none L lv 0 ownSem (by decide : Pipeline.OwnSemFacts spec0 ownSem)
    addressed besideArrays (by decide) kit rfl (fun c => (sound_body m c).loose)
    (fun _ => 0) debt (fun c => (owed_start m c 0 rfl).trans (zero_add _).symm)
    (fun c => owed_after m c (Fin.last _) (by rw [Fin.val_last, show cfg0.N = 16 from N_0]; decide)) (fun _ => rfl)
    (fun c => (dat m c).share_full fun _ => rfl)
    (V₁ m) (V₂ m) (beside_kept m)
    (kept m) left (entered m) left (open_cells m) (enter m) (leave m)
    (fun c => by iintro H; imodintro; iexact H)
    (fun _ => 0)
    ⟨fun c w s => mem_L c _ _, fun c w s => staging_level c w s, fun c t g i h => owed_level m c t g i h⟩
    (fun _ => iprop(emp))
    (arrays_found m) (arrays_kept m)

/-- Beside the buffers, up to the call: what the launch left for it, the generator register, and the debt; -/
def riding (c : Dev nD) : sProp 𝕄 := iprop(kept m c ∗ (∃ r, prngReg c r) ∗ ∃ W, owes (c : Thread nD τ) (debt c) W)
/-- after it: the barrier at zero, and nothing owed. -/
def settled (c : Dev nD) : sProp 𝕄 := iprop(semVal (barCell c) 0 ∗ ∃ W, owes (c : Thread nD τ) (0 : CellTallies nD τ sig Unit) W)

theorem hostOps_sub : ∀ op ∈ (hostOps1 : List (HloOp τ sig (Elt F))), op.bufs ⊆ allBufs := fun op h => by
  simp only [hostOps1, List.mem_cons, List.not_mem_nil, or_false] at h
  rcases h with rfl | rfl
  · show ({Proc.devRef .tc main_v1_1, Proc.devRef .tc main_v2} : Finset (DevRef τ sig)) ⊆ allBufs; decide
  · show ({Proc.devRef .tc main_v2, Proc.devRef .tc main_v3} : Finset (DevRef τ sig)) ⊆ allBufs; decide
theorem hostOps_fresh : ∀ op ∈ (hostOps1 : List (HloOp τ sig (Elt F))), op.fresh = ∅ := fun op h => by
  simp only [hostOps1, List.mem_cons, List.not_mem_nil, or_false] at h
  rcases h with rfl | rfl <;> rfl

/-- The host's slice of the rounded gradient. -/
def host : ℍ := Pipeline.HostSeg.ofOps _ _ _ _ _ allBufs hostOps1 hostOps_sub hostOps_fresh (V₂ m) settled

abbrev first (c : Dev nD) : sProp 𝕄 := iprop(StableHlo.held (c.tc : Thread nD τ) allBufs (V₁ m c) ∗ riding m c)
abbrev last (c : Dev nD) : sProp 𝕄 := iprop(StableHlo.held (c.tc : Thread nD τ) allBufs (V₃ m c) ∗ semVal (barCell c) 0)

theorem call_pre (c : Dev nD) : first m c ⊢ (call m).pre c := by
  show _ ⊢ iprop(StableHlo.held (c.tc : Thread nD τ) (Pipeline.arrRefs (τ := τ) spec0) (V₁ m c) ∗ (∃ r, prngReg c r)
    ∗ (StableHlo.held (c.tc : Thread nD τ) besideArrays (V₁ m c) ∗ emp) ∗ kept m c ∗ ∃ Wd, owes (c : Thread nD τ) (0 + debt c) Wd)
  dsimp only [first]
  rw [held_all, zero_add]
  unfold riding
  iintro ⟨⟨Ha, Hb⟩, HK, Hp, HO⟩
  iframe Ha Hp Hb HK HO

theorem call_post (c : Dev nD) : (call m).post c ⊢ iprop(StableHlo.held (c.tc : Thread nD τ) allBufs (V₂ m c) ∗ settled c) := by
  show iprop(StableHlo.held (c.tc : Thread nD τ) (Pipeline.arrRefs (τ := τ) spec0) (V₂ m c) ∗ (∃ r, prngReg c r)
    ∗ (StableHlo.held (c.tc : Thread nD τ) besideArrays (V₂ m c) ∗ emp) ∗ left c ∗ ∃ Wd, owes (c : Thread nD τ) (0 : CellTallies nD τ sig Unit) Wd) ⊢ _
  rw [held_all]
  unfold left settled
  iintro ⟨Ha, -, ⟨Hb, -⟩, Hb0, HO⟩
  isplitl [Ha Hb]
  · iframe
  iframe

theorem host_post (c : Dev nD) : iprop(StableHlo.held (c.tc : Thread nD τ) allBufs (V₃ m c) ∗ settled c)
    ⊢ iprop(last m c ∗ ∃ W, owes (c : Thread nD τ) (0 : CellTallies nD τ sig Unit) W) := by
  dsimp only [last]
  unfold settled
  iintro ⟨Hh, Hb0, HO⟩
  isplitr [HO]
  · iframe
  iexact HO

def segs : List (Pipeline.Seg (pcfgs (F := F)) adm (dats m) () defs₀ Variants.none L lv) := [.region (call m), .host (host m)]

end Cert.Dx

end
-- ==== Proof.DxRun.lean ====
/- The run of the gradient of the step's stream on the two devices of a pair: the launch deals out what the exchange needs, the call runs,
   the host slices, and every execution ends with the blocks written back and the landing buffers filled. -/
module

public import proofs.«01_k».proof.Proof.DxCall
public import proofs.«01_k».proof.Proof.Families

@[expose] public section

set_option maxRecDepth 16384

noncomputable section

namespace Cert.Dx

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel5Ideal Cert.Kernel5Ideal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSem_inj : Function.Injective ownSem := by decide
theorem ownSem_ne_bar : ∀ k : Fin 8, ownSem k ≠ .reg barrier0 := by decide

def barEmb : Dev nD ↪ GSem nD τ sig := ⟨fun c => barCell c, fun _ _ h => congrArg (fun g : GSem nD τ sig => g.1.1) h⟩
def ownEmb : Dev nD × Fin 8 ↪ GSem nD τ sig :=
  ⟨fun ck => ((ck.1 : Thread nD τ), ownSem ck.2), fun _ _ h =>
    Prod.ext (congrArg (fun g : GSem nD τ sig => g.1.1) h) (ownSem_inj (congrArg Prod.snd h))⟩

/-- The barriers, whose counters the launch holds; the call's own semaphores, whose counters come with the call. -/
abbrev barCells : Finset (GSem nD τ sig) := Finset.univ.map barEmb
abbrev ownCells : Finset (GSem nD τ sig) := Finset.univ.map ownEmb

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact ownSem_ne_bar ck.2 (congrArg Prod.snd h)

/-- One duty on each of them. -/
def duties : Finset (GSem nD τ sig × ℕ × Unit) :=
  (barCells ∪ ownCells).map ⟨fun g => (g, 0, ()), fun _ _ h => congrArg (fun t : GSem nD τ sig × ℕ × Unit => t.1) h⟩

theorem bar_mem (c : Dev nD) : barCell c ∈ (barCells ∪ ownCells : Finset (GSem nD τ sig)) :=
  Finset.mem_union_left _ (Finset.mem_map_of_mem barEmb (Finset.mem_univ c))
theorem sent_mem (c : Dev nD) (k : Fin 4) : sentCell c k ∈ (barCells ∪ ownCells : Finset (GSem nD τ sig)) :=
  Finset.mem_union_right _ (Finset.mem_map.mpr ⟨(c, Fin.castAdd 4 k), Finset.mem_univ _, rfl⟩)
theorem got_mem (c : Dev nD) (k : Fin 4) : gotCell c k ∈ (barCells ∪ ownCells : Finset (GSem nD τ sig)) :=
  Finset.mem_union_right _ (Finset.mem_map.mpr ⟨(c, Fin.natAdd 4 k), Finset.mem_univ _, by revert k; decide +kernel +revert⟩)

/-- The launch's element: the library's share of it, and this exchange's. -/
def launchElt : UU :=
  (initOf (Pipeline.cells (Pipeline.pin (pcfgs (F := F)) adm) cellOf_inj) (Pipeline.launchToks (Pipeline.pin (pcfgs (F := F)) adm) cellOf_inj),
    launchOf barCells ownCells duties)

/-- This exchange's share is set aside on device 0 until the devices' resources are dealt together. -/
def aside (c : Dev nD) : sProp 𝕄 := if c = 0 then BI.own (EX (launchOf barCells ownCells duties)) else iprop(emp)
theorem aside_eq : (bigSep Finset.univ fun c : Dev nD => (aside c : sProp 𝕄)) = BI.own (EX (launchOf barCells ownCells duties)) := one_aside 0 _

/-- What both devices may consult: the invariants, and that every barrier is in its first round. -/
def records (κ : GSem nD τ sig → ℕ) : sProp 𝕄 :=
  iprop((bigSep (barCells ∪ ownCells) fun g => cellInv EX (plan m) (κ g) g) ∗ bigSep barCells fun g => reached EX g 0)

instance records_persistent (κ : GSem nD τ sig → ℕ) : BI.Persistent (records m κ) := by unfold records; infer_instance

theorem inv_at (κ : GSem nD τ sig → ℕ) {g : GSem nD τ sig} (hg : g ∈ (barCells ∪ ownCells : Finset (GSem nD τ sig))) :
    (bigSep (barCells ∪ ownCells) fun g => (cellInv EX (plan m) (κ g) g : sProp 𝕄)) ⊢ cellInv EX (plan m) (κ g) g :=
  bigSep_elim hg
theorem inv_four (κ : GSem nD τ sig → ℕ) (g : Fin 4 → GSem nD τ sig) (hg : ∀ k, g k ∈ (barCells ∪ ownCells : Finset (GSem nD τ sig))) :
    (bigSep (barCells ∪ ownCells) fun g => (cellInv EX (plan m) (κ g) g : sProp 𝕄)) ⊢ four (fun k => cellInv EX (plan m) (κ (g k)) (g k)) := by
  iintro #H
  isplitr; · iapply (inv_at m κ (hg 0)); iexact H
  isplitr; · iapply (inv_at m κ (hg 1)); iexact H
  isplitr; · iapply (inv_at m κ (hg 2)); iexact H
  iapply (inv_at m κ (hg 3)); iexact H

theorem reached_at (c : Dev nD) : (bigSep barCells fun g => (reached EX g 0 : sProp 𝕄)) ⊢ reached EX (barCell c) 0 :=
  bigSep_elim (Finset.mem_map_of_mem barEmb (Finset.mem_univ c))

/-- What a device alone holds: its place on its barrier, the rights to open its eight semaphores, the duties it pays. -/
def alone (c : Dev nD) : sProp 𝕄 :=
  iprop(atPos EX (barCell c) 0 ∅ 0 ∗ (four (fun k => openTok EX (sentCell c k)) ∗ four (fun k => openTok EX (gotCell c k))) ∗ payable c)

theorem ghost_intro (κ : GSem nD τ sig → ℕ) (c : Dev nD) : iprop(records m κ ∗ alone c) ⊢ iprop(∃ K, ghost m K c) := by
  unfold records alone ghost invs
  iintro ⟨⟨#HI, #HR⟩, HaB, ⟨HoS, HoG⟩, Hpay⟩
  iexists κ
  isplitr
  · isplitr; · iapply (inv_at m κ (bar_mem c)); iexact HI
    isplitr; · iapply (inv_four m κ (sentCell c) (sent_mem c)); iexact HI
    isplitr; · iapply (inv_four m κ (gotCell c) (got_mem c)); iexact HI
    isplitr; · iapply (inv_at m κ (bar_mem (mate c))); iexact HI
    iapply (inv_four m κ (gotCell (mate c)) (got_mem (mate c))); iexact HI
  iframe HaB HoS HoG
  isplitr; · iapply (reached_at (F := F) (mate c)); iexact HR
  iexact Hpay

/-- A resource on every semaphore of the calls: on each device, the four of its departures and the four of its arrivals. -/
theorem own_each (Φ : GSem nD τ sig → sProp 𝕄) :
    bigSep ownCells Φ = bigSep Finset.univ fun c : Dev nD => iprop(four (fun k => Φ (sentCell c k)) ∗ four (fun k => Φ (gotCell c k))) := by
  rw [bigSep_map, bigSep_univ_prod]
  exact bigSep_congr fun c _ => eight_eq (fun s => Φ ((c : Thread nD τ), s))

/-- The duties, each handed to the device that pays it. -/
theorem duties_dealt : bigSep duties (fun x => (dutyTok EX x.1 x.2.1 x.2.2 : sProp 𝕄)) ⊢ bigSep Finset.univ fun c : Dev nD => payable c := by
  have e : bigSep duties (fun x => (dutyTok EX x.1 x.2.1 x.2.2 : sProp 𝕄))
      = iprop((bigSep Finset.univ fun c : Dev nD => dutyTok EX (barCell c) 0 ())
        ∗ bigSep Finset.univ fun c : Dev nD => iprop(four (fun k => dutyTok EX (sentCell c k) 0 ()) ∗ four (fun k => dutyTok EX (gotCell c k) 0 ()))) := by
    have u := bigSep_union (cells_disjoint) (Φ := fun g => (dutyTok EX g 0 () : sProp 𝕄))
    rw [own_each (fun g => (dutyTok EX g 0 () : sProp 𝕄)), bigSep_map (s := Finset.univ) barEmb] at u
    unfold duties
    rw [bigSep_map]
    exact u
  rw [e]
  unfold payable
  iintro ⟨Hbar, H⟩
  ihave H' := split_families $$ H
  icases H' with ⟨Hsent, Hgot⟩
  iapply join_families
  isplitl [Hbar]
  · iapply (Entails.of_eq (bigSep_univ_equiv swap (fun c : Dev nD => (dutyTok EX (barCell c) 0 () : sProp 𝕄)))); iexact Hbar
  iapply join_families
  iframe Hsent
  iapply (Entails.of_eq (bigSep_univ_equiv swap (fun c : Dev nD => (four (fun k => dutyTok EX (gotCell c k) 0 ()) : sProp 𝕄)))); iexact Hgot

/-! ### What each device is owed -/

/-- A device owes the other one `n` units on the other's semaphore `sm` and nothing on its own. -/
theorem owed_by (sm : SemLoc sig) (n : ℕ) (d c : Dev nD) :
    (tallyAt ((mate d : Thread nD τ), sm) () n : CellTallies nD τ sig Unit) ((c : Thread nD τ), sm) () = if d = mate c then n else 0 := by
  rw [tallyAt_apply]
  by_cases h : d = mate c
  · subst h; rw [mate_mate, if_pos ⟨rfl, rfl⟩, if_pos rfl]
  · rw [if_neg (fun ⟨h1, _⟩ => h (by rw [← mate_mate d]; exact congrArg mate (Fin.ext (congrArg (fun g : GSem nD τ sig => g.1.1.val) h1)).symm)), if_neg h]

theorem got_ne_bar (k : Fin 4) : (.dma (gotSem k) : SemLoc sig) ≠ .reg barrier0 := fun h => by cases h
theorem gotSem_inj : Function.Injective gotSem := by decide

theorem due_bar (d c : Dev nD) : ∀ n : ℕ, due d n (barCell c) () = 0
  | 0 => rfl
  | n + 1 => by
    have e : ∀ k, arrival d k (barCell c) = 0 := fun k => tallyAt_ne_cell (fun h => got_ne_bar k (congrArg Prod.snd h).symm) _ _
    unfold due
    rw [Pi.add_apply, Finsupp.add_apply, due_bar d c n, e, Finsupp.zero_apply, Nat.zero_add]

theorem arrival_at (d c : Dev nD) (j k : Fin 4) : arrival d j (gotCell c k) () = if j = k then (if d = mate c then credit else 0) else 0 := by
  by_cases h : j = k
  · subst h; rw [if_pos rfl]; exact owed_by _ _ d c
  · have e : arrival d j (gotCell c k) = 0 := tallyAt_ne_cell (fun e : gotCell c k = gotCell (mate d) j =>
      h (gotSem_inj (SemLoc.dma.inj (congrArg Prod.snd e))).symm) _ _
    rw [if_neg h, e, Finsupp.zero_apply]

theorem due_got (d c : Dev nD) (k : Fin 4) : due d 4 (gotCell c k) () = if d = mate c then credit else 0 := by
  show 0 + arrival d 3 (gotCell c k) () + arrival d 2 (gotCell c k) () + arrival d 1 (gotCell c k) () + arrival d 0 (gotCell c k) () = _
  rw [arrival_at, arrival_at, arrival_at, arrival_at]
  fin_cases k <;> simp

theorem owed_bar (d c : Dev nD) : debt d (barCell c) () = if d = mate c then 1 else 0 := by
  unfold debt
  rw [Pi.add_apply, Finsupp.add_apply, due_bar, Nat.zero_add]
  exact owed_by _ _ d c
theorem owed_got (k : Fin 4) (d c : Dev nD) : debt d (gotCell c k) () = if d = mate c then credit else 0 := by
  unfold debt
  rw [Pi.add_apply, Finsupp.add_apply, tallyAt_ne_cell (g := barCell (mate d)) (g' := gotCell c k) (fun h => got_ne_bar k (congrArg Prod.snd h)),
    Finsupp.zero_apply, Nat.add_zero]
  exact due_got d c k

theorem launch_cred (g : GSem nD τ sig) (c : Dev nD) (n : ℕ) (h : ∀ d : Dev nD, debt d g () = if d = mate c then n else 0) :
    tallyOn g (launchCredit (Pipeline.owing debt) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (mate c) fun _ => n,
    if_pos (Finset.mem_univ _)]

def gotEmb : Fin 4 ↪ SemLoc sig := ⟨fun k => .dma (gotSem k), fun _ _ h => gotSem_inj (SemLoc.dma.inj h)⟩

theorem creds (c : Dev nD) :
    (Pipeline.launchCred debt c : sProp 𝕄) ⊢ iprop(cred (tallyAt (barCell c) () 1) ∗ four (fun k => cred (tallyAt (gotCell c k) () credit))) := by
  unfold Pipeline.launchCred
  rw [bigSep_univ_at _ (SemLoc.reg barrier0), launch_cred (barCell c) c 1 fun d => owed_bar d c]
  refine sep_mono_right (BI.Entails.trans (bigSep_subset (t := Finset.univ.map gotEmb) fun s hs => ?_) ?_)
  · obtain ⟨k, -, rfl⟩ := Finset.mem_map.mp hs
    exact Finset.mem_erase.mpr ⟨got_ne_bar k, Finset.mem_univ _⟩
  · rw [bigSep_map, ← four_eq]
    refine bigSep_mono fun k _ => ?_
    exact Entails.of_eq (congrArg cred (launch_cred (gotCell c k) c credit fun d => owed_got k d c))

/-- What a device holds at launch beside its part in the exchange. -/
def bundle (c : Dev nD) : sProp 𝕄 :=
  iprop(StableHlo.held (c.tc : Thread nD τ) allBufs (V₁ m c) ∗ cred (tallyAt (barCell c) () 1) ∗ four (fun k => cred (tallyAt (gotCell c k) () credit))
    ∗ owes (c : Thread nD τ) (debt c) ∅ ∗ ∃ r, prngReg c r)

theorem first_intro (κ : GSem nD τ sig → ℕ) (c : Dev nD) : iprop(records m κ ∗ (alone c ∗ bundle m c)) ⊢ first m c := by
  unfold bundle first riding kept
  iintro ⟨#HR, Hl, Hh, H1, HG, HO, Hp⟩
  iframe Hh
  isplitl [Hl H1 HG]
  · isplitl [Hl]
    · iapply (ghost_intro m κ c)
      iframe HR Hl
    iframe
  iframe Hp
  iexists ∅; iexact HO

theorem init :
    iprop((bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ aside c)) ∗ levAts L lv)
      ⊢ (|={Set.univ}=> bigSep Finset.univ (first m) : sProp 𝕄) := by
  have hcore (c : Dev nD) : iprop(unscopedBufs c (fun b => m ((c : Thread nD τ).loc b)) ∗ unscopedSems0 c
        ∗ owes (c : Thread nD τ) (debt c) ∅ ∗ Pipeline.launchCred debt c ∗ prngReg c (ρ c) ∗ aside c)
      ⊢ (iprop(bundle m c ∗ (semVal (barCell c) 0 ∗ aside c)) : sProp 𝕄) := by
    rw [show unscopedBufs c (fun b => m ((c : Thread nD τ).loc b)) = StableHlo.held (c.tc : Thread nD τ) allBufs (V₁ m c)
      from Pipeline.unscopedBufs_held c (V₁ m c), unscopedSems_eq]
    unfold bundle
    iintro ⟨Hh, Hus, HO, Hcr, Hp, HG⟩
    ihave Hc := (creds (F := F) c) $$ Hcr
    icases Hc with ⟨H1, HN⟩
    isplitl [Hh H1 HN HO Hp]
    · iframe Hh H1 HN HO
      iexists (ρ c); iexact Hp
    iframe
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos EX g 0 ∅ 0 : sProp 𝕄)) ⊢ bigSep Finset.univ (fun c : Dev nD => (atPos EX (barCell c) 0 ∅ 0 : sProp 𝕄)) :=
    Entails.of_eq (bigSep_map (s := Finset.univ) barEmb (Φ := fun g : GSem nD τ sig => (atPos EX g 0 ∅ 0 : sProp 𝕄)))
  have hopen : bigSep ownCells (fun g => (openTok EX g : sProp 𝕄))
      ⊢ bigSep Finset.univ (fun c : Dev nD => iprop(four (fun k => openTok EX (sentCell c k)) ∗ four (fun k => openTok EX (gotCell c k)))) :=
    Entails.of_eq (own_each fun g => (openTok EX g : sProp 𝕄))
  iintro ⟨H, -⟩
  ihave H' := (show (bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ aside c))
      ⊢ (bigSep Finset.univ fun c : Dev nD => iprop(bundle m c ∗ (semVal (barCell c) 0 ∗ aside c)) : sProp 𝕄) from bigSep_mono fun c _ => hcore c) $$ H
  ihave H2 := split_families $$ H'; icases H2 with ⟨HB, H3⟩
  ihave H4 := split_families $$ H3; icases H4 with ⟨Hv, HG⟩
  ihave Hu := (Entails.of_eq (aside_eq (F := F))) $$ HG
  imod (Rounds.fund_launch EX (plan m) cells_disjoint (fun g _ h => h) duties) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(alone c ∗ bundle m c)) fun c _ => first_intro m κ c)
  isplitr
  · unfold records
    iframe Hinv Hr
  iapply join_families
  isplitr [HB]
  · unfold alone
    iapply join_families; isplitl [Hat]; · iapply hat $$ Hat
    iapply join_families; isplitl [Hopen]; · iapply hopen $$ Hopen
    iapply (duties_dealt (F := F)) $$ Htok
  · iexact HB

/-! ## The run -/

theorem unscoped_bar : ∀ sm : SemLoc sig, sm.isScoped .tc = false → sm = .reg barrier0 := by decide

/-- An argument keeps its contents. -/
theorem V₃_arg (c : Dev nD) (b : Ref sig .tc) (h : b ≠ main_v1_0 ∧ b ≠ main_v1_1 ∧ b ≠ main_v1_2 ∧ b ≠ main_v1_3 ∧ b ≠ main_v2 ∧ b ≠ main_v3) :
    V₃ m c b = m ((c : Thread nD τ).loc b) :=
  (V₃_ne m c b h.2.2.2.2.1 h.2.2.2.2.2).trans (V₂_ne m c b h.1 h.2.1 h.2.2.1 h.2.2.2.1)

set_option backward.isDefEq.respectTransparency.types false in
/-- Every execution of the program on the pair ends; then the inputs are unchanged, the blocks are written back, the plane sliced, the
    landing buffers filled, and every counter is zero. -/
theorem run_main : θ_run defs (onTc (τ := τ) (main (F := F))) ⟨m, fun _ => 0, ρ⟩
    (fun r => (∀ c : Dev nD, (r.2.mem ((c : Thread nD τ).loc main_v1_0) = (dat m c).arrAt 5 cfg0.N
          ∧ r.2.mem ((c : Thread nD τ).loc main_v3) = V₃ m c main_v3
          ∧ r.2.mem ((c : Thread nD τ).loc main_v1_2) = (dat m c).arrAt 7 cfg0.N
          ∧ r.2.mem ((c : Thread nD τ).loc main_v1_3) = arrived m c)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)) ∧ r.2.sem = fun _ => 0) :=
  Pipeline.θ_run_regions_kit_sems (pcfgs (F := F)) adm (dats m) () cellOf_inj EP defs₀ Variants.none L lv m ρ main (segs m)
    (fun c Q => by rw [main_segs adm (dats m) () Variants.none L lv (host m) (call m) rfl c]; exact BI.Entails.refl _)
    (by simp only [segs, Pipeline.Seg.pipes_host, Pipeline.Seg.pipes_region, Pipeline.Seg.pipes_nil]; decide)
    (O₀ := debt) (hL := L_of_ne) (G := aside) (u₀ := launchElt (F := F))
    (hu₀ := by
      unfold launchElt
      iintro Hu
      ihave H := (ownU_pair _ _) $$ Hu
      icases H with ⟨HP, HX⟩
      imodintro
      iframe HP
      iapply (Entails.of_eq (aside_eq (F := F)).symm); iexact HX)
    (T₀ := first m) (Tₙ := last m)
    (hch := ⟨call_pre m, call_post m, host_post m⟩)
    (hinit := init m ρ)
    (QY := fun c s => (s.mem ((c : Thread nD τ).loc main_arg0) = V₃ m c main_arg0 ∧ s.mem ((c : Thread nD τ).loc main_arg1) = V₃ m c main_arg1
      ∧ s.mem ((c : Thread nD τ).loc main_arg2) = V₃ m c main_arg2 ∧ s.mem ((c : Thread nD τ).loc main_arg3) = V₃ m c main_arg3
      ∧ s.mem ((c : Thread nD τ).loc main_arg4) = V₃ m c main_arg4 ∧ s.mem ((c : Thread nD τ).loc main_arg5) = V₃ m c main_arg5
      ∧ s.mem ((c : Thread nD τ).loc main_v1_0) = V₃ m c main_v1_0 ∧ s.mem ((c : Thread nD τ).loc main_v1_2) = V₃ m c main_v1_2
      ∧ s.mem ((c : Thread nD τ).loc main_v1_3) = V₃ m c main_v1_3 ∧ s.mem ((c : Thread nD τ).loc main_v3) = V₃ m c main_v3) ∧ s.sem (barCell c) = 0)
    (hfin := fun c s' => by
      dsimp only [last]; rw [held_each]
      iintro ⟨⟨⟨H0, H1, H2, H3, H4, H5, H6, H7, H8, H9, -⟩, Hb⟩, HSI⟩
      icombine HSI H0 gives %h0
      icombine HSI H1 gives %h1
      icombine HSI H2 gives %h2
      icombine HSI H3 gives %h3
      icombine HSI H4 gives %h4
      icombine HSI H5 gives %h5
      icombine HSI H6 gives %h6
      icombine HSI H7 gives %h7
      icombine HSI H8 gives %h8
      icombine HSI H9 gives %h9
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5, Buf.eq_of_forall_mem_univ h6, Buf.eq_of_forall_mem_univ h7,
          Buf.eq_of_forall_mem_univ h8, Buf.eq_of_forall_mem_univ h9⟩, by simpa using hb⟩
      iexact HSI)
    (hQ := fun s h hs => ⟨fun c => by
        obtain ⟨⟨h0, h1, h2, h3, h4, h5, h6, h7, h8, h9⟩, -⟩ := h c
        rw [V₃_arg m c _ (by decide)] at h0 h1 h2 h3 h4 h5
        rw [V₃_ne m c _ (by decide) (by decide)] at h6 h7 h8
        rw [V₂_grad] at h6
        rw [V₂_scales] at h7
        rw [V₂_landing] at h8
        exact ⟨⟨h6, h9, h7, h8⟩, h0, h1, h2, h3, h4, h5⟩,
      sem_eq_zero hs fun c sm hsm => by
        obtain rfl := unscoped_bar sm hsm
        exact (h c).2⟩)

end Cert.Dx

end
-- ==== Proof.DxFrames.lean ====
/- The frame claims of the gradient of the step's stream: the compiled program, and the program over the extended reals. -/
module

public import proofs.«01_k».proof.Defs
public import proofs.«01_k».proof.Proof.DxRun
public import proofs.«01_k».proof.Proof.Gen.Kernel5

@[expose] public section

noncomputable section

namespace Cert.Dx

open Idealize.ShloMosaic Idealize.SL.Sem

/-- Over the extended reals: the program ends, its inputs unchanged, every counter zero. -/
theorem frame_ideal : Cert.quiescent_Kernel5Ideal := fun m ρ _ =>
  (θ_run (Cert.Kernel5Ideal.defs (F := Ideal)) _ _).mono (fun _ h => ⟨fun c => (h.1 c).2, h.2⟩) (run_main (F := Ideal) m ρ)

/-- The two programs have the same text. -/
theorem same_body : Cert.Kernel5.defs₀ (F := Bits) = Cert.Kernel5Ideal.defs₀ (F := Bits) := by
  unfold Cert.Kernel5.defs₀ Cert.Kernel5Ideal.defs₀
  refine congrArg Defs.onTc (funext fun l => ?_)
  match l with
  | ⟨0, _⟩ => rfl
  | ⟨_ + 1, h⟩ => exact absurd h (Nat.not_lt.2 (Nat.le_add_left _ _))
theorem same_defs : Cert.Kernel5.defs (F := Bits) = Cert.Kernel5Ideal.defs (F := Bits) :=
  congrArg (Pipeline.defs (Cert.Kernel5Ideal.pcfgs (F := Bits))) same_body

/-- Over machine words: the run is the same. -/
theorem frame_kernel : Cert.quiescent_Kernel5 := fun m ρ _ => by
  rw [same_defs]
  exact (θ_run (Cert.Kernel5Ideal.defs (F := Bits)) _ _).mono (fun _ h => ⟨fun c => (h.1 c).2, h.2⟩) (run_main (F := Bits) m ρ)

end Cert.Dx

end
-- ==== Proof.DxKernel.lean ====
/- The gradient of the step's stream through the up projection and the normalisation before it, element by element, as the kernel
   computes it of a block of tokens: four products over 1408 hidden columns each, the normalisation's gradient, the residual, and the
   block's share of the gradient of the normalisation's scales. -/
module

public import proofs.«01_k».proof.Proof.DxBody
public import proofs.«01_k».proof.Proof.UpKernel
public import proofs.«01_k».proof.Proof.LossKernel
public import Idealize.ShloMosaic.Lib.Pipeline.ValueKit.Tiles

@[expose] public section

noncomputable section

namespace Cert.Dx

open Idealize.ShloMosaic hiding ix0 ix1 ix2 ix3 ix4 ix5
open Idealize.ShloMosaic.ValueIdx
open Cert.Up (planeOf columnOf)
open Cert.Loss (scale eps meanSq div_1024)

section Rows

variable {n : ℕ} (u : (⟨3, ![2, n, 2816]⟩ : Shape).Idx → EReal) (w : (⟨3, ![4, 1024, 1408]⟩ : Shape).Idx → EReal)
  (x t : (⟨2, ![n, 1024]⟩ : Shape).Idx → EReal) (g : (⟨2, ![1, 1024]⟩ : Shape).Idx → EReal)

/-- The gradient at the normalised and scaled row: the hidden columns' gradients times the weights, in four blocks of columns. -/
def back (r : Fin n) (d : Fin 1024) : EReal := ∑ q : Fin 4, ∑ j : Fin 1408, u (ix3 (planeOf q) r (columnOf q j)) * w (ix3 q d j)

/-- A row of the stream. -/
def row (r : Fin n) (d : Fin 1024) : EReal := x (ix2 r d)

/-- The normalised row. -/
def hat (r : Fin n) (d : Fin 1024) : EReal := x (ix2 r d) * scale (row x r)

/-- The gradient of the row, with the residual's. -/
def dx (r : Fin n) (d : Fin 1024) : EReal :=
  t (ix2 r d) + scale (row x r) * (back u w r d * g (ix2 0 d)
    - hat x r d * ((∑ e, back u w r e * g (ix2 0 e) * hat x r e) * ((1 / 1024 : ℝ) : EReal)))

end Rows

open Cert.Kernel5Ideal Cert.Kernel5Ideal.Gen

/-- One product over a block of hidden columns. -/
theorem product_at (l : FVec Ideal S1x256x1408 .bf16) (v : FVec Ideal S1x1024x1408 .bf16) (r : Fin 256) (d : Fin 1024) :
    matmul (F := Ideal) dot_S256x1408_S1024x1408_S256x1024_1_1_0_0_n_n none (shapeCast S256x1408 l shapeCasts_S1x256x1408_S256x1408)
        (shapeCast S1024x1408 v shapeCasts_S1x1024x1408_S1024x1408) (constant S256x1024 .f32 0x00000000#32) (ix2 r d)
      = ∑ j : Fin 1408, l (ix3 0 r j) * v (ix3 0 d j) := by
  show FloatOps.matmul dot_S256x1408_S1024x1408_S256x1024_1_1_0_0_n_n none _ _ _ (ix2 r d) = _
  rw [Ideal.matmul_apply, constant_apply, Ideal.ofBits_zero_f32, zero_add,
    ← Equiv.sum_comp (contrEquiv1 dot_S256x1408_S1024x1408_S256x1024_1_1_0_0_n_n 1408 rfl rfl).symm]
  refine Finset.sum_congr rfl fun k _ => ?_
  have hk := contrEquiv1_symm_val dot_S256x1408_S1024x1408_S256x1024_1_1_0_0_n_n 1408 rfl rfl k
  congr 1
  · refine (congrArg (shapeCast S256x1408 l shapeCasts_S1x256x1408_S256x1408) (?_ : _ = ix2 r k)).trans
      (shapeCast_apply l shapeCasts_S1x256x1408_S256x1408 (ix2 r k) (ix3 0 r k) (by
        rw [Shape.rowMajor_val_two, Shape.rowMajor_val_three]; show (0 * 256 + r.val) * 1408 + k.val = r.val * 1408 + k.val; omega))
    refine funext fun ax => Fin.ext ?_
    match ax with
    | ⟨0, _⟩ => rfl
    | ⟨1, _⟩ => exact hk
  · refine (congrArg (shapeCast S1024x1408 v shapeCasts_S1x1024x1408_S1024x1408) (?_ : _ = ix2 d k)).trans
      (shapeCast_apply v shapeCasts_S1x1024x1408_S1024x1408 (ix2 d k) (ix3 0 d k) (by
        rw [Shape.rowMajor_val_two, Shape.rowMajor_val_three]; show (0 * 1024 + d.val) * 1408 + k.val = d.val * 1408 + k.val; omega))
    refine funext fun ax => Fin.ext ?_
    match ax with
    | ⟨0, _⟩ => rfl
    | ⟨1, _⟩ => exact hk

section Payloads

variable (u : FVec Ideal S2x256x2816 .bf16) (w : FVec Ideal S4x1024x1408 .bf16) (x t : FVec Ideal S256x1024 .f32) (g s : FVec Ideal S1x1024 .f32)

/-- A block of hidden columns read out of the gradients, and out of the weights. -/
theorem left_at (q : Fin 4) (off : Fin 3 → ℕ) (h : ∀ a, off a + S1x256x1408.size a ≤ S2x256x2816.size a)
    (hq : off = ![q.val / 2, 0, 1408 * (q.val % 2)]) (r : Fin 256) (j : Fin 1408) :
    View.ld (Val := Elt Ideal) (e' := .bf16) u (Rect.unit (s := S2x256x2816) off S1x256x1408.size h) (ix3 0 r j) = u (ix3 (planeOf q) r (columnOf q j)) := by
  subst hq
  refine View.ld_unit_apply_of (Val := Elt Ideal) (S := S2x256x2816) (e := .bf16) u _ S1x256x1408.size h (ix3 0 r j) (ix3 (planeOf q) r (columnOf q j)) fun a => ?_
  match a with
  | ⟨0, _⟩ => rfl
  | ⟨1, _⟩ => show r.val = 0 + r.val; omega
  | ⟨2, _⟩ => rfl

theorem right_at (q : Fin 4) (off : Fin 3 → ℕ) (h : ∀ a, off a + S1x1024x1408.size a ≤ S4x1024x1408.size a)
    (hq : off = ![q.val, 0, 0]) (d : Fin 1024) (j : Fin 1408) :
    View.ld (Val := Elt Ideal) (e' := .bf16) w (Rect.unit (s := S4x1024x1408) off S1x1024x1408.size h) (ix3 0 d j) = w (ix3 q d j) := by
  subst hq
  refine View.ld_unit_apply_of (Val := Elt Ideal) (S := S4x1024x1408) (e := .bf16) w _ S1x1024x1408.size h (ix3 0 d j) (ix3 q d j) fun a => ?_
  match a with
  | ⟨0, _⟩ => rfl
  | ⟨1, _⟩ => show d.val = 0 + d.val; omega
  | ⟨2, _⟩ => show j.val = 0 + j.val; omega

theorem pay5_apply (r : Fin 256) (d : Fin 1024) :
    k0_pay5 (F := Ideal) (threeProducts u w) (fourthLeft u) (fourthRight w) (ix2 r d) = back u w r d := by
  unfold back
  rw [Fin.sum_univ_four]
  refine congrArg₂ (· + ·) (congrArg₂ (· + ·) (congrArg₂ (· + ·) ?_ ?_) ?_) ?_
  · exact (product_at _ _ r d).trans (Finset.sum_congr rfl fun j _ => congrArg₂ (· * ·) (left_at u 0 _ _ rfl r j) (right_at w 0 _ _ rfl d j))
  · exact (product_at _ _ r d).trans (Finset.sum_congr rfl fun j _ => congrArg₂ (· * ·) (left_at u 1 _ _ rfl r j) (right_at w 1 _ _ rfl d j))
  · exact (product_at _ _ r d).trans (Finset.sum_congr rfl fun j _ => congrArg₂ (· * ·) (left_at u 2 _ _ rfl r j) (right_at w 2 _ _ rfl d j))
  · exact (product_at _ _ r d).trans (Finset.sum_congr rfl fun j _ => congrArg₂ (· * ·) (left_at u 3 _ _ rfl r j) (right_at w 3 _ _ rfl d j))

theorem pay6_apply (i : S256x1024.Idx) : k0_pay6 (F := Ideal) x i = x i := by
  unfold k0_pay6
  rw [shapeCast_self]

theorem pay7_apply (r : Fin 256) (v : Fin 1) : k0_pay7 (F := Ideal) x (ix2 r v) = scale (row x r) := by
  have h := Cert.Loss.rowsum_apply (mulf (k0_pay6 (F := Ideal) x) (k0_pay6 (F := Ideal) x)) r v
  unfold k0_pay7 scale meanSq
  show Ideal.rsqrt (Ideal.div (shapeCast S256x1 _ _ (ix2 r v)) (Ideal.ofBits .f32 0x44800000#32) + eps) = _
  rw [div_1024]
  refine congrArg (fun y => Ideal.rsqrt (y * _ + eps)) (h.trans ?_)
  exact Finset.sum_congr rfl fun d _ => congrArg₂ (· * ·) (pay6_apply x _) (pay6_apply x _)

theorem pay8_apply (r : Fin 256) (d : Fin 1024) : k0_pay8 (F := Ideal) x (ix2 r d) = hat x r d :=
  congrArg₂ (· * ·) (pay6_apply x _) ((Cert.Loss.col_broadcast _ r d).trans (pay7_apply x r 0))

/-- The running sum with the block's share of the scales' gradient added. -/
theorem scales_apply (v : Fin 1) (d : Fin 1024) :
    scales (F := Ideal) u w x s (ix2 v d) = s (ix2 v d) + ∑ r : Fin 256, back u w r d * hat x r d := by
  unfold scales k0_pay9
  dsimp only
  rw [shapeCast_self]
  refine congrArg (s (ix2 v d) + ·) ((Cert.Loss.colsum_apply _ v d).trans ?_)
  exact Finset.sum_congr rfl fun r _ => congrArg₂ (· * ·) (pay5_apply u w r d) (pay8_apply x r d)

/-- The block's gradient. -/
theorem grad_apply (r : Fin 256) (d : Fin 1024) : grad (F := Ideal) u w x t g (ix2 r d) = dx u w x t g r d := by
  have hm : ∀ e : Fin 1024, k0_pay5 (F := Ideal) (threeProducts u w) (fourthLeft u) (fourthRight w) (ix2 r e)
      * broadcastTo S256x1024 g broadcasts_S1x1024_S256x1024 (ix2 r e) = back u w r e * g (ix2 0 e) := fun e =>
    congrArg₂ (· * ·) (pay5_apply u w r e) (Cert.Loss.row_broadcast g r e)
  unfold grad k0_pay10 dx
  dsimp only
  rw [shapeCast_self, shapeCast_self]
  refine congrArg (t (ix2 r d) + ·) (congrArg₂ (· * ·) ((Cert.Loss.col_broadcast _ r d).trans (pay7_apply x r 0)) (congrArg₂ (· - ·) (hm d) ?_))
  refine congrArg₂ (· * ·) (pay8_apply x r d) ((Cert.Loss.col_broadcast _ r d).trans ?_)
  show Ideal.div (shapeCast S256x1 _ _ (ix2 r 0)) (Ideal.ofBits .f32 0x44800000#32) = _
  rw [div_1024]
  refine congrArg (· * _) ((Cert.Loss.rowsum_apply _ r 0).trans ?_)
  exact Finset.sum_congr rfl fun e _ => congrArg₂ (· * ·) (hm e) (pay8_apply x r e)

/-- The rounded copy of a block's gradient holds the gradient. -/
theorem rounded_apply (v : FVec Ideal S256x1024 .f32) (r : Fin 256) (d : Fin 1024) : k0_pay1 (F := Ideal) v (ix3 0 r d) = v (ix2 r d) := by
  unfold k0_pay1
  rw [shapeCast_apply _ shapeCasts_S256x1024_S1x256x1024 (ix3 0 r d) (ix2 r d) (by
    rw [Shape.rowMajor_val_two, Shape.rowMajor_val_three]; show r.val * 1024 + d.val = (0 * 256 + r.val) * 1024 + d.val; omega), truncf_apply]

theorem zero_apply (i : S1x1024.Idx) : k0_pay2 (F := Ideal) i = 0 := Ideal.ofBits_zero_f32

end Payloads

end Cert.Dx

end
-- ==== Proof.DxArrays.lean ====
/- What the kernel leaves on each device: the stream's gradient and its rounded copy, the gradient of the normalisation's scales after the
   sixteen blocks of tokens, and the rows of the tables that the other device sent. -/
module

public import proofs.«01_k».proof.Proof.DxKernel
public import proofs.«01_k».proof.Proof.DxRegion
public import proofs.«01_k».proof.Proof.LossArrays

@[expose] public section

noncomputable section

namespace Cert.Dx

open Idealize.ShloMosaic hiding ix0 ix1 ix2 ix3 ix4 ix5
open Idealize.ShloMosaic.ValueIdx Idealize.ShloMosaic.TcCoe Cert.Kernel5Ideal Cert.Kernel5Ideal.Gen
open Cert.Loss (tokenAt upTo sum_tokens)

variable (m : (ℓ : Loc nD τ sig) → Buf (Elt Ideal) ℓ) (c : Dev nD)

/-- The arguments' contents on a device: the gradients behind the projection, its weights, the stream, the residual's gradient, the
    normalisation's scales, and the tables of another gradient. -/
abbrev A0 : (⟨3, ![2, 4096, 2816]⟩ : Shape).Idx → EReal := m ((c.tc : Thread nD τ).loc main_arg0)
abbrev A1 : (⟨3, ![4, 1024, 1408]⟩ : Shape).Idx → EReal := m ((c.tc : Thread nD τ).loc main_arg1)
abbrev A2 : (⟨2, ![4096, 1024]⟩ : Shape).Idx → EReal := m ((c.tc : Thread nD τ).loc main_arg2)
abbrev A3 : (⟨2, ![4096, 1024]⟩ : Shape).Idx → EReal := m ((c.tc : Thread nD τ).loc main_arg3)
abbrev A4 : (⟨2, ![1, 1024]⟩ : Shape).Idx → EReal := m ((c.tc : Thread nD τ).loc main_arg4)
abbrev A5 : (⟨3, ![4, 1024, 1408]⟩ : Shape).Idx → EReal := m ((c.tc : Thread nD τ).loc main_arg5)

/-- Grid point `t`. -/
def pt (t : Fin 16) : Fin cfg0.N := ⟨t.val, by show t.val < 16; omega⟩

theorem index_facts : ∀ t : Fin 16,
    (win0_0.index (pt t) 0 = 0 ∧ win0_0.index (pt t) 1 = t.val ∧ win0_0.index (pt t) 2 = 0)
    ∧ (win0_1.index (pt t) 0 = 0 ∧ win0_1.index (pt t) 1 = 0 ∧ win0_1.index (pt t) 2 = 0)
    ∧ (win0_2.index (pt t) 0 = t.val ∧ win0_2.index (pt t) 1 = 0) ∧ (win0_3.index (pt t) 0 = t.val ∧ win0_3.index (pt t) 1 = 0)
    ∧ (win0_4.index (pt t) 0 = 0 ∧ win0_4.index (pt t) 1 = 0) ∧ (win0_5.index (pt t) 0 = t.val ∧ win0_5.index (pt t) 1 = 0)
    ∧ (win0_6.index (pt t) 0 = 2 ∧ win0_6.index (pt t) 1 = t.val ∧ win0_6.index (pt t) 2 = 0)
    ∧ (win0_7.index (pt t) 0 = 0 ∧ win0_7.index (pt t) 1 = 0) := by decide +kernel

theorem read0 (t : Fin 16) (p : Fin 2) (r : Fin 256) (f : Fin 2816) :
    (iblk m c 0 (pt t) : Vec Ideal S2x256x2816 .bf16) (ix3 p r f) = A0 m c (ix3 p (tokenAt t r) f) := by
  obtain ⟨⟨i0, i1, i2⟩, -⟩ := index_facts t
  unfold iblk
  rw [View.read_apply]
  refine congrArg (m _) (funext fun a => Fin.ext ?_)
  match a with
  | ⟨0, _⟩ => show win0_0.index (pt t) 0 * 2 + 1 * p.val = p.val; rw [i0]; omega
  | ⟨1, _⟩ => show win0_0.index (pt t) 1 * 256 + 1 * r.val = 256 * t.val + r.val; rw [i1]; omega
  | ⟨2, _⟩ => show win0_0.index (pt t) 2 * 2816 + 1 * f.val = f.val; rw [i2]; omega

theorem read1 (t : Fin 16) (q : Fin 4) (d : Fin 1024) (j : Fin 1408) :
    (iblk m c 1 (pt t) : Vec Ideal S4x1024x1408 .bf16) (ix3 q d j) = A1 m c (ix3 q d j) := by
  obtain ⟨-, ⟨i0, i1, i2⟩, -⟩ := index_facts t
  unfold iblk
  rw [View.read_apply]
  refine congrArg (m _) (funext fun a => Fin.ext ?_)
  match a with
  | ⟨0, _⟩ => show win0_1.index (pt t) 0 * 4 + 1 * q.val = q.val; rw [i0]; omega
  | ⟨1, _⟩ => show win0_1.index (pt t) 1 * 1024 + 1 * d.val = d.val; rw [i1]; omega
  | ⟨2, _⟩ => show win0_1.index (pt t) 2 * 1408 + 1 * j.val = j.val; rw [i2]; omega

theorem read2 (t : Fin 16) (r : Fin 256) (d : Fin 1024) :
    (iblk m c 2 (pt t) : Vec Ideal S256x1024 .f32) (ix2 r d) = A2 m c (ix2 (tokenAt t r) d) := by
  obtain ⟨-, -, ⟨i0, i1⟩, -⟩ := index_facts t
  unfold iblk
  rw [View.read_apply]
  refine congrArg (m _) (funext fun a => Fin.ext ?_)
  match a with
  | ⟨0, _⟩ => show win0_2.index (pt t) 0 * 256 + 1 * r.val = 256 * t.val + r.val; rw [i0]; omega
  | ⟨1, _⟩ => show win0_2.index (pt t) 1 * 1024 + 1 * d.val = d.val; rw [i1]; omega

theorem read3 (t : Fin 16) (r : Fin 256) (d : Fin 1024) :
    (iblk m c 3 (pt t) : Vec Ideal S256x1024 .f32) (ix2 r d) = A3 m c (ix2 (tokenAt t r) d) := by
  obtain ⟨-, -, -, ⟨i0, i1⟩, -⟩ := index_facts t
  unfold iblk
  rw [View.read_apply]
  refine congrArg (m _) (funext fun a => Fin.ext ?_)
  match a with
  | ⟨0, _⟩ => show win0_3.index (pt t) 0 * 256 + 1 * r.val = 256 * t.val + r.val; rw [i0]; omega
  | ⟨1, _⟩ => show win0_3.index (pt t) 1 * 1024 + 1 * d.val = d.val; rw [i1]; omega

theorem read4 (t : Fin 16) (u : Fin 1) (d : Fin 1024) :
    (iblk m c 4 (pt t) : Vec Ideal S1x1024 .f32) (ix2 u d) = A4 m c (ix2 u d) := by
  obtain ⟨-, -, -, -, ⟨i0, i1⟩, -⟩ := index_facts t
  unfold iblk
  rw [View.read_apply]
  refine congrArg (m _) (funext fun a => Fin.ext ?_)
  match a with
  | ⟨0, _⟩ => show win0_4.index (pt t) 0 * 1 + 1 * u.val = u.val; rw [i0]; omega
  | ⟨1, _⟩ => show win0_4.index (pt t) 1 * 1024 + 1 * d.val = d.val; rw [i1]; omega

section Blocks

variable (t : Fin 16) (r : Fin 256)

/-- A block's rows are the whole array's. -/
theorem row_block : row (iblk m c 2 (pt t)) r = row (A2 m c) (tokenAt t r) := funext fun d => read2 m c t r d

theorem hat_block : hat (iblk m c 2 (pt t)) r = hat (A2 m c) (tokenAt t r) := by
  funext d
  unfold hat
  rw [row_block]
  exact congrArg (· * _) (read2 m c t r d)

theorem back_block : back (iblk m c 0 (pt t)) (iblk m c 1 (pt t)) r = back (A0 m c) (A1 m c) (tokenAt t r) := by
  funext d
  unfold back
  exact Finset.sum_congr rfl fun q _ => Finset.sum_congr rfl fun j _ => congrArg₂ (· * ·) (read0 m c t _ r _) (read1 m c t q d j)

theorem dx_block : dx (iblk m c 0 (pt t)) (iblk m c 1 (pt t)) (iblk m c 2 (pt t)) (iblk m c 3 (pt t)) (iblk m c 4 (pt t)) r
    = dx (A0 m c) (A1 m c) (A2 m c) (A3 m c) (A4 m c) (tokenAt t r) := by
  funext d
  unfold dx
  rw [row_block, hat_block, back_block]
  refine congrArg₂ (· + ·) (read3 m c t r d) ?_
  simp only [read4 m c t 0]

end Blocks

/-- What a point leaves in the block of the stream's gradient. -/
theorem grad_at (t : Fin 16) (r : Fin 256) (d : Fin 1024) :
    gradAt m c (pt t) (ix2 r d) = dx (A0 m c) (A1 m c) (A2 m c) (A3 m c) (A4 m c) (tokenAt t r) d := by
  rw [← dx_block]
  unfold gradAt
  exact grad_apply _ _ _ _ _ r d

/-- One block's share of the gradient of a column's scale. -/
def share (d : Fin 1024) (t : Fin 16) : EReal := ∑ r : Fin 256, back (A0 m c) (A1 m c) (tokenAt t r) d * hat (A2 m c) (tokenAt t r) d

theorem scales_block (t : Fin 16) (s : FVec Ideal S1x1024 .f32) (u : Fin 1) (d : Fin 1024) :
    scales (F := Ideal) (iblk m c 0 (pt t)) (iblk m c 1 (pt t)) (iblk m c 2 (pt t)) s (ix2 u d) = s (ix2 u d) + share m c d t := by
  refine (scales_apply _ _ _ _ u d).trans ?_
  refine congrArg (_ + ·) (Finset.sum_congr rfl fun r _ => ?_)
  rw [back_block, hat_block]

/-- The running sum after block `n`: the shares of the blocks so far. -/
theorem sums_at : ∀ (n : ℕ) (hn : n < cfg0.N) (u : Fin 1) (d : Fin 1024),
    sums m c n hn (ix2 u d) = ∑ k ∈ Finset.range (n + 1), upTo (share m c d) k := by
  intro n
  induction n with
  | zero =>
    intro hn u d
    rw [Finset.sum_range_one]
    exact (scales_block m c 0 _ u d).trans ((congrArg (· + _) (zero_apply _)).trans (zero_add _))
  | succ n ih =>
    intro hn u d
    have hN : n + 1 < 16 := hn
    rw [Finset.sum_range_succ, ← ih (Nat.lt_of_succ_lt hn) u d, show upTo (share m c d) (n + 1) = share m c d ⟨n + 1, hN⟩ from dif_pos hN]
    exact scales_block m c ⟨n + 1, hN⟩ _ u d

/-- The gradient of a column's scale over all of the device's tokens. -/
def scaleGrad (d : Fin 1024) : EReal := ∑ n, back (A0 m c) (A1 m c) n d * hat (A2 m c) n d

theorem sums_last (u : Fin 1) (d : Fin 1024) : sums m c (pt 15).val (pt 15).isLt (ix2 u d) = scaleGrad m c d :=
  (sums_at m c 15 (pt 15).isLt u d).trans (sum_tokens fun n => back (A0 m c) (A1 m c) n d * hat (A2 m c) n d)

theorem flush5 : ∀ t : Fin cfg0.N, (cfg0.win 5).flush t = true := (by decide +kernel : ∀ t : Fin grid0.N, win0_5.flush t = true)
theorem flush6 : ∀ t : Fin cfg0.N, (cfg0.win 6).flush t = true := (by decide +kernel : ∀ t : Fin grid0.N, win0_6.flush t = true)
theorem flush7 : ∀ t : Fin cfg0.N, (cfg0.win 7).flush t = true ↔ t.val = 15 :=
  (by decide +kernel : ∀ t : Fin grid0.N, win0_7.flush t = true ↔ t.val = 15)
theorem index5 : ∀ t : Fin cfg0.N, win0_5.index t 0 = t.val := (by decide +kernel : ∀ t : Fin grid0.N, win0_5.index t 0 = t.val)
theorem index6 : ∀ t : Fin cfg0.N, win0_6.index t 1 = t.val := (by decide +kernel : ∀ t : Fin grid0.N, win0_6.index t 1 = t.val)

/-- Two points write different blocks. -/
theorem disjoint5 : ∀ t t' : Fin cfg0.N, (cfg0.win 5).flush t = true → (cfg0.win 5).flush t' = true → t ≠ t' →
    Disjoint ((cfg0.win 5).blk t).view.set ((cfg0.win 5).blk t').view.set := fun t t' _ _ hne =>
  (cfg0.win 5).disjoint_blk fun e => hne (Fin.ext (by
    have e' : win0_5.index t 0 = win0_5.index t' 0 := congrFun e 0
    rwa [index5, index5] at e'))
theorem disjoint6 : ∀ t t' : Fin cfg0.N, (cfg0.win 6).flush t = true → (cfg0.win 6).flush t' = true → t ≠ t' →
    Disjoint ((cfg0.win 6).blk t).view.set ((cfg0.win 6).blk t').view.set := fun t t' _ _ hne =>
  (cfg0.win 6).disjoint_blk fun e => hne (Fin.ext (by
    have e' : win0_6.index t 1 = win0_6.index t' 1 := congrFun e 1
    rwa [index6, index6] at e'))

theorem token_split (n : Fin 4096) : ∃ (t : Fin 16) (r : Fin 256), n = tokenAt t r :=
  ⟨⟨n.val / 256, by omega⟩, ⟨n.val % 256, Nat.mod_lt _ (by decide)⟩, Fin.ext (by show n.val = 256 * (n.val / 256) + n.val % 256; omega)⟩

/-- The stream's gradient. -/
theorem array5 (n : Fin 4096) (d : Fin 1024) :
    ((dat m c).arrAt 5 cfg0.N : (⟨2, ![4096, 1024]⟩ : Shape).Idx → EReal) (ix2 n d) = dx (A0 m c) (A1 m c) (A2 m c) (A3 m c) (A4 m c) n d := by
  obtain ⟨t, r, rfl⟩ := token_split n
  have h := (dat m c).arrAt_emb_eq_flushed 5 disjoint5 (pt t) (flush5 _) (ix2 r d)
  obtain ⟨i0, i1⟩ := (index_facts t).2.2.2.2.2.1
  have hi : (((cfg0.win 5).blk (pt t)).view.emb (ix2 r d) : S4096x1024.Idx) = ix2 (tokenAt t r) d := funext fun a => Fin.ext (by
    match a with
    | ⟨0, _⟩ => show win0_5.index (pt t) 0 * 256 + 1 * r.val = 256 * t.val + r.val; rw [i0]; omega
    | ⟨1, _⟩ => show win0_5.index (pt t) 1 * 1024 + 1 * d.val = d.val; rw [i1]; omega)
  rw [← hi]
  refine h.trans ?_
  rw [cast_eq]
  exact (congrFun (after_5 m c (pt t)) (ix2 r d)).trans (grad_at m c t r d)

/-- The plane of the rounded copies that the call writes. -/
theorem array6 (n : Fin 4096) (d : Fin 1024) :
    ((dat m c).arrAt 6 cfg0.N : (⟨3, ![3, 4096, 1024]⟩ : Shape).Idx → EReal) (ix3 2 n d) = dx (A0 m c) (A1 m c) (A2 m c) (A3 m c) (A4 m c) n d := by
  obtain ⟨t, r, rfl⟩ := token_split n
  have h := (dat m c).arrAt_emb_eq_flushed 6 disjoint6 (pt t) (flush6 _) (ix3 0 r d)
  obtain ⟨i0, i1, i2⟩ := (index_facts t).2.2.2.2.2.2.1
  have hi : (((cfg0.win 6).blk (pt t)).view.emb (ix3 0 r d) : S3x4096x1024.Idx) = ix3 2 (tokenAt t r) d := funext fun a => Fin.ext (by
    match a with
    | ⟨0, _⟩ => show win0_6.index (pt t) 0 * 1 + 1 * 0 = 2; rw [i0]
    | ⟨1, _⟩ => show win0_6.index (pt t) 1 * 256 + 1 * r.val = 256 * t.val + r.val; rw [i1]; omega
    | ⟨2, _⟩ => show win0_6.index (pt t) 2 * 1024 + 1 * d.val = d.val; rw [i2]; omega)
  rw [← hi]
  refine h.trans ?_
  rw [cast_eq]
  exact (congrFun (after_6 m c (pt t)) (ix3 0 r d)).trans ((rounded_apply _ r d).trans (grad_at m c t r d))

/-- The rounded copy the host returns. -/
theorem rounded_at (n : Fin 4096) (d : Fin 1024) :
    (V₃ m c main_v3 : (⟨2, ![4096, 1024]⟩ : Shape).Idx → EReal) (ix2 n d) = dx (A0 m c) (A1 m c) (A2 m c) (A3 m c) (A4 m c) n d := by
  rw [V₃_plane]
  refine (shapeCast_apply _ shapeCasts_S1x4096x1024_S4096x1024 (ix2 n d) (ix3 0 n d) (by
    rw [Shape.rowMajor_val_two, Shape.rowMajor_val_three]; show (0 * 4096 + n.val) * 1024 + d.val = n.val * 1024 + d.val; omega)).trans ?_
  refine (extractStridedSlice_apply ![2, 0, 0] _ slices_S3x4096x1024_S1x4096x1024_2_0_0 (ix3 0 n d) (ix3 2 n d) fun a => ?_).trans (array6 m c n d)
  match a with
  | ⟨0, _⟩ => rfl
  | ⟨1, _⟩ => show n.val = 0 + n.val; omega
  | ⟨2, _⟩ => show d.val = 0 + d.val; omega

/-- The gradient of the scales. -/
theorem array7 (u : Fin 1) (d : Fin 1024) :
    ((dat m c).arrAt 7 cfg0.N : (⟨2, ![1, 1024]⟩ : Shape).Idx → EReal) (ix2 u d) = scaleGrad m c d := by
  have h := (dat m c).arrAt_emb_eq_flushed 7 (fun t t' ht ht' hne => absurd (Fin.ext (((flush7 t).mp ht).trans ((flush7 t').mp ht').symm)) hne)
    (pt 15) ((flush7 _).mpr rfl) (ix2 u d)
  obtain ⟨i0, i1⟩ := (index_facts 15).2.2.2.2.2.2.2
  have hi : (((cfg0.win 7).blk (pt 15)).view.emb (ix2 u d) : S1x1024.Idx) = ix2 u d := funext fun a => Fin.ext (by
    match a with
    | ⟨0, _⟩ => show win0_7.index (pt 15) 0 * 1 + 1 * u.val = u.val; rw [i0]; omega
    | ⟨1, _⟩ => show win0_7.index (pt 15) 1 * 1024 + 1 * d.val = d.val; rw [i1]; omega)
  rw [← hi]
  refine h.trans ?_
  rw [cast_eq]
  exact (congrFun (after_7 m c (pt 15)) (ix2 u d)).trans (sums_last m c u d)

/-! ## The tables -/

/-- A piece and a slot lie alike in their buffers, each at its own offset. -/
theorem piece_slot (e : Dev nD) (k : Fin 4) (x : S512x1408.Idx) (a : Fin 3) :
    ((piece e k).view.emb x a).val + slotOff k a = ((slot k).view.emb x a).val + pieceOff e k a := by
  show (pieceOff e k a + 1 * _) + slotOff k a = (slotOff k a + 1 * _) + pieceOff e k a
  exact (Nat.add_right_comm _ _ _).trans ((congrArg (· + _) (Nat.add_comm _ _)).trans (Nat.add_right_comm _ _ _))

/-- Row `i` of the rows of table `k` that device `d` finishes. -/
def rowFor (d : Fin 2) (i : Fin 512) : Fin 1024 := ⟨512 * d.val + i.val, by omega⟩

/-- A device's landing buffer: its rows of the other device's tables. -/
theorem arrived_at (k : Fin 4) (i : Fin 512) (j : Fin 1408) :
    (arrived m c : (⟨3, ![4, 512, 1408]⟩ : Shape).Idx → EReal) (ix3 k i j) = A5 m (mate c) (ix3 k (rowFor c i) j) := by
  have hm : (ix3 k i j : S4x512x1408.Idx) ∈ (slot k).view.set := (mem_slot k _).mpr rfl
  obtain ⟨x, -, hx⟩ := Finset.mem_map.mp hm
  show landed m c k (ix3 k i j) = _
  unfold landed
  rw [← hx, View.write_emb_of_mem _ _ (Finset.mem_univ _), View.read_apply]
  have hc : 512 - 512 * (mate c).val = 512 * c.val := by
    show 512 - 512 * (1 - c.val) = 512 * c.val
    have : c.val < 2 := c.isLt
    omega
  refine congrArg (A5 m (mate c)) (funext fun a => Fin.ext ?_)
  have h := piece_slot (mate c) k x a
  rw [hx] at h
  match a with
  | ⟨0, _⟩ => exact Nat.add_right_cancel h
  | ⟨1, _⟩ => exact h.trans ((congrArg (i.val + ·) hc).trans (Nat.add_comm _ _))
  | ⟨2, _⟩ => exact h

end Cert.Dx

end
-- ==== Proof.DxReference.lean ====
/- The gradient of the step's stream, as the reference computes it: for each device of a pair the derivative of the normalisation and the
   projection over that device's tokens, in the order the derivative is taken; and the rows of the tables, put together by slices. -/
module

public import proofs.«01_k».proof.Proof.DxArrays
public import proofs.«01_k».proof.Proof.UpReference
public import proofs.«01_k».proof.Proof.Gen.Reference5Ideal.Read

@[expose] public section

noncomputable section

namespace Cert.Dx

open Idealize.ShloMosaic hiding ix0 ix1 ix2 ix3 ix4 ix5
open Idealize.ShloMosaic.ValueIdx Cert.Reference5Ideal Cert.Reference5Ideal.Gen Cert.Reference5Ideal.Read
open Cert.Pool (ext1 ext2 ext3 ext4)
open Cert.Up (planeOf columnOf tokenOf blockOf hiddenOf)
open Cert.Loss (scale eps meanSq div_1024 ofBits_neg_half norm_grad)

variable (x0 : (⟨3, ![2, 8192, 2816]⟩ : Shape).Idx → EReal) (x1 : (⟨3, ![4, 1024, 1408]⟩ : Shape).Idx → EReal)
  (x2 x3 : (⟨2, ![8192, 1024]⟩ : Shape).Idx → EReal) (x4 : (⟨2, ![1, 1024]⟩ : Shape).Idx → EReal)
  (x5 : (⟨3, ![8, 1024, 1408]⟩ : Shape).Idx → EReal)

/-- Device `d`'s tokens of a gradient in two planes, and of a stream. -/
def planesOf (d : Fin 2) : (⟨3, ![2, 4096, 2816]⟩ : Shape).Idx → EReal := fun i => x0 (ix3 (i 0) (tokenOf d (i 1)) (i 2))
def streamOf (d : Fin 2) : (⟨2, ![4096, 1024]⟩ : Shape).Idx → EReal := fun i => x2 (ix2 (tokenOf d (i 0)) (i 1))

theorem v2_at (e : Fin 1024) (q : Fin 4) (j : Fin 1408) : val_main_v2 (F := Ideal) x1 (ix2 e (hiddenOf q j)) = x1 (ix3 q e j) := by
  rw [val_main_v2_apply, val_main_v1_apply, val_main_v0_apply]
  refine congrArg x1 (ext3 _ _ _ _ ?_ ?_ ?_)
  · show (e.val * 5632 + (1408 * q.val + j.val)) / 1408 % 4 = q.val
    omega
  · show (e.val * 5632 + (1408 * q.val + j.val)) / 5632 = e.val
    omega
  · show (e.val * 5632 + (1408 * q.val + j.val)) % 1408 = j.val
    omega

theorem v4_at (p d : Fin 2) (n : Fin 4096) (f : Fin 2816) :
    val_main_v4 (F := Ideal) x0 (ix4 p d n f) = x0 (ix3 p (tokenOf d n) f) := by
  rw [val_main_v4_apply, val_main_v3_apply]
  refine congrArg x0 (ext3 _ _ _ _ ?_ ?_ ?_)
  · show (((p.val * 2 + d.val) * 4096 + n.val) * 2816 + f.val) / 23068672 = p.val
    omega
  · show (((p.val * 2 + d.val) * 4096 + n.val) * 2816 + f.val) / 2816 % 8192 = 4096 * d.val + n.val
    omega
  · show (((p.val * 2 + d.val) * 4096 + n.val) * 2816 + f.val) % 2816 = f.val
    omega

/-- The first plane of the gradients, and the second. -/
theorem v24_at (d : Fin 2) (n : Fin 4096) (f : Fin 2816) : val_main_v24 (F := Ideal) x0 (ix3 d n f) = x0 (ix3 0 (tokenOf d n) f) := by
  rw [val_main_v24_apply, val_main_v23_apply, ← v4_at x0]
  refine congrArg (val_main_v4 (F := Ideal) x0) (ext4 _ _ _ _ _ rfl ?_ ?_ ?_)
  · show ((d.val * 4096 + n.val) * 2816 + f.val) / 11534336 % 2 = d.val
    omega
  · show ((d.val * 4096 + n.val) * 2816 + f.val) / 2816 % 4096 = n.val
    omega
  · show ((d.val * 4096 + n.val) * 2816 + f.val) % 2816 = f.val
    omega

theorem v26_at (d : Fin 2) (n : Fin 4096) (f : Fin 2816) : val_main_v26 (F := Ideal) x0 (ix3 d n f) = x0 (ix3 1 (tokenOf d n) f) := by
  rw [val_main_v26_apply, val_main_v25_apply, ← v4_at x0]
  refine congrArg (val_main_v4 (F := Ideal) x0) (ext4 _ _ _ _ _ rfl ?_ ?_ ?_)
  · show ((d.val * 4096 + n.val) * 2816 + f.val) / 11534336 % 2 = d.val
    omega
  · show ((d.val * 4096 + n.val) * 2816 + f.val) / 2816 % 4096 = n.val
    omega
  · show ((d.val * 4096 + n.val) * 2816 + f.val) % 2816 = f.val
    omega

/-- The two planes side by side, read in blocks of hidden columns. -/
theorem v27_at (d : Fin 2) (n : Fin 4096) (q : Fin 4) (j : Fin 1408) :
    val_main_v27 (F := Ideal) x0 (ix3 d n (hiddenOf q j)) = x0 (ix3 (planeOf q) (tokenOf d n) (columnOf q j)) := by
  unfold val_main_v27
  rcases Nat.lt_or_ge q.val 2 with hq | hq
  · rw [show planeOf q = 0 from Fin.ext (by show q.val / 2 = 0; omega), ← v24_at x0]
    refine concatenate_pair_apply_left (t := S2x4096x5632) (s₁ := S2x4096x2816) (s₂ := S2x4096x2816) 2 (val_main_v24 (F := Ideal) x0)
      (val_main_v26 (F := Ideal) x0) _ _ rfl _ fun a => ?_
    match a with
    | ⟨0, _⟩ => rfl
    | ⟨1, _⟩ => rfl
    | ⟨2, _⟩ => show 1408 * (q.val % 2) + j.val = 1408 * q.val + j.val; omega
  · rw [show planeOf q = 1 from Fin.ext (by show q.val / 2 = 1; omega), ← v26_at x0]
    refine concatenate_pair_apply_right (t := S2x4096x5632) (s₁ := S2x4096x2816) (s₂ := S2x4096x2816) 2 (val_main_v24 (F := Ideal) x0)
      (val_main_v26 (F := Ideal) x0) _ _ rfl rfl _ (fun a ha => ?_)
      (by show 1408 * (q.val % 2) + j.val + 2816 = 1408 * q.val + j.val; omega)
    match a, ha with
    | ⟨0, _⟩, _ => rfl
    | ⟨1, _⟩, _ => rfl
    | ⟨2, _⟩, ha => exact absurd rfl ha

/-- A hidden column as its block and its place in the block. -/
def hiddenSplit : Fin 4 × Fin 1408 ≃ Fin 5632 := finProdFinEquiv (m := 4) (n := 1408)

/-- The gradient behind the normalisation: all hidden columns at once. -/
theorem v28_at (d : Fin 2) (n : Fin 4096) (e : Fin 1024) :
    val_main_v28 (F := Ideal) x0 x1 (ix3 d n e) = back (planesOf x0 d) x1 n e := by
  rw [val_main_v28_apply]
  unfold back
  rw [← Fintype.sum_prod_type' (f := fun (q : Fin 4) (j : Fin 1408) => planesOf x0 d (ix3 (planeOf q) n (columnOf q j)) * x1 (ix3 q e j))]
  refine (Fintype.sum_equiv hiddenSplit _ _ fun y => ?_).symm
  have hy : hiddenSplit y = hiddenOf y.1 y.2 := Fin.ext (by
    show y.2.val + 1408 * y.1.val = 1408 * y.1.val + y.2.val
    omega)
  rw [hy]
  refine (congrArg₂ (· * ·) ?_ ?_).symm
  · exact (congrArg (val_main_v27 (F := Ideal) x0) (ext3 _ d n (hiddenOf y.1 y.2) rfl rfl rfl)).trans (v27_at x0 d n y.1 y.2)
  · exact (congrArg (val_main_v2 (F := Ideal) x1) (ext2 _ e (hiddenOf y.1 y.2) rfl rfl)).trans (v2_at x1 e y.1 y.2)

theorem v6_at (d : Fin 2) (n : Fin 4096) (e : Fin 1024) : val_main_v6 (F := Ideal) x2 (ix3 d n e) = row (streamOf x2 d) n e := by
  rw [val_main_v6_apply]
  refine congrArg x2 (ext2 _ _ _ ?_ ?_)
  · show ((d.val * 4096 + n.val) * 1024 + e.val) / 1024 = 4096 * d.val + n.val
    omega
  · show ((d.val * 4096 + n.val) * 1024 + e.val) % 1024 = e.val
    omega

theorem v13_at (d : Fin 2) (n : Fin 4096) (u : Fin 1) : val_main_v13 (F := Ideal) x2 (ix3 d n u) = meanSq (row (streamOf x2 d) n) := by
  rw [val_main_v13_apply, val_main_v11_apply, val_main_v12_apply, val_main_v10_apply, val_main_v9_apply, val_main_v8_apply]
  show Ideal.div (Ideal.ofBits .f32 0x00000000#32 + ∑ k : Fin 1024, _) (Ideal.ofBits .f32 0x44800000#32) + eps = _
  rw [div_1024, Ideal.ofBits_zero_f32, zero_add]
  unfold meanSq
  refine congrArg (fun y => y * _ + eps) (Finset.sum_congr rfl fun k _ => ?_)
  rw [show idx_main_v8 (idx_main_v9 (ix3 d n u)) k = ix3 d n k from ext3 _ _ _ _ rfl rfl rfl]
  exact congrArg₂ (· * ·) (v6_at x2 d n k) (v6_at x2 d n k)

theorem v14_at (d : Fin 2) (n : Fin 4096) (u : Fin 1) : val_main_v14 (F := Ideal) x2 (ix3 d n u) = scale (row (streamOf x2 d) n) :=
  congrArg Ideal.rsqrt (v13_at x2 d n u)

theorem v17_at (d : Fin 2) (n : Fin 4096) (u : Fin 1) : val_main_v17 (F := Ideal) x2 (ix3 d n u)
    = ((-1 / 2 : ℝ) : EReal) * Ideal.div (scale (row (streamOf x2 d) n)) (meanSq (row (streamOf x2 d) n)) :=
  congrArg₂ (· * ·) ((val_main_v16_apply _).trans ofBits_neg_half) (congrArg₂ Ideal.div (v14_at x2 d n u) (v13_at x2 d n u))

theorem v19_at (d : Fin 2) (n : Fin 4096) (e : Fin 1024) : val_main_v19 (F := Ideal) x2 (ix3 d n e) = hat (streamOf x2 d) n e := by
  rw [val_main_v19_apply, val_main_v18_apply, show idx_main_v18 (ix3 d n e) = ix3 d n 0 from ext3 _ _ _ _ rfl rfl rfl, v14_at, v6_at]
  rfl

theorem v32_at (d : Fin 2) (n : Fin 4096) (e : Fin 1024) : val_main_v32 (F := Ideal) x4 (ix3 d n e) = x4 (ix2 0 e) := by
  rw [val_main_v32_apply, val_main_v5_apply]
  exact congrArg x4 (ext2 _ _ _ rfl rfl)

theorem v33_at (d : Fin 2) (n : Fin 4096) (e : Fin 1024) :
    val_main_v33 (F := Ideal) x0 x1 x4 (ix3 d n e) = back (planesOf x0 d) x1 n e * x4 (ix2 0 e) :=
  congrArg₂ (· * ·) (v28_at x0 x1 d n e) (v32_at x4 d n e)

/-- The part of the gradient that goes through the scale. -/
theorem v43_at (d : Fin 2) (n : Fin 4096) (e : Fin 1024) : val_main_v43 (F := Ideal) x0 x1 x2 x4 (ix3 d n e)
    = (∑ k, row (streamOf x2 d) n k * (back (planesOf x0 d) x1 n k * x4 (ix2 0 k)))
        * (((-1 / 2 : ℝ) : EReal) * Ideal.div (scale (row (streamOf x2 d) n)) (meanSq (row (streamOf x2 d) n))) * ((1 / 1024 : ℝ) : EReal) := by
  rw [val_main_v43_apply, val_main_v42_apply, Fin.sum_univ_one]
  rw [show idx_main_v42 (idx_main_v43 (ix3 d n e)) 0 = ix3 d n 0 from ext3 _ _ _ _ rfl rfl rfl]
  rw [val_main_v41_apply, val_main_v40_apply, val_main_v39_apply, v17_at, val_main_v36_apply, val_main_v35_apply]
  show Ideal.ofBits .f32 0x00000000#32 + Ideal.div ((Ideal.ofBits .f32 0x00000000#32 + ∑ k : Fin 1024, _) * _) (Ideal.ofBits .f32 0x44800000#32) = _
  rw [div_1024, Ideal.ofBits_zero_f32, zero_add, zero_add]
  refine congrArg (fun y => y * _ * _) (Finset.sum_congr rfl fun k _ => ?_)
  rw [show idx_main_v35 (idx_main_v36 (ix3 d n 0)) k = ix3 d n k from ext3 _ _ _ _
    (by show ((d.val * 4096 + n.val) * 1 + 0) / 4096 = d.val; omega) (by show ((d.val * 4096 + n.val) * 1 + 0) % 4096 = n.val; omega) rfl]
  exact congrArg₂ (· * ·) (v6_at x2 d n k) (v33_at x0 x1 x4 d n k)

/-- The gradient through the normalisation. -/
theorem v47_at (d : Fin 2) (n : Fin 4096) (e : Fin 1024) : val_main_v47 (F := Ideal) x0 x1 x2 x4 (ix3 d n e)
    = scale (row (streamOf x2 d) n) * (back (planesOf x0 d) x1 n e * x4 (ix2 0 e)
        - hat (streamOf x2 d) n e * ((∑ k, back (planesOf x0 d) x1 n k * x4 (ix2 0 k) * hat (streamOf x2 d) n k) * ((1 / 1024 : ℝ) : EReal))) := by
  rw [val_main_v47_apply, val_main_v46_apply, val_main_v45_apply, val_main_v44_apply, val_main_v38_apply, v43_at, v6_at, v33_at, val_main_v37_apply,
    show idx_main_v37 (ix3 d n e) = ix3 d n 0 from ext3 _ _ _ _ rfl rfl rfl, v14_at]
  exact (norm_grad (row (streamOf x2 d) n) (fun k => back (planesOf x0 d) x1 n k * x4 (ix2 0 k)) e).symm

/-- The stream's gradient, with the residual's. -/
theorem v49_at (d : Fin 2) (n : Fin 4096) (e : Fin 1024) : val_main_v49 (F := Ideal) x0 x1 x2 x3 x4 (ix2 (tokenOf d n) e)
    = dx (planesOf x0 d) x1 (streamOf x2 d) (streamOf x3 d) x4 n e := by
  rw [val_main_v49_apply, val_main_v48_apply, show idx_main_v48 (ix2 (tokenOf d n) e) = ix3 d n e from ext3 _ _ _ _
    (by show ((4096 * d.val + n.val) * 1024 + e.val) / 4194304 = d.val; omega)
    (by show ((4096 * d.val + n.val) * 1024 + e.val) / 1024 % 4096 = n.val; omega)
    (by show ((4096 * d.val + n.val) * 1024 + e.val) % 1024 = e.val; omega), v47_at]
  rfl

/-- The gradient of the scales, device by device. -/
theorem v54_at (d : Fin 2) (e : Fin 1024) : val_main_v54 (F := Ideal) x0 x1 x2 (ix2 d e)
    = ∑ n, back (planesOf x0 d) x1 n e * hat (streamOf x2 d) n e := by
  rw [val_main_v54_apply, val_main_v31_apply, val_main_v30_apply]
  show Ideal.ofBits .f32 0x00000000#32 + ∑ k : Fin 4096, _ = _
  rw [Ideal.ofBits_zero_f32, zero_add]
  refine Finset.sum_congr rfl fun n _ => ?_
  rw [show idx_main_v30 (idx_main_v31 (idx_main_v54 (ix2 d e))) n = ix3 d n e from ext3 _ _ _ _ (by
      show (((d.val * 1024 + e.val) / 1024 * 1 + 0) * 1024 + (d.val * 1024 + e.val) % 1024) / 1024 = d.val
      omega) rfl (by
      show (((d.val * 1024 + e.val) / 1024 * 1 + 0) * 1024 + (d.val * 1024 + e.val) % 1024) % 1024 = e.val
      omega)]
  exact (congrArg₂ (· * ·) (v19_at x2 d n e) (v28_at x0 x1 d n e)).trans (mul_comm _ _)

/-- The rows of the tables that device `d` finishes, out of the other device's. -/
theorem v52_at (d : Fin 2) (k : Fin 4) (i : Fin 512) (j : Fin 1408) :
    val_main_v52 (F := Ideal) x5 (ix3 (blockOf d k) i j) = x5 (ix3 (blockOf (mate d) k) (rowFor d i) j) := by
  unfold val_main_v52
  match d with
  | 0 =>
    refine (concatenate_pair_apply_left (t := S8x512x1408) (s₁ := S4x512x1408) (s₂ := S4x512x1408) 0 (val_main_v50 (F := Ideal) x5) (val_main_v51 (F := Ideal) x5) _ _ rfl
      (ix3 k i j) fun a => ?_).trans ?_
    · match a with
      | ⟨0, _⟩ => show k.val = 4 * 0 + k.val; omega
      | ⟨1, _⟩ => rfl
      | ⟨2, _⟩ => rfl
    · rw [val_main_v50_apply]
      exact congrArg x5 (ext3 _ _ _ _ (by show 4 + k.val = 4 * 1 + k.val; omega) (by show i.val = 512 * 0 + i.val; omega) rfl)
  | 1 =>
    refine (concatenate_pair_apply_right (t := S8x512x1408) (s₁ := S4x512x1408) (s₂ := S4x512x1408) 0 (val_main_v50 (F := Ideal) x5) (val_main_v51 (F := Ideal) x5) _ _ rfl rfl
      (ix3 k i j) (fun a ha => ?_) (by show k.val + 4 = 4 * 1 + k.val; omega)).trans ?_
    · match a, ha with
      | ⟨0, _⟩, ha => exact absurd rfl ha
      | ⟨1, _⟩, _ => rfl
      | ⟨2, _⟩, _ => rfl
    · rw [val_main_v51_apply]
      exact congrArg x5 (ext3 _ _ _ _ (by show k.val = 4 * 0 + k.val; omega) (by show 512 + i.val = 512 * 1 + i.val; omega) rfl)

end Cert.Dx

end
-- ==== Proof.DxClaims.lean ====
/- What is claimed of the gradient of the step's stream: the reference's run, and on each device of the pair the kernel's results as the
   device's part of the reference's, the same extended reals. -/
module

public import proofs.«01_k».proof.Defs
public import proofs.«01_k».proof.Proof.DxRun
public import proofs.«01_k».proof.Proof.DxReference
public import proofs.«01_k».proof.Proof.UpClaims
public import proofs.«01_k».proof.Proof.Gen.Reference5Ideal.Run
public import Idealize.ShloMosaic.Adequacy
public import Idealize.ShloMosaic.Init

@[expose] public section

noncomputable section

namespace Cert.Dx

open Idealize.ShloMosaic hiding ix0 ix1 ix2 ix3 ix4 ix5
open Idealize.ShloMosaic.ValueIdx Idealize.ShloMosaic.TcCoe Idealize.SL.Sem
open Cert.Pool (ext2 ext3)
open Cert.Up (planeOf columnOf tokenOf blockOf tokens_part planes_part blocks_part)

section Reference

open Cert.Reference5Ideal Cert.Reference5Ideal.Read

/-- What the reference leaves in its result arrays, named stage by stage. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = val_main_v49 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4))
      ∧ r.2.mem ((c.tc : Thread nD τ).loc main_v53) = val_main_v53 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4))
      ∧ r.2.mem ((c.tc : Thread nD τ).loc main_v54) = val_main_v54 (F := Ideal) (m ((c.tc : Thread nD τ).loc main_arg0))
          (m ((c.tc : Thread nD τ).loc main_arg1)) (m ((c.tc : Thread nD τ).loc main_arg2))
      ∧ r.2.mem ((c.tc : Thread nD τ).loc main_v52) = val_main_v52 (F := Ideal) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v49_eq m c), (h c).2.1.trans (val_main_v53_eq m c),
      (h c).2.2.1.trans (val_main_v54_eq _ _ _), (h c).2.2.2.1.trans (val_main_v52_eq _), (h c).2.2.2.2⟩)
    (Value.run (F := Ideal) m ρ)

end Reference

/-- The reference runs, its arguments stay and its counters end at zero. -/
theorem frame_reference : Cert.quiescent_Reference5Ideal := fun m ρ _ =>
  (θ_run Cert.Reference5Ideal.defs _ _).mono (fun r h => ⟨fun c => (h c).2.2.2.2, sem_eq_zero_of_no_sems (by decide) r.2⟩) (reference_run m ρ)

/-! ## A device's part of an array -/

section Parts

variable (d : Fin 2)

/-- Device `d`'s scales; its rows of the tables. -/
theorem scales_part (v : (⟨2, ![2, 1024]⟩ : Shape).Idx → EReal) (u : Fin 1) (e : Fin 1024) :
    Layout.blockN ⟨2, ![1, 1024]⟩ ⟨2, ![2, 1024]⟩ (Layout.meshBlock [1, 1, 2] ![[2], []] d) v (by decide) (ix2 u e) = v (ix2 d e) := by
  rw [Layout.blockN_apply]
  have h : ∀ d : Fin 2, Layout.meshLin [1, 1, 2] d.val [2] = d.val := by decide
  refine congrArg v (ext2 _ _ _ ?_ ?_)
  · show Layout.meshLin [1, 1, 2] d.val [2] * 1 + u.val = d.val
    rw [h]; omega
  · show 0 * 1024 + e.val = e.val
    omega

theorem rows_part (v : (⟨3, ![8, 512, 1408]⟩ : Shape).Idx → EReal) (k : Fin 4) (i : Fin 512) (j : Fin 1408) :
    Layout.blockN ⟨3, ![4, 512, 1408]⟩ ⟨3, ![8, 512, 1408]⟩ (Layout.meshBlock [1, 1, 2] ![[2], [], []] d) v (by decide) (ix3 k i j)
      = v (ix3 (blockOf d k) i j) := by
  rw [Layout.blockN_apply]
  have h : ∀ d : Fin 2, Layout.meshLin [1, 1, 2] d.val [2] = d.val := by decide
  refine congrArg v (ext3 _ _ _ _ ?_ ?_ ?_)
  · show Layout.meshLin [1, 1, 2] d.val [2] * 4 + k.val = 4 * d.val + k.val
    rw [h]; omega
  · show 0 * 512 + i.val = i.val
    omega
  · show 0 * 1408 + j.val = j.val
    omega

/-- The parts of the gradients and of a stream, as the reference's equations name them. -/
theorem planesOf_eq (v : (⟨3, ![2, 8192, 2816]⟩ : Shape).Idx → EReal) :
    Layout.blockN ⟨3, ![2, 4096, 2816]⟩ ⟨3, ![2, 8192, 2816]⟩ (Layout.meshBlock [1, 1, 2] ![[], [2], []] d) v (by decide) = planesOf v d := by
  funext k
  obtain ⟨p, s, f, rfl⟩ : ∃ (p : Fin 2) (s : Fin 4096) (f : Fin 2816), k = ix3 p s f := ⟨_, _, _, ValueIdx.eq_ix3 k⟩
  exact planes_part d v p s f

theorem streamOf_eq (v : (⟨2, ![8192, 1024]⟩ : Shape).Idx → EReal) :
    Layout.blockN ⟨2, ![4096, 1024]⟩ ⟨2, ![8192, 1024]⟩ (Layout.meshBlock [1, 1, 2] ![[2], []] d) v (by decide) = streamOf v d := by
  funext k
  obtain ⟨s, i, rfl⟩ : ∃ (s : Fin 4096) (i : Fin 1024), k = ix2 s i := ⟨_, _, ValueIdx.eq_ix2 k⟩
  exact tokens_part d v s i

end Parts

/-! ## The equation -/

section Equation

open Cert.Kernel5Ideal

variable (m : (ℓ : Loc nD τ sig) → Buf (Elt Ideal) ℓ)
  (x0 : (⟨3, ![2, 8192, 2816]⟩ : Shape).Idx → EReal) (x1 : (⟨3, ![4, 1024, 1408]⟩ : Shape).Idx → EReal)
  (x2 x3 : (⟨2, ![8192, 1024]⟩ : Shape).Idx → EReal) (x4 : (⟨2, ![1, 1024]⟩ : Shape).Idx → EReal)
  (x5 : (⟨3, ![8, 1024, 1408]⟩ : Shape).Idx → EReal)

/-- Device `c`'s arguments are its parts of the whole arrays. -/
structure PartsOf (c : Dev nD) : Prop where
  planes : A0 m c = planesOf x0 c
  weights : A1 m c = x1
  stream : A2 m c = streamOf x2 c
  residual : A3 m c = streamOf x3 c
  scales : A4 m c = x4

variable {m x0 x1 x2 x3 x4} {c : Dev nD} (h : PartsOf m x0 x1 x2 x3 x4 c)
include h

theorem dx_eq (n : Fin 4096) (e : Fin 1024) : dx (A0 m c) (A1 m c) (A2 m c) (A3 m c) (A4 m c) n e
    = Cert.Reference5Ideal.Read.val_main_v49 (F := Ideal) x0 x1 x2 x3 x4 (ix2 (tokenOf c n) e) := by
  rw [h.planes, h.weights, h.stream, h.residual, h.scales]
  exact (v49_at x0 x1 x2 x3 x4 c n e).symm

/-- A device's gradient of the stream is its part of the reference's; its rounded copy too. -/
theorem stream_eq : ((dat m c).arrAt 5 cfg0.N : (⟨2, ![4096, 1024]⟩ : Shape).Idx → EReal)
    = Layout.blockN ⟨2, ![4096, 1024]⟩ ⟨2, ![8192, 1024]⟩ (Layout.meshBlock [1, 1, 2] ![[2], []] c)
        (Cert.Reference5Ideal.Read.val_main_v49 (F := Ideal) x0 x1 x2 x3 x4) (by decide) := by
  funext k
  obtain ⟨n, e, rfl⟩ : ∃ (n : Fin 4096) (e : Fin 1024), k = ix2 n e := ⟨_, _, ValueIdx.eq_ix2 k⟩
  rw [tokens_part]
  exact (array5 m c n e).trans (dx_eq h n e)

theorem rounded_eq : (V₃ m c main_v3 : (⟨2, ![4096, 1024]⟩ : Shape).Idx → EReal)
    = Layout.blockN ⟨2, ![4096, 1024]⟩ ⟨2, ![8192, 1024]⟩ (Layout.meshBlock [1, 1, 2] ![[2], []] c)
        (Cert.Reference5Ideal.Read.val_main_v53 (F := Ideal) x0 x1 x2 x3 x4) (by decide) := by
  funext k
  obtain ⟨n, e, rfl⟩ : ∃ (n : Fin 4096) (e : Fin 1024), k = ix2 n e := ⟨_, _, ValueIdx.eq_ix2 k⟩
  rw [tokens_part]
  exact (rounded_at m c n e).trans (dx_eq h n e)

/-- A device's gradient of the scales is its row of the reference's. -/
theorem scales_eq : ((dat m c).arrAt 7 cfg0.N : (⟨2, ![1, 1024]⟩ : Shape).Idx → EReal)
    = Layout.blockN ⟨2, ![1, 1024]⟩ ⟨2, ![2, 1024]⟩ (Layout.meshBlock [1, 1, 2] ![[2], []] c)
        (Cert.Reference5Ideal.Read.val_main_v54 (F := Ideal) x0 x1 x2) (by decide) := by
  funext k
  obtain ⟨u, e, rfl⟩ : ∃ (u : Fin 1) (e : Fin 1024), k = ix2 u e := ⟨_, _, ValueIdx.eq_ix2 k⟩
  rw [scales_part]
  refine (array7 m c u e).trans ?_
  unfold scaleGrad
  rw [h.planes, h.weights, h.stream]
  exact (v54_at x0 x1 x2 c e).symm

omit h in
/-- The rows of the tables that arrive on a device are its part of the reference's. -/
theorem rows_eq (c : Dev nD)
    (h5 : ∀ c : Dev nD, A5 m c
      = Layout.blockN ⟨3, ![4, 1024, 1408]⟩ ⟨3, ![8, 1024, 1408]⟩ (Layout.meshBlock [1, 1, 2] ![[2], [], []] c) x5 (by decide)) :
    (arrived m c : (⟨3, ![4, 512, 1408]⟩ : Shape).Idx → EReal)
      = Layout.blockN ⟨3, ![4, 512, 1408]⟩ ⟨3, ![8, 512, 1408]⟩ (Layout.meshBlock [1, 1, 2] ![[2], [], []] c)
          (Cert.Reference5Ideal.Read.val_main_v52 (F := Ideal) x5) (by decide) := by
  funext k
  obtain ⟨q, i, j, rfl⟩ : ∃ (q : Fin 4) (i : Fin 512) (j : Fin 1408), k = ix3 q i j := ⟨_, _, _, ValueIdx.eq_ix3 k⟩
  rw [rows_part]
  refine (arrived_at m c q i j).trans ?_
  rw [h5]
  exact (blocks_part (mate c) x5 q (rowFor c i) j).trans (v52_at x5 c q i j).symm

end Equation

/-- The kernel's results on each device and the device's part of the reference's are the same extended reals. -/
theorem algebraic : Cert.algebraic_Kernel5Ideal_Reference5Ideal := fun m g m' g' _ hargs =>
  have parts := fun c => PartsOf.mk (m := m) (c := c) ((hargs c).1.trans (planesOf_eq c _)) (hargs c).2.1
    ((hargs c).2.2.1.trans (streamOf_eq c _)) ((hargs c).2.2.2.1.trans (streamOf_eq c _)) (hargs c).2.2.2.2.1
  ⟨_, _, _, _,
    (θ_run (Cert.Kernel5Ideal.defs (F := Ideal)) _ _).mono (fun r h c =>
        ⟨(h.1 c).1.1.trans (stream_eq (parts c)), (h.1 c).1.2.1.trans (rounded_eq (parts c)), (h.1 c).1.2.2.1.trans (scales_eq (parts c)),
          (h.1 c).1.2.2.2.trans (rows_eq _ c fun d => (hargs d).2.2.2.2.2), (h.1 c).2⟩)
      (run_main (F := Ideal) m g),
    (θ_run (Cert.Reference5Ideal.defs (F := Ideal)) _ _).mono (fun r h => h 0) (reference_run m' g')⟩

end Cert.Dx

end
-- ==== Proof.WinProtocol.lean ====
/- The exchange the gradient of the input projection's weights carries along: four devices hold four tables each; every device keeps the one
   of its own number, sends each of the three others the table of that one's number, and takes a table of each of the three into three
   slots. This module names the peers, the pieces, the slots and the seven semaphores, and states as a schedule what each is worth. -/
module

public import proofs.«01_k».proof.Proof.Gen.Kernel6Ideal.Launch
public import proofs.«01_k».proof.Proof.Gen.Kernel6Ideal.Points
public import proofs.«01_k».proof.Proof.Gen.Kernel6Ideal.Skeleton
public import Idealize.ShloMosaic.Lib.Rounds
public import Idealize.ShloMosaic.Lib.Tactic
public import Idealize.ShloMosaic.Lib.Pipeline.RegionTalk

@[expose] public section

noncomputable section

namespace Cert.Win

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal Cert.Kernel6Ideal.Gen

variable {F : FTy → Type} [FloatOps F]

/-! ## The square of devices, its semaphores, the pieces and the slots -/

/-- The three other devices of the square: across the first axis, across the second, across both. -/
def peer (c : Dev nD) (k : Fin 3) : Dev nD :=
  ⟨![(c.val % 2 + 2) - 2 * (c.val / 2), (2 * (c.val / 2) + 1) - c.val % 2, 3 - (2 * (c.val / 2) + c.val % 2)] k, by revert c k; decide⟩
theorem peer_peer (c : Dev nD) (k : Fin 3) : peer (peer c k) k = c := by revert c k; decide
theorem peer_inj (c : Dev nD) {k l : Fin 3} (h : peer c k = peer c l) : k = l := by revert c k l; decide
def across (k : Fin 3) : Dev nD ≃ Dev nD := ⟨(peer · k), (peer · k), (peer_peer · k), (peer_peer · k)⟩

/-- Semaphore `k` of the pieces having left; of the pieces having arrived. -/
def sentSem (k : Fin 3) : DmaSem sig := ⟨5 + k.val, by show 5 + k.val < 11; omega⟩
def gotSem (k : Fin 3) : DmaSem sig := ⟨8 + k.val, by show 8 + k.val < 11; omega⟩

abbrev barCell (c : Dev nD) : GSem nD τ sig := ((c : Thread nD τ), .reg barrier1)
abbrev sentCell (c : Dev nD) (k : Fin 3) : GSem nD τ sig := ((c : Thread nD τ), .dma (sentSem k))
abbrev gotCell (c : Dev nD) (k : Fin 3) : GSem nD τ sig := ((c : Thread nD τ), .dma (gotSem k))

/-- The six semaphores only this call uses. -/
def ownSem (k : Fin 6) : SemLoc sig := .dma ⟨5 + k.val, by show 5 + k.val < 11; omega⟩

/-- What a semaphore is for. -/
inductive Role where
  | bar
  | sent (k : Fin 3)
  | got (k : Fin 3)
  | other
  deriving DecidableEq

def role : SemLoc sig → Role
  | .reg _ => .bar
  | .dma s => if h : 8 ≤ s.val then .got ⟨s.val - 8, by have : s.val < 11 := s.isLt; omega⟩
      else if h' : 5 ≤ s.val then .sent ⟨s.val - 5, by omega⟩ else .other

theorem role_dma (s : DmaSem sig) : role (.dma s) ≠ .bar := by
  unfold role
  dsimp only
  split_ifs <;> exact fun h => by cases h
theorem role_bar : role (.reg barrier1) = .bar := rfl
theorem role_sent (k : Fin 3) : role (.dma (sentSem k)) = .sent k := by revert k; decide
theorem role_got (k : Fin 3) : role (.dma (gotSem k)) = .got k := by revert k; decide

/-- Where a device's piece for peer `k` begins: at the table of that peer's number. -/
abbrev pieceOff (c : Dev nD) (k : Fin 3) : Fin 4 → Nat := ![(peer c k).val, 0, 0, 0]
abbrev slotOff (k : Fin 3) : Fin 4 → Nat := ![k.val, 0, 0, 0]
theorem piece_inb (c : Dev nD) (k : Fin 3) : ∀ a, pieceOff c k a + S1x3x128x1024.size a ≤ S4x3x128x1024.size a := by revert c k; decide +kernel
theorem slot_inb (k : Fin 3) : ∀ a, slotOff k a + S1x3x128x1024.size a ≤ S3x3x128x1024.size a := by revert k; decide +kernel

/-- One of the four tables, from an offset on; a slot of the landing buffer, likewise. -/
abbrev pieceAt (off : Fin 4 → Nat) (h : ∀ a, off a + S1x3x128x1024.size a ≤ S4x3x128x1024.size a) : Memref sig .tc .hbm S3x128x1024 .bf16 :=
  ((Memref.whole main_arg2).slice (Rect.unit (s := S4x3x128x1024) off S1x3x128x1024.size h) (fun _ => rfl)).squeeze S3x128x1024 squeezes_S1x3x128x1024_S3x128x1024
abbrev slotAt (off : Fin 4 → Nat) (h : ∀ a, off a + S1x3x128x1024.size a ≤ S3x3x128x1024.size a) : Memref sig .tc .hbm S3x128x1024 .bf16 :=
  ((Memref.whole main_v1_1).slice (Rect.unit (s := S3x3x128x1024) off S1x3x128x1024.size h) (fun _ => rfl)).squeeze S3x128x1024 squeezes_S1x3x128x1024_S3x128x1024

abbrev piece (c : Dev nD) (k : Fin 3) : Memref sig .tc .hbm S3x128x1024 .bf16 := pieceAt (pieceOff c k) (piece_inb c k)
abbrev slot (k : Fin 3) : Memref sig .tc .hbm S3x128x1024 .bf16 := slotAt (slotOff k) (slot_inb k)

/-- What the copy of a piece credits. -/
abbrev credit : ℕ := (slot 0).view.dmaCredit
theorem credit_pos : 0 < credit := View.dmaCredit_pos _ (by decide)
theorem credit_slot (off : Fin 4 → Nat) (h : ∀ a, off a + S1x3x128x1024.size a ≤ S3x3x128x1024.size a) : (slotAt off h).view.dmaCredit = credit := rfl
theorem credit_piece (off : Fin 4 → Nat) (h : ∀ a, off a + S1x3x128x1024.size a ≤ S4x3x128x1024.size a) : (pieceAt off h).view.dmaCredit = credit := rfl

theorem set_piece (c : Dev nD) (k : Fin 3) :
    (piece c k).view.set = (Rect.unit (s := S4x3x128x1024) (pieceOff c k) S1x3x128x1024.size (piece_inb c k)).set :=
  (View.set_reshape _ _).trans (View.set_slice_whole _ _)
theorem set_slot (k : Fin 3) :
    (slot k).view.set = (Rect.unit (s := S3x3x128x1024) (slotOff k) S1x3x128x1024.size (slot_inb k)).set :=
  (View.set_reshape _ _).trans (View.set_slice_whole _ _)

theorem mem_piece (c : Dev nD) (k : Fin 3) (i : S4x3x128x1024.Idx) : i ∈ (piece c k).view.set ↔ (i 0).val = (peer c k).val := by
  rw [set_piece, Rect.mem_set_unit]
  constructor
  · intro h
    have h0 := h (0 : Fin 4)
    simp only [S1x3x128x1024, Matrix.cons_val_zero] at h0
    omega
  · intro h a
    match a with
    | ⟨0, _⟩ => exact ⟨le_of_eq h.symm, by show (i 0).val < (peer c k).val + 1; omega⟩
    | ⟨1, _⟩ => exact ⟨Nat.zero_le _, by simpa using (i (1 : Fin 4)).isLt⟩
    | ⟨2, _⟩ => exact ⟨Nat.zero_le _, by simpa using (i (2 : Fin 4)).isLt⟩
    | ⟨3, _⟩ => exact ⟨Nat.zero_le _, by simpa using (i (3 : Fin 4)).isLt⟩

theorem mem_slot (k : Fin 3) (i : S3x3x128x1024.Idx) : i ∈ (slot k).view.set ↔ (i 0).val = k.val := by
  rw [set_slot, Rect.mem_set_unit]
  constructor
  · intro h
    have h0 := h (0 : Fin 4)
    simp only [S1x3x128x1024, Matrix.cons_val_zero] at h0
    omega
  · intro h a
    match a with
    | ⟨0, _⟩ => exact ⟨le_of_eq h.symm, by show (i 0).val < k.val + 1; omega⟩
    | ⟨1, _⟩ => exact ⟨Nat.zero_le _, by simpa using (i (1 : Fin 4)).isLt⟩
    | ⟨2, _⟩ => exact ⟨Nat.zero_le _, by simpa using (i (2 : Fin 4)).isLt⟩
    | ⟨3, _⟩ => exact ⟨Nat.zero_le _, by simpa using (i (3 : Fin 4)).isLt⟩

theorem pieces_disjoint (c : Dev nD) {k l : Fin 3} (h : k ≠ l) : Disjoint (piece c k).view.set (piece c l).view.set := by
  rw [Finset.disjoint_left]
  intro i hi hj
  rw [mem_piece] at hi hj
  exact h (peer_inj c (Fin.ext (hi.symm.trans hj)))

theorem slots_disjoint {k l : Fin 3} (h : k ≠ l) : Disjoint (slot k).view.set (slot l).view.set := by
  rw [Finset.disjoint_left]
  intro i hi hj
  rw [mem_slot] at hi hj
  exact h (Fin.ext (hi.symm.trans hj))

/-! ## What the devices hold -/

/-- The round algebra of this protocol: up to three duties on a semaphore. -/
abbrev UX : Type := Rounds.URounds (GSem nD τ sig) (Fin 3)
/-- The library's copy of the round algebra and this protocol's. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-- The same resource for each of the three peers. -/
abbrev three (Φ : Fin 3 → sProp 𝕄) : sProp 𝕄 := iprop(Φ 0 ∗ Φ 1 ∗ Φ 2)
theorem three_eq (Φ : Fin 3 → sProp 𝕄) : bigSep Finset.univ Φ = three Φ :=
  bigSep_univ_eq_bigSepL [(0 : Fin 3), 1, 2] (by decide) (by decide) Φ

variable (m : (ℓ : Loc nD τ sig) → Buf (Elt F) ℓ)

/-- A device's memory at launch. -/
abbrev V₁ (c : Dev nD) : Valuation τ sig (Elt F) := fun b => m ((c : Dev nD), b)

abbrev tables (c : Dev nD) : (main_arg2 : Ref sig .tc).ty.Contents (Elt F) := V₁ m c main_arg2
abbrev landing (c : Dev nD) : (main_v1_1 : Ref sig .tc).ty.Contents (Elt F) := V₁ m c main_v1_1

/-- Device `c`'s landing buffer with the piece of its peer `k` in slot `k`. -/
def landed (c : Dev nD) (k : Fin 3) : (main_v1_1 : Ref sig .tc).ty.Contents (Elt F) :=
  (slot k).view.write (Elt F) (landing m c) ((piece (peer c k) k).view.read (Elt F) (tables m (peer c k))) Finset.univ

/-- Device `c`'s landing buffer once all three have arrived. -/
def arrived (c : Dev nD) : (main_v1_1 : Ref sig .tc).ty.Contents (Elt F) := fun i => landed m c ⟨(i (0 : Fin 4)).val, (i (0 : Fin 4)).isLt⟩ i

/-- On device `c`, the piece for peer `k` at `f`; slot `k` of its landing buffer at `f`. -/
abbrev pieceRows (c : Dev nD) (k : Fin 3) (f : (main_arg2 : Ref sig .tc).ty.Contents (Elt F)) : sProp 𝕄 :=
  (piece c k).view.loc (c : Thread nD τ) ↦[(piece c k).view.set]{fullShare} f
abbrev slotRows (c : Dev nD) (k : Fin 3) (f : (main_v1_1 : Ref sig .tc).ty.Contents (Elt F)) : sProp 𝕄 :=
  (slot k).view.loc (c : Thread nD τ) ↦[(slot k).view.set]{fullShare} f

/-! ## The schedule: one round; three duties on a barrier, one for each peer, and one duty on each of the six others -/

/-- The signal of peer `k` on `c`'s barrier: that peer's slot `k`, and that its arrival is being counted. -/
def barPay (c : Dev nD) (k : Fin 3) : sProp 𝕄 := iprop(slotRows (peer c k) k (landing m (peer c k)) ∗ reached EX (gotCell (peer c k) k) 0)
/-- The arrival of copy `k` on `c`: slot `k`, at the peer's piece. -/
def gotPay (c : Dev nD) (k : Fin 3) : sProp 𝕄 := slotRows c k (landed m c k)
/-- The departure of copy `k` from `c`: its own piece back. -/
def sentPay (c : Dev nD) (k : Fin 3) : sProp 𝕄 := pieceRows c k (tables m c)

/-- What the duty `d` pays on device `c`'s semaphore of a role. -/
def pay (c : Dev nD) : Role → Fin 3 → sProp 𝕄
  | .bar, d => barPay m c d
  | .sent k, _ => sentPay m c k
  | .got k, _ => gotPay m c k
  | .other, _ => iprop(emp)

instance pay_storable (c : Dev nD) (x : Role) (d : Fin 3) : BI.Storable (upEmb : UEmb _ 𝕄) (pay (F := F) m c x d) := by
  match x with
  | .bar => show BI.Storable upEmb (barPay m c d); unfold barPay; infer_instance
  | .sent k => show BI.Storable upEmb (sentPay m c k); unfold sentPay; infer_instance
  | .got k => show BI.Storable upEmb (gotPay m c k); unfold gotPay; infer_instance
  | .other => show BI.Storable upEmb iprop(emp); infer_instance

/-- The duties of a role. -/
def owedTo : Role → Finset (Fin 3)
  | .bar => Finset.univ
  | .other => ∅
  | _ => {0}

def plan : Rounds.Schedule (GSem nD τ sig) (Fin 3) 𝕄 where
  duties g r := if r = 0 ∧ g.1.2 = .tc then owedTo (role g.2) else ∅
  unitless _ := False
  amount g _ _ := if role g.2 = .bar then 1 else credit
  payload g _ d := pay m g.1.1 (role g.2) d
  amount_pos g _ _ _ := by
    by_cases h : role g.2 = .bar
    · rw [if_pos h]; exact Nat.one_pos
    · rw [if_neg h]; exact credit_pos

instance plan_payload_storable (g : GSem nD τ sig) (r : ℕ) (d : Fin 3) :
    BI.Storable (upEmb : UEmb _ 𝕄) ((plan (F := F) m).payload g r d) := pay_storable m g.1.1 (role g.2) d

section Plan

variable (c : Dev nD)

/-- A semaphore of a departure or an arrival. -/
def single (s : DmaSem sig) : Prop := owedTo (role (.dma s)) = {0}
theorem single_sent (k : Fin 3) : single (sentSem k) := by unfold single; rw [role_sent]; rfl
theorem single_got (k : Fin 3) : single (gotSem k) := by unfold single; rw [role_got]; rfl

theorem duties_bar : (plan (F := F) m).duties (barCell c) 0 = Finset.univ := by
  dsimp only [plan]; exact if_pos ⟨rfl, rfl⟩
theorem duties_dma (s : DmaSem sig) (h : single s) : (plan (F := F) m).duties ((c : Thread nD τ), .dma s) 0 = {0} := by
  dsimp only [plan]; exact (if_pos ⟨rfl, rfl⟩).trans h
theorem duties_later (g : GSem nD τ sig) : ∀ r, 1 ≤ r → (plan (F := F) m).duties g r = ∅ :=
  fun r hr => by dsimp only [plan]; exact if_neg fun h => by omega

theorem amount_bar (d : Fin 3) : (plan (F := F) m).amount (barCell c) 0 d = 1 := by dsimp only [plan]; exact if_pos rfl
theorem amount_dma (s : DmaSem sig) (d : Fin 3) : (plan (F := F) m).amount ((c : Thread nD τ), .dma s) 0 d = credit := by
  dsimp only [plan]; exact if_neg (role_dma s)

theorem expect_bar : (plan (F := F) m).expect (barCell c) 0 = 3 := by
  unfold Schedule.expect Schedule.amountOf
  rw [duties_bar m c, Finset.sum_congr rfl fun d _ => amount_bar m c d, Finset.sum_const, Finset.card_univ, Fintype.card_fin]; rfl
theorem expect_dma (s : DmaSem sig) (h : single s) : (plan (F := F) m).expect ((c : Thread nD τ), .dma s) 0 = credit := by
  unfold Schedule.expect Schedule.amountOf; rw [duties_dma m c s h, Finset.sum_singleton, amount_dma]

theorem payload_at (s : SemLoc sig) (d : Fin 3) : (plan (F := F) m).payload ((c : Thread nD τ), s) 0 d = pay m c (role s) d := rfl

theorem rest_bar :
    bigSep ((plan (F := F) m).duties (barCell c) 0 \ ∅) (fun d => (plan (F := F) m).payload (barCell c) 0 d) = three (barPay m c) := by
  rw [Finset.sdiff_empty, duties_bar m c, ← three_eq]; rfl
theorem rest_dma (s : DmaSem sig) (h : single s) :
    bigSep ((plan (F := F) m).duties ((c : Thread nD τ), .dma s) 0 \ ∅) (fun d => (plan (F := F) m).payload ((c : Thread nD τ), .dma s) 0 d)
      = pay m c (role (.dma s)) 0 := by
  rw [Finset.sdiff_empty, duties_dma m c s h, bigSep_singleton, payload_at]

end Plan

/-! ## What a device owes, and in which order it may wait -/

/-- The arrival of piece `k` a device owes its peer; the unit it owes that peer's barrier. -/
abbrev arrival (c : Dev nD) (k : Fin 3) : CellTallies nD τ sig Unit := tallyAt (gotCell (peer c k) k) () credit
abbrev greeting (c : Dev nD) (k : Fin 3) : CellTallies nD τ sig Unit := tallyAt (barCell (peer c k)) () 1
/-- What it owes with the last `n` pieces still to send. -/
def due (c : Dev nD) : ℕ → CellTallies nD τ sig Unit
  | 0 => 0
  | n + 1 => due c n + arrival c ⟨2 - n, by omega⟩
/-- At launch a device owes each peer an arrival and a barrier unit; it signals across the second axis first. -/
def debt (c : Dev nD) : CellTallies nD τ sig Unit := due c 3 + greeting c 2 + greeting c 0 + greeting c 1

def L (g : GSem nD τ sig) : Finset Unit := if g.1.2 = .tc then {()} else ∅
/-- Barriers come before arrivals; everything else comes before both. -/
def lv (g : GSem nD τ sig) (_ : Unit) : ℕ := match role g.2 with
  | .bar => 1
  | .got _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by
  rw [L_tc]; exact Finset.mem_singleton_self _
theorem lv_bar (c : Dev nD) (u : Unit) : lv (barCell c) u = 1 := rfl
theorem lv_got (c : Dev nD) (k : Fin 3) (u : Unit) : lv (gotCell c k) u = 2 := by
  unfold lv; dsimp only; rw [role_got]

theorem tallyAt_cell {g g' : GSem nD τ sig} {u : Unit} {n : ℕ} (h : 0 < (tallyAt g' () n : CellTallies nD τ sig Unit) g u) : g = g' := by
  rw [tallyAt_apply] at h
  by_contra hne
  rw [if_neg fun hh => hne hh.1] at h
  exact absurd h (Nat.lt_irrefl 0)

theorem due_cell {c : Dev nD} {g : GSem nD τ sig} {u : Unit} : ∀ n : ℕ, 0 < due c n g u → ∃ k, g = gotCell (peer c k) k
  | 0, h => absurd h (Nat.lt_irrefl 0)
  | n + 1, h => by
    unfold due at h
    rw [Pi.add_apply, Finsupp.add_apply] at h
    exact (Nat.add_pos_iff_pos_or_pos.mp h).elim (due_cell n) fun h => ⟨_, tallyAt_cell h⟩

theorem debt_cell {c : Dev nD} {g : GSem nD τ sig} {u : Unit} (h : 0 < debt c g u) : (∃ k, g = gotCell (peer c k) k) ∨ ∃ k, g = barCell (peer c k) := by
  unfold debt at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · exact (Nat.add_pos_iff_pos_or_pos.mp h).imp (due_cell 3) fun h => ⟨_, tallyAt_cell h⟩
    · exact .inr ⟨_, tallyAt_cell h⟩
  · exact .inr ⟨_, tallyAt_cell h⟩

/-- A device may wait on its barrier while it still owes the peers the arrivals. -/
theorem mayWait_bar (c : Dev nD) :
    (levAts L lv : sProp 𝕄) ⊢ MayWait (c : Thread nD τ) (.reg barrier1) () (due c 3) :=
  MayOwe.of_cut (L := L) (lev := lv) 1 (fun p hp => by rw [Finset.mem_singleton.mp hp]; exact mem_L ..)
    (fun g u hg => by obtain ⟨k, rfl⟩ := due_cell 3 hg; exact mem_L ..)
    (fun p hp => by rw [Finset.mem_singleton.mp hp]; exact (lv_bar c _).le)
    (fun g u hg => by obtain ⟨k, rfl⟩ := due_cell 3 hg; rw [lv_got]; decide)

/-! ## The ghost state, in its four stages -/

/-- The invariants device `c` opens: its own seven, and each peer's barrier and arrival. -/
def invs (K : GSem nD τ sig → ℕ) (c : Dev nD) : sProp 𝕄 :=
  iprop(cellInv EX (plan m) (K (barCell c)) (barCell c) ∗ three (fun k => cellInv EX (plan m) (K (sentCell c k)) (sentCell c k))
    ∗ three (fun k => cellInv EX (plan m) (K (gotCell c k)) (gotCell c k))
    ∗ three (fun k => cellInv EX (plan m) (K (barCell (peer c k))) (barCell (peer c k)))
    ∗ three (fun k => cellInv EX (plan m) (K (gotCell (peer c k) k)) (gotCell (peer c k) k)))

instance invs_persistent (K : GSem nD τ sig → ℕ) (c : Dev nD) : BI.Persistent (invs m K c) := by unfold invs; infer_instance

/-- The duties a device pays. -/
abbrev payable (c : Dev nD) : sProp 𝕄 :=
  iprop(three (fun k => dutyTok EX (barCell (peer c k)) 0 k) ∗ three (fun k => dutyTok EX (sentCell c k) 0 0)
    ∗ three (fun k => dutyTok EX (gotCell (peer c k) k) 0 0))

/-- From launch to the call: its place on its barrier, the rights to open the semaphores of the call, the duties it will pay. -/
def ghost (K : GSem nD τ sig → ℕ) (c : Dev nD) : sProp 𝕄 :=
  iprop(invs m K c
    ∗ atPos EX (barCell c) 0 ∅ 0 ∗ three (fun k => openTok EX (sentCell c k)) ∗ three (fun k => openTok EX (gotCell c k))
    ∗ three (fun k => reached EX (barCell (peer c k)) 0) ∗ payable c)

/-- The same once the call has opened its semaphores. -/
def opened (K : GSem nD τ sig → ℕ) (c : Dev nD) : sProp 𝕄 :=
  iprop(invs m K c
    ∗ atPos EX (barCell c) 0 ∅ 0 ∗ three (fun k => atPos EX (sentCell c k) 0 ∅ 0) ∗ three (fun k => atPos EX (gotCell c k) 0 ∅ 0)
    ∗ three (fun k => reached EX (barCell (peer c k)) 0) ∗ three (fun k => reached EX (sentCell c k) 0) ∗ three (fun k => reached EX (gotCell c k) 0)
    ∗ payable c)

/-- Before the first point: everything the exchange needs, the pieces and the slots. -/
def before (c : Dev nD) : sProp 𝕄 :=
  iprop((∃ K, opened m K c) ∗ cred (tallyAt (barCell c) () 3) ∗ three (fun k => cred (tallyAt (gotCell c k) () credit)) ∗ levAts L lv
    ∗ three (fun k => pieceRows c k (tables m c)) ∗ three (fun k => slotRows c k (landing m c)))

/-- Between the points: the barrier done with, the copies in flight, the pieces and the slots away. -/
def during (c : Dev nD) : sProp 𝕄 :=
  iprop((∃ K, invs m K c) ∗ semVal (barCell c) 0 ∗ three (fun k => atPos EX (sentCell c k) 0 ∅ 0) ∗ three (fun k => atPos EX (gotCell c k) 0 ∅ 0)
    ∗ three (fun k => cred (tallyAt (sentCell c k) () credit)) ∗ three (fun k => cred (tallyAt (gotCell c k) () credit)))

/-- After the last point: the seven counters at zero, the pieces back, the slots filled. -/
def after (c : Dev nD) : sProp 𝕄 :=
  iprop(semVal (barCell c) 0 ∗ (three (fun k => semVal (sentCell c k) 0) ∗ three (fun k => semVal (gotCell c k) 0))
    ∗ three (fun k => pieceRows c k (tables m c)) ∗ three (fun k => slotRows c k (landed m c k)))

theorem close (κ : ℕ) (g : GSem nD τ sig) :
    iprop(cellInv EX (plan m) κ g ∗ atPos EX g (0 + 1) ∅ 0) ⊢ (|={Set.univ}=> semVal g 0 : sProp 𝕄) :=
  Rounds.cell_close EX (plan m) (Set.mem_univ κ) id (duties_later m g)

end Cert.Win

end
-- ==== Proof.WinExchange.lean ====
/- The moves of the exchange (a peer greeted, a piece sent, the wait for a copy to have left or arrived) and the product every grid point
   computes. -/
module

public import proofs.«01_k».proof.Proof.WinProtocol
public import Idealize.ShloMosaic.Lib.KernelVsHost

@[expose] public section

set_option maxRecDepth 16384

noncomputable section

namespace Cert.Win

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal Cert.Kernel6Ideal.Gen

variable {F : FTy → Type} [FloatOps F]

local notation "𝕄" => MT nD τ sig Unit (Elt F) ℕ UU ℕ

variable (m : (ℓ : Loc nD τ sig) → Buf (Elt F) ℓ)

theorem greet_pay (c : Dev nD) (k : Fin 3) :
    iprop(slotRows c k (landing m c) ∗ reached EX (gotCell c k) 0) ⊢ pay m (peer c k) (role (.reg barrier1)) k := by
  rw [role_bar]; show _ ⊢ barPay m (peer c k) k; unfold barPay; rw [peer_peer]

/-- The signal on a peer's barrier: that peer gets this device's slot for it, and that its arrival is being counted here. -/
theorem greet (c d : Dev nD) (k : Fin 3) (e : d = peer c k) (O₀ O : CellTallies nD τ sig Unit) (hO : O₀ = O + greeting c k)
    (κ : GSem nD τ sig → ℕ) (W : Waits sig Unit) (r : PUnit → Prog (TpuEff nD τ sig (Elt F) Λ₀ .tc) PUnit) (K : PUnit → sProp 𝕄) :
    iprop(cellInv EX (plan m) (κ (barCell (peer c k))) (barCell (peer c k)) ∗ owes (c : Thread nD τ) O₀ W ∗ dutyTok EX (barCell (peer c k)) 0 k
        ∗ slotRows c k (landing m c) ∗ reached EX (gotCell c k) 0 ∗ reached EX (barCell (peer c k)) 0)
      ⊢ iprop((owes (c : Thread nD τ) O W -∗ wp frame (wpE (defs₀ (F := F)) Variants.none c none) Set.univ (r ⟨⟩) K)
        -∗ wp frame (wpE (defs₀ (F := F)) Variants.none c none) Set.univ (.op (.semSignal (d, .tc) barrier1 1) r) K) := by
  subst e
  iintro ⟨#HI, HO, Ht, Hs, #Hg, #Hr⟩ Hk
  iapply (Rounds.wp_signal Variants.none EX (plan m) (c : Thread nD τ) none (dst := (peer c k : Thread nD τ)) (sem := barrier1) (r := 0) (d := k) (κ := κ (barCell (peer c k)))
      (by rw [duties_bar]; exact Finset.mem_univ _) (amount_bar m (peer c k) k) () O hO) $$ [HO Ht Hs]
  · iframe HI HO Ht
    isplitl [Hs]
    · rw [payload_at]; iapply (greet_pay m c k)
      iframe Hs Hg
    · iexact Hr
  iexact Hk

/-- What sending piece `k` takes. -/
def ready (κ : GSem nD τ sig → ℕ) (c : Dev nD) (k : Fin 3) : sProp 𝕄 :=
  iprop(cellInv EX (plan m) (κ (sentCell c k)) (sentCell c k) ∗ cellInv EX (plan m) (κ (gotCell (peer c k) k)) (gotCell (peer c k) k)
    ∗ pieceRows c k (tables m c) ∗ slotRows (peer c k) k (landing m (peer c k))
    ∗ dutyTok EX (sentCell c k) 0 0 ∗ reached EX (sentCell c k) 0
    ∗ dutyTok EX (gotCell (peer c k) k) 0 0 ∗ reached EX (gotCell (peer c k) k) 0)

theorem landed_peer (c : Dev nD) (k : Fin 3) : landed m (peer c k) k
    = (slot k).view.write (Elt F) (landing m (peer c k)) ((piece c k).view.read (Elt F) (tables m c)) Finset.univ := by
  unfold landed; rw [peer_peer]

/-- The copy of a piece to a peer: it gives that peer its arrival and, once gone, its own device the piece back. -/
theorem send_piece (c d : Dev nD) (k : Fin 3) (e : d = peer c k) (n : ℕ) (hk : k = ⟨2 - n, by omega⟩) (s g : DmaSem sig)
    (hs : s = sentSem k) (hg : g = gotSem k) (off off' : Fin 4 → Nat) (h h') (ho : off = pieceOff c k) (ho' : off' = slotOff k)
    (hw hw' hq) (κ : GSem nD τ sig → ℕ) (W : Waits sig Unit)
    (r : PUnit → Prog (TpuEff nD τ sig (Elt F) Λ₀ .tc) PUnit) (K : PUnit → sProp 𝕄) :
    iprop(ready m κ c k ∗ owes (c : Thread nD τ) (due c (n + 1)) W)
      ⊢ iprop((iprop(cred (tallyAt (sentCell c k) () credit) ∗ owes (c : Thread nD τ) (due c n) W)
          -∗ wp frame (wpE (defs₀ (F := F)) Variants.none c none) Set.univ (r ⟨⟩) K)
        -∗ wp frame (wpE (defs₀ (F := F)) Variants.none c none) Set.univ
          (.op (.enqueueDma (pieceAt off h) (.remote (Dev.tc d) (slotAt off' h') (.dma s)) (.dma g) hw hw' hq) r) K) := by
  subst e; subst hs; subst hg; subst ho; subst ho'
  unfold ready
  iintro ⟨⟨#HIsent, #HIgotM, Hown, Hslot, HtS, #HrS, HtG, #HrGM⟩, HO⟩ Hk
  iapply (Rounds.wp_send_pointsTo Variants.none EX (plan m) (c : Thread nD τ) none (c' := (peer c k : Thread nD τ)) (src := piece c k) (dst := slot k)
      (sS := .dma (sentSem k)) (sem := .dma (gotSem k)) (q := fullShare) (fs := tables m c) (κ₁ := κ (sentCell c k)) (κ₂ := κ (gotCell (peer c k) k))
      (r₁ := 0) (r₂ := 0) (d₁ := 0) (d₂ := 0) (fd := landing m (peer c k))
      (by rw [duties_dma m c _ (single_sent k)]; exact Finset.mem_singleton_self _)
      (by rw [duties_dma m (peer c k) _ (single_got k)]; exact Finset.mem_singleton_self _)
      () () credit rfl (amount_dma m c _ 0) (amount_dma m (peer c k) _ 0) (due c n) (by subst hk; rfl) (W := W)
      (by rw [payload_at, role_sent]; exact BI.Entails.refl _)
      (by rw [payload_at, role_got]; show _ ⊢ slotRows (peer c k) k (landed m (peer c k) k); rw [landed_peer])) $$ [Hown Hslot HO HtS HtG]
  · iframe HIsent HIgotM Hown Hslot HO HtS HrS HtG HrGM
  iexact Hk

/-- What waiting on semaphore `s` takes. -/
def awaited (κ : GSem nD τ sig → ℕ) (c : Dev nD) (s : DmaSem sig) : sProp 𝕄 :=
  iprop(cellInv EX (plan m) (κ ((c : Thread nD τ), .dma s)) ((c : Thread nD τ), .dma s) ∗ cred (tallyAt ((c : Thread nD τ), .dma s) () credit)
    ∗ atPos EX ((c : Thread nD τ), .dma s) 0 ∅ 0)

/-- A wait for a whole piece by a semaphore: what was to be paid there comes with it, and the semaphore is done with. -/
theorem wait_piece (c : Dev nD) (s s' : DmaSem sig) (e : s' = s) (hr : single s) (src dst : Memref sig .tc .hbm S3x128x1024 .bf16)
    (hc : dst.view.dmaCredit = credit) (hw hw') (κ : GSem nD τ sig → ℕ) (W : Waits sig Unit)
    (r : PUnit → Prog (TpuEff nD τ sig (Elt F) Λ₀ .tc) PUnit) (K : PUnit → sProp 𝕄) :
    iprop(awaited m κ c s ∗ owes (c : Thread nD τ) (0 : CellTallies nD τ sig Unit) W)
      ⊢ iprop((iprop((∃ W, owes (c : Thread nD τ) (0 : CellTallies nD τ sig Unit) W) ∗ semVal ((c : Thread nD τ), .dma s) 0 ∗ pay m c (role (.dma s)) 0)
          -∗ wp frame (wpE (defs₀ (F := F)) Variants.none c none) Set.univ (r ⟨⟩) K)
        -∗ wp frame (wpE (defs₀ (F := F)) Variants.none c none) Set.univ (.op (.waitDma2 s' src dst hw hw') r) K) := by
  subst e
  unfold awaited
  have he := expect_dma m c s' hr
  rw [← hc] at he ⊢
  iintro ⟨⟨#HI, Hc, Hat⟩, HO⟩ Hk
  iapply (Rounds.wp_wait_rest_token Variants.none EX (plan m) (c : Thread nD τ) none (κ := κ ((c : Thread nD τ), .dma s'))
      (wpE_waitDma2_eq Variants.none (c : Thread nD τ) none Set.univ) (Set.mem_univ _) () (O := 0) (W := W) (R := 0) (m := 0) (T := ∅)
      ((Nat.zero_add _).trans he.symm)) $$ [Hc HO Hat]
  · iframe HI Hc HO
    isplitr; · rw [MayWait_zero]; iempintro
    iexact Hat
  iintro ⟨HO, Hat, -, Hpay⟩
  imod (close m (κ ((c : Thread nD τ), .dma s')) ((c : Thread nD τ), .dma s')) $$ [Hat] with H0
  · iframe HI Hat
  iapply Hk
  isplitl [HO]; · iexists _; iexact HO
  iframe H0
  iapply (Entails.of_eq (rest_dma m c _ hr)); iexact Hpay

/-! ## The product of a point -/

theorem origin2 : (![0, 0] : Fin 2 → Nat) = fun _ => 0 := funext fun a => by fin_cases a <;> rfl
theorem origin3 : (![0, 0, 0] : Fin 3 → Nat) = fun _ => 0 := funext fun a => by fin_cases a <;> rfl

section Point

variable (c : Dev nD) (i : grid0.Coords)
    (a2 : Memref sig .tc .vmem S4096x1024 .bf16) (h2 : a2.IsWhole) (a3 : Memref sig .tc .vmem S1x4096x512 .bf16) (h3 : a3.IsWhole)
    (a5 : Memref sig .tc .vmem S1x1024x512 .bf16) (h5 : a5.IsWhole)
    (x0 : Vec F S4096x1024 .bf16) (x1 : Vec F S1x4096x512 .bf16)

/-- The two blocks of a point, and room for its product. -/
abbrev blocksIn : sProp 𝕄 := iprop(owns (c : Thread nD τ) a2 fullShare x0 ∗ owns (c : Thread nD τ) a3 fullShare x1 ∗ ∃ d, owns (c : Thread nD τ) a5 fullShare d)
/-- The two blocks, and their product. -/
abbrev blocksOut : sProp 𝕄 := iprop(owns (c : Thread nD τ) a2 fullShare x0 ∗ owns (c : Thread nD τ) a3 fullShare x1 ∗ owns (c : Thread nD τ) a5 fullShare (k0_pay1 x0 x1))

/-- The call's body at any point. -/
abbrev body : Prog (TpuEff nD τ sig (Elt F) Λ₀ .tc) PUnit :=
  cc0_wgrad_in i a2 h2 a3 h3 (Memref.whole main_arg2) (Memref.isWhole_whole _) a5 h5 (Memref.whole main_v1_1) (Memref.isWhole_whole _) cc0_scratch0 cc0_scratch1

/-- The one store of a point covers its block: what it leaves is the product. -/
theorem product_left (f : a5.view.ty.Contents (Elt F)) :
    a5.view.read (Elt F) (a5.view.writes (Elt F) f
        [⟨Rect.unit ![0, 0, 0] S1x1024x512.size inb_S1x1024x512_S1x1024x512_0_0_0,
            k0_pay1
              (View.readAt (Elt F) a2.view (Rect.unit ![0, 0] S4096x1024.size inb_S4096x1024_S4096x1024_0_0).toLoadRect (h2.unread x0))
              (View.readAt (Elt F) a3.view (Rect.unit ![0, 0, 0] S1x4096x512.size inb_S1x4096x512_S1x4096x512_0_0_0).toLoadRect (h3.unread x1))⟩])
      = k0_pay1 x0 x1 := by
  rw [View.read_writes_eq_canon _ _ _ fun y => ⟨_, List.mem_singleton_self _, View.mem_set_unit_zero origin3 inb_S1x1024x512_S1x1024x512_0_0_0 y⟩, View.canon_unit_zero origin3]
  simp only [View.readAt_eq_ld, h2.read_unread, h3.read_unread,
    View.ld_unit_zero (S := S4096x1024) origin2, View.ld_unit_zero (S := S1x4096x512) origin3]

/-- The loads, the product and the store of a point, before whatever follows. -/
def multiply (k : PUnit → Prog (TpuEff nD τ sig (Elt F) Λ₀ .tc) PUnit) : Prog (TpuEff nD τ sig (Elt F) Λ₀ .tc) PUnit :=
  .op (.load a2 (Rect.unit (s := S4096x1024) ![0, 0] S4096x1024.size inb_S4096x1024_S4096x1024_0_0).toLoadRect (View.loadsAt_vmem h_S4096x1024)) fun (v12 : Vec F S4096x1024 .bf16) =>
  .op (.load a3 (Rect.unit (s := S1x4096x512) ![0, 0, 0] S1x4096x512.size inb_S1x4096x512_S1x4096x512_0_0_0).toLoadRect (View.loadsAt_vmem h_S1x4096x512)) fun (v14 : Vec F S1x4096x512 .bf16) =>
  .op (.load a5 (Rect.unit (s := S1x1024x512) ![0, 0, 0] S1x1024x512.size inb_S1x1024x512_S1x1024x512_0_0_0).toLoadRect (View.loadsAt_vmem h_S1x1024x512)) fun (_ : Vec F S1x1024x512 .bf16) =>
  .op (.store a5 (Rect.unit (s := S1x1024x512) ![0, 0, 0] S1x1024x512.size inb_S1x1024x512_S1x1024x512_0_0_0) (k0_pay1 v12 v14) Finset.univ
    (View.stores_vmem h_S1x1024x512 (h5.storeExact_slice rfl _ packedbf16_S1x1024x512_S1x1024x512_0_0_0) (fun _ => rfl)) (.inl rfl)) k

include h2 h3 in
set_option maxHeartbeats 1000000 in
theorem multiply_run (k : PUnit → Prog (TpuEff nD τ sig (Elt F) Λ₀ .tc) PUnit) (K : PUnit → sProp 𝕄) :
    iprop(blocksIn c a2 a3 a5 x0 x1 ∗ (blocksOut c a2 a3 a5 x0 x1 -∗ wp frame (wpE (defs₀ (F := F)) Variants.none c none) Set.univ (k ⟨⟩) K))
      ⊢ wp frame (wpE (defs₀ (F := F)) Variants.none c none) Set.univ (multiply a2 a3 a5 h5 k) K := by
  unfold multiply blocksIn blocksOut owns
  iintro ⟨⟨⟨%f0, %hf0, H0⟩, ⟨%f1, %hf1, H1⟩, ⟨%d2, %f2, -, h2⟩⟩, Hk⟩
  obtain rfl := h2.eq_unread hf0; obtain rfl := h3.eq_unread hf1
  sl_step
  sl_step
  sl_step
  sl_step
  iapply Hk
  isplitl [H0]
  · iexists _; isplitr; · ipureintro; exact h2.read_unread _
    iexact H0
  isplitl [H1]
  · iexists _; isplitr; · ipureintro; exact h3.read_unread _
    iexact H1
  iexists _; isplitr
  swap; · iexact h2
  ipureintro
  exact product_left a2 h2 a3 h3 a5 x0 x1 f2

end Point

end Cert.Win

end
-- ==== Proof.WinPoint.lean ====
/- The three kinds of grid points of the gradient of the input projection's weights: the first greets the three peers and sends them their
   tables; those between only multiply; the last takes what the peers sent. -/
module

public import proofs.«01_k».proof.Proof.WinExchange

@[expose] public section

set_option maxRecDepth 16384

noncomputable section

namespace Cert.Win

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal Cert.Kernel6Ideal.Gen

variable {F : FTy → Type} [FloatOps F]

local notation "𝕄" => MT nD τ sig Unit (Elt F) ℕ UU ℕ

variable (m : (ℓ : Loc nD τ sig) → Buf (Elt F) ℓ) (c : Dev nD) (i : grid0.Coords)
    (a2 : Memref sig .tc .vmem S4096x1024 .bf16) (h2 : a2.IsWhole) (a3 : Memref sig .tc .vmem S1x4096x512 .bf16) (h3 : a3.IsWhole)
    (a5 : Memref sig .tc .vmem S1x1024x512 .bf16) (h5 : a5.IsWhole)
    (x0 : Vec F S4096x1024 .bf16) (x1 : Vec F S1x4096x512 .bf16)

/-! ## Which points exchange -/

theorem sends_iff : ∀ t : Fin grid0.N, k0_cond1 (grid0.coords t) = 1#1 ↔ t.val = 0 := by decide +kernel
theorem takes_iff : ∀ t : Fin grid0.N, k0_cond2 (grid0.coords t) = 1#1 ↔ t.val = 11 := by decide +kernel

/-- A point that exchanges nothing. -/
theorem middle_run (hs : k0_cond1 i ≠ 1#1) (ht : k0_cond2 i ≠ 1#1) (K : PUnit → sProp 𝕄) :
    iprop(blocksIn c a2 a3 a5 x0 x1 ∗ (blocksOut c a2 a3 a5 x0 x1 -∗ K ⟨⟩))
      ⊢ wp frame (wpE (defs₀ (F := F)) Variants.none c none) Set.univ (body (F := F) i a2 h2 a3 h3 a5 h5) K := by
  unfold body
  simp only [cc0_wgrad_in_eq_skeleton]; unfold cc0_wgrad_in_skel
  rw [dif_neg hs, dif_neg ht]
  refine BIBase.Entails.trans ?_ (multiply_run c a2 h2 a3 h3 a5 h5 x0 x1 (fun _ => .ret ⟨⟩) K)
  rw [wp_ret]
  iintro ⟨Hin, Hk⟩
  iframe Hin
  iintro Hout
  imodintro
  iapply Hk; iexact Hout

/-- What a device holds when its first point begins, with what it owes, -/
abbrev sendPre (W : Waits sig Unit) : sProp 𝕄 := iprop(before m c ∗ owes (c : Thread nD τ) (debt c) W)
/-- and once its pieces are on their way. -/
abbrev sendPost : sProp 𝕄 := iprop(during m c ∗ ∃ W, owes (c : Thread nD τ) (0 : CellTallies nD τ sig Unit) W)

set_option maxHeartbeats 4000000 in
/-- The first point: greet the three peers, wait for their greetings, send the pieces, multiply. -/
theorem first_run (hs : k0_cond1 i = 1#1) (ht : k0_cond2 i ≠ 1#1) (W : Waits sig Unit) (K : PUnit → sProp 𝕄) :
    iprop(sendPre m c W ∗ blocksIn c a2 a3 a5 x0 x1 ∗ (iprop(sendPost m c ∗ blocksOut c a2 a3 a5 x0 x1) -∗ K ⟨⟩))
      ⊢ wp frame (wpE (defs₀ (F := F)) Variants.none c none) Set.univ (body (F := F) i a2 h2 a3 h3 a5 h5) K := by
  unfold body
  simp only [cc0_wgrad_in_eq_skeleton]; unfold cc0_wgrad_in_skel
  rw [dif_pos hs]
  simp only [k0_part1_eq_skeleton, k0_part2_eq_skeleton, k0_part3_eq_skeleton]; unfold k0_part1_skel k0_part2_skel k0_part3_skel
  rw [dif_neg ht]
  simp only [Prog.lift, semSignalWord, semWaitWord, Prog.bind_op, Prog.bind_ret, Prog.pure_eq_ret, wp_deviceId]
  unfold sendPre sendPost before opened invs
  iintro ⟨⟨⟨⟨%κ, ⟨#HIbar, ⟨#HS0, #HS1, #HS2⟩, #HG, ⟨#HB0, #HB1, #HB2⟩, ⟨#HM0, #HM1, #HM2⟩⟩, HatB, HatS, HatG, ⟨#HrB0, #HrB1, #HrB2⟩,
    ⟨#HrS0, #HrS1, #HrS2⟩, ⟨#HrG0, #HrG1, #HrG2⟩, ⟨⟨HtB0, HtB1, HtB2⟩, ⟨HtS0, HtS1, HtS2⟩, ⟨HtG0, HtG1, HtG2⟩⟩⟩, HcB, HcG, #Hlev,
    ⟨Hp0, Hp1, Hp2⟩, ⟨Hs0, Hs1, Hs2⟩⟩, HO⟩, Hin, Hk⟩
  -- the three greetings: each peer gets its slot here
  iapply (greet m c _ 1 (Fin.ext (k0_dev1_eq c)) (debt c) (due c 3 + greeting c 2 + greeting c 0) rfl κ W) $$ [HO HtB1 Hs1]
  · iframe HB1 HO HtB1 Hs1 HrG1 HrB1
  iintro HO
  iapply (greet m c _ 0 (Fin.ext (k0_dev2_eq c)) _ (due c 3 + greeting c 2) rfl κ W) $$ [HO HtB0 Hs0]
  · iframe HB0 HO HtB0 Hs0 HrG0 HrB0
  iintro HO
  iapply (greet m c _ 2 (Fin.ext (k0_dev3_eq c)) _ (due c 3) rfl κ W) $$ [HO HtB2 Hs2]
  · iframe HB2 HO HtB2 Hs2 HrG2 HrB2
  iintro HO
  -- the wait on the barrier: the three peers' slots come with the three units
  iapply (Rounds.wp_wait_rest_token Variants.none EX (plan m) (c : Thread nD τ) none (κ := κ (barCell c))
      (wpE_semWait_eq Variants.none (c : Thread nD τ) none Set.univ) (Set.mem_univ _) () (O := due c 3) (W := W) (R := 0) (m := 0) (T := ∅)
      ((Nat.zero_add 3).trans (expect_bar m c).symm)) $$ [HcB HO HatB]
  · iframe HIbar HcB HO
    isplitr; · iapply (mayWait_bar c); iexact Hlev
    iexact HatB
  iintro ⟨HO, HatB, -, Hpay⟩
  ihave Hp := (Entails.of_eq (rest_bar m c)) $$ Hpay
  unfold barPay
  icases Hp with ⟨⟨Hs0, #HrM0⟩, ⟨Hs1, #HrM1⟩, ⟨Hs2, #HrM2⟩⟩
  -- the three copies
  iapply (send_piece m c _ 0 (Fin.ext (k0_dev4_eq c)) 2 rfl _ _ rfl rfl _ _ _ _ (k0_off1_eq c) rfl _ _ _ κ (insert (SemLoc.reg barrier1, ()) W)) $$ [HO Hp0 Hs0 HtS0 HtG0]
  · isplitr [HO]
    · unfold ready
      iframe HS0 HM0 Hp0 Hs0 HtS0 HrS0 HtG0 HrM0
    iexact HO
  iintro ⟨HcS0, HO⟩
  iapply (send_piece m c _ 1 (Fin.ext (k0_dev5_eq c)) 1 rfl _ _ rfl rfl _ _ _ _ (k0_off2_eq c) rfl _ _ _ κ (insert (SemLoc.reg barrier1, ()) W)) $$ [HO Hp1 Hs1 HtS1 HtG1]
  · isplitr [HO]
    · unfold ready
      iframe HS1 HM1 Hp1 Hs1 HtS1 HrS1 HtG1 HrM1
    iexact HO
  iintro ⟨HcS1, HO⟩
  iapply (send_piece m c _ 2 (Fin.ext (k0_dev6_eq c)) 0 rfl _ _ rfl rfl _ _ _ _ (k0_off3_eq c) rfl _ _ _ κ (insert (SemLoc.reg barrier1, ()) W)) $$ [HO Hp2 Hs2 HtS2 HtG2]
  · isplitr [HO]
    · unfold ready
      iframe HS2 HM2 Hp2 Hs2 HtS2 HrS2 HtG2 HrM2
    iexact HO
  iintro ⟨HcS2, HO⟩
  imod (close m (κ (barCell c)) (barCell c)) $$ [HatB] with Hb0
  · iframe HIbar HatB
  iapply (multiply_run c a2 h2 a3 h3 a5 h5 x0 x1 (fun _ => .ret ⟨⟩) K)
  iframe Hin
  iintro Hout
  rw [wp_ret]
  imodintro
  iapply Hk
  isplitr [Hout]
  · isplitr [HO]
    · unfold during
      isplitr
      · iexists κ; unfold invs
        iframe HIbar
        isplitr
        · iframe HS0 HS1 HS2
        iframe HG
        isplitr
        · iframe HB0 HB1 HB2
        iframe HM0 HM1 HM2
      iframe Hb0 HatS HatG
      isplitr [HcG]
      · isplitl [HcS0]; · iexact HcS0
        isplitl [HcS1] <;> iassumption
      iexact HcG
    iexists _; iexact HO
  iexact Hout

/-- What is paid on the semaphore of a departure, and of an arrival. -/
theorem pay_sent (k : Fin 3) : pay m c (role (.dma (sentSem k))) 0 ⊢ pieceRows c k (tables m c) := by rw [role_sent]; exact Entails.refl _
theorem pay_got (k : Fin 3) : pay m c (role (.dma (gotSem k))) 0 ⊢ slotRows c k (landed m c k) := by rw [role_got]; exact Entails.refl _

set_option maxHeartbeats 4000000 in
/-- The last point: multiply, wait for every piece sent and for every piece due, and the six semaphores are done with. -/
theorem last_run (hs : k0_cond1 i ≠ 1#1) (ht : k0_cond2 i = 1#1) (W : Waits sig Unit) (K : PUnit → sProp 𝕄) :
    iprop(iprop(during m c ∗ owes (c : Thread nD τ) (0 : CellTallies nD τ sig Unit) W) ∗ blocksIn c a2 a3 a5 x0 x1
        ∗ (iprop(iprop(after m c ∗ ∃ W, owes (c : Thread nD τ) (0 : CellTallies nD τ sig Unit) W) ∗ blocksOut c a2 a3 a5 x0 x1) -∗ K ⟨⟩))
      ⊢ wp frame (wpE (defs₀ (F := F)) Variants.none c none) Set.univ (body (F := F) i a2 h2 a3 h3 a5 h5) K := by
  unfold body
  simp only [cc0_wgrad_in_eq_skeleton]; unfold cc0_wgrad_in_skel
  rw [dif_neg hs, dif_pos ht]
  simp only [k0_part4_eq_skeleton, k0_part5_eq_skeleton]; unfold k0_part4_skel k0_part5_skel
  simp only [Prog.lift, Prog.bind_op, Prog.bind_ret, Prog.pure_eq_ret]
  iintro ⟨⟨Hd, HO⟩, Hin, Hk⟩
  iapply (multiply_run c a2 h2 a3 h3 a5 h5 x0 x1 _ K)
  iframe Hin
  iintro Hout
  rw [wp_deviceId]
  unfold during invs
  icases Hd with ⟨⟨%κ, ⟨#HIbar, ⟨#HS0, #HS1, #HS2⟩, ⟨#HG0, #HG1, #HG2⟩, #HB, #HM⟩⟩, Hb0, ⟨HaS0, HaS1, HaS2⟩, ⟨HaG0, HaG1, HaG2⟩,
    ⟨HcS0, HcS1, HcS2⟩, ⟨HcG0, HcG1, HcG2⟩⟩
  iapply (wait_piece m c (sentSem 0) _ rfl (single_sent 0) _ _ (credit_piece _ _) _ _ κ W) $$ [HcS0 HO HaS0]
  · isplitr [HO]
    · unfold awaited
      iframe # ∗
    iexact HO
  iintro ⟨⟨%W0, HO⟩, HvS0, HpS0⟩
  iapply (wait_piece m c (gotSem 0) _ rfl (single_got 0) _ _ (credit_slot _ _) _ _ κ W0) $$ [HcG0 HO HaG0]
  · isplitr [HO]
    · unfold awaited
      iframe # ∗
    iexact HO
  iintro ⟨⟨%W1, HO⟩, HvG0, HpG0⟩
  iapply (wait_piece m c (sentSem 1) _ rfl (single_sent 1) _ _ (credit_piece _ _) _ _ κ W1) $$ [HcS1 HO HaS1]
  · isplitr [HO]
    · unfold awaited
      iframe # ∗
    iexact HO
  iintro ⟨⟨%W2, HO⟩, HvS1, HpS1⟩
  iapply (wait_piece m c (gotSem 1) _ rfl (single_got 1) _ _ (credit_slot _ _) _ _ κ W2) $$ [HcG1 HO HaG1]
  · isplitr [HO]
    · unfold awaited
      iframe # ∗
    iexact HO
  iintro ⟨⟨%W3, HO⟩, HvG1, HpG1⟩
  iapply (wait_piece m c (sentSem 2) _ rfl (single_sent 2) _ _ (credit_piece _ _) _ _ κ W3) $$ [HcS2 HO HaS2]
  · isplitr [HO]
    · unfold awaited
      iframe # ∗
    iexact HO
  iintro ⟨⟨%W4, HO⟩, HvS2, HpS2⟩
  iapply (wait_piece m c (gotSem 2) _ rfl (single_got 2) _ _ (credit_slot _ _) _ _ κ W4) $$ [HcG2 HO HaG2]
  · isplitr [HO]
    · unfold awaited
      iframe # ∗
    iexact HO
  iintro ⟨HO, HvG2, HpG2⟩
  rw [wp_ret]
  imodintro
  iapply Hk
  isplitr [Hout]
  · isplitr [HO]
    · unfold after
      iframe Hb0
      isplitl [HvS0 HvS1 HvS2 HvG0 HvG1 HvG2]
      · isplitl [HvS0 HvS1 HvS2]
        · isplitl [HvS0]; · iexact HvS0
          isplitl [HvS1] <;> iassumption
        isplitl [HvG0]; · iexact HvG0
        isplitl [HvG1] <;> iassumption
      isplitl [HpS0 HpS1 HpS2]
      · isplitl [HpS0]; · iapply (pay_sent m c 0); iexact HpS0
        isplitl [HpS1]; · iapply (pay_sent m c 1); iexact HpS1
        iapply (pay_sent m c 2); iexact HpS2
      isplitl [HpG0]; · iapply (pay_got m c 0); iexact HpG0
      isplitl [HpG1]; · iapply (pay_got m c 1); iexact HpG1
      iapply (pay_got m c 2); iexact HpG2
    iexact HO
  iexact Hout

end Cert.Win

end
-- ==== Proof.WinRegion.lean ====
/- The call as a whole, for the gradient of the input projection's weights: what each grid point finds and leaves, and what the call makes of
   the memory it is entered with. -/
module

public import proofs.«01_k».proof.Proof.WinPoint
public import Idealize.ShloMosaic.Lib.Pipeline.FrameBody
public import Idealize.ShloMosaic.Lib.Pipeline.Frame

@[expose] public section

set_option maxRecDepth 16384

noncomputable section

namespace Cert.Win

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel6Ideal Cert.Kernel6Ideal.Gen

variable {F : FTy → Type} [FloatOps F]

local notation "𝕄" => MT nD τ sig Unit (Elt F) ℕ UU ℕ

variable (m : (ℓ : Loc nD τ sig) → Buf (Elt F) ℓ)

/-! ## What a point finds and leaves -/

/-- Window `w`'s block at point `t`, read out of the array the call is entered with. -/
def iblk (c : Dev nD) (w : Fin cfg0.W) (t : Fin cfg0.N) : ((cfg0.win w).xblock (cfg0.grid.coords t)).Idx → Elt F (cfg0.win w).elt :=
  ((cfg0.win w).blk t).view.read (Elt F) (V₁ m c (Pipeline.arrRef spec0 w))

/-- Where the exchange stands before the first point, between points and after the last. -/
def stage (c : Dev nD) (n : ℕ) : sProp 𝕄 := if n = 0 then before m c else if n = 12 then after m c else during m c

theorem stage_start (c : Dev nD) : stage m c 0 = before m c := if_pos rfl
theorem stage_end (c : Dev nD) : stage m c 12 = after m c := (if_neg (by decide)).trans (if_pos rfl)
theorem stage_mid (c : Dev nD) (n : ℕ) (h0 : n ≠ 0) (h4 : n ≠ 12) : stage m c n = during m c := (if_neg h0).trans (if_neg h4)

abbrev pieceSet (c : Dev nD) (k : Fin 3) : Finset (Idx ((c : Thread nD τ).loc main_arg2)) := (piece c k).view.set

/-- The table that stays. -/
def stayRows (c : Dev nD) : sProp 𝕄 :=
  ((c : Thread nD τ).loc main_arg2 ↦[Finset.univ \ Finset.univ.biUnion (pieceSet c)]{fullShare} tables m c)

def dat (c : Dev nD) : Dat τ (Elt F) Unit ℕ UU ℕ cfg0 c where
  A w := V₁ m c (Pipeline.arrRef spec0 w)
  after w t := match w with
    | ⟨0, _⟩ => iblk m c 0 t
    | ⟨1, _⟩ => iblk m c 1 t
    | ⟨2, _⟩ => k0_pay1 (iblk m c 0 t) (iblk m c 1 t)
  Φ t := iprop(stage m c t.val ∗ stayRows m c ∗ ∃ r, prngReg c r)
  q _ := fullShare
  owed t := if t.val = 0 then debt c else 0

theorem A_eq (c : Dev nD) (w : Fin cfg0.W) : (dat m c).A w = V₁ m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = k0_pay1 (iblk m c 0 t) (iblk m c 1 t) := by dsimp only [dat]

theorem before_0 (c : Dev nD) (t : Fin cfg0.N) (d) : (dat m c).before 0 t d = iblk m c 0 t :=
  ((dat m c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dat m c).before 1 t d = iblk m c 1 t :=
  ((dat m c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)

theorem owed_start (c : Dev nD) (t : Fin (cfg0.N + 1)) (h : t.val = 0) : (dat m c).owed t = debt c := by dsimp only [dat]; exact if_pos h
theorem owed_after (c : Dev nD) (t : Fin (cfg0.N + 1)) (h : t.val ≠ 0) : (dat m c).owed t = 0 := by dsimp only [dat]; exact if_neg h

theorem owesAt_intro (c : Dev nD) (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound
  rw [h, show (dat m c).recorded t = Set.univ from rfl]
  iintro HO; iexists W; isplitr; · ipureintro; exact fun _ _ => Or.inl trivial
  iexact HO
theorem owesAt_elim (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-! ## Every point does what it should -/

def pointPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d)))
def pointPost (c : Dev nD) (t : Fin cfg0.N) : sProp 𝕄 :=
  iprop((dat m c).Φ t.succ ∗ (dat m c).owesAt () t.succ
    ∗ (dat m c).leavesExact 0 t ∗ (dat m c).leavesExact 1 t ∗ (dat m c).leavesExact 2 t)

theorem leaves_0 (c : Dev nD) (t : Fin cfg0.N) :
    (dat m c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) :
    (dat m c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) :
    (dat m c).leavesExact 2 t = owns (c : Thread nD τ) (st0_2 t) fullShare (k0_pay1 (iblk m c 0 t) (iblk m c 1 t)) := by
  unfold Dat.leavesExact; rw [show cfg0.idle 2 (grid0.coords t) = false from rfl, after_2]

theorem sound_point (c : Dev nD) (t : Fin cfg0.N) :
    pointPre m c t ⊢ wp frame (wpE (defs₀ (F := F)) Variants.none c none) Set.univ (bodyAt0 t) (fun _ => pointPost m c t) := by
  unfold pointPre pointPost
  rw [leaves_0, leaves_1, leaves_2, show (dat m c).Φ t.castSucc = iprop(stage m c t.val ∗ stayRows m c ∗ ∃ r, prngReg c r) from rfl,
    show (dat m c).Φ t.succ = iprop(stage m c (t.val + 1) ∗ stayRows m c ∗ ∃ r, prngReg c r) from rfl]
  simp only [before_0, before_1]
  have hN : t.val < 12 := lt_of_lt_of_eq t.isLt N_0
  iintro ⟨⟨Hs, Hp⟩, HO, ⟨%d0, H0⟩, ⟨%d1, H1⟩, ⟨%d2, H2⟩⟩
  by_cases h0 : t.val = 0
  · ihave HO' := (owesAt_elim m c t.castSucc (debt c) (owed_start m c _ h0)) $$ HO
    icases HO' with ⟨%W, HO⟩
    iapply (first_run m c (grid0.coords t) _ _ _ _ _ _ (iblk m c 0 t) (iblk m c 1 t) ((sends_iff t).mpr h0)
      (fun h => by have := (takes_iff t).mp h; omega) W _)
    isplitl [Hs HO]
    · unfold sendPre
      isplitl [Hs]; · iapply (Entails.of_eq ((congrArg (stage m c) h0).trans (stage_start m c))); iexact Hs
      iexact HO
    isplitl [H0 H1 H2]
    · iframe H0 H1
      iexists _; iexact H2
    unfold sendPost
    iintro ⟨⟨Hd, ⟨%W', HO⟩⟩, H0, H1, H2⟩
    isplitl [Hd Hp]
    · isplitl [Hd]; · iapply (Entails.of_eq (stage_mid m c (t.val + 1) (by omega) (by omega)).symm); iexact Hd
      iexact Hp
    isplitl [HO]; · iapply (owesAt_intro m c t.succ 0 (owed_after m c _ (Nat.succ_ne_zero _)) W'); iexact HO
    iframe
  · ihave HO' := (owesAt_elim m c t.castSucc 0 (owed_after m c _ h0)) $$ HO
    icases HO' with ⟨%W, HO⟩
    by_cases h3 : t.val = 11
    · iapply (last_run m c (grid0.coords t) _ _ _ _ _ _ (iblk m c 0 t) (iblk m c 1 t) (fun h => h0 ((sends_iff t).mp h))
        ((takes_iff t).mpr h3) W _)
      isplitl [Hs HO]
      · isplitl [Hs]; · iapply (Entails.of_eq (stage_mid m c t.val h0 (by omega))); iexact Hs
        iexact HO
      isplitl [H0 H1 H2]
      · iframe H0 H1
        iexists _; iexact H2
      iintro ⟨⟨Ha, ⟨%W', HO⟩⟩, H0, H1, H2⟩
      isplitl [Ha Hp]
      · isplitl [Ha]; · iapply (Entails.of_eq ((congrArg (fun n => stage m c (n + 1)) h3).trans (stage_end m c)).symm); iexact Ha
        iexact Hp
      isplitl [HO]; · iapply (owesAt_intro m c t.succ 0 (owed_after m c _ (Nat.succ_ne_zero _)) W'); iexact HO
      iframe
    · iapply (middle_run c (grid0.coords t) _ _ _ _ _ _ (iblk m c 0 t) (iblk m c 1 t) (fun h => h0 ((sends_iff t).mp h))
        (fun h => h3 ((takes_iff t).mp h)) _)
      isplitl [H0 H1 H2]
      · iframe H0 H1
        iexists _; iexact H2
      iintro ⟨H0, H1, H2⟩
      isplitl [Hs Hp]
      · isplitl [Hs]
        · iapply (Entails.of_eq ((stage_mid m c t.val h0 (by omega)).trans (stage_mid m c (t.val + 1) (by omega) (by omega)).symm)); iexact Hs
        iexact Hp
      isplitl [HO]; · iapply (owesAt_intro m c t.succ 0 (owed_after m c _ (Nat.succ_ne_zero _)) W); iexact HO
      iframe

theorem defs₀_row (t : Fin cfg0.N) : defs₀ (F := F) .tc cfg0.body (cfg0.bodyArgs t (cfg0.slots t)) = bodyAt0 t := by
  unfold defs₀; rw [Defs.onTc_tc]

theorem sound_body (c : Dev nD) : BodyObligation (dat m c) (defs₀ (F := F)) Variants.none () Set.univ := fun t => by
  rw [bigSep_W0, bigSep_W0, defs₀_row]
  exact triple_restated (sound_point m c t) rfl .rfl fun _ => .rfl

/-! ## The memory the call leaves -/

abbrev adm : (p : Fin 1) → (pcfgs (F := F) p).Adm := fun p => (cfgs p).toPCfg_adm
def dats : (p : Fin 1) → (c : Dev nD) → Dat τ (Elt F) Unit ℕ UU ℕ (Pipeline.pin (pcfgs (F := F)) adm p) c
  | 0 => dat m

/-- Entered with a device's memory `V₁`, the call leaves the blocks written back and the landing buffer filled. -/
abbrev V₂ (c : Dev nD) : Valuation τ sig (Elt F) :=
  Function.update (Function.update (V₁ m c) (Proc.devRef .tc main_v1_1) (arrived m c))
    (Proc.devRef .tc main_v1_0) ((dat m c).arrAt 2 cfg0.N)

theorem V₂_landing (c : Dev nD) : V₂ m c main_v1_1 = arrived m c :=
  (Function.update_of_ne (by decide) ..).trans (Function.update_self ..)
theorem V₂_blocks (c : Dev nD) : V₂ m c main_v1_0 = (dat m c).arrAt 2 cfg0.N := Function.update_self ..
theorem V₂_ne (c : Dev nD) (b : Ref sig .tc) (h0 : b ≠ main_v1_0) (h1 : b ≠ main_v1_1) : V₂ m c b = V₁ m c b :=
  have inj {x : Ref sig .tc} (h : b ≠ x) : (Proc.devRef .tc b : DevRef τ sig) ≠ Proc.devRef .tc x := fun e => h (Proc.devRef_injective .tc e)
  (Function.update_of_ne (inj h0) ..).trans (Function.update_of_ne (inj h1) ..)

/-! ## The two buffers the exchange addresses, cut up -/

/-- A device's tables are the three pieces it sends and the one that stays. -/
theorem tables_split (c : Dev nD) :
    (((c : Thread nD τ).loc main_arg2 ↦{fullShare} tables m c) : sProp 𝕄) ⊣⊢ iprop(three (fun k => pieceRows c k (tables m c)) ∗ stayRows m c) := by
  have h := pointsTo_split_subset (Ix := Unit) (Name := ℕ) (U := UU) (Lvl := ℕ) (ℓ := (c : Thread nD τ).loc main_arg2) (q := fullShare)
    (f := tables m c) (Finset.subset_univ (Finset.univ.biUnion (pieceSet c)))
  have e := pointsTo_biUnion (Ix := Unit) (Name := ℕ) (U := UU) (Lvl := ℕ) (ℓ := (c : Thread nD τ).loc main_arg2) (q := fullShare) (f := tables m c)
    Finset.univ (pieceSet c) (fun k _ l _ h => pieces_disjoint c h)
  rw [three_eq] at e
  rw [e] at h
  exact h

abbrev slotSet (c : Dev nD) (k : Fin 3) : Finset (Idx ((c : Thread nD τ).loc main_v1_1)) := (slot k).view.set

theorem slots_cover (c : Dev nD) : Finset.univ.biUnion (slotSet c) = Finset.univ :=
  Finset.eq_univ_iff_forall.mpr fun i => Finset.mem_biUnion.mpr ⟨⟨(i (0 : Fin 4)).val, (i (0 : Fin 4)).isLt⟩, Finset.mem_univ _, (mem_slot _ i).mpr rfl⟩

/-- The landing buffer is its three slots. -/
theorem landing_split (c : Dev nD) (f : (main_v1_1 : Ref sig .tc).ty.Contents (Elt F)) :
    (((c : Thread nD τ).loc main_v1_1 ↦{fullShare} f) : sProp 𝕄) = three (fun k => slotRows c k f) := by
  have h := pointsTo_biUnion (Ix := Unit) (Name := ℕ) (U := UU) (Lvl := ℕ) (ℓ := (c : Thread nD τ).loc main_v1_1) (q := fullShare) (f := f)
    Finset.univ (slotSet c) (fun k _ l _ h => slots_disjoint h)
  rw [slots_cover c, three_eq] at h
  exact h

/-- Slot `k` after its arrival is slot `k` of the filled buffer. -/
theorem slot_filled (c : Dev nD) (k : Fin 3) : (slotRows c k (landed m c k) : sProp 𝕄) = slotRows c k (arrived m c) :=
  pointsTo_congr fun i hi => by
    have e : (⟨(i (0 : Fin 4)).val, (i (0 : Fin 4)).isLt⟩ : Fin 3) = k := Fin.ext ((mem_slot k i).mp hi)
    unfold arrived; rw [e]

end Cert.Win

end
-- ==== Proof.WinCall.lean ====
/- The call for the gradient of the input projection's weights as a segment of the program: the buffers it finds beside its arrays, its
   semaphores opened and closed. -/
module

public import proofs.«01_k».proof.Proof.WinRegion
public import Idealize.ShloMosaic.Lib.Pipeline.RegionTalk

@[expose] public section

set_option maxRecDepth 16384

noncomputable section

namespace Cert.Win

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel6Ideal Cert.Kernel6Ideal.Gen

variable {F : FTy → Type} [FloatOps F]

local notation "𝕄" => MT nD τ sig Unit (Elt F) ℕ UU ℕ

variable (m : (ℓ : Loc nD τ sig) → Buf (Elt F) ℓ)

/-! ## The buffers the call finds beside its arrays -/

/-- The two buffers the call addresses itself. -/
abbrev besideArrays : Finset (DevRef τ sig) := {Proc.devRef .tc main_arg2, Proc.devRef .tc main_v1_1}
abbrev allBufs : Finset (DevRef τ sig) := Pipeline.ucRefs τ sig

theorem held_beside (c : Dev nD) (W : Valuation τ sig (Elt F)) :
    (StableHlo.held (c.tc : Thread nD τ) besideArrays W : sProp 𝕄)
      = iprop(((c : Thread nD τ).loc main_arg2 ↦{fullShare} W main_arg2) ∗ ((c : Thread nD τ).loc main_v1_1 ↦{fullShare} W main_v1_1)) := by
  unfold StableHlo.held
  rw [bigSep_eq_bigSepL_of_eq [Proc.devRef .tc main_arg2, Proc.devRef .tc main_v1_1] (by decide) (by decide)]
  rfl

/-- All unscoped buffers: the call's arrays and the two beside. -/
theorem held_all (c : Dev nD) (W : Valuation τ sig (Elt F)) :
    (StableHlo.held (c.tc : Thread nD τ) allBufs W : sProp 𝕄)
      = iprop(StableHlo.held (c.tc : Thread nD τ) (Pipeline.arrRefs (τ := τ) spec0) W ∗ StableHlo.held (c.tc : Thread nD τ) besideArrays W) := by
  rw [StableHlo.held_sub_split (c.tc : Thread nD τ) (T := Pipeline.arrRefs (τ := τ) spec0) (S := allBufs) (by decide) W,
    show allBufs \ Pipeline.arrRefs (τ := τ) spec0 = besideArrays from by decide]

theorem held_each (c : Dev nD) (W : Valuation τ sig (Elt F)) :
    (StableHlo.held (c.tc : Thread nD τ) allBufs W : sProp 𝕄)
      = iprop(((c : Thread nD τ).loc main_arg0 ↦{fullShare} W main_arg0) ∗ ((c : Thread nD τ).loc main_arg1 ↦{fullShare} W main_arg1)
        ∗ ((c : Thread nD τ).loc main_arg2 ↦{fullShare} W main_arg2) ∗ ((c : Thread nD τ).loc main_v1_0 ↦{fullShare} W main_v1_0)
        ∗ ((c : Thread nD τ).loc main_v1_1 ↦{fullShare} W main_v1_1)) := by
  unfold StableHlo.held
  rw [bigSep_eq_bigSepL_of_eq [Proc.devRef .tc main_arg0, Proc.devRef .tc main_arg1, Proc.devRef .tc main_arg2, Proc.devRef .tc main_v1_0,
    Proc.devRef .tc main_v1_1] (by decide) (by decide)]
  rfl

/-- A resource on each of the call's six semaphores: on the three of the departures and the three of the arrivals. -/
theorem six_eq (Φ : SemLoc sig → sProp 𝕄) :
    bigSep Finset.univ (fun k : Fin 6 => Φ (ownSem k)) = iprop(three (fun k => Φ (.dma (sentSem k))) ∗ three (fun k => Φ (.dma (gotSem k)))) := by
  rw [bigSep_univ_equiv (finSumFinEquiv : Fin 3 ⊕ Fin 3 ≃ Fin 6), bigSep_univ_sum, three_eq, three_eq]
  rfl

theorem ownSems_eq (c : Dev nD) :
    (Pipeline.ownSems0 ownSem c : sProp 𝕄) = iprop(three (fun k => semVal (sentCell c k) 0) ∗ three (fun k => semVal (gotCell c k) 0)) :=
  six_eq (fun s => (semVal ((c : Thread nD τ), s) 0 : sProp 𝕄))

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barrier1} from by decide, BI.bigSep_singleton]

/-! ## The call as a segment of the program -/

/-- What the launch leaves for the call; what the call enters its first point with. -/
def kept (c : Dev nD) : sProp 𝕄 :=
  iprop((∃ K, ghost m K c) ∗ cred (tallyAt (barCell c) () 3) ∗ three (fun k => cred (tallyAt (gotCell c k) () credit)))
def entered (c : Dev nD) : sProp 𝕄 :=
  iprop((∃ K, opened m K c) ∗ cred (tallyAt (barCell c) () 3) ∗ three (fun k => cred (tallyAt (gotCell c k) () credit)) ∗ levAts L lv)
def left (c : Dev nD) : sProp 𝕄 := semVal (barCell c) 0

/-- Three semaphores opened together. -/
theorem open_three (K : GSem nD τ sig → ℕ) (g : Fin 3 → GSem nD τ sig) :
    iprop(three (fun k => cellInv EX (plan m) (K (g k)) (g k)) ∗ three (fun k => openTok EX (g k)) ∗ three (fun k => semVal (g k) 0))
      ⊢ (|={Set.univ}=> iprop(three (fun k => atPos EX (g k) 0 ∅ 0) ∗ three (fun k => reached EX (g k) 0)) : sProp 𝕄) := by
  iintro ⟨⟨#H0, #H1, #H2⟩, ⟨Ho0, Ho1, Ho2⟩, ⟨Hs0, Hs1, Hs2⟩⟩
  imod (Rounds.cell_open EX (plan m) (g := g 0) (Set.mem_univ (K (g 0)))) $$ [Ho0 Hs0] with ⟨Ha0, #Hr0⟩
  · iframe # ∗
  imod (Rounds.cell_open EX (plan m) (g := g 1) (Set.mem_univ (K (g 1)))) $$ [Ho1 Hs1] with ⟨Ha1, #Hr1⟩
  · iframe # ∗
  imod (Rounds.cell_open EX (plan m) (g := g 2) (Set.mem_univ (K (g 2)))) $$ [Ho2 Hs2] with ⟨Ha2, #Hr2⟩
  · iframe # ∗
  imodintro
  isplitl [Ha0 Ha1 Ha2]
  · isplitl [Ha0]; · iexact Ha0
    isplitl [Ha1] <;> iassumption
  iframe Hr0 Hr1 Hr2

theorem open_cells (c : Dev nD) : iprop(kept m c ∗ Pipeline.ownSems0 ownSem c ∗ levAts L lv) ⊢ (|={Set.univ}=> entered m c : sProp 𝕄) := by
  rw [ownSems_eq]
  unfold kept entered
  iintro ⟨⟨⟨%K, Hg⟩, HcB, HcG⟩, ⟨Hs0, Hg0⟩, #Hlev⟩
  unfold ghost invs
  icases Hg with ⟨⟨#HIbar, #HIsent, #HIgot, #HIbarM, #HIgotM⟩, HatB, HoS, HoG, #HrM, Hpay⟩
  imod (open_three m K (sentCell c)) $$ [HoS Hs0] with ⟨HatS, #HrS⟩
  · iframe # ∗
  imod (open_three m K (gotCell c)) $$ [HoG Hg0] with ⟨HatG, #HrG⟩
  · iframe # ∗
  imodintro
  isplitl [HatB HatS HatG Hpay]
  · iexists K; unfold opened invs
    isplitr
    · iframe HIbar HIsent HIgot HIbarM HIgotM
    iframe HatB HatS HatG HrM HrS HrG Hpay
  iframe HcB HcG Hlev

theorem enter (c : Dev nD) :
    iprop(Pipeline.scopedRest (Pipeline.pin (pcfgs (F := F)) adm 0).spec c ∗ (∃ r, prngReg c r)
        ∗ StableHlo.held (c.tc : Thread nD τ) besideArrays (V₁ m c) ∗ entered m c) ⊢ (dats m 0 c).Φ 0 := by
  rw [show (dats m 0 c).Φ 0 = iprop(stage m c 0 ∗ stayRows m c ∗ ∃ r, prngReg c r) from rfl, stage_start, held_beside]
  unfold entered before
  iintro ⟨-, Hp, ⟨Ht, Hl⟩, HK, HcB, HcG, #Hlev⟩
  ihave Ht' := (tables_split m c).1 $$ Ht
  icases Ht' with ⟨Hpieces, Hstay⟩
  ihave Hl' := (Entails.of_eq (landing_split c (landing m c))) $$ Hl
  isplitr [Hp Hstay]
  · iframe # ∗
  iframe

theorem leave (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) besideArrays (V₂ m c) ∗ Pipeline.ownSems0 ownSem c ∗ left c) := by
  rw [show (dats m 0 c).Φ (Fin.last _) = iprop(stage m c grid0.N ∗ stayRows m c ∗ ∃ r, prngReg c r) from rfl, N_0, stage_end, held_beside, ownSems_eq,
    show (Pipeline.scopedRest (Pipeline.pin (pcfgs (F := F)) adm 0).spec c : sProp 𝕄) = (BI.emp : sProp 𝕄) from scopedRest0_eq c, V₂_landing,
    V₂_ne m c main_arg2 (by decide) (by decide)]
  unfold after left
  rw [show (fun k : Fin 3 => (slotRows c k (landed m c k) : sProp 𝕄)) = fun k => slotRows c k (arrived m c) from funext (slot_filled m c)]
  iintro ⟨⟨Hb0, Hss, Hpieces, Hslots⟩, Hstay, Hp⟩
  isplitr; · iempintro
  iframe Hp
  isplitl [Hpieces Hslots Hstay]
  · isplitl [Hpieces Hstay]
    · iapply (tables_split m c).2
      iframe
    iapply (Entails.of_eq (landing_split c (arrived m c)).symm)
    iexact Hslots
  iframe Hss Hb0

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_level (c : Dev nD) (t : Fin ((Pipeline.pin (pcfgs (F := F)) adm 0).N + 1)) (g : GSem nD τ sig) (i : Unit)
    (h : 0 < (dats (F := F) m 0 c).owed t g i) : i ∈ L g ∧ (0 : ℕ) < lv g i := by
  rw [show (dats (F := F) m 0 c).owed t = if t.val = 0 then debt c else 0 from rfl] at h
  split at h
  · rcases debt_cell h with ⟨k, rfl⟩ | ⟨k, rfl⟩
    · exact ⟨mem_L .., by rw [lv_got]; decide⟩
    · exact ⟨mem_L .., by rw [lv_bar]; decide⟩
  · exact absurd h (Nat.lt_irrefl 0)

/-- The staging semaphores have no part in the exchange: they come before the barrier and the arrivals. -/
theorem staging_role : ∀ (w : Fin 3) (s : Fin (spec0 w).nbuf), role (.dma ((spec0 w).sem s)) = .other := by decide
theorem staging_level (c : Dev nD) (w : Fin 3) (s : Fin (spec0 w).nbuf) : lv ((c : Thread nD τ), .dma ((spec0 w).sem s)) () ≤ 0 := by
  unfold lv; dsimp only; rw [staging_role]

theorem arrays_kept (c : Dev nD) (w : Fin 3) :
    (dat m c).arrAt w cfg0.N = V₂ m c (Proc.devRef .tc (Pipeline.arrRef spec0 w)) := by
  match w with
  | ⟨0, _⟩ => exact ((dat m c).arrAt_in 0 rfl _).trans ((A_eq m c 0).trans (V₂_ne m c main_arg0 (by decide) (by decide)).symm)
  | ⟨1, _⟩ => exact ((dat m c).arrAt_in 1 rfl _).trans ((A_eq m c 1).trans (V₂_ne m c main_arg1 (by decide) (by decide)).symm)
  | ⟨2, _⟩ => exact (V₂_blocks m c).symm

theorem arrays_found (c : Dev nD) (w : Fin 3) : (dat m c).arrAt w 0 = V₁ m c (Proc.devRef .tc (Pipeline.arrRef spec0 w)) := A_eq m c w

local notation "ℝ" => Pipeline.RegionSeg (pcfgs (F := F)) adm (dats m) () defs₀ Variants.none L lv

set_option backward.isDefEq.respectTransparency.types false in
def call : ℝ 0 :=
  Pipeline.RegionSeg.ofTalk (pcfgs (F := F)) adm (dats m) () defs₀ Variants.none L lv 0 ownSem (by decide : Pipeline.OwnSemFacts spec0 ownSem)
    besideArrays besideArrays (by decide) kit rfl (fun c => (sound_body m c).loose)
    (fun _ => 0) debt (fun c => (owed_start m c 0 rfl).trans (zero_add _).symm)
    (fun c => owed_after m c (Fin.last _) (by rw [Fin.val_last, show cfg0.N = 12 from N_0]; decide)) (fun _ => rfl)
    (fun c => (dat m c).share_full fun _ => rfl)
    (V₁ m) (V₂ m) (fun c b hb => absurd hb (by rw [Finset.sdiff_self]; exact Finset.notMem_empty b))
    (kept m) left (entered m) left (open_cells m) (enter m) (leave m)
    (fun c => by iintro H; imodintro; iexact H)
    (fun _ => 0)
    ⟨fun c w s => mem_L c _ _, fun c w s => staging_level c w s, fun c t g i h => owed_level m c t g i h⟩
    (fun _ => iprop(emp))
    (arrays_found m) (arrays_kept m)

/-- Beside the buffers, up to the call: what the launch left for it, the generator register, and the debt. -/
def riding (c : Dev nD) : sProp 𝕄 := iprop(kept m c ∗ (∃ r, prngReg c r) ∗ ∃ W, owes (c : Thread nD τ) (debt c) W)

abbrev first (c : Dev nD) : sProp 𝕄 := iprop(StableHlo.held (c.tc : Thread nD τ) allBufs (V₁ m c) ∗ riding m c)
abbrev last (c : Dev nD) : sProp 𝕄 := iprop(StableHlo.held (c.tc : Thread nD τ) allBufs (V₂ m c) ∗ semVal (barCell c) 0)

theorem call_pre (c : Dev nD) : first m c ⊢ (call m).pre c := by
  show _ ⊢ iprop(StableHlo.held (c.tc : Thread nD τ) (Pipeline.arrRefs (τ := τ) spec0) (V₁ m c) ∗ (∃ r, prngReg c r)
    ∗ (StableHlo.held (c.tc : Thread nD τ) besideArrays (V₁ m c) ∗ emp) ∗ kept m c ∗ ∃ Wd, owes (c : Thread nD τ) (0 + debt c) Wd)
  dsimp only [first]
  rw [held_all, zero_add]
  unfold riding
  iintro ⟨⟨Ha, Hb⟩, HK, Hp, HO⟩
  iframe Ha Hp Hb HK HO

theorem call_post (c : Dev nD) : (call m).post c ⊢ iprop(last m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) besideArrays (V₂ m c) ∗ emp) ∗ left c ∗ ∃ Wd, owes (c : Thread nD τ) (0 : CellTallies nD τ sig Unit) Wd) ⊢ _
  dsimp only [last]
  rw [held_all]
  unfold left
  iintro ⟨Ha, -, ⟨Hb, -⟩, Hb0, HO⟩
  isplitr [HO]
  · isplitl [Ha Hb]
    · iframe
    iexact Hb0
  iexact HO

def segs : List (Pipeline.Seg (pcfgs (F := F)) adm (dats m) () defs₀ Variants.none L lv) := [.region (call m)]

end Cert.Win

end
-- ==== Proof.WinRun.lean ====
/- The run of the gradient of the input projection's weights on the four devices of a square: the launch deals out what the exchange needs,
   the call runs, and every execution ends with the blocks written back and the landing buffers filled. -/
module

public import proofs.«01_k».proof.Proof.WinCall
public import proofs.«01_k».proof.Proof.Families

@[expose] public section

set_option maxRecDepth 16384

noncomputable section

namespace Cert.Win

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel6Ideal Cert.Kernel6Ideal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSem_inj : Function.Injective ownSem := by decide
theorem ownSem_ne_bar : ∀ k : Fin 6, ownSem k ≠ .reg barrier1 := by decide

def barEmb : Dev nD ↪ GSem nD τ sig := ⟨fun c => barCell c, fun _ _ h => congrArg (fun g : GSem nD τ sig => g.1.1) h⟩
def ownEmb : Dev nD × Fin 6 ↪ GSem nD τ sig :=
  ⟨fun ck => ((ck.1 : Thread nD τ), ownSem ck.2), fun _ _ h =>
    Prod.ext (congrArg (fun g : GSem nD τ sig => g.1.1) h) (ownSem_inj (congrArg Prod.snd h))⟩

/-- The barriers, whose counters the launch holds; the call's own semaphores, whose counters come with the call. -/
abbrev barCells : Finset (GSem nD τ sig) := Finset.univ.map barEmb
abbrev ownCells : Finset (GSem nD τ sig) := Finset.univ.map ownEmb

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact ownSem_ne_bar ck.2 (congrArg Prod.snd h)

/-- Three duties on each barrier, one on each of the others. -/
def barDuty : Dev nD × Fin 3 ↪ GSem nD τ sig × ℕ × Fin 3 :=
  ⟨fun ck => (barCell ck.1, 0, ck.2), fun _ _ h => Prod.ext (congrArg (fun x : GSem nD τ sig × ℕ × Fin 3 => x.1.1.1) h) (congrArg (fun x : GSem nD τ sig × ℕ × Fin 3 => x.2.2) h)⟩
def ownDuty : GSem nD τ sig ↪ GSem nD τ sig × ℕ × Fin 3 := ⟨fun g => (g, 0, 0), fun _ _ h => congrArg (fun t : GSem nD τ sig × ℕ × Fin 3 => t.1) h⟩
abbrev barDuties : Finset (GSem nD τ sig × ℕ × Fin 3) := Finset.univ.map barDuty
abbrev ownDuties : Finset (GSem nD τ sig × ℕ × Fin 3) := (ownCells : Finset (GSem nD τ sig)).map ownDuty
def duties : Finset (GSem nD τ sig × ℕ × Fin 3) := barDuties ∪ ownDuties

theorem duties_disjoint : Disjoint barDuties ownDuties := by
  rw [Finset.disjoint_left]
  rintro x h₁ h₂
  obtain ⟨ck, -, rfl⟩ := Finset.mem_map.mp h₁
  obtain ⟨g, hg, h⟩ := Finset.mem_map.mp h₂
  obtain rfl : g = barCell ck.1 := congrArg (fun t : GSem nD τ sig × ℕ × Fin 3 => t.1) h
  exact Finset.disjoint_left.mp cells_disjoint (Finset.mem_map_of_mem barEmb (Finset.mem_univ ck.1)) hg

theorem bar_mem (c : Dev nD) : barCell c ∈ (barCells ∪ ownCells : Finset (GSem nD τ sig)) :=
  Finset.mem_union_left _ (Finset.mem_map_of_mem barEmb (Finset.mem_univ c))
theorem sent_mem (c : Dev nD) (k : Fin 3) : sentCell c k ∈ (barCells ∪ ownCells : Finset (GSem nD τ sig)) :=
  Finset.mem_union_right _ (Finset.mem_map.mpr ⟨(c, Fin.castAdd 3 k), Finset.mem_univ _, rfl⟩)
theorem got_mem (c : Dev nD) (k : Fin 3) : gotCell c k ∈ (barCells ∪ ownCells : Finset (GSem nD τ sig)) :=
  Finset.mem_union_right _ (Finset.mem_map.mpr ⟨(c, Fin.natAdd 3 k), Finset.mem_univ _, by revert k; decide +kernel +revert⟩)

/-- The launch's element: the library's share of it, and this exchange's. -/
def launchElt : UU :=
  (initOf (Pipeline.cells (Pipeline.pin (pcfgs (F := F)) adm) cellOf_inj) (Pipeline.launchToks (Pipeline.pin (pcfgs (F := F)) adm) cellOf_inj),
    launchOf barCells ownCells duties)

/-- This exchange's share is set aside on device 0 until the devices' resources are dealt together. -/
def aside (c : Dev nD) : sProp 𝕄 := if c = 0 then BI.own (EX (launchOf barCells ownCells duties)) else iprop(emp)
theorem aside_eq : (bigSep Finset.univ fun c : Dev nD => (aside c : sProp 𝕄)) = BI.own (EX (launchOf barCells ownCells duties)) := one_aside 0 _

/-- What all devices may consult: the invariants, and that every barrier is in its first round. -/
def records (κ : GSem nD τ sig → ℕ) : sProp 𝕄 :=
  iprop((bigSep (barCells ∪ ownCells) fun g => cellInv EX (plan m) (κ g) g) ∗ bigSep barCells fun g => reached EX g 0)

instance records_persistent (κ : GSem nD τ sig → ℕ) : BI.Persistent (records m κ) := by unfold records; infer_instance

theorem inv_at (κ : GSem nD τ sig → ℕ) {g : GSem nD τ sig} (hg : g ∈ (barCells ∪ ownCells : Finset (GSem nD τ sig))) :
    (bigSep (barCells ∪ ownCells) fun g => (cellInv EX (plan m) (κ g) g : sProp 𝕄)) ⊢ cellInv EX (plan m) (κ g) g :=
  bigSep_elim hg
theorem inv_three (κ : GSem nD τ sig → ℕ) (g : Fin 3 → GSem nD τ sig) (hg : ∀ k, g k ∈ (barCells ∪ ownCells : Finset (GSem nD τ sig))) :
    (bigSep (barCells ∪ ownCells) fun g => (cellInv EX (plan m) (κ g) g : sProp 𝕄)) ⊢ three (fun k => cellInv EX (plan m) (κ (g k)) (g k)) := by
  iintro #H
  isplitr; · iapply (inv_at m κ (hg 0)); iexact H
  isplitr; · iapply (inv_at m κ (hg 1)); iexact H
  iapply (inv_at m κ (hg 2)); iexact H

theorem reached_at (c : Dev nD) : (bigSep barCells fun g => (reached EX g 0 : sProp 𝕄)) ⊢ reached EX (barCell c) 0 :=
  bigSep_elim (Finset.mem_map_of_mem barEmb (Finset.mem_univ c))

theorem reached_three (c : Dev nD) : (bigSep barCells fun g => (reached EX g 0 : sProp 𝕄)) ⊢ three (fun k => reached EX (barCell (peer c k)) 0) := by
  iintro #H
  isplitr; · iapply (reached_at (F := F) (peer c 0)); iexact H
  isplitr; · iapply (reached_at (F := F) (peer c 1)); iexact H
  iapply (reached_at (F := F) (peer c 2)); iexact H

/-- What a device alone holds: its place on its barrier, the rights to open its six semaphores, the duties it pays. -/
def alone (c : Dev nD) : sProp 𝕄 :=
  iprop(atPos EX (barCell c) 0 ∅ 0 ∗ (three (fun k => openTok EX (sentCell c k)) ∗ three (fun k => openTok EX (gotCell c k))) ∗ payable c)

theorem ghost_intro (κ : GSem nD τ sig → ℕ) (c : Dev nD) : iprop(records m κ ∗ alone c) ⊢ iprop(∃ K, ghost m K c) := by
  unfold records alone ghost invs
  iintro ⟨⟨#HI, #HR⟩, HaB, ⟨HoS, HoG⟩, Hpay⟩
  iexists κ
  isplitr
  · isplitr; · iapply (inv_at m κ (bar_mem c)); iexact HI
    isplitr; · iapply (inv_three m κ (sentCell c) (sent_mem c)); iexact HI
    isplitr; · iapply (inv_three m κ (gotCell c) (got_mem c)); iexact HI
    isplitr; · iapply (inv_three m κ (fun k => barCell (peer c k)) (fun k => bar_mem (peer c k))); iexact HI
    iapply (inv_three m κ (fun k => gotCell (peer c k) k) (fun k => got_mem (peer c k) k)); iexact HI
  iframe HaB HoS HoG
  isplitr; · iapply (reached_three (F := F) c); iexact HR
  iexact Hpay

/-- A resource on every semaphore of the calls: on each device, the three of its departures and the three of its arrivals. -/
theorem own_each (Φ : GSem nD τ sig → sProp 𝕄) :
    bigSep ownCells Φ = bigSep Finset.univ fun c : Dev nD => iprop(three (fun k => Φ (sentCell c k)) ∗ three (fun k => Φ (gotCell c k))) := by
  rw [bigSep_map, bigSep_univ_prod]
  exact bigSep_congr fun c _ => six_eq (fun s => Φ ((c : Thread nD τ), s))

/-- A resource for each device and peer, handed to that peer. -/
theorem hand_over (Φ : Dev nD → Fin 3 → sProp 𝕄) :
    (bigSep Finset.univ fun c : Dev nD => three (Φ c)) = bigSep Finset.univ fun c : Dev nD => three (fun k => Φ (peer c k) k) := by
  have e (Ψ : Dev nD → Fin 3 → sProp 𝕄) : (bigSep Finset.univ fun c : Dev nD => three (Ψ c)) = three (fun k => bigSep Finset.univ fun c : Dev nD => Ψ c k) :=
    (bigSep_sep _ _ _).trans (congrArg _ (bigSep_sep _ _ _))
  rw [e, e]
  exact congrArg three (funext fun k => bigSep_univ_equiv (across k) (fun c => Φ c k))

/-- The duties, each handed to the device that pays it. -/
theorem duties_dealt : bigSep duties (fun x => (dutyTok EX x.1 x.2.1 x.2.2 : sProp 𝕄)) ⊢ bigSep Finset.univ fun c : Dev nD => payable c := by
  have e : bigSep duties (fun x => (dutyTok EX x.1 x.2.1 x.2.2 : sProp 𝕄))
      = iprop((bigSep Finset.univ fun c : Dev nD => three (fun k => dutyTok EX (barCell c) 0 k))
        ∗ bigSep Finset.univ fun c : Dev nD => iprop(three (fun k => dutyTok EX (sentCell c k) 0 0) ∗ three (fun k => dutyTok EX (gotCell c k) 0 0))) := by
    have u := bigSep_union duties_disjoint (Φ := fun x => (dutyTok EX x.1 x.2.1 x.2.2 : sProp 𝕄))
    rw [bigSep_map (s := Finset.univ) barDuty, bigSep_map (s := ownCells) ownDuty, bigSep_univ_prod] at u
    unfold duties
    refine u.trans (congrArg₂ _ (bigSep_congr fun c _ => three_eq (fun k => (dutyTok EX (barCell c) 0 k : sProp 𝕄))) ?_)
    exact own_each (fun g => (dutyTok EX g 0 0 : sProp 𝕄))
  rw [e]
  unfold payable
  iintro ⟨Hbar, H⟩
  ihave H' := split_families $$ H
  icases H' with ⟨Hsent, Hgot⟩
  iapply join_families
  isplitl [Hbar]
  · iapply (Entails.of_eq (hand_over (fun c k => (dutyTok EX (barCell c) 0 k : sProp 𝕄)))); iexact Hbar
  iapply join_families
  iframe Hsent
  iapply (Entails.of_eq (hand_over (fun c k => (dutyTok EX (gotCell c k) 0 0 : sProp 𝕄)))); iexact Hgot

/-! ### What each device is owed -/

/-- A device owes its peer `k` `n` units on that peer's semaphore `sm` and nothing on another's. -/
theorem owed_by (k : Fin 3) (sm : SemLoc sig) (n : ℕ) (d c : Dev nD) :
    (tallyAt ((peer d k : Thread nD τ), sm) () n : CellTallies nD τ sig Unit) ((c : Thread nD τ), sm) () = if d = peer c k then n else 0 := by
  rw [tallyAt_apply]
  by_cases h : d = peer c k
  · subst h; rw [peer_peer, if_pos ⟨rfl, rfl⟩, if_pos rfl]
  · rw [if_neg (fun ⟨h1, _⟩ => h (by rw [← peer_peer d k]; exact congrArg (peer · k) (Fin.ext (congrArg (fun g : GSem nD τ sig => g.1.1.val) h1)).symm)), if_neg h]

theorem got_ne_bar (k : Fin 3) : (.dma (gotSem k) : SemLoc sig) ≠ .reg barrier1 := fun h => by cases h
theorem gotSem_inj : Function.Injective gotSem := by decide

theorem due_bar (d c : Dev nD) : ∀ n : ℕ, due d n (barCell c) () = 0
  | 0 => rfl
  | n + 1 => by
    have e : ∀ k, arrival d k (barCell c) = 0 := fun k => tallyAt_ne_cell (fun h => got_ne_bar k (congrArg Prod.snd h).symm) _ _
    unfold due
    rw [Pi.add_apply, Finsupp.add_apply, due_bar d c n, e, Finsupp.zero_apply, Nat.zero_add]

theorem arrival_at (d c : Dev nD) (j k : Fin 3) : arrival d j (gotCell c k) () = if j = k then (if d = peer c k then credit else 0) else 0 := by
  by_cases h : j = k
  · subst h; rw [if_pos rfl]; exact owed_by j _ _ d c
  · have e : arrival d j (gotCell c k) = 0 := tallyAt_ne_cell (fun e : gotCell c k = gotCell (peer d j) j =>
      h (gotSem_inj (SemLoc.dma.inj (congrArg Prod.snd e))).symm) _ _
    rw [if_neg h, e, Finsupp.zero_apply]

theorem due_got (d c : Dev nD) (k : Fin 3) : due d 3 (gotCell c k) () = if d = peer c k then credit else 0 := by
  show 0 + arrival d 2 (gotCell c k) () + arrival d 1 (gotCell c k) () + arrival d 0 (gotCell c k) () = _
  rw [arrival_at, arrival_at, arrival_at]
  fin_cases k <;> simp

theorem owed_bar (d c : Dev nD) : debt d (barCell c) ()
    = (if d = peer c 2 then 1 else 0) + (if d = peer c 0 then 1 else 0) + (if d = peer c 1 then 1 else 0) := by
  show due d 3 (barCell c) () + greeting d 2 (barCell c) () + greeting d 0 (barCell c) () + greeting d 1 (barCell c) () = _
  rw [due_bar, Nat.zero_add]
  exact congrArg₂ _ (congrArg₂ _ (owed_by 2 _ _ d c) (owed_by 0 _ _ d c)) (owed_by 1 _ _ d c)
theorem owed_got (k : Fin 3) (d c : Dev nD) : debt d (gotCell c k) () = if d = peer c k then credit else 0 := by
  have e (j : Fin 3) : greeting d j (gotCell c k) () = 0 := by
    rw [show greeting d j (gotCell c k) = 0 from tallyAt_ne_cell (fun h => got_ne_bar k (congrArg Prod.snd h)) _ _, Finsupp.zero_apply]
  show due d 3 (gotCell c k) () + greeting d 2 (gotCell c k) () + greeting d 0 (gotCell c k) () + greeting d 1 (gotCell c k) () = _
  rw [e, e, e]
  exact due_got d c k

theorem launch_cred (g : GSem nD τ sig) (n : ℕ) (h : ∑ d : Dev nD, debt d g () = n) :
    tallyOn g (launchCredit (Pipeline.owing debt) 0 g) = (tallyAt g () n : CellTallies nD τ sig Unit) := by
  unfold tallyAt; refine congrArg _ (Finsupp.ext fun u => ?_); cases u
  rw [Pipeline.launchCredit_owing, Finsupp.single_eq_same, h]

theorem sum_bar (c : Dev nD) : ∑ d : Dev nD, debt d (barCell c) () = 3 := by
  rw [Finset.sum_congr rfl fun d _ => owed_bar d c, Finset.sum_add_distrib, Finset.sum_add_distrib, Finset.sum_ite_eq' Finset.univ (peer c 2) fun _ => 1,
    Finset.sum_ite_eq' Finset.univ (peer c 0) fun _ => 1, Finset.sum_ite_eq' Finset.univ (peer c 1) fun _ => 1, if_pos (Finset.mem_univ _),
    if_pos (Finset.mem_univ _), if_pos (Finset.mem_univ _)]
theorem sum_got (c : Dev nD) (k : Fin 3) : ∑ d : Dev nD, debt d (gotCell c k) () = credit := by
  rw [Finset.sum_congr rfl fun d _ => owed_got k d c, Finset.sum_ite_eq' Finset.univ (peer c k) fun _ => credit, if_pos (Finset.mem_univ _)]

def gotEmb : Fin 3 ↪ SemLoc sig := ⟨fun k => .dma (gotSem k), fun _ _ h => gotSem_inj (SemLoc.dma.inj h)⟩

theorem creds (c : Dev nD) :
    (Pipeline.launchCred debt c : sProp 𝕄) ⊢ iprop(cred (tallyAt (barCell c) () 3) ∗ three (fun k => cred (tallyAt (gotCell c k) () credit))) := by
  unfold Pipeline.launchCred
  rw [bigSep_univ_at _ (SemLoc.reg barrier1), launch_cred (barCell c) 3 (sum_bar c)]
  refine sep_mono_right (BI.Entails.trans (bigSep_subset (t := Finset.univ.map gotEmb) fun s hs => ?_) ?_)
  · obtain ⟨k, -, rfl⟩ := Finset.mem_map.mp hs
    exact Finset.mem_erase.mpr ⟨got_ne_bar k, Finset.mem_univ _⟩
  · rw [bigSep_map, ← three_eq]
    refine bigSep_mono fun k _ => ?_
    exact Entails.of_eq (congrArg cred (launch_cred (gotCell c k) credit (sum_got c k)))

/-- What a device holds at launch beside its part in the exchange. -/
def bundle (c : Dev nD) : sProp 𝕄 :=
  iprop(StableHlo.held (c.tc : Thread nD τ) allBufs (V₁ m c) ∗ cred (tallyAt (barCell c) () 3) ∗ three (fun k => cred (tallyAt (gotCell c k) () credit))
    ∗ owes (c : Thread nD τ) (debt c) ∅ ∗ ∃ r, prngReg c r)

theorem first_intro (κ : GSem nD τ sig → ℕ) (c : Dev nD) : iprop(records m κ ∗ (alone c ∗ bundle m c)) ⊢ first m c := by
  unfold bundle first riding kept
  iintro ⟨#HR, Hl, Hh, H1, HG, HO, Hp⟩
  iframe Hh
  isplitl [Hl H1 HG]
  · isplitl [Hl]
    · iapply (ghost_intro m κ c)
      iframe HR Hl
    iframe
  iframe Hp
  iexists ∅; iexact HO

theorem init :
    iprop((bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ aside c)) ∗ levAts L lv)
      ⊢ (|={Set.univ}=> bigSep Finset.univ (first m) : sProp 𝕄) := by
  have hcore (c : Dev nD) : iprop(unscopedBufs c (fun b => m ((c : Thread nD τ).loc b)) ∗ unscopedSems0 c
        ∗ owes (c : Thread nD τ) (debt c) ∅ ∗ Pipeline.launchCred debt c ∗ prngReg c (ρ c) ∗ aside c)
      ⊢ (iprop(bundle m c ∗ (semVal (barCell c) 0 ∗ aside c)) : sProp 𝕄) := by
    rw [show unscopedBufs c (fun b => m ((c : Thread nD τ).loc b)) = StableHlo.held (c.tc : Thread nD τ) allBufs (V₁ m c)
      from Pipeline.unscopedBufs_held c (V₁ m c), unscopedSems_eq]
    unfold bundle
    iintro ⟨Hh, Hus, HO, Hcr, Hp, HG⟩
    ihave Hc := (creds (F := F) c) $$ Hcr
    icases Hc with ⟨H1, HN⟩
    isplitl [Hh H1 HN HO Hp]
    · iframe Hh H1 HN HO
      iexists (ρ c); iexact Hp
    iframe
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos EX g 0 ∅ 0 : sProp 𝕄)) ⊢ bigSep Finset.univ (fun c : Dev nD => (atPos EX (barCell c) 0 ∅ 0 : sProp 𝕄)) :=
    Entails.of_eq (bigSep_map (s := Finset.univ) barEmb (Φ := fun g : GSem nD τ sig => (atPos EX g 0 ∅ 0 : sProp 𝕄)))
  have hopen : bigSep ownCells (fun g => (openTok EX g : sProp 𝕄))
      ⊢ bigSep Finset.univ (fun c : Dev nD => iprop(three (fun k => openTok EX (sentCell c k)) ∗ three (fun k => openTok EX (gotCell c k)))) :=
    Entails.of_eq (own_each fun g => (openTok EX g : sProp 𝕄))
  iintro ⟨H, -⟩
  ihave H' := (show (bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ aside c))
      ⊢ (bigSep Finset.univ fun c : Dev nD => iprop(bundle m c ∗ (semVal (barCell c) 0 ∗ aside c)) : sProp 𝕄) from bigSep_mono fun c _ => hcore c) $$ H
  ihave H2 := split_families $$ H'; icases H2 with ⟨HB, H3⟩
  ihave H4 := split_families $$ H3; icases H4 with ⟨Hv, HG⟩
  ihave Hu := (Entails.of_eq (aside_eq (F := F))) $$ HG
  imod (Rounds.fund_launch EX (plan m) cells_disjoint (fun g _ h => h) duties) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(alone c ∗ bundle m c)) fun c _ => first_intro m κ c)
  isplitr
  · unfold records
    iframe Hinv Hr
  iapply join_families
  isplitr [HB]
  · unfold alone
    iapply join_families; isplitl [Hat]; · iapply hat $$ Hat
    iapply join_families; isplitl [Hopen]; · iapply hopen $$ Hopen
    iapply (duties_dealt (F := F)) $$ Htok
  · iexact HB

/-! ## The run -/

theorem unscoped_bar : ∀ sm : SemLoc sig, sm.isScoped .tc = false → sm = .reg barrier1 := by decide

set_option backward.isDefEq.respectTransparency.types false in
/-- Every execution of the program on the square ends; then the inputs are unchanged, the blocks are written back, the landing buffers filled,
    and every counter is zero. -/
theorem run_main : θ_run defs (onTc (τ := τ) (main (F := F))) ⟨m, fun _ => 0, ρ⟩
    (fun r => (∀ c : Dev nD, (r.2.mem ((c : Thread nD τ).loc main_v1_0) = (dat m c).arrAt 2 cfg0.N
          ∧ r.2.mem ((c : Thread nD τ).loc main_v1_1) = arrived m c)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (dats m) () cellOf_inj EP defs₀ Variants.none L lv m ρ main (segs m)
    (fun c Q => by rw [main_segs adm (dats m) () Variants.none L lv (call m) c]; exact BI.Entails.refl _)
    (by simp only [segs, Pipeline.Seg.pipes_region, Pipeline.Seg.pipes_nil]; decide)
    (O₀ := debt) (hL := L_of_ne) (G := aside) (u₀ := launchElt (F := F))
    (hu₀ := by
      unfold launchElt
      iintro Hu
      ihave H := (ownU_pair _ _) $$ Hu
      icases H with ⟨HP, HX⟩
      imodintro
      iframe HP
      iapply (Entails.of_eq (aside_eq (F := F)).symm); iexact HX)
    (T₀ := first m) (Tₙ := last m)
    (hch := ⟨call_pre m, call_post m⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_arg2) = V₂ m c main_arg2 ∧ s.mem ((c : Thread nD τ).loc main_v1_0) = V₂ m c main_v1_0
      ∧ s.mem ((c : Thread nD τ).loc main_v1_1) = V₂ m c main_v1_1) ∧ s.sem (barCell c) = 0)
    (hfin := fun c s' => by
      dsimp only [last]; rw [held_each]
      iintro ⟨⟨⟨H0, H1, H2, H3, H4⟩, Hb⟩, HSI⟩
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4⟩, by simpa using hb⟩
      iexact HSI)
    (hQ := fun s h hs => ⟨fun c => by
        obtain ⟨⟨h0, h1, h2, h3, h4⟩, -⟩ := h c
        rw [V₂_ne m c _ (by decide) (by decide)] at h0 h1 h2
        rw [V₂_blocks] at h3
        rw [V₂_landing] at h4
        exact ⟨⟨h3, h4⟩, h0, h1, h2⟩,
      sem_eq_zero hs fun c sm hsm => by
        obtain rfl := unscoped_bar sm hsm
        exact (h c).2⟩)

end Cert.Win

end
-- ==== Proof.WinFrames.lean ====
/- The frame claims of the gradient of the input projection's weights: the compiled program, and the program over the extended reals. -/
module

public import proofs.«01_k».proof.Defs
public import proofs.«01_k».proof.Proof.WinRun
public import proofs.«01_k».proof.Proof.Gen.Kernel6

@[expose] public section

noncomputable section

namespace Cert.Win

open Idealize.ShloMosaic Idealize.SL.Sem

/-- Over the extended reals: the program ends, its inputs unchanged, every counter zero. -/
theorem frame_ideal : Cert.quiescent_Kernel6Ideal := fun m ρ _ =>
  (θ_run (Cert.Kernel6Ideal.defs (F := Ideal)) _ _).mono (fun _ h => ⟨fun c => (h.1 c).2, h.2⟩) (run_main (F := Ideal) m ρ)

/-- The two programs have the same text. -/
theorem same_body : Cert.Kernel6.defs₀ (F := Bits) = Cert.Kernel6Ideal.defs₀ (F := Bits) := by
  unfold Cert.Kernel6.defs₀ Cert.Kernel6Ideal.defs₀
  refine congrArg Defs.onTc (funext fun l => ?_)
  match l with
  | ⟨0, _⟩ => rfl
  | ⟨_ + 1, h⟩ => exact absurd h (Nat.not_lt.2 (Nat.le_add_left _ _))
theorem same_defs : Cert.Kernel6.defs (F := Bits) = Cert.Kernel6Ideal.defs (F := Bits) :=
  congrArg (Pipeline.defs (Cert.Kernel6Ideal.pcfgs (F := Bits))) same_body

/-- Over machine words: the run is the same. -/
theorem frame_kernel : Cert.quiescent_Kernel6 := fun m ρ _ => by
  rw [same_defs]
  exact (θ_run (Cert.Kernel6Ideal.defs (F := Bits)) _ _).mono (fun _ h => ⟨fun c => (h.1 c).2, h.2⟩) (run_main (F := Bits) m ρ)

end Cert.Win

end
-- ==== Proof.WinKernel.lean ====
/- The gradient of the input weights, as the kernel computes it: on each device twelve blocks of 512 columns, each one product over the
   device's 4096 tokens; and the tables it has been sent meanwhile. -/
module

public import proofs.«01_k».proof.Proof.WinRegion
public import Idealize.ShloMosaic.Lib.MatmulPlain
public import Idealize.ShloMosaic.Lib.KernelVsHost
public import Idealize.ShloMosaic.Lib.ValueIdx
public import Idealize.ShloMosaic.Lib.ValueLayout
public import Idealize.ShloMosaic.Lib.WordCmp
public import Idealize.ShloMosaic.Lib.Pointwise.Reduce

@[expose] public section

noncomputable section

namespace Cert.Win

open Idealize.ShloMosaic hiding ix0 ix1 ix2 ix3 ix4 ix5
open Idealize.ShloMosaic.ValueIdx Idealize.ShloMosaic.TcCoe Cert.Kernel6Ideal Cert.Kernel6Ideal.Gen

/-- One point's product, contracted over the tokens. -/
theorem product_at (a : FVec Ideal S4096x1024 .bf16) (b : FVec Ideal S1x4096x512 .bf16) (i : Fin 1024) (j : Fin 512) :
    k0_pay1 (F := Ideal) a b (ix3 0 i j) = ∑ s : Fin 4096, a (ix2 s i) * b (ix3 0 s j) := by
  unfold k0_pay1
  rw [shapeCast_self, shapeCast_apply _ shapeCasts_S1024x512_S1x1024x512 (ix3 0 i j) (ix2 i j) (by
    rw [Shape.rowMajor_val_two, Shape.rowMajor_val_three]; show i.val * 512 + j.val = (0 * 1024 + i.val) * 512 + j.val; omega), truncf_apply]
  show FloatOps.matmul dot_S4096x1024_S4096x512_S1024x512_0_0_1_1_n_n none a (shapeCast S4096x512 b shapeCasts_S1x4096x512_S4096x512)
    (constant S1024x512 .f32 0x00000000#32) (ix2 i j) = _
  rw [Ideal.matmul_apply, constant_apply, Ideal.ofBits_zero_f32, zero_add,
    ← Equiv.sum_comp (contrEquiv1 dot_S4096x1024_S4096x512_S1024x512_0_0_1_1_n_n 4096 rfl rfl).symm]
  refine Finset.sum_congr rfl fun k _ => ?_
  have hk := contrEquiv1_symm_val dot_S4096x1024_S4096x512_S1024x512_0_0_1_1_n_n 4096 rfl rfl k
  congr 1
  · refine congrArg a (funext fun ax => Fin.ext ?_)
    match ax with
    | ⟨0, _⟩ => exact hk
    | ⟨1, _⟩ => rfl
  · refine (congrArg (shapeCast S4096x512 b shapeCasts_S1x4096x512_S4096x512) (?_ : _ = ix2 k j)).trans
      (shapeCast_apply b shapeCasts_S1x4096x512_S4096x512 (ix2 k j) (ix3 0 k j) (by
        rw [Shape.rowMajor_val_two, Shape.rowMajor_val_three]; show (0 * 4096 + k.val) * 512 + j.val = k.val * 512 + j.val; omega))
    refine funext fun ax => Fin.ext ?_
    match ax with
    | ⟨0, _⟩ => exact hk
    | ⟨1, _⟩ => rfl

variable (m : (ℓ : Loc nD τ sig) → Buf (Elt Ideal) ℓ) (c : Dev nD)

/-- The arguments' contents on a device: its tokens' activations, the gradients behind the projection, its tables. -/
abbrev A0 : (⟨2, ![4096, 1024]⟩ : Shape).Idx → EReal := m ((c.tc : Thread nD τ).loc main_arg0)
abbrev A1 : (⟨3, ![6, 4096, 1024]⟩ : Shape).Idx → EReal := m ((c.tc : Thread nD τ).loc main_arg1)
abbrev A2 : (⟨4, ![4, 3, 128, 1024]⟩ : Shape).Idx → EReal := m ((c.tc : Thread nD τ).loc main_arg2)

/-- The order in which the planes of the gradients stand in the projection's columns: the last of the first four comes first. -/
def order (p : Fin 6) : Fin 6 := ![3, 0, 1, 2, 4, 5] p

/-- Block `q` of 512 columns in the `n`-th part of 1536: the plane of the gradients it lies in, its column `j` there, and that column in
the part. -/
def planeOf (n : Fin 4) (q : Fin 3) : Fin 6 := order ⟨(3 * n.val + q.val) / 2, by omega⟩
def columnOf (n : Fin 4) (q : Fin 3) (j : Fin 512) : Fin 1024 := ⟨512 * ((3 * n.val + q.val) % 2) + j.val, by omega⟩
def within (q : Fin 3) (j : Fin 512) : Fin 1536 := ⟨512 * q.val + j.val, by omega⟩

/-- The grid point of that block. -/
def pt (n : Fin 4) (q : Fin 3) : Fin cfg0.N := ⟨3 * n.val + q.val, by have h : cfg0.N = 12 := N_0; omega⟩

theorem index_facts : ∀ (n : Fin 4) (q : Fin 3),
    (win0_0.index (pt n q) 0 = 0 ∧ win0_0.index (pt n q) 1 = 0)
    ∧ (win0_1.index (pt n q) 0 = (planeOf n q).val ∧ win0_1.index (pt n q) 1 = 0 ∧ win0_1.index (pt n q) 2 = (3 * n.val + q.val) % 2)
    ∧ (win0_2.index (pt n q) 0 = n.val ∧ win0_2.index (pt n q) 1 = 0 ∧ win0_2.index (pt n q) 2 = q.val) := by decide +kernel

theorem read0 (n : Fin 4) (q : Fin 3) (s : Fin 4096) (i : Fin 1024) :
    (iblk m c 0 (pt n q) : Vec Ideal S4096x1024 .bf16) (ix2 s i) = A0 m c (ix2 s i) := by
  obtain ⟨⟨i0, i1⟩, -⟩ := index_facts n q
  unfold iblk
  rw [View.read_apply]
  refine congrArg (m ((c.tc : Thread nD τ).loc main_arg0)) (funext fun a => Fin.ext ?_)
  match a with
  | ⟨0, _⟩ => show win0_0.index (pt n q) 0 * 4096 + 1 * s.val = s.val; rw [i0]; omega
  | ⟨1, _⟩ => show win0_0.index (pt n q) 1 * 1024 + 1 * i.val = i.val; rw [i1]; omega

theorem read1 (n : Fin 4) (q : Fin 3) (s : Fin 4096) (j : Fin 512) :
    (iblk m c 1 (pt n q) : Vec Ideal S1x4096x512 .bf16) (ix3 0 s j) = A1 m c (ix3 (planeOf n q) s (columnOf n q j)) := by
  obtain ⟨-, ⟨i0, i1, i2⟩, -⟩ := index_facts n q
  unfold iblk
  rw [View.read_apply]
  refine congrArg (m ((c.tc : Thread nD τ).loc main_arg1)) (funext fun a => Fin.ext ?_)
  match a with
  | ⟨0, _⟩ => show win0_1.index (pt n q) 0 * 1 + 1 * 0 = (planeOf n q).val; rw [i0]; omega
  | ⟨1, _⟩ => show win0_1.index (pt n q) 1 * 4096 + 1 * s.val = s.val; rw [i1]; omega
  | ⟨2, _⟩ => show win0_1.index (pt n q) 2 * 512 + 1 * j.val = 512 * ((3 * n.val + q.val) % 2) + j.val; rw [i2]; omega

theorem index2 : ∀ t : Fin cfg0.N, 3 * win0_2.index t 0 + win0_2.index t 2 = t.val :=
  (by decide +kernel : ∀ t : Fin grid0.N, 3 * win0_2.index t 0 + win0_2.index t 2 = t.val)

/-- Two points write different blocks. -/
theorem disjoint2 : ∀ t t' : Fin cfg0.N, (cfg0.win 2).flush t = true → (cfg0.win 2).flush t' = true → t ≠ t' →
    Disjoint ((cfg0.win 2).blk t).view.set ((cfg0.win 2).blk t').view.set := fun t t' _ _ hne =>
  (cfg0.win 2).disjoint_blk fun e => hne (Fin.ext (by
    have e' : win0_2.index t = win0_2.index t' := e
    rw [← index2 t, e', index2 t']))

/-- The kernel's gradient on a device. -/
theorem array_at (n : Fin 4) (i : Fin 1024) (q : Fin 3) (j : Fin 512) :
    ((dat m c).arrAt 2 cfg0.N : (⟨3, ![4, 1024, 1536]⟩ : Shape).Idx → EReal) (ix3 n i (within q j))
      = ∑ s : Fin 4096, A0 m c (ix2 s i) * A1 m c (ix3 (planeOf n q) s (columnOf n q j)) := by
  have h := (dat m c).arrAt_emb_eq_flushed 2 disjoint2 (pt n q) (flush0_2 _) (ix3 0 i j)
  obtain ⟨i0, i1, i2⟩ := (index_facts n q).2.2
  have hi : (((cfg0.win 2).blk (pt n q)).view.emb (ix3 0 i j) : S4x1024x1536.Idx) = ix3 n i (within q j) := funext fun a => Fin.ext (by
    match a with
    | ⟨0, _⟩ => show win0_2.index (pt n q) 0 * 1 + 1 * 0 = n.val; rw [i0]; omega
    | ⟨1, _⟩ => show win0_2.index (pt n q) 1 * 1024 + 1 * i.val = i.val; rw [i1]; omega
    | ⟨2, _⟩ => show win0_2.index (pt n q) 2 * 512 + 1 * j.val = 512 * q.val + j.val; rw [i2]; omega)
  rw [← hi]
  refine h.trans ?_
  rw [cast_eq]
  refine (congrFun (after_2 m c (pt n q)) (ix3 0 i j)).trans ((product_at _ _ i j).trans ?_)
  exact Finset.sum_congr rfl fun s _ => congrArg₂ (· * ·) (read0 m c n q s i) (read1 m c n q s j)

/-- A piece and a slot lie alike in their buffers, each at its own offset. -/
theorem piece_slot (e : Dev nD) (k : Fin 3) (x : S3x128x1024.Idx) (a : Fin 4) :
    ((piece e k).view.emb x a).val + slotOff k a = ((slot k).view.emb x a).val + pieceOff e k a := by
  show (pieceOff e k a + 1 * _) + slotOff k a = (slotOff k a + 1 * _) + pieceOff e k a
  exact (Nat.add_right_comm _ _ _).trans ((congrArg (· + _) (Nat.add_comm _ _)).trans (Nat.add_right_comm _ _ _))

/-- Slot `k` of a landing buffer holds the table that peer `k` had for this device. -/
theorem arrived_at (k : Fin 3) (r : Fin 3) (a : Fin 128) (b : Fin 1024) :
    arrived m c (ix4 k r a b) = A2 m (peer c k) (ix4 c r a b) := by
  have hi : (ix4 k r a b : S3x3x128x1024.Idx) ∈ (slot k).view.set := (mem_slot k _).mpr rfl
  obtain ⟨y, -, hy⟩ := Finset.mem_map.mp hi
  show landed m c k _ = _
  unfold landed
  rw [← hy, View.write_emb_of_mem _ _ (Finset.mem_univ _), View.read_apply]
  refine congrArg (A2 m (peer c k)) (funext fun ax => Fin.ext ?_)
  have h := piece_slot (peer c k) k y ax
  rw [hy] at h
  match ax with
  | ⟨0, _⟩ => exact Nat.add_left_cancel ((Nat.add_comm _ _).trans (h.trans (congrArg (fun d : Dev nD => k.val + d.val) (peer_peer c k))))
  | ⟨1, _⟩ => exact h
  | ⟨2, _⟩ => exact h
  | ⟨3, _⟩ => exact h

end Cert.Win

end
-- ==== Proof.WinReference.lean ====
/- The gradient of the input weights, as the reference computes it: for each device of the square the derivative of the projection over
   that device's tokens, cut into parts of 1536 columns; and the tables as they come to lie on the devices. -/
module

public import proofs.«01_k».proof.Proof.WinKernel
public import proofs.«01_k».proof.Proof.RefBlocks
public import proofs.«01_k».proof.Proof.Gen.Reference6Ideal.Read

@[expose] public section

noncomputable section

namespace Cert.Win

open Idealize.ShloMosaic hiding ix0 ix1 ix2 ix3 ix4 ix5
open Idealize.ShloMosaic.ValueIdx Cert.Reference6Ideal Cert.Reference6Ideal.Gen Cert.Reference6Ideal.Read
open Cert.Pool (ext2 ext3 ext4)

/-- Token `s` of device `d`, part `n` of its columns in the stacked gradient, column `j` of plane `p` and column `e` of part `n` in the
projection. -/
def tokenOf (d : Fin 4) (s : Fin 4096) : Fin 16384 := ⟨4096 * d.val + s.val, by omega⟩
def partOf (d n : Fin 4) : Fin 16 := ⟨4 * d.val + n.val, by omega⟩
def inPlane (p : Fin 6) (j : Fin 1024) : Fin 6144 := ⟨1024 * p.val + j.val, by omega⟩
def inPart (n : Fin 4) (e : Fin 1536) : Fin 6144 := ⟨1536 * n.val + e.val, by omega⟩
/-- Slot `k` of device `d` among all slots. -/
def slotOf (d : Fin 4) (k : Fin 3) : Fin 12 := ⟨3 * d.val + k.val, by omega⟩

variable (x0 : (⟨2, ![16384, 1024]⟩ : Shape).Idx → EReal) (x1 : (⟨3, ![6, 16384, 1024]⟩ : Shape).Idx → EReal)
  (x2 : (⟨4, ![16, 3, 128, 1024]⟩ : Shape).Idx → EReal)

theorem v1_at (d : Fin 4) (s : Fin 4096) (i : Fin 1024) : val_main_v1 (F := Ideal) x0 (ix3 d s i) = x0 (ix2 (tokenOf d s) i) := by
  rw [val_main_v1_apply, val_main_v0_apply]
  refine congrArg x0 (ext2 _ _ _ ?_ ?_)
  · show ((d.val * 4096 + s.val) * 1024 + i.val) / 1024 = 4096 * d.val + s.val
    omega
  · show ((d.val * 4096 + s.val) * 1024 + i.val) % 1024 = i.val
    omega

theorem v3_at (p : Fin 6) (d : Fin 4) (s : Fin 4096) (j : Fin 1024) :
    val_main_v3 (F := Ideal) x1 (ix4 p d s j) = x1 (ix3 p (tokenOf d s) j) := by
  rw [val_main_v3_apply, val_main_v2_apply]
  refine congrArg x1 (ext3 _ _ _ _ ?_ ?_ ?_)
  · show (((p.val * 4 + d.val) * 4096 + s.val) * 1024 + j.val) / 16777216 = p.val
    omega
  · show (((p.val * 4 + d.val) * 4096 + s.val) * 1024 + j.val) / 1024 % 16384 = 4096 * d.val + s.val
    omega
  · show (((p.val * 4 + d.val) * 4096 + s.val) * 1024 + j.val) % 1024 = j.val
    omega

/-- The planes in the order of the projection's columns. -/
theorem v7_at (p : Fin 6) (d : Fin 4) (s : Fin 4096) (j : Fin 1024) :
    val_main_v7 (F := Ideal) x1 (ix4 p d s j) = x1 (ix3 (order p) (tokenOf d s) j) := by
  rw [← v3_at x1]
  unfold val_main_v7
  have off (n : ℕ) (z : Fin n) (a : Fin 4) (ha : a ≠ 0) :
      ((ix4 z d s j : (⟨4, ![n, 4, 4096, 1024]⟩ : Shape).Idx) a).val = ((ix4 p d s j : S6x4x4096x1024.Idx) a).val := by
    match a, ha with
    | ⟨0, _⟩, ha => exact absurd rfl ha
    | ⟨1, _⟩, _ => rfl
    | ⟨2, _⟩, _ => rfl
    | ⟨3, _⟩, _ => rfl
  have ord : ∀ p : Fin 6, (order p).val = if p.val = 0 then 3 else if p.val < 4 then p.val - 1 else p.val := by decide
  have hp := ord p
  have at3 (i : S6x4x4096x1024.Idx) (h0 : (i 0).val = (order p).val) (h1 : (i 1).val = d.val) (h2 : (i 2).val = s.val) (h3 : (i 3).val = j.val) :
      val_main_v3 (F := Ideal) x1 i = val_main_v3 (F := Ideal) x1 (ix4 (order p) d s j) :=
    congrArg _ (ext4 _ _ _ _ _ h0 h1 h2 h3)
  by_cases c0 : p.val = 0
  · refine (concatenate_apply_piece (t := S6x4x4096x1024) 0 _ _ _ 0 (by show 0 < 3; decide) S1x4x4096x1024 (val_main_v4 (F := Ideal) x1) rfl rfl 0 rfl
      (ix4 0 d s j) (off 1 0) c0.symm).trans ((val_main_v4_apply (F := Ideal) x1 _).trans (at3 _ ?_ rfl rfl rfl))
    rw [if_pos c0] at hp; exact hp.symm
  rw [if_neg c0] at hp
  by_cases c1 : p.val < 4
  · refine (concatenate_apply_piece (t := S6x4x4096x1024) 0 _ _ _ 1 (by show 1 < 3; decide) S3x4x4096x1024 (val_main_v5 (F := Ideal) x1) rfl rfl 1 rfl
      (ix4 ⟨p.val - 1, by omega⟩ d s j) (off 3 _) (by show 1 + (p.val - 1) = p.val; omega)).trans ((val_main_v5_apply (F := Ideal) x1 _).trans (at3 _ ?_ rfl rfl rfl))
    rw [if_pos c1] at hp; exact hp.symm
  · refine (concatenate_apply_piece (t := S6x4x4096x1024) 0 _ _ _ 2 (by show 2 < 3; decide) S2x4x4096x1024 (val_main_v6 (F := Ideal) x1) rfl rfl 4 rfl
      (ix4 ⟨p.val - 4, by omega⟩ d s j) (off 2 _) (by show 4 + (p.val - 4) = p.val; omega)).trans ((val_main_v6_apply (F := Ideal) x1 _).trans (at3 _ ?_ rfl rfl rfl))
    rw [if_neg c1] at hp
    show 4 + (p.val - 4) = _
    omega

theorem v9_at (d : Fin 4) (s : Fin 4096) (p : Fin 6) (j : Fin 1024) :
    val_main_v9 (F := Ideal) x1 (ix3 d s (inPlane p j)) = x1 (ix3 (order p) (tokenOf d s) j) := by
  rw [val_main_v9_apply, val_main_v8_apply, ← v7_at x1]
  refine congrArg (val_main_v7 (F := Ideal) x1) (ext4 _ _ _ _ _ ?_ ?_ ?_ ?_)
  · show ((d.val * 4096 + s.val) * 6144 + (1024 * p.val + j.val)) / 1024 % 6 = p.val
    omega
  · show ((d.val * 4096 + s.val) * 6144 + (1024 * p.val + j.val)) / 25165824 = d.val
    omega
  · show ((d.val * 4096 + s.val) * 6144 + (1024 * p.val + j.val)) / 6144 % 4096 = s.val
    omega
  · show ((d.val * 4096 + s.val) * 6144 + (1024 * p.val + j.val)) % 1024 = j.val
    omega

/-- The gradient's entry at row `i` and column `j` of plane `p`, from device `d`'s tokens. -/
def gradAt (d : Fin 4) (i : Fin 1024) (p : Fin 6) (j : Fin 1024) : EReal :=
  ∑ s : Fin 4096, x0 (ix2 (tokenOf d s) i) * x1 (ix3 (order p) (tokenOf d s) j)

theorem v12_at (d : Fin 4) (i : Fin 1024) (p : Fin 6) (j : Fin 1024) :
    val_main_v12 (F := Ideal) x0 x1 (ix3 d (inPlane p j) i) = gradAt x0 x1 d i p j := by
  rw [val_main_v12_apply]
  refine Finset.sum_congr rfl fun s _ => (mul_comm _ _).trans (congrArg₂ (· * ·) ?_ ?_)
  · exact (congrArg (val_main_v1 (F := Ideal) x0) (ext3 _ d s i rfl rfl rfl)).trans (v1_at x0 d s i)
  · exact (congrArg (val_main_v9 (F := Ideal) x1) (ext3 _ d s (inPlane p j) rfl rfl rfl)).trans (v9_at x1 d s p j)

theorem v15_at (d n : Fin 4) (i : Fin 1024) (e : Fin 1536) :
    val_main_v15 (F := Ideal) x0 x1 (ix4 d n i e) = val_main_v12 (F := Ideal) x0 x1 (ix3 d (inPart n e) i) := by
  rw [val_main_v15_apply, val_main_v14_apply, val_main_v13_apply]
  refine congrArg (val_main_v12 (F := Ideal) x0 x1) (ext3 _ _ _ _ ?_ ?_ ?_)
  · show (((d.val * 1024 + i.val) * 4 + n.val) * 1536 + e.val) / 6291456 = d.val
    omega
  · show (((d.val * 1024 + i.val) * 4 + n.val) * 1536 + e.val) % 6144 = 1536 * n.val + e.val
    omega
  · show (((d.val * 1024 + i.val) * 4 + n.val) * 1536 + e.val) / 6144 % 1024 = i.val
    omega

/-- The reference's gradient: column `j` of block `q` in part `n` of device `d`. -/
theorem v17_at (d n : Fin 4) (i : Fin 1024) (q : Fin 3) (j : Fin 512) :
    val_main_v17 (F := Ideal) x0 x1 (ix3 (partOf d n) i (within q j))
      = gradAt x0 x1 d i ⟨(3 * n.val + q.val) / 2, by omega⟩ (columnOf n q j) := by
  rw [val_main_v17_apply]
  show val_main_v16 (F := Ideal) x0 x1 (ix3 (partOf d n) i (within q j)) = _
  rw [val_main_v16_apply, ← v12_at, show inPlane ⟨(3 * n.val + q.val) / 2, by omega⟩ (columnOf n q j) = inPart n (within q j) from
    Fin.ext (by
      show 1024 * ((3 * n.val + q.val) / 2) + (512 * ((3 * n.val + q.val) % 2) + j.val) = 1536 * n.val + (512 * q.val + j.val)
      omega), ← v15_at]
  refine congrArg (val_main_v15 (F := Ideal) x0 x1) (ext4 _ _ _ _ _ ?_ ?_ ?_ ?_)
  · show (((4 * d.val + n.val) * 1024 + i.val) * 1536 + (512 * q.val + j.val)) / 6291456 = d.val
    omega
  · show (((4 * d.val + n.val) * 1024 + i.val) * 1536 + (512 * q.val + j.val)) / 1572864 % 4 = n.val
    omega
  · show (((4 * d.val + n.val) * 1024 + i.val) * 1536 + (512 * q.val + j.val)) / 1536 % 1024 = i.val
    omega
  · show (((4 * d.val + n.val) * 1024 + i.val) * 1536 + (512 * q.val + j.val)) % 1536 = 512 * q.val + j.val
    omega

/-- The tables as they come to lie: in slot `k` of device `d` the one its peer `k` has for it. -/
theorem v30_at (d : Fin 4) (k r : Fin 3) (a : Fin 128) (b : Fin 1024) :
    val_main_v30 (F := Ideal) x2 (ix4 (slotOf d k) r a b) = x2 (ix4 (partOf (peer d k) d) r a b) := by
  unfold val_main_v30
  refine concatenate_apply_piece (t := S12x3x128x1024) 0 _ _ _ (slotOf d k).val (by exact (slotOf d k).isLt) S1x3x128x1024
    (fun i => x2 (ix4 (partOf (peer d k) d) (i 1) (i 2) (i 3))) ?_ rfl (slotOf d k).val ?_ (ix4 0 r a b) (fun ax ha => ?_) (Nat.add_zero _)
  · fin_cases d <;> fin_cases k <;> exact congrArg (Sigma.mk S1x3x128x1024) (funext fun i => congrArg x2 (ext4 _ _ _ _ _
      ((congrArg (_ + ·) (Nat.lt_one_iff.mp (show (i 0).val < 1 from (i 0).isLt))).trans rfl) (Nat.zero_add _) (Nat.zero_add _) (Nat.zero_add _)))
  · fin_cases d <;> fin_cases k <;> rfl
  · match ax, ha with
    | ⟨0, _⟩, ha => exact absurd rfl ha
    | ⟨1, _⟩, _ => rfl
    | ⟨2, _⟩, _ => rfl
    | ⟨3, _⟩, _ => rfl

end Cert.Win

end
-- ==== Proof.WinClaims.lean ====
/- What is claimed of the input weights' gradient: the reference's run, and on each device of the square the kernel's results as the
   device's part of the reference's, the same extended reals. -/
module

public import proofs.«01_k».proof.Defs
public import proofs.«01_k».proof.Proof.WinRun
public import proofs.«01_k».proof.Proof.WinReference
public import proofs.«01_k».proof.Proof.Gen.Reference6Ideal.Run
public import Idealize.ShloMosaic.Adequacy
public import Idealize.ShloMosaic.Init

@[expose] public section

noncomputable section

namespace Cert.Win

open Idealize.ShloMosaic hiding ix0 ix1 ix2 ix3 ix4 ix5
open Idealize.ShloMosaic.ValueIdx Idealize.SL.Sem
open Cert.Pool (ext2 ext3 ext4)

section Reference

open Cert.Reference6Ideal Cert.Reference6Ideal.Read

/-- What the reference leaves in its result arrays, named stage by stage. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = val_main_v17 (F := Ideal) (m ((c.tc : Thread nD τ).loc main_arg0))
          (m ((c.tc : Thread nD τ).loc main_arg1))
      ∧ r.2.mem ((c.tc : Thread nD τ).loc main_v30) = val_main_v30 (F := Ideal) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v17_eq _ _), (h c).2.1.trans (val_main_v30_eq _), (h c).2.2⟩)
    (Value.run (F := Ideal) m ρ)

end Reference

/-- The reference runs, its arguments stay and its counters end at zero. -/
theorem frame_reference : Cert.quiescent_Reference6Ideal := fun m ρ _ =>
  (θ_run Cert.Reference6Ideal.defs _ _).mono (fun r h => ⟨fun c => (h c).2.2, sem_eq_zero_of_no_sems (by decide) r.2⟩) (reference_run m ρ)

/-! ## A device's part of an array: its tokens of the activations and of the gradients, its tables, its parts of the stacked gradient, its
slots -/

section Parts

theorem place : ∀ d : Fin 4, Layout.meshLin [2, 2, 1] d.val [0, 1] = d.val := by decide

variable (d : Fin 4)

theorem tokens_part (v : (⟨2, ![16384, 1024]⟩ : Shape).Idx → EReal) (s : Fin 4096) (i : Fin 1024) :
    Layout.blockN ⟨2, ![4096, 1024]⟩ ⟨2, ![16384, 1024]⟩ (Layout.meshBlock [2, 2, 1] ![[0, 1], []] d) v (by decide) (ix2 s i)
      = v (ix2 (tokenOf d s) i) := by
  rw [Layout.blockN_apply]
  refine congrArg v (ext2 _ _ _ ?_ ?_)
  · show Layout.meshLin [2, 2, 1] d.val [0, 1] * 4096 + s.val = 4096 * d.val + s.val
    rw [place]; omega
  · show 0 * 1024 + i.val = i.val
    omega

theorem planes_part (v : (⟨3, ![6, 16384, 1024]⟩ : Shape).Idx → EReal) (p : Fin 6) (s : Fin 4096) (j : Fin 1024) :
    Layout.blockN ⟨3, ![6, 4096, 1024]⟩ ⟨3, ![6, 16384, 1024]⟩ (Layout.meshBlock [2, 2, 1] ![[], [0, 1], []] d) v (by decide) (ix3 p s j)
      = v (ix3 p (tokenOf d s) j) := by
  rw [Layout.blockN_apply]
  refine congrArg v (ext3 _ _ _ _ ?_ ?_ ?_)
  · show 0 * 6 + p.val = p.val
    omega
  · show Layout.meshLin [2, 2, 1] d.val [0, 1] * 4096 + s.val = 4096 * d.val + s.val
    rw [place]; omega
  · show 0 * 1024 + j.val = j.val
    omega

theorem tables_part (v : (⟨4, ![16, 3, 128, 1024]⟩ : Shape).Idx → EReal) (n : Fin 4) (r : Fin 3) (a : Fin 128) (b : Fin 1024) :
    Layout.blockN ⟨4, ![4, 3, 128, 1024]⟩ ⟨4, ![16, 3, 128, 1024]⟩ (Layout.meshBlock [2, 2, 1] ![[0, 1], [], [], []] d) v (by decide) (ix4 n r a b)
      = v (ix4 (partOf d n) r a b) := by
  rw [Layout.blockN_apply]
  refine congrArg v (ext4 _ _ _ _ _ ?_ ?_ ?_ ?_)
  · show Layout.meshLin [2, 2, 1] d.val [0, 1] * 4 + n.val = 4 * d.val + n.val
    rw [place]; omega
  · show 0 * 3 + r.val = r.val
    omega
  · show 0 * 128 + a.val = a.val
    omega
  · show 0 * 1024 + b.val = b.val
    omega

theorem gradient_part (v : (⟨3, ![16, 1024, 1536]⟩ : Shape).Idx → EReal) (n : Fin 4) (i : Fin 1024) (e : Fin 1536) :
    Layout.blockN ⟨3, ![4, 1024, 1536]⟩ ⟨3, ![16, 1024, 1536]⟩ (Layout.meshBlock [2, 2, 1] ![[0, 1], [], []] d) v (by decide) (ix3 n i e)
      = v (ix3 (partOf d n) i e) := by
  rw [Layout.blockN_apply]
  refine congrArg v (ext3 _ _ _ _ ?_ ?_ ?_)
  · show Layout.meshLin [2, 2, 1] d.val [0, 1] * 4 + n.val = 4 * d.val + n.val
    rw [place]; omega
  · show 0 * 1024 + i.val = i.val
    omega
  · show 0 * 1536 + e.val = e.val
    omega

theorem slots_part (v : (⟨4, ![12, 3, 128, 1024]⟩ : Shape).Idx → EReal) (k r : Fin 3) (a : Fin 128) (b : Fin 1024) :
    Layout.blockN ⟨4, ![3, 3, 128, 1024]⟩ ⟨4, ![12, 3, 128, 1024]⟩ (Layout.meshBlock [2, 2, 1] ![[0, 1], [], [], []] d) v (by decide) (ix4 k r a b)
      = v (ix4 (slotOf d k) r a b) := by
  rw [Layout.blockN_apply]
  refine congrArg v (ext4 _ _ _ _ _ ?_ ?_ ?_ ?_)
  · show Layout.meshLin [2, 2, 1] d.val [0, 1] * 3 + k.val = 3 * d.val + k.val
    rw [place]; omega
  · show 0 * 3 + r.val = r.val
    omega
  · show 0 * 128 + a.val = a.val
    omega
  · show 0 * 1024 + b.val = b.val
    omega

end Parts

/-! ## The equation -/

section Equation

open Cert.Kernel6Ideal

variable (m : (ℓ : Loc nD τ sig) → Buf (Elt Ideal) ℓ)
  (x0 : (⟨2, ![16384, 1024]⟩ : Shape).Idx → EReal) (x1 : (⟨3, ![6, 16384, 1024]⟩ : Shape).Idx → EReal)
  (x2 : (⟨4, ![16, 3, 128, 1024]⟩ : Shape).Idx → EReal)

/-- A device's gradient is its part of the reference's. -/
theorem gradient_eq (c : Dev nD)
    (h0 : A0 m c = Layout.blockN ⟨2, ![4096, 1024]⟩ ⟨2, ![16384, 1024]⟩ (Layout.meshBlock [2, 2, 1] ![[0, 1], []] c) x0 (by decide))
    (h1 : A1 m c = Layout.blockN ⟨3, ![6, 4096, 1024]⟩ ⟨3, ![6, 16384, 1024]⟩ (Layout.meshBlock [2, 2, 1] ![[], [0, 1], []] c) x1 (by decide)) :
    ((dat m c).arrAt 2 cfg0.N : (⟨3, ![4, 1024, 1536]⟩ : Shape).Idx → EReal)
      = Layout.blockN ⟨3, ![4, 1024, 1536]⟩ ⟨3, ![16, 1024, 1536]⟩ (Layout.meshBlock [2, 2, 1] ![[0, 1], [], []] c)
          (Cert.Reference6Ideal.Read.val_main_v17 (F := Ideal) x0 x1) (by decide) := by
  funext k
  obtain ⟨n, i, e, rfl⟩ : ∃ (n : Fin 4) (i : Fin 1024) (e : Fin 1536), k = ix3 n i e := ⟨_, _, _, ValueIdx.eq_ix3 k⟩
  obtain ⟨q, j, rfl⟩ : ∃ (q : Fin 3) (j : Fin 512), e = within q j :=
    ⟨⟨e.val / 512, by omega⟩, ⟨e.val % 512, Nat.mod_lt _ (by decide)⟩, Fin.ext (by show e.val = 512 * (e.val / 512) + e.val % 512; omega)⟩
  rw [gradient_part]
  have e : (∑ s : Fin 4096, A0 m c (ix2 s i) * A1 m c (ix3 (planeOf n q) s (columnOf n q j)))
      = gradAt x0 x1 c i ⟨(3 * n.val + q.val) / 2, by omega⟩ (columnOf n q j) := by
    refine Finset.sum_congr rfl fun s _ => congrArg₂ (· * ·) ?_ ?_
    · rw [h0]; exact tokens_part c x0 s i
    · rw [h1]; exact planes_part c x1 _ s _
  exact (array_at m c n i q j).trans (e.trans (v17_at x0 x1 c n i q j).symm)

/-- A device's landing buffer is its part of the reference's. -/
theorem tables_eq (c : Dev nD)
    (h2 : ∀ c : Dev nD, A2 m c = Layout.blockN ⟨4, ![4, 3, 128, 1024]⟩ ⟨4, ![16, 3, 128, 1024]⟩
      (Layout.meshBlock [2, 2, 1] ![[0, 1], [], [], []] c) x2 (by decide)) :
    (arrived m c : (⟨4, ![3, 3, 128, 1024]⟩ : Shape).Idx → EReal)
      = Layout.blockN ⟨4, ![3, 3, 128, 1024]⟩ ⟨4, ![12, 3, 128, 1024]⟩ (Layout.meshBlock [2, 2, 1] ![[0, 1], [], [], []] c)
          (Cert.Reference6Ideal.Read.val_main_v30 (F := Ideal) x2) (by decide) := by
  funext i
  obtain ⟨k, r, a, b, rfl⟩ : ∃ (k r : Fin 3) (a : Fin 128) (b : Fin 1024), i = ix4 k r a b := ⟨_, _, _, _, ValueIdx.eq_ix4 i⟩
  rw [slots_part]
  refine (arrived_at m c k r a b).trans (Eq.trans ?_ (v30_at x2 c k r a b).symm)
  rw [h2]
  exact tables_part (peer c k) x2 c r a b

end Equation

/-- The kernel's results on each device and the device's part of the reference's are the same extended reals. -/
theorem algebraic : Cert.algebraic_Kernel6Ideal_Reference6Ideal := fun m g m' g' _ hargs =>
  ⟨_, _,
    (θ_run (Cert.Kernel6Ideal.defs (F := Ideal)) _ _).mono (fun r h c =>
        ⟨(h.1 c).1.1.trans (gradient_eq m _ _ c (hargs c).1 (hargs c).2.1),
          (h.1 c).1.2.trans (tables_eq m _ c fun d => (hargs d).2.2), (h.1 c).2⟩)
      (run_main (F := Ideal) m g),
    (θ_run (Cert.Reference6Ideal.defs (F := Ideal)) _ _).mono (fun r h => h 0) (reference_run m' g')⟩

end Cert.Win

end
-- ==== Proof.DaProtocol.lean ====
/- The exchange the gradient of the feed-forward activations carries along: each device of the pair holds a gradient of the down projection's
   weights, eight pieces of 352 rows, sends the other device every second one, the other's to finish, and takes its own four of the other's
   pieces into four slots. This module names the pieces, the slots and the nine semaphores, and states as a schedule what each of them is
   worth. -/
module

public import proofs.«01_k».proof.Proof.Gen.Kernel7Ideal.Launch
public import proofs.«01_k».proof.Proof.Gen.Kernel7Ideal.Points
public import proofs.«01_k».proof.Proof.Gen.Kernel7Ideal.Skeleton
public import Idealize.ShloMosaic.Lib.Rounds
public import Idealize.ShloMosaic.Lib.Tactic
public import Idealize.ShloMosaic.Lib.Pipeline.RegionTalk

@[expose] public section

noncomputable section

namespace Cert.Da

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel7Ideal Cert.Kernel7Ideal.Gen

variable {F : FTy → Type} [FloatOps F]

/-! ## The pair, its semaphores, the pieces and the slots -/

/-- The other device of the pair. -/
def mate (c : Dev nD) : Dev nD := ⟨1 - c.val, lt_of_le_of_lt (Nat.sub_le 1 c.val) (by decide)⟩
theorem mate_mate (c : Dev nD) : mate (mate c) = c := by revert c; decide
def swap : Dev nD ≃ Dev nD := ⟨mate, mate, mate_mate, mate_mate⟩

/-- The device the kernel signals, and the one it copies to, are the other of the pair. -/
theorem signals_mate (c : Dev nD) (h : k0_dev1 c < nD) : (⟨k0_dev1 c, h⟩ : Dev nD) = mate c :=
  Fin.ext ((k0_dev1_eq c).trans (by revert c; decide))

/-- Semaphore `k` of the pieces having left; of the pieces having arrived. -/
def sentSem (k : Fin 4) : DmaSem sig := ⟨5 + k.val, by show 5 + k.val < 13; omega⟩
def gotSem (k : Fin 4) : DmaSem sig := ⟨9 + k.val, by show 9 + k.val < 13; omega⟩

abbrev barCell (c : Dev nD) : GSem nD τ sig := ((c : Thread nD τ), .reg barrier0)
abbrev sentCell (c : Dev nD) (k : Fin 4) : GSem nD τ sig := ((c : Thread nD τ), .dma (sentSem k))
abbrev gotCell (c : Dev nD) (k : Fin 4) : GSem nD τ sig := ((c : Thread nD τ), .dma (gotSem k))

/-- The eight semaphores only this call uses. -/
def ownSem (k : Fin 8) : SemLoc sig := .dma ⟨5 + k.val, by show 5 + k.val < 13; omega⟩

/-- What a semaphore is for. -/
inductive Role where
  | bar
  | sent (k : Fin 4)
  | got (k : Fin 4)
  | other
  deriving DecidableEq

def role : SemLoc sig → Role
  | .reg _ => .bar
  | .dma s => if h : 9 ≤ s.val then .got ⟨s.val - 9, by have : s.val < 13 := s.isLt; omega⟩
      else if h' : 5 ≤ s.val then .sent ⟨s.val - 5, by omega⟩ else .other

theorem role_dma (s : DmaSem sig) : role (.dma s) ≠ .bar := by
  unfold role
  dsimp only
  split_ifs <;> exact fun h => by cases h
theorem role_bar : role (.reg barrier0) = .bar := rfl
theorem role_sent (k : Fin 4) : role (.dma (sentSem k)) = .sent k := by revert k; decide
theorem role_got (k : Fin 4) : role (.dma (gotSem k)) = .got k := by revert k; decide

/-- Where the piece `k` a device sends begins: of the rows' eight pieces, that of the other device's parity. -/
abbrev pieceOff (c : Dev nD) (k : Fin 4) : Fin 2 → Nat := ![704 * k.val + 352 - 352 * c.val, 0]
abbrev slotOff (k : Fin 4) : Fin 3 → Nat := ![k.val, 0, 0]
theorem piece_inb (c : Dev nD) (k : Fin 4) : ∀ a, pieceOff c k a + S352x1024.size a ≤ S2816x1024.size a := by revert c k; decide +kernel
theorem slot_inb (k : Fin 4) : ∀ a, slotOff k a + S1x352x1024.size a ≤ S4x352x1024.size a := by revert k; decide +kernel

/-- 352 rows of the gradient, from an offset on; a slot of the landing buffer, likewise. -/
abbrev pieceAt (off : Fin 2 → Nat) (h : ∀ a, off a + S352x1024.size a ≤ S2816x1024.size a) : Memref sig .tc .hbm S352x1024 .bf16 :=
  (Memref.whole main_arg2).slice (Rect.unit (s := S2816x1024) off S352x1024.size h) (fun _ => rfl)
abbrev slotAt (off : Fin 3 → Nat) (h : ∀ a, off a + S1x352x1024.size a ≤ S4x352x1024.size a) : Memref sig .tc .hbm S352x1024 .bf16 :=
  ((Memref.whole main_v1_1).slice (Rect.unit (s := S4x352x1024) off S1x352x1024.size h) (fun _ => rfl)).squeeze S352x1024 squeezes_S1x352x1024_S352x1024

abbrev piece (c : Dev nD) (k : Fin 4) : Memref sig .tc .hbm S352x1024 .bf16 := pieceAt (pieceOff c k) (piece_inb c k)
abbrev slot (k : Fin 4) : Memref sig .tc .hbm S352x1024 .bf16 := slotAt (slotOff k) (slot_inb k)

/-- What the copy of a piece credits. -/
abbrev credit : ℕ := (slot 0).view.dmaCredit
theorem credit_pos : 0 < credit := View.dmaCredit_pos _ (by decide)
theorem credit_slot (off : Fin 3 → Nat) (h : ∀ a, off a + S1x352x1024.size a ≤ S4x352x1024.size a) : (slotAt off h).view.dmaCredit = credit := rfl
theorem credit_piece (off : Fin 2 → Nat) (h : ∀ a, off a + S352x1024.size a ≤ S2816x1024.size a) : (pieceAt off h).view.dmaCredit = credit := rfl

theorem set_piece (c : Dev nD) (k : Fin 4) :
    (piece c k).view.set = (Rect.unit (s := S2816x1024) (pieceOff c k) S352x1024.size (piece_inb c k)).set := View.set_slice_whole _ _
theorem set_slot (k : Fin 4) :
    (slot k).view.set = (Rect.unit (s := S4x352x1024) (slotOff k) S1x352x1024.size (slot_inb k)).set :=
  (View.set_reshape _ _).trans (View.set_slice_whole _ _)

theorem mem_piece (c : Dev nD) (k : Fin 4) (i : S2816x1024.Idx) :
    i ∈ (piece c k).view.set ↔ 704 * k.val + 352 - 352 * c.val ≤ (i 0).val ∧ (i 0).val < 704 * k.val + 352 - 352 * c.val + 352 := by
  rw [set_piece, Rect.mem_set_unit]
  refine ⟨fun h => h (0 : Fin 2), fun h a => ?_⟩
  match a with
  | ⟨0, _⟩ => exact h
  | ⟨1, _⟩ => exact ⟨Nat.zero_le _, by simpa using (i (1 : Fin 2)).isLt⟩

theorem mem_slot (k : Fin 4) (i : S4x352x1024.Idx) : i ∈ (slot k).view.set ↔ (i 0).val = k.val := by
  rw [set_slot, Rect.mem_set_unit]
  constructor
  · intro h
    have h0 := h (0 : Fin 3)
    simp only [S1x352x1024, Matrix.cons_val_zero] at h0
    omega
  · intro h a
    match a with
    | ⟨0, _⟩ => exact ⟨le_of_eq h.symm, by show (i 0).val < k.val + 1; omega⟩
    | ⟨1, _⟩ => exact ⟨Nat.zero_le _, by simpa using (i (1 : Fin 3)).isLt⟩
    | ⟨2, _⟩ => exact ⟨Nat.zero_le _, by simpa using (i (2 : Fin 3)).isLt⟩

theorem pieces_disjoint (c : Dev nD) {k l : Fin 4} (h : k ≠ l) : Disjoint (piece c k).view.set (piece c l).view.set := by
  rw [Finset.disjoint_left]
  intro i hi hj
  rw [mem_piece] at hi hj
  exact h (Fin.ext (by have : c.val < 2 := c.isLt; omega))

theorem slots_disjoint {k l : Fin 4} (h : k ≠ l) : Disjoint (slot k).view.set (slot l).view.set := by
  rw [Finset.disjoint_left]
  intro i hi hj
  rw [mem_slot] at hi hj
  exact h (Fin.ext (hi.symm.trans hj))

/-! ## What the devices hold -/

/-- The library's copy of the round algebra and this protocol's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev EX : Emb (UR sig nD τ) (MT nD τ sig Unit (Elt F) ℕ UU ℕ) := embR

/-- The same resource for each of the four pieces. -/
abbrev four (Φ : Fin 4 → sProp 𝕄) : sProp 𝕄 := iprop(Φ 0 ∗ Φ 1 ∗ Φ 2 ∗ Φ 3)
theorem four_eq (Φ : Fin 4 → sProp 𝕄) : bigSep Finset.univ Φ = four Φ :=
  bigSep_univ_eq_bigSepL [(0 : Fin 4), 1, 2, 3] (by decide) (by decide) Φ

variable (m : (ℓ : Loc nD τ sig) → Buf (Elt F) ℓ)

/-- A device's memory at launch. -/
abbrev V₁ (c : Dev nD) : Valuation τ sig (Elt F) := fun b => m ((c : Dev nD), b)

abbrev tables (c : Dev nD) : (main_arg2 : Ref sig .tc).ty.Contents (Elt F) := V₁ m c main_arg2
abbrev landing (c : Dev nD) : (main_v1_1 : Ref sig .tc).ty.Contents (Elt F) := V₁ m c main_v1_1

/-- Device `c`'s landing buffer with the other device's piece `k` in slot `k`. -/
def landed (c : Dev nD) (k : Fin 4) : (main_v1_1 : Ref sig .tc).ty.Contents (Elt F) :=
  (slot k).view.write (Elt F) (landing m c) ((piece (mate c) k).view.read (Elt F) (tables m (mate c))) Finset.univ

/-- Device `c`'s landing buffer once all four have arrived. -/
def arrived (c : Dev nD) : (main_v1_1 : Ref sig .tc).ty.Contents (Elt F) := fun i => landed m c ⟨(i (0 : Fin 3)).val, (i (0 : Fin 3)).isLt⟩ i

/-- On device `c`, piece `k` of its gradient at `f`; slot `k` of its landing buffer at `f`. -/
abbrev pieceRows (c : Dev nD) (k : Fin 4) (f : (main_arg2 : Ref sig .tc).ty.Contents (Elt F)) : sProp 𝕄 :=
  (piece c k).view.loc (c : Thread nD τ) ↦[(piece c k).view.set]{fullShare} f
abbrev slotRows (c : Dev nD) (k : Fin 4) (f : (main_v1_1 : Ref sig .tc).ty.Contents (Elt F)) : sProp 𝕄 :=
  (slot k).view.loc (c : Thread nD τ) ↦[(slot k).view.set]{fullShare} f

/-! ## The schedule: one round, one duty on each of the nine semaphores -/

/-- The signal on `c`'s barrier: the other device's slots, and that its arrivals are being counted. -/
def barPay (c : Dev nD) : sProp 𝕄 :=
  iprop(four (fun k => slotRows (mate c) k (landing m (mate c))) ∗ four (fun k => reached EX (gotCell (mate c) k) 0))
/-- The arrival of copy `k` on `c`: slot `k`, at the other device's piece. -/
def gotPay (c : Dev nD) (k : Fin 4) : sProp 𝕄 := slotRows c k (landed m c k)
/-- The departure of copy `k` from `c`: its own piece back. -/
def sentPay (c : Dev nD) (k : Fin 4) : sProp 𝕄 := pieceRows c k (tables m c)

/-- What is paid on device `c`'s semaphore of a role. -/
def pay (c : Dev nD) : Role → sProp 𝕄
  | .bar => barPay m c
  | .sent k => sentPay m c k
  | .got k => gotPay m c k
  | .other => iprop(emp)

instance pay_storable (c : Dev nD) (x : Role) : BI.Storable (upEmb : UEmb _ 𝕄) (pay (F := F) m c x) := by
  match x with
  | .bar => show BI.Storable upEmb (barPay m c); unfold barPay; infer_instance
  | .sent k => show BI.Storable upEmb (sentPay m c k); unfold sentPay; infer_instance
  | .got k => show BI.Storable upEmb (gotPay m c k); unfold gotPay; infer_instance
  | .other => show BI.Storable upEmb iprop(emp); infer_instance

def plan : Rounds.Schedule (GSem nD τ sig) Unit 𝕄 where
  duties g r := if r = 0 ∧ g.1.2 = .tc ∧ role g.2 ≠ .other then {()} else ∅
  unitless _ := False
  amount g _ _ := if role g.2 = .bar then 1 else credit
  payload g _ _ := pay m g.1.1 (role g.2)
  amount_pos g _ _ _ := by
    by_cases h : role g.2 = .bar
    · rw [if_pos h]; exact Nat.one_pos
    · rw [if_neg h]; exact credit_pos

instance plan_payload_storable (g : GSem nD τ sig) (r : ℕ) (d : Unit) :
    BI.Storable (upEmb : UEmb _ 𝕄) ((plan (F := F) m).payload g r d) := pay_storable m g.1.1 (role g.2)

section Plan

variable (c : Dev nD)

theorem duties_at (s : SemLoc sig) (h : role s ≠ .other) : (plan (F := F) m).duties ((c : Thread nD τ), s) 0 = {()} := by
  dsimp only [plan]; exact if_pos ⟨rfl, rfl, h⟩
theorem duties_later (g : GSem nD τ sig) : ∀ r, 1 ≤ r → (plan (F := F) m).duties g r = ∅ :=
  fun r hr => by dsimp only [plan]; exact if_neg fun h => by omega

theorem amount_bar (u : Unit) : (plan (F := F) m).amount (barCell c) 0 u = 1 := by dsimp only [plan]; exact if_pos rfl
theorem amount_dma (s : DmaSem sig) (u : Unit) : (plan (F := F) m).amount ((c : Thread nD τ), .dma s) 0 u = credit := by
  dsimp only [plan]; exact if_neg (role_dma s)

theorem expect_bar : (plan (F := F) m).expect (barCell c) 0 = 1 := by
  unfold Schedule.expect Schedule.amountOf; rw [duties_at m c _ (by rw [role_bar]; decide), Finset.sum_singleton, amount_bar]
theorem expect_dma (s : DmaSem sig) (h : role (.dma s) ≠ .other) : (plan (F := F) m).expect ((c : Thread nD τ), .dma s) 0 = credit := by
  unfold Schedule.expect Schedule.amountOf; rw [duties_at m c _ h, Finset.sum_singleton, amount_dma]

theorem payload_at (s : SemLoc sig) (u : Unit) : (plan (F := F) m).payload ((c : Thread nD τ), s) 0 u = pay m c (role s) := rfl

theorem rest_at (s : SemLoc sig) (h : role s ≠ .other) :
    bigSep ((plan (F := F) m).duties ((c : Thread nD τ), s) 0 \ ∅) (fun u => (plan (F := F) m).payload ((c : Thread nD τ), s) 0 u) = pay m c (role s) := by
  rw [Finset.sdiff_empty, duties_at m c s h, bigSep_singleton, payload_at]

theorem sent_used (k : Fin 4) : role (.dma (sentSem k)) ≠ .other := by rw [role_sent]; exact fun h => by cases h
theorem got_used (k : Fin 4) : role (.dma (gotSem k)) ≠ .other := by rw [role_got]; exact fun h => by cases h
theorem bar_used : role (.reg barrier0) ≠ .other := by rw [role_bar]; exact fun h => by cases h

end Plan

/-! ## What a device owes, and in which order it may wait -/

/-- The arrival of piece `k` a device owes the other one. -/
abbrev arrival (c : Dev nD) (k : Fin 4) : CellTallies nD τ sig Unit := tallyAt (gotCell (mate c) k) () credit
/-- What it owes with the last `n` pieces still to send. -/
def due (c : Dev nD) : ℕ → CellTallies nD τ sig Unit
  | 0 => 0
  | n + 1 => due c n + arrival c ⟨3 - n, by omega⟩
/-- At launch a device owes the other one four arrivals and a barrier unit. -/
def debt (c : Dev nD) : CellTallies nD τ sig Unit := due c 4 + tallyAt (barCell (mate c)) () 1

def L (g : GSem nD τ sig) : Finset Unit := if g.1.2 = .tc then {()} else ∅
/-- Barriers come before arrivals; everything else comes before both. -/
def lv (g : GSem nD τ sig) (_ : Unit) : ℕ := match role g.2 with
  | .bar => 1
  | .got _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by
  rw [L_tc]; exact Finset.mem_singleton_self _
theorem lv_bar (c : Dev nD) (u : Unit) : lv (barCell c) u = 1 := rfl
theorem lv_got (c : Dev nD) (k : Fin 4) (u : Unit) : lv (gotCell c k) u = 2 := by
  unfold lv; dsimp only; rw [role_got]

theorem tallyAt_cell {g g' : GSem nD τ sig} {u : Unit} {n : ℕ} (h : 0 < (tallyAt g' () n : CellTallies nD τ sig Unit) g u) : g = g' := by
  rw [tallyAt_apply] at h
  by_contra hne
  rw [if_neg fun hh => hne hh.1] at h
  exact absurd h (Nat.lt_irrefl 0)

theorem due_cell {c : Dev nD} {g : GSem nD τ sig} {u : Unit} : ∀ n : ℕ, 0 < due c n g u → ∃ k, g = gotCell (mate c) k
  | 0, h => absurd h (Nat.lt_irrefl 0)
  | n + 1, h => by
    unfold due at h
    rw [Pi.add_apply, Finsupp.add_apply] at h
    exact (Nat.add_pos_iff_pos_or_pos.mp h).elim (due_cell n) fun h => ⟨_, tallyAt_cell h⟩

theorem debt_cell {c : Dev nD} {g : GSem nD τ sig} {u : Unit} (h : 0 < debt c g u) : (∃ k, g = gotCell (mate c) k) ∨ g = barCell (mate c) := by
  unfold debt at h
  rw [Pi.add_apply, Finsupp.add_apply] at h
  exact (Nat.add_pos_iff_pos_or_pos.mp h).imp (due_cell 4) tallyAt_cell

/-- A device may wait on its barrier while it still owes the other one the arrivals. -/
theorem mayWait_bar (c : Dev nD) :
    (levAts L lv : sProp 𝕄) ⊢ MayWait (c : Thread nD τ) (.reg barrier0) () (due c 4) :=
  MayOwe.of_cut (L := L) (lev := lv) 1 (fun p hp => by rw [Finset.mem_singleton.mp hp]; exact mem_L ..)
    (fun g u hg => by obtain ⟨k, rfl⟩ := due_cell 4 hg; exact mem_L ..)
    (fun p hp => by rw [Finset.mem_singleton.mp hp]; exact (lv_bar c _).le)
    (fun g u hg => by obtain ⟨k, rfl⟩ := due_cell 4 hg; rw [lv_got]; decide)

/-! ## The ghost state, in its four stages -/

/-- The invariants device `c` opens: its own nine, and the other device's barrier and arrivals. -/
def invs (K : GSem nD τ sig → ℕ) (c : Dev nD) : sProp 𝕄 :=
  iprop(cellInv EX (plan m) (K (barCell c)) (barCell c) ∗ four (fun k => cellInv EX (plan m) (K (sentCell c k)) (sentCell c k))
    ∗ four (fun k => cellInv EX (plan m) (K (gotCell c k)) (gotCell c k))
    ∗ cellInv EX (plan m) (K (barCell (mate c))) (barCell (mate c))
    ∗ four (fun k => cellInv EX (plan m) (K (gotCell (mate c) k)) (gotCell (mate c) k)))

instance invs_persistent (K : GSem nD τ sig → ℕ) (c : Dev nD) : BI.Persistent (invs m K c) := by unfold invs; infer_instance

/-- The duties a device pays. -/
abbrev payable (c : Dev nD) : sProp 𝕄 :=
  iprop(dutyTok EX (barCell (mate c)) 0 () ∗ four (fun k => dutyTok EX (sentCell c k) 0 ()) ∗ four (fun k => dutyTok EX (gotCell (mate c) k) 0 ()))

/-- From launch to the call: its place on its barrier, the rights to open the semaphores of the call, the duties it will pay. -/
def ghost (K : GSem nD τ sig → ℕ) (c : Dev nD) : sProp 𝕄 :=
  iprop(invs m K c
    ∗ atPos EX (barCell c) 0 ∅ 0 ∗ four (fun k => openTok EX (sentCell c k)) ∗ four (fun k => openTok EX (gotCell c k))
    ∗ reached EX (barCell (mate c)) 0 ∗ payable c)

/-- The same once the call has opened its semaphores. -/
def opened (K : GSem nD τ sig → ℕ) (c : Dev nD) : sProp 𝕄 :=
  iprop(invs m K c
    ∗ atPos EX (barCell c) 0 ∅ 0 ∗ four (fun k => atPos EX (sentCell c k) 0 ∅ 0) ∗ four (fun k => atPos EX (gotCell c k) 0 ∅ 0)
    ∗ reached EX (barCell (mate c)) 0 ∗ four (fun k => reached EX (sentCell c k) 0) ∗ four (fun k => reached EX (gotCell c k) 0) ∗ payable c)

/-- Before the first point: everything the exchange needs, the pieces and the slots. -/
def before (c : Dev nD) : sProp 𝕄 :=
  iprop((∃ K, opened m K c) ∗ cred (tallyAt (barCell c) () 1) ∗ four (fun k => cred (tallyAt (gotCell c k) () credit)) ∗ levAts L lv
    ∗ four (fun k => pieceRows c k (tables m c)) ∗ four (fun k => slotRows c k (landing m c)))

/-- Between the points: the barrier done with, the copies in flight, the pieces and the slots away. -/
def during (c : Dev nD) : sProp 𝕄 :=
  iprop((∃ K, invs m K c) ∗ semVal (barCell c) 0 ∗ four (fun k => atPos EX (sentCell c k) 0 ∅ 0) ∗ four (fun k => atPos EX (gotCell c k) 0 ∅ 0)
    ∗ four (fun k => cred (tallyAt (sentCell c k) () credit)) ∗ four (fun k => cred (tallyAt (gotCell c k) () credit)))

/-- After the last point: the nine counters at zero, the pieces back, the slots filled. -/
def after (c : Dev nD) : sProp 𝕄 :=
  iprop(semVal (barCell c) 0 ∗ (four (fun k => semVal (sentCell c k) 0) ∗ four (fun k => semVal (gotCell c k) 0))
    ∗ four (fun k => pieceRows c k (tables m c)) ∗ four (fun k => slotRows c k (landed m c k)))

theorem close (κ : ℕ) (g : GSem nD τ sig) :
    iprop(cellInv EX (plan m) κ g ∗ atPos EX g (0 + 1) ∅ 0) ⊢ (|={Set.univ}=> semVal g 0 : sProp 𝕄) :=
  Rounds.cell_close EX (plan m) (Set.mem_univ κ) id (duties_later m g)

end Cert.Da

end
-- ==== Proof.DaExchange.lean ====
/- The two moves of the exchange: a piece sent to the other device, and the wait for a copy to have left or arrived; the
   product of a grid point. -/
module

public import proofs.«01_k».proof.Proof.DaProtocol
public import Idealize.ShloMosaic.Lib.KernelVsHost

@[expose] public section

set_option maxRecDepth 16384

noncomputable section

namespace Cert.Da

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel7Ideal Cert.Kernel7Ideal.Gen

variable {F : FTy → Type} [FloatOps F]

local notation "𝕄" => MT nD τ sig Unit (Elt F) ℕ UU ℕ

variable (m : (ℓ : Loc nD τ sig) → Buf (Elt F) ℓ)

theorem is_mate (c : Dev nD) (n : ℕ) (e : n = (4 * (c.val / 2) + 1) - c.val) (h : n < nD) : (⟨n, h⟩ : Dev nD) = mate c :=
  Fin.ext (e.trans (by have : c.val < 2 := c.isLt; show _ = 1 - c.val; omega))

/-- What sending piece `k` takes. -/
def ready (κ : GSem nD τ sig → ℕ) (c : Dev nD) (k : Fin 4) : sProp 𝕄 :=
  iprop(cellInv EX (plan m) (κ (sentCell c k)) (sentCell c k) ∗ cellInv EX (plan m) (κ (gotCell (mate c) k)) (gotCell (mate c) k)
    ∗ pieceRows c k (tables m c) ∗ slotRows (mate c) k (landing m (mate c))
    ∗ dutyTok EX (sentCell c k) 0 () ∗ reached EX (sentCell c k) 0
    ∗ dutyTok EX (gotCell (mate c) k) 0 () ∗ reached EX (gotCell (mate c) k) 0)

theorem landed_mate (c : Dev nD) (k : Fin 4) : landed m (mate c) k
    = (slot k).view.write (Elt F) (landing m (mate c)) ((piece c k).view.read (Elt F) (tables m c)) Finset.univ := by
  unfold landed; rw [mate_mate]

/-- The copy of a piece to the other device: it gives that device its arrival and, once gone, its own device the piece back. -/
theorem send_piece (c d : Dev nD) (e : d = mate c) (n : ℕ) (k : Fin 4) (hk : k = ⟨3 - n, by omega⟩) (s g : DmaSem sig)
    (hs : s = sentSem k) (hg : g = gotSem k) (off : Fin 2 → Nat) (off' : Fin 3 → Nat) (h h') (ho : off = pieceOff c k) (ho' : off' = slotOff k)
    (hw hw' hq) (κ : GSem nD τ sig → ℕ) (W : Waits sig Unit)
    (r : PUnit → Prog (TpuEff nD τ sig (Elt F) Λ₀ .tc) PUnit) (K : PUnit → sProp 𝕄) :
    iprop(ready m κ c k ∗ owes (c : Thread nD τ) (due c (n + 1)) W)
      ⊢ iprop((iprop(cred (tallyAt (sentCell c k) () credit) ∗ owes (c : Thread nD τ) (due c n) W)
          -∗ wp frame (wpE (defs₀ (F := F)) Variants.none c none) Set.univ (r ⟨⟩) K)
        -∗ wp frame (wpE (defs₀ (F := F)) Variants.none c none) Set.univ
          (.op (.enqueueDma (pieceAt off h) (.remote (Dev.tc d) (slotAt off' h') (.dma s)) (.dma g) hw hw' hq) r) K) := by
  subst e; subst hs; subst hg; subst ho; subst ho'
  unfold ready
  iintro ⟨⟨#HIsent, #HIgotM, Hown, Hslot, HtS, #HrS, HtG, #HrGM⟩, HO⟩ Hk
  iapply (Rounds.wp_send_pointsTo Variants.none EX (plan m) (c : Thread nD τ) none (c' := (mate c : Thread nD τ)) (src := piece c k) (dst := slot k)
      (sS := .dma (sentSem k)) (sem := .dma (gotSem k)) (q := fullShare) (fs := tables m c) (κ₁ := κ (sentCell c k)) (κ₂ := κ (gotCell (mate c) k))
      (r₁ := 0) (r₂ := 0) (d₁ := ()) (d₂ := ()) (fd := landing m (mate c))
      (by rw [duties_at m c _ (sent_used k)]; exact Finset.mem_singleton_self _)
      (by rw [duties_at m (mate c) _ (got_used k)]; exact Finset.mem_singleton_self _)
      () () credit rfl (amount_dma m c _ ()) (amount_dma m (mate c) _ ()) (due c n) (by subst hk; rfl) (W := W)
      (by rw [payload_at, role_sent]; exact BI.Entails.refl _)
      (by rw [payload_at, role_got]; show _ ⊢ slotRows (mate c) k (landed m (mate c) k); rw [landed_mate])) $$ [Hown Hslot HO HtS HtG]
  · iframe HIsent HIgotM Hown Hslot HO HtS HrS HtG HrGM
  iexact Hk

/-- What waiting on semaphore `s` takes. -/
def awaited (κ : GSem nD τ sig → ℕ) (c : Dev nD) (s : DmaSem sig) : sProp 𝕄 :=
  iprop(cellInv EX (plan m) (κ ((c : Thread nD τ), .dma s)) ((c : Thread nD τ), .dma s) ∗ cred (tallyAt ((c : Thread nD τ), .dma s) () credit)
    ∗ atPos EX ((c : Thread nD τ), .dma s) 0 ∅ 0)

/-- A wait for a whole piece by a semaphore: what was to be paid there comes with it, and the semaphore is done with. -/
theorem wait_piece (c : Dev nD) (s s' : DmaSem sig) (e : s' = s) (hr : role (.dma s) ≠ .other) (src dst : Memref sig .tc .hbm S352x1024 .bf16)
    (hc : dst.view.dmaCredit = credit) (hw hw') (κ : GSem nD τ sig → ℕ) (W : Waits sig Unit)
    (r : PUnit → Prog (TpuEff nD τ sig (Elt F) Λ₀ .tc) PUnit) (K : PUnit → sProp 𝕄) :
    iprop(awaited m κ c s ∗ owes (c : Thread nD τ) (0 : CellTallies nD τ sig Unit) W)
      ⊢ iprop((iprop((∃ W, owes (c : Thread nD τ) (0 : CellTallies nD τ sig Unit) W) ∗ semVal ((c : Thread nD τ), .dma s) 0 ∗ pay m c (role (.dma s)))
          -∗ wp frame (wpE (defs₀ (F := F)) Variants.none c none) Set.univ (r ⟨⟩) K)
        -∗ wp frame (wpE (defs₀ (F := F)) Variants.none c none) Set.univ (.op (.waitDma2 s' src dst hw hw') r) K) := by
  subst e
  unfold awaited
  have he := expect_dma m c s' hr
  rw [← hc] at he ⊢
  iintro ⟨⟨#HI, Hc, Hat⟩, HO⟩ Hk
  iapply (Rounds.wp_wait_rest_token Variants.none EX (plan m) (c : Thread nD τ) none (κ := κ ((c : Thread nD τ), .dma s'))
      (wpE_waitDma2_eq Variants.none (c : Thread nD τ) none Set.univ) (Set.mem_univ _) () (O := 0) (W := W) (R := 0) (m := 0) (T := ∅)
      ((Nat.zero_add _).trans he.symm)) $$ [Hc HO Hat]
  · iframe HI Hc HO
    isplitr; · rw [MayWait_zero]; iempintro
    iexact Hat
  iintro ⟨HO, Hat, -, Hpay⟩
  imod (close m (κ ((c : Thread nD τ), .dma s')) ((c : Thread nD τ), .dma s')) $$ [Hat] with H0
  · iframe HI Hat
  iapply Hk
  isplitl [HO]; · iexists _; iexact HO
  iframe H0
  iapply (Entails.of_eq (rest_at m c _ hr)); iexact Hpay

/-! ## The product of a point -/

theorem origin2 : (![0, 0] : Fin 2 → Nat) = fun _ => 0 := funext fun a => by fin_cases a <;> rfl

section Point

variable (c : Dev nD) (i : grid0.Coords)
    (a1 : Memref sig .tc .vmem S512x1024 .bf16) (h1 : a1.IsWhole) (a2 : Memref sig .tc .vmem S2816x1024 .bf16) (h2 : a2.IsWhole)
    (a4 : Memref sig .tc .vmem S512x2816 .bf16) (h4 : a4.IsWhole)
    (x0 : Vec F S512x1024 .bf16) (x1 : Vec F S2816x1024 .bf16)

/-- The two blocks of a point, and room for its product. -/
abbrev blocksIn : sProp 𝕄 := iprop(owns (c : Thread nD τ) a1 fullShare x0 ∗ owns (c : Thread nD τ) a2 fullShare x1 ∗ ∃ d, owns (c : Thread nD τ) a4 fullShare d)
/-- The two blocks, and their product. -/
abbrev blocksOut : sProp 𝕄 := iprop(owns (c : Thread nD τ) a1 fullShare x0 ∗ owns (c : Thread nD τ) a2 fullShare x1 ∗ owns (c : Thread nD τ) a4 fullShare (k0_pay1 x0 x1))

/-- The call's body at any point. -/
abbrev body : Prog (TpuEff nD τ sig (Elt F) Λ₀ .tc) PUnit :=
  cc0_ffn_bwd_da i a1 h1 a2 h2 (Memref.whole main_arg2) (Memref.isWhole_whole _) a4 h4 (Memref.whole main_v1_1) (Memref.isWhole_whole _) cc0_scratch0 cc0_scratch1

/-- The one store of a point covers its block: what it leaves is the product. -/
theorem product_left (f : a4.view.ty.Contents (Elt F)) :
    a4.view.read (Elt F) (a4.view.writes (Elt F) f
        [⟨Rect.unit ![0, 0] S512x2816.size inb_S512x2816_S512x2816_0_0,
            k0_pay1
              (View.readAt (Elt F) a1.view (Rect.unit ![0, 0] S512x1024.size inb_S512x1024_S512x1024_0_0).toLoadRect (h1.unread x0))
              (View.readAt (Elt F) a2.view (Rect.unit ![0, 0] S2816x1024.size inb_S2816x1024_S2816x1024_0_0).toLoadRect (h2.unread x1))⟩])
      = k0_pay1 x0 x1 := by
  rw [View.read_writes_eq_canon _ _ _ fun y => ⟨_, List.mem_singleton_self _, View.mem_set_unit_zero origin2 inb_S512x2816_S512x2816_0_0 y⟩, View.canon_unit_zero origin2]
  simp only [View.readAt_eq_ld, h1.read_unread, h2.read_unread,
    View.ld_unit_zero (S := S512x1024) origin2, View.ld_unit_zero (S := S2816x1024) origin2]

/-- The loads, the product and the store of a point, before whatever follows. -/
def multiply (k : PUnit → Prog (TpuEff nD τ sig (Elt F) Λ₀ .tc) PUnit) : Prog (TpuEff nD τ sig (Elt F) Λ₀ .tc) PUnit :=
  .op (.load a1 (Rect.unit (s := S512x1024) ![0, 0] S512x1024.size inb_S512x1024_S512x1024_0_0).toLoadRect (View.loadsAt_vmem h_S512x1024)) fun (v12 : Vec F S512x1024 .bf16) =>
  .op (.load a2 (Rect.unit (s := S2816x1024) ![0, 0] S2816x1024.size inb_S2816x1024_S2816x1024_0_0).toLoadRect (View.loadsAt_vmem h_S2816x1024)) fun (v14 : Vec F S2816x1024 .bf16) =>
  .op (.load a4 (Rect.unit (s := S512x2816) ![0, 0] S512x2816.size inb_S512x2816_S512x2816_0_0).toLoadRect (View.loadsAt_vmem h_S512x2816)) fun (_ : Vec F S512x2816 .bf16) =>
  .op (.store a4 (Rect.unit (s := S512x2816) ![0, 0] S512x2816.size inb_S512x2816_S512x2816_0_0) (k0_pay1 v12 v14) Finset.univ
    (View.stores_vmem h_S512x2816 (h4.storeExact_slice rfl _ packedbf16_S512x2816_S512x2816_0_0) (fun _ => rfl)) (.inl rfl)) k

include h1 h2 in
set_option maxHeartbeats 1000000 in
theorem multiply_run (k : PUnit → Prog (TpuEff nD τ sig (Elt F) Λ₀ .tc) PUnit) (K : PUnit → sProp 𝕄) :
    iprop(blocksIn c a1 a2 a4 x0 x1 ∗ (blocksOut c a1 a2 a4 x0 x1 -∗ wp frame (wpE (defs₀ (F := F)) Variants.none c none) Set.univ (k ⟨⟩) K))
      ⊢ wp frame (wpE (defs₀ (F := F)) Variants.none c none) Set.univ (multiply a1 a2 a4 h4 k) K := by
  unfold multiply blocksIn blocksOut owns
  iintro ⟨⟨⟨%f0, %hf0, H0⟩, ⟨%f1, %hf1, H1⟩, ⟨%d2, %f2, -, H2⟩⟩, Hk⟩
  obtain rfl := h1.eq_unread hf0; obtain rfl := h2.eq_unread hf1
  sl_step
  sl_step
  sl_step
  sl_step
  iapply Hk
  isplitl [H0]
  · iexists _; isplitr; · ipureintro; exact h1.read_unread _
    iexact H0
  isplitl [H1]
  · iexists _; isplitr; · ipureintro; exact h2.read_unread _
    iexact H1
  iexists _; isplitr
  swap; · iexact H2
  ipureintro
  exact product_left a1 h1 a2 h2 a4 x0 x1 f2

end Point

end Cert.Da

end
-- ==== Proof.DaPoint.lean ====
/- The three kinds of grid points of the gradient of the feed-forward activations: the first signals the other device and sends it its pieces;
   those between only multiply; the last takes what the other device sent. -/
module

public import proofs.«01_k».proof.Proof.DaExchange

@[expose] public section

set_option maxRecDepth 16384

noncomputable section

namespace Cert.Da

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel7Ideal Cert.Kernel7Ideal.Gen

variable {F : FTy → Type} [FloatOps F]

local notation "𝕄" => MT nD τ sig Unit (Elt F) ℕ UU ℕ

variable (m : (ℓ : Loc nD τ sig) → Buf (Elt F) ℓ) (c : Dev nD) (i : grid0.Coords)
    (a1 : Memref sig .tc .vmem S512x1024 .bf16) (h1 : a1.IsWhole) (a2 : Memref sig .tc .vmem S2816x1024 .bf16) (h2 : a2.IsWhole)
    (a4 : Memref sig .tc .vmem S512x2816 .bf16) (h4 : a4.IsWhole)
    (x0 : Vec F S512x1024 .bf16) (x1 : Vec F S2816x1024 .bf16)

/-! ## Which points exchange -/

theorem sends_iff : ∀ t : Fin grid0.N, k0_cond1 (grid0.coords t) = 1#1 ↔ t.val = 0 := by decide +kernel
theorem takes_iff : ∀ t : Fin grid0.N, k0_cond2 (grid0.coords t) = 1#1 ↔ t.val = 7 := by decide +kernel

/-- A point that exchanges nothing. -/
theorem middle_run (hs : k0_cond1 i ≠ 1#1) (ht : k0_cond2 i ≠ 1#1) (K : PUnit → sProp 𝕄) :
    iprop(blocksIn c a1 a2 a4 x0 x1 ∗ (blocksOut c a1 a2 a4 x0 x1 -∗ K ⟨⟩))
      ⊢ wp frame (wpE (defs₀ (F := F)) Variants.none c none) Set.univ (body (F := F) i a1 h1 a2 h2 a4 h4) K := by
  unfold body
  simp only [cc0_ffn_bwd_da_eq_skeleton]; unfold cc0_ffn_bwd_da_skel
  rw [dif_neg hs, dif_neg ht]
  refine BIBase.Entails.trans ?_ (multiply_run c a1 h1 a2 h2 a4 h4 x0 x1 (fun _ => .ret ⟨⟩) K)
  rw [wp_ret]
  iintro ⟨Hin, Hk⟩
  iframe Hin
  iintro Hout
  imodintro
  iapply Hk; iexact Hout

/-- What a device holds when its first point begins, with what it owes, -/
abbrev sendPre (W : Waits sig Unit) : sProp 𝕄 := iprop(before m c ∗ owes (c : Thread nD τ) (debt c) W)
/-- and once its pieces are on their way. -/
abbrev sendPost : sProp 𝕄 := iprop(during m c ∗ ∃ W, owes (c : Thread nD τ) (0 : CellTallies nD τ sig Unit) W)

set_option maxHeartbeats 4000000 in
/-- The first point: signal the other device, wait for its signal, send the pieces, multiply. -/
theorem first_run (hs : k0_cond1 i = 1#1) (ht : k0_cond2 i ≠ 1#1) (W : Waits sig Unit) (K : PUnit → sProp 𝕄) :
    iprop(sendPre m c W ∗ blocksIn c a1 a2 a4 x0 x1 ∗ (iprop(sendPost m c ∗ blocksOut c a1 a2 a4 x0 x1) -∗ K ⟨⟩))
      ⊢ wp frame (wpE (defs₀ (F := F)) Variants.none c none) Set.univ (body (F := F) i a1 h1 a2 h2 a4 h4) K := by
  unfold body
  simp only [cc0_ffn_bwd_da_eq_skeleton]; unfold cc0_ffn_bwd_da_skel
  rw [dif_pos hs]
  simp only [k0_part1_eq_skeleton, k0_part2_eq_skeleton, k0_part3_eq_skeleton]; unfold k0_part1_skel k0_part2_skel k0_part3_skel
  rw [dif_neg ht]
  simp only [Prog.lift, semSignalWord, semWaitWord, Prog.bind_op, Prog.bind_ret, Prog.pure_eq_ret, wp_deviceId, signals_mate]
  unfold sendPre sendPost before opened invs
  iintro ⟨⟨⟨⟨%κ, ⟨#HIbar, ⟨#HS0, #HS1, #HS2, #HS3⟩, #HG, #HIbarM, ⟨#HM0, #HM1, #HM2, #HM3⟩⟩, HatB, HatS, HatG, #HrM, ⟨#HrS0, #HrS1, #HrS2, #HrS3⟩, #HrG,
    ⟨HtM, ⟨HtS0, HtS1, HtS2, HtS3⟩, ⟨HtG0, HtG1, HtG2, HtG3⟩⟩⟩, HcB, HcG, #Hlev, ⟨Hp0, Hp1, Hp2, Hp3⟩, Hslots⟩, HO⟩, Hin, Hk⟩
  -- the signal: the other device gets this one's slots, and that arrivals are counted here
  iapply (Rounds.wp_signal Variants.none EX (plan m) (c : Thread nD τ) none (dst := (mate c : Thread nD τ)) (sem := barrier0) (r := 0) (d := ()) (κ := κ (barCell (mate c)))
      (by rw [duties_at m (mate c) _ bar_used]; exact Finset.mem_singleton_self _) (amount_bar m (mate c) ()) () (due c 4) rfl)
    $$ [HO HtM Hslots]
  · iframe HIbarM HO HtM
    isplitl [Hslots]
    · rw [payload_at, role_bar]; unfold pay barPay; rw [mate_mate]
      isplitl [Hslots]; · iexact Hslots
      iexact HrG
    · iexact HrM
  iintro HO
  -- the wait on the barrier: the other device's slots come with the unit
  iapply (Rounds.wp_wait_rest_token Variants.none EX (plan m) (c : Thread nD τ) none (κ := κ (barCell c))
      (wpE_semWait_eq Variants.none (c : Thread nD τ) none Set.univ) (Set.mem_univ _) () (O := due c 4) (W := W) (R := 0) (m := 0) (T := ∅)
      ((Nat.zero_add 1).trans (expect_bar m c).symm)) $$ [HcB HO HatB]
  · iframe HIbar HcB HO
    isplitr; · iapply (mayWait_bar c); iexact Hlev
    iexact HatB
  iintro ⟨HO, HatB, -, Hpay⟩
  ihave Hp := (Entails.of_eq ((rest_at m c _ bar_used).trans (show pay m c (role (.reg barrier0)) = barPay m c from rfl))) $$ Hpay
  unfold barPay
  icases Hp with ⟨⟨Hs0, Hs1, Hs2, Hs3⟩, ⟨#HrM0, #HrM1, #HrM2, #HrM3⟩⟩
  -- the four copies
  iapply (send_piece m c _ (is_mate c _ (k0_dev2_eq c) _) 3 0 rfl _ _ rfl rfl _ _ _ _ (k0_off1_eq c 0) rfl _ _ _ κ (insert (SemLoc.reg barrier0, ()) W)) $$ [HO Hp0 Hs0 HtS0 HtG0]
  · isplitr [HO]
    · unfold ready
      iframe HS0 HM0 Hp0 Hs0 HtS0 HrS0 HtG0 HrM0
    iexact HO
  iintro ⟨HcS0, HO⟩
  iapply (send_piece m c _ (is_mate c _ (k0_dev3_eq c) _) 2 1 rfl _ _ rfl rfl _ _ _ _ (k0_off1_eq c 1) rfl _ _ _ κ (insert (SemLoc.reg barrier0, ()) W)) $$ [HO Hp1 Hs1 HtS1 HtG1]
  · isplitr [HO]
    · unfold ready
      iframe HS1 HM1 Hp1 Hs1 HtS1 HrS1 HtG1 HrM1
    iexact HO
  iintro ⟨HcS1, HO⟩
  iapply (send_piece m c _ (is_mate c _ (k0_dev4_eq c) _) 1 2 rfl _ _ rfl rfl _ _ _ _ (k0_off1_eq c 2) rfl _ _ _ κ (insert (SemLoc.reg barrier0, ()) W)) $$ [HO Hp2 Hs2 HtS2 HtG2]
  · isplitr [HO]
    · unfold ready
      iframe HS2 HM2 Hp2 Hs2 HtS2 HrS2 HtG2 HrM2
    iexact HO
  iintro ⟨HcS2, HO⟩
  iapply (send_piece m c _ (is_mate c _ (k0_dev5_eq c) _) 0 3 rfl _ _ rfl rfl _ _ _ _ (k0_off1_eq c 3) rfl _ _ _ κ (insert (SemLoc.reg barrier0, ()) W)) $$ [HO Hp3 Hs3 HtS3 HtG3]
  · isplitr [HO]
    · unfold ready
      iframe HS3 HM3 Hp3 Hs3 HtS3 HrS3 HtG3 HrM3
    iexact HO
  iintro ⟨HcS3, HO⟩
  imod (close m (κ (barCell c)) (barCell c)) $$ [HatB] with Hb0
  · iframe HIbar HatB
  iapply (multiply_run c a1 h1 a2 h2 a4 h4 x0 x1 (fun _ => .ret ⟨⟩) K)
  iframe Hin
  iintro Hout
  rw [wp_ret]
  imodintro
  iapply Hk
  isplitr [Hout]
  · isplitr [HO]
    · unfold during
      isplitr
      · iexists κ; unfold invs
        iframe HIbar
        isplitr
        · iframe HS0 HS1 HS2 HS3
        iframe HG HIbarM HM0 HM1 HM2 HM3
      iframe Hb0 HatS HatG
      isplitr [HcG]
      · isplitl [HcS0]; · iexact HcS0
        isplitl [HcS1]; · iexact HcS1
        isplitl [HcS2] <;> iassumption
      iexact HcG
    iexists _; iexact HO
  iexact Hout

/-- What is paid on the semaphore of a departure, and of an arrival. -/
theorem pay_sent (k : Fin 4) : pay m c (role (.dma (sentSem k))) ⊢ pieceRows c k (tables m c) := by rw [role_sent]; exact Entails.refl _
theorem pay_got (k : Fin 4) : pay m c (role (.dma (gotSem k))) ⊢ slotRows c k (landed m c k) := by rw [role_got]; exact Entails.refl _

set_option maxHeartbeats 4000000 in
/-- The last point: multiply, wait for every piece sent and for every piece due, and the eight semaphores are done with. -/
theorem last_run (hs : k0_cond1 i ≠ 1#1) (ht : k0_cond2 i = 1#1) (W : Waits sig Unit) (K : PUnit → sProp 𝕄) :
    iprop(iprop(during m c ∗ owes (c : Thread nD τ) (0 : CellTallies nD τ sig Unit) W) ∗ blocksIn c a1 a2 a4 x0 x1
        ∗ (iprop(iprop(after m c ∗ ∃ W, owes (c : Thread nD τ) (0 : CellTallies nD τ sig Unit) W) ∗ blocksOut c a1 a2 a4 x0 x1) -∗ K ⟨⟩))
      ⊢ wp frame (wpE (defs₀ (F := F)) Variants.none c none) Set.univ (body (F := F) i a1 h1 a2 h2 a4 h4) K := by
  unfold body
  simp only [cc0_ffn_bwd_da_eq_skeleton]; unfold cc0_ffn_bwd_da_skel
  rw [dif_neg hs, dif_pos ht]
  simp only [k0_part4_eq_skeleton, k0_part5_eq_skeleton, k0_part6_eq_skeleton]; unfold k0_part4_skel k0_part5_skel k0_part6_skel
  simp only [Prog.lift, Prog.bind_op, Prog.bind_ret, Prog.pure_eq_ret]
  iintro ⟨⟨Hd, HO⟩, Hin, Hk⟩
  iapply (multiply_run c a1 h1 a2 h2 a4 h4 x0 x1 _ K)
  iframe Hin
  iintro Hout
  rw [wp_deviceId]
  unfold during invs
  icases Hd with ⟨⟨%κ, ⟨#HIbar, ⟨#HS0, #HS1, #HS2, #HS3⟩, ⟨#HG0, #HG1, #HG2, #HG3⟩, #HIbarM, #HM⟩⟩, Hb0, ⟨HaS0, HaS1, HaS2, HaS3⟩, ⟨HaG0, HaG1, HaG2, HaG3⟩,
    ⟨HcS0, HcS1, HcS2, HcS3⟩, ⟨HcG0, HcG1, HcG2, HcG3⟩⟩
  iapply (wait_piece m c (sentSem 0) _ rfl (sent_used 0) _ _ (credit_piece _ _) _ _ κ W) $$ [HcS0 HO HaS0]
  · isplitr [HO]
    · unfold awaited
      iframe # ∗
    iexact HO
  iintro ⟨⟨%W0, HO⟩, HvS0, HpS0⟩
  iapply (wait_piece m c (gotSem 0) _ rfl (got_used 0) _ _ (credit_slot _ _) _ _ κ W0) $$ [HcG0 HO HaG0]
  · isplitr [HO]
    · unfold awaited
      iframe # ∗
    iexact HO
  iintro ⟨⟨%W1, HO⟩, HvG0, HpG0⟩
  iapply (wait_piece m c (sentSem 1) _ rfl (sent_used 1) _ _ (credit_piece _ _) _ _ κ W1) $$ [HcS1 HO HaS1]
  · isplitr [HO]
    · unfold awaited
      iframe # ∗
    iexact HO
  iintro ⟨⟨%W2, HO⟩, HvS1, HpS1⟩
  iapply (wait_piece m c (gotSem 1) _ rfl (got_used 1) _ _ (credit_slot _ _) _ _ κ W2) $$ [HcG1 HO HaG1]
  · isplitr [HO]
    · unfold awaited
      iframe # ∗
    iexact HO
  iintro ⟨⟨%W3, HO⟩, HvG1, HpG1⟩
  iapply (wait_piece m c (sentSem 2) _ rfl (sent_used 2) _ _ (credit_piece _ _) _ _ κ W3) $$ [HcS2 HO HaS2]
  · isplitr [HO]
    · unfold awaited
      iframe # ∗
    iexact HO
  iintro ⟨⟨%W4, HO⟩, HvS2, HpS2⟩
  iapply (wait_piece m c (gotSem 2) _ rfl (got_used 2) _ _ (credit_slot _ _) _ _ κ W4) $$ [HcG2 HO HaG2]
  · isplitr [HO]
    · unfold awaited
      iframe # ∗
    iexact HO
  iintro ⟨⟨%W5, HO⟩, HvG2, HpG2⟩
  iapply (wait_piece m c (sentSem 3) _ rfl (sent_used 3) _ _ (credit_piece _ _) _ _ κ W5) $$ [HcS3 HO HaS3]
  · isplitr [HO]
    · unfold awaited
      iframe # ∗
    iexact HO
  iintro ⟨⟨%W6, HO⟩, HvS3, HpS3⟩
  iapply (wait_piece m c (gotSem 3) _ rfl (got_used 3) _ _ (credit_slot _ _) _ _ κ W6) $$ [HcG3 HO HaG3]
  · isplitr [HO]
    · unfold awaited
      iframe # ∗
    iexact HO
  iintro ⟨HO, HvG3, HpG3⟩
  rw [wp_ret]
  imodintro
  iapply Hk
  isplitr [Hout]
  · isplitr [HO]
    · unfold after
      iframe Hb0
      isplitl [HvS0 HvS1 HvS2 HvS3 HvG0 HvG1 HvG2 HvG3]
      · isplitl [HvS0 HvS1 HvS2 HvS3]
        · isplitl [HvS0]; · iexact HvS0
          isplitl [HvS1]; · iexact HvS1
          isplitl [HvS2] <;> iassumption
        isplitl [HvG0]; · iexact HvG0
        isplitl [HvG1]; · iexact HvG1
        isplitl [HvG2] <;> iassumption
      isplitl [HpS0 HpS1 HpS2 HpS3]
      · isplitl [HpS0]; · iapply (pay_sent m c 0); iexact HpS0
        isplitl [HpS1]; · iapply (pay_sent m c 1); iexact HpS1
        isplitl [HpS2]; · iapply (pay_sent m c 2); iexact HpS2
        iapply (pay_sent m c 3); iexact HpS3
      isplitl [HpG0]; · iapply (pay_got m c 0); iexact HpG0
      isplitl [HpG1]; · iapply (pay_got m c 1); iexact HpG1
      isplitl [HpG2]; · iapply (pay_got m c 2); iexact HpG2
      iapply (pay_got m c 3); iexact HpG3
    iexact HO
  iexact Hout

end Cert.Da

end
-- ==== Proof.DaRegion.lean ====
/- The call as a whole, for the gradient of the feed-forward activations: what each grid point finds and leaves, and what the call makes of
   the memory it is entered with. -/
module

public import proofs.«01_k».proof.Proof.DaPoint
public import Idealize.ShloMosaic.Lib.Pipeline.FrameBody
public import Idealize.ShloMosaic.Lib.Pipeline.Frame

@[expose] public section

set_option maxRecDepth 16384

noncomputable section

namespace Cert.Da

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel7Ideal Cert.Kernel7Ideal.Gen

variable {F : FTy → Type} [FloatOps F]

local notation "𝕄" => MT nD τ sig Unit (Elt F) ℕ UU ℕ

variable (m : (ℓ : Loc nD τ sig) → Buf (Elt F) ℓ)

/-! ## What a point finds and leaves -/

/-- Window `w`'s block at point `t`, read out of the array the call is entered with. -/
def iblk (c : Dev nD) (w : Fin cfg0.W) (t : Fin cfg0.N) : ((cfg0.win w).xblock (cfg0.grid.coords t)).Idx → Elt F (cfg0.win w).elt :=
  ((cfg0.win w).blk t).view.read (Elt F) (V₁ m c (Pipeline.arrRef spec0 w))

/-- Where the exchange stands before the first point, between points and after the last. -/
def stage (c : Dev nD) (n : ℕ) : sProp 𝕄 := if n = 0 then before m c else if n = 8 then after m c else during m c

theorem stage_start (c : Dev nD) : stage m c 0 = before m c := if_pos rfl
theorem stage_end (c : Dev nD) : stage m c 8 = after m c := (if_neg (by decide)).trans (if_pos rfl)
theorem stage_mid (c : Dev nD) (n : ℕ) (h0 : n ≠ 0) (h4 : n ≠ 8) : stage m c n = during m c := (if_neg h0).trans (if_neg h4)

abbrev pieceSet (c : Dev nD) (k : Fin 4) : Finset (Idx ((c : Thread nD τ).loc main_arg2)) := (piece c k).view.set

/-- The pieces that stay. -/
def stayRows (c : Dev nD) : sProp 𝕄 :=
  ((c : Thread nD τ).loc main_arg2 ↦[Finset.univ \ Finset.univ.biUnion (pieceSet c)]{fullShare} tables m c)

def dat (c : Dev nD) : Dat τ (Elt F) Unit ℕ UU ℕ cfg0 c where
  A w := V₁ m c (Pipeline.arrRef spec0 w)
  after w t := match w with
    | ⟨0, _⟩ => iblk m c 0 t
    | ⟨1, _⟩ => iblk m c 1 t
    | ⟨2, _⟩ => k0_pay1 (iblk m c 0 t) (iblk m c 1 t)
  Φ t := iprop(stage m c t.val ∗ stayRows m c ∗ ∃ r, prngReg c r)
  q _ := fullShare
  owed t := if t.val = 0 then debt c else 0

theorem A_eq (c : Dev nD) (w : Fin cfg0.W) : (dat m c).A w = V₁ m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = k0_pay1 (iblk m c 0 t) (iblk m c 1 t) := by dsimp only [dat]

theorem before_0 (c : Dev nD) (t : Fin cfg0.N) (d) : (dat m c).before 0 t d = iblk m c 0 t :=
  ((dat m c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dat m c).before 1 t d = iblk m c 1 t :=
  ((dat m c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)

theorem owed_start (c : Dev nD) (t : Fin (cfg0.N + 1)) (h : t.val = 0) : (dat m c).owed t = debt c := by dsimp only [dat]; exact if_pos h
theorem owed_after (c : Dev nD) (t : Fin (cfg0.N + 1)) (h : t.val ≠ 0) : (dat m c).owed t = 0 := by dsimp only [dat]; exact if_neg h

theorem owesAt_intro (c : Dev nD) (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound
  rw [h, show (dat m c).recorded t = Set.univ from rfl]
  iintro HO; iexists W; isplitr; · ipureintro; exact fun _ _ => Or.inl trivial
  iexact HO
theorem owesAt_elim (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-! ## Every point does what it should -/

def pointPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d)))
def pointPost (c : Dev nD) (t : Fin cfg0.N) : sProp 𝕄 :=
  iprop((dat m c).Φ t.succ ∗ (dat m c).owesAt () t.succ
    ∗ (dat m c).leavesExact 0 t ∗ (dat m c).leavesExact 1 t ∗ (dat m c).leavesExact 2 t)

theorem leaves_0 (c : Dev nD) (t : Fin cfg0.N) :
    (dat m c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) :
    (dat m c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) :
    (dat m c).leavesExact 2 t = owns (c : Thread nD τ) (st0_2 t) fullShare (k0_pay1 (iblk m c 0 t) (iblk m c 1 t)) := by
  unfold Dat.leavesExact; rw [show cfg0.idle 2 (grid0.coords t) = false from rfl, after_2]

theorem sound_point (c : Dev nD) (t : Fin cfg0.N) :
    pointPre m c t ⊢ wp frame (wpE (defs₀ (F := F)) Variants.none c none) Set.univ (bodyAt0 t) (fun _ => pointPost m c t) := by
  unfold pointPre pointPost
  rw [leaves_0, leaves_1, leaves_2, show (dat m c).Φ t.castSucc = iprop(stage m c t.val ∗ stayRows m c ∗ ∃ r, prngReg c r) from rfl,
    show (dat m c).Φ t.succ = iprop(stage m c (t.val + 1) ∗ stayRows m c ∗ ∃ r, prngReg c r) from rfl]
  simp only [before_0, before_1]
  have hN : t.val < 8 := lt_of_lt_of_eq t.isLt N_0
  iintro ⟨⟨Hs, Hp⟩, HO, ⟨%d0, H0⟩, ⟨%d1, H1⟩, ⟨%d2, H2⟩⟩
  by_cases h0 : t.val = 0
  · ihave HO' := (owesAt_elim m c t.castSucc (debt c) (owed_start m c _ h0)) $$ HO
    icases HO' with ⟨%W, HO⟩
    iapply (first_run m c (grid0.coords t) _ _ _ _ _ _ (iblk m c 0 t) (iblk m c 1 t) ((sends_iff t).mpr h0)
      (fun h => by have := (takes_iff t).mp h; omega) W _)
    isplitl [Hs HO]
    · unfold sendPre
      isplitl [Hs]; · iapply (Entails.of_eq ((congrArg (stage m c) h0).trans (stage_start m c))); iexact Hs
      iexact HO
    isplitl [H0 H1 H2]
    · iframe H0 H1
      iexists _; iexact H2
    unfold sendPost
    iintro ⟨⟨Hd, ⟨%W', HO⟩⟩, H0, H1, H2⟩
    isplitl [Hd Hp]
    · isplitl [Hd]; · iapply (Entails.of_eq (stage_mid m c (t.val + 1) (by omega) (by omega)).symm); iexact Hd
      iexact Hp
    isplitl [HO]; · iapply (owesAt_intro m c t.succ 0 (owed_after m c _ (Nat.succ_ne_zero _)) W'); iexact HO
    iframe
  · ihave HO' := (owesAt_elim m c t.castSucc 0 (owed_after m c _ h0)) $$ HO
    icases HO' with ⟨%W, HO⟩
    by_cases h3 : t.val = 7
    · iapply (last_run m c (grid0.coords t) _ _ _ _ _ _ (iblk m c 0 t) (iblk m c 1 t) (fun h => h0 ((sends_iff t).mp h))
        ((takes_iff t).mpr h3) W _)
      isplitl [Hs HO]
      · isplitl [Hs]; · iapply (Entails.of_eq (stage_mid m c t.val h0 (by omega))); iexact Hs
        iexact HO
      isplitl [H0 H1 H2]
      · iframe H0 H1
        iexists _; iexact H2
      iintro ⟨⟨Ha, ⟨%W', HO⟩⟩, H0, H1, H2⟩
      isplitl [Ha Hp]
      · isplitl [Ha]; · iapply (Entails.of_eq ((congrArg (fun n => stage m c (n + 1)) h3).trans (stage_end m c)).symm); iexact Ha
        iexact Hp
      isplitl [HO]; · iapply (owesAt_intro m c t.succ 0 (owed_after m c _ (Nat.succ_ne_zero _)) W'); iexact HO
      iframe
    · iapply (middle_run c (grid0.coords t) _ _ _ _ _ _ (iblk m c 0 t) (iblk m c 1 t) (fun h => h0 ((sends_iff t).mp h))
        (fun h => h3 ((takes_iff t).mp h)) _)
      isplitl [H0 H1 H2]
      · iframe H0 H1
        iexists _; iexact H2
      iintro ⟨H0, H1, H2⟩
      isplitl [Hs Hp]
      · isplitl [Hs]
        · iapply (Entails.of_eq ((stage_mid m c t.val h0 (by omega)).trans (stage_mid m c (t.val + 1) (by omega) (by omega)).symm)); iexact Hs
        iexact Hp
      isplitl [HO]; · iapply (owesAt_intro m c t.succ 0 (owed_after m c _ (Nat.succ_ne_zero _)) W); iexact HO
      iframe

theorem defs₀_row (t : Fin cfg0.N) : defs₀ (F := F) .tc cfg0.body (cfg0.bodyArgs t (cfg0.slots t)) = bodyAt0 t := by
  unfold defs₀; rw [Defs.onTc_tc]

theorem sound_body (c : Dev nD) : BodyObligation (dat m c) (defs₀ (F := F)) Variants.none () Set.univ := fun t => by
  rw [bigSep_W0, bigSep_W0, defs₀_row]
  exact triple_restated (sound_point m c t) rfl .rfl fun _ => .rfl

/-! ## The memory the call leaves -/

abbrev adm : (p : Fin 1) → (pcfgs (F := F) p).Adm := fun p => (cfgs p).toPCfg_adm
def dats : (p : Fin 1) → (c : Dev nD) → Dat τ (Elt F) Unit ℕ UU ℕ (Pipeline.pin (pcfgs (F := F)) adm p) c
  | 0 => dat m

/-- Entered with a device's memory `V₁`, the call leaves the blocks written back and the landing buffer filled. -/
abbrev V₂ (c : Dev nD) : Valuation τ sig (Elt F) :=
  Function.update (Function.update (V₁ m c) (Proc.devRef .tc main_v1_1) (arrived m c))
    (Proc.devRef .tc main_v1_0) ((dat m c).arrAt 2 cfg0.N)

theorem V₂_landing (c : Dev nD) : V₂ m c main_v1_1 = arrived m c :=
  (Function.update_of_ne (by decide) ..).trans (Function.update_self ..)
theorem V₂_blocks (c : Dev nD) : V₂ m c main_v1_0 = (dat m c).arrAt 2 cfg0.N := Function.update_self ..
theorem V₂_ne (c : Dev nD) (b : Ref sig .tc) (h0 : b ≠ main_v1_0) (h1 : b ≠ main_v1_1) : V₂ m c b = V₁ m c b :=
  have inj {x : Ref sig .tc} (h : b ≠ x) : (Proc.devRef .tc b : DevRef τ sig) ≠ Proc.devRef .tc x := fun e => h (Proc.devRef_injective .tc e)
  (Function.update_of_ne (inj h0) ..).trans (Function.update_of_ne (inj h1) ..)

/-! ## The two buffers the exchange addresses, cut up -/

/-- A device's gradient is the four pieces it sends and the rows that stay. -/
theorem tables_split (c : Dev nD) :
    (((c : Thread nD τ).loc main_arg2 ↦{fullShare} tables m c) : sProp 𝕄) ⊣⊢ iprop(four (fun k => pieceRows c k (tables m c)) ∗ stayRows m c) := by
  have h := pointsTo_split_subset (Ix := Unit) (Name := ℕ) (U := UU) (Lvl := ℕ) (ℓ := (c : Thread nD τ).loc main_arg2) (q := fullShare)
    (f := tables m c) (Finset.subset_univ (Finset.univ.biUnion (pieceSet c)))
  have e := pointsTo_biUnion (Ix := Unit) (Name := ℕ) (U := UU) (Lvl := ℕ) (ℓ := (c : Thread nD τ).loc main_arg2) (q := fullShare) (f := tables m c)
    Finset.univ (pieceSet c) (fun k _ l _ h => pieces_disjoint c h)
  rw [four_eq] at e
  rw [e] at h
  exact h

abbrev slotSet (c : Dev nD) (k : Fin 4) : Finset (Idx ((c : Thread nD τ).loc main_v1_1)) := (slot k).view.set

theorem slots_cover (c : Dev nD) : Finset.univ.biUnion (slotSet c) = Finset.univ :=
  Finset.eq_univ_iff_forall.mpr fun i => Finset.mem_biUnion.mpr ⟨⟨(i (0 : Fin 3)).val, (i (0 : Fin 3)).isLt⟩, Finset.mem_univ _, (mem_slot _ i).mpr rfl⟩

/-- The landing buffer is its four slots. -/
theorem landing_split (c : Dev nD) (f : (main_v1_1 : Ref sig .tc).ty.Contents (Elt F)) :
    (((c : Thread nD τ).loc main_v1_1 ↦{fullShare} f) : sProp 𝕄) = four (fun k => slotRows c k f) := by
  have h := pointsTo_biUnion (Ix := Unit) (Name := ℕ) (U := UU) (Lvl := ℕ) (ℓ := (c : Thread nD τ).loc main_v1_1) (q := fullShare) (f := f)
    Finset.univ (slotSet c) (fun k _ l _ h => slots_disjoint h)
  rw [slots_cover c, four_eq] at h
  exact h

/-- Slot `k` after its arrival is slot `k` of the filled buffer. -/
theorem slot_filled (c : Dev nD) (k : Fin 4) : (slotRows c k (landed m c k) : sProp 𝕄) = slotRows c k (arrived m c) :=
  pointsTo_congr fun i hi => by
    have e : (⟨(i (0 : Fin 3)).val, (i (0 : Fin 3)).isLt⟩ : Fin 4) = k := Fin.ext ((mem_slot k i).mp hi)
    unfold arrived; rw [e]

end Cert.Da

end
-- ==== Proof.DaCall.lean ====
/- The call for the gradient of the feed-forward activations as a segment of the program: the buffers it finds beside its arrays, its
   semaphores opened and closed. -/
module

public import proofs.«01_k».proof.Proof.DaRegion
public import Idealize.ShloMosaic.Lib.Pipeline.RegionTalk

@[expose] public section

set_option maxRecDepth 16384

noncomputable section

namespace Cert.Da

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel7Ideal Cert.Kernel7Ideal.Gen

variable {F : FTy → Type} [FloatOps F]

local notation "𝕄" => MT nD τ sig Unit (Elt F) ℕ UU ℕ

variable (m : (ℓ : Loc nD τ sig) → Buf (Elt F) ℓ)

/-! ## The buffers the call finds beside its arrays -/

/-- The two buffers the call addresses itself. -/
abbrev besideArrays : Finset (DevRef τ sig) := {Proc.devRef .tc main_arg2, Proc.devRef .tc main_v1_1}
abbrev allBufs : Finset (DevRef τ sig) := Pipeline.ucRefs τ sig

theorem held_beside (c : Dev nD) (W : Valuation τ sig (Elt F)) :
    (StableHlo.held (c.tc : Thread nD τ) besideArrays W : sProp 𝕄)
      = iprop(((c : Thread nD τ).loc main_arg2 ↦{fullShare} W main_arg2) ∗ ((c : Thread nD τ).loc main_v1_1 ↦{fullShare} W main_v1_1)) := by
  unfold StableHlo.held
  rw [bigSep_eq_bigSepL_of_eq [Proc.devRef .tc main_arg2, Proc.devRef .tc main_v1_1] (by decide) (by decide)]
  rfl

/-- All unscoped buffers: the call's arrays and the two beside. -/
theorem held_all (c : Dev nD) (W : Valuation τ sig (Elt F)) :
    (StableHlo.held (c.tc : Thread nD τ) allBufs W : sProp 𝕄)
      = iprop(StableHlo.held (c.tc : Thread nD τ) (Pipeline.arrRefs (τ := τ) spec0) W ∗ StableHlo.held (c.tc : Thread nD τ) besideArrays W) := by
  rw [StableHlo.held_sub_split (c.tc : Thread nD τ) (T := Pipeline.arrRefs (τ := τ) spec0) (S := allBufs) (by decide) W,
    show allBufs \ Pipeline.arrRefs (τ := τ) spec0 = besideArrays from by decide]

theorem held_each (c : Dev nD) (W : Valuation τ sig (Elt F)) :
    (StableHlo.held (c.tc : Thread nD τ) allBufs W : sProp 𝕄)
      = iprop(((c : Thread nD τ).loc main_arg0 ↦{fullShare} W main_arg0) ∗ ((c : Thread nD τ).loc main_arg1 ↦{fullShare} W main_arg1)
        ∗ ((c : Thread nD τ).loc main_arg2 ↦{fullShare} W main_arg2) ∗ ((c : Thread nD τ).loc main_v1_0 ↦{fullShare} W main_v1_0)
        ∗ ((c : Thread nD τ).loc main_v1_1 ↦{fullShare} W main_v1_1)) := by
  unfold StableHlo.held
  rw [bigSep_eq_bigSepL_of_eq [Proc.devRef .tc main_arg0, Proc.devRef .tc main_arg1, Proc.devRef .tc main_arg2, Proc.devRef .tc main_v1_0,
    Proc.devRef .tc main_v1_1] (by decide) (by decide)]
  rfl

/-- A resource on each of the call's eight semaphores: on the four of the departures and the four of the arrivals. -/
theorem eight_eq (Φ : SemLoc sig → sProp 𝕄) :
    bigSep Finset.univ (fun k : Fin 8 => Φ (ownSem k)) = iprop(four (fun k => Φ (.dma (sentSem k))) ∗ four (fun k => Φ (.dma (gotSem k)))) := by
  rw [bigSep_univ_equiv (finSumFinEquiv : Fin 4 ⊕ Fin 4 ≃ Fin 8), bigSep_univ_sum, four_eq, four_eq]
  rfl

theorem ownSems_eq (c : Dev nD) :
    (Pipeline.ownSems0 ownSem c : sProp 𝕄) = iprop(four (fun k => semVal (sentCell c k) 0) ∗ four (fun k => semVal (gotCell c k) 0)) :=
  eight_eq (fun s => (semVal ((c : Thread nD τ), s) 0 : sProp 𝕄))

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-! ## The call as a segment of the program -/

/-- What the launch leaves for the call; what the call enters its first point with. -/
def kept (c : Dev nD) : sProp 𝕄 :=
  iprop((∃ K, ghost m K c) ∗ cred (tallyAt (barCell c) () 1) ∗ four (fun k => cred (tallyAt (gotCell c k) () credit)))
def entered (c : Dev nD) : sProp 𝕄 :=
  iprop((∃ K, opened m K c) ∗ cred (tallyAt (barCell c) () 1) ∗ four (fun k => cred (tallyAt (gotCell c k) () credit)) ∗ levAts L lv)
def left (c : Dev nD) : sProp 𝕄 := semVal (barCell c) 0

/-- Four semaphores opened together. -/
theorem open_four (K : GSem nD τ sig → ℕ) (g : Fin 4 → GSem nD τ sig) :
    iprop(four (fun k => cellInv EX (plan m) (K (g k)) (g k)) ∗ four (fun k => openTok EX (g k)) ∗ four (fun k => semVal (g k) 0))
      ⊢ (|={Set.univ}=> iprop(four (fun k => atPos EX (g k) 0 ∅ 0) ∗ four (fun k => reached EX (g k) 0)) : sProp 𝕄) := by
  iintro ⟨⟨#H0, #H1, #H2, #H3⟩, ⟨Ho0, Ho1, Ho2, Ho3⟩, ⟨Hs0, Hs1, Hs2, Hs3⟩⟩
  imod (Rounds.cell_open EX (plan m) (g := g 0) (Set.mem_univ (K (g 0)))) $$ [Ho0 Hs0] with ⟨Ha0, #Hr0⟩
  · iframe # ∗
  imod (Rounds.cell_open EX (plan m) (g := g 1) (Set.mem_univ (K (g 1)))) $$ [Ho1 Hs1] with ⟨Ha1, #Hr1⟩
  · iframe # ∗
  imod (Rounds.cell_open EX (plan m) (g := g 2) (Set.mem_univ (K (g 2)))) $$ [Ho2 Hs2] with ⟨Ha2, #Hr2⟩
  · iframe # ∗
  imod (Rounds.cell_open EX (plan m) (g := g 3) (Set.mem_univ (K (g 3)))) $$ [Ho3 Hs3] with ⟨Ha3, #Hr3⟩
  · iframe # ∗
  imodintro
  isplitl [Ha0 Ha1 Ha2 Ha3]
  · isplitl [Ha0]; · iexact Ha0
    isplitl [Ha1]; · iexact Ha1
    isplitl [Ha2] <;> iassumption
  iframe Hr0 Hr1 Hr2 Hr3

theorem open_cells (c : Dev nD) : iprop(kept m c ∗ Pipeline.ownSems0 ownSem c ∗ levAts L lv) ⊢ (|={Set.univ}=> entered m c : sProp 𝕄) := by
  rw [ownSems_eq]
  unfold kept entered
  iintro ⟨⟨⟨%K, Hg⟩, HcB, HcG⟩, ⟨Hs0, Hg0⟩, #Hlev⟩
  unfold ghost invs
  icases Hg with ⟨⟨#HIbar, #HIsent, #HIgot, #HIbarM, #HIgotM⟩, HatB, HoS, HoG, #HrM, Hpay⟩
  imod (open_four m K (sentCell c)) $$ [HoS Hs0] with ⟨HatS, #HrS⟩
  · iframe # ∗
  imod (open_four m K (gotCell c)) $$ [HoG Hg0] with ⟨HatG, #HrG⟩
  · iframe # ∗
  imodintro
  isplitl [HatB HatS HatG Hpay]
  · iexists K; unfold opened invs
    isplitr
    · iframe HIbar HIsent HIgot HIbarM HIgotM
    iframe HatB HatS HatG HrM HrS HrG Hpay
  iframe HcB HcG Hlev

theorem enter (c : Dev nD) :
    iprop(Pipeline.scopedRest (Pipeline.pin (pcfgs (F := F)) adm 0).spec c ∗ (∃ r, prngReg c r)
        ∗ StableHlo.held (c.tc : Thread nD τ) besideArrays (V₁ m c) ∗ entered m c) ⊢ (dats m 0 c).Φ 0 := by
  rw [show (dats m 0 c).Φ 0 = iprop(stage m c 0 ∗ stayRows m c ∗ ∃ r, prngReg c r) from rfl, stage_start, held_beside]
  unfold entered before
  iintro ⟨-, Hp, ⟨Ht, Hl⟩, HK, HcB, HcG, #Hlev⟩
  ihave Ht' := (tables_split m c).1 $$ Ht
  icases Ht' with ⟨Hpieces, Hstay⟩
  ihave Hl' := (Entails.of_eq (landing_split c (landing m c))) $$ Hl
  isplitr [Hp Hstay]
  · iframe # ∗
  iframe

theorem leave (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) besideArrays (V₂ m c) ∗ Pipeline.ownSems0 ownSem c ∗ left c) := by
  rw [show (dats m 0 c).Φ (Fin.last _) = iprop(stage m c grid0.N ∗ stayRows m c ∗ ∃ r, prngReg c r) from rfl, N_0, stage_end, held_beside, ownSems_eq,
    show (Pipeline.scopedRest (Pipeline.pin (pcfgs (F := F)) adm 0).spec c : sProp 𝕄) = (BI.emp : sProp 𝕄) from scopedRest0_eq c, V₂_landing,
    V₂_ne m c main_arg2 (by decide) (by decide)]
  unfold after left
  rw [show (fun k : Fin 4 => (slotRows c k (landed m c k) : sProp 𝕄)) = fun k => slotRows c k (arrived m c) from funext (slot_filled m c)]
  iintro ⟨⟨Hb0, Hss, Hpieces, Hslots⟩, Hstay, Hp⟩
  isplitr; · iempintro
  iframe Hp
  isplitl [Hpieces Hslots Hstay]
  · isplitl [Hpieces Hstay]
    · iapply (tables_split m c).2
      iframe
    iapply (Entails.of_eq (landing_split c (arrived m c)).symm)
    iexact Hslots
  iframe Hss Hb0

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_level (c : Dev nD) (t : Fin ((Pipeline.pin (pcfgs (F := F)) adm 0).N + 1)) (g : GSem nD τ sig) (i : Unit)
    (h : 0 < (dats (F := F) m 0 c).owed t g i) : i ∈ L g ∧ (0 : ℕ) < lv g i := by
  rw [show (dats (F := F) m 0 c).owed t = if t.val = 0 then debt c else 0 from rfl] at h
  split at h
  · rcases debt_cell h with ⟨k, rfl⟩ | rfl
    · exact ⟨mem_L .., by rw [lv_got]; decide⟩
    · exact ⟨mem_L .., by rw [lv_bar]; decide⟩
  · exact absurd h (Nat.lt_irrefl 0)

/-- The staging semaphores have no part in the exchange: they come before the barrier and the arrivals. -/
theorem staging_role : ∀ (w : Fin 3) (s : Fin (spec0 w).nbuf), role (.dma ((spec0 w).sem s)) = .other := by decide
theorem staging_level (c : Dev nD) (w : Fin 3) (s : Fin (spec0 w).nbuf) : lv ((c : Thread nD τ), .dma ((spec0 w).sem s)) () ≤ 0 := by
  unfold lv; dsimp only; rw [staging_role]

theorem arrays_kept (c : Dev nD) (w : Fin 3) :
    (dat m c).arrAt w cfg0.N = V₂ m c (Proc.devRef .tc (Pipeline.arrRef spec0 w)) := by
  match w with
  | ⟨0, _⟩ => exact ((dat m c).arrAt_in 0 rfl _).trans ((A_eq m c 0).trans (V₂_ne m c main_arg0 (by decide) (by decide)).symm)
  | ⟨1, _⟩ => exact ((dat m c).arrAt_in 1 rfl _).trans ((A_eq m c 1).trans (V₂_ne m c main_arg1 (by decide) (by decide)).symm)
  | ⟨2, _⟩ => exact (V₂_blocks m c).symm

theorem arrays_found (c : Dev nD) (w : Fin 3) : (dat m c).arrAt w 0 = V₁ m c (Proc.devRef .tc (Pipeline.arrRef spec0 w)) := A_eq m c w

local notation "ℝ" => Pipeline.RegionSeg (pcfgs (F := F)) adm (dats m) () defs₀ Variants.none L lv

set_option backward.isDefEq.respectTransparency.types false in
def call : ℝ 0 :=
  Pipeline.RegionSeg.ofTalk (pcfgs (F := F)) adm (dats m) () defs₀ Variants.none L lv 0 ownSem (by decide : Pipeline.OwnSemFacts spec0 ownSem)
    besideArrays besideArrays (by decide) kit rfl (fun c => (sound_body m c).loose)
    (fun _ => 0) debt (fun c => (owed_start m c 0 rfl).trans (zero_add _).symm)
    (fun c => owed_after m c (Fin.last _) (by rw [Fin.val_last, show cfg0.N = 8 from N_0]; decide)) (fun _ => rfl)
    (fun c => (dat m c).share_full fun _ => rfl)
    (V₁ m) (V₂ m) (fun c b hb => absurd hb (by rw [Finset.sdiff_self]; exact Finset.notMem_empty b))
    (kept m) left (entered m) left (open_cells m) (enter m) (leave m)
    (fun c => by iintro H; imodintro; iexact H)
    (fun _ => 0)
    ⟨fun c w s => mem_L c _ _, fun c w s => staging_level c w s, fun c t g i h => owed_level m c t g i h⟩
    (fun _ => iprop(emp))
    (arrays_found m) (arrays_kept m)

/-- Beside the buffers, up to the call: what the launch left for it, the generator register, and the debt. -/
def riding (c : Dev nD) : sProp 𝕄 := iprop(kept m c ∗ (∃ r, prngReg c r) ∗ ∃ W, owes (c : Thread nD τ) (debt c) W)

abbrev first (c : Dev nD) : sProp 𝕄 := iprop(StableHlo.held (c.tc : Thread nD τ) allBufs (V₁ m c) ∗ riding m c)
abbrev last (c : Dev nD) : sProp 𝕄 := iprop(StableHlo.held (c.tc : Thread nD τ) allBufs (V₂ m c) ∗ semVal (barCell c) 0)

theorem call_pre (c : Dev nD) : first m c ⊢ (call m).pre c := by
  show _ ⊢ iprop(StableHlo.held (c.tc : Thread nD τ) (Pipeline.arrRefs (τ := τ) spec0) (V₁ m c) ∗ (∃ r, prngReg c r)
    ∗ (StableHlo.held (c.tc : Thread nD τ) besideArrays (V₁ m c) ∗ emp) ∗ kept m c ∗ ∃ Wd, owes (c : Thread nD τ) (0 + debt c) Wd)
  dsimp only [first]
  rw [held_all, zero_add]
  unfold riding
  iintro ⟨⟨Ha, Hb⟩, HK, Hp, HO⟩
  iframe Ha Hp Hb HK HO

theorem call_post (c : Dev nD) : (call m).post c ⊢ iprop(last m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) besideArrays (V₂ m c) ∗ emp) ∗ left c ∗ ∃ Wd, owes (c : Thread nD τ) (0 : CellTallies nD τ sig Unit) Wd) ⊢ _
  dsimp only [last]
  rw [held_all]
  unfold left
  iintro ⟨Ha, -, ⟨Hb, -⟩, Hb0, HO⟩
  isplitr [HO]
  · isplitl [Ha Hb]
    · iframe
    iexact Hb0
  iexact HO

def segs : List (Pipeline.Seg (pcfgs (F := F)) adm (dats m) () defs₀ Variants.none L lv) := [.region (call m)]

end Cert.Da

end
-- ==== Proof.DaRun.lean ====
/- The run of the gradient of the feed-forward activations on the two devices of a pair: the launch deals out what the exchange needs, the call runs
   and every execution ends with the blocks written back and the landing buffers filled. -/
module

public import proofs.«01_k».proof.Proof.DaCall
public import proofs.«01_k».proof.Proof.Families

@[expose] public section

set_option maxRecDepth 16384

noncomputable section

namespace Cert.Da

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel7Ideal Cert.Kernel7Ideal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSem_inj : Function.Injective ownSem := by decide
theorem ownSem_ne_bar : ∀ k : Fin 8, ownSem k ≠ .reg barrier0 := by decide

def barEmb : Dev nD ↪ GSem nD τ sig := ⟨fun c => barCell c, fun _ _ h => congrArg (fun g : GSem nD τ sig => g.1.1) h⟩
def ownEmb : Dev nD × Fin 8 ↪ GSem nD τ sig :=
  ⟨fun ck => ((ck.1 : Thread nD τ), ownSem ck.2), fun _ _ h =>
    Prod.ext (congrArg (fun g : GSem nD τ sig => g.1.1) h) (ownSem_inj (congrArg Prod.snd h))⟩

/-- The barriers, whose counters the launch holds; the call's own semaphores, whose counters come with the call. -/
abbrev barCells : Finset (GSem nD τ sig) := Finset.univ.map barEmb
abbrev ownCells : Finset (GSem nD τ sig) := Finset.univ.map ownEmb

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact ownSem_ne_bar ck.2 (congrArg Prod.snd h)

/-- One duty on each of them. -/
def duties : Finset (GSem nD τ sig × ℕ × Unit) :=
  (barCells ∪ ownCells).map ⟨fun g => (g, 0, ()), fun _ _ h => congrArg (fun t : GSem nD τ sig × ℕ × Unit => t.1) h⟩

theorem bar_mem (c : Dev nD) : barCell c ∈ (barCells ∪ ownCells : Finset (GSem nD τ sig)) :=
  Finset.mem_union_left _ (Finset.mem_map_of_mem barEmb (Finset.mem_univ c))
theorem sent_mem (c : Dev nD) (k : Fin 4) : sentCell c k ∈ (barCells ∪ ownCells : Finset (GSem nD τ sig)) :=
  Finset.mem_union_right _ (Finset.mem_map.mpr ⟨(c, Fin.castAdd 4 k), Finset.mem_univ _, rfl⟩)
theorem got_mem (c : Dev nD) (k : Fin 4) : gotCell c k ∈ (barCells ∪ ownCells : Finset (GSem nD τ sig)) :=
  Finset.mem_union_right _ (Finset.mem_map.mpr ⟨(c, Fin.natAdd 4 k), Finset.mem_univ _, by revert k; decide +kernel +revert⟩)

/-- The launch's element: the library's share of it, and this exchange's. -/
def launchElt : UU :=
  (initOf (Pipeline.cells (Pipeline.pin (pcfgs (F := F)) adm) cellOf_inj) (Pipeline.launchToks (Pipeline.pin (pcfgs (F := F)) adm) cellOf_inj),
    launchOf barCells ownCells duties)

/-- This exchange's share is set aside on device 0 until the devices' resources are dealt together. -/
def aside (c : Dev nD) : sProp 𝕄 := if c = 0 then BI.own (EX (launchOf barCells ownCells duties)) else iprop(emp)
theorem aside_eq : (bigSep Finset.univ fun c : Dev nD => (aside c : sProp 𝕄)) = BI.own (EX (launchOf barCells ownCells duties)) := one_aside 0 _

/-- What both devices may consult: the invariants, and that every barrier is in its first round. -/
def records (κ : GSem nD τ sig → ℕ) : sProp 𝕄 :=
  iprop((bigSep (barCells ∪ ownCells) fun g => cellInv EX (plan m) (κ g) g) ∗ bigSep barCells fun g => reached EX g 0)

instance records_persistent (κ : GSem nD τ sig → ℕ) : BI.Persistent (records m κ) := by unfold records; infer_instance

theorem inv_at (κ : GSem nD τ sig → ℕ) {g : GSem nD τ sig} (hg : g ∈ (barCells ∪ ownCells : Finset (GSem nD τ sig))) :
    (bigSep (barCells ∪ ownCells) fun g => (cellInv EX (plan m) (κ g) g : sProp 𝕄)) ⊢ cellInv EX (plan m) (κ g) g :=
  bigSep_elim hg
theorem inv_four (κ : GSem nD τ sig → ℕ) (g : Fin 4 → GSem nD τ sig) (hg : ∀ k, g k ∈ (barCells ∪ ownCells : Finset (GSem nD τ sig))) :
    (bigSep (barCells ∪ ownCells) fun g => (cellInv EX (plan m) (κ g) g : sProp 𝕄)) ⊢ four (fun k => cellInv EX (plan m) (κ (g k)) (g k)) := by
  iintro #H
  isplitr; · iapply (inv_at m κ (hg 0)); iexact H
  isplitr; · iapply (inv_at m κ (hg 1)); iexact H
  isplitr; · iapply (inv_at m κ (hg 2)); iexact H
  iapply (inv_at m κ (hg 3)); iexact H

theorem reached_at (c : Dev nD) : (bigSep barCells fun g => (reached EX g 0 : sProp 𝕄)) ⊢ reached EX (barCell c) 0 :=
  bigSep_elim (Finset.mem_map_of_mem barEmb (Finset.mem_univ c))

/-- What a device alone holds: its place on its barrier, the rights to open its eight semaphores, the duties it pays. -/
def alone (c : Dev nD) : sProp 𝕄 :=
  iprop(atPos EX (barCell c) 0 ∅ 0 ∗ (four (fun k => openTok EX (sentCell c k)) ∗ four (fun k => openTok EX (gotCell c k))) ∗ payable c)

theorem ghost_intro (κ : GSem nD τ sig → ℕ) (c : Dev nD) : iprop(records m κ ∗ alone c) ⊢ iprop(∃ K, ghost m K c) := by
  unfold records alone ghost invs
  iintro ⟨⟨#HI, #HR⟩, HaB, ⟨HoS, HoG⟩, Hpay⟩
  iexists κ
  isplitr
  · isplitr; · iapply (inv_at m κ (bar_mem c)); iexact HI
    isplitr; · iapply (inv_four m κ (sentCell c) (sent_mem c)); iexact HI
    isplitr; · iapply (inv_four m κ (gotCell c) (got_mem c)); iexact HI
    isplitr; · iapply (inv_at m κ (bar_mem (mate c))); iexact HI
    iapply (inv_four m κ (gotCell (mate c)) (got_mem (mate c))); iexact HI
  iframe HaB HoS HoG
  isplitr; · iapply (reached_at (F := F) (mate c)); iexact HR
  iexact Hpay

/-- A resource on every semaphore of the calls: on each device, the four of its departures and the four of its arrivals. -/
theorem own_each (Φ : GSem nD τ sig → sProp 𝕄) :
    bigSep ownCells Φ = bigSep Finset.univ fun c : Dev nD => iprop(four (fun k => Φ (sentCell c k)) ∗ four (fun k => Φ (gotCell c k))) := by
  rw [bigSep_map, bigSep_univ_prod]
  exact bigSep_congr fun c _ => eight_eq (fun s => Φ ((c : Thread nD τ), s))

/-- The duties, each handed to the device that pays it. -/
theorem duties_dealt : bigSep duties (fun x => (dutyTok EX x.1 x.2.1 x.2.2 : sProp 𝕄)) ⊢ bigSep Finset.univ fun c : Dev nD => payable c := by
  have e : bigSep duties (fun x => (dutyTok EX x.1 x.2.1 x.2.2 : sProp 𝕄))
      = iprop((bigSep Finset.univ fun c : Dev nD => dutyTok EX (barCell c) 0 ())
        ∗ bigSep Finset.univ fun c : Dev nD => iprop(four (fun k => dutyTok EX (sentCell c k) 0 ()) ∗ four (fun k => dutyTok EX (gotCell c k) 0 ()))) := by
    have u := bigSep_union (cells_disjoint) (Φ := fun g => (dutyTok EX g 0 () : sProp 𝕄))
    rw [own_each (fun g => (dutyTok EX g 0 () : sProp 𝕄)), bigSep_map (s := Finset.univ) barEmb] at u
    unfold duties
    rw [bigSep_map]
    exact u
  rw [e]
  unfold payable
  iintro ⟨Hbar, H⟩
  ihave H' := split_families $$ H
  icases H' with ⟨Hsent, Hgot⟩
  iapply join_families
  isplitl [Hbar]
  · iapply (Entails.of_eq (bigSep_univ_equiv swap (fun c : Dev nD => (dutyTok EX (barCell c) 0 () : sProp 𝕄)))); iexact Hbar
  iapply join_families
  iframe Hsent
  iapply (Entails.of_eq (bigSep_univ_equiv swap (fun c : Dev nD => (four (fun k => dutyTok EX (gotCell c k) 0 ()) : sProp 𝕄)))); iexact Hgot

/-! ### What each device is owed -/

/-- A device owes the other one `n` units on the other's semaphore `sm` and nothing on its own. -/
theorem owed_by (sm : SemLoc sig) (n : ℕ) (d c : Dev nD) :
    (tallyAt ((mate d : Thread nD τ), sm) () n : CellTallies nD τ sig Unit) ((c : Thread nD τ), sm) () = if d = mate c then n else 0 := by
  rw [tallyAt_apply]
  by_cases h : d = mate c
  · subst h; rw [mate_mate, if_pos ⟨rfl, rfl⟩, if_pos rfl]
  · rw [if_neg (fun ⟨h1, _⟩ => h (by rw [← mate_mate d]; exact congrArg mate (Fin.ext (congrArg (fun g : GSem nD τ sig => g.1.1.val) h1)).symm)), if_neg h]

theorem got_ne_bar (k : Fin 4) : (.dma (gotSem k) : SemLoc sig) ≠ .reg barrier0 := fun h => by cases h
theorem gotSem_inj : Function.Injective gotSem := by decide

theorem due_bar (d c : Dev nD) : ∀ n : ℕ, due d n (barCell c) () = 0
  | 0 => rfl
  | n + 1 => by
    have e : ∀ k, arrival d k (barCell c) = 0 := fun k => tallyAt_ne_cell (fun h => got_ne_bar k (congrArg Prod.snd h).symm) _ _
    unfold due
    rw [Pi.add_apply, Finsupp.add_apply, due_bar d c n, e, Finsupp.zero_apply, Nat.zero_add]

theorem arrival_at (d c : Dev nD) (j k : Fin 4) : arrival d j (gotCell c k) () = if j = k then (if d = mate c then credit else 0) else 0 := by
  by_cases h : j = k
  · subst h; rw [if_pos rfl]; exact owed_by _ _ d c
  · have e : arrival d j (gotCell c k) = 0 := tallyAt_ne_cell (fun e : gotCell c k = gotCell (mate d) j =>
      h (gotSem_inj (SemLoc.dma.inj (congrArg Prod.snd e))).symm) _ _
    rw [if_neg h, e, Finsupp.zero_apply]

theorem due_got (d c : Dev nD) (k : Fin 4) : due d 4 (gotCell c k) () = if d = mate c then credit else 0 := by
  show 0 + arrival d 3 (gotCell c k) () + arrival d 2 (gotCell c k) () + arrival d 1 (gotCell c k) () + arrival d 0 (gotCell c k) () = _
  rw [arrival_at, arrival_at, arrival_at, arrival_at]
  fin_cases k <;> simp

theorem owed_bar (d c : Dev nD) : debt d (barCell c) () = if d = mate c then 1 else 0 := by
  unfold debt
  rw [Pi.add_apply, Finsupp.add_apply, due_bar, Nat.zero_add]
  exact owed_by _ _ d c
theorem owed_got (k : Fin 4) (d c : Dev nD) : debt d (gotCell c k) () = if d = mate c then credit else 0 := by
  unfold debt
  rw [Pi.add_apply, Finsupp.add_apply, tallyAt_ne_cell (g := barCell (mate d)) (g' := gotCell c k) (fun h => got_ne_bar k (congrArg Prod.snd h)),
    Finsupp.zero_apply, Nat.add_zero]
  exact due_got d c k

theorem launch_cred (g : GSem nD τ sig) (c : Dev nD) (n : ℕ) (h : ∀ d : Dev nD, debt d g () = if d = mate c then n else 0) :
    tallyOn g (launchCredit (Pipeline.owing debt) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (mate c) fun _ => n,
    if_pos (Finset.mem_univ _)]

def gotEmb : Fin 4 ↪ SemLoc sig := ⟨fun k => .dma (gotSem k), fun _ _ h => gotSem_inj (SemLoc.dma.inj h)⟩

theorem creds (c : Dev nD) :
    (Pipeline.launchCred debt c : sProp 𝕄) ⊢ iprop(cred (tallyAt (barCell c) () 1) ∗ four (fun k => cred (tallyAt (gotCell c k) () credit))) := by
  unfold Pipeline.launchCred
  rw [bigSep_univ_at _ (SemLoc.reg barrier0), launch_cred (barCell c) c 1 fun d => owed_bar d c]
  refine sep_mono_right (BI.Entails.trans (bigSep_subset (t := Finset.univ.map gotEmb) fun s hs => ?_) ?_)
  · obtain ⟨k, -, rfl⟩ := Finset.mem_map.mp hs
    exact Finset.mem_erase.mpr ⟨got_ne_bar k, Finset.mem_univ _⟩
  · rw [bigSep_map, ← four_eq]
    refine bigSep_mono fun k _ => ?_
    exact Entails.of_eq (congrArg cred (launch_cred (gotCell c k) c credit fun d => owed_got k d c))

/-- What a device holds at launch beside its part in the exchange. -/
def bundle (c : Dev nD) : sProp 𝕄 :=
  iprop(StableHlo.held (c.tc : Thread nD τ) allBufs (V₁ m c) ∗ cred (tallyAt (barCell c) () 1) ∗ four (fun k => cred (tallyAt (gotCell c k) () credit))
    ∗ owes (c : Thread nD τ) (debt c) ∅ ∗ ∃ r, prngReg c r)

theorem first_intro (κ : GSem nD τ sig → ℕ) (c : Dev nD) : iprop(records m κ ∗ (alone c ∗ bundle m c)) ⊢ first m c := by
  unfold bundle first riding kept
  iintro ⟨#HR, Hl, Hh, H1, HG, HO, Hp⟩
  iframe Hh
  isplitl [Hl H1 HG]
  · isplitl [Hl]
    · iapply (ghost_intro m κ c)
      iframe HR Hl
    iframe
  iframe Hp
  iexists ∅; iexact HO

theorem init :
    iprop((bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ aside c)) ∗ levAts L lv)
      ⊢ (|={Set.univ}=> bigSep Finset.univ (first m) : sProp 𝕄) := by
  have hcore (c : Dev nD) : iprop(unscopedBufs c (fun b => m ((c : Thread nD τ).loc b)) ∗ unscopedSems0 c
        ∗ owes (c : Thread nD τ) (debt c) ∅ ∗ Pipeline.launchCred debt c ∗ prngReg c (ρ c) ∗ aside c)
      ⊢ (iprop(bundle m c ∗ (semVal (barCell c) 0 ∗ aside c)) : sProp 𝕄) := by
    rw [show unscopedBufs c (fun b => m ((c : Thread nD τ).loc b)) = StableHlo.held (c.tc : Thread nD τ) allBufs (V₁ m c)
      from Pipeline.unscopedBufs_held c (V₁ m c), unscopedSems_eq]
    unfold bundle
    iintro ⟨Hh, Hus, HO, Hcr, Hp, HG⟩
    ihave Hc := (creds (F := F) c) $$ Hcr
    icases Hc with ⟨H1, HN⟩
    isplitl [Hh H1 HN HO Hp]
    · iframe Hh H1 HN HO
      iexists (ρ c); iexact Hp
    iframe
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos EX g 0 ∅ 0 : sProp 𝕄)) ⊢ bigSep Finset.univ (fun c : Dev nD => (atPos EX (barCell c) 0 ∅ 0 : sProp 𝕄)) :=
    Entails.of_eq (bigSep_map (s := Finset.univ) barEmb (Φ := fun g : GSem nD τ sig => (atPos EX g 0 ∅ 0 : sProp 𝕄)))
  have hopen : bigSep ownCells (fun g => (openTok EX g : sProp 𝕄))
      ⊢ bigSep Finset.univ (fun c : Dev nD => iprop(four (fun k => openTok EX (sentCell c k)) ∗ four (fun k => openTok EX (gotCell c k)))) :=
    Entails.of_eq (own_each fun g => (openTok EX g : sProp 𝕄))
  iintro ⟨H, -⟩
  ihave H' := (show (bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ aside c))
      ⊢ (bigSep Finset.univ fun c : Dev nD => iprop(bundle m c ∗ (semVal (barCell c) 0 ∗ aside c)) : sProp 𝕄) from bigSep_mono fun c _ => hcore c) $$ H
  ihave H2 := split_families $$ H'; icases H2 with ⟨HB, H3⟩
  ihave H4 := split_families $$ H3; icases H4 with ⟨Hv, HG⟩
  ihave Hu := (Entails.of_eq (aside_eq (F := F))) $$ HG
  imod (Rounds.fund_launch EX (plan m) cells_disjoint (fun g _ h => h) duties) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(alone c ∗ bundle m c)) fun c _ => first_intro m κ c)
  isplitr
  · unfold records
    iframe Hinv Hr
  iapply join_families
  isplitr [HB]
  · unfold alone
    iapply join_families; isplitl [Hat]; · iapply hat $$ Hat
    iapply join_families; isplitl [Hopen]; · iapply hopen $$ Hopen
    iapply (duties_dealt (F := F)) $$ Htok
  · iexact HB

/-! ## The run -/

theorem unscoped_bar : ∀ sm : SemLoc sig, sm.isScoped .tc = false → sm = .reg barrier0 := by decide

set_option backward.isDefEq.respectTransparency.types false in
/-- Every execution of the program on the pair ends; then the inputs are unchanged, the blocks are written back, the landing buffers filled,
    and every counter is zero. -/
theorem run_main : θ_run defs (onTc (τ := τ) (main (F := F))) ⟨m, fun _ => 0, ρ⟩
    (fun r => (∀ c : Dev nD, (r.2.mem ((c : Thread nD τ).loc main_v1_0) = (dat m c).arrAt 2 cfg0.N
          ∧ r.2.mem ((c : Thread nD τ).loc main_v1_1) = arrived m c)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (dats m) () cellOf_inj EP defs₀ Variants.none L lv m ρ main (segs m)
    (fun c Q => by rw [main_segs adm (dats m) () Variants.none L lv (call m) c]; exact BI.Entails.refl _)
    (by simp only [segs, Pipeline.Seg.pipes_region, Pipeline.Seg.pipes_nil]; decide)
    (O₀ := debt) (hL := L_of_ne) (G := aside) (u₀ := launchElt (F := F))
    (hu₀ := by
      unfold launchElt
      iintro Hu
      ihave H := (ownU_pair _ _) $$ Hu
      icases H with ⟨HP, HX⟩
      imodintro
      iframe HP
      iapply (Entails.of_eq (aside_eq (F := F)).symm); iexact HX)
    (T₀ := first m) (Tₙ := last m)
    (hch := ⟨call_pre m, call_post m⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_arg2) = V₂ m c main_arg2 ∧ s.mem ((c : Thread nD τ).loc main_v1_0) = V₂ m c main_v1_0
      ∧ s.mem ((c : Thread nD τ).loc main_v1_1) = V₂ m c main_v1_1) ∧ s.sem (barCell c) = 0)
    (hfin := fun c s' => by
      dsimp only [last]; rw [held_each]
      iintro ⟨⟨⟨H0, H1, H2, H3, H4⟩, Hb⟩, HSI⟩
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4⟩, by simpa using hb⟩
      iexact HSI)
    (hQ := fun s h hs => ⟨fun c => by
        obtain ⟨⟨h0, h1, h2, h3, h4⟩, -⟩ := h c
        rw [V₂_ne m c _ (by decide) (by decide)] at h0 h1 h2
        rw [V₂_blocks] at h3
        rw [V₂_landing] at h4
        exact ⟨⟨h3, h4⟩, h0, h1, h2⟩,
      sem_eq_zero hs fun c sm hsm => by
        obtain rfl := unscoped_bar sm hsm
        exact (h c).2⟩)

end Cert.Da

end
-- ==== Proof.DaFrames.lean ====
/- The frame claims of the gradient of the feed-forward activations: the compiled program, and the program over the extended reals. -/
module

public import proofs.«01_k».proof.Defs
public import proofs.«01_k».proof.Proof.DaRun
public import proofs.«01_k».proof.Proof.Gen.Kernel7

@[expose] public section

noncomputable section

namespace Cert.Da

open Idealize.ShloMosaic Idealize.SL.Sem

/-- Over the extended reals: the program ends, its inputs unchanged, every counter zero. -/
theorem frame_ideal : Cert.quiescent_Kernel7Ideal := fun m ρ _ =>
  (θ_run (Cert.Kernel7Ideal.defs (F := Ideal)) _ _).mono (fun _ h => ⟨fun c => (h.1 c).2, h.2⟩) (run_main (F := Ideal) m ρ)

/-- The two programs have the same text. -/
theorem same_body : Cert.Kernel7.defs₀ (F := Bits) = Cert.Kernel7Ideal.defs₀ (F := Bits) := by
  unfold Cert.Kernel7.defs₀ Cert.Kernel7Ideal.defs₀
  refine congrArg Defs.onTc (funext fun l => ?_)
  match l with
  | ⟨0, _⟩ => rfl
  | ⟨_ + 1, h⟩ => exact absurd h (Nat.not_lt.2 (Nat.le_add_left _ _))
theorem same_defs : Cert.Kernel7.defs (F := Bits) = Cert.Kernel7Ideal.defs (F := Bits) :=
  congrArg (Pipeline.defs (Cert.Kernel7Ideal.pcfgs (F := Bits))) same_body

/-- Over machine words: the run is the same. -/
theorem frame_kernel : Cert.quiescent_Kernel7 := fun m ρ _ => by
  rw [same_defs]
  exact (θ_run (Cert.Kernel7Ideal.defs (F := Bits)) _ _).mono (fun _ h => ⟨fun c => (h.1 c).2, h.2⟩) (run_main (F := Bits) m ρ)

end Cert.Da

end
-- ==== Proof.DaKernel.lean ====
/- The gradient of the feed-forward activations, as the kernel computes it: on each device eight blocks of 512 tokens, each one product with
   the weights; and the pieces of the other device's gradient that arrive meanwhile. -/
module

public import proofs.«01_k».proof.Proof.DaRegion
public import Idealize.ShloMosaic.Lib.MatmulPlain
public import Idealize.ShloMosaic.Lib.KernelVsHost
public import Idealize.ShloMosaic.Lib.ValueIdx
public import Idealize.ShloMosaic.Lib.ValueLayout
public import Idealize.ShloMosaic.Lib.WordCmp
public import Idealize.ShloMosaic.Lib.Pointwise.Reduce

@[expose] public section

noncomputable section

namespace Cert.Da

open Idealize.ShloMosaic hiding ix0 ix1 ix2 ix3 ix4 ix5
open Idealize.ShloMosaic.ValueIdx Idealize.ShloMosaic.TcCoe Cert.Kernel7Ideal Cert.Kernel7Ideal.Gen

/-- One block's product, contracted over the model's width. -/
theorem product_at (a : FVec Ideal S512x1024 .bf16) (b : FVec Ideal S2816x1024 .bf16) (i : Fin 512) (f : Fin 2816) :
    k0_pay1 (F := Ideal) a b (ix2 i f) = ∑ k : Fin 1024, a (ix2 i k) * b (ix2 f k) := by
  unfold k0_pay1
  rw [shapeCast_self, shapeCast_self, truncf_apply]
  show FloatOps.matmul dot_S512x1024_S2816x1024_S512x2816_1_1_0_0_n_n none a b (constant S512x2816 .f32 0x00000000#32) (ix2 i f) = _
  rw [Ideal.matmul_apply, constant_apply, Ideal.ofBits_zero_f32, zero_add,
    ← Equiv.sum_comp (contrEquiv1 dot_S512x1024_S2816x1024_S512x2816_1_1_0_0_n_n 1024 rfl rfl).symm]
  refine Finset.sum_congr rfl fun k _ => ?_
  have hk := contrEquiv1_symm_val dot_S512x1024_S2816x1024_S512x2816_1_1_0_0_n_n 1024 rfl rfl k
  congr 1
  · refine congrArg a (funext fun ax => Fin.ext ?_)
    match ax with
    | ⟨0, _⟩ => rfl
    | ⟨1, _⟩ => exact hk
  · refine congrArg b (funext fun ax => Fin.ext ?_)
    match ax with
    | ⟨0, _⟩ => rfl
    | ⟨1, _⟩ => exact hk

variable (m : (ℓ : Loc nD τ sig) → Buf (Elt Ideal) ℓ) (c : Dev nD)

/-- The arguments' contents on a device: its tokens' gradients, the weights, its gradient to be exchanged. -/
abbrev A0 : (⟨2, ![4096, 1024]⟩ : Shape).Idx → EReal := m ((c.tc : Thread nD τ).loc main_arg0)
abbrev A1 : (⟨2, ![2816, 1024]⟩ : Shape).Idx → EReal := m ((c.tc : Thread nD τ).loc main_arg1)
abbrev A2 : (⟨2, ![2816, 1024]⟩ : Shape).Idx → EReal := m ((c.tc : Thread nD τ).loc main_arg2)

/-- Token `i` of block `t`. -/
def within (t : Fin 8) (i : Fin 512) : Fin 4096 := ⟨512 * t.val + i.val, by omega⟩

/-- The grid point of that block. -/
def pt (t : Fin 8) : Fin cfg0.N := ⟨t.val, by have h : cfg0.N = 8 := N_0; omega⟩

theorem index_facts : ∀ t : Fin 8, (win0_0.index (pt t) 0 = t.val ∧ win0_0.index (pt t) 1 = 0)
    ∧ (win0_1.index (pt t) 0 = 0 ∧ win0_1.index (pt t) 1 = 0) ∧ (win0_2.index (pt t) 0 = t.val ∧ win0_2.index (pt t) 1 = 0) := by
  decide +kernel

theorem read0 (t : Fin 8) (i : Fin 512) (k : Fin 1024) :
    (iblk m c 0 (pt t) : Vec Ideal S512x1024 .bf16) (ix2 i k) = A0 m c (ix2 (within t i) k) := by
  obtain ⟨⟨i0, i1⟩, -⟩ := index_facts t
  unfold iblk
  rw [View.read_apply]
  refine congrArg (m ((c.tc : Thread nD τ).loc main_arg0)) (funext fun a => Fin.ext ?_)
  match a with
  | ⟨0, _⟩ => show win0_0.index (pt t) 0 * 512 + 1 * i.val = 512 * t.val + i.val; rw [i0]; omega
  | ⟨1, _⟩ => show win0_0.index (pt t) 1 * 1024 + 1 * k.val = k.val; rw [i1]; omega

theorem read1 (t : Fin 8) (f : Fin 2816) (k : Fin 1024) :
    (iblk m c 1 (pt t) : Vec Ideal S2816x1024 .bf16) (ix2 f k) = A1 m c (ix2 f k) := by
  obtain ⟨-, ⟨i0, i1⟩, -⟩ := index_facts t
  unfold iblk
  rw [View.read_apply]
  refine congrArg (m ((c.tc : Thread nD τ).loc main_arg1)) (funext fun a => Fin.ext ?_)
  match a with
  | ⟨0, _⟩ => show win0_1.index (pt t) 0 * 2816 + 1 * f.val = f.val; rw [i0]; omega
  | ⟨1, _⟩ => show win0_1.index (pt t) 1 * 1024 + 1 * k.val = k.val; rw [i1]; omega

theorem index2 : ∀ t : Fin cfg0.N, win0_2.index t 0 = t.val := (by decide +kernel : ∀ t : Fin grid0.N, win0_2.index t 0 = t.val)

/-- Two points write different blocks. -/
theorem disjoint2 : ∀ t t' : Fin cfg0.N, (cfg0.win 2).flush t = true → (cfg0.win 2).flush t' = true → t ≠ t' →
    Disjoint ((cfg0.win 2).blk t).view.set ((cfg0.win 2).blk t').view.set := fun t t' _ _ hne =>
  (cfg0.win 2).disjoint_blk fun e => hne (Fin.ext (by
    have e' : win0_2.index t = win0_2.index t' := e
    rw [← index2 t, e', index2 t']))

/-- The kernel's gradient on a device. -/
theorem array_at (t : Fin 8) (i : Fin 512) (f : Fin 2816) :
    ((dat m c).arrAt 2 cfg0.N : (⟨2, ![4096, 2816]⟩ : Shape).Idx → EReal) (ix2 (within t i) f)
      = ∑ k : Fin 1024, A0 m c (ix2 (within t i) k) * A1 m c (ix2 f k) := by
  have h := (dat m c).arrAt_emb_eq_flushed 2 disjoint2 (pt t) (flush0_2 _) (ix2 i f)
  obtain ⟨i0, i1⟩ := (index_facts t).2.2
  have hi : (((cfg0.win 2).blk (pt t)).view.emb (ix2 i f) : S4096x2816.Idx) = ix2 (within t i) f := funext fun a => Fin.ext (by
    match a with
    | ⟨0, _⟩ => show win0_2.index (pt t) 0 * 512 + 1 * i.val = 512 * t.val + i.val; rw [i0]; omega
    | ⟨1, _⟩ => show win0_2.index (pt t) 1 * 2816 + 1 * f.val = f.val; rw [i1]; omega)
  rw [← hi]
  refine h.trans ?_
  rw [cast_eq]
  refine (congrFun (after_2 m c (pt t)) (ix2 i f)).trans ((product_at _ _ i f).trans ?_)
  exact Finset.sum_congr rfl fun k _ => congrArg₂ (· * ·) (read0 m c t i k) (read1 m c t f k)

/-- Row `a` of the piece `k` of 352 rows that device `d` finishes. -/
def rowFor (d : Fin 2) (k : Fin 4) (a : Fin 352) : Fin 2816 := ⟨704 * k.val + 352 * d.val + a.val, by omega⟩

/-- The entry of a piece that lies at row `a` and column `b` of its slot. -/
theorem slot_emb (k : Fin 4) (a : Fin 352) (b : Fin 1024) : ((slot k).view.emb (ix2 a b) : S4x352x1024.Idx) = ix3 k a b := by
  show (Rect.unit (s := S4x352x1024) (slotOff k) S1x352x1024.size (slot_inb k)).emb (Shape.reshapeEquiv _ (ix2 a b)) = ix3 k a b
  rw [reshapeEquiv_ix2_1ab]
  refine funext fun ax => Fin.ext ?_
  match ax with
  | ⟨0, _⟩ => rfl
  | ⟨1, _⟩ => show 0 + 1 * a.val = a.val; omega
  | ⟨2, _⟩ => show 0 + 1 * b.val = b.val; omega

/-- Slot `k` of a landing buffer holds the rows that the other device had for this one. -/
theorem arrived_at (k : Fin 4) (a : Fin 352) (b : Fin 1024) :
    (arrived m c : (⟨3, ![4, 352, 1024]⟩ : Shape).Idx → EReal) (ix3 k a b) = A2 m (mate c) (ix2 (rowFor c k a) b) := by
  show landed m c k (ix3 k a b) = _
  unfold landed
  rw [← slot_emb, View.write_emb_of_mem _ _ (Finset.mem_univ _), View.read_apply]
  refine congrArg (A2 m (mate c)) (funext fun ax => Fin.ext ?_)
  match ax with
  | ⟨0, _⟩ =>
    show (704 * k.val + 352 - 352 * (1 - c.val)) + 1 * a.val = 704 * k.val + 352 * c.val + a.val
    have : c.val < 2 := c.isLt
    omega
  | ⟨1, _⟩ => show 0 + 1 * b.val = b.val; omega

end Cert.Da

end
-- ==== Proof.DaReference.lean ====
/- The gradient of the feed-forward activations, as the reference computes it: the derivative of the projection over both devices' tokens;
   and the exchanged pieces, put together by strided slices. -/
module

public import proofs.«01_k».proof.Proof.DaKernel
public import proofs.«01_k».proof.Proof.UpReference
public import proofs.«01_k».proof.Proof.Gen.Reference7Ideal.Read
public import Idealize.ShloMosaic.Lib.Pointwise.ShapeOpsCore

@[expose] public section

noncomputable section

namespace Cert.Da

open Idealize.ShloMosaic hiding ix0 ix1 ix2 ix3 ix4 ix5
open Idealize.ShloMosaic.ValueIdx Cert.Reference7Ideal Cert.Reference7Ideal.Gen Cert.Reference7Ideal.Read
open Cert.Pool (ext2 ext3)
open Cert.Up (tokenOf blockOf)

variable (x0 : (⟨2, ![8192, 1024]⟩ : Shape).Idx → EReal) (x1 : (⟨2, ![2816, 1024]⟩ : Shape).Idx → EReal)
  (x2 : (⟨2, ![5632, 1024]⟩ : Shape).Idx → EReal)

/-- The activations' gradient, contracted over the model's width. -/
theorem v6_at (s : Fin 8192) (f : Fin 2816) : val_main_v6 (F := Ideal) x0 x1 (ix2 s f) = ∑ k : Fin 1024, x0 (ix2 s k) * x1 (ix2 f k) :=
  (val_main_v4_apply x0 x1 (ix2 s f)).trans (Finset.sum_congr rfl fun k _ =>
    congrArg₂ (· * ·) (congrArg x0 (ext2 _ s k rfl rfl)) (congrArg x1 (ext2 _ f k rfl rfl)))

/-- Row `r` of device `d`'s gradient in the rows of both. -/
def bothRow (d : Fin 2) (r : Fin 2816) : Fin 5632 := ⟨2816 * d.val + r.val, by omega⟩

/-- The sixteen pieces of 352 rows, eight of each device. -/
theorem v5_at (p : Fin 16) (a : Fin 352) (b : Fin 1024) :
    val_main_v5 (F := Ideal) x2 (ix3 p a b) = x2 (ix2 ⟨352 * p.val + a.val, by omega⟩ b) := by
  rw [val_main_v5_apply]
  refine congrArg x2 (ext2 _ _ _ ?_ ?_)
  · show ((p.val * 352 + a.val) * 1024 + b.val) / 1024 = 352 * p.val + a.val
    omega
  · show ((p.val * 352 + a.val) * 1024 + b.val) % 1024 = b.val
    omega

/-- A slice of every other piece: from the second device's first on, and from the first device's second on. -/
theorem v7_at (k : Fin 4) (a : Fin 352) (b : Fin 1024) :
    val_main_v7 (F := Ideal) x2 (ix3 k a b) = x2 (ix2 (bothRow 1 (rowFor 0 k a)) b) := by
  unfold val_main_v7
  rw [Host.slice_apply, Shape.Idx.norm_def]
  refine (congrArg (val_main_v5 (F := Ideal) x2) (ext3 _ ⟨8 + 2 * k.val, by omega⟩ a b rfl ?_ ?_)).trans ((v5_at x2 _ a b).trans
    (congrArg x2 (ext2 _ _ _ ?_ rfl)))
  · show 0 + 1 * a.val = a.val; omega
  · show 0 + 1 * b.val = b.val; omega
  · show 352 * (8 + 2 * k.val) + a.val = 2816 * 1 + (704 * k.val + 352 * 0 + a.val); omega

theorem v8_at (k : Fin 4) (a : Fin 352) (b : Fin 1024) :
    val_main_v8 (F := Ideal) x2 (ix3 k a b) = x2 (ix2 (bothRow 0 (rowFor 1 k a)) b) := by
  unfold val_main_v8
  rw [Host.slice_apply, Shape.Idx.norm_def]
  refine (congrArg (val_main_v5 (F := Ideal) x2) (ext3 _ ⟨1 + 2 * k.val, by omega⟩ a b rfl ?_ ?_)).trans ((v5_at x2 _ a b).trans
    (congrArg x2 (ext2 _ _ _ ?_ rfl)))
  · show 0 + 1 * a.val = a.val; omega
  · show 0 + 1 * b.val = b.val; omega
  · show 352 * (1 + 2 * k.val) + a.val = 2816 * 0 + (704 * k.val + 352 * 1 + a.val); omega

/-- The pieces that device `d` finishes, out of the other device's gradient. -/
theorem v9_at (d : Fin 2) (k : Fin 4) (a : Fin 352) (b : Fin 1024) :
    val_main_v9 (F := Ideal) x2 (ix3 (blockOf d k) a b) = x2 (ix2 (bothRow (mate d) (rowFor d k a)) b) := by
  unfold val_main_v9
  match d with
  | 0 =>
    refine (concatenate_pair_apply_left (t := S8x352x1024) (s₁ := S4x352x1024) (s₂ := S4x352x1024) 0 (val_main_v7 (F := Ideal) x2)
      (val_main_v8 (F := Ideal) x2) _ _ rfl (ix3 k a b) fun ax => ?_).trans (v7_at x2 k a b)
    match ax with
    | ⟨0, _⟩ => show k.val = 4 * 0 + k.val; omega
    | ⟨1, _⟩ => rfl
    | ⟨2, _⟩ => rfl
  | 1 =>
    refine (concatenate_pair_apply_right (t := S8x352x1024) (s₁ := S4x352x1024) (s₂ := S4x352x1024) 0 (val_main_v7 (F := Ideal) x2)
      (val_main_v8 (F := Ideal) x2) _ _ rfl rfl (ix3 k a b) (fun ax ha => ?_) (by show k.val + 4 = 4 * 1 + k.val; omega)).trans (v8_at x2 k a b)
    match ax, ha with
    | ⟨0, _⟩, ha => exact absurd rfl ha
    | ⟨1, _⟩, _ => rfl
    | ⟨2, _⟩, _ => rfl

end Cert.Da

end
-- ==== Proof.DaClaims.lean ====
/- What is claimed of the gradient of the feed-forward activations: the reference's run, and on each device of the pair the kernel's results
   as the device's part of the reference's, the same extended reals. -/
module

public import proofs.«01_k».proof.Defs
public import proofs.«01_k».proof.Proof.DaRun
public import proofs.«01_k».proof.Proof.DaReference
public import proofs.«01_k».proof.Proof.UpClaims
public import proofs.«01_k».proof.Proof.Gen.Reference7Ideal.Run
public import Idealize.ShloMosaic.Adequacy
public import Idealize.ShloMosaic.Init

@[expose] public section

noncomputable section

namespace Cert.Da

open Idealize.ShloMosaic hiding ix0 ix1 ix2 ix3 ix4 ix5
open Idealize.ShloMosaic.ValueIdx Idealize.ShloMosaic.TcCoe Idealize.SL.Sem
open Cert.Pool (ext2 ext3)
open Cert.Up (tokenOf blockOf tokens_part)

section Reference

open Cert.Reference7Ideal Cert.Reference7Ideal.Read

/-- What the reference leaves in its result arrays, named stage by stage. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = val_main_v6 (F := Ideal) (m ((c.tc : Thread nD τ).loc main_arg0))
          (m ((c.tc : Thread nD τ).loc main_arg1))
      ∧ r.2.mem ((c.tc : Thread nD τ).loc main_v9) = val_main_v9 (F := Ideal) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v6_eq _ _), (h c).2.1.trans (val_main_v9_eq _), (h c).2.2⟩)
    (Value.run (F := Ideal) m ρ)

end Reference

/-- The reference runs, its arguments stay and its counters end at zero. -/
theorem frame_reference : Cert.quiescent_Reference7Ideal := fun m ρ _ =>
  (θ_run Cert.Reference7Ideal.defs _ _).mono (fun r h => ⟨fun c => (h c).2.2, sem_eq_zero_of_no_sems (by decide) r.2⟩) (reference_run m ρ)

/-! ## A device's part of an array: its tokens of the activations' gradient, its rows of the exchanged one, its slots -/

section Parts

theorem place : ∀ d : Fin 2, Layout.meshLin [1, 1, 2] d.val [2] = d.val := by decide

variable (d : Fin 2)

theorem hidden_part (v : (⟨2, ![8192, 2816]⟩ : Shape).Idx → EReal) (s : Fin 4096) (f : Fin 2816) :
    Layout.blockN ⟨2, ![4096, 2816]⟩ ⟨2, ![8192, 2816]⟩ (Layout.meshBlock [1, 1, 2] ![[2], []] d) v (by decide) (ix2 s f)
      = v (ix2 (tokenOf d s) f) := by
  rw [Layout.blockN_apply]
  refine congrArg v (ext2 _ _ _ ?_ ?_)
  · show Layout.meshLin [1, 1, 2] d.val [2] * 4096 + s.val = 4096 * d.val + s.val
    rw [place]; omega
  · show 0 * 2816 + f.val = f.val
    omega

theorem rows_part (v : (⟨2, ![5632, 1024]⟩ : Shape).Idx → EReal) (r : Fin 2816) (b : Fin 1024) :
    Layout.blockN ⟨2, ![2816, 1024]⟩ ⟨2, ![5632, 1024]⟩ (Layout.meshBlock [1, 1, 2] ![[2], []] d) v (by decide) (ix2 r b)
      = v (ix2 (bothRow d r) b) := by
  rw [Layout.blockN_apply]
  refine congrArg v (ext2 _ _ _ ?_ ?_)
  · show Layout.meshLin [1, 1, 2] d.val [2] * 2816 + r.val = 2816 * d.val + r.val
    rw [place]; omega
  · show 0 * 1024 + b.val = b.val
    omega

theorem slots_part (v : (⟨3, ![8, 352, 1024]⟩ : Shape).Idx → EReal) (k : Fin 4) (a : Fin 352) (b : Fin 1024) :
    Layout.blockN ⟨3, ![4, 352, 1024]⟩ ⟨3, ![8, 352, 1024]⟩ (Layout.meshBlock [1, 1, 2] ![[2], [], []] d) v (by decide) (ix3 k a b)
      = v (ix3 (blockOf d k) a b) := by
  rw [Layout.blockN_apply]
  refine congrArg v (ext3 _ _ _ _ ?_ ?_ ?_)
  · show Layout.meshLin [1, 1, 2] d.val [2] * 4 + k.val = 4 * d.val + k.val
    rw [place]; omega
  · show 0 * 352 + a.val = a.val
    omega
  · show 0 * 1024 + b.val = b.val
    omega

end Parts

/-! ## The equation -/

section Equation

open Cert.Kernel7Ideal

variable (m : (ℓ : Loc nD τ sig) → Buf (Elt Ideal) ℓ)
  (x0 : (⟨2, ![8192, 1024]⟩ : Shape).Idx → EReal) (x1 : (⟨2, ![2816, 1024]⟩ : Shape).Idx → EReal)
  (x2 : (⟨2, ![5632, 1024]⟩ : Shape).Idx → EReal)

/-- A device's gradient is its part of the reference's. -/
theorem gradient_eq (c : Dev nD)
    (h0 : A0 m c = Layout.blockN ⟨2, ![4096, 1024]⟩ ⟨2, ![8192, 1024]⟩ (Layout.meshBlock [1, 1, 2] ![[2], []] c) x0 (by decide))
    (h1 : A1 m c = x1) :
    ((dat m c).arrAt 2 cfg0.N : (⟨2, ![4096, 2816]⟩ : Shape).Idx → EReal)
      = Layout.blockN ⟨2, ![4096, 2816]⟩ ⟨2, ![8192, 2816]⟩ (Layout.meshBlock [1, 1, 2] ![[2], []] c)
          (Cert.Reference7Ideal.Read.val_main_v6 (F := Ideal) x0 x1) (by decide) := by
  funext q
  obtain ⟨s, f, rfl⟩ : ∃ (s : Fin 4096) (f : Fin 2816), q = ix2 s f := ⟨_, _, ValueIdx.eq_ix2 q⟩
  obtain ⟨t, i, rfl⟩ : ∃ (t : Fin 8) (i : Fin 512), s = within t i :=
    ⟨⟨s.val / 512, by omega⟩, ⟨s.val % 512, Nat.mod_lt _ (by decide)⟩, Fin.ext (by show s.val = 512 * (s.val / 512) + s.val % 512; omega)⟩
  rw [hidden_part]
  have e : (∑ k : Fin 1024, A0 m c (ix2 (within t i) k) * A1 m c (ix2 f k)) = ∑ k : Fin 1024, x0 (ix2 (tokenOf c (within t i)) k) * x1 (ix2 f k) := by
    refine Finset.sum_congr rfl fun k _ => congrArg₂ (· * ·) ?_ (by rw [h1])
    rw [h0]; exact tokens_part c x0 _ k
  exact (array_at m c t i f).trans (e.trans (v6_at x0 x1 _ f).symm)

/-- A device's landing buffer is its part of the reference's. -/
theorem pieces_eq (c : Dev nD)
    (h2 : ∀ c : Dev nD, A2 m c = Layout.blockN ⟨2, ![2816, 1024]⟩ ⟨2, ![5632, 1024]⟩ (Layout.meshBlock [1, 1, 2] ![[2], []] c) x2 (by decide)) :
    (arrived m c : (⟨3, ![4, 352, 1024]⟩ : Shape).Idx → EReal)
      = Layout.blockN ⟨3, ![4, 352, 1024]⟩ ⟨3, ![8, 352, 1024]⟩ (Layout.meshBlock [1, 1, 2] ![[2], [], []] c)
          (Cert.Reference7Ideal.Read.val_main_v9 (F := Ideal) x2) (by decide) := by
  funext q
  obtain ⟨k, a, b, rfl⟩ : ∃ (k : Fin 4) (a : Fin 352) (b : Fin 1024), q = ix3 k a b := ⟨_, _, _, ValueIdx.eq_ix3 q⟩
  rw [slots_part]
  refine (arrived_at m c k a b).trans (Eq.trans ?_ (v9_at x2 c k a b).symm)
  rw [h2]
  exact rows_part (mate c) x2 _ b

end Equation

/-- The kernel's results on each device and the device's part of the reference's are the same extended reals. -/
theorem algebraic : Cert.algebraic_Kernel7Ideal_Reference7Ideal := fun m g m' g' _ hargs =>
  ⟨_, _,
    (θ_run (Cert.Kernel7Ideal.defs (F := Ideal)) _ _).mono (fun r h c =>
        ⟨(h.1 c).1.1.trans (gradient_eq m _ _ c (hargs c).1 (hargs c).2.1),
          (h.1 c).1.2.trans (pieces_eq m _ c fun d => (hargs d).2.2), (h.1 c).2⟩)
      (run_main (F := Ideal) m g),
    (θ_run (Cert.Reference7Ideal.defs (F := Ideal)) _ _).mono (fun r h => h 0) (reference_run m' g')⟩

end Cert.Da

end
-- ==== Proof.SqProtocol.lean ====
/- The exchange the call of the mixer's three square weight gradients carries along: four devices hold four tables each; every device keeps the one
   of its own number, sends each of the three others the second half of the table of that one's number, and takes such a half of each of the three
   into three slots. This module names the peers, the pieces, the slots and the seven semaphores, and states as a schedule what each is worth. -/
module

public import proofs.«01_k».proof.Proof.Gen.Kernel8Ideal.Launch
public import proofs.«01_k».proof.Proof.Gen.Kernel8Ideal.Points
public import proofs.«01_k».proof.Proof.Gen.Kernel8Ideal.Skeleton
public import Idealize.ShloMosaic.Lib.Rounds
public import Idealize.ShloMosaic.Lib.Tactic
public import Idealize.ShloMosaic.Lib.Pipeline.RegionTalk

@[expose] public section

noncomputable section

namespace Cert.Sq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel8Ideal Cert.Kernel8Ideal.Gen

variable {F : FTy → Type} [FloatOps F]

/-! ## The square of devices, its semaphores, the pieces and the slots -/

/-- The three other devices of the square: across the first axis, across the second, across both. -/
def peer (c : Dev nD) (k : Fin 3) : Dev nD :=
  ⟨![(c.val % 2 + 2) - 2 * (c.val / 2), (2 * (c.val / 2) + 1) - c.val % 2, 3 - (2 * (c.val / 2) + c.val % 2)] k, by revert c k; decide⟩
theorem peer_peer (c : Dev nD) (k : Fin 3) : peer (peer c k) k = c := by revert c k; decide
theorem peer_inj (c : Dev nD) {k l : Fin 3} (h : peer c k = peer c l) : k = l := by revert c k l; decide
def across (k : Fin 3) : Dev nD ≃ Dev nD := ⟨(peer · k), (peer · k), (peer_peer · k), (peer_peer · k)⟩

/-- Semaphore `k` of the pieces having left; of the pieces having arrived. -/
def sentSem (k : Fin 3) : DmaSem sig := ⟨6 + k.val, by show 6 + k.val < 12; omega⟩
def gotSem (k : Fin 3) : DmaSem sig := ⟨9 + k.val, by show 9 + k.val < 12; omega⟩

abbrev barCell (c : Dev nD) : GSem nD τ sig := ((c : Thread nD τ), .reg barrier1)
abbrev sentCell (c : Dev nD) (k : Fin 3) : GSem nD τ sig := ((c : Thread nD τ), .dma (sentSem k))
abbrev gotCell (c : Dev nD) (k : Fin 3) : GSem nD τ sig := ((c : Thread nD τ), .dma (gotSem k))

/-- The six semaphores only this call uses. -/
def ownSem (k : Fin 6) : SemLoc sig := .dma ⟨6 + k.val, by show 6 + k.val < 12; omega⟩

/-- What a semaphore is for. -/
inductive Role where
  | bar
  | sent (k : Fin 3)
  | got (k : Fin 3)
  | other
  deriving DecidableEq

def role : SemLoc sig → Role
  | .reg _ => .bar
  | .dma s => if h : 9 ≤ s.val then .got ⟨s.val - 9, by have : s.val < 12 := s.isLt; omega⟩
      else if h' : 6 ≤ s.val then .sent ⟨s.val - 6, by omega⟩ else .other

theorem role_dma (s : DmaSem sig) : role (.dma s) ≠ .bar := by
  unfold role
  dsimp only
  split_ifs <;> exact fun h => by cases h
theorem role_bar : role (.reg barrier1) = .bar := rfl
theorem role_sent (k : Fin 3) : role (.dma (sentSem k)) = .sent k := by revert k; decide
theorem role_got (k : Fin 3) : role (.dma (gotSem k)) = .got k := by revert k; decide

/-- Where a device's piece for peer `k` begins: in the middle of the table of that peer's number. -/
abbrev pieceOff (c : Dev nD) (k : Fin 3) : Fin 3 → Nat := ![(peer c k).val, 256, 0]
abbrev slotOff (k : Fin 3) : Fin 3 → Nat := ![k.val, 256, 0]
theorem piece_inb (c : Dev nD) (k : Fin 3) : ∀ a, pieceOff c k a + S1x256x1408.size a ≤ S4x512x1408.size a := by revert c k; decide +kernel
theorem slot_inb (k : Fin 3) : ∀ a, slotOff k a + S1x256x1408.size a ≤ S3x512x1408.size a := by revert k; decide +kernel

/-- Half of one of the four tables, from an offset on; a slot of the landing buffer, likewise. -/
abbrev pieceAt (off : Fin 3 → Nat) (h : ∀ a, off a + S1x256x1408.size a ≤ S4x512x1408.size a) : Memref sig .tc .hbm S256x1408 .bf16 :=
  ((Memref.whole main_arg2).slice (Rect.unit (s := S4x512x1408) off S1x256x1408.size h) (fun _ => rfl)).squeeze S256x1408 squeezes_S1x256x1408_S256x1408
abbrev slotAt (off : Fin 3 → Nat) (h : ∀ a, off a + S1x256x1408.size a ≤ S3x512x1408.size a) : Memref sig .tc .hbm S256x1408 .bf16 :=
  ((Memref.whole main_v1_1).slice (Rect.unit (s := S3x512x1408) off S1x256x1408.size h) (fun _ => rfl)).squeeze S256x1408 squeezes_S1x256x1408_S256x1408

abbrev piece (c : Dev nD) (k : Fin 3) : Memref sig .tc .hbm S256x1408 .bf16 := pieceAt (pieceOff c k) (piece_inb c k)
abbrev slot (k : Fin 3) : Memref sig .tc .hbm S256x1408 .bf16 := slotAt (slotOff k) (slot_inb k)

/-- What the copy of a piece credits. -/
abbrev credit : ℕ := (slot 0).view.dmaCredit
theorem credit_pos : 0 < credit := View.dmaCredit_pos _ (by decide)
theorem credit_slot (off : Fin 3 → Nat) (h : ∀ a, off a + S1x256x1408.size a ≤ S3x512x1408.size a) : (slotAt off h).view.dmaCredit = credit := rfl
theorem credit_piece (off : Fin 3 → Nat) (h : ∀ a, off a + S1x256x1408.size a ≤ S4x512x1408.size a) : (pieceAt off h).view.dmaCredit = credit := rfl

theorem set_piece (c : Dev nD) (k : Fin 3) :
    (piece c k).view.set = (Rect.unit (s := S4x512x1408) (pieceOff c k) S1x256x1408.size (piece_inb c k)).set :=
  (View.set_reshape _ _).trans (View.set_slice_whole _ _)
theorem set_slot (k : Fin 3) :
    (slot k).view.set = (Rect.unit (s := S3x512x1408) (slotOff k) S1x256x1408.size (slot_inb k)).set :=
  (View.set_reshape _ _).trans (View.set_slice_whole _ _)

theorem mem_piece (c : Dev nD) (k : Fin 3) (i : S4x512x1408.Idx) : i ∈ (piece c k).view.set ↔ (i 0).val = (peer c k).val ∧ 256 ≤ (i 1).val := by
  rw [set_piece, Rect.mem_set_unit]
  constructor
  · intro h
    have h0 := h (0 : Fin 3)
    have h1 := (h (1 : Fin 3)).1
    simp only [S1x256x1408, Matrix.cons_val_zero] at h0
    exact ⟨by omega, h1⟩
  · rintro ⟨h, h'⟩ a
    match a with
    | ⟨0, _⟩ => exact ⟨le_of_eq h.symm, by show (i 0).val < (peer c k).val + 1; omega⟩
    | ⟨1, _⟩ => exact ⟨h', by simpa using (i (1 : Fin 3)).isLt⟩
    | ⟨2, _⟩ => exact ⟨Nat.zero_le _, by simpa using (i (2 : Fin 3)).isLt⟩

theorem mem_slot (k : Fin 3) (i : S3x512x1408.Idx) : i ∈ (slot k).view.set ↔ (i 0).val = k.val ∧ 256 ≤ (i 1).val := by
  rw [set_slot, Rect.mem_set_unit]
  constructor
  · intro h
    have h0 := h (0 : Fin 3)
    have h1 := (h (1 : Fin 3)).1
    simp only [S1x256x1408, Matrix.cons_val_zero] at h0
    exact ⟨by omega, h1⟩
  · rintro ⟨h, h'⟩ a
    match a with
    | ⟨0, _⟩ => exact ⟨le_of_eq h.symm, by show (i 0).val < k.val + 1; omega⟩
    | ⟨1, _⟩ => exact ⟨h', by simpa using (i (1 : Fin 3)).isLt⟩
    | ⟨2, _⟩ => exact ⟨Nat.zero_le _, by simpa using (i (2 : Fin 3)).isLt⟩

theorem pieces_disjoint (c : Dev nD) {k l : Fin 3} (h : k ≠ l) : Disjoint (piece c k).view.set (piece c l).view.set := by
  rw [Finset.disjoint_left]
  intro i hi hj
  rw [mem_piece] at hi hj
  exact h (peer_inj c (Fin.ext (hi.1.symm.trans hj.1)))

theorem slots_disjoint {k l : Fin 3} (h : k ≠ l) : Disjoint (slot k).view.set (slot l).view.set := by
  rw [Finset.disjoint_left]
  intro i hi hj
  rw [mem_slot] at hi hj
  exact h (Fin.ext (hi.1.symm.trans hj.1))

/-! ## What the devices hold -/

/-- The round algebra of this protocol: up to three duties on a semaphore. -/
abbrev UX : Type := Rounds.URounds (GSem nD τ sig) (Fin 3)
/-- The library's copy of the round algebra and this protocol's. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-- The same resource for each of the three peers. -/
abbrev three (Φ : Fin 3 → sProp 𝕄) : sProp 𝕄 := iprop(Φ 0 ∗ Φ 1 ∗ Φ 2)
theorem three_eq (Φ : Fin 3 → sProp 𝕄) : bigSep Finset.univ Φ = three Φ :=
  bigSep_univ_eq_bigSepL [(0 : Fin 3), 1, 2] (by decide) (by decide) Φ

variable (m : (ℓ : Loc nD τ sig) → Buf (Elt F) ℓ)

/-- A device's memory at launch; and once the landing input has been copied into the buffer that is landed in. -/
abbrev V₀ (c : Dev nD) : Valuation τ sig (Elt F) := fun b => m ((c : Dev nD), b)
abbrev V₁ (c : Dev nD) : Valuation τ sig (Elt F) := StableHlo.after hostOps0 (V₀ m c)

abbrev tables (c : Dev nD) : (main_arg2 : Ref sig .tc).ty.Contents (Elt F) := V₁ m c main_arg2
abbrev landing (c : Dev nD) : (main_v1_1 : Ref sig .tc).ty.Contents (Elt F) := V₁ m c main_v1_1

/-- Device `c`'s landing buffer with the piece of its peer `k` in slot `k`. -/
def landed (c : Dev nD) (k : Fin 3) : (main_v1_1 : Ref sig .tc).ty.Contents (Elt F) :=
  (slot k).view.write (Elt F) (landing m c) ((piece (peer c k) k).view.read (Elt F) (tables m (peer c k))) Finset.univ

/-- Device `c`'s landing buffer once all three have arrived. -/
def arrived (c : Dev nD) : (main_v1_1 : Ref sig .tc).ty.Contents (Elt F) := fun i =>
  if 256 ≤ (i (1 : Fin 3)).val then landed m c ⟨(i (0 : Fin 3)).val, (i (0 : Fin 3)).isLt⟩ i else landing m c i

/-- On device `c`, the piece for peer `k` at `f`; slot `k` of its landing buffer at `f`. -/
abbrev pieceRows (c : Dev nD) (k : Fin 3) (f : (main_arg2 : Ref sig .tc).ty.Contents (Elt F)) : sProp 𝕄 :=
  (piece c k).view.loc (c : Thread nD τ) ↦[(piece c k).view.set]{fullShare} f
abbrev slotRows (c : Dev nD) (k : Fin 3) (f : (main_v1_1 : Ref sig .tc).ty.Contents (Elt F)) : sProp 𝕄 :=
  (slot k).view.loc (c : Thread nD τ) ↦[(slot k).view.set]{fullShare} f

/-! ## The schedule: one round; three duties on a barrier, one for each peer, and one duty on each of the six others -/

/-- The signal of peer `k` on `c`'s barrier: that peer's slot `k`, and that its arrival is being counted. -/
def barPay (c : Dev nD) (k : Fin 3) : sProp 𝕄 := iprop(slotRows (peer c k) k (landing m (peer c k)) ∗ reached EX (gotCell (peer c k) k) 0)
/-- The arrival of copy `k` on `c`: slot `k`, at the peer's piece. -/
def gotPay (c : Dev nD) (k : Fin 3) : sProp 𝕄 := slotRows c k (landed m c k)
/-- The departure of copy `k` from `c`: its own piece back. -/
def sentPay (c : Dev nD) (k : Fin 3) : sProp 𝕄 := pieceRows c k (tables m c)

/-- What the duty `d` pays on device `c`'s semaphore of a role. -/
def pay (c : Dev nD) : Role → Fin 3 → sProp 𝕄
  | .bar, d => barPay m c d
  | .sent k, _ => sentPay m c k
  | .got k, _ => gotPay m c k
  | .other, _ => iprop(emp)

instance pay_storable (c : Dev nD) (x : Role) (d : Fin 3) : BI.Storable (upEmb : UEmb _ 𝕄) (pay (F := F) m c x d) := by
  match x with
  | .bar => show BI.Storable upEmb (barPay m c d); unfold barPay; infer_instance
  | .sent k => show BI.Storable upEmb (sentPay m c k); unfold sentPay; infer_instance
  | .got k => show BI.Storable upEmb (gotPay m c k); unfold gotPay; infer_instance
  | .other => show BI.Storable upEmb iprop(emp); infer_instance

/-- The duties of a role. -/
def owedTo : Role → Finset (Fin 3)
  | .bar => Finset.univ
  | .other => ∅
  | _ => {0}

def plan : Rounds.Schedule (GSem nD τ sig) (Fin 3) 𝕄 where
  duties g r := if r = 0 ∧ g.1.2 = .tc then owedTo (role g.2) else ∅
  unitless _ := False
  amount g _ _ := if role g.2 = .bar then 1 else credit
  payload g _ d := pay m g.1.1 (role g.2) d
  amount_pos g _ _ _ := by
    by_cases h : role g.2 = .bar
    · rw [if_pos h]; exact Nat.one_pos
    · rw [if_neg h]; exact credit_pos

instance plan_payload_storable (g : GSem nD τ sig) (r : ℕ) (d : Fin 3) :
    BI.Storable (upEmb : UEmb _ 𝕄) ((plan (F := F) m).payload g r d) := pay_storable m g.1.1 (role g.2) d

section Plan

variable (c : Dev nD)

/-- A semaphore of a departure or an arrival. -/
def single (s : DmaSem sig) : Prop := owedTo (role (.dma s)) = {0}
theorem single_sent (k : Fin 3) : single (sentSem k) := by unfold single; rw [role_sent]; rfl
theorem single_got (k : Fin 3) : single (gotSem k) := by unfold single; rw [role_got]; rfl

theorem duties_bar : (plan (F := F) m).duties (barCell c) 0 = Finset.univ := by
  dsimp only [plan]; exact if_pos ⟨rfl, rfl⟩
theorem duties_dma (s : DmaSem sig) (h : single s) : (plan (F := F) m).duties ((c : Thread nD τ), .dma s) 0 = {0} := by
  dsimp only [plan]; exact (if_pos ⟨rfl, rfl⟩).trans h
theorem duties_later (g : GSem nD τ sig) : ∀ r, 1 ≤ r → (plan (F := F) m).duties g r = ∅ :=
  fun r hr => by dsimp only [plan]; exact if_neg fun h => by omega

theorem amount_bar (d : Fin 3) : (plan (F := F) m).amount (barCell c) 0 d = 1 := by dsimp only [plan]; exact if_pos rfl
theorem amount_dma (s : DmaSem sig) (d : Fin 3) : (plan (F := F) m).amount ((c : Thread nD τ), .dma s) 0 d = credit := by
  dsimp only [plan]; exact if_neg (role_dma s)

theorem expect_bar : (plan (F := F) m).expect (barCell c) 0 = 3 := by
  unfold Schedule.expect Schedule.amountOf
  rw [duties_bar m c, Finset.sum_congr rfl fun d _ => amount_bar m c d, Finset.sum_const, Finset.card_univ, Fintype.card_fin]; rfl
theorem expect_dma (s : DmaSem sig) (h : single s) : (plan (F := F) m).expect ((c : Thread nD τ), .dma s) 0 = credit := by
  unfold Schedule.expect Schedule.amountOf; rw [duties_dma m c s h, Finset.sum_singleton, amount_dma]

theorem payload_at (s : SemLoc sig) (d : Fin 3) : (plan (F := F) m).payload ((c : Thread nD τ), s) 0 d = pay m c (role s) d := rfl

theorem rest_bar :
    bigSep ((plan (F := F) m).duties (barCell c) 0 \ ∅) (fun d => (plan (F := F) m).payload (barCell c) 0 d) = three (barPay m c) := by
  rw [Finset.sdiff_empty, duties_bar m c, ← three_eq]; rfl
theorem rest_dma (s : DmaSem sig) (h : single s) :
    bigSep ((plan (F := F) m).duties ((c : Thread nD τ), .dma s) 0 \ ∅) (fun d => (plan (F := F) m).payload ((c : Thread nD τ), .dma s) 0 d)
      = pay m c (role (.dma s)) 0 := by
  rw [Finset.sdiff_empty, duties_dma m c s h, bigSep_singleton, payload_at]

end Plan

/-! ## What a device owes, and in which order it may wait -/

/-- The arrival of piece `k` a device owes its peer; the unit it owes that peer's barrier. -/
abbrev arrival (c : Dev nD) (k : Fin 3) : CellTallies nD τ sig Unit := tallyAt (gotCell (peer c k) k) () credit
abbrev greeting (c : Dev nD) (k : Fin 3) : CellTallies nD τ sig Unit := tallyAt (barCell (peer c k)) () 1
/-- What it owes with the last `n` pieces still to send. -/
def due (c : Dev nD) : ℕ → CellTallies nD τ sig Unit
  | 0 => 0
  | n + 1 => due c n + arrival c ⟨2 - n, by omega⟩
/-- At launch a device owes each peer an arrival and a barrier unit; it signals across the second axis first. -/
def debt (c : Dev nD) : CellTallies nD τ sig Unit := due c 3 + greeting c 2 + greeting c 0 + greeting c 1

def L (g : GSem nD τ sig) : Finset Unit := if g.1.2 = .tc then {()} else ∅
/-- Barriers come before arrivals; everything else comes before both. -/
def lv (g : GSem nD τ sig) (_ : Unit) : ℕ := match role g.2 with
  | .bar => 1
  | .got _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by
  rw [L_tc]; exact Finset.mem_singleton_self _
theorem lv_bar (c : Dev nD) (u : Unit) : lv (barCell c) u = 1 := rfl
theorem lv_got (c : Dev nD) (k : Fin 3) (u : Unit) : lv (gotCell c k) u = 2 := by
  unfold lv; dsimp only; rw [role_got]

theorem tallyAt_cell {g g' : GSem nD τ sig} {u : Unit} {n : ℕ} (h : 0 < (tallyAt g' () n : CellTallies nD τ sig Unit) g u) : g = g' := by
  rw [tallyAt_apply] at h
  by_contra hne
  rw [if_neg fun hh => hne hh.1] at h
  exact absurd h (Nat.lt_irrefl 0)

theorem due_cell {c : Dev nD} {g : GSem nD τ sig} {u : Unit} : ∀ n : ℕ, 0 < due c n g u → ∃ k, g = gotCell (peer c k) k
  | 0, h => absurd h (Nat.lt_irrefl 0)
  | n + 1, h => by
    unfold due at h
    rw [Pi.add_apply, Finsupp.add_apply] at h
    exact (Nat.add_pos_iff_pos_or_pos.mp h).elim (due_cell n) fun h => ⟨_, tallyAt_cell h⟩

theorem debt_cell {c : Dev nD} {g : GSem nD τ sig} {u : Unit} (h : 0 < debt c g u) : (∃ k, g = gotCell (peer c k) k) ∨ ∃ k, g = barCell (peer c k) := by
  unfold debt at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · exact (Nat.add_pos_iff_pos_or_pos.mp h).imp (due_cell 3) fun h => ⟨_, tallyAt_cell h⟩
    · exact .inr ⟨_, tallyAt_cell h⟩
  · exact .inr ⟨_, tallyAt_cell h⟩

/-- A device may wait on its barrier while it still owes the peers the arrivals. -/
theorem mayWait_bar (c : Dev nD) :
    (levAts L lv : sProp 𝕄) ⊢ MayWait (c : Thread nD τ) (.reg barrier1) () (due c 3) :=
  MayOwe.of_cut (L := L) (lev := lv) 1 (fun p hp => by rw [Finset.mem_singleton.mp hp]; exact mem_L ..)
    (fun g u hg => by obtain ⟨k, rfl⟩ := due_cell 3 hg; exact mem_L ..)
    (fun p hp => by rw [Finset.mem_singleton.mp hp]; exact (lv_bar c _).le)
    (fun g u hg => by obtain ⟨k, rfl⟩ := due_cell 3 hg; rw [lv_got]; decide)

/-! ## The ghost state, in its four stages -/

/-- The invariants device `c` opens: its own seven, and each peer's barrier and arrival. -/
def invs (K : GSem nD τ sig → ℕ) (c : Dev nD) : sProp 𝕄 :=
  iprop(cellInv EX (plan m) (K (barCell c)) (barCell c) ∗ three (fun k => cellInv EX (plan m) (K (sentCell c k)) (sentCell c k))
    ∗ three (fun k => cellInv EX (plan m) (K (gotCell c k)) (gotCell c k))
    ∗ three (fun k => cellInv EX (plan m) (K (barCell (peer c k))) (barCell (peer c k)))
    ∗ three (fun k => cellInv EX (plan m) (K (gotCell (peer c k) k)) (gotCell (peer c k) k)))

instance invs_persistent (K : GSem nD τ sig → ℕ) (c : Dev nD) : BI.Persistent (invs m K c) := by unfold invs; infer_instance

/-- The duties a device pays. -/
abbrev payable (c : Dev nD) : sProp 𝕄 :=
  iprop(three (fun k => dutyTok EX (barCell (peer c k)) 0 k) ∗ three (fun k => dutyTok EX (sentCell c k) 0 0)
    ∗ three (fun k => dutyTok EX (gotCell (peer c k) k) 0 0))

/-- From launch to the call: its place on its barrier, the rights to open the semaphores of the call, the duties it will pay. -/
def ghost (K : GSem nD τ sig → ℕ) (c : Dev nD) : sProp 𝕄 :=
  iprop(invs m K c
    ∗ atPos EX (barCell c) 0 ∅ 0 ∗ three (fun k => openTok EX (sentCell c k)) ∗ three (fun k => openTok EX (gotCell c k))
    ∗ three (fun k => reached EX (barCell (peer c k)) 0) ∗ payable c)

/-- The same once the call has opened its semaphores. -/
def opened (K : GSem nD τ sig → ℕ) (c : Dev nD) : sProp 𝕄 :=
  iprop(invs m K c
    ∗ atPos EX (barCell c) 0 ∅ 0 ∗ three (fun k => atPos EX (sentCell c k) 0 ∅ 0) ∗ three (fun k => atPos EX (gotCell c k) 0 ∅ 0)
    ∗ three (fun k => reached EX (barCell (peer c k)) 0) ∗ three (fun k => reached EX (sentCell c k) 0) ∗ three (fun k => reached EX (gotCell c k) 0)
    ∗ payable c)

/-- Before the first point: everything the exchange needs, the pieces and the slots. -/
def before (c : Dev nD) : sProp 𝕄 :=
  iprop((∃ K, opened m K c) ∗ cred (tallyAt (barCell c) () 3) ∗ three (fun k => cred (tallyAt (gotCell c k) () credit)) ∗ levAts L lv
    ∗ three (fun k => pieceRows c k (tables m c)) ∗ three (fun k => slotRows c k (landing m c)))

/-- Between the points: the barrier done with, the copies in flight, the pieces and the slots away. -/
def during (c : Dev nD) : sProp 𝕄 :=
  iprop((∃ K, invs m K c) ∗ semVal (barCell c) 0 ∗ three (fun k => atPos EX (sentCell c k) 0 ∅ 0) ∗ three (fun k => atPos EX (gotCell c k) 0 ∅ 0)
    ∗ three (fun k => cred (tallyAt (sentCell c k) () credit)) ∗ three (fun k => cred (tallyAt (gotCell c k) () credit)))

/-- After the last point: the seven counters at zero, the pieces back, the slots filled. -/
def after (c : Dev nD) : sProp 𝕄 :=
  iprop(semVal (barCell c) 0 ∗ (three (fun k => semVal (sentCell c k) 0) ∗ three (fun k => semVal (gotCell c k) 0))
    ∗ three (fun k => pieceRows c k (tables m c)) ∗ three (fun k => slotRows c k (landed m c k)))

theorem close (κ : ℕ) (g : GSem nD τ sig) :
    iprop(cellInv EX (plan m) κ g ∗ atPos EX g (0 + 1) ∅ 0) ⊢ (|={Set.univ}=> semVal g 0 : sProp 𝕄) :=
  Rounds.cell_close EX (plan m) (Set.mem_univ κ) id (duties_later m g)

end Cert.Sq

end
-- ==== Proof.SqExchange.lean ====
/- The moves of the exchange (a peer greeted, a piece sent, the wait for a copy to have left or arrived) and what the grid points
   compute: the first block of tokens begins a sum, the second adds to it and writes it out. -/
module

public import proofs.«01_k».proof.Proof.SqProtocol
public import Idealize.ShloMosaic.Lib.KernelVsHost

@[expose] public section

set_option maxRecDepth 16384

noncomputable section

namespace Cert.Sq

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel8Ideal Cert.Kernel8Ideal.Gen

variable {F : FTy → Type} [FloatOps F]

local notation "𝕄" => MT nD τ sig Unit (Elt F) ℕ UU ℕ

variable (m : (ℓ : Loc nD τ sig) → Buf (Elt F) ℓ)

theorem greet_pay (c : Dev nD) (k : Fin 3) :
    iprop(slotRows c k (landing m c) ∗ reached EX (gotCell c k) 0) ⊢ pay m (peer c k) (role (.reg barrier1)) k := by
  rw [role_bar]; show _ ⊢ barPay m (peer c k) k; unfold barPay; rw [peer_peer]

/-- The signal on a peer's barrier: that peer gets this device's slot for it, and that its arrival is being counted here. -/
theorem greet (c d : Dev nD) (k : Fin 3) (e : d = peer c k) (O₀ O : CellTallies nD τ sig Unit) (hO : O₀ = O + greeting c k)
    (κ : GSem nD τ sig → ℕ) (W : Waits sig Unit) (r : PUnit → Prog (TpuEff nD τ sig (Elt F) Λ₀ .tc) PUnit) (K : PUnit → sProp 𝕄) :
    iprop(cellInv EX (plan m) (κ (barCell (peer c k))) (barCell (peer c k)) ∗ owes (c : Thread nD τ) O₀ W ∗ dutyTok EX (barCell (peer c k)) 0 k
        ∗ slotRows c k (landing m c) ∗ reached EX (gotCell c k) 0 ∗ reached EX (barCell (peer c k)) 0)
      ⊢ iprop((owes (c : Thread nD τ) O W -∗ wp frame (wpE (defs₀ (F := F)) Variants.none c none) Set.univ (r ⟨⟩) K)
        -∗ wp frame (wpE (defs₀ (F := F)) Variants.none c none) Set.univ (.op (.semSignal (d, .tc) barrier1 1) r) K) := by
  subst e
  iintro ⟨#HI, HO, Ht, Hs, #Hg, #Hr⟩ Hk
  iapply (Rounds.wp_signal Variants.none EX (plan m) (c : Thread nD τ) none (dst := (peer c k : Thread nD τ)) (sem := barrier1) (r := 0) (d := k) (κ := κ (barCell (peer c k)))
      (by rw [duties_bar]; exact Finset.mem_univ _) (amount_bar m (peer c k) k) () O hO) $$ [HO Ht Hs]
  · iframe HI HO Ht
    isplitl [Hs]
    · rw [payload_at]; iapply (greet_pay m c k)
      iframe Hs Hg
    · iexact Hr
  iexact Hk

/-- What sending piece `k` takes. -/
def ready (κ : GSem nD τ sig → ℕ) (c : Dev nD) (k : Fin 3) : sProp 𝕄 :=
  iprop(cellInv EX (plan m) (κ (sentCell c k)) (sentCell c k) ∗ cellInv EX (plan m) (κ (gotCell (peer c k) k)) (gotCell (peer c k) k)
    ∗ pieceRows c k (tables m c) ∗ slotRows (peer c k) k (landing m (peer c k))
    ∗ dutyTok EX (sentCell c k) 0 0 ∗ reached EX (sentCell c k) 0
    ∗ dutyTok EX (gotCell (peer c k) k) 0 0 ∗ reached EX (gotCell (peer c k) k) 0)

theorem landed_peer (c : Dev nD) (k : Fin 3) : landed m (peer c k) k
    = (slot k).view.write (Elt F) (landing m (peer c k)) ((piece c k).view.read (Elt F) (tables m c)) Finset.univ := by
  unfold landed; rw [peer_peer]

/-- The copy of a piece to a peer: it gives that peer its arrival and, once gone, its own device the piece back. -/
theorem send_piece (c d : Dev nD) (k : Fin 3) (e : d = peer c k) (n : ℕ) (hk : k = ⟨2 - n, by omega⟩) (s g : DmaSem sig)
    (hs : s = sentSem k) (hg : g = gotSem k) (off off' : Fin 3 → Nat) (h h') (ho : off = pieceOff c k) (ho' : off' = slotOff k)
    (hw hw' hq) (κ : GSem nD τ sig → ℕ) (W : Waits sig Unit)
    (r : PUnit → Prog (TpuEff nD τ sig (Elt F) Λ₀ .tc) PUnit) (K : PUnit → sProp 𝕄) :
    iprop(ready m κ c k ∗ owes (c : Thread nD τ) (due c (n + 1)) W)
      ⊢ iprop((iprop(cred (tallyAt (sentCell c k) () credit) ∗ owes (c : Thread nD τ) (due c n) W)
          -∗ wp frame (wpE (defs₀ (F := F)) Variants.none c none) Set.univ (r ⟨⟩) K)
        -∗ wp frame (wpE (defs₀ (F := F)) Variants.none c none) Set.univ
          (.op (.enqueueDma (pieceAt off h) (.remote (Dev.tc d) (slotAt off' h') (.dma s)) (.dma g) hw hw' hq) r) K) := by
  subst e; subst hs; subst hg; subst ho; subst ho'
  unfold ready
  iintro ⟨⟨#HIsent, #HIgotM, Hown, Hslot, HtS, #HrS, HtG, #HrGM⟩, HO⟩ Hk
  iapply (Rounds.wp_send_pointsTo Variants.none EX (plan m) (c : Thread nD τ) none (c' := (peer c k : Thread nD τ)) (src := piece c k) (dst := slot k)
      (sS := .dma (sentSem k)) (sem := .dma (gotSem k)) (q := fullShare) (fs := tables m c) (κ₁ := κ (sentCell c k)) (κ₂ := κ (gotCell (peer c k) k))
      (r₁ := 0) (r₂ := 0) (d₁ := 0) (d₂ := 0) (fd := landing m (peer c k))
      (by rw [duties_dma m c _ (single_sent k)]; exact Finset.mem_singleton_self _)
      (by rw [duties_dma m (peer c k) _ (single_got k)]; exact Finset.mem_singleton_self _)
      () () credit rfl (amount_dma m c _ 0) (amount_dma m (peer c k) _ 0) (due c n) (by subst hk; rfl) (W := W)
      (by rw [payload_at, role_sent]; exact BI.Entails.refl _)
      (by rw [payload_at, role_got]; show _ ⊢ slotRows (peer c k) k (landed m (peer c k) k); rw [landed_peer])) $$ [Hown Hslot HO HtS HtG]
  · iframe HIsent HIgotM Hown Hslot HO HtS HrS HtG HrGM
  iexact Hk

/-- What waiting on semaphore `s` takes. -/
def awaited (κ : GSem nD τ sig → ℕ) (c : Dev nD) (s : DmaSem sig) : sProp 𝕄 :=
  iprop(cellInv EX (plan m) (κ ((c : Thread nD τ), .dma s)) ((c : Thread nD τ), .dma s) ∗ cred (tallyAt ((c : Thread nD τ), .dma s) () credit)
    ∗ atPos EX ((c : Thread nD τ), .dma s) 0 ∅ 0)

/-- A wait for a whole piece by a semaphore: what was to be paid there comes with it, and the semaphore is done with. -/
theorem wait_piece (c : Dev nD) (s s' : DmaSem sig) (e : s' = s) (hr : single s) (src dst : Memref sig .tc .hbm S256x1408 .bf16)
    (hc : dst.view.dmaCredit = credit) (hw hw') (κ : GSem nD τ sig → ℕ) (W : Waits sig Unit)
    (r : PUnit → Prog (TpuEff nD τ sig (Elt F) Λ₀ .tc) PUnit) (K : PUnit → sProp 𝕄) :
    iprop(awaited m κ c s ∗ owes (c : Thread nD τ) (0 : CellTallies nD τ sig Unit) W)
      ⊢ iprop((iprop((∃ W, owes (c : Thread nD τ) (0 : CellTallies nD τ sig Unit) W) ∗ semVal ((c : Thread nD τ), .dma s) 0 ∗ pay m c (role (.dma s)) 0)
          -∗ wp frame (wpE (defs₀ (F := F)) Variants.none c none) Set.univ (r ⟨⟩) K)
        -∗ wp frame (wpE (defs₀ (F := F)) Variants.none c none) Set.univ (.op (.waitDma2 s' src dst hw hw') r) K) := by
  subst e
  unfold awaited
  have he := expect_dma m c s' hr
  rw [← hc] at he ⊢
  iintro ⟨⟨#HI, Hc, Hat⟩, HO⟩ Hk
  iapply (Rounds.wp_wait_rest_token Variants.none EX (plan m) (c : Thread nD τ) none (κ := κ ((c : Thread nD τ), .dma s'))
      (wpE_waitDma2_eq Variants.none (c : Thread nD τ) none Set.univ) (Set.mem_univ _) () (O := 0) (W := W) (R := 0) (m := 0) (T := ∅)
      ((Nat.zero_add _).trans he.symm)) $$ [Hc HO Hat]
  · iframe HI Hc HO
    isplitr; · rw [MayWait_zero]; iempintro
    iexact Hat
  iintro ⟨HO, Hat, -, Hpay⟩
  imod (close m (κ ((c : Thread nD τ), .dma s')) ((c : Thread nD τ), .dma s')) $$ [Hat] with H0
  · iframe HI Hat
  iapply Hk
  isplitl [HO]; · iexists _; iexact HO
  iframe H0
  iapply (Entails.of_eq (rest_dma m c _ hr)); iexact Hpay

/-! ## What a point computes -/

theorem origin2 : (![0, 0] : Fin 2 → Nat) = fun _ => 0 := funext fun a => by fin_cases a <;> rfl
theorem origin3 : (![0, 0, 0] : Fin 3 → Nat) = fun _ => 0 := funext fun a => by fin_cases a <;> rfl

/-- What a store over a whole block leaves is what was stored. -/
theorem store_left {S : Shape} {e : EltTy} {a : Memref sig .tc .vmem S e} {off : Fin S.rank → Nat} (ho : off = fun _ => 0)
    (inb : ∀ a, off a + S.size a ≤ S.size a) (f : a.view.ty.Contents (Elt F)) (v : Vec F S e) :
    a.view.read (Elt F) (View.write (Elt F) (a.access (Rect.unit off S.size inb)) f v Finset.univ) = v := by
  show a.view.read (Elt F) (a.view.writes (Elt F) f [⟨Rect.unit off S.size inb, v⟩]) = v
  rw [View.read_writes_eq_canon _ _ _ fun y => ⟨_, List.mem_singleton_self _, View.mem_set_unit_zero ho inb y⟩, View.canon_unit_zero ho]

section Point

variable (c : Dev nD) (i : grid0.Coords)
    (a2 : Memref sig .tc .vmem S1x2048x1024 .bf16) (h2 : a2.IsWhole) (a3 : Memref sig .tc .vmem S1x2048x1024 .bf16) (h3 : a3.IsWhole)
    (a6 : Memref sig .tc .vmem S1x1024x1024 .bf16) (h6 : a6.IsWhole) (a8 : Memref sig .tc .vmem S1024x1024 .f32) (h8 : a8.IsWhole)
    (x0 x1 : Vec F S1x2048x1024 .bf16) (xs : Vec F S1024x1024 .f32)

/-- The two blocks of a point. -/
abbrev blocks : sProp 𝕄 := iprop(owns (c : Thread nD τ) a2 fullShare x0 ∗ owns (c : Thread nD τ) a3 fullShare x1)

/-- The call's body at any point. -/
abbrev body : Prog (TpuEff nD τ sig (Elt F) Λ₀ .tc) PUnit :=
  cc0_wgrad_sq3 i a2 h2 a3 h3 (Memref.whole main_arg2) (Memref.isWhole_whole _) (Memref.whole main_v1_1) (Memref.isWhole_whole _) a6 h6
    (Memref.whole main_v1_1) (Memref.isWhole_whole _) a8 h8 cc0_scratch1 cc0_scratch2

/-- The loads of a point; then, for the first block of tokens, the store of their product. -/
def begin (k : PUnit → Prog (TpuEff nD τ sig (Elt F) Λ₀ .tc) PUnit) : Prog (TpuEff nD τ sig (Elt F) Λ₀ .tc) PUnit :=
  .op (.load a2 (Rect.unit (s := S1x2048x1024) ![0, 0, 0] S1x2048x1024.size inb_S1x2048x1024_S1x2048x1024_0_0_0).toLoadRect (View.loadsAt_vmem h_S1x2048x1024)) fun (v8 : Vec F S1x2048x1024 .bf16) =>
  .op (.load a3 (Rect.unit (s := S1x2048x1024) ![0, 0, 0] S1x2048x1024.size inb_S1x2048x1024_S1x2048x1024_0_0_0).toLoadRect (View.loadsAt_vmem h_S1x2048x1024)) fun (v10 : Vec F S1x2048x1024 .bf16) =>
  .op (.load a8 (Rect.unit (s := S1024x1024) ![0, 0] S1024x1024.size inb_S1024x1024_S1024x1024_0_0).toLoadRect (View.loadsAt_vmem h_S1024x1024)) fun (_ : Vec F S1024x1024 .f32) =>
  .op (.store a8 (Rect.unit (s := S1024x1024) ![0, 0] S1024x1024.size inb_S1024x1024_S1024x1024_0_0) (k0_pay2 v8 v10) Finset.univ
    (View.stores_vmem_bits_univ h_S1024x1024 rfl) (.inl rfl)) k

/-- For the second block of tokens: the sum, stored; and the sum read back and written out. -/
def finish (k : PUnit → Prog (TpuEff nD τ sig (Elt F) Λ₀ .tc) PUnit) : Prog (TpuEff nD τ sig (Elt F) Λ₀ .tc) PUnit :=
  .op (.load a2 (Rect.unit (s := S1x2048x1024) ![0, 0, 0] S1x2048x1024.size inb_S1x2048x1024_S1x2048x1024_0_0_0).toLoadRect (View.loadsAt_vmem h_S1x2048x1024)) fun (v8 : Vec F S1x2048x1024 .bf16) =>
  .op (.load a3 (Rect.unit (s := S1x2048x1024) ![0, 0, 0] S1x2048x1024.size inb_S1x2048x1024_S1x2048x1024_0_0_0).toLoadRect (View.loadsAt_vmem h_S1x2048x1024)) fun (v10 : Vec F S1x2048x1024 .bf16) =>
  .op (.load a8 (Rect.unit (s := S1024x1024) ![0, 0] S1024x1024.size inb_S1024x1024_S1024x1024_0_0).toLoadRect (View.loadsAt_vmem h_S1024x1024)) fun (v24 : Vec F S1024x1024 .f32) =>
  .op (.load a8 (Rect.unit (s := S1024x1024) ![0, 0] S1024x1024.size inb_S1024x1024_S1024x1024_0_0).toLoadRect (View.loadsAt_vmem h_S1024x1024)) fun (_ : Vec F S1024x1024 .f32) =>
  .op (.store a8 (Rect.unit (s := S1024x1024) ![0, 0] S1024x1024.size inb_S1024x1024_S1024x1024_0_0) (k0_pay3 v8 v10 v24) Finset.univ
    (View.stores_vmem_bits_univ h_S1024x1024 rfl) (.inl rfl)) fun _ =>
  .op (.load a8 (Rect.unit (s := S1024x1024) ![0, 0] S1024x1024.size inb_S1024x1024_S1024x1024_0_0).toLoadRect (View.loadsAt_vmem h_S1024x1024)) fun (v24 : Vec F S1024x1024 .f32) =>
  .op (.load a6 (Rect.unit (s := S1x1024x1024) ![0, 0, 0] S1x1024x1024.size inb_S1x1024x1024_S1x1024x1024_0_0_0).toLoadRect (View.loadsAt_vmem h_S1x1024x1024)) fun (_ : Vec F S1x1024x1024 .bf16) =>
  .op (.store a6 (Rect.unit (s := S1x1024x1024) ![0, 0, 0] S1x1024x1024.size inb_S1x1024x1024_S1x1024x1024_0_0_0) (k0_pay4 v24) Finset.univ
    (View.stores_vmem h_S1x1024x1024 (h6.storeExact_slice rfl _ packedbf16_S1x1024x1024_S1x1024x1024_0_0_0) (fun _ => rfl)) (.inl rfl)) k

include h2 h3 in
set_option maxHeartbeats 1000000 in
theorem begin_run (k : PUnit → Prog (TpuEff nD τ sig (Elt F) Λ₀ .tc) PUnit) (K : PUnit → sProp 𝕄) :
    iprop((blocks c a2 a3 x0 x1 ∗ ∃ d, owns (c : Thread nD τ) a8 fullShare d)
        ∗ (iprop(blocks c a2 a3 x0 x1 ∗ owns (c : Thread nD τ) a8 fullShare (k0_pay2 x0 x1)) -∗ wp frame (wpE (defs₀ (F := F)) Variants.none c none) Set.univ (k ⟨⟩) K))
      ⊢ wp frame (wpE (defs₀ (F := F)) Variants.none c none) Set.univ (begin a2 a3 a8 k) K := by
  unfold begin blocks owns
  iintro ⟨⟨⟨⟨%f0, %hf0, H0⟩, ⟨%f1, %hf1, H1⟩⟩, ⟨%d2, %f2, -, H8⟩⟩, Hk⟩
  obtain rfl := h2.eq_unread hf0; obtain rfl := h3.eq_unread hf1
  sl_step
  sl_step
  sl_step
  sl_step
  iapply Hk
  isplitl [H0 H1]
  · isplitl [H0]
    · iexists _; isplitr; · ipureintro; exact h2.read_unread _
      iexact H0
    · iexists _; isplitr; · ipureintro; exact h3.read_unread _
      iexact H1
  iexists _; isplitr
  swap; · iexact H8
  ipureintro
  refine (store_left origin2 _ _ _).trans ?_
  simp only [View.readAt_eq_ld, h2.read_unread, h3.read_unread, View.ld_unit_zero (S := S1x2048x1024) origin3]

include h2 h3 h8 in
set_option maxHeartbeats 1600000 in
theorem finish_run (k : PUnit → Prog (TpuEff nD τ sig (Elt F) Λ₀ .tc) PUnit) (K : PUnit → sProp 𝕄) :
    iprop((blocks c a2 a3 x0 x1 ∗ owns (c : Thread nD τ) a8 fullShare xs ∗ ∃ d, owns (c : Thread nD τ) a6 fullShare d)
        ∗ (iprop(blocks c a2 a3 x0 x1 ∗ (∃ d, owns (c : Thread nD τ) a8 fullShare d) ∗ owns (c : Thread nD τ) a6 fullShare (k0_pay4 (k0_pay3 x0 x1 xs)))
          -∗ wp frame (wpE (defs₀ (F := F)) Variants.none c none) Set.univ (k ⟨⟩) K))
      ⊢ wp frame (wpE (defs₀ (F := F)) Variants.none c none) Set.univ (finish a2 a3 a6 h6 a8 k) K := by
  unfold finish blocks owns
  iintro ⟨⟨⟨⟨%f0, %hf0, H0⟩, ⟨%f1, %hf1, H1⟩⟩, ⟨%f8, %hf8, H8⟩, ⟨%d2, %f2, -, H6⟩⟩, Hk⟩
  obtain rfl := h2.eq_unread hf0; obtain rfl := h3.eq_unread hf1; obtain rfl := h8.eq_unread hf8
  sl_step
  sl_step
  sl_step
  sl_step
  sl_step
  sl_step
  sl_step
  sl_step
  iapply Hk
  isplitl [H0 H1]
  · isplitl [H0]
    · iexists _; isplitr; · ipureintro; exact h2.read_unread _
      iexact H0
    · iexists _; isplitr; · ipureintro; exact h3.read_unread _
      iexact H1
  isplitl [H8]
  · iexists _; iexists _; isplitr
    swap; · iexact H8
    ipureintro; rfl
  iexists _; isplitr
  swap; · iexact H6
  ipureintro
  refine (store_left origin3 _ _ _).trans ?_
  simp only [View.readAt_eq_ld, h2.read_unread, h3.read_unread, h8.read_unread, View.ld_unit_zero (S := S1x2048x1024) origin3,
    View.ld_unit_zero (S := S1024x1024) origin2]
  exact congrArg k0_pay4 (store_left origin2 _ _ _)

end Point

end Cert.Sq

end
-- ==== Proof.SqPoint.lean ====
/- The four kinds of grid points of the mixer's square weight gradients: a point begins a sum or finishes one; the first also greets the three
   peers and sends them their halves; the last also takes what the peers sent. -/
module

public import proofs.«01_k».proof.Proof.SqExchange

@[expose] public section

set_option maxRecDepth 16384

noncomputable section

namespace Cert.Sq

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel8Ideal Cert.Kernel8Ideal.Gen

variable {F : FTy → Type} [FloatOps F]

local notation "𝕄" => MT nD τ sig Unit (Elt F) ℕ UU ℕ

variable (m : (ℓ : Loc nD τ sig) → Buf (Elt F) ℓ) (c : Dev nD) (i : grid0.Coords)
    (a2 : Memref sig .tc .vmem S1x2048x1024 .bf16) (h2 : a2.IsWhole) (a3 : Memref sig .tc .vmem S1x2048x1024 .bf16) (h3 : a3.IsWhole)
    (a6 : Memref sig .tc .vmem S1x1024x1024 .bf16) (h6 : a6.IsWhole) (a8 : Memref sig .tc .vmem S1024x1024 .f32) (h8 : a8.IsWhole)
    (x0 x1 : Vec F S1x2048x1024 .bf16) (xs : Vec F S1024x1024 .f32)

/-! ## Which points do what -/

theorem sends_iff : ∀ t : Fin grid0.N, k0_cond1 (grid0.coords t) = 1#1 ↔ t.val = 0 := by decide +kernel
theorem takes_iff : ∀ t : Fin grid0.N, k0_cond5 (grid0.coords t) = 1#1 ↔ t.val = 5 := by decide +kernel
theorem writes_iff : ∀ t : Fin grid0.N, k0_cond4 (grid0.coords t) = 1#1 ↔ t.val % 2 = 1 := by decide +kernel

/-- The first block of tokens; a later one; as the body asks. -/
def isFirst : Prop := Scalar.cmpi .ne (Scalar.extui (Scalar.cmpi .eq (BitVec.ofNat 32 (i 1).val) 0#32)) 0#32 = 1#1
def isLater : Prop := Scalar.cmpi .ne (Scalar.extui (Scalar.cmpi .sgt (BitVec.ofNat 32 (i 1).val) 0#32)) 0#32 = 1#1
theorem isFirst_iff : ∀ t : Fin grid0.N, isFirst (grid0.coords t) ↔ t.val % 2 = 0 := by unfold isFirst; decide +kernel
theorem isLater_iff : ∀ t : Fin grid0.N, isLater (grid0.coords t) ↔ t.val % 2 = 1 := by unfold isLater; decide +kernel

/-- What a point that begins a sum takes and leaves; what one that finishes it takes and leaves. -/
abbrev beginIn : sProp 𝕄 := iprop(blocks c a2 a3 x0 x1 ∗ ∃ d, owns (c : Thread nD τ) a8 fullShare d)
abbrev beginOut : sProp 𝕄 := iprop(blocks c a2 a3 x0 x1 ∗ owns (c : Thread nD τ) a8 fullShare (k0_pay2 x0 x1))
abbrev finishIn : sProp 𝕄 := iprop(blocks c a2 a3 x0 x1 ∗ owns (c : Thread nD τ) a8 fullShare xs ∗ ∃ d, owns (c : Thread nD τ) a6 fullShare d)
abbrev finishOut : sProp 𝕄 :=
  iprop(blocks c a2 a3 x0 x1 ∗ (∃ d, owns (c : Thread nD τ) a8 fullShare d) ∗ owns (c : Thread nD τ) a6 fullShare (k0_pay4 (k0_pay3 x0 x1 xs)))

/-- A point that begins a sum and exchanges nothing. -/
theorem even_run (hs : k0_cond1 i ≠ 1#1) (ht : k0_cond5 i ≠ 1#1) (hf : isFirst i) (hl : ¬ isLater i) (hw : k0_cond4 i ≠ 1#1) (K : PUnit → sProp 𝕄) :
    iprop(beginIn c a2 a3 a8 x0 x1 ∗ (beginOut c a2 a3 a8 x0 x1 -∗ K ⟨⟩))
      ⊢ wp frame (wpE (defs₀ (F := F)) Variants.none c none) Set.univ (body (F := F) i a2 h2 a3 h3 a6 h6 a8 h8) K := by
  unfold body
  simp only [cc0_wgrad_sq3_eq_skeleton]; unfold cc0_wgrad_sq3_skel
  unfold isFirst at hf; unfold isLater at hl
  simp only [dif_neg hs, dif_neg ht, dif_pos hf, dif_neg hl, dif_neg hw, Prog.lift, Prog.bind_op, Prog.bind_ret, Prog.pure_eq_ret]
  refine BIBase.Entails.trans ?_ (begin_run c a2 h2 a3 h3 a8 x0 x1 (fun _ => .ret ⟨⟩) K)
  rw [wp_ret]
  iintro ⟨Hin, Hk⟩
  iframe Hin
  iintro Hout
  imodintro
  iapply Hk; iexact Hout

/-- A point that finishes a sum and exchanges nothing. -/
theorem odd_run (hs : k0_cond1 i ≠ 1#1) (ht : k0_cond5 i ≠ 1#1) (hf : ¬ isFirst i) (hl : isLater i) (hw : k0_cond4 i = 1#1) (K : PUnit → sProp 𝕄) :
    iprop(finishIn c a2 a3 a6 a8 x0 x1 xs ∗ (finishOut c a2 a3 a6 a8 x0 x1 xs -∗ K ⟨⟩))
      ⊢ wp frame (wpE (defs₀ (F := F)) Variants.none c none) Set.univ (body (F := F) i a2 h2 a3 h3 a6 h6 a8 h8) K := by
  unfold body
  simp only [cc0_wgrad_sq3_eq_skeleton]; unfold cc0_wgrad_sq3_skel
  unfold isFirst at hf; unfold isLater at hl
  simp only [dif_neg hs, dif_neg ht, dif_neg hf, dif_pos hl, dif_pos hw, Prog.lift, Prog.bind_op, Prog.bind_ret, Prog.pure_eq_ret]
  refine BIBase.Entails.trans ?_ (finish_run c a2 h2 a3 h3 a6 h6 a8 h8 x0 x1 xs (fun _ => .ret ⟨⟩) K)
  rw [wp_ret]
  iintro ⟨Hin, Hk⟩
  iframe Hin
  iintro Hout
  imodintro
  iapply Hk; iexact Hout

/-- What a device holds when its first point begins, with what it owes, -/
abbrev sendPre (W : Waits sig Unit) : sProp 𝕄 := iprop(before m c ∗ owes (c : Thread nD τ) (debt c) W)
/-- and once its pieces are on their way. -/
abbrev sendPost : sProp 𝕄 := iprop(during m c ∗ ∃ W, owes (c : Thread nD τ) (0 : CellTallies nD τ sig Unit) W)

set_option maxHeartbeats 4000000 in
/-- The first point: greet the three peers, wait for their greetings, send the pieces, begin the first sum. -/
theorem first_run (hs : k0_cond1 i = 1#1) (ht : k0_cond5 i ≠ 1#1) (hf : isFirst i) (hl : ¬ isLater i) (hw : k0_cond4 i ≠ 1#1) (W : Waits sig Unit) (K : PUnit → sProp 𝕄) :
    iprop(sendPre m c W ∗ beginIn c a2 a3 a8 x0 x1 ∗ (iprop(sendPost m c ∗ beginOut c a2 a3 a8 x0 x1) -∗ K ⟨⟩))
      ⊢ wp frame (wpE (defs₀ (F := F)) Variants.none c none) Set.univ (body (F := F) i a2 h2 a3 h3 a6 h6 a8 h8) K := by
  unfold body
  simp only [cc0_wgrad_sq3_eq_skeleton]; unfold cc0_wgrad_sq3_skel
  unfold isFirst at hf; unfold isLater at hl
  rw [dif_pos hs]
  simp only [k0_part1_eq_skeleton, k0_part2_eq_skeleton, k0_part3_eq_skeleton]; unfold k0_part1_skel k0_part2_skel k0_part3_skel
  simp only [dif_neg ht, dif_pos hf, dif_neg hl, dif_neg hw, Prog.lift, semSignalWord, semWaitWord, Prog.bind_op, Prog.bind_ret, Prog.pure_eq_ret, wp_deviceId]
  unfold sendPre sendPost before opened invs
  iintro ⟨⟨⟨⟨%κ, ⟨#HIbar, ⟨#HS0, #HS1, #HS2⟩, #HG, ⟨#HB0, #HB1, #HB2⟩, ⟨#HM0, #HM1, #HM2⟩⟩, HatB, HatS, HatG, ⟨#HrB0, #HrB1, #HrB2⟩,
    ⟨#HrS0, #HrS1, #HrS2⟩, ⟨#HrG0, #HrG1, #HrG2⟩, ⟨⟨HtB0, HtB1, HtB2⟩, ⟨HtS0, HtS1, HtS2⟩, ⟨HtG0, HtG1, HtG2⟩⟩⟩, HcB, HcG, #Hlev,
    ⟨Hp0, Hp1, Hp2⟩, ⟨Hs0, Hs1, Hs2⟩⟩, HO⟩, Hin, Hk⟩
  -- the three greetings: each peer gets its slot here
  iapply (greet m c _ 1 (Fin.ext (k0_dev1_eq c)) (debt c) (due c 3 + greeting c 2 + greeting c 0) rfl κ W) $$ [HO HtB1 Hs1]
  · iframe HB1 HO HtB1 Hs1 HrG1 HrB1
  iintro HO
  iapply (greet m c _ 0 (Fin.ext (k0_dev2_eq c)) _ (due c 3 + greeting c 2) rfl κ W) $$ [HO HtB0 Hs0]
  · iframe HB0 HO HtB0 Hs0 HrG0 HrB0
  iintro HO
  iapply (greet m c _ 2 (Fin.ext (k0_dev3_eq c)) _ (due c 3) rfl κ W) $$ [HO HtB2 Hs2]
  · iframe HB2 HO HtB2 Hs2 HrG2 HrB2
  iintro HO
  -- the wait on the barrier: the three peers' slots come with the three units
  iapply (Rounds.wp_wait_rest_token Variants.none EX (plan m) (c : Thread nD τ) none (κ := κ (barCell c))
      (wpE_semWait_eq Variants.none (c : Thread nD τ) none Set.univ) (Set.mem_univ _) () (O := due c 3) (W := W) (R := 0) (m := 0) (T := ∅)
      ((Nat.zero_add 3).trans (expect_bar m c).symm)) $$ [HcB HO HatB]
  · iframe HIbar HcB HO
    isplitr; · iapply (mayWait_bar c); iexact Hlev
    iexact HatB
  iintro ⟨HO, HatB, -, Hpay⟩
  ihave Hp := (Entails.of_eq (rest_bar m c)) $$ Hpay
  unfold barPay
  icases Hp with ⟨⟨Hs0, #HrM0⟩, ⟨Hs1, #HrM1⟩, ⟨Hs2, #HrM2⟩⟩
  -- the three copies
  iapply (send_piece m c _ 0 (Fin.ext (k0_dev4_eq c)) 2 rfl _ _ rfl rfl _ _ _ _ (k0_off2_eq c) rfl _ _ _ κ (insert (SemLoc.reg barrier1, ()) W)) $$ [HO Hp0 Hs0 HtS0 HtG0]
  · isplitr [HO]
    · unfold ready
      iframe HS0 HM0 Hp0 Hs0 HtS0 HrS0 HtG0 HrM0
    iexact HO
  iintro ⟨HcS0, HO⟩
  iapply (send_piece m c _ 1 (Fin.ext (k0_dev5_eq c)) 1 rfl _ _ rfl rfl _ _ _ _ (k0_off4_eq c) rfl _ _ _ κ (insert (SemLoc.reg barrier1, ()) W)) $$ [HO Hp1 Hs1 HtS1 HtG1]
  · isplitr [HO]
    · unfold ready
      iframe HS1 HM1 Hp1 Hs1 HtS1 HrS1 HtG1 HrM1
    iexact HO
  iintro ⟨HcS1, HO⟩
  iapply (send_piece m c _ 2 (Fin.ext (k0_dev6_eq c)) 0 rfl _ _ rfl rfl _ _ _ _ (k0_off6_eq c) rfl _ _ _ κ (insert (SemLoc.reg barrier1, ()) W)) $$ [HO Hp2 Hs2 HtS2 HtG2]
  · isplitr [HO]
    · unfold ready
      iframe HS2 HM2 Hp2 Hs2 HtS2 HrS2 HtG2 HrM2
    iexact HO
  iintro ⟨HcS2, HO⟩
  imod (close m (κ (barCell c)) (barCell c)) $$ [HatB] with Hb0
  · iframe HIbar HatB
  iapply (begin_run c a2 h2 a3 h3 a8 x0 x1 (fun _ => .ret ⟨⟩) K)
  iframe Hin
  iintro Hout
  rw [wp_ret]
  imodintro
  iapply Hk
  isplitr [Hout]
  · isplitr [HO]
    · unfold during
      isplitr
      · iexists κ; unfold invs
        iframe HIbar
        isplitr
        · iframe HS0 HS1 HS2
        iframe HG
        isplitr
        · iframe HB0 HB1 HB2
        iframe HM0 HM1 HM2
      iframe Hb0 HatS HatG
      isplitr [HcG]
      · isplitl [HcS0]; · iexact HcS0
        isplitl [HcS1] <;> iassumption
      iexact HcG
    iexists _; iexact HO
  iexact Hout

/-- What is paid on the semaphore of a departure, and of an arrival. -/
theorem pay_sent (k : Fin 3) : pay m c (role (.dma (sentSem k))) 0 ⊢ pieceRows c k (tables m c) := by rw [role_sent]; exact Entails.refl _
theorem pay_got (k : Fin 3) : pay m c (role (.dma (gotSem k))) 0 ⊢ slotRows c k (landed m c k) := by rw [role_got]; exact Entails.refl _

set_option maxHeartbeats 4000000 in
/-- The last point: finish the last sum, wait for every piece sent and for every piece due, and the six semaphores are done with. -/
theorem last_run (hs : k0_cond1 i ≠ 1#1) (ht : k0_cond5 i = 1#1) (hf : ¬ isFirst i) (hl : isLater i) (hw : k0_cond4 i = 1#1) (W : Waits sig Unit) (K : PUnit → sProp 𝕄) :
    iprop(iprop(during m c ∗ owes (c : Thread nD τ) (0 : CellTallies nD τ sig Unit) W) ∗ finishIn c a2 a3 a6 a8 x0 x1 xs
        ∗ (iprop(iprop(after m c ∗ ∃ W, owes (c : Thread nD τ) (0 : CellTallies nD τ sig Unit) W) ∗ finishOut c a2 a3 a6 a8 x0 x1 xs) -∗ K ⟨⟩))
      ⊢ wp frame (wpE (defs₀ (F := F)) Variants.none c none) Set.univ (body (F := F) i a2 h2 a3 h3 a6 h6 a8 h8) K := by
  unfold body
  simp only [cc0_wgrad_sq3_eq_skeleton]; unfold cc0_wgrad_sq3_skel
  unfold isFirst at hf; unfold isLater at hl
  rw [dif_neg hs, dif_pos ht]
  simp only [k0_part4_eq_skeleton, k0_part5_eq_skeleton, k0_part6_eq_skeleton]; unfold k0_part4_skel k0_part5_skel k0_part6_skel
  simp only [dif_neg hf, dif_pos hl, dif_pos hw, Prog.lift, Prog.bind_op, Prog.bind_ret, Prog.pure_eq_ret]
  iintro ⟨⟨Hd, HO⟩, Hin, Hk⟩
  iapply (finish_run c a2 h2 a3 h3 a6 h6 a8 h8 x0 x1 xs _ K)
  iframe Hin
  iintro Hout
  rw [wp_deviceId]
  unfold during invs
  icases Hd with ⟨⟨%κ, ⟨#HIbar, ⟨#HS0, #HS1, #HS2⟩, ⟨#HG0, #HG1, #HG2⟩, #HB, #HM⟩⟩, Hb0, ⟨HaS0, HaS1, HaS2⟩, ⟨HaG0, HaG1, HaG2⟩,
    ⟨HcS0, HcS1, HcS2⟩, ⟨HcG0, HcG1, HcG2⟩⟩
  iapply (wait_piece m c (sentSem 0) _ rfl (single_sent 0) _ _ (credit_piece _ _) _ _ κ W) $$ [HcS0 HO HaS0]
  · isplitr [HO]
    · unfold awaited
      iframe # ∗
    iexact HO
  iintro ⟨⟨%W0, HO⟩, HvS0, HpS0⟩
  iapply (wait_piece m c (gotSem 0) _ rfl (single_got 0) _ _ (credit_slot _ _) _ _ κ W0) $$ [HcG0 HO HaG0]
  · isplitr [HO]
    · unfold awaited
      iframe # ∗
    iexact HO
  iintro ⟨⟨%W1, HO⟩, HvG0, HpG0⟩
  iapply (wait_piece m c (sentSem 1) _ rfl (single_sent 1) _ _ (credit_piece _ _) _ _ κ W1) $$ [HcS1 HO HaS1]
  · isplitr [HO]
    · unfold awaited
      iframe # ∗
    iexact HO
  iintro ⟨⟨%W2, HO⟩, HvS1, HpS1⟩
  iapply (wait_piece m c (gotSem 1) _ rfl (single_got 1) _ _ (credit_slot _ _) _ _ κ W2) $$ [HcG1 HO HaG1]
  · isplitr [HO]
    · unfold awaited
      iframe # ∗
    iexact HO
  iintro ⟨⟨%W3, HO⟩, HvG1, HpG1⟩
  iapply (wait_piece m c (sentSem 2) _ rfl (single_sent 2) _ _ (credit_piece _ _) _ _ κ W3) $$ [HcS2 HO HaS2]
  · isplitr [HO]
    · unfold awaited
      iframe # ∗
    iexact HO
  iintro ⟨⟨%W4, HO⟩, HvS2, HpS2⟩
  iapply (wait_piece m c (gotSem 2) _ rfl (single_got 2) _ _ (credit_slot _ _) _ _ κ W4) $$ [HcG2 HO HaG2]
  · isplitr [HO]
    · unfold awaited
      iframe # ∗
    iexact HO
  iintro ⟨HO, HvG2, HpG2⟩
  rw [wp_ret]
  imodintro
  iapply Hk
  isplitr [Hout]
  · isplitr [HO]
    · unfold after
      iframe Hb0
      isplitl [HvS0 HvS1 HvS2 HvG0 HvG1 HvG2]
      · isplitl [HvS0 HvS1 HvS2]
        · isplitl [HvS0]; · iexact HvS0
          isplitl [HvS1] <;> iassumption
        isplitl [HvG0]; · iexact HvG0
        isplitl [HvG1] <;> iassumption
      isplitl [HpS0 HpS1 HpS2]
      · isplitl [HpS0]; · iapply (pay_sent m c 0); iexact HpS0
        isplitl [HpS1]; · iapply (pay_sent m c 1); iexact HpS1
        iapply (pay_sent m c 2); iexact HpS2
      isplitl [HpG0]; · iapply (pay_got m c 0); iexact HpG0
      isplitl [HpG1]; · iapply (pay_got m c 1); iexact HpG1
      iapply (pay_got m c 2); iexact HpG2
    iexact HO
  iexact Hout

end Cert.Sq

end
-- ==== Proof.SqRegion.lean ====
/- The call as a whole, for the mixer's square weight gradients: what each grid point finds and leaves, and what the call makes of
   the memory it is entered with. -/
module

public import proofs.«01_k».proof.Proof.SqPoint
public import Idealize.ShloMosaic.Lib.Pipeline.FrameBody
public import Idealize.ShloMosaic.Lib.Pipeline.Frame

@[expose] public section

set_option maxRecDepth 16384

noncomputable section

namespace Cert.Sq

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel8Ideal Cert.Kernel8Ideal.Gen

variable {F : FTy → Type} [FloatOps F]

local notation "𝕄" => MT nD τ sig Unit (Elt F) ℕ UU ℕ

variable (m : (ℓ : Loc nD τ sig) → Buf (Elt F) ℓ)

/-! ## What a point finds and leaves -/

/-- Window `w`'s block at point `t`, read out of the array the call is entered with. -/
def iblk (c : Dev nD) (w : Fin cfg0.W) (t : Fin cfg0.N) : ((cfg0.win w).xblock (cfg0.grid.coords t)).Idx → Elt F (cfg0.win w).elt :=
  ((cfg0.win w).blk t).view.read (Elt F) (V₁ m c (Pipeline.arrRef spec0 w))

/-- Where the exchange stands before the first point, between points and after the last. -/
def stage (c : Dev nD) (n : ℕ) : sProp 𝕄 := if n = 0 then before m c else if n = 6 then after m c else during m c

theorem stage_start (c : Dev nD) : stage m c 0 = before m c := if_pos rfl
theorem stage_end (c : Dev nD) : stage m c 6 = after m c := (if_neg (by decide)).trans (if_pos rfl)
theorem stage_mid (c : Dev nD) (n : ℕ) (h0 : n ≠ 0) (h4 : n ≠ 6) : stage m c n = during m c := (if_neg h0).trans (if_neg h4)

abbrev pieceSet (c : Dev nD) (k : Fin 3) : Finset (Idx ((c : Thread nD τ).loc main_arg2)) := (piece c k).view.set

abbrev slotSet (c : Dev nD) (k : Fin 3) : Finset (Idx ((c : Thread nD τ).loc main_v1_1)) := (slot k).view.set

/-- What stays of the tables, and of the landing buffer. -/
def stayRows (c : Dev nD) : sProp 𝕄 :=
  iprop(((c : Thread nD τ).loc main_arg2 ↦[Finset.univ \ Finset.univ.biUnion (pieceSet c)]{fullShare} tables m c)
    ∗ ((c : Thread nD τ).loc main_v1_1 ↦[Finset.univ \ Finset.univ.biUnion (slotSet c)]{fullShare} landing m c))

/-- A point of the grid by its number. -/
def point (n : ℕ) : Fin cfg0.N := ⟨n % 6, by rw [show cfg0.N = 6 from N_0]; exact Nat.mod_lt _ (by decide)⟩
theorem point_val (t : Fin cfg0.N) : point t.val = t := Fin.ext (Nat.mod_eq_of_lt (lt_of_lt_of_eq t.isLt N_0))

/-- The sum a point begins; the sum finished at a point, begun at the point before. -/
def begun (c : Dev nD) (t : Fin cfg0.N) : Vec F S1024x1024 .f32 := k0_pay2 (iblk m c 0 t) (iblk m c 1 t)
def total (c : Dev nD) (t : Fin cfg0.N) : Vec F S1x1024x1024 .bf16 := k0_pay4 (k0_pay3 (iblk m c 0 t) (iblk m c 1 t) (begun m c (point (t.val - 1))))

/-- The scratch before point `n`: anything, or, before a point that finishes a sum, the sum begun. -/
def scratch (c : Dev nD) (n : ℕ) : sProp 𝕄 :=
  if n % 2 = 0 then iprop(∃ d, owns (c : Thread nD τ) (Memref.whole cc0_scratch0) fullShare d)
  else owns (c : Thread nD τ) (Memref.whole cc0_scratch0) fullShare (begun m c (point (n - 1)))
theorem scratch_any (c : Dev nD) (n : ℕ) (h : n % 2 = 0) :
    scratch m c n = iprop(∃ d, owns (c : Thread nD τ) (Memref.whole cc0_scratch0) fullShare d) := if_pos h
theorem scratch_begun (c : Dev nD) (n : ℕ) (h : n % 2 = 1) :
    scratch m c n = owns (c : Thread nD τ) (Memref.whole cc0_scratch0) fullShare (begun m c (point (n - 1))) := if_neg (by omega)

def dat (c : Dev nD) : Dat τ (Elt F) Unit ℕ UU ℕ cfg0 c where
  A w := V₁ m c (Pipeline.arrRef spec0 w)
  after w t := match w with
    | ⟨0, _⟩ => iblk m c 0 t
    | ⟨1, _⟩ => iblk m c 1 t
    | ⟨2, _⟩ => total m c t
  Φ t := iprop(stage m c t.val ∗ stayRows m c ∗ scratch m c t.val ∗ ∃ r, prngReg c r)
  q _ := fullShare
  owed t := if t.val = 0 then debt c else 0

theorem A_eq (c : Dev nD) (w : Fin cfg0.W) : (dat m c).A w = V₁ m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = total m c t := by dsimp only [dat]

theorem before_0 (c : Dev nD) (t : Fin cfg0.N) (d) : (dat m c).before 0 t d = iblk m c 0 t :=
  ((dat m c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dat m c).before 1 t d = iblk m c 1 t :=
  ((dat m c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)

theorem owed_start (c : Dev nD) (t : Fin (cfg0.N + 1)) (h : t.val = 0) : (dat m c).owed t = debt c := by dsimp only [dat]; exact if_pos h
theorem owed_after (c : Dev nD) (t : Fin (cfg0.N + 1)) (h : t.val ≠ 0) : (dat m c).owed t = 0 := by dsimp only [dat]; exact if_neg h

theorem owesAt_intro (c : Dev nD) (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound
  rw [h, show (dat m c).recorded t = Set.univ from rfl]
  iintro HO; iexists W; isplitr; · ipureintro; exact fun _ _ => Or.inl trivial
  iexact HO
theorem owesAt_elim (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-! ## Every point does what it should -/

def pointPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d)))
def pointPost (c : Dev nD) (t : Fin cfg0.N) : sProp 𝕄 :=
  iprop((dat m c).Φ t.succ ∗ (dat m c).owesAt () t.succ
    ∗ (dat m c).leavesExact 0 t ∗ (dat m c).leavesExact 1 t ∗ (dat m c).leavesExact 2 t)

theorem leaves_0 (c : Dev nD) (t : Fin cfg0.N) :
    (dat m c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) :
    (dat m c).leavesExact 1 t = owns (c : Thread nD τ) (st0_1 t) fullShare (iblk m c 1 t) := by
  unfold Dat.leavesExact; rw [show cfg0.idle 1 (grid0.coords t) = false from rfl, after_1]
/-- A point that begins a sum leaves the buffer of the result as it was; one that finishes a sum fills it. -/
theorem leaves_2_even (c : Dev nD) (t : Fin cfg0.N) (h : t.val % 2 = 0) :
    (dat m c).leavesExact 2 t = iprop(∃ d, owns (c : Thread nD τ) (st0_2 t) fullShare ((dat m c).before 2 t d)) :=
  Dat.leavesExact_idle (dat m c) 2 t
    (by
      show (!(k0_cond4 (grid0.coords t) == 1#1)) = true
      rw [Bool.not_eq_true', beq_eq_false_iff_ne]
      exact fun e => by have := (writes_iff t).mp e; omega)
    (Bool.eq_false_iff.mpr fun e => by have := (flush0_2 t).mp e; omega)
theorem leaves_2_odd (c : Dev nD) (t : Fin cfg0.N) (h : t.val % 2 = 1) :
    (dat m c).leavesExact 2 t = owns (c : Thread nD τ) (st0_2 t) fullShare (total m c t) := by
  unfold Dat.leavesExact
  rw [show cfg0.idle 2 (grid0.coords t) = false from by
    show (!(k0_cond4 (grid0.coords t) == 1#1)) = false
    rw [(writes_iff t).mpr h]; rfl, after_2]

/-- The resources of a point, before and after. -/
theorem phi_before (c : Dev nD) (t : Fin cfg0.N) :
    (dat m c).Φ t.castSucc = iprop(stage m c t.val ∗ stayRows m c ∗ scratch m c t.val ∗ ∃ r, prngReg c r) := rfl
theorem phi_after (c : Dev nD) (t : Fin cfg0.N) :
    (dat m c).Φ t.succ = iprop(stage m c (t.val + 1) ∗ stayRows m c ∗ scratch m c (t.val + 1) ∗ ∃ r, prngReg c r) := rfl

theorem scratch_next (c : Dev nD) (t : Fin cfg0.N) (h : t.val % 2 = 0) :
    owns (c : Thread nD τ) (Memref.whole cc0_scratch0) fullShare (k0_pay2 (iblk m c 0 t) (iblk m c 1 t)) ⊢ (scratch m c (t.val + 1) : sProp 𝕄) := by
  rw [scratch_begun m c _ (by omega), Nat.add_sub_cancel, point_val]; unfold begun; exact .rfl

theorem sound_even (c : Dev nD) (t : Fin cfg0.N) (he : t.val % 2 = 0) :
    pointPre m c t ⊢ wp frame (wpE (defs₀ (F := F)) Variants.none c none) Set.univ (bodyAt0 t) (fun _ => pointPost m c t) := by
  unfold pointPre pointPost
  rw [leaves_0, leaves_1, leaves_2_even m c t he, phi_before, phi_after, scratch_any m c t.val he]
  simp only [before_0, before_1]
  have hN : t.val < 6 := lt_of_lt_of_eq t.isLt N_0
  have hf := (isFirst_iff t).mpr he
  have hl : ¬ isLater (grid0.coords t) := fun h => by have := (isLater_iff t).mp h; omega
  have hw : k0_cond4 (grid0.coords t) ≠ 1#1 := fun h => by have := (writes_iff t).mp h; omega
  have ht : k0_cond5 (grid0.coords t) ≠ 1#1 := fun h => by have := (takes_iff t).mp h; omega
  iintro ⟨⟨Hs, Hst, Hc, Hp⟩, HO, ⟨%d0, H0⟩, ⟨%d1, H1⟩, H2⟩
  by_cases h0 : t.val = 0
  · ihave HO' := (owesAt_elim m c t.castSucc (debt c) (owed_start m c _ h0)) $$ HO
    icases HO' with ⟨%W, HO⟩
    iapply (first_run m c (grid0.coords t) _ _ _ _ _ _ _ _ (iblk m c 0 t) (iblk m c 1 t) ((sends_iff t).mpr h0) ht hf hl hw W _)
    isplitl [Hs HO]
    · unfold sendPre
      isplitl [Hs]; · iapply (Entails.of_eq ((congrArg (stage m c) h0).trans (stage_start m c))); iexact Hs
      iexact HO
    isplitl [H0 H1 Hc]
    · iframe H0 H1 Hc
    unfold sendPost
    iintro ⟨⟨Hd, ⟨%W', HO⟩⟩, ⟨H0, H1⟩, Hc⟩
    isplitl [Hd Hp Hst Hc]
    · isplitl [Hd]; · iapply (Entails.of_eq (stage_mid m c (t.val + 1) (by omega) (by omega)).symm); iexact Hd
      isplitl [Hst]; · iexact Hst
      isplitl [Hc]; · iapply (scratch_next m c t he); iexact Hc
      iexact Hp
    isplitl [HO]; · iapply (owesAt_intro m c t.succ 0 (owed_after m c _ (Nat.succ_ne_zero _)) W'); iexact HO
    iframe H0 H1 H2
  · ihave HO' := (owesAt_elim m c t.castSucc 0 (owed_after m c _ h0)) $$ HO
    icases HO' with ⟨%W, HO⟩
    iapply (even_run c (grid0.coords t) _ _ _ _ _ _ _ _ (iblk m c 0 t) (iblk m c 1 t) (fun h => h0 ((sends_iff t).mp h)) ht hf hl hw _)
    isplitl [H0 H1 Hc]
    · iframe H0 H1 Hc
    iintro ⟨⟨H0, H1⟩, Hc⟩
    isplitl [Hs Hp Hst Hc]
    · isplitl [Hs]
      · iapply (Entails.of_eq ((stage_mid m c t.val h0 (by omega)).trans (stage_mid m c (t.val + 1) (by omega) (by omega)).symm)); iexact Hs
      isplitl [Hst]; · iexact Hst
      isplitl [Hc]; · iapply (scratch_next m c t he); iexact Hc
      iexact Hp
    isplitl [HO]; · iapply (owesAt_intro m c t.succ 0 (owed_after m c _ (Nat.succ_ne_zero _)) W); iexact HO
    iframe H0 H1 H2

theorem sound_odd (c : Dev nD) (t : Fin cfg0.N) (he : t.val % 2 = 1) :
    pointPre m c t ⊢ wp frame (wpE (defs₀ (F := F)) Variants.none c none) Set.univ (bodyAt0 t) (fun _ => pointPost m c t) := by
  unfold pointPre pointPost
  rw [leaves_0, leaves_1, leaves_2_odd m c t he, phi_before, phi_after, scratch_begun m c t.val he, scratch_any m c (t.val + 1) (by omega)]
  simp only [before_0, before_1]
  have hN : t.val < 6 := lt_of_lt_of_eq t.isLt N_0
  have h0 : t.val ≠ 0 := by omega
  have hf : ¬ isFirst (grid0.coords t) := fun h => by have := (isFirst_iff t).mp h; omega
  have hl := (isLater_iff t).mpr he
  have hw := (writes_iff t).mpr he
  have hs : k0_cond1 (grid0.coords t) ≠ 1#1 := fun h => h0 ((sends_iff t).mp h)
  iintro ⟨⟨Hs, Hst, Hc, Hp⟩, HO, ⟨%d0, H0⟩, ⟨%d1, H1⟩, ⟨%d2, H2⟩⟩
  ihave HO' := (owesAt_elim m c t.castSucc 0 (owed_after m c _ h0)) $$ HO
  icases HO' with ⟨%W, HO⟩
  by_cases h3 : t.val = 5
  · iapply (last_run m c (grid0.coords t) _ _ _ _ _ _ _ _ (iblk m c 0 t) (iblk m c 1 t) (begun m c (point (t.val - 1))) hs
      ((takes_iff t).mpr h3) hf hl hw W _)
    isplitl [Hs HO]
    · isplitl [Hs]; · iapply (Entails.of_eq (stage_mid m c t.val h0 (by omega))); iexact Hs
      iexact HO
    isplitl [H0 H1 H2 Hc]
    · iframe H0 H1 Hc
      iexists _; iexact H2
    iintro ⟨⟨Ha, ⟨%W', HO⟩⟩, ⟨H0, H1⟩, Hc, H2⟩
    isplitl [Ha Hp Hst Hc]
    · isplitl [Ha]; · iapply (Entails.of_eq ((congrArg (fun n => stage m c (n + 1)) h3).trans (stage_end m c)).symm); iexact Ha
      iframe Hst Hc Hp
    isplitl [HO]; · iapply (owesAt_intro m c t.succ 0 (owed_after m c _ (Nat.succ_ne_zero _)) W'); iexact HO
    unfold total
    iframe H0 H1 H2
  · iapply (odd_run c (grid0.coords t) _ _ _ _ _ _ _ _ (iblk m c 0 t) (iblk m c 1 t) (begun m c (point (t.val - 1))) hs
      (fun h => h3 ((takes_iff t).mp h)) hf hl hw _)
    isplitl [H0 H1 H2 Hc]
    · iframe H0 H1 Hc
      iexists _; iexact H2
    iintro ⟨⟨H0, H1⟩, Hc, H2⟩
    isplitl [Hs Hp Hst Hc]
    · isplitl [Hs]
      · iapply (Entails.of_eq ((stage_mid m c t.val h0 (by omega)).trans (stage_mid m c (t.val + 1) (by omega) (by omega)).symm)); iexact Hs
      iframe Hst Hc Hp
    isplitl [HO]; · iapply (owesAt_intro m c t.succ 0 (owed_after m c _ (Nat.succ_ne_zero _)) W); iexact HO
    unfold total
    iframe H0 H1 H2

theorem sound_point (c : Dev nD) (t : Fin cfg0.N) :
    pointPre m c t ⊢ wp frame (wpE (defs₀ (F := F)) Variants.none c none) Set.univ (bodyAt0 t) (fun _ => pointPost m c t) :=
  (Nat.mod_two_eq_zero_or_one t.val).elim (sound_even m c t) (sound_odd m c t)

theorem defs₀_row (t : Fin cfg0.N) : defs₀ (F := F) .tc cfg0.body (cfg0.bodyArgs t (cfg0.slots t)) = bodyAt0 t := by
  unfold defs₀; rw [Defs.onTc_tc]

theorem sound_body (c : Dev nD) : BodyObligation (dat m c) (defs₀ (F := F)) Variants.none () Set.univ := fun t => by
  rw [bigSep_W0, bigSep_W0, defs₀_row]
  exact triple_restated (sound_point m c t) rfl .rfl fun _ => .rfl

/-! ## The memory the call leaves -/

abbrev adm : (p : Fin 1) → (pcfgs (F := F) p).Adm := fun p => (cfgs p).toPCfg_adm
def dats : (p : Fin 1) → (c : Dev nD) → Dat τ (Elt F) Unit ℕ UU ℕ (Pipeline.pin (pcfgs (F := F)) adm p) c
  | 0 => dat m

/-- Entered with a device's memory `V₁`, the call leaves the blocks written back and the landing buffer filled. -/
abbrev V₂ (c : Dev nD) : Valuation τ sig (Elt F) :=
  Function.update (Function.update (V₁ m c) (Proc.devRef .tc main_v1_1) (arrived m c))
    (Proc.devRef .tc main_v1_0) ((dat m c).arrAt 2 cfg0.N)

theorem V₂_landing (c : Dev nD) : V₂ m c main_v1_1 = arrived m c :=
  (Function.update_of_ne (by decide) ..).trans (Function.update_self ..)
theorem V₂_blocks (c : Dev nD) : V₂ m c main_v1_0 = (dat m c).arrAt 2 cfg0.N := Function.update_self ..
theorem V₂_ne (c : Dev nD) (b : Ref sig .tc) (h0 : b ≠ main_v1_0) (h1 : b ≠ main_v1_1) : V₂ m c b = V₁ m c b :=
  have inj {x : Ref sig .tc} (h : b ≠ x) : (Proc.devRef .tc b : DevRef τ sig) ≠ Proc.devRef .tc x := fun e => h (Proc.devRef_injective .tc e)
  (Function.update_of_ne (inj h0) ..).trans (Function.update_of_ne (inj h1) ..)

/-- Before the call, only the copy of the landing input has been made. -/
theorem V₁_ne (c : Dev nD) (b : Ref sig .tc) (h : b ≠ main_v1_1) : V₁ m c b = V₀ m c b := by
  show StableHlo.after [StableHlo.unary main_arg3 main_v1_1 id] (V₀ m c) (Proc.devRef .tc b) = _
  rw [StableHlo.after_cons, StableHlo.after_nil, StableHlo.unary_result_ne main_arg3 main_v1_1 id _ _ _ h]
theorem V₁_landing (c : Dev nD) : V₁ m c main_v1_1 = V₀ m c main_arg3 := by
  show StableHlo.after [StableHlo.unary main_arg3 main_v1_1 id] (V₀ m c) (Proc.devRef .tc main_v1_1) = _
  rw [StableHlo.after_cons, StableHlo.after_nil, StableHlo.unary_result]; rfl

/-! ## The two buffers the exchange addresses, cut up -/

/-- A device's tables are the three pieces it sends and what stays; the landing buffer, three slots and what stays. -/
theorem tables_split (c : Dev nD) :
    (((c : Thread nD τ).loc main_arg2 ↦{fullShare} tables m c) : sProp 𝕄) ⊣⊢ iprop(three (fun k => pieceRows c k (tables m c))
      ∗ ((c : Thread nD τ).loc main_arg2 ↦[Finset.univ \ Finset.univ.biUnion (pieceSet c)]{fullShare} tables m c)) := by
  have h := pointsTo_split_subset (Ix := Unit) (Name := ℕ) (U := UU) (Lvl := ℕ) (ℓ := (c : Thread nD τ).loc main_arg2) (q := fullShare)
    (f := tables m c) (Finset.subset_univ (Finset.univ.biUnion (pieceSet c)))
  have e := pointsTo_biUnion (Ix := Unit) (Name := ℕ) (U := UU) (Lvl := ℕ) (ℓ := (c : Thread nD τ).loc main_arg2) (q := fullShare) (f := tables m c)
    Finset.univ (pieceSet c) (fun k _ l _ h => pieces_disjoint c h)
  rw [three_eq] at e
  rw [e] at h
  exact h

theorem landing_split (c : Dev nD) (f : (main_v1_1 : Ref sig .tc).ty.Contents (Elt F)) :
    (((c : Thread nD τ).loc main_v1_1 ↦{fullShare} f) : sProp 𝕄) ⊣⊢ iprop(three (fun k => slotRows c k f)
      ∗ ((c : Thread nD τ).loc main_v1_1 ↦[Finset.univ \ Finset.univ.biUnion (slotSet c)]{fullShare} f)) := by
  have h := pointsTo_split_subset (Ix := Unit) (Name := ℕ) (U := UU) (Lvl := ℕ) (ℓ := (c : Thread nD τ).loc main_v1_1) (q := fullShare)
    (f := f) (Finset.subset_univ (Finset.univ.biUnion (slotSet c)))
  have e := pointsTo_biUnion (Ix := Unit) (Name := ℕ) (U := UU) (Lvl := ℕ) (ℓ := (c : Thread nD τ).loc main_v1_1) (q := fullShare) (f := f)
    Finset.univ (slotSet c) (fun k _ l _ h => slots_disjoint h)
  rw [three_eq] at e
  rw [e] at h
  exact h

/-- Slot `k` after its arrival is slot `k` of the filled buffer; what stays of the landing buffer is as it was. -/
theorem slot_filled (c : Dev nD) (k : Fin 3) : (slotRows c k (landed m c k) : sProp 𝕄) = slotRows c k (arrived m c) :=
  pointsTo_congr fun i hi => by
    have h := (mem_slot k i).mp hi
    have e : (⟨(i (0 : Fin 3)).val, (i (0 : Fin 3)).isLt⟩ : Fin 3) = k := Fin.ext h.1
    unfold arrived; rw [if_pos h.2, e]
theorem stay_filled (c : Dev nD) :
    (((c : Thread nD τ).loc main_v1_1 ↦[Finset.univ \ Finset.univ.biUnion (slotSet c)]{fullShare} landing m c) : sProp 𝕄)
      = ((c : Thread nD τ).loc main_v1_1 ↦[Finset.univ \ Finset.univ.biUnion (slotSet c)]{fullShare} arrived m c) :=
  pointsTo_congr fun i hi => by
    have h : ¬ 256 ≤ (i (1 : Fin 3)).val := fun h => (Finset.mem_sdiff.mp hi).2
      (Finset.mem_biUnion.mpr ⟨⟨(i (0 : Fin 3)).val, (i (0 : Fin 3)).isLt⟩, Finset.mem_univ _, (mem_slot _ i).mpr ⟨rfl, h⟩⟩)
    unfold arrived; rw [if_neg h]

end Cert.Sq

end
-- ==== Proof.SqCall.lean ====
/- The call for the mixer's square weight gradients as a segment of the program: the buffers it finds beside its arrays, its
   semaphores opened and closed. -/
module

public import proofs.«01_k».proof.Proof.SqRegion
public import Idealize.ShloMosaic.Lib.Pipeline.RegionTalk

@[expose] public section

set_option maxRecDepth 16384

noncomputable section

namespace Cert.Sq

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel8Ideal Cert.Kernel8Ideal.Gen

variable {F : FTy → Type} [FloatOps F]

local notation "𝕄" => MT nD τ sig Unit (Elt F) ℕ UU ℕ

variable (m : (ℓ : Loc nD τ sig) → Buf (Elt F) ℓ)

/-! ## The buffers the call finds beside its arrays -/

/-- The two buffers the call addresses itself, and the landing input the host copies. -/
abbrev addressed : Finset (DevRef τ sig) := {Proc.devRef .tc main_arg2, Proc.devRef .tc main_v1_1}
abbrev besideArrays : Finset (DevRef τ sig) := {Proc.devRef .tc main_arg2, Proc.devRef .tc main_arg3, Proc.devRef .tc main_v1_1}
abbrev allBufs : Finset (DevRef τ sig) := Pipeline.ucRefs τ sig

theorem held_addressed (c : Dev nD) (W : Valuation τ sig (Elt F)) :
    (StableHlo.held (c.tc : Thread nD τ) addressed W : sProp 𝕄)
      = iprop(((c : Thread nD τ).loc main_arg2 ↦{fullShare} W main_arg2) ∗ ((c : Thread nD τ).loc main_v1_1 ↦{fullShare} W main_v1_1)) := by
  unfold StableHlo.held
  rw [bigSep_eq_bigSepL_of_eq [Proc.devRef .tc main_arg2, Proc.devRef .tc main_v1_1] (by decide) (by decide)]
  rfl

/-- All unscoped buffers: the call's arrays and the three beside. -/
theorem held_all (c : Dev nD) (W : Valuation τ sig (Elt F)) :
    (StableHlo.held (c.tc : Thread nD τ) allBufs W : sProp 𝕄)
      = iprop(StableHlo.held (c.tc : Thread nD τ) (Pipeline.arrRefs (τ := τ) spec0) W ∗ StableHlo.held (c.tc : Thread nD τ) besideArrays W) := by
  rw [StableHlo.held_sub_split (c.tc : Thread nD τ) (T := Pipeline.arrRefs (τ := τ) spec0) (S := allBufs) (by decide) W,
    show allBufs \ Pipeline.arrRefs (τ := τ) spec0 = besideArrays from by decide]

theorem held_each (c : Dev nD) (W : Valuation τ sig (Elt F)) :
    (StableHlo.held (c.tc : Thread nD τ) allBufs W : sProp 𝕄)
      = iprop(((c : Thread nD τ).loc main_arg0 ↦{fullShare} W main_arg0) ∗ ((c : Thread nD τ).loc main_arg1 ↦{fullShare} W main_arg1)
        ∗ ((c : Thread nD τ).loc main_arg2 ↦{fullShare} W main_arg2) ∗ ((c : Thread nD τ).loc main_arg3 ↦{fullShare} W main_arg3)
        ∗ ((c : Thread nD τ).loc main_v1_0 ↦{fullShare} W main_v1_0) ∗ ((c : Thread nD τ).loc main_v1_1 ↦{fullShare} W main_v1_1)) := by
  unfold StableHlo.held
  rw [bigSep_eq_bigSepL_of_eq [Proc.devRef .tc main_arg0, Proc.devRef .tc main_arg1, Proc.devRef .tc main_arg2, Proc.devRef .tc main_arg3,
    Proc.devRef .tc main_v1_0, Proc.devRef .tc main_v1_1] (by decide) (by decide)]
  rfl

/-- A resource on each of the call's six semaphores: on the three of the departures and the three of the arrivals. -/
theorem six_eq (Φ : SemLoc sig → sProp 𝕄) :
    bigSep Finset.univ (fun k : Fin 6 => Φ (ownSem k)) = iprop(three (fun k => Φ (.dma (sentSem k))) ∗ three (fun k => Φ (.dma (gotSem k)))) := by
  rw [bigSep_univ_equiv (finSumFinEquiv : Fin 3 ⊕ Fin 3 ≃ Fin 6), bigSep_univ_sum, three_eq, three_eq]
  rfl

theorem ownSems_eq (c : Dev nD) :
    (Pipeline.ownSems0 ownSem c : sProp 𝕄) = iprop(three (fun k => semVal (sentCell c k) 0) ∗ three (fun k => semVal (gotCell c k) 0)) :=
  six_eq (fun s => (semVal ((c : Thread nD τ), s) 0 : sProp 𝕄))

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barrier1} from by decide, BI.bigSep_singleton]

/-! ## The call as a segment of the program -/

/-- What the launch leaves for the call; what the call enters its first point with. -/
def kept (c : Dev nD) : sProp 𝕄 :=
  iprop((∃ K, ghost m K c) ∗ cred (tallyAt (barCell c) () 3) ∗ three (fun k => cred (tallyAt (gotCell c k) () credit)))
def entered (c : Dev nD) : sProp 𝕄 :=
  iprop((∃ K, opened m K c) ∗ cred (tallyAt (barCell c) () 3) ∗ three (fun k => cred (tallyAt (gotCell c k) () credit)) ∗ levAts L lv)
def left (c : Dev nD) : sProp 𝕄 := semVal (barCell c) 0

/-- Three semaphores opened together. -/
theorem open_three (K : GSem nD τ sig → ℕ) (g : Fin 3 → GSem nD τ sig) :
    iprop(three (fun k => cellInv EX (plan m) (K (g k)) (g k)) ∗ three (fun k => openTok EX (g k)) ∗ three (fun k => semVal (g k) 0))
      ⊢ (|={Set.univ}=> iprop(three (fun k => atPos EX (g k) 0 ∅ 0) ∗ three (fun k => reached EX (g k) 0)) : sProp 𝕄) := by
  iintro ⟨⟨#H0, #H1, #H2⟩, ⟨Ho0, Ho1, Ho2⟩, ⟨Hs0, Hs1, Hs2⟩⟩
  imod (Rounds.cell_open EX (plan m) (g := g 0) (Set.mem_univ (K (g 0)))) $$ [Ho0 Hs0] with ⟨Ha0, #Hr0⟩
  · iframe # ∗
  imod (Rounds.cell_open EX (plan m) (g := g 1) (Set.mem_univ (K (g 1)))) $$ [Ho1 Hs1] with ⟨Ha1, #Hr1⟩
  · iframe # ∗
  imod (Rounds.cell_open EX (plan m) (g := g 2) (Set.mem_univ (K (g 2)))) $$ [Ho2 Hs2] with ⟨Ha2, #Hr2⟩
  · iframe # ∗
  imodintro
  isplitl [Ha0 Ha1 Ha2]
  · isplitl [Ha0]; · iexact Ha0
    isplitl [Ha1] <;> iassumption
  iframe Hr0 Hr1 Hr2

theorem open_cells (c : Dev nD) : iprop(kept m c ∗ Pipeline.ownSems0 ownSem c ∗ levAts L lv) ⊢ (|={Set.univ}=> entered m c : sProp 𝕄) := by
  rw [ownSems_eq]
  unfold kept entered
  iintro ⟨⟨⟨%K, Hg⟩, HcB, HcG⟩, ⟨Hs0, Hg0⟩, #Hlev⟩
  unfold ghost invs
  icases Hg with ⟨⟨#HIbar, #HIsent, #HIgot, #HIbarM, #HIgotM⟩, HatB, HoS, HoG, #HrM, Hpay⟩
  imod (open_three m K (sentCell c)) $$ [HoS Hs0] with ⟨HatS, #HrS⟩
  · iframe # ∗
  imod (open_three m K (gotCell c)) $$ [HoG Hg0] with ⟨HatG, #HrG⟩
  · iframe # ∗
  imodintro
  isplitl [HatB HatS HatG Hpay]
  · iexists K; unfold opened invs
    isplitr
    · iframe HIbar HIsent HIgot HIbarM HIgotM
    iframe HatB HatS HatG HrM HrS HrG Hpay
  iframe HcB HcG Hlev

/-- The scratch, whatever it holds. -/
theorem scratch_scoped (c : Dev nD) : (Pipeline.scopedRest (Pipeline.pin (pcfgs (F := F)) adm 0).spec c : sProp 𝕄) = scratch m c 0 := by
  rw [scratch_any m c 0 rfl]
  refine (show (Pipeline.scopedRest (Pipeline.pin (pcfgs (F := F)) adm 0).spec c : sProp 𝕄) = _ from scopedRest0_eq c).trans ?_
  simp only [owns_whole]

theorem enter (c : Dev nD) :
    iprop(Pipeline.scopedRest (Pipeline.pin (pcfgs (F := F)) adm 0).spec c ∗ (∃ r, prngReg c r)
        ∗ StableHlo.held (c.tc : Thread nD τ) addressed (V₁ m c) ∗ entered m c) ⊢ (dats m 0 c).Φ 0 := by
  rw [show (dats m 0 c).Φ 0 = iprop(stage m c 0 ∗ stayRows m c ∗ scratch m c 0 ∗ ∃ r, prngReg c r) from rfl, stage_start, held_addressed,
    scratch_scoped m]
  unfold entered before stayRows
  iintro ⟨Hsc, Hp, ⟨Ht, Hl⟩, HK, HcB, HcG, #Hlev⟩
  ihave Ht' := (tables_split m c).1 $$ Ht
  icases Ht' with ⟨Hpieces, Hstay⟩
  ihave Hl' := (landing_split c (landing m c)).1 $$ Hl
  icases Hl' with ⟨Hslots, Hstay'⟩
  isplitr [Hp Hstay Hstay' Hsc]
  · iframe # ∗
  iframe

theorem leave (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) addressed (V₂ m c) ∗ Pipeline.ownSems0 ownSem c ∗ left c) := by
  rw [show (dats m 0 c).Φ (Fin.last _) = iprop(stage m c grid0.N ∗ stayRows m c ∗ scratch m c grid0.N ∗ ∃ r, prngReg c r) from rfl, N_0, stage_end,
    held_addressed, ownSems_eq, scratch_scoped m, scratch_any m c 6 rfl, scratch_any m c 0 rfl, V₂_landing, V₂_ne m c main_arg2 (by decide) (by decide)]
  unfold after left stayRows
  rw [show (fun k : Fin 3 => (slotRows c k (landed m c k) : sProp 𝕄)) = fun k => slotRows c k (arrived m c) from funext (slot_filled m c), stay_filled]
  iintro ⟨⟨Hb0, Hss, Hpieces, Hslots⟩, ⟨Hstay, Hstay'⟩, Hsc, Hp⟩
  iframe Hsc Hp
  isplitl [Hpieces Hslots Hstay Hstay']
  · isplitl [Hpieces Hstay]
    · iapply (tables_split m c).2
      iframe
    iapply (landing_split c (arrived m c)).2
    iframe
  iframe Hss Hb0

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_level (c : Dev nD) (t : Fin ((Pipeline.pin (pcfgs (F := F)) adm 0).N + 1)) (g : GSem nD τ sig) (i : Unit)
    (h : 0 < (dats (F := F) m 0 c).owed t g i) : i ∈ L g ∧ (0 : ℕ) < lv g i := by
  rw [show (dats (F := F) m 0 c).owed t = if t.val = 0 then debt c else 0 from rfl] at h
  split at h
  · rcases debt_cell h with ⟨k, rfl⟩ | ⟨k, rfl⟩
    · exact ⟨mem_L .., by rw [lv_got]; decide⟩
    · exact ⟨mem_L .., by rw [lv_bar]; decide⟩
  · exact absurd h (Nat.lt_irrefl 0)

/-- The staging semaphores have no part in the exchange: they come before the barrier and the arrivals. -/
theorem staging_role : ∀ (w : Fin 3) (s : Fin (spec0 w).nbuf), role (.dma ((spec0 w).sem s)) = .other := by decide
theorem staging_level (c : Dev nD) (w : Fin 3) (s : Fin (spec0 w).nbuf) : lv ((c : Thread nD τ), .dma ((spec0 w).sem s)) () ≤ 0 := by
  unfold lv; dsimp only; rw [staging_role]

theorem arrays_kept (c : Dev nD) (w : Fin 3) :
    (dat m c).arrAt w cfg0.N = V₂ m c (Proc.devRef .tc (Pipeline.arrRef spec0 w)) := by
  match w with
  | ⟨0, _⟩ => exact ((dat m c).arrAt_in 0 rfl _).trans ((A_eq m c 0).trans (V₂_ne m c main_arg0 (by decide) (by decide)).symm)
  | ⟨1, _⟩ => exact ((dat m c).arrAt_in 1 rfl _).trans ((A_eq m c 1).trans (V₂_ne m c main_arg1 (by decide) (by decide)).symm)
  | ⟨2, _⟩ => exact (V₂_blocks m c).symm

theorem arrays_found (c : Dev nD) (w : Fin 3) : (dat m c).arrAt w 0 = V₁ m c (Proc.devRef .tc (Pipeline.arrRef spec0 w)) := A_eq m c w

theorem beside_kept (c : Dev nD) : ∀ b ∈ besideArrays \ addressed, V₂ m c b = V₁ m c b := by
  intro b hb
  rw [show (besideArrays \ addressed : Finset (DevRef τ sig)) = {Proc.devRef .tc main_arg3} from by decide, Finset.mem_singleton] at hb
  subst hb
  exact V₂_ne m c main_arg3 (by decide) (by decide)

local notation "ℍ" => Pipeline.HostSeg (Name := ℕ) (U := UU) (pcfgs (F := F)) defs₀ Variants.none L lv
local notation "ℝ" => Pipeline.RegionSeg (pcfgs (F := F)) adm (dats m) () defs₀ Variants.none L lv

set_option backward.isDefEq.respectTransparency.types false in
def call : ℝ 0 :=
  Pipeline.RegionSeg.ofTalk (pcfgs (F := F)) adm (dats m) () defs₀ Variants.none L lv 0 ownSem (by decide : Pipeline.OwnSemFacts spec0 ownSem)
    addressed besideArrays (by decide) kit rfl (fun c => (sound_body m c).loose)
    (fun _ => 0) debt (fun c => (owed_start m c 0 rfl).trans (zero_add _).symm)
    (fun c => owed_after m c (Fin.last _) (by rw [Fin.val_last, show cfg0.N = 6 from N_0]; decide)) (fun _ => rfl)
    (fun c => (dat m c).share_full fun _ => rfl)
    (V₁ m) (V₂ m) (beside_kept m)
    (kept m) left (entered m) left (open_cells m) (enter m) (leave m)
    (fun c => by iintro H; imodintro; iexact H)
    (fun _ => 0)
    ⟨fun c w s => mem_L c _ _, fun c w s => staging_level c w s, fun c t g i h => owed_level m c t g i h⟩
    (fun _ => iprop(emp))
    (arrays_found m) (arrays_kept m)

/-- Beside the buffers, up to the call: what the launch left for it, the generator register, and the debt. -/
def riding (c : Dev nD) : sProp 𝕄 := iprop(kept m c ∗ (∃ r, prngReg c r) ∗ ∃ W, owes (c : Thread nD τ) (debt c) W)

theorem hostOps_sub : ∀ op ∈ (hostOps0 : List (HloOp τ sig (Elt F))), op.bufs ⊆ allBufs := fun op h => by
  simp only [hostOps0, List.mem_singleton] at h; subst h
  show ({Proc.devRef .tc main_arg3, Proc.devRef .tc main_v1_1} : Finset (DevRef τ sig)) ⊆ allBufs; decide
theorem hostOps_fresh : ∀ op ∈ (hostOps0 : List (HloOp τ sig (Elt F))), op.fresh = ∅ := fun op h => by
  simp only [hostOps0, List.mem_singleton] at h; subst h; rfl

/-- The host's copy of the landing input. -/
def host : ℍ := Pipeline.HostSeg.ofOps _ _ _ _ _ allBufs hostOps0 hostOps_sub hostOps_fresh (V₀ m) (riding m)

abbrev first (c : Dev nD) : sProp 𝕄 := iprop(StableHlo.held (c.tc : Thread nD τ) allBufs (V₀ m c) ∗ riding m c)
abbrev last (c : Dev nD) : sProp 𝕄 := iprop(StableHlo.held (c.tc : Thread nD τ) allBufs (V₂ m c) ∗ semVal (barCell c) 0)

theorem call_pre (c : Dev nD) : iprop(StableHlo.held (c.tc : Thread nD τ) allBufs (V₁ m c) ∗ riding m c) ⊢ (call m).pre c := by
  show _ ⊢ iprop(StableHlo.held (c.tc : Thread nD τ) (Pipeline.arrRefs (τ := τ) spec0) (V₁ m c) ∗ (∃ r, prngReg c r)
    ∗ (StableHlo.held (c.tc : Thread nD τ) besideArrays (V₁ m c) ∗ emp) ∗ kept m c ∗ ∃ Wd, owes (c : Thread nD τ) (0 + debt c) Wd)
  rw [held_all, zero_add]
  unfold riding
  iintro ⟨⟨Ha, Hb⟩, HK, Hp, HO⟩
  iframe Ha Hp Hb HK HO

theorem call_post (c : Dev nD) : (call m).post c ⊢ iprop(last m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) besideArrays (V₂ m c) ∗ emp) ∗ left c ∗ ∃ Wd, owes (c : Thread nD τ) (0 : CellTallies nD τ sig Unit) Wd) ⊢ _
  dsimp only [last]
  rw [held_all]
  unfold left
  iintro ⟨Ha, -, ⟨Hb, -⟩, Hb0, HO⟩
  isplitr [HO]
  · isplitl [Ha Hb]
    · iframe
    iexact Hb0
  iexact HO

def segs : List (Pipeline.Seg (pcfgs (F := F)) adm (dats m) () defs₀ Variants.none L lv) := [.host (host m), .region (call m)]

end Cert.Sq

end
-- ==== Proof.SqRun.lean ====
/- The run of the mixer's square weight gradients on the four devices of a square: the launch deals out what the exchange needs, the host
   copies the landing input, the call runs, and every execution ends with the blocks written back and the landing buffers filled. -/
module

public import proofs.«01_k».proof.Proof.SqCall
public import proofs.«01_k».proof.Proof.Families

@[expose] public section

set_option maxRecDepth 16384

noncomputable section

namespace Cert.Sq

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel8Ideal Cert.Kernel8Ideal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSem_inj : Function.Injective ownSem := by decide
theorem ownSem_ne_bar : ∀ k : Fin 6, ownSem k ≠ .reg barrier1 := by decide

def barEmb : Dev nD ↪ GSem nD τ sig := ⟨fun c => barCell c, fun _ _ h => congrArg (fun g : GSem nD τ sig => g.1.1) h⟩
def ownEmb : Dev nD × Fin 6 ↪ GSem nD τ sig :=
  ⟨fun ck => ((ck.1 : Thread nD τ), ownSem ck.2), fun _ _ h =>
    Prod.ext (congrArg (fun g : GSem nD τ sig => g.1.1) h) (ownSem_inj (congrArg Prod.snd h))⟩

/-- The barriers, whose counters the launch holds; the call's own semaphores, whose counters come with the call. -/
abbrev barCells : Finset (GSem nD τ sig) := Finset.univ.map barEmb
abbrev ownCells : Finset (GSem nD τ sig) := Finset.univ.map ownEmb

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact ownSem_ne_bar ck.2 (congrArg Prod.snd h)

/-- Three duties on each barrier, one on each of the others. -/
def barDuty : Dev nD × Fin 3 ↪ GSem nD τ sig × ℕ × Fin 3 :=
  ⟨fun ck => (barCell ck.1, 0, ck.2), fun _ _ h => Prod.ext (congrArg (fun x : GSem nD τ sig × ℕ × Fin 3 => x.1.1.1) h) (congrArg (fun x : GSem nD τ sig × ℕ × Fin 3 => x.2.2) h)⟩
def ownDuty : GSem nD τ sig ↪ GSem nD τ sig × ℕ × Fin 3 := ⟨fun g => (g, 0, 0), fun _ _ h => congrArg (fun t : GSem nD τ sig × ℕ × Fin 3 => t.1) h⟩
abbrev barDuties : Finset (GSem nD τ sig × ℕ × Fin 3) := Finset.univ.map barDuty
abbrev ownDuties : Finset (GSem nD τ sig × ℕ × Fin 3) := (ownCells : Finset (GSem nD τ sig)).map ownDuty
def duties : Finset (GSem nD τ sig × ℕ × Fin 3) := barDuties ∪ ownDuties

theorem duties_disjoint : Disjoint barDuties ownDuties := by
  rw [Finset.disjoint_left]
  rintro x h₁ h₂
  obtain ⟨ck, -, rfl⟩ := Finset.mem_map.mp h₁
  obtain ⟨g, hg, h⟩ := Finset.mem_map.mp h₂
  obtain rfl : g = barCell ck.1 := congrArg (fun t : GSem nD τ sig × ℕ × Fin 3 => t.1) h
  exact Finset.disjoint_left.mp cells_disjoint (Finset.mem_map_of_mem barEmb (Finset.mem_univ ck.1)) hg

theorem bar_mem (c : Dev nD) : barCell c ∈ (barCells ∪ ownCells : Finset (GSem nD τ sig)) :=
  Finset.mem_union_left _ (Finset.mem_map_of_mem barEmb (Finset.mem_univ c))
theorem sent_mem (c : Dev nD) (k : Fin 3) : sentCell c k ∈ (barCells ∪ ownCells : Finset (GSem nD τ sig)) :=
  Finset.mem_union_right _ (Finset.mem_map.mpr ⟨(c, Fin.castAdd 3 k), Finset.mem_univ _, rfl⟩)
theorem got_mem (c : Dev nD) (k : Fin 3) : gotCell c k ∈ (barCells ∪ ownCells : Finset (GSem nD τ sig)) :=
  Finset.mem_union_right _ (Finset.mem_map.mpr ⟨(c, Fin.natAdd 3 k), Finset.mem_univ _, by revert k; decide +kernel +revert⟩)

/-- The launch's element: the library's share of it, and this exchange's. -/
def launchElt : UU :=
  (initOf (Pipeline.cells (Pipeline.pin (pcfgs (F := F)) adm) cellOf_inj) (Pipeline.launchToks (Pipeline.pin (pcfgs (F := F)) adm) cellOf_inj),
    launchOf barCells ownCells duties)

/-- This exchange's share is set aside on device 0 until the devices' resources are dealt together. -/
def aside (c : Dev nD) : sProp 𝕄 := if c = 0 then BI.own (EX (launchOf barCells ownCells duties)) else iprop(emp)
theorem aside_eq : (bigSep Finset.univ fun c : Dev nD => (aside c : sProp 𝕄)) = BI.own (EX (launchOf barCells ownCells duties)) := one_aside 0 _

/-- What all devices may consult: the invariants, and that every barrier is in its first round. -/
def records (κ : GSem nD τ sig → ℕ) : sProp 𝕄 :=
  iprop((bigSep (barCells ∪ ownCells) fun g => cellInv EX (plan m) (κ g) g) ∗ bigSep barCells fun g => reached EX g 0)

instance records_persistent (κ : GSem nD τ sig → ℕ) : BI.Persistent (records m κ) := by unfold records; infer_instance

theorem inv_at (κ : GSem nD τ sig → ℕ) {g : GSem nD τ sig} (hg : g ∈ (barCells ∪ ownCells : Finset (GSem nD τ sig))) :
    (bigSep (barCells ∪ ownCells) fun g => (cellInv EX (plan m) (κ g) g : sProp 𝕄)) ⊢ cellInv EX (plan m) (κ g) g :=
  bigSep_elim hg
theorem inv_three (κ : GSem nD τ sig → ℕ) (g : Fin 3 → GSem nD τ sig) (hg : ∀ k, g k ∈ (barCells ∪ ownCells : Finset (GSem nD τ sig))) :
    (bigSep (barCells ∪ ownCells) fun g => (cellInv EX (plan m) (κ g) g : sProp 𝕄)) ⊢ three (fun k => cellInv EX (plan m) (κ (g k)) (g k)) := by
  iintro #H
  isplitr; · iapply (inv_at m κ (hg 0)); iexact H
  isplitr; · iapply (inv_at m κ (hg 1)); iexact H
  iapply (inv_at m κ (hg 2)); iexact H

theorem reached_at (c : Dev nD) : (bigSep barCells fun g => (reached EX g 0 : sProp 𝕄)) ⊢ reached EX (barCell c) 0 :=
  bigSep_elim (Finset.mem_map_of_mem barEmb (Finset.mem_univ c))

theorem reached_three (c : Dev nD) : (bigSep barCells fun g => (reached EX g 0 : sProp 𝕄)) ⊢ three (fun k => reached EX (barCell (peer c k)) 0) := by
  iintro #H
  isplitr; · iapply (reached_at (F := F) (peer c 0)); iexact H
  isplitr; · iapply (reached_at (F := F) (peer c 1)); iexact H
  iapply (reached_at (F := F) (peer c 2)); iexact H

/-- What a device alone holds: its place on its barrier, the rights to open its six semaphores, the duties it pays. -/
def alone (c : Dev nD) : sProp 𝕄 :=
  iprop(atPos EX (barCell c) 0 ∅ 0 ∗ (three (fun k => openTok EX (sentCell c k)) ∗ three (fun k => openTok EX (gotCell c k))) ∗ payable c)

theorem ghost_intro (κ : GSem nD τ sig → ℕ) (c : Dev nD) : iprop(records m κ ∗ alone c) ⊢ iprop(∃ K, ghost m K c) := by
  unfold records alone ghost invs
  iintro ⟨⟨#HI, #HR⟩, HaB, ⟨HoS, HoG⟩, Hpay⟩
  iexists κ
  isplitr
  · isplitr; · iapply (inv_at m κ (bar_mem c)); iexact HI
    isplitr; · iapply (inv_three m κ (sentCell c) (sent_mem c)); iexact HI
    isplitr; · iapply (inv_three m κ (gotCell c) (got_mem c)); iexact HI
    isplitr; · iapply (inv_three m κ (fun k => barCell (peer c k)) (fun k => bar_mem (peer c k))); iexact HI
    iapply (inv_three m κ (fun k => gotCell (peer c k) k) (fun k => got_mem (peer c k) k)); iexact HI
  iframe HaB HoS HoG
  isplitr; · iapply (reached_three (F := F) c); iexact HR
  iexact Hpay

/-- A resource on every semaphore of the calls: on each device, the three of its departures and the three of its arrivals. -/
theorem own_each (Φ : GSem nD τ sig → sProp 𝕄) :
    bigSep ownCells Φ = bigSep Finset.univ fun c : Dev nD => iprop(three (fun k => Φ (sentCell c k)) ∗ three (fun k => Φ (gotCell c k))) := by
  rw [bigSep_map, bigSep_univ_prod]
  exact bigSep_congr fun c _ => six_eq (fun s => Φ ((c : Thread nD τ), s))

/-- A resource for each device and peer, handed to that peer. -/
theorem hand_over (Φ : Dev nD → Fin 3 → sProp 𝕄) :
    (bigSep Finset.univ fun c : Dev nD => three (Φ c)) = bigSep Finset.univ fun c : Dev nD => three (fun k => Φ (peer c k) k) := by
  have e (Ψ : Dev nD → Fin 3 → sProp 𝕄) : (bigSep Finset.univ fun c : Dev nD => three (Ψ c)) = three (fun k => bigSep Finset.univ fun c : Dev nD => Ψ c k) :=
    (bigSep_sep _ _ _).trans (congrArg _ (bigSep_sep _ _ _))
  rw [e, e]
  exact congrArg three (funext fun k => bigSep_univ_equiv (across k) (fun c => Φ c k))

/-- The duties, each handed to the device that pays it. -/
theorem duties_dealt : bigSep duties (fun x => (dutyTok EX x.1 x.2.1 x.2.2 : sProp 𝕄)) ⊢ bigSep Finset.univ fun c : Dev nD => payable c := by
  have e : bigSep duties (fun x => (dutyTok EX x.1 x.2.1 x.2.2 : sProp 𝕄))
      = iprop((bigSep Finset.univ fun c : Dev nD => three (fun k => dutyTok EX (barCell c) 0 k))
        ∗ bigSep Finset.univ fun c : Dev nD => iprop(three (fun k => dutyTok EX (sentCell c k) 0 0) ∗ three (fun k => dutyTok EX (gotCell c k) 0 0))) := by
    have u := bigSep_union duties_disjoint (Φ := fun x => (dutyTok EX x.1 x.2.1 x.2.2 : sProp 𝕄))
    rw [bigSep_map (s := Finset.univ) barDuty, bigSep_map (s := ownCells) ownDuty, bigSep_univ_prod] at u
    unfold duties
    refine u.trans (congrArg₂ _ (bigSep_congr fun c _ => three_eq (fun k => (dutyTok EX (barCell c) 0 k : sProp 𝕄))) ?_)
    exact own_each (fun g => (dutyTok EX g 0 0 : sProp 𝕄))
  rw [e]
  unfold payable
  iintro ⟨Hbar, H⟩
  ihave H' := split_families $$ H
  icases H' with ⟨Hsent, Hgot⟩
  iapply join_families
  isplitl [Hbar]
  · iapply (Entails.of_eq (hand_over (fun c k => (dutyTok EX (barCell c) 0 k : sProp 𝕄)))); iexact Hbar
  iapply join_families
  iframe Hsent
  iapply (Entails.of_eq (hand_over (fun c k => (dutyTok EX (gotCell c k) 0 0 : sProp 𝕄)))); iexact Hgot

/-! ### What each device is owed -/

/-- A device owes its peer `k` `n` units on that peer's semaphore `sm` and nothing on another's. -/
theorem owed_by (k : Fin 3) (sm : SemLoc sig) (n : ℕ) (d c : Dev nD) :
    (tallyAt ((peer d k : Thread nD τ), sm) () n : CellTallies nD τ sig Unit) ((c : Thread nD τ), sm) () = if d = peer c k then n else 0 := by
  rw [tallyAt_apply]
  by_cases h : d = peer c k
  · subst h; rw [peer_peer, if_pos ⟨rfl, rfl⟩, if_pos rfl]
  · rw [if_neg (fun ⟨h1, _⟩ => h (by rw [← peer_peer d k]; exact congrArg (peer · k) (Fin.ext (congrArg (fun g : GSem nD τ sig => g.1.1.val) h1)).symm)), if_neg h]

theorem got_ne_bar (k : Fin 3) : (.dma (gotSem k) : SemLoc sig) ≠ .reg barrier1 := fun h => by cases h
theorem gotSem_inj : Function.Injective gotSem := by decide

theorem due_bar (d c : Dev nD) : ∀ n : ℕ, due d n (barCell c) () = 0
  | 0 => rfl
  | n + 1 => by
    have e : ∀ k, arrival d k (barCell c) = 0 := fun k => tallyAt_ne_cell (fun h => got_ne_bar k (congrArg Prod.snd h).symm) _ _
    unfold due
    rw [Pi.add_apply, Finsupp.add_apply, due_bar d c n, e, Finsupp.zero_apply, Nat.zero_add]

theorem arrival_at (d c : Dev nD) (j k : Fin 3) : arrival d j (gotCell c k) () = if j = k then (if d = peer c k then credit else 0) else 0 := by
  by_cases h : j = k
  · subst h; rw [if_pos rfl]; exact owed_by j _ _ d c
  · have e : arrival d j (gotCell c k) = 0 := tallyAt_ne_cell (fun e : gotCell c k = gotCell (peer d j) j =>
      h (gotSem_inj (SemLoc.dma.inj (congrArg Prod.snd e))).symm) _ _
    rw [if_neg h, e, Finsupp.zero_apply]

theorem due_got (d c : Dev nD) (k : Fin 3) : due d 3 (gotCell c k) () = if d = peer c k then credit else 0 := by
  show 0 + arrival d 2 (gotCell c k) () + arrival d 1 (gotCell c k) () + arrival d 0 (gotCell c k) () = _
  rw [arrival_at, arrival_at, arrival_at]
  fin_cases k <;> simp

theorem owed_bar (d c : Dev nD) : debt d (barCell c) ()
    = (if d = peer c 2 then 1 else 0) + (if d = peer c 0 then 1 else 0) + (if d = peer c 1 then 1 else 0) := by
  show due d 3 (barCell c) () + greeting d 2 (barCell c) () + greeting d 0 (barCell c) () + greeting d 1 (barCell c) () = _
  rw [due_bar, Nat.zero_add]
  exact congrArg₂ _ (congrArg₂ _ (owed_by 2 _ _ d c) (owed_by 0 _ _ d c)) (owed_by 1 _ _ d c)
theorem owed_got (k : Fin 3) (d c : Dev nD) : debt d (gotCell c k) () = if d = peer c k then credit else 0 := by
  have e (j : Fin 3) : greeting d j (gotCell c k) () = 0 := by
    rw [show greeting d j (gotCell c k) = 0 from tallyAt_ne_cell (fun h => got_ne_bar k (congrArg Prod.snd h)) _ _, Finsupp.zero_apply]
  show due d 3 (gotCell c k) () + greeting d 2 (gotCell c k) () + greeting d 0 (gotCell c k) () + greeting d 1 (gotCell c k) () = _
  rw [e, e, e]
  exact due_got d c k

theorem launch_cred (g : GSem nD τ sig) (n : ℕ) (h : ∑ d : Dev nD, debt d g () = n) :
    tallyOn g (launchCredit (Pipeline.owing debt) 0 g) = (tallyAt g () n : CellTallies nD τ sig Unit) := by
  unfold tallyAt; refine congrArg _ (Finsupp.ext fun u => ?_); cases u
  rw [Pipeline.launchCredit_owing, Finsupp.single_eq_same, h]

theorem sum_bar (c : Dev nD) : ∑ d : Dev nD, debt d (barCell c) () = 3 := by
  rw [Finset.sum_congr rfl fun d _ => owed_bar d c, Finset.sum_add_distrib, Finset.sum_add_distrib, Finset.sum_ite_eq' Finset.univ (peer c 2) fun _ => 1,
    Finset.sum_ite_eq' Finset.univ (peer c 0) fun _ => 1, Finset.sum_ite_eq' Finset.univ (peer c 1) fun _ => 1, if_pos (Finset.mem_univ _),
    if_pos (Finset.mem_univ _), if_pos (Finset.mem_univ _)]
theorem sum_got (c : Dev nD) (k : Fin 3) : ∑ d : Dev nD, debt d (gotCell c k) () = credit := by
  rw [Finset.sum_congr rfl fun d _ => owed_got k d c, Finset.sum_ite_eq' Finset.univ (peer c k) fun _ => credit, if_pos (Finset.mem_univ _)]

def gotEmb : Fin 3 ↪ SemLoc sig := ⟨fun k => .dma (gotSem k), fun _ _ h => gotSem_inj (SemLoc.dma.inj h)⟩

theorem creds (c : Dev nD) :
    (Pipeline.launchCred debt c : sProp 𝕄) ⊢ iprop(cred (tallyAt (barCell c) () 3) ∗ three (fun k => cred (tallyAt (gotCell c k) () credit))) := by
  unfold Pipeline.launchCred
  rw [bigSep_univ_at _ (SemLoc.reg barrier1), launch_cred (barCell c) 3 (sum_bar c)]
  refine sep_mono_right (BI.Entails.trans (bigSep_subset (t := Finset.univ.map gotEmb) fun s hs => ?_) ?_)
  · obtain ⟨k, -, rfl⟩ := Finset.mem_map.mp hs
    exact Finset.mem_erase.mpr ⟨got_ne_bar k, Finset.mem_univ _⟩
  · rw [bigSep_map, ← three_eq]
    refine bigSep_mono fun k _ => ?_
    exact Entails.of_eq (congrArg cred (launch_cred (gotCell c k) credit (sum_got c k)))

/-- What a device holds at launch beside its part in the exchange. -/
def bundle (c : Dev nD) : sProp 𝕄 :=
  iprop(StableHlo.held (c.tc : Thread nD τ) allBufs (V₀ m c) ∗ cred (tallyAt (barCell c) () 3) ∗ three (fun k => cred (tallyAt (gotCell c k) () credit))
    ∗ owes (c : Thread nD τ) (debt c) ∅ ∗ ∃ r, prngReg c r)

theorem first_intro (κ : GSem nD τ sig → ℕ) (c : Dev nD) : iprop(records m κ ∗ (alone c ∗ bundle m c)) ⊢ first m c := by
  unfold bundle first riding kept
  iintro ⟨#HR, Hl, Hh, H1, HG, HO, Hp⟩
  iframe Hh
  isplitl [Hl H1 HG]
  · isplitl [Hl]
    · iapply (ghost_intro m κ c)
      iframe HR Hl
    iframe
  iframe Hp
  iexists ∅; iexact HO

theorem init :
    iprop((bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ aside c)) ∗ levAts L lv)
      ⊢ (|={Set.univ}=> bigSep Finset.univ (first m) : sProp 𝕄) := by
  have hcore (c : Dev nD) : iprop(unscopedBufs c (fun b => m ((c : Thread nD τ).loc b)) ∗ unscopedSems0 c
        ∗ owes (c : Thread nD τ) (debt c) ∅ ∗ Pipeline.launchCred debt c ∗ prngReg c (ρ c) ∗ aside c)
      ⊢ (iprop(bundle m c ∗ (semVal (barCell c) 0 ∗ aside c)) : sProp 𝕄) := by
    rw [show unscopedBufs c (fun b => m ((c : Thread nD τ).loc b)) = StableHlo.held (c.tc : Thread nD τ) allBufs (V₀ m c)
      from Pipeline.unscopedBufs_held c (V₀ m c), unscopedSems_eq]
    unfold bundle
    iintro ⟨Hh, Hus, HO, Hcr, Hp, HG⟩
    ihave Hc := (creds (F := F) c) $$ Hcr
    icases Hc with ⟨H1, HN⟩
    isplitl [Hh H1 HN HO Hp]
    · iframe Hh H1 HN HO
      iexists (ρ c); iexact Hp
    iframe
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos EX g 0 ∅ 0 : sProp 𝕄)) ⊢ bigSep Finset.univ (fun c : Dev nD => (atPos EX (barCell c) 0 ∅ 0 : sProp 𝕄)) :=
    Entails.of_eq (bigSep_map (s := Finset.univ) barEmb (Φ := fun g : GSem nD τ sig => (atPos EX g 0 ∅ 0 : sProp 𝕄)))
  have hopen : bigSep ownCells (fun g => (openTok EX g : sProp 𝕄))
      ⊢ bigSep Finset.univ (fun c : Dev nD => iprop(three (fun k => openTok EX (sentCell c k)) ∗ three (fun k => openTok EX (gotCell c k)))) :=
    Entails.of_eq (own_each fun g => (openTok EX g : sProp 𝕄))
  iintro ⟨H, -⟩
  ihave H' := (show (bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ aside c))
      ⊢ (bigSep Finset.univ fun c : Dev nD => iprop(bundle m c ∗ (semVal (barCell c) 0 ∗ aside c)) : sProp 𝕄) from bigSep_mono fun c _ => hcore c) $$ H
  ihave H2 := split_families $$ H'; icases H2 with ⟨HB, H3⟩
  ihave H4 := split_families $$ H3; icases H4 with ⟨Hv, HG⟩
  ihave Hu := (Entails.of_eq (aside_eq (F := F))) $$ HG
  imod (Rounds.fund_launch EX (plan m) cells_disjoint (fun g _ h => h) duties) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(alone c ∗ bundle m c)) fun c _ => first_intro m κ c)
  isplitr
  · unfold records
    iframe Hinv Hr
  iapply join_families
  isplitr [HB]
  · unfold alone
    iapply join_families; isplitl [Hat]; · iapply hat $$ Hat
    iapply join_families; isplitl [Hopen]; · iapply hopen $$ Hopen
    iapply (duties_dealt (F := F)) $$ Htok
  · iexact HB

/-! ## The run -/

theorem unscoped_bar : ∀ sm : SemLoc sig, sm.isScoped .tc = false → sm = .reg barrier1 := by decide

set_option backward.isDefEq.respectTransparency.types false in
/-- Every execution of the program on the square ends; then the inputs are unchanged, the blocks are written back, the landing buffers filled,
    and every counter is zero. -/
theorem run_main : θ_run defs (onTc (τ := τ) (main (F := F))) ⟨m, fun _ => 0, ρ⟩
    (fun r => (∀ c : Dev nD, (r.2.mem ((c : Thread nD τ).loc main_v1_0) = (dat m c).arrAt 2 cfg0.N
          ∧ r.2.mem ((c : Thread nD τ).loc main_v1_1) = arrived m c)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  Pipeline.θ_run_regions_kit_sems (pcfgs (F := F)) adm (dats m) () cellOf_inj EP defs₀ Variants.none L lv m ρ main (segs m)
    (fun c Q => by rw [main_segs adm (dats m) () Variants.none L lv (host m) (call m) rfl c]; exact BI.Entails.refl _)
    (by simp only [segs, Pipeline.Seg.pipes_host, Pipeline.Seg.pipes_region, Pipeline.Seg.pipes_nil]; decide)
    (O₀ := debt) (hL := L_of_ne) (G := aside) (u₀ := launchElt (F := F))
    (hu₀ := by
      unfold launchElt
      iintro Hu
      ihave H := (ownU_pair _ _) $$ Hu
      icases H with ⟨HP, HX⟩
      imodintro
      iframe HP
      iapply (Entails.of_eq (aside_eq (F := F)).symm); iexact HX)
    (T₀ := first m) (Tₙ := last m)
    (hch := ⟨fun _ => .rfl, call_pre m, call_post m⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_arg2) = V₂ m c main_arg2 ∧ s.mem ((c : Thread nD τ).loc main_arg3) = V₂ m c main_arg3
      ∧ s.mem ((c : Thread nD τ).loc main_v1_0) = V₂ m c main_v1_0
      ∧ s.mem ((c : Thread nD τ).loc main_v1_1) = V₂ m c main_v1_1) ∧ s.sem (barCell c) = 0)
    (hfin := fun c s' => by
      dsimp only [last]; rw [held_each]
      iintro ⟨⟨⟨H0, H1, H2, H3, H4, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        rw [V₂_ne m c _ (by decide) (by decide), V₁_ne m c _ (by decide)] at h0 h1 h2 h3
        rw [V₂_blocks] at h4
        rw [V₂_landing] at h5
        exact ⟨⟨h4, h5⟩, h0, h1, h2, h3⟩,
      sem_eq_zero hs fun c sm hsm => by
        obtain rfl := unscoped_bar sm hsm
        exact (h c).2⟩)

end Cert.Sq

end
-- ==== Proof.SqFrames.lean ====
/- The frame claims of the mixer's square weight gradients: the compiled program, and the program over the extended reals. -/
module

public import proofs.«01_k».proof.Defs
public import proofs.«01_k».proof.Proof.SqRun
public import proofs.«01_k».proof.Proof.Gen.Kernel8

@[expose] public section

noncomputable section

namespace Cert.Sq

open Idealize.ShloMosaic Idealize.SL.Sem

/-- Over the extended reals: the program ends, its inputs unchanged, every counter zero. -/
theorem frame_ideal : Cert.quiescent_Kernel8Ideal := fun m ρ _ =>
  (θ_run (Cert.Kernel8Ideal.defs (F := Ideal)) _ _).mono (fun _ h => ⟨fun c => (h.1 c).2, h.2⟩) (run_main (F := Ideal) m ρ)

/-- The two programs have the same text. -/
theorem same_body : Cert.Kernel8.defs₀ (F := Bits) = Cert.Kernel8Ideal.defs₀ (F := Bits) := by
  unfold Cert.Kernel8.defs₀ Cert.Kernel8Ideal.defs₀
  refine congrArg Defs.onTc (funext fun l => ?_)
  match l with
  | ⟨0, _⟩ => rfl
  | ⟨_ + 1, h⟩ => exact absurd h (Nat.not_lt.2 (Nat.le_add_left _ _))
theorem same_defs : Cert.Kernel8.defs (F := Bits) = Cert.Kernel8Ideal.defs (F := Bits) :=
  congrArg (Pipeline.defs (Cert.Kernel8Ideal.pcfgs (F := Bits))) same_body

/-- Over machine words: the run is the same. -/
theorem frame_kernel : Cert.quiescent_Kernel8 := fun m ρ _ => by
  rw [same_defs]
  exact (θ_run (Cert.Kernel8Ideal.defs (F := Bits)) _ _).mono (fun _ h => ⟨fun c => (h.1 c).2, h.2⟩) (run_main (F := Bits) m ρ)

end Cert.Sq

end
-- ==== Proof.SqKernel.lean ====
/- The mixer's square weight gradients, as the kernel computes them: on each device three matrices, each summed over two blocks of 2048
   tokens in a scratch that the second one writes out; and the half tables it has been sent meanwhile. -/
module

public import proofs.«01_k».proof.Proof.SqRegion
public import Idealize.ShloMosaic.Lib.MatmulPlain
public import Idealize.ShloMosaic.Lib.KernelVsHost
public import Idealize.ShloMosaic.Lib.ValueIdx
public import Idealize.ShloMosaic.Lib.ValueLayout
public import Idealize.ShloMosaic.Lib.WordCmp
public import Idealize.ShloMosaic.Lib.Pointwise.Reduce

@[expose] public section

noncomputable section

namespace Cert.Sq

open Idealize.ShloMosaic hiding ix0 ix1 ix2 ix3 ix4 ix5
open Idealize.ShloMosaic.ValueIdx Idealize.ShloMosaic.TcCoe Cert.Kernel8Ideal Cert.Kernel8Ideal.Gen

/-- The product of a point's two blocks, contracted over their tokens. -/
theorem product_at (a b : FVec Ideal S1x2048x1024 .bf16) (i j : Fin 1024) :
    k0_pay1 (F := Ideal) a b (ix2 i j) = ∑ s : Fin 2048, a (ix3 0 s i) * b (ix3 0 s j) := by
  unfold k0_pay1
  show FloatOps.matmul dot_S2048x1024_S2048x1024_S1024x1024_0_0_1_1_n_n none (shapeCast S2048x1024 a shapeCasts_S1x2048x1024_S2048x1024)
    (shapeCast S2048x1024 b shapeCasts_S1x2048x1024_S2048x1024) (constant S1024x1024 .f32 0x00000000#32) (ix2 i j) = _
  have row (v : FVec Ideal S1x2048x1024 .bf16) (k : Fin 2048) (x : Fin 1024) :
      shapeCast S2048x1024 v shapeCasts_S1x2048x1024_S2048x1024 (ix2 k x) = v (ix3 0 k x) :=
    shapeCast_apply v shapeCasts_S1x2048x1024_S2048x1024 (ix2 k x) (ix3 0 k x) (by
      rw [Shape.rowMajor_val_two, Shape.rowMajor_val_three]; show (0 * 2048 + k.val) * 1024 + x.val = k.val * 1024 + x.val; omega)
  rw [Ideal.matmul_apply, constant_apply, Ideal.ofBits_zero_f32, zero_add,
    ← Equiv.sum_comp (contrEquiv1 dot_S2048x1024_S2048x1024_S1024x1024_0_0_1_1_n_n 2048 rfl rfl).symm]
  refine Finset.sum_congr rfl fun k _ => ?_
  have hk := contrEquiv1_symm_val dot_S2048x1024_S2048x1024_S1024x1024_0_0_1_1_n_n 2048 rfl rfl k
  congr 1
  · refine (congrArg (shapeCast S2048x1024 a shapeCasts_S1x2048x1024_S2048x1024) (?_ : _ = ix2 k i)).trans (row a k i)
    refine funext fun ax => Fin.ext ?_
    match ax with
    | ⟨0, _⟩ => exact hk
    | ⟨1, _⟩ => rfl
  · refine (congrArg (shapeCast S2048x1024 b shapeCasts_S1x2048x1024_S2048x1024) (?_ : _ = ix2 k j)).trans (row b k j)
    refine funext fun ax => Fin.ext ?_
    match ax with
    | ⟨0, _⟩ => exact hk
    | ⟨1, _⟩ => rfl

variable (m : (ℓ : Loc nD τ sig) → Buf (Elt Ideal) ℓ) (c : Dev nD)

/-- The arguments' contents on a device: the mixer's inputs and the gradients behind its square weights at the device's tokens, its
tables, and the landing buffer as the exchange before has left it. -/
abbrev A0 : (⟨3, ![3, 4096, 1024]⟩ : Shape).Idx → EReal := m ((c.tc : Thread nD τ).loc main_arg0)
abbrev A1 : (⟨3, ![3, 4096, 1024]⟩ : Shape).Idx → EReal := m ((c.tc : Thread nD τ).loc main_arg1)
abbrev A2 : (⟨3, ![4, 512, 1408]⟩ : Shape).Idx → EReal := m ((c.tc : Thread nD τ).loc main_arg2)
abbrev A3 : (⟨3, ![3, 512, 1408]⟩ : Shape).Idx → EReal := m ((c.tc : Thread nD τ).loc main_arg3)

/-- Token `s` of block `k` among a device's tokens. -/
def tokenAt (k : Fin 2) (s : Fin 2048) : Fin 4096 := ⟨2048 * k.val + s.val, by omega⟩

/-- The grid point of matrix `w` and token block `k`. -/
def pt (w : Fin 3) (k : Fin 2) : Fin cfg0.N := ⟨2 * w.val + k.val, by have h : cfg0.N = 6 := N_0; omega⟩

theorem index_facts : ∀ (w : Fin 3) (k : Fin 2),
    (win0_0.index (pt w k) 0 = w.val ∧ win0_0.index (pt w k) 1 = k.val ∧ win0_0.index (pt w k) 2 = 0)
    ∧ (win0_1.index (pt w k) 0 = w.val ∧ win0_1.index (pt w k) 1 = k.val ∧ win0_1.index (pt w k) 2 = 0)
    ∧ (win0_2.index (pt w k) 0 = w.val ∧ win0_2.index (pt w k) 1 = 0 ∧ win0_2.index (pt w k) 2 = 0) := by decide +kernel

theorem read0 (w : Fin 3) (k : Fin 2) (s : Fin 2048) (i : Fin 1024) :
    (iblk m c 0 (pt w k) : Vec Ideal S1x2048x1024 .bf16) (ix3 0 s i) = A0 m c (ix3 w (tokenAt k s) i) := by
  obtain ⟨⟨i0, i1, i2⟩, -⟩ := index_facts w k
  unfold iblk
  rw [View.read_apply]
  show V₁ m c main_arg0 _ = _
  rw [V₁_ne m c main_arg0 (by decide)]
  refine congrArg (m ((c.tc : Thread nD τ).loc main_arg0)) (funext fun a => Fin.ext ?_)
  match a with
  | ⟨0, _⟩ => show win0_0.index (pt w k) 0 * 1 + 1 * 0 = w.val; rw [i0]; omega
  | ⟨1, _⟩ => show win0_0.index (pt w k) 1 * 2048 + 1 * s.val = 2048 * k.val + s.val; rw [i1]; omega
  | ⟨2, _⟩ => show win0_0.index (pt w k) 2 * 1024 + 1 * i.val = i.val; rw [i2]; omega

theorem read1 (w : Fin 3) (k : Fin 2) (s : Fin 2048) (j : Fin 1024) :
    (iblk m c 1 (pt w k) : Vec Ideal S1x2048x1024 .bf16) (ix3 0 s j) = A1 m c (ix3 w (tokenAt k s) j) := by
  obtain ⟨-, ⟨i0, i1, i2⟩, -⟩ := index_facts w k
  unfold iblk
  rw [View.read_apply]
  show V₁ m c main_arg1 _ = _
  rw [V₁_ne m c main_arg1 (by decide)]
  refine congrArg (m ((c.tc : Thread nD τ).loc main_arg1)) (funext fun a => Fin.ext ?_)
  match a with
  | ⟨0, _⟩ => show win0_1.index (pt w k) 0 * 1 + 1 * 0 = w.val; rw [i0]; omega
  | ⟨1, _⟩ => show win0_1.index (pt w k) 1 * 2048 + 1 * s.val = 2048 * k.val + s.val; rw [i1]; omega
  | ⟨2, _⟩ => show win0_1.index (pt w k) 2 * 1024 + 1 * j.val = j.val; rw [i2]; omega

/-- The product over the tokens of block `k`, at one element of matrix `w`. -/
def part (w : Fin 3) (k : Fin 2) (i j : Fin 1024) : EReal :=
  ∑ s : Fin 2048, A0 m c (ix3 w (tokenAt k s) i) * A1 m c (ix3 w (tokenAt k s) j)

theorem product_part (w : Fin 3) (k : Fin 2) (i j : Fin 1024) :
    k0_pay1 (F := Ideal) (iblk m c 0 (pt w k)) (iblk m c 1 (pt w k)) (ix2 i j) = part m c w k i j := by
  rw [product_at]
  exact Finset.sum_congr rfl fun s _ => congrArg₂ (· * ·) (read0 m c w k s i) (read1 m c w k s j)

/-- The sum begun at a matrix's first point, and the block written out at its second. -/
theorem begun_at (w : Fin 3) (i j : Fin 1024) : begun m c (pt w 0) (ix2 i j) = part m c w 0 i j := by
  unfold begun k0_pay2
  rw [shapeCast_self]
  exact product_part m c w 0 i j

theorem point_before (w : Fin 3) : point ((pt w 1).val - 1) = pt w 0 := point_val (pt w 0)

theorem total_at (w : Fin 3) (i j : Fin 1024) : total m c (pt w 1) (ix3 0 i j) = part m c w 0 i j + part m c w 1 i j := by
  unfold total
  rw [point_before]
  unfold k0_pay4 k0_pay3
  dsimp only
  rw [shapeCast_apply _ shapeCasts_S1024x1024_S1x1024x1024 (ix3 0 i j) (ix2 i j) (by
    rw [Shape.rowMajor_val_two, Shape.rowMajor_val_three]; show i.val * 1024 + j.val = (0 * 1024 + i.val) * 1024 + j.val; omega),
    truncf_apply, shapeCast_self, addf_apply, product_part]
  exact congrArg (· + _) (begun_at m c w i j)

theorem index2 : ∀ t : Fin cfg0.N, win0_2.index t 0 = t.val / 2 :=
  (by decide +kernel : ∀ t : Fin grid0.N, win0_2.index t 0 = t.val / 2)

/-- Two points that write out write different blocks. -/
theorem disjoint2 : ∀ t t' : Fin cfg0.N, (cfg0.win 2).flush t = true → (cfg0.win 2).flush t' = true → t ≠ t' →
    Disjoint ((cfg0.win 2).blk t).view.set ((cfg0.win 2).blk t').view.set := fun t t' h h' hne =>
  (cfg0.win 2).disjoint_blk fun e => hne (Fin.ext (by
    have a := (flush0_2 t).mp h
    have b := (flush0_2 t').mp h'
    have e' : win0_2.index t 0 = win0_2.index t' 0 := congrFun e 0
    rw [index2, index2] at e'
    omega))

/-- The kernel's gradients on a device. -/
theorem array_at (w : Fin 3) (i j : Fin 1024) :
    ((dat m c).arrAt 2 cfg0.N : (⟨3, ![3, 1024, 1024]⟩ : Shape).Idx → EReal) (ix3 w i j) = part m c w 0 i j + part m c w 1 i j := by
  have h := (dat m c).arrAt_emb_eq_flushed 2 disjoint2 (pt w 1) ((flush0_2 _).mpr (by show (2 * w.val + 1) % 2 = 1; omega)) (ix3 0 i j)
  obtain ⟨i0, i1, i2⟩ := (index_facts w 1).2.2
  have hi : (((cfg0.win 2).blk (pt w 1)).view.emb (ix3 0 i j) : S3x1024x1024.Idx) = ix3 w i j := funext fun a => Fin.ext (by
    match a with
    | ⟨0, _⟩ => show win0_2.index (pt w 1) 0 * 1 + 1 * 0 = w.val; rw [i0]; omega
    | ⟨1, _⟩ => show win0_2.index (pt w 1) 1 * 1024 + 1 * i.val = i.val; rw [i1]; omega
    | ⟨2, _⟩ => show win0_2.index (pt w 1) 2 * 1024 + 1 * j.val = j.val; rw [i2]; omega)
  rw [← hi]
  refine h.trans ?_
  rw [cast_eq]
  exact (congrFun (after_2 m c (pt w 1)) (ix3 0 i j)).trans (total_at m c w i j)

/-- The two blocks of tokens make up a device's tokens. -/
theorem sum_tokens (f : Fin 4096 → EReal) : ∑ s : Fin 4096, f s = (∑ s : Fin 2048, f (tokenAt 0 s)) + ∑ s : Fin 2048, f (tokenAt 1 s) := by
  refine (Fin.sum_univ_add (show Fin (2048 + 2048) → EReal from f)).trans (congrArg₂ (· + ·) ?_ ?_)
  · exact Finset.sum_congr rfl fun s _ => congrArg f (Fin.ext (by show s.val = 2048 * 0 + s.val; omega))
  · exact Finset.sum_congr rfl fun s _ => congrArg f (Fin.ext (by show 2048 + s.val = 2048 * 1 + s.val; omega))

theorem array_sum (w : Fin 3) (i j : Fin 1024) :
    ((dat m c).arrAt 2 cfg0.N : (⟨3, ![3, 1024, 1024]⟩ : Shape).Idx → EReal) (ix3 w i j)
      = ∑ s : Fin 4096, A0 m c (ix3 w s i) * A1 m c (ix3 w s j) :=
  (array_at m c w i j).trans (sum_tokens fun s => A0 m c (ix3 w s i) * A1 m c (ix3 w s j)).symm

/-- A piece and a slot lie alike in their buffers, each at its own offset. -/
theorem piece_slot (e : Dev nD) (k : Fin 3) (x : S256x1408.Idx) (a : Fin 3) :
    ((piece e k).view.emb x a).val + slotOff k a = ((slot k).view.emb x a).val + pieceOff e k a := by
  show (pieceOff e k a + 1 * _) + slotOff k a = (slotOff k a + 1 * _) + pieceOff e k a
  exact (Nat.add_right_comm _ _ _).trans ((congrArg (· + _) (Nat.add_comm _ _)).trans (Nat.add_right_comm _ _ _))

/-- The lower half of slot `k` of a landing buffer holds half the table that peer `k` had for this device; the upper half is kept. -/
theorem arrived_below (k : Fin 3) (a : Fin 512) (b : Fin 1408) (h : 256 ≤ a.val) : arrived m c (ix3 k a b) = A2 m (peer c k) (ix3 c a b) := by
  have hi : (ix3 k a b : S3x512x1408.Idx) ∈ (slot k).view.set := (mem_slot k _).mpr ⟨rfl, h⟩
  obtain ⟨y, -, hy⟩ := Finset.mem_map.mp hi
  have e : arrived m c (ix3 k a b) = landed m c k (ix3 k a b) := if_pos h
  rw [e]
  unfold landed
  rw [← hy, View.write_emb_of_mem _ _ (Finset.mem_univ _), View.read_apply]
  refine (congrFun (V₁_ne m (peer c k) main_arg2 (by decide)) _).trans ?_
  refine congrArg (A2 m (peer c k)) (funext fun ax => Fin.ext ?_)
  have h := piece_slot (peer c k) k y ax
  rw [hy] at h
  match ax with
  | ⟨0, _⟩ => exact Nat.add_left_cancel ((Nat.add_comm _ _).trans (h.trans (congrArg (fun d : Dev nD => k.val + d.val) (peer_peer c k))))
  | ⟨1, _⟩ => exact Nat.add_right_cancel h
  | ⟨2, _⟩ => exact h

theorem arrived_above (k : Fin 3) (a : Fin 512) (b : Fin 1408) (h : ¬ 256 ≤ a.val) : arrived m c (ix3 k a b) = A3 m c (ix3 k a b) :=
  (if_neg h : arrived m c (ix3 k a b) = landing m c _).trans (congrFun (V₁_landing m c) _)

end Cert.Sq

end
-- ==== Proof.SqReference.lean ====
/- The mixer's square weight gradients, as the reference computes them: for each device of the square the derivative of the products
   over that device's tokens; and the landing buffers with the half tables as they come to lie on the devices. -/
module

public import proofs.«01_k».proof.Proof.SqKernel
public import proofs.«01_k».proof.Proof.RefBlocks
public import proofs.«01_k».proof.Proof.Gen.Reference8Ideal.Read

@[expose] public section

noncomputable section

namespace Cert.Sq

open Idealize.ShloMosaic hiding ix0 ix1 ix2 ix3 ix4 ix5
open Idealize.ShloMosaic.ValueIdx Cert.Reference8Ideal Cert.Reference8Ideal.Gen Cert.Reference8Ideal.Read
open Cert.Pool (ext3 ext4)

/-- Token `s` of device `d`; table `n` of device `d` among all tables; matrix, or slot, `k` of device `d` among all of them. -/
def tokenOf (d : Fin 4) (s : Fin 4096) : Fin 16384 := ⟨4096 * d.val + s.val, by omega⟩
def partOf (d n : Fin 4) : Fin 16 := ⟨4 * d.val + n.val, by omega⟩
def slotOf (d : Fin 4) (k : Fin 3) : Fin 12 := ⟨3 * d.val + k.val, by omega⟩

variable (x0 x1 : (⟨3, ![3, 16384, 1024]⟩ : Shape).Idx → EReal)
  (x2 : (⟨3, ![16, 512, 1408]⟩ : Shape).Idx → EReal) (x3 : (⟨3, ![12, 512, 1408]⟩ : Shape).Idx → EReal)

/-- Where the reference finds token `s` of device `d` in matrix `w`. -/
theorem stacked (d : Fin 4) (w : Fin 3) (s : Fin 4096) (i : Fin 1024) :
    idx_main_v3 (ix3 (slotOf d w) s i) = ix4 d w s i := by
  refine ext4 _ _ _ _ _ ?_ ?_ ?_ ?_
  · show (((3 * d.val + w.val) * 4096 + s.val) * 1024 + i.val) / 12582912 = d.val
    omega
  · show (((3 * d.val + w.val) * 4096 + s.val) * 1024 + i.val) / 4194304 % 3 = w.val
    omega
  · show (((3 * d.val + w.val) * 4096 + s.val) * 1024 + i.val) / 1024 % 4096 = s.val
    omega
  · show (((3 * d.val + w.val) * 4096 + s.val) * 1024 + i.val) % 1024 = i.val
    omega

theorem cut (d : Fin 4) (w : Fin 3) (s : Fin 4096) (i : Fin 1024) :
    idx_main_v1 (ix4 w d s i) = ix3 w (tokenOf d s) i := by
  refine ext3 _ _ _ _ ?_ ?_ ?_
  · show (((w.val * 4 + d.val) * 4096 + s.val) * 1024 + i.val) / 16777216 = w.val
    omega
  · show (((w.val * 4 + d.val) * 4096 + s.val) * 1024 + i.val) / 1024 % 16384 = 4096 * d.val + s.val
    omega
  · show (((w.val * 4 + d.val) * 4096 + s.val) * 1024 + i.val) % 1024 = i.val
    omega

theorem v3_at (d : Fin 4) (w : Fin 3) (s : Fin 4096) (i : Fin 1024) :
    val_main_v3 (F := Ideal) x0 (ix3 (slotOf d w) s i) = x0 (ix3 w (tokenOf d s) i) := by
  rw [val_main_v3_apply, stacked, val_main_v2_apply, show idx_main_v2 (ix4 d w s i) = ix4 w d s i from ext4 _ _ _ _ _ rfl rfl rfl rfl,
    val_main_v1_apply, cut, val_main_v0_apply]
  rfl

theorem v7_at (d : Fin 4) (w : Fin 3) (s : Fin 4096) (i : Fin 1024) :
    val_main_v7 (F := Ideal) x1 (ix3 (slotOf d w) s i) = x1 (ix3 w (tokenOf d s) i) := v3_at x1 d w s i

/-- The reference's gradients: entry `i`, `j` of matrix `w`, from device `d`'s tokens. -/
theorem v25_at (d : Fin 4) (w : Fin 3) (i j : Fin 1024) :
    val_main_v25 (F := Ideal) x0 x1 (ix3 (slotOf d w) i j) = ∑ s : Fin 4096, x0 (ix3 w (tokenOf d s) i) * x1 (ix3 w (tokenOf d s) j) := by
  rw [val_main_v25_apply]
  show val_main_v11 (F := Ideal) x0 x1 (ix3 (slotOf d w) i j) = _
  rw [val_main_v11_apply, show idx_main_v11 (ix3 (slotOf d w) i j) = ix3 (slotOf d w) j i from ext3 _ _ _ _ rfl rfl rfl, val_main_v10_apply]
  refine Finset.sum_congr rfl fun s _ => (mul_comm _ _).trans (congrArg₂ (· * ·) ?_ ?_)
  · exact (congrArg (val_main_v3 (F := Ideal) x0) (ext3 _ (slotOf d w) s i rfl rfl rfl)).trans (v3_at x0 d w s i)
  · exact (congrArg (val_main_v7 (F := Ideal) x1) (ext3 _ (slotOf d w) s j rfl rfl rfl)).trans (v7_at x1 d w s j)

/-- The tables as they would come to lie whole: in slot `k` of device `d` the one its peer `k` has for it. -/
theorem v24_at (d : Fin 4) (k : Fin 3) (a : Fin 512) (b : Fin 1408) :
    val_main_v24 (F := Ideal) x2 (ix3 (slotOf d k) a b) = x2 (ix3 (partOf (peer d k) d) a b) := by
  unfold val_main_v24
  refine concatenate_apply_piece (t := S12x512x1408) 0 _ _ _ (slotOf d k).val (by exact (slotOf d k).isLt) S1x512x1408
    (fun i => x2 (ix3 (partOf (peer d k) d) (i 1) (i 2))) ?_ rfl (slotOf d k).val ?_ (ix3 0 a b) (fun ax ha => ?_) (Nat.add_zero _)
  · fin_cases d <;> fin_cases k <;> exact congrArg (Sigma.mk S1x512x1408) (funext fun i => congrArg x2 (ext3 _ _ _ _
      ((congrArg (_ + ·) (Nat.lt_one_iff.mp (show (i 0).val < 1 from (i 0).isLt))).trans rfl) (Nat.zero_add _) (Nat.zero_add _)))
  · fin_cases d <;> fin_cases k <;> rfl
  · match ax, ha with
    | ⟨0, _⟩, ha => exact absurd rfl ha
    | ⟨1, _⟩, _ => rfl
    | ⟨2, _⟩, _ => rfl

/-- The landing buffers: the upper half of each slot as it was, the lower half from the peer's table. -/
theorem v28_above (d : Fin 4) (k : Fin 3) (a : Fin 512) (b : Fin 1408) (h : ¬ 256 ≤ a.val) :
    val_main_v28 (F := Ideal) x2 x3 (ix3 (slotOf d k) a b) = x3 (ix3 (slotOf d k) a b) := by
  unfold val_main_v28
  refine (concatenate_apply_piece (t := S12x512x1408) 1 _ _ _ 0 (by show 0 < 2; decide) S12x256x1408 (val_main_v26 (F := Ideal) x3) rfl rfl 0 rfl
    (ix3 (slotOf d k) ⟨a.val, by omega⟩ b) (fun ax ha => ?_) (Nat.zero_add _)).trans ((val_main_v26_apply (F := Ideal) x3 _).trans
      (congrArg x3 (ext3 _ _ _ _ rfl rfl rfl)))
  match ax, ha with
  | ⟨0, _⟩, _ => rfl
  | ⟨1, _⟩, ha => exact absurd rfl ha
  | ⟨2, _⟩, _ => rfl

theorem v28_below (d : Fin 4) (k : Fin 3) (a : Fin 512) (b : Fin 1408) (h : 256 ≤ a.val) :
    val_main_v28 (F := Ideal) x2 x3 (ix3 (slotOf d k) a b) = x2 (ix3 (partOf (peer d k) d) a b) := by
  unfold val_main_v28
  refine (concatenate_apply_piece (t := S12x512x1408) 1 _ _ _ 1 (by show 1 < 2; decide) S12x256x1408 (val_main_v27 (F := Ideal) x2) rfl rfl 256 rfl
    (ix3 (slotOf d k) ⟨a.val - 256, by omega⟩ b) (fun ax ha => ?_) (by show 256 + (a.val - 256) = a.val; omega)).trans
      ((val_main_v27_apply (F := Ideal) x2 _).trans ((congrArg (val_main_v24 (F := Ideal) x2) (ext3 _ _ _ _ rfl ?_ rfl)).trans (v24_at x2 d k a b)))
  · match ax, ha with
    | ⟨0, _⟩, _ => rfl
    | ⟨1, _⟩, ha => exact absurd rfl ha
    | ⟨2, _⟩, _ => rfl
  · show 256 + (a.val - 256) = a.val
    omega

end Cert.Sq

end
-- ==== Proof.SqClaims.lean ====
/- What is claimed of the mixer's square weight gradients: the reference's run, and on each device of the square the kernel's results as the
   device's part of the reference's, the same extended reals. -/
module

public import proofs.«01_k».proof.Defs
public import proofs.«01_k».proof.Proof.SqRun
public import proofs.«01_k».proof.Proof.SqReference
public import proofs.«01_k».proof.Proof.Gen.Reference8Ideal.Run
public import Idealize.ShloMosaic.Adequacy
public import Idealize.ShloMosaic.Init

@[expose] public section

noncomputable section

namespace Cert.Sq

open Idealize.ShloMosaic hiding ix0 ix1 ix2 ix3 ix4 ix5
open Idealize.ShloMosaic.ValueIdx Idealize.SL.Sem
open Cert.Pool (ext3)

section Reference

open Cert.Reference8Ideal Cert.Reference8Ideal.Read

/-- What the reference leaves in its result arrays, named stage by stage. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = val_main_v25 (F := Ideal) (m ((c.tc : Thread nD τ).loc main_arg0))
          (m ((c.tc : Thread nD τ).loc main_arg1))
      ∧ r.2.mem ((c.tc : Thread nD τ).loc main_v28) = val_main_v28 (F := Ideal) (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v25_eq _ _), (h c).2.1.trans (val_main_v28_eq _ _), (h c).2.2⟩)
    (Value.run (F := Ideal) m ρ)

end Reference

/-- The reference runs, its arguments stay and its counters end at zero. -/
theorem frame_reference : Cert.quiescent_Reference8Ideal := fun m ρ _ =>
  (θ_run Cert.Reference8Ideal.defs _ _).mono (fun r h => ⟨fun c => (h c).2.2, sem_eq_zero_of_no_sems (by decide) r.2⟩) (reference_run m ρ)

/-! ## A device's part of an array: its tokens of the inputs and of the gradients, its tables, its matrices, its slots -/

section Parts

theorem place : ∀ d : Fin 4, Layout.meshLin [2, 2, 1] d.val [0, 1] = d.val := by decide

variable (d : Fin 4)

theorem planes_part (v : (⟨3, ![3, 16384, 1024]⟩ : Shape).Idx → EReal) (w : Fin 3) (s : Fin 4096) (j : Fin 1024) :
    Layout.blockN ⟨3, ![3, 4096, 1024]⟩ ⟨3, ![3, 16384, 1024]⟩ (Layout.meshBlock [2, 2, 1] ![[], [0, 1], []] d) v (by decide) (ix3 w s j)
      = v (ix3 w (tokenOf d s) j) := by
  rw [Layout.blockN_apply]
  refine congrArg v (ext3 _ _ _ _ ?_ ?_ ?_)
  · show 0 * 3 + w.val = w.val
    omega
  · show Layout.meshLin [2, 2, 1] d.val [0, 1] * 4096 + s.val = 4096 * d.val + s.val
    rw [place]; omega
  · show 0 * 1024 + j.val = j.val
    omega

theorem tables_part (v : (⟨3, ![16, 512, 1408]⟩ : Shape).Idx → EReal) (n : Fin 4) (a : Fin 512) (b : Fin 1408) :
    Layout.blockN ⟨3, ![4, 512, 1408]⟩ ⟨3, ![16, 512, 1408]⟩ (Layout.meshBlock [2, 2, 1] ![[0, 1], [], []] d) v (by decide) (ix3 n a b)
      = v (ix3 (partOf d n) a b) := by
  rw [Layout.blockN_apply]
  refine congrArg v (ext3 _ _ _ _ ?_ ?_ ?_)
  · show Layout.meshLin [2, 2, 1] d.val [0, 1] * 4 + n.val = 4 * d.val + n.val
    rw [place]; omega
  · show 0 * 512 + a.val = a.val
    omega
  · show 0 * 1408 + b.val = b.val
    omega

theorem matrices_part (v : (⟨3, ![12, 1024, 1024]⟩ : Shape).Idx → EReal) (w : Fin 3) (i j : Fin 1024) :
    Layout.blockN ⟨3, ![3, 1024, 1024]⟩ ⟨3, ![12, 1024, 1024]⟩ (Layout.meshBlock [2, 2, 1] ![[0, 1], [], []] d) v (by decide) (ix3 w i j)
      = v (ix3 (slotOf d w) i j) := by
  rw [Layout.blockN_apply]
  refine congrArg v (ext3 _ _ _ _ ?_ ?_ ?_)
  · show Layout.meshLin [2, 2, 1] d.val [0, 1] * 3 + w.val = 3 * d.val + w.val
    rw [place]; omega
  · show 0 * 1024 + i.val = i.val
    omega
  · show 0 * 1024 + j.val = j.val
    omega

theorem slots_part (v : (⟨3, ![12, 512, 1408]⟩ : Shape).Idx → EReal) (k : Fin 3) (a : Fin 512) (b : Fin 1408) :
    Layout.blockN ⟨3, ![3, 512, 1408]⟩ ⟨3, ![12, 512, 1408]⟩ (Layout.meshBlock [2, 2, 1] ![[0, 1], [], []] d) v (by decide) (ix3 k a b)
      = v (ix3 (slotOf d k) a b) := by
  rw [Layout.blockN_apply]
  refine congrArg v (ext3 _ _ _ _ ?_ ?_ ?_)
  · show Layout.meshLin [2, 2, 1] d.val [0, 1] * 3 + k.val = 3 * d.val + k.val
    rw [place]; omega
  · show 0 * 512 + a.val = a.val
    omega
  · show 0 * 1408 + b.val = b.val
    omega

end Parts

/-! ## The equation -/

section Equation

open Cert.Kernel8Ideal

variable (m : (ℓ : Loc nD τ sig) → Buf (Elt Ideal) ℓ)
  (x0 x1 : (⟨3, ![3, 16384, 1024]⟩ : Shape).Idx → EReal)
  (x2 : (⟨3, ![16, 512, 1408]⟩ : Shape).Idx → EReal) (x3 : (⟨3, ![12, 512, 1408]⟩ : Shape).Idx → EReal)

/-- A device's gradients are its part of the reference's. -/
theorem gradient_eq (c : Dev nD)
    (h0 : A0 m c = Layout.blockN ⟨3, ![3, 4096, 1024]⟩ ⟨3, ![3, 16384, 1024]⟩ (Layout.meshBlock [2, 2, 1] ![[], [0, 1], []] c) x0 (by decide))
    (h1 : A1 m c = Layout.blockN ⟨3, ![3, 4096, 1024]⟩ ⟨3, ![3, 16384, 1024]⟩ (Layout.meshBlock [2, 2, 1] ![[], [0, 1], []] c) x1 (by decide)) :
    ((dat m c).arrAt 2 cfg0.N : (⟨3, ![3, 1024, 1024]⟩ : Shape).Idx → EReal)
      = Layout.blockN ⟨3, ![3, 1024, 1024]⟩ ⟨3, ![12, 1024, 1024]⟩ (Layout.meshBlock [2, 2, 1] ![[0, 1], [], []] c)
          (Cert.Reference8Ideal.Read.val_main_v25 (F := Ideal) x0 x1) (by decide) := by
  funext k
  obtain ⟨w, i, j, rfl⟩ : ∃ (w : Fin 3) (i j : Fin 1024), k = ix3 w i j := ⟨_, _, _, ValueIdx.eq_ix3 k⟩
  rw [matrices_part]
  have e : (∑ s : Fin 4096, A0 m c (ix3 w s i) * A1 m c (ix3 w s j)) = ∑ s : Fin 4096, x0 (ix3 w (tokenOf c s) i) * x1 (ix3 w (tokenOf c s) j) := by
    refine Finset.sum_congr rfl fun s _ => congrArg₂ (· * ·) ?_ ?_
    · rw [h0]; exact planes_part c x0 w s i
    · rw [h1]; exact planes_part c x1 w s j
  exact (array_sum m c w i j).trans (e.trans (v25_at x0 x1 c w i j).symm)

/-- A device's landing buffer is its part of the reference's. -/
theorem tables_eq (c : Dev nD)
    (h2 : ∀ c : Dev nD, A2 m c = Layout.blockN ⟨3, ![4, 512, 1408]⟩ ⟨3, ![16, 512, 1408]⟩
      (Layout.meshBlock [2, 2, 1] ![[0, 1], [], []] c) x2 (by decide))
    (h3 : A3 m c = Layout.blockN ⟨3, ![3, 512, 1408]⟩ ⟨3, ![12, 512, 1408]⟩ (Layout.meshBlock [2, 2, 1] ![[0, 1], [], []] c) x3 (by decide)) :
    (arrived m c : (⟨3, ![3, 512, 1408]⟩ : Shape).Idx → EReal)
      = Layout.blockN ⟨3, ![3, 512, 1408]⟩ ⟨3, ![12, 512, 1408]⟩ (Layout.meshBlock [2, 2, 1] ![[0, 1], [], []] c)
          (Cert.Reference8Ideal.Read.val_main_v28 (F := Ideal) x2 x3) (by decide) := by
  funext i
  obtain ⟨k, a, b, rfl⟩ : ∃ (k : Fin 3) (a : Fin 512) (b : Fin 1408), i = ix3 k a b := ⟨_, _, _, ValueIdx.eq_ix3 i⟩
  rw [slots_part]
  by_cases h : 256 ≤ a.val
  · refine (arrived_below m c k a b h).trans (Eq.trans ?_ (v28_below x2 x3 c k a b h).symm)
    rw [h2]
    exact tables_part (peer c k) x2 c a b
  · refine (arrived_above m c k a b h).trans (Eq.trans ?_ (v28_above x2 x3 c k a b h).symm)
    rw [h3]
    exact slots_part c x3 k a b

end Equation

/-- The kernel's results on each device and the device's part of the reference's are the same extended reals. -/
theorem algebraic : Cert.algebraic_Kernel8Ideal_Reference8Ideal := fun m g m' g' _ hargs =>
  ⟨_, _,
    (θ_run (Cert.Kernel8Ideal.defs (F := Ideal)) _ _).mono (fun r h c =>
        ⟨(h.1 c).1.1.trans (gradient_eq m _ _ c (hargs c).1 (hargs c).2.1),
          (h.1 c).1.2.trans (tables_eq m _ _ c (fun d => (hargs d).2.2.1) (hargs c).2.2.2), (h.1 c).2⟩)
      (run_main (F := Ideal) m g),
    (θ_run (Cert.Reference8Ideal.defs (F := Ideal)) _ _).mono (fun r h => h 0) (reference_run m' g')⟩

end Cert.Sq

end
-- ==== Proof.lean ====
/- The backward pass of the causal multi-scale average pooling, as the kernel computes it block by block, against the derivative of the
   pooling written out plainly. Window and Ops hold the arithmetic of windows and running sums; Payloads and the Cases modules say what one
   grid point computes, Outs and Arrays what the result arrays hold; the Ref modules read the reference; PreFinite reads the
   precondition; Equation joins the two sides. The Down modules prove the gradient of w_down, the Loss modules the
   down projection with the loss head, the Up modules the gradient of w_up with the exchange it hosts: UpProtocol, UpBody, UpRegion and UpRun
   the run of the pair of devices, UpKernel, UpReference and UpClaims its values. The Dx modules prove the gradient of the rows in front of the FFN, with the exchange
   hosted there: DxProtocol, DxExchange, DxBody, DxPoint, DxRegion, DxCall, DxRun and DxFrames the run of the pair, DxKernel, DxArrays,
   DxReference and DxClaims its values. The Win modules prove the gradient of w_in, with the exchange among four devices hosted there: WinProtocol,
   WinExchange, WinPoint, WinRegion, WinCall, WinRun and WinFrames the run of the square, WinKernel, WinReference and WinClaims its values. The Da
   modules prove the gradient of the FFN's activations, with the exchange of a pair hosted there, in modules of the same names. The Sq modules
   prove the gradients of the mixer's three square weights, with an exchange among four devices, in modules named like Win's. Families deals
   resources out to the devices of all five exchanges. Here the claims are put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Equation
public import proofs.«01_k».proof.Proof.DownClaims
public import proofs.«01_k».proof.Proof.LossClaims
public import proofs.«01_k».proof.Proof.UpFrames
public import proofs.«01_k».proof.Proof.UpClaims
public import proofs.«01_k».proof.Proof.DxFrames
public import proofs.«01_k».proof.Proof.DxClaims
public import proofs.«01_k».proof.Proof.WinFrames
public import proofs.«01_k».proof.Proof.WinClaims
public import proofs.«01_k».proof.Proof.DaFrames
public import proofs.«01_k».proof.Proof.DaClaims
public import proofs.«01_k».proof.Proof.SqFrames
public import proofs.«01_k».proof.Proof.SqClaims
public import Idealize.ShloMosaic.Adequacy
public import Idealize.ShloMosaic.Init

@[expose] public section

noncomputable section

namespace Cert.Proof

open Idealize.ShloMosaic Idealize.SL.Sem

section Reference

open Cert.ReferenceIdeal Cert.ReferenceIdeal.Read

/-- What the reference leaves in its result arrays, named stage by stage. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v152) = val_main_v152 (F := Ideal) (m ((c.tc : Thread nD τ).loc main_arg0))
          (m ((c.tc : Thread nD τ).loc main_arg1)) (m ((c.tc : Thread nD τ).loc main_arg3)) (m ((c.tc : Thread nD τ).loc main_arg4))
      ∧ r.2.mem ((c.tc : Thread nD τ).loc main_v89) = val_main_v89 (F := Ideal) (m ((c.tc : Thread nD τ).loc main_arg1))
          (m ((c.tc : Thread nD τ).loc main_arg2)) (m ((c.tc : Thread nD τ).loc main_arg4))
      ∧ r.2.mem ((c.tc : Thread nD τ).loc main_v153) = val_main_v153 (F := Ideal) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v152_eq _), (h c).2.1.trans (val_main_v89_eq _),
    (h c).2.2.1.trans (val_main_v153_eq _), (h c).2.2.2⟩) (Value.run (F := Ideal) m ρ)

end Reference

/-- The reference runs, its arguments stay and its counters end at zero. -/
theorem frame_reference : Cert.quiescent_ReferenceIdeal := fun m ρ _ =>
  (θ_run Cert.ReferenceIdeal.defs _ _).mono (fun r h => ⟨fun c => (h c).2.2.2, sem_eq_zero_of_no_sems (by decide) r.2⟩) (reference_run m ρ)

/-- On real arguments the kernel's three results and the reference's are the same extended reals. -/
theorem algebraic : Cert.algebraic_KernelIdeal_ReferenceIdeal_pre_finite := by
  pair_intro
  · run_from Cert.KernelIdeal.Value.run_blocks m g
  · run_from reference_run m' g'
    · exact (Cert.Pool.rows_eq m c (Cert.Pool.pre_grad (hpre c).1) (Cert.Pool.pre_weights (hpre c).2.2.1)
        (Cert.Pool.pre_scales (hpre c).2.2.2)).symm
    · exact (Cert.Pool.weights_eq m c (Cert.Pool.pre_rows (hpre c).2.1)).symm
    · exact (Cert.Pool.scales_eq m c (Cert.Pool.pre_rows (hpre c).2.1)).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts, Cert.Kernel4Ideal.Gen.facts,
    Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Pre_finite.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    Cert.Up.frame_kernel, Cert.Up.frame_ideal, Cert.Up.frame_reference,
    fun m ρ _ => Cert.Kernel3.Gen.frame m ρ, fun m ρ _ => Cert.Kernel3Ideal.Gen.frame m ρ, Cert.Down.frame_reference,
    fun m ρ _ => Cert.Kernel4.Gen.frame m ρ, fun m ρ _ => Cert.Kernel4Ideal.Gen.frame m ρ, Cert.Loss.frame_reference,
    Cert.Dx.frame_kernel, Cert.Dx.frame_ideal, Cert.Dx.frame_reference,
    Cert.Win.frame_kernel, Cert.Win.frame_ideal, Cert.Win.frame_reference,
    Cert.Da.frame_kernel, Cert.Da.frame_ideal, Cert.Da.frame_reference,
    Cert.Sq.frame_kernel, Cert.Sq.frame_ideal, Cert.Sq.frame_reference,
    trivial, algebraic, trivial, Cert.Up.algebraic, trivial, Cert.Down.algebraic, trivial, Cert.Loss.algebraic,
    trivial, Cert.Dx.algebraic, trivial, Cert.Win.algebraic, trivial, Cert.Da.algebraic,
    trivial, Cert.Sq.algebraic⟩

end Cert.Proof

end
